-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_RGateIdeal (m : (ℓ : Loc Cert.RGateIdeal.nD Cert.RGateIdeal.τ Cert.RGateIdeal.sig) → Buf (Elt Ideal) ℓ) : Prop :=
  True

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_all_finite [hPre_all_finite : Cert.Pre_all_finite.Facts] (m : (ℓ : Loc Cert.FfnIdeal.nD Cert.FfnIdeal.τ Cert.FfnIdeal.sig) → Buf (Elt Ideal) ℓ) : Prop :=
  ∀ c : Dev Cert.FfnIdeal.nD,
    (Cert.Pre_all_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))) = (fun _ => 1#1)

def Pre_RFfnIdeal (m : (ℓ : Loc Cert.RFfnIdeal.nD Cert.RFfnIdeal.τ Cert.RFfnIdeal.sig) → Buf (Elt Ideal) ℓ) : Prop :=
  True

def Pre_RFfnIdeal_all_finite [hPre_all_finite : Cert.Pre_all_finite.Facts] (m : (ℓ : Loc Cert.RFfnIdeal.nD Cert.RFfnIdeal.τ Cert.RFfnIdeal.sig) → Buf (Elt Ideal) ℓ) : Prop :=
  ∀ c : Dev Cert.RFfnIdeal.nD,
    (Cert.Pre_all_finite.fn (F := Ideal) (m ((c.tc : Thread Cert.RFfnIdeal.nD Cert.RFfnIdeal.τ).loc Cert.RFfnIdeal.main_arg0)) (m ((c.tc : Thread Cert.RFfnIdeal.nD Cert.RFfnIdeal.τ).loc Cert.RFfnIdeal.main_arg1)) (m ((c.tc : Thread Cert.RFfnIdeal.nD Cert.RFfnIdeal.τ).loc Cert.RFfnIdeal.main_arg2)) (m ((c.tc : Thread Cert.RFfnIdeal.nD Cert.RFfnIdeal.τ).loc Cert.RFfnIdeal.main_arg3)) (m ((c.tc : Thread Cert.RFfnIdeal.nD Cert.RFfnIdeal.τ).loc Cert.RFfnIdeal.main_arg4)) (m ((c.tc : Thread Cert.RFfnIdeal.nD Cert.RFfnIdeal.τ).loc Cert.RFfnIdeal.main_arg5)) (m ((c.tc : Thread Cert.RFfnIdeal.nD Cert.RFfnIdeal.τ).loc Cert.RFfnIdeal.main_arg6)) (m ((c.tc : Thread Cert.RFfnIdeal.nD Cert.RFfnIdeal.τ).loc Cert.RFfnIdeal.main_arg7)) (m ((c.tc : Thread Cert.RFfnIdeal.nD Cert.RFfnIdeal.τ).loc Cert.RFfnIdeal.main_arg8))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_RProjBIdeal (m : (ℓ : Loc Cert.RProjBIdeal.nD Cert.RProjBIdeal.τ Cert.RProjBIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_RMixFIdeal (m : (ℓ : Loc Cert.RMixFIdeal.nD Cert.RMixFIdeal.τ Cert.RMixFIdeal.sig) → Buf (Elt Ideal) ℓ) : Prop :=
  True

def Pre_MixB (m : (ℓ : Loc Cert.MixB.nD Cert.MixB.τ Cert.MixB.sig) → Buf (Elt Bits) ℓ) : Prop :=
  True

def Pre_MixBIdeal (m : (ℓ : Loc Cert.MixBIdeal.nD Cert.MixBIdeal.τ Cert.MixBIdeal.sig) → Buf (Elt Ideal) ℓ) : Prop :=
  True

def Pre_RMixBIdeal (m : (ℓ : Loc Cert.RMixBIdeal.nD Cert.RMixBIdeal.τ Cert.RMixBIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_RProjFIdeal (m : (ℓ : Loc Cert.RProjFIdeal.nD Cert.RProjFIdeal.τ Cert.RProjFIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RAdamInIdeal (m : (ℓ : Loc Cert.RAdamInIdeal.nD Cert.RAdamInIdeal.τ Cert.RAdamInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RAdamOutIdeal (m : (ℓ : Loc Cert.RAdamOutIdeal.nD Cert.RAdamOutIdeal.τ Cert.RAdamOutIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_RAdamGateIdeal (m : (ℓ : Loc Cert.RAdamGateIdeal.nD Cert.RAdamGateIdeal.τ Cert.RAdamGateIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RAdamUpIdeal (m : (ℓ : Loc Cert.RAdamUpIdeal.nD Cert.RAdamUpIdeal.τ Cert.RAdamUpIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RAdamDownIdeal (m : (ℓ : Loc Cert.RAdamDownIdeal.nD Cert.RAdamDownIdeal.τ Cert.RAdamDownIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RAdamSmallIdeal (m : (ℓ : Loc Cert.RAdamSmallIdeal.nD Cert.RAdamSmallIdeal.τ Cert.RAdamSmallIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_RSumInIdeal (m : (ℓ : Loc Cert.RSumInIdeal.nD Cert.RSumInIdeal.τ Cert.RSumInIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_RSumOutIdeal (m : (ℓ : Loc Cert.RSumOutIdeal.nD Cert.RSumOutIdeal.τ Cert.RSumOutIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_RSumGateIdeal (m : (ℓ : Loc Cert.RSumGateIdeal.nD Cert.RSumGateIdeal.τ Cert.RSumGateIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_RSumUpIdeal (m : (ℓ : Loc Cert.RSumUpIdeal.nD Cert.RSumUpIdeal.τ Cert.RSumUpIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_RSumDownIdeal (m : (ℓ : Loc Cert.RSumDownIdeal.nD Cert.RSumDownIdeal.τ Cert.RSumDownIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_RSumSmallIdeal (m : (ℓ : Loc Cert.RSumSmallIdeal.nD Cert.RSumSmallIdeal.τ Cert.RSumSmallIdeal.sig) → Buf (Elt Ideal) ℓ) : Prop :=
  True

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_RDProjIdeal (m : (ℓ : Loc Cert.RDProjIdeal.nD Cert.RDProjIdeal.τ Cert.RDProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ r.2.sem = fun _ => 0)

def quiescent_RGateIdeal [hRGateIdeal : Cert.RGateIdeal.Facts] : Prop :=
  ∀ (m : (ℓ : Loc Cert.RGateIdeal.nD Cert.RGateIdeal.τ Cert.RGateIdeal.sig) → Buf (Elt Ideal) ℓ) (g : Dev Cert.RGateIdeal.nD → PrngReg), Pre_RGateIdeal m →
    θ_run (Cert.RGateIdeal.defs (F := Ideal)) (onTc (τ := Cert.RGateIdeal.τ) (Cert.RGateIdeal.main (F := Ideal))) ⟨m, fun _ => 0, g⟩ (fun r => (∀ c : Dev Cert.RGateIdeal.nD,
      r.2.mem ((c.tc : Thread Cert.RGateIdeal.nD Cert.RGateIdeal.τ).loc Cert.RGateIdeal.main_arg0) = m ((c.tc : Thread Cert.RGateIdeal.nD Cert.RGateIdeal.τ).loc Cert.RGateIdeal.main_arg0)
      ∧ r.2.mem ((c.tc : Thread Cert.RGateIdeal.nD Cert.RGateIdeal.τ).loc Cert.RGateIdeal.main_arg1) = m ((c.tc : Thread Cert.RGateIdeal.nD Cert.RGateIdeal.τ).loc Cert.RGateIdeal.main_arg1))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnIdeal_pre_all_finite [hFfnIdeal : Cert.FfnIdeal.Facts] [hPre_all_finite : Cert.Pre_all_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_all_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5)
      ∧ r.2.mem ((c.tc : Thread Cert.RFfnIdeal.nD Cert.RFfnIdeal.τ).loc Cert.RFfnIdeal.main_arg6) = m ((c.tc : Thread Cert.RFfnIdeal.nD Cert.RFfnIdeal.τ).loc Cert.RFfnIdeal.main_arg6)
      ∧ r.2.mem ((c.tc : Thread Cert.RFfnIdeal.nD Cert.RFfnIdeal.τ).loc Cert.RFfnIdeal.main_arg7) = m ((c.tc : Thread Cert.RFfnIdeal.nD Cert.RFfnIdeal.τ).loc Cert.RFfnIdeal.main_arg7)
      ∧ r.2.mem ((c.tc : Thread Cert.RFfnIdeal.nD Cert.RFfnIdeal.τ).loc Cert.RFfnIdeal.main_arg8) = m ((c.tc : Thread Cert.RFfnIdeal.nD Cert.RFfnIdeal.τ).loc Cert.RFfnIdeal.main_arg8))
      ∧ r.2.sem = fun _ => 0)

def quiescent_RFfnIdeal_pre_all_finite [hRFfnIdeal : Cert.RFfnIdeal.Facts] [hPre_all_finite : Cert.Pre_all_finite.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal_all_finite m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4)
      ∧ r.2.mem ((c.tc : Thread Cert.RFfnIdeal.nD Cert.RFfnIdeal.τ).loc Cert.RFfnIdeal.main_arg5) = m ((c.tc : Thread Cert.RFfnIdeal.nD Cert.RFfnIdeal.τ).loc Cert.RFfnIdeal.main_arg5)
      ∧ r.2.mem ((c.tc : Thread Cert.RFfnIdeal.nD Cert.RFfnIdeal.τ).loc Cert.RFfnIdeal.main_arg6) = m ((c.tc : Thread Cert.RFfnIdeal.nD Cert.RFfnIdeal.τ).loc Cert.RFfnIdeal.main_arg6)
      ∧ r.2.mem ((c.tc : Thread Cert.RFfnIdeal.nD Cert.RFfnIdeal.τ).loc Cert.RFfnIdeal.main_arg7) = m ((c.tc : Thread Cert.RFfnIdeal.nD Cert.RFfnIdeal.τ).loc Cert.RFfnIdeal.main_arg7)
      ∧ r.2.mem ((c.tc : Thread Cert.RFfnIdeal.nD Cert.RFfnIdeal.τ).loc Cert.RFfnIdeal.main_arg8) = m ((c.tc : Thread Cert.RFfnIdeal.nD Cert.RFfnIdeal.τ).loc Cert.RFfnIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ r.2.sem = fun _ => 0)

def quiescent_RProjBIdeal [hRProjBIdeal : Cert.RProjBIdeal.Facts] : Prop :=
  ∀ (m : (ℓ : Loc Cert.RProjBIdeal.nD Cert.RProjBIdeal.τ Cert.RProjBIdeal.sig) → Buf (Elt Ideal) ℓ) (g : Dev Cert.RProjBIdeal.nD → PrngReg), Pre_RProjBIdeal m →
    θ_run (Cert.RProjBIdeal.defs (F := Ideal)) (onTc (τ := Cert.RProjBIdeal.τ) (Cert.RProjBIdeal.main (F := Ideal))) ⟨m, fun _ => 0, g⟩ (fun r => (∀ c : Dev Cert.RProjBIdeal.nD,
      r.2.mem ((c.tc : Thread Cert.RProjBIdeal.nD Cert.RProjBIdeal.τ).loc Cert.RProjBIdeal.main_arg0) = m ((c.tc : Thread Cert.RProjBIdeal.nD Cert.RProjBIdeal.τ).loc Cert.RProjBIdeal.main_arg0)
      ∧ r.2.mem ((c.tc : Thread Cert.RProjBIdeal.nD Cert.RProjBIdeal.τ).loc Cert.RProjBIdeal.main_arg1) = m ((c.tc : Thread Cert.RProjBIdeal.nD Cert.RProjBIdeal.τ).loc Cert.RProjBIdeal.main_arg1)
      ∧ r.2.mem ((c.tc : Thread Cert.RProjBIdeal.nD Cert.RProjBIdeal.τ).loc Cert.RProjBIdeal.main_arg2) = m ((c.tc : Thread Cert.RProjBIdeal.nD Cert.RProjBIdeal.τ).loc Cert.RProjBIdeal.main_arg2)
      ∧ r.2.mem ((c.tc : Thread Cert.RProjBIdeal.nD Cert.RProjBIdeal.τ).loc Cert.RProjBIdeal.main_arg3) = m ((c.tc : Thread Cert.RProjBIdeal.nD Cert.RProjBIdeal.τ).loc Cert.RProjBIdeal.main_arg3)
      ∧ r.2.mem ((c.tc : Thread Cert.RProjBIdeal.nD Cert.RProjBIdeal.τ).loc Cert.RProjBIdeal.main_arg4) = m ((c.tc : Thread Cert.RProjBIdeal.nD Cert.RProjBIdeal.τ).loc Cert.RProjBIdeal.main_arg4))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ r.2.sem = fun _ => 0)

def quiescent_RMixFIdeal [hRMixFIdeal : Cert.RMixFIdeal.Facts] : Prop :=
  ∀ (m : (ℓ : Loc Cert.RMixFIdeal.nD Cert.RMixFIdeal.τ Cert.RMixFIdeal.sig) → Buf (Elt Ideal) ℓ) (g : Dev Cert.RMixFIdeal.nD → PrngReg), Pre_RMixFIdeal m →
    θ_run (Cert.RMixFIdeal.defs (F := Ideal)) (onTc (τ := Cert.RMixFIdeal.τ) (Cert.RMixFIdeal.main (F := Ideal))) ⟨m, fun _ => 0, g⟩ (fun r => (∀ c : Dev Cert.RMixFIdeal.nD,
      r.2.mem ((c.tc : Thread Cert.RMixFIdeal.nD Cert.RMixFIdeal.τ).loc Cert.RMixFIdeal.main_arg0) = m ((c.tc : Thread Cert.RMixFIdeal.nD Cert.RMixFIdeal.τ).loc Cert.RMixFIdeal.main_arg0)
      ∧ r.2.mem ((c.tc : Thread Cert.RMixFIdeal.nD Cert.RMixFIdeal.τ).loc Cert.RMixFIdeal.main_arg1) = m ((c.tc : Thread Cert.RMixFIdeal.nD Cert.RMixFIdeal.τ).loc Cert.RMixFIdeal.main_arg1)
      ∧ r.2.mem ((c.tc : Thread Cert.RMixFIdeal.nD Cert.RMixFIdeal.τ).loc Cert.RMixFIdeal.main_arg2) = m ((c.tc : Thread Cert.RMixFIdeal.nD Cert.RMixFIdeal.τ).loc Cert.RMixFIdeal.main_arg2)
      ∧ r.2.mem ((c.tc : Thread Cert.RMixFIdeal.nD Cert.RMixFIdeal.τ).loc Cert.RMixFIdeal.main_arg3) = m ((c.tc : Thread Cert.RMixFIdeal.nD Cert.RMixFIdeal.τ).loc Cert.RMixFIdeal.main_arg3)
      ∧ r.2.mem ((c.tc : Thread Cert.RMixFIdeal.nD Cert.RMixFIdeal.τ).loc Cert.RMixFIdeal.main_arg4) = m ((c.tc : Thread Cert.RMixFIdeal.nD Cert.RMixFIdeal.τ).loc Cert.RMixFIdeal.main_arg4)
      ∧ r.2.mem ((c.tc : Thread Cert.RMixFIdeal.nD Cert.RMixFIdeal.τ).loc Cert.RMixFIdeal.main_arg5) = m ((c.tc : Thread Cert.RMixFIdeal.nD Cert.RMixFIdeal.τ).loc Cert.RMixFIdeal.main_arg5))
      ∧ r.2.sem = fun _ => 0)

def quiescent_MixB [hMixB : Cert.MixB.Facts] : Prop :=
  ∀ (m : (ℓ : Loc Cert.MixB.nD Cert.MixB.τ Cert.MixB.sig) → Buf (Elt Bits) ℓ) (g : Dev Cert.MixB.nD → PrngReg), Pre_MixB m →
    θ_run (Cert.MixB.defs (F := Bits)) (onTc (τ := Cert.MixB.τ) (Cert.MixB.main (F := Bits))) ⟨m, fun _ => 0, g⟩ (fun r => (∀ c : Dev Cert.MixB.nD,
      r.2.mem ((c.tc : Thread Cert.MixB.nD Cert.MixB.τ).loc Cert.MixB.main_arg0) = m ((c.tc : Thread Cert.MixB.nD Cert.MixB.τ).loc Cert.MixB.main_arg0)
      ∧ r.2.mem ((c.tc : Thread Cert.MixB.nD Cert.MixB.τ).loc Cert.MixB.main_arg1) = m ((c.tc : Thread Cert.MixB.nD Cert.MixB.τ).loc Cert.MixB.main_arg1)
      ∧ r.2.mem ((c.tc : Thread Cert.MixB.nD Cert.MixB.τ).loc Cert.MixB.main_arg2) = m ((c.tc : Thread Cert.MixB.nD Cert.MixB.τ).loc Cert.MixB.main_arg2))
      ∧ r.2.sem = fun _ => 0)

def quiescent_MixBIdeal [hMixBIdeal : Cert.MixBIdeal.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2))
      ∧ r.2.sem = fun _ => 0)

def quiescent_RMixBIdeal [hRMixBIdeal : Cert.RMixBIdeal.Facts] : Prop :=
  ∀ (m : (ℓ : Loc Cert.RMixBIdeal.nD Cert.RMixBIdeal.τ Cert.RMixBIdeal.sig) → Buf (Elt Ideal) ℓ) (g : Dev Cert.RMixBIdeal.nD → PrngReg), Pre_RMixBIdeal m →
    θ_run (Cert.RMixBIdeal.defs (F := Ideal)) (onTc (τ := Cert.RMixBIdeal.τ) (Cert.RMixBIdeal.main (F := Ideal))) ⟨m, fun _ => 0, g⟩ (fun r => (∀ c : Dev Cert.RMixBIdeal.nD,
      r.2.mem ((c.tc : Thread Cert.RMixBIdeal.nD Cert.RMixBIdeal.τ).loc Cert.RMixBIdeal.main_arg0) = m ((c.tc : Thread Cert.RMixBIdeal.nD Cert.RMixBIdeal.τ).loc Cert.RMixBIdeal.main_arg0)
      ∧ r.2.mem ((c.tc : Thread Cert.RMixBIdeal.nD Cert.RMixBIdeal.τ).loc Cert.RMixBIdeal.main_arg1) = m ((c.tc : Thread Cert.RMixBIdeal.nD Cert.RMixBIdeal.τ).loc Cert.RMixBIdeal.main_arg1)
      ∧ r.2.mem ((c.tc : Thread Cert.RMixBIdeal.nD Cert.RMixBIdeal.τ).loc Cert.RMixBIdeal.main_arg2) = m ((c.tc : Thread Cert.RMixBIdeal.nD Cert.RMixBIdeal.τ).loc Cert.RMixBIdeal.main_arg2))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1)
      ∧ r.2.mem ((c.tc : Thread Cert.ProjF.nD Cert.ProjF.τ).loc Cert.ProjF.main_arg2) = m ((c.tc : Thread Cert.ProjF.nD Cert.ProjF.τ).loc Cert.ProjF.main_arg2))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1)
      ∧ r.2.mem ((c.tc : Thread Cert.ProjFIdeal.nD Cert.ProjFIdeal.τ).loc Cert.ProjFIdeal.main_arg2) = m ((c.tc : Thread Cert.ProjFIdeal.nD Cert.ProjFIdeal.τ).loc Cert.ProjFIdeal.main_arg2))
      ∧ r.2.sem = fun _ => 0)

def quiescent_RProjFIdeal [hRProjFIdeal : Cert.RProjFIdeal.Facts] : Prop :=
  ∀ (m : (ℓ : Loc Cert.RProjFIdeal.nD Cert.RProjFIdeal.τ Cert.RProjFIdeal.sig) → Buf (Elt Ideal) ℓ) (g : Dev Cert.RProjFIdeal.nD → PrngReg), Pre_RProjFIdeal m →
    θ_run (Cert.RProjFIdeal.defs (F := Ideal)) (onTc (τ := Cert.RProjFIdeal.τ) (Cert.RProjFIdeal.main (F := Ideal))) ⟨m, fun _ => 0, g⟩ (fun r => (∀ c : Dev Cert.RProjFIdeal.nD,
      r.2.mem ((c.tc : Thread Cert.RProjFIdeal.nD Cert.RProjFIdeal.τ).loc Cert.RProjFIdeal.main_arg0) = m ((c.tc : Thread Cert.RProjFIdeal.nD Cert.RProjFIdeal.τ).loc Cert.RProjFIdeal.main_arg0)
      ∧ r.2.mem ((c.tc : Thread Cert.RProjFIdeal.nD Cert.RProjFIdeal.τ).loc Cert.RProjFIdeal.main_arg1) = m ((c.tc : Thread Cert.RProjFIdeal.nD Cert.RProjFIdeal.τ).loc Cert.RProjFIdeal.main_arg1)
      ∧ r.2.mem ((c.tc : Thread Cert.RProjFIdeal.nD Cert.RProjFIdeal.τ).loc Cert.RProjFIdeal.main_arg2) = m ((c.tc : Thread Cert.RProjFIdeal.nD Cert.RProjFIdeal.τ).loc Cert.RProjFIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RAdamInIdeal [hRAdamInIdeal : Cert.RAdamInIdeal.Facts] : Prop :=
  ∀ (m : (ℓ : Loc Cert.RAdamInIdeal.nD Cert.RAdamInIdeal.τ Cert.RAdamInIdeal.sig) → Buf (Elt Ideal) ℓ) (g : Dev Cert.RAdamInIdeal.nD → PrngReg), Pre_RAdamInIdeal m →
    θ_run (Cert.RAdamInIdeal.defs (F := Ideal)) (onTc (τ := Cert.RAdamInIdeal.τ) (Cert.RAdamInIdeal.main (F := Ideal))) ⟨m, fun _ => 0, g⟩ (fun r => (∀ c : Dev Cert.RAdamInIdeal.nD,
      r.2.mem ((c.tc : Thread Cert.RAdamInIdeal.nD Cert.RAdamInIdeal.τ).loc Cert.RAdamInIdeal.main_arg0) = m ((c.tc : Thread Cert.RAdamInIdeal.nD Cert.RAdamInIdeal.τ).loc Cert.RAdamInIdeal.main_arg0)
      ∧ r.2.mem ((c.tc : Thread Cert.RAdamInIdeal.nD Cert.RAdamInIdeal.τ).loc Cert.RAdamInIdeal.main_arg1) = m ((c.tc : Thread Cert.RAdamInIdeal.nD Cert.RAdamInIdeal.τ).loc Cert.RAdamInIdeal.main_arg1)
      ∧ r.2.mem ((c.tc : Thread Cert.RAdamInIdeal.nD Cert.RAdamInIdeal.τ).loc Cert.RAdamInIdeal.main_arg2) = m ((c.tc : Thread Cert.RAdamInIdeal.nD Cert.RAdamInIdeal.τ).loc Cert.RAdamInIdeal.main_arg2)
      ∧ r.2.mem ((c.tc : Thread Cert.RAdamInIdeal.nD Cert.RAdamInIdeal.τ).loc Cert.RAdamInIdeal.main_arg3) = m ((c.tc : Thread Cert.RAdamInIdeal.nD Cert.RAdamInIdeal.τ).loc Cert.RAdamInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RAdamOutIdeal [hRAdamOutIdeal : Cert.RAdamOutIdeal.Facts] : Prop :=
  ∀ (m : (ℓ : Loc Cert.RAdamOutIdeal.nD Cert.RAdamOutIdeal.τ Cert.RAdamOutIdeal.sig) → Buf (Elt Ideal) ℓ) (g : Dev Cert.RAdamOutIdeal.nD → PrngReg), Pre_RAdamOutIdeal m →
    θ_run (Cert.RAdamOutIdeal.defs (F := Ideal)) (onTc (τ := Cert.RAdamOutIdeal.τ) (Cert.RAdamOutIdeal.main (F := Ideal))) ⟨m, fun _ => 0, g⟩ (fun r => (∀ c : Dev Cert.RAdamOutIdeal.nD,
      r.2.mem ((c.tc : Thread Cert.RAdamOutIdeal.nD Cert.RAdamOutIdeal.τ).loc Cert.RAdamOutIdeal.main_arg0) = m ((c.tc : Thread Cert.RAdamOutIdeal.nD Cert.RAdamOutIdeal.τ).loc Cert.RAdamOutIdeal.main_arg0)
      ∧ r.2.mem ((c.tc : Thread Cert.RAdamOutIdeal.nD Cert.RAdamOutIdeal.τ).loc Cert.RAdamOutIdeal.main_arg1) = m ((c.tc : Thread Cert.RAdamOutIdeal.nD Cert.RAdamOutIdeal.τ).loc Cert.RAdamOutIdeal.main_arg1)
      ∧ r.2.mem ((c.tc : Thread Cert.RAdamOutIdeal.nD Cert.RAdamOutIdeal.τ).loc Cert.RAdamOutIdeal.main_arg2) = m ((c.tc : Thread Cert.RAdamOutIdeal.nD Cert.RAdamOutIdeal.τ).loc Cert.RAdamOutIdeal.main_arg2)
      ∧ r.2.mem ((c.tc : Thread Cert.RAdamOutIdeal.nD Cert.RAdamOutIdeal.τ).loc Cert.RAdamOutIdeal.main_arg3) = m ((c.tc : Thread Cert.RAdamOutIdeal.nD Cert.RAdamOutIdeal.τ).loc Cert.RAdamOutIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_RAdamGateIdeal [hRAdamGateIdeal : Cert.RAdamGateIdeal.Facts] : Prop :=
  ∀ (m : (ℓ : Loc Cert.RAdamGateIdeal.nD Cert.RAdamGateIdeal.τ Cert.RAdamGateIdeal.sig) → Buf (Elt Ideal) ℓ) (g : Dev Cert.RAdamGateIdeal.nD → PrngReg), Pre_RAdamGateIdeal m →
    θ_run (Cert.RAdamGateIdeal.defs (F := Ideal)) (onTc (τ := Cert.RAdamGateIdeal.τ) (Cert.RAdamGateIdeal.main (F := Ideal))) ⟨m, fun _ => 0, g⟩ (fun r => (∀ c : Dev Cert.RAdamGateIdeal.nD,
      r.2.mem ((c.tc : Thread Cert.RAdamGateIdeal.nD Cert.RAdamGateIdeal.τ).loc Cert.RAdamGateIdeal.main_arg0) = m ((c.tc : Thread Cert.RAdamGateIdeal.nD Cert.RAdamGateIdeal.τ).loc Cert.RAdamGateIdeal.main_arg0)
      ∧ r.2.mem ((c.tc : Thread Cert.RAdamGateIdeal.nD Cert.RAdamGateIdeal.τ).loc Cert.RAdamGateIdeal.main_arg1) = m ((c.tc : Thread Cert.RAdamGateIdeal.nD Cert.RAdamGateIdeal.τ).loc Cert.RAdamGateIdeal.main_arg1)
      ∧ r.2.mem ((c.tc : Thread Cert.RAdamGateIdeal.nD Cert.RAdamGateIdeal.τ).loc Cert.RAdamGateIdeal.main_arg2) = m ((c.tc : Thread Cert.RAdamGateIdeal.nD Cert.RAdamGateIdeal.τ).loc Cert.RAdamGateIdeal.main_arg2)
      ∧ r.2.mem ((c.tc : Thread Cert.RAdamGateIdeal.nD Cert.RAdamGateIdeal.τ).loc Cert.RAdamGateIdeal.main_arg3) = m ((c.tc : Thread Cert.RAdamGateIdeal.nD Cert.RAdamGateIdeal.τ).loc Cert.RAdamGateIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_RAdamUpIdeal [hRAdamUpIdeal : Cert.RAdamUpIdeal.Facts] : Prop :=
  ∀ (m : (ℓ : Loc Cert.RAdamUpIdeal.nD Cert.RAdamUpIdeal.τ Cert.RAdamUpIdeal.sig) → Buf (Elt Ideal) ℓ) (g : Dev Cert.RAdamUpIdeal.nD → PrngReg), Pre_RAdamUpIdeal m →
    θ_run (Cert.RAdamUpIdeal.defs (F := Ideal)) (onTc (τ := Cert.RAdamUpIdeal.τ) (Cert.RAdamUpIdeal.main (F := Ideal))) ⟨m, fun _ => 0, g⟩ (fun r => (∀ c : Dev Cert.RAdamUpIdeal.nD,
      r.2.mem ((c.tc : Thread Cert.RAdamUpIdeal.nD Cert.RAdamUpIdeal.τ).loc Cert.RAdamUpIdeal.main_arg0) = m ((c.tc : Thread Cert.RAdamUpIdeal.nD Cert.RAdamUpIdeal.τ).loc Cert.RAdamUpIdeal.main_arg0)
      ∧ r.2.mem ((c.tc : Thread Cert.RAdamUpIdeal.nD Cert.RAdamUpIdeal.τ).loc Cert.RAdamUpIdeal.main_arg1) = m ((c.tc : Thread Cert.RAdamUpIdeal.nD Cert.RAdamUpIdeal.τ).loc Cert.RAdamUpIdeal.main_arg1)
      ∧ r.2.mem ((c.tc : Thread Cert.RAdamUpIdeal.nD Cert.RAdamUpIdeal.τ).loc Cert.RAdamUpIdeal.main_arg2) = m ((c.tc : Thread Cert.RAdamUpIdeal.nD Cert.RAdamUpIdeal.τ).loc Cert.RAdamUpIdeal.main_arg2)
      ∧ r.2.mem ((c.tc : Thread Cert.RAdamUpIdeal.nD Cert.RAdamUpIdeal.τ).loc Cert.RAdamUpIdeal.main_arg3) = m ((c.tc : Thread Cert.RAdamUpIdeal.nD Cert.RAdamUpIdeal.τ).loc Cert.RAdamUpIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_RAdamDownIdeal [hRAdamDownIdeal : Cert.RAdamDownIdeal.Facts] : Prop :=
  ∀ (m : (ℓ : Loc Cert.RAdamDownIdeal.nD Cert.RAdamDownIdeal.τ Cert.RAdamDownIdeal.sig) → Buf (Elt Ideal) ℓ) (g : Dev Cert.RAdamDownIdeal.nD → PrngReg), Pre_RAdamDownIdeal m →
    θ_run (Cert.RAdamDownIdeal.defs (F := Ideal)) (onTc (τ := Cert.RAdamDownIdeal.τ) (Cert.RAdamDownIdeal.main (F := Ideal))) ⟨m, fun _ => 0, g⟩ (fun r => (∀ c : Dev Cert.RAdamDownIdeal.nD,
      r.2.mem ((c.tc : Thread Cert.RAdamDownIdeal.nD Cert.RAdamDownIdeal.τ).loc Cert.RAdamDownIdeal.main_arg0) = m ((c.tc : Thread Cert.RAdamDownIdeal.nD Cert.RAdamDownIdeal.τ).loc Cert.RAdamDownIdeal.main_arg0)
      ∧ r.2.mem ((c.tc : Thread Cert.RAdamDownIdeal.nD Cert.RAdamDownIdeal.τ).loc Cert.RAdamDownIdeal.main_arg1) = m ((c.tc : Thread Cert.RAdamDownIdeal.nD Cert.RAdamDownIdeal.τ).loc Cert.RAdamDownIdeal.main_arg1)
      ∧ r.2.mem ((c.tc : Thread Cert.RAdamDownIdeal.nD Cert.RAdamDownIdeal.τ).loc Cert.RAdamDownIdeal.main_arg2) = m ((c.tc : Thread Cert.RAdamDownIdeal.nD Cert.RAdamDownIdeal.τ).loc Cert.RAdamDownIdeal.main_arg2)
      ∧ r.2.mem ((c.tc : Thread Cert.RAdamDownIdeal.nD Cert.RAdamDownIdeal.τ).loc Cert.RAdamDownIdeal.main_arg3) = m ((c.tc : Thread Cert.RAdamDownIdeal.nD Cert.RAdamDownIdeal.τ).loc Cert.RAdamDownIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RAdamSmallIdeal [hRAdamSmallIdeal : Cert.RAdamSmallIdeal.Facts] : Prop :=
  ∀ (m : (ℓ : Loc Cert.RAdamSmallIdeal.nD Cert.RAdamSmallIdeal.τ Cert.RAdamSmallIdeal.sig) → Buf (Elt Ideal) ℓ) (g : Dev Cert.RAdamSmallIdeal.nD → PrngReg), Pre_RAdamSmallIdeal m →
    θ_run (Cert.RAdamSmallIdeal.defs (F := Ideal)) (onTc (τ := Cert.RAdamSmallIdeal.τ) (Cert.RAdamSmallIdeal.main (F := Ideal))) ⟨m, fun _ => 0, g⟩ (fun r => (∀ c : Dev Cert.RAdamSmallIdeal.nD,
      r.2.mem ((c.tc : Thread Cert.RAdamSmallIdeal.nD Cert.RAdamSmallIdeal.τ).loc Cert.RAdamSmallIdeal.main_arg0) = m ((c.tc : Thread Cert.RAdamSmallIdeal.nD Cert.RAdamSmallIdeal.τ).loc Cert.RAdamSmallIdeal.main_arg0)
      ∧ r.2.mem ((c.tc : Thread Cert.RAdamSmallIdeal.nD Cert.RAdamSmallIdeal.τ).loc Cert.RAdamSmallIdeal.main_arg1) = m ((c.tc : Thread Cert.RAdamSmallIdeal.nD Cert.RAdamSmallIdeal.τ).loc Cert.RAdamSmallIdeal.main_arg1)
      ∧ r.2.mem ((c.tc : Thread Cert.RAdamSmallIdeal.nD Cert.RAdamSmallIdeal.τ).loc Cert.RAdamSmallIdeal.main_arg2) = m ((c.tc : Thread Cert.RAdamSmallIdeal.nD Cert.RAdamSmallIdeal.τ).loc Cert.RAdamSmallIdeal.main_arg2)
      ∧ r.2.mem ((c.tc : Thread Cert.RAdamSmallIdeal.nD Cert.RAdamSmallIdeal.τ).loc Cert.RAdamSmallIdeal.main_arg3) = m ((c.tc : Thread Cert.RAdamSmallIdeal.nD Cert.RAdamSmallIdeal.τ).loc Cert.RAdamSmallIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_RSumInIdeal [hRSumInIdeal : Cert.RSumInIdeal.Facts] : Prop :=
  ∀ (m : (ℓ : Loc Cert.RSumInIdeal.nD Cert.RSumInIdeal.τ Cert.RSumInIdeal.sig) → Buf (Elt Ideal) ℓ) (g : Dev Cert.RSumInIdeal.nD → PrngReg), Pre_RSumInIdeal m →
    θ_run (Cert.RSumInIdeal.defs (F := Ideal)) (onTc (τ := Cert.RSumInIdeal.τ) (Cert.RSumInIdeal.main (F := Ideal))) ⟨m, fun _ => 0, g⟩ (fun r => (∀ c : Dev Cert.RSumInIdeal.nD,
      r.2.mem ((c.tc : Thread Cert.RSumInIdeal.nD Cert.RSumInIdeal.τ).loc Cert.RSumInIdeal.main_arg0) = m ((c.tc : Thread Cert.RSumInIdeal.nD Cert.RSumInIdeal.τ).loc Cert.RSumInIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_RSumOutIdeal [hRSumOutIdeal : Cert.RSumOutIdeal.Facts] : Prop :=
  ∀ (m : (ℓ : Loc Cert.RSumOutIdeal.nD Cert.RSumOutIdeal.τ Cert.RSumOutIdeal.sig) → Buf (Elt Ideal) ℓ) (g : Dev Cert.RSumOutIdeal.nD → PrngReg), Pre_RSumOutIdeal m →
    θ_run (Cert.RSumOutIdeal.defs (F := Ideal)) (onTc (τ := Cert.RSumOutIdeal.τ) (Cert.RSumOutIdeal.main (F := Ideal))) ⟨m, fun _ => 0, g⟩ (fun r => (∀ c : Dev Cert.RSumOutIdeal.nD,
      r.2.mem ((c.tc : Thread Cert.RSumOutIdeal.nD Cert.RSumOutIdeal.τ).loc Cert.RSumOutIdeal.main_arg0) = m ((c.tc : Thread Cert.RSumOutIdeal.nD Cert.RSumOutIdeal.τ).loc Cert.RSumOutIdeal.main_arg0))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ r.2.sem = fun _ => 0)

def quiescent_RSumGateIdeal [hRSumGateIdeal : Cert.RSumGateIdeal.Facts] : Prop :=
  ∀ (m : (ℓ : Loc Cert.RSumGateIdeal.nD Cert.RSumGateIdeal.τ Cert.RSumGateIdeal.sig) → Buf (Elt Ideal) ℓ) (g : Dev Cert.RSumGateIdeal.nD → PrngReg), Pre_RSumGateIdeal m →
    θ_run (Cert.RSumGateIdeal.defs (F := Ideal)) (onTc (τ := Cert.RSumGateIdeal.τ) (Cert.RSumGateIdeal.main (F := Ideal))) ⟨m, fun _ => 0, g⟩ (fun r => (∀ c : Dev Cert.RSumGateIdeal.nD,
      r.2.mem ((c.tc : Thread Cert.RSumGateIdeal.nD Cert.RSumGateIdeal.τ).loc Cert.RSumGateIdeal.main_arg0) = m ((c.tc : Thread Cert.RSumGateIdeal.nD Cert.RSumGateIdeal.τ).loc Cert.RSumGateIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_RSumUpIdeal [hRSumUpIdeal : Cert.RSumUpIdeal.Facts] : Prop :=
  ∀ (m : (ℓ : Loc Cert.RSumUpIdeal.nD Cert.RSumUpIdeal.τ Cert.RSumUpIdeal.sig) → Buf (Elt Ideal) ℓ) (g : Dev Cert.RSumUpIdeal.nD → PrngReg), Pre_RSumUpIdeal m →
    θ_run (Cert.RSumUpIdeal.defs (F := Ideal)) (onTc (τ := Cert.RSumUpIdeal.τ) (Cert.RSumUpIdeal.main (F := Ideal))) ⟨m, fun _ => 0, g⟩ (fun r => (∀ c : Dev Cert.RSumUpIdeal.nD,
      r.2.mem ((c.tc : Thread Cert.RSumUpIdeal.nD Cert.RSumUpIdeal.τ).loc Cert.RSumUpIdeal.main_arg0) = m ((c.tc : Thread Cert.RSumUpIdeal.nD Cert.RSumUpIdeal.τ).loc Cert.RSumUpIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_RSumDownIdeal [hRSumDownIdeal : Cert.RSumDownIdeal.Facts] : Prop :=
  ∀ (m : (ℓ : Loc Cert.RSumDownIdeal.nD Cert.RSumDownIdeal.τ Cert.RSumDownIdeal.sig) → Buf (Elt Ideal) ℓ) (g : Dev Cert.RSumDownIdeal.nD → PrngReg), Pre_RSumDownIdeal m →
    θ_run (Cert.RSumDownIdeal.defs (F := Ideal)) (onTc (τ := Cert.RSumDownIdeal.τ) (Cert.RSumDownIdeal.main (F := Ideal))) ⟨m, fun _ => 0, g⟩ (fun r => (∀ c : Dev Cert.RSumDownIdeal.nD,
      r.2.mem ((c.tc : Thread Cert.RSumDownIdeal.nD Cert.RSumDownIdeal.τ).loc Cert.RSumDownIdeal.main_arg0) = m ((c.tc : Thread Cert.RSumDownIdeal.nD Cert.RSumDownIdeal.τ).loc Cert.RSumDownIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_RSumSmallIdeal [hRSumSmallIdeal : Cert.RSumSmallIdeal.Facts] : Prop :=
  ∀ (m : (ℓ : Loc Cert.RSumSmallIdeal.nD Cert.RSumSmallIdeal.τ Cert.RSumSmallIdeal.sig) → Buf (Elt Ideal) ℓ) (g : Dev Cert.RSumSmallIdeal.nD → PrngReg), Pre_RSumSmallIdeal m →
    θ_run (Cert.RSumSmallIdeal.defs (F := Ideal)) (onTc (τ := Cert.RSumSmallIdeal.τ) (Cert.RSumSmallIdeal.main (F := Ideal))) ⟨m, fun _ => 0, g⟩ (fun r => (∀ c : Dev Cert.RSumSmallIdeal.nD,
      r.2.mem ((c.tc : Thread Cert.RSumSmallIdeal.nD Cert.RSumSmallIdeal.τ).loc Cert.RSumSmallIdeal.main_arg0) = m ((c.tc : Thread Cert.RSumSmallIdeal.nD Cert.RSumSmallIdeal.τ).loc Cert.RSumSmallIdeal.main_arg0))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1)
      ∧ r.2.mem ((c.tc : Thread Cert.DProj.nD Cert.DProj.τ).loc Cert.DProj.main_arg2) = m ((c.tc : Thread Cert.DProj.nD Cert.DProj.τ).loc Cert.DProj.main_arg2)
      ∧ r.2.mem ((c.tc : Thread Cert.DProj.nD Cert.DProj.τ).loc Cert.DProj.main_arg3) = m ((c.tc : Thread Cert.DProj.nD Cert.DProj.τ).loc Cert.DProj.main_arg3)
      ∧ r.2.mem ((c.tc : Thread Cert.DProj.nD Cert.DProj.τ).loc Cert.DProj.main_arg4) = m ((c.tc : Thread Cert.DProj.nD Cert.DProj.τ).loc Cert.DProj.main_arg4)
      ∧ r.2.mem ((c.tc : Thread Cert.DProj.nD Cert.DProj.τ).loc Cert.DProj.main_arg5) = m ((c.tc : Thread Cert.DProj.nD Cert.DProj.τ).loc Cert.DProj.main_arg5)
      ∧ r.2.mem ((c.tc : Thread Cert.DProj.nD Cert.DProj.τ).loc Cert.DProj.main_arg6) = m ((c.tc : Thread Cert.DProj.nD Cert.DProj.τ).loc Cert.DProj.main_arg6)
      ∧ r.2.mem ((c.tc : Thread Cert.DProj.nD Cert.DProj.τ).loc Cert.DProj.main_arg7) = m ((c.tc : Thread Cert.DProj.nD Cert.DProj.τ).loc Cert.DProj.main_arg7)
      ∧ r.2.mem ((c.tc : Thread Cert.DProj.nD Cert.DProj.τ).loc Cert.DProj.main_arg8) = m ((c.tc : Thread Cert.DProj.nD Cert.DProj.τ).loc Cert.DProj.main_arg8)
      ∧ r.2.mem ((c.tc : Thread Cert.DProj.nD Cert.DProj.τ).loc Cert.DProj.main_arg9) = m ((c.tc : Thread Cert.DProj.nD Cert.DProj.τ).loc Cert.DProj.main_arg9)
      ∧ r.2.mem ((c.tc : Thread Cert.DProj.nD Cert.DProj.τ).loc Cert.DProj.main_arg10) = m ((c.tc : Thread Cert.DProj.nD Cert.DProj.τ).loc Cert.DProj.main_arg10)
      ∧ r.2.mem ((c.tc : Thread Cert.DProj.nD Cert.DProj.τ).loc Cert.DProj.main_arg11) = m ((c.tc : Thread Cert.DProj.nD Cert.DProj.τ).loc Cert.DProj.main_arg11)
      ∧ r.2.mem ((c.tc : Thread Cert.DProj.nD Cert.DProj.τ).loc Cert.DProj.main_arg12) = m ((c.tc : Thread Cert.DProj.nD Cert.DProj.τ).loc Cert.DProj.main_arg12)
      ∧ r.2.mem ((c.tc : Thread Cert.DProj.nD Cert.DProj.τ).loc Cert.DProj.main_arg13) = m ((c.tc : Thread Cert.DProj.nD Cert.DProj.τ).loc Cert.DProj.main_arg13)
      ∧ r.2.mem ((c.tc : Thread Cert.DProj.nD Cert.DProj.τ).loc Cert.DProj.main_arg14) = m ((c.tc : Thread Cert.DProj.nD Cert.DProj.τ).loc Cert.DProj.main_arg14)
      ∧ r.2.mem ((c.tc : Thread Cert.DProj.nD Cert.DProj.τ).loc Cert.DProj.main_arg15) = m ((c.tc : Thread Cert.DProj.nD Cert.DProj.τ).loc Cert.DProj.main_arg15))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
      ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
      ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10)
      ∧ r.2.mem ((c.tc : Thread Cert.DProjIdeal.nD Cert.DProjIdeal.τ).loc Cert.DProjIdeal.main_arg11) = m ((c.tc : Thread Cert.DProjIdeal.nD Cert.DProjIdeal.τ).loc Cert.DProjIdeal.main_arg11)
      ∧ r.2.mem ((c.tc : Thread Cert.DProjIdeal.nD Cert.DProjIdeal.τ).loc Cert.DProjIdeal.main_arg12) = m ((c.tc : Thread Cert.DProjIdeal.nD Cert.DProjIdeal.τ).loc Cert.DProjIdeal.main_arg12)
      ∧ r.2.mem ((c.tc : Thread Cert.DProjIdeal.nD Cert.DProjIdeal.τ).loc Cert.DProjIdeal.main_arg13) = m ((c.tc : Thread Cert.DProjIdeal.nD Cert.DProjIdeal.τ).loc Cert.DProjIdeal.main_arg13)
      ∧ r.2.mem ((c.tc : Thread Cert.DProjIdeal.nD Cert.DProjIdeal.τ).loc Cert.DProjIdeal.main_arg14) = m ((c.tc : Thread Cert.DProjIdeal.nD Cert.DProjIdeal.τ).loc Cert.DProjIdeal.main_arg14)
      ∧ r.2.mem ((c.tc : Thread Cert.DProjIdeal.nD Cert.DProjIdeal.τ).loc Cert.DProjIdeal.main_arg15) = m ((c.tc : Thread Cert.DProjIdeal.nD Cert.DProjIdeal.τ).loc Cert.DProjIdeal.main_arg15))
      ∧ r.2.sem = fun _ => 0)

def quiescent_RDProjIdeal [hRDProjIdeal : Cert.RDProjIdeal.Facts] : Prop :=
  ∀ (m : (ℓ : Loc Cert.RDProjIdeal.nD Cert.RDProjIdeal.τ Cert.RDProjIdeal.sig) → Buf (Elt Ideal) ℓ) (g : Dev Cert.RDProjIdeal.nD → PrngReg), Pre_RDProjIdeal m →
    θ_run (Cert.RDProjIdeal.defs (F := Ideal)) (onTc (τ := Cert.RDProjIdeal.τ) (Cert.RDProjIdeal.main (F := Ideal))) ⟨m, fun _ => 0, g⟩ (fun r => (∀ c : Dev Cert.RDProjIdeal.nD,
      r.2.mem ((c.tc : Thread Cert.RDProjIdeal.nD Cert.RDProjIdeal.τ).loc Cert.RDProjIdeal.main_arg0) = m ((c.tc : Thread Cert.RDProjIdeal.nD Cert.RDProjIdeal.τ).loc Cert.RDProjIdeal.main_arg0)
      ∧ r.2.mem ((c.tc : Thread Cert.RDProjIdeal.nD Cert.RDProjIdeal.τ).loc Cert.RDProjIdeal.main_arg1) = m ((c.tc : Thread Cert.RDProjIdeal.nD Cert.RDProjIdeal.τ).loc Cert.RDProjIdeal.main_arg1)
      ∧ r.2.mem ((c.tc : Thread Cert.RDProjIdeal.nD Cert.RDProjIdeal.τ).loc Cert.RDProjIdeal.main_arg2) = m ((c.tc : Thread Cert.RDProjIdeal.nD Cert.RDProjIdeal.τ).loc Cert.RDProjIdeal.main_arg2)
      ∧ r.2.mem ((c.tc : Thread Cert.RDProjIdeal.nD Cert.RDProjIdeal.τ).loc Cert.RDProjIdeal.main_arg3) = m ((c.tc : Thread Cert.RDProjIdeal.nD Cert.RDProjIdeal.τ).loc Cert.RDProjIdeal.main_arg3)
      ∧ r.2.mem ((c.tc : Thread Cert.RDProjIdeal.nD Cert.RDProjIdeal.τ).loc Cert.RDProjIdeal.main_arg4) = m ((c.tc : Thread Cert.RDProjIdeal.nD Cert.RDProjIdeal.τ).loc Cert.RDProjIdeal.main_arg4)
      ∧ r.2.mem ((c.tc : Thread Cert.RDProjIdeal.nD Cert.RDProjIdeal.τ).loc Cert.RDProjIdeal.main_arg5) = m ((c.tc : Thread Cert.RDProjIdeal.nD Cert.RDProjIdeal.τ).loc Cert.RDProjIdeal.main_arg5)
      ∧ r.2.mem ((c.tc : Thread Cert.RDProjIdeal.nD Cert.RDProjIdeal.τ).loc Cert.RDProjIdeal.main_arg6) = m ((c.tc : Thread Cert.RDProjIdeal.nD Cert.RDProjIdeal.τ).loc Cert.RDProjIdeal.main_arg6)
      ∧ r.2.mem ((c.tc : Thread Cert.RDProjIdeal.nD Cert.RDProjIdeal.τ).loc Cert.RDProjIdeal.main_arg7) = m ((c.tc : Thread Cert.RDProjIdeal.nD Cert.RDProjIdeal.τ).loc Cert.RDProjIdeal.main_arg7)
      ∧ r.2.mem ((c.tc : Thread Cert.RDProjIdeal.nD Cert.RDProjIdeal.τ).loc Cert.RDProjIdeal.main_arg8) = m ((c.tc : Thread Cert.RDProjIdeal.nD Cert.RDProjIdeal.τ).loc Cert.RDProjIdeal.main_arg8)
      ∧ r.2.mem ((c.tc : Thread Cert.RDProjIdeal.nD Cert.RDProjIdeal.τ).loc Cert.RDProjIdeal.main_arg9) = m ((c.tc : Thread Cert.RDProjIdeal.nD Cert.RDProjIdeal.τ).loc Cert.RDProjIdeal.main_arg9)
      ∧ r.2.mem ((c.tc : Thread Cert.RDProjIdeal.nD Cert.RDProjIdeal.τ).loc Cert.RDProjIdeal.main_arg10) = m ((c.tc : Thread Cert.RDProjIdeal.nD Cert.RDProjIdeal.τ).loc Cert.RDProjIdeal.main_arg10)
      ∧ r.2.mem ((c.tc : Thread Cert.RDProjIdeal.nD Cert.RDProjIdeal.τ).loc Cert.RDProjIdeal.main_arg11) = m ((c.tc : Thread Cert.RDProjIdeal.nD Cert.RDProjIdeal.τ).loc Cert.RDProjIdeal.main_arg11)
      ∧ r.2.mem ((c.tc : Thread Cert.RDProjIdeal.nD Cert.RDProjIdeal.τ).loc Cert.RDProjIdeal.main_arg12) = m ((c.tc : Thread Cert.RDProjIdeal.nD Cert.RDProjIdeal.τ).loc Cert.RDProjIdeal.main_arg12)
      ∧ r.2.mem ((c.tc : Thread Cert.RDProjIdeal.nD Cert.RDProjIdeal.τ).loc Cert.RDProjIdeal.main_arg13) = m ((c.tc : Thread Cert.RDProjIdeal.nD Cert.RDProjIdeal.τ).loc Cert.RDProjIdeal.main_arg13)
      ∧ r.2.mem ((c.tc : Thread Cert.RDProjIdeal.nD Cert.RDProjIdeal.τ).loc Cert.RDProjIdeal.main_arg14) = m ((c.tc : Thread Cert.RDProjIdeal.nD Cert.RDProjIdeal.τ).loc Cert.RDProjIdeal.main_arg14)
      ∧ r.2.mem ((c.tc : Thread Cert.RDProjIdeal.nD Cert.RDProjIdeal.τ).loc Cert.RDProjIdeal.main_arg15) = m ((c.tc : Thread Cert.RDProjIdeal.nD Cert.RDProjIdeal.τ).loc Cert.RDProjIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WGate_WGateIdeal : Prop :=
  True

def algebraic_WGateIdeal_RGateIdeal [hWGateIdeal : Cert.WGateIdeal.Facts] [hRGateIdeal : Cert.RGateIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.RGateIdeal.nD Cert.RGateIdeal.τ Cert.RGateIdeal.sig) → Buf (Elt Ideal) ℓ) (g' : Dev Cert.RGateIdeal.nD → PrngReg), Pre_WGateIdeal m →
    (∀ c : Dev Cert.WGateIdeal.nD,
      m' ((c.tc : Thread Cert.RGateIdeal.nD Cert.RGateIdeal.τ).loc Cert.RGateIdeal.main_arg0) = m ((c.tc : Thread Cert.WGateIdeal.nD Cert.WGateIdeal.τ).loc Cert.WGateIdeal.main_arg0)
      ∧ m' ((c.tc : Thread Cert.RGateIdeal.nD Cert.RGateIdeal.τ).loc Cert.RGateIdeal.main_arg1) = m ((c.tc : Thread Cert.WGateIdeal.nD Cert.WGateIdeal.τ).loc Cert.WGateIdeal.main_arg1)) →
    ∃ (v0 : (c : Dev Cert.WGateIdeal.nD) → Buf (Elt Ideal) ((c.tc : Thread Cert.WGateIdeal.nD Cert.WGateIdeal.τ).loc Cert.WGateIdeal.main_v0)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v0) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ θ_run (Cert.RGateIdeal.defs (F := Ideal)) (onTc (τ := Cert.RGateIdeal.τ) (Cert.RGateIdeal.main (F := Ideal))) ⟨m', fun _ => 0, g'⟩ (fun r => ∀ c : Dev Cert.RGateIdeal.nD,
          r.2.mem ((c.tc : Thread Cert.RGateIdeal.nD Cert.RGateIdeal.τ).loc Cert.RGateIdeal.main_v7) = v0 c
          ∧ r.2.mem ((c.tc : Thread Cert.RGateIdeal.nD Cert.RGateIdeal.τ).loc Cert.RGateIdeal.main_arg0) = m' ((c.tc : Thread Cert.RGateIdeal.nD Cert.RGateIdeal.τ).loc Cert.RGateIdeal.main_arg0)
          ∧ r.2.mem ((c.tc : Thread Cert.RGateIdeal.nD Cert.RGateIdeal.τ).loc Cert.RGateIdeal.main_arg1) = m' ((c.tc : Thread Cert.RGateIdeal.nD Cert.RGateIdeal.τ).loc Cert.RGateIdeal.main_arg1))

def preserves_WUp_WUpIdeal : Prop :=
  True

def algebraic_WUpIdeal_RUpIdeal [hWUpIdeal : Cert.WUpIdeal.Facts] [hRUpIdeal : Cert.RUpIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.RUpIdeal.nD Cert.RUpIdeal.τ Cert.RUpIdeal.sig) → Buf (Elt Ideal) ℓ) (g' : Dev Cert.RUpIdeal.nD → PrngReg), Pre_WUpIdeal m →
    (∀ c : Dev Cert.WUpIdeal.nD,
      m' ((c.tc : Thread Cert.RUpIdeal.nD Cert.RUpIdeal.τ).loc Cert.RUpIdeal.main_arg0) = m ((c.tc : Thread Cert.WUpIdeal.nD Cert.WUpIdeal.τ).loc Cert.WUpIdeal.main_arg0)
      ∧ m' ((c.tc : Thread Cert.RUpIdeal.nD Cert.RUpIdeal.τ).loc Cert.RUpIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v0)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v0) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v7) = v0 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1))

def preserves_WDown_WDownIdeal : Prop :=
  True

def algebraic_WDownIdeal_RDownIdeal [hWDownIdeal : Cert.WDownIdeal.Facts] [hRDownIdeal : Cert.RDownIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.RDownIdeal.nD Cert.RDownIdeal.τ Cert.RDownIdeal.sig) → Buf (Elt Ideal) ℓ) (g' : Dev Cert.RDownIdeal.nD → PrngReg), Pre_WDownIdeal m →
    (∀ c : Dev Cert.WDownIdeal.nD,
      m' ((c.tc : Thread Cert.RDownIdeal.nD Cert.RDownIdeal.τ).loc Cert.RDownIdeal.main_arg0) = m ((c.tc : Thread Cert.WDownIdeal.nD Cert.WDownIdeal.τ).loc Cert.WDownIdeal.main_arg0)
      ∧ m' ((c.tc : Thread Cert.RDownIdeal.nD Cert.RDownIdeal.τ).loc Cert.RDownIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v6) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1))

def preserves_WIn_WInIdeal : Prop :=
  True

def algebraic_WInIdeal_RInIdeal [hWInIdeal : Cert.WInIdeal.Facts] [hRInIdeal : Cert.RInIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.RInIdeal.nD Cert.RInIdeal.τ Cert.RInIdeal.sig) → Buf (Elt Ideal) ℓ) (g' : Dev Cert.RInIdeal.nD → PrngReg), Pre_WInIdeal m →
    (∀ c : Dev Cert.WInIdeal.nD,
      m' ((c.tc : Thread Cert.RInIdeal.nD Cert.RInIdeal.τ).loc Cert.RInIdeal.main_arg0) = m ((c.tc : Thread Cert.WInIdeal.nD Cert.WInIdeal.τ).loc Cert.WInIdeal.main_arg0)
      ∧ m' ((c.tc : Thread Cert.RInIdeal.nD Cert.RInIdeal.τ).loc Cert.RInIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v7) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_WOut_WOutIdeal : Prop :=
  True

def algebraic_WOutIdeal_ROutIdeal [hWOutIdeal : Cert.WOutIdeal.Facts] [hROutIdeal : Cert.ROutIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.ROutIdeal.nD Cert.ROutIdeal.τ Cert.ROutIdeal.sig) → Buf (Elt Ideal) ℓ) (g' : Dev Cert.ROutIdeal.nD → PrngReg), Pre_WOutIdeal m →
    (∀ c : Dev Cert.WOutIdeal.nD,
      m' ((c.tc : Thread Cert.ROutIdeal.nD Cert.ROutIdeal.τ).loc Cert.ROutIdeal.main_arg0) = m ((c.tc : Thread Cert.WOutIdeal.nD Cert.WOutIdeal.τ).loc Cert.WOutIdeal.main_arg0)
      ∧ m' ((c.tc : Thread Cert.ROutIdeal.nD Cert.ROutIdeal.τ).loc Cert.ROutIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v6) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1))

def preserves_Ffn_FfnIdeal : Prop :=
  True

def algebraic_FfnIdeal_RFfnIdeal_pre_all_finite [hFfnIdeal : Cert.FfnIdeal.Facts] [hRFfnIdeal : Cert.RFfnIdeal.Facts] [hPre_all_finite : Cert.Pre_all_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_FfnIdeal_all_finite m →
    (∀ c : Dev Cert.FfnIdeal.nD,
      m' ((c.tc : Thread Cert.RFfnIdeal.nD Cert.RFfnIdeal.τ).loc Cert.RFfnIdeal.main_arg0) = m ((c.tc : Thread Cert.FfnIdeal.nD Cert.FfnIdeal.τ).loc Cert.FfnIdeal.main_arg0)
      ∧ m' ((c.tc : Thread Cert.RFfnIdeal.nD Cert.RFfnIdeal.τ).loc Cert.RFfnIdeal.main_arg1) = m ((c.tc : Thread Cert.FfnIdeal.nD Cert.FfnIdeal.τ).loc Cert.FfnIdeal.main_arg1)
      ∧ m' ((c.tc : Thread Cert.RFfnIdeal.nD Cert.RFfnIdeal.τ).loc Cert.RFfnIdeal.main_arg2) = m ((c.tc : Thread Cert.FfnIdeal.nD Cert.FfnIdeal.τ).loc Cert.FfnIdeal.main_arg2)
      ∧ m' ((c.tc : Thread Cert.RFfnIdeal.nD Cert.RFfnIdeal.τ).loc Cert.RFfnIdeal.main_arg3) = m ((c.tc : Thread Cert.FfnIdeal.nD Cert.FfnIdeal.τ).loc Cert.FfnIdeal.main_arg3)
      ∧ m' ((c.tc : Thread Cert.RFfnIdeal.nD Cert.RFfnIdeal.τ).loc Cert.RFfnIdeal.main_arg4) = m ((c.tc : Thread Cert.FfnIdeal.nD Cert.FfnIdeal.τ).loc Cert.FfnIdeal.main_arg4)
      ∧ m' ((c.tc : Thread Cert.RFfnIdeal.nD Cert.RFfnIdeal.τ).loc Cert.RFfnIdeal.main_arg5) = m ((c.tc : Thread Cert.FfnIdeal.nD Cert.FfnIdeal.τ).loc Cert.FfnIdeal.main_arg5)
      ∧ m' ((c.tc : Thread Cert.RFfnIdeal.nD Cert.RFfnIdeal.τ).loc Cert.RFfnIdeal.main_arg6) = m ((c.tc : Thread Cert.FfnIdeal.nD Cert.FfnIdeal.τ).loc Cert.FfnIdeal.main_arg6)
      ∧ m' ((c.tc : Thread Cert.RFfnIdeal.nD Cert.RFfnIdeal.τ).loc Cert.RFfnIdeal.main_arg7) = m ((c.tc : Thread Cert.FfnIdeal.nD Cert.FfnIdeal.τ).loc Cert.FfnIdeal.main_arg7)
      ∧ m' ((c.tc : Thread Cert.RFfnIdeal.nD Cert.RFfnIdeal.τ).loc Cert.RFfnIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v26_2)) (v1 : (c : Dev Cert.FfnIdeal.nD) → Buf (Elt Ideal) ((c.tc : Thread Cert.FfnIdeal.nD Cert.FfnIdeal.τ).loc Cert.FfnIdeal.main_v27_0)) (v2 : (c : Dev Cert.FfnIdeal.nD) → Buf (Elt Ideal) ((c.tc : Thread Cert.FfnIdeal.nD Cert.FfnIdeal.τ).loc Cert.FfnIdeal.main_v27_1)) (v3 : (c : Dev Cert.FfnIdeal.nD) → Buf (Elt Ideal) ((c.tc : Thread Cert.FfnIdeal.nD Cert.FfnIdeal.τ).loc Cert.FfnIdeal.main_v27_2)) (v4 : (c : Dev Cert.FfnIdeal.nD) → Buf (Elt Ideal) ((c.tc : Thread Cert.FfnIdeal.nD Cert.FfnIdeal.τ).loc Cert.FfnIdeal.main_v27_3)) (v5 : (c : Dev Cert.FfnIdeal.nD) → Buf (Elt Ideal) ((c.tc : Thread Cert.FfnIdeal.nD Cert.FfnIdeal.τ).loc Cert.FfnIdeal.main_v27_4)) (v6 : (c : Dev Cert.FfnIdeal.nD) → Buf (Elt Ideal) ((c.tc : Thread Cert.FfnIdeal.nD Cert.FfnIdeal.τ).loc Cert.FfnIdeal.main_v27_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26_2) = v0 c
          ∧ r.2.mem ((c.tc : Thread Cert.FfnIdeal.nD Cert.FfnIdeal.τ).loc Cert.FfnIdeal.main_v27_0) = v1 c
          ∧ r.2.mem ((c.tc : Thread Cert.FfnIdeal.nD Cert.FfnIdeal.τ).loc Cert.FfnIdeal.main_v27_1) = v2 c
          ∧ r.2.mem ((c.tc : Thread Cert.FfnIdeal.nD Cert.FfnIdeal.τ).loc Cert.FfnIdeal.main_v27_2) = v3 c
          ∧ r.2.mem ((c.tc : Thread Cert.FfnIdeal.nD Cert.FfnIdeal.τ).loc Cert.FfnIdeal.main_v27_3) = v4 c
          ∧ r.2.mem ((c.tc : Thread Cert.FfnIdeal.nD Cert.FfnIdeal.τ).loc Cert.FfnIdeal.main_v27_4) = v5 c
          ∧ r.2.mem ((c.tc : Thread Cert.FfnIdeal.nD Cert.FfnIdeal.τ).loc Cert.FfnIdeal.main_v27_5) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v94) = v0 c
          ∧ r.2.mem ((c.tc : Thread Cert.RFfnIdeal.nD Cert.RFfnIdeal.τ).loc Cert.RFfnIdeal.main_v95) = v1 c
          ∧ r.2.mem ((c.tc : Thread Cert.RFfnIdeal.nD Cert.RFfnIdeal.τ).loc Cert.RFfnIdeal.main_v96) = v2 c
          ∧ r.2.mem ((c.tc : Thread Cert.RFfnIdeal.nD Cert.RFfnIdeal.τ).loc Cert.RFfnIdeal.main_v73) = v3 c
          ∧ r.2.mem ((c.tc : Thread Cert.RFfnIdeal.nD Cert.RFfnIdeal.τ).loc Cert.RFfnIdeal.main_v97) = v4 c
          ∧ r.2.mem ((c.tc : Thread Cert.RFfnIdeal.nD Cert.RFfnIdeal.τ).loc Cert.RFfnIdeal.main_v56) = v5 c
          ∧ r.2.mem ((c.tc : Thread Cert.RFfnIdeal.nD Cert.RFfnIdeal.τ).loc Cert.RFfnIdeal.main_v77) = v6 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4)
          ∧ r.2.mem ((c.tc : Thread Cert.RFfnIdeal.nD Cert.RFfnIdeal.τ).loc Cert.RFfnIdeal.main_arg5) = m' ((c.tc : Thread Cert.RFfnIdeal.nD Cert.RFfnIdeal.τ).loc Cert.RFfnIdeal.main_arg5)
          ∧ r.2.mem ((c.tc : Thread Cert.RFfnIdeal.nD Cert.RFfnIdeal.τ).loc Cert.RFfnIdeal.main_arg6) = m' ((c.tc : Thread Cert.RFfnIdeal.nD Cert.RFfnIdeal.τ).loc Cert.RFfnIdeal.main_arg6)
          ∧ r.2.mem ((c.tc : Thread Cert.RFfnIdeal.nD Cert.RFfnIdeal.τ).loc Cert.RFfnIdeal.main_arg7) = m' ((c.tc : Thread Cert.RFfnIdeal.nD Cert.RFfnIdeal.τ).loc Cert.RFfnIdeal.main_arg7)
          ∧ r.2.mem ((c.tc : Thread Cert.RFfnIdeal.nD Cert.RFfnIdeal.τ).loc Cert.RFfnIdeal.main_arg8) = m' ((c.tc : Thread Cert.RFfnIdeal.nD Cert.RFfnIdeal.τ).loc Cert.RFfnIdeal.main_arg8))

def preserves_Loss_LossIdeal : Prop :=
  True

def algebraic_LossIdeal_RLossIdeal [hLossIdeal : Cert.LossIdeal.Facts] [hRLossIdeal : Cert.RLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RLossIdeal.nD Cert.RLossIdeal.τ Cert.RLossIdeal.sig) → Buf (Elt Ideal) ℓ) (g' : Dev Cert.RLossIdeal.nD → PrngReg), Pre_LossIdeal m →
    (∀ c : Dev Cert.LossIdeal.nD,
      m' ((c.tc : Thread Cert.RLossIdeal.nD Cert.RLossIdeal.τ).loc Cert.RLossIdeal.main_arg0) = m ((c.tc : Thread Cert.LossIdeal.nD Cert.LossIdeal.τ).loc Cert.LossIdeal.main_arg0)
      ∧ m' ((c.tc : Thread Cert.RLossIdeal.nD Cert.RLossIdeal.τ).loc Cert.RLossIdeal.main_arg1) = m ((c.tc : Thread Cert.LossIdeal.nD Cert.LossIdeal.τ).loc Cert.LossIdeal.main_arg1)
      ∧ m' ((c.tc : Thread Cert.RLossIdeal.nD Cert.RLossIdeal.τ).loc Cert.RLossIdeal.main_arg2) = m ((c.tc : Thread Cert.LossIdeal.nD Cert.LossIdeal.τ).loc Cert.LossIdeal.main_arg2)
      ∧ m' ((c.tc : Thread Cert.RLossIdeal.nD Cert.RLossIdeal.τ).loc Cert.RLossIdeal.main_arg3) = m ((c.tc : Thread Cert.LossIdeal.nD Cert.LossIdeal.τ).loc Cert.LossIdeal.main_arg3)
      ∧ m' ((c.tc : Thread Cert.RLossIdeal.nD Cert.RLossIdeal.τ).loc Cert.RLossIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v53) = v0 c
          ∧ r.2.mem ((c.tc : Thread Cert.RLossIdeal.nD Cert.RLossIdeal.τ).loc Cert.RLossIdeal.main_v33) = v1 c
          ∧ r.2.mem ((c.tc : Thread Cert.RLossIdeal.nD Cert.RLossIdeal.τ).loc Cert.RLossIdeal.main_v36) = v2 c
          ∧ r.2.mem ((c.tc : Thread Cert.RLossIdeal.nD Cert.RLossIdeal.τ).loc Cert.RLossIdeal.main_v54) = v3 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3)
          ∧ r.2.mem ((c.tc : Thread Cert.RLossIdeal.nD Cert.RLossIdeal.τ).loc Cert.RLossIdeal.main_arg4) = m' ((c.tc : Thread Cert.RLossIdeal.nD Cert.RLossIdeal.τ).loc Cert.RLossIdeal.main_arg4))

def preserves_ProjB_ProjBIdeal : Prop :=
  True

def algebraic_ProjBIdeal_RProjBIdeal [hProjBIdeal : Cert.ProjBIdeal.Facts] [hRProjBIdeal : Cert.RProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.RProjBIdeal.nD Cert.RProjBIdeal.τ Cert.RProjBIdeal.sig) → Buf (Elt Ideal) ℓ) (g' : Dev Cert.RProjBIdeal.nD → PrngReg), Pre_ProjBIdeal m →
    (∀ c : Dev Cert.ProjBIdeal.nD,
      m' ((c.tc : Thread Cert.RProjBIdeal.nD Cert.RProjBIdeal.τ).loc Cert.RProjBIdeal.main_arg0) = m ((c.tc : Thread Cert.ProjBIdeal.nD Cert.ProjBIdeal.τ).loc Cert.ProjBIdeal.main_arg0)
      ∧ m' ((c.tc : Thread Cert.RProjBIdeal.nD Cert.RProjBIdeal.τ).loc Cert.RProjBIdeal.main_arg1) = m ((c.tc : Thread Cert.ProjBIdeal.nD Cert.ProjBIdeal.τ).loc Cert.ProjBIdeal.main_arg1)
      ∧ m' ((c.tc : Thread Cert.RProjBIdeal.nD Cert.RProjBIdeal.τ).loc Cert.RProjBIdeal.main_arg2) = m ((c.tc : Thread Cert.ProjBIdeal.nD Cert.ProjBIdeal.τ).loc Cert.ProjBIdeal.main_arg2)
      ∧ m' ((c.tc : Thread Cert.RProjBIdeal.nD Cert.RProjBIdeal.τ).loc Cert.RProjBIdeal.main_arg3) = m ((c.tc : Thread Cert.ProjBIdeal.nD Cert.ProjBIdeal.τ).loc Cert.ProjBIdeal.main_arg3)
      ∧ m' ((c.tc : Thread Cert.RProjBIdeal.nD Cert.RProjBIdeal.τ).loc Cert.RProjBIdeal.main_arg4) = m ((c.tc : Thread Cert.ProjBIdeal.nD Cert.ProjBIdeal.τ).loc Cert.ProjBIdeal.main_arg4)) →
    ∃ (v0 : (c : Dev Cert.ProjBIdeal.nD) → Buf (Elt Ideal) ((c.tc : Thread Cert.ProjBIdeal.nD Cert.ProjBIdeal.τ).loc Cert.ProjBIdeal.main_v0_0)) (v1 : (c : Dev Cert.ProjBIdeal.nD) → Buf (Elt Ideal) ((c.tc : Thread Cert.ProjBIdeal.nD Cert.ProjBIdeal.τ).loc Cert.ProjBIdeal.main_v0_1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0_0) = v0 c
          ∧ r.2.mem ((c.tc : Thread Cert.ProjBIdeal.nD Cert.ProjBIdeal.τ).loc Cert.ProjBIdeal.main_v0_1) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ θ_run (Cert.RProjBIdeal.defs (F := Ideal)) (onTc (τ := Cert.RProjBIdeal.τ) (Cert.RProjBIdeal.main (F := Ideal))) ⟨m', fun _ => 0, g'⟩ (fun r => ∀ c : Dev Cert.RProjBIdeal.nD,
          r.2.mem ((c.tc : Thread Cert.RProjBIdeal.nD Cert.RProjBIdeal.τ).loc Cert.RProjBIdeal.main_v39) = v0 c
          ∧ r.2.mem ((c.tc : Thread Cert.RProjBIdeal.nD Cert.RProjBIdeal.τ).loc Cert.RProjBIdeal.main_v22) = v1 c
          ∧ r.2.mem ((c.tc : Thread Cert.RProjBIdeal.nD Cert.RProjBIdeal.τ).loc Cert.RProjBIdeal.main_arg0) = m' ((c.tc : Thread Cert.RProjBIdeal.nD Cert.RProjBIdeal.τ).loc Cert.RProjBIdeal.main_arg0)
          ∧ r.2.mem ((c.tc : Thread Cert.RProjBIdeal.nD Cert.RProjBIdeal.τ).loc Cert.RProjBIdeal.main_arg1) = m' ((c.tc : Thread Cert.RProjBIdeal.nD Cert.RProjBIdeal.τ).loc Cert.RProjBIdeal.main_arg1)
          ∧ r.2.mem ((c.tc : Thread Cert.RProjBIdeal.nD Cert.RProjBIdeal.τ).loc Cert.RProjBIdeal.main_arg2) = m' ((c.tc : Thread Cert.RProjBIdeal.nD Cert.RProjBIdeal.τ).loc Cert.RProjBIdeal.main_arg2)
          ∧ r.2.mem ((c.tc : Thread Cert.RProjBIdeal.nD Cert.RProjBIdeal.τ).loc Cert.RProjBIdeal.main_arg3) = m' ((c.tc : Thread Cert.RProjBIdeal.nD Cert.RProjBIdeal.τ).loc Cert.RProjBIdeal.main_arg3)
          ∧ r.2.mem ((c.tc : Thread Cert.RProjBIdeal.nD Cert.RProjBIdeal.τ).loc Cert.RProjBIdeal.main_arg4) = m' ((c.tc : Thread Cert.RProjBIdeal.nD Cert.RProjBIdeal.τ).loc Cert.RProjBIdeal.main_arg4))

def preserves_MixF_MixFIdeal : Prop :=
  True

def algebraic_MixFIdeal_RMixFIdeal [hMixFIdeal : Cert.MixFIdeal.Facts] [hRMixFIdeal : Cert.RMixFIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.RMixFIdeal.nD Cert.RMixFIdeal.τ Cert.RMixFIdeal.sig) → Buf (Elt Ideal) ℓ) (g' : Dev Cert.RMixFIdeal.nD → PrngReg), Pre_MixFIdeal m →
    (∀ c : Dev Cert.MixFIdeal.nD,
      m' ((c.tc : Thread Cert.RMixFIdeal.nD Cert.RMixFIdeal.τ).loc Cert.RMixFIdeal.main_arg0) = m ((c.tc : Thread Cert.MixFIdeal.nD Cert.MixFIdeal.τ).loc Cert.MixFIdeal.main_arg0)
      ∧ m' ((c.tc : Thread Cert.RMixFIdeal.nD Cert.RMixFIdeal.τ).loc Cert.RMixFIdeal.main_arg1) = m ((c.tc : Thread Cert.MixFIdeal.nD Cert.MixFIdeal.τ).loc Cert.MixFIdeal.main_arg1)
      ∧ m' ((c.tc : Thread Cert.RMixFIdeal.nD Cert.RMixFIdeal.τ).loc Cert.RMixFIdeal.main_arg2) = m ((c.tc : Thread Cert.MixFIdeal.nD Cert.MixFIdeal.τ).loc Cert.MixFIdeal.main_arg2)
      ∧ m' ((c.tc : Thread Cert.RMixFIdeal.nD Cert.RMixFIdeal.τ).loc Cert.RMixFIdeal.main_arg3) = m ((c.tc : Thread Cert.MixFIdeal.nD Cert.MixFIdeal.τ).loc Cert.MixFIdeal.main_arg3)
      ∧ m' ((c.tc : Thread Cert.RMixFIdeal.nD Cert.RMixFIdeal.τ).loc Cert.RMixFIdeal.main_arg4) = m ((c.tc : Thread Cert.MixFIdeal.nD Cert.MixFIdeal.τ).loc Cert.MixFIdeal.main_arg4)
      ∧ m' ((c.tc : Thread Cert.RMixFIdeal.nD Cert.RMixFIdeal.τ).loc Cert.RMixFIdeal.main_arg5) = m ((c.tc : Thread Cert.MixFIdeal.nD Cert.MixFIdeal.τ).loc Cert.MixFIdeal.main_arg5)) →
    ∃ (v0 : (c : Dev Cert.MixFIdeal.nD) → Buf (Elt Ideal) ((c.tc : Thread Cert.MixFIdeal.nD Cert.MixFIdeal.τ).loc Cert.MixFIdeal.main_v0_0)) (v1 : (c : Dev Cert.MixFIdeal.nD) → Buf (Elt Ideal) ((c.tc : Thread Cert.MixFIdeal.nD Cert.MixFIdeal.τ).loc Cert.MixFIdeal.main_v0_1)) (v2 : (c : Dev Cert.MixFIdeal.nD) → Buf (Elt Ideal) ((c.tc : Thread Cert.MixFIdeal.nD Cert.MixFIdeal.τ).loc Cert.MixFIdeal.main_v0_2)) (v3 : (c : Dev Cert.MixFIdeal.nD) → Buf (Elt Ideal) ((c.tc : Thread Cert.MixFIdeal.nD Cert.MixFIdeal.τ).loc Cert.MixFIdeal.main_v0_3)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v0_0) = v0 c
          ∧ r.2.mem ((c.tc : Thread Cert.MixFIdeal.nD Cert.MixFIdeal.τ).loc Cert.MixFIdeal.main_v0_1) = v1 c
          ∧ r.2.mem ((c.tc : Thread Cert.MixFIdeal.nD Cert.MixFIdeal.τ).loc Cert.MixFIdeal.main_v0_2) = v2 c
          ∧ r.2.mem ((c.tc : Thread Cert.MixFIdeal.nD Cert.MixFIdeal.τ).loc Cert.MixFIdeal.main_v0_3) = v3 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5))
      ∧ θ_run (Cert.RMixFIdeal.defs (F := Ideal)) (onTc (τ := Cert.RMixFIdeal.τ) (Cert.RMixFIdeal.main (F := Ideal))) ⟨m', fun _ => 0, g'⟩ (fun r => ∀ c : Dev Cert.RMixFIdeal.nD,
          r.2.mem ((c.tc : Thread Cert.RMixFIdeal.nD Cert.RMixFIdeal.τ).loc Cert.RMixFIdeal.main_v2) = v0 c
          ∧ r.2.mem ((c.tc : Thread Cert.RMixFIdeal.nD Cert.RMixFIdeal.τ).loc Cert.RMixFIdeal.main_v5) = v1 c
          ∧ r.2.mem ((c.tc : Thread Cert.RMixFIdeal.nD Cert.RMixFIdeal.τ).loc Cert.RMixFIdeal.main_v18) = v2 c
          ∧ r.2.mem ((c.tc : Thread Cert.RMixFIdeal.nD Cert.RMixFIdeal.τ).loc Cert.RMixFIdeal.main_v31) = v3 c
          ∧ r.2.mem ((c.tc : Thread Cert.RMixFIdeal.nD Cert.RMixFIdeal.τ).loc Cert.RMixFIdeal.main_arg0) = m' ((c.tc : Thread Cert.RMixFIdeal.nD Cert.RMixFIdeal.τ).loc Cert.RMixFIdeal.main_arg0)
          ∧ r.2.mem ((c.tc : Thread Cert.RMixFIdeal.nD Cert.RMixFIdeal.τ).loc Cert.RMixFIdeal.main_arg1) = m' ((c.tc : Thread Cert.RMixFIdeal.nD Cert.RMixFIdeal.τ).loc Cert.RMixFIdeal.main_arg1)
          ∧ r.2.mem ((c.tc : Thread Cert.RMixFIdeal.nD Cert.RMixFIdeal.τ).loc Cert.RMixFIdeal.main_arg2) = m' ((c.tc : Thread Cert.RMixFIdeal.nD Cert.RMixFIdeal.τ).loc Cert.RMixFIdeal.main_arg2)
          ∧ r.2.mem ((c.tc : Thread Cert.RMixFIdeal.nD Cert.RMixFIdeal.τ).loc Cert.RMixFIdeal.main_arg3) = m' ((c.tc : Thread Cert.RMixFIdeal.nD Cert.RMixFIdeal.τ).loc Cert.RMixFIdeal.main_arg3)
          ∧ r.2.mem ((c.tc : Thread Cert.RMixFIdeal.nD Cert.RMixFIdeal.τ).loc Cert.RMixFIdeal.main_arg4) = m' ((c.tc : Thread Cert.RMixFIdeal.nD Cert.RMixFIdeal.τ).loc Cert.RMixFIdeal.main_arg4)
          ∧ r.2.mem ((c.tc : Thread Cert.RMixFIdeal.nD Cert.RMixFIdeal.τ).loc Cert.RMixFIdeal.main_arg5) = m' ((c.tc : Thread Cert.RMixFIdeal.nD Cert.RMixFIdeal.τ).loc Cert.RMixFIdeal.main_arg5))

def preserves_MixB_MixBIdeal : Prop :=
  True

def algebraic_MixBIdeal_RMixBIdeal [hMixBIdeal : Cert.MixBIdeal.Facts] [hRMixBIdeal : Cert.RMixBIdeal.Facts] : Prop :=
  ∀ (m : (ℓ : Loc Cert.MixBIdeal.nD Cert.MixBIdeal.τ Cert.MixBIdeal.sig) → Buf (Elt Ideal) ℓ) (g : Dev Cert.MixBIdeal.nD → PrngReg)
    (m' : (ℓ : Loc Cert.RMixBIdeal.nD Cert.RMixBIdeal.τ Cert.RMixBIdeal.sig) → Buf (Elt Ideal) ℓ) (g' : Dev Cert.RMixBIdeal.nD → PrngReg), Pre_MixBIdeal m →
    (∀ c : Dev Cert.MixBIdeal.nD,
      m' ((c.tc : Thread Cert.RMixBIdeal.nD Cert.RMixBIdeal.τ).loc Cert.RMixBIdeal.main_arg0) = m ((c.tc : Thread Cert.MixBIdeal.nD Cert.MixBIdeal.τ).loc Cert.MixBIdeal.main_arg0)
      ∧ m' ((c.tc : Thread Cert.RMixBIdeal.nD Cert.RMixBIdeal.τ).loc Cert.RMixBIdeal.main_arg1) = m ((c.tc : Thread Cert.MixBIdeal.nD Cert.MixBIdeal.τ).loc Cert.MixBIdeal.main_arg1)
      ∧ m' ((c.tc : Thread Cert.RMixBIdeal.nD Cert.RMixBIdeal.τ).loc Cert.RMixBIdeal.main_arg2) = m ((c.tc : Thread Cert.MixBIdeal.nD Cert.MixBIdeal.τ).loc Cert.MixBIdeal.main_arg2)) →
    ∃ (v0 : (c : Dev Cert.MixBIdeal.nD) → Buf (Elt Ideal) ((c.tc : Thread Cert.MixBIdeal.nD Cert.MixBIdeal.τ).loc Cert.MixBIdeal.main_v1_0)) (v1 : (c : Dev Cert.MixBIdeal.nD) → Buf (Elt Ideal) ((c.tc : Thread Cert.MixBIdeal.nD Cert.MixBIdeal.τ).loc Cert.MixBIdeal.main_v1_1)) (v2 : (c : Dev Cert.MixBIdeal.nD) → Buf (Elt Ideal) ((c.tc : Thread Cert.MixBIdeal.nD Cert.MixBIdeal.τ).loc Cert.MixBIdeal.main_v1_2)),
      θ_run (Cert.MixBIdeal.defs (F := Ideal)) (onTc (τ := Cert.MixBIdeal.τ) (Cert.MixBIdeal.main (F := Ideal))) ⟨m, fun _ => 0, g⟩ (fun r => ∀ c : Dev Cert.MixBIdeal.nD,
          r.2.mem ((c.tc : Thread Cert.MixBIdeal.nD Cert.MixBIdeal.τ).loc Cert.MixBIdeal.main_v1_0) = v0 c
          ∧ r.2.mem ((c.tc : Thread Cert.MixBIdeal.nD Cert.MixBIdeal.τ).loc Cert.MixBIdeal.main_v1_1) = v1 c
          ∧ r.2.mem ((c.tc : Thread Cert.MixBIdeal.nD Cert.MixBIdeal.τ).loc Cert.MixBIdeal.main_v1_2) = v2 c
          ∧ r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
          ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
          ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2))
      ∧ θ_run (Cert.RMixBIdeal.defs (F := Ideal)) (onTc (τ := Cert.RMixBIdeal.τ) (Cert.RMixBIdeal.main (F := Ideal))) ⟨m', fun _ => 0, g'⟩ (fun r => ∀ c : Dev Cert.RMixBIdeal.nD,
          r.2.mem ((c.tc : Thread Cert.RMixBIdeal.nD Cert.RMixBIdeal.τ).loc Cert.RMixBIdeal.main_v15) = v0 c
          ∧ r.2.mem ((c.tc : Thread Cert.RMixBIdeal.nD Cert.RMixBIdeal.τ).loc Cert.RMixBIdeal.main_v18) = v1 c
          ∧ r.2.mem ((c.tc : Thread Cert.RMixBIdeal.nD Cert.RMixBIdeal.τ).loc Cert.RMixBIdeal.main_v14) = v2 c
          ∧ r.2.mem ((c.tc : Thread Cert.RMixBIdeal.nD Cert.RMixBIdeal.τ).loc Cert.RMixBIdeal.main_arg0) = m' ((c.tc : Thread Cert.RMixBIdeal.nD Cert.RMixBIdeal.τ).loc Cert.RMixBIdeal.main_arg0)
          ∧ r.2.mem ((c.tc : Thread Cert.RMixBIdeal.nD Cert.RMixBIdeal.τ).loc Cert.RMixBIdeal.main_arg1) = m' ((c.tc : Thread Cert.RMixBIdeal.nD Cert.RMixBIdeal.τ).loc Cert.RMixBIdeal.main_arg1)
          ∧ r.2.mem ((c.tc : Thread Cert.RMixBIdeal.nD Cert.RMixBIdeal.τ).loc Cert.RMixBIdeal.main_arg2) = m' ((c.tc : Thread Cert.RMixBIdeal.nD Cert.RMixBIdeal.τ).loc Cert.RMixBIdeal.main_arg2))

def preserves_ProjF_ProjFIdeal : Prop :=
  True

def algebraic_ProjFIdeal_RProjFIdeal [hProjFIdeal : Cert.ProjFIdeal.Facts] [hRProjFIdeal : Cert.RProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.RProjFIdeal.nD Cert.RProjFIdeal.τ Cert.RProjFIdeal.sig) → Buf (Elt Ideal) ℓ) (g' : Dev Cert.RProjFIdeal.nD → PrngReg), Pre_ProjFIdeal m →
    (∀ c : Dev Cert.ProjFIdeal.nD,
      m' ((c.tc : Thread Cert.RProjFIdeal.nD Cert.RProjFIdeal.τ).loc Cert.RProjFIdeal.main_arg0) = m ((c.tc : Thread Cert.ProjFIdeal.nD Cert.ProjFIdeal.τ).loc Cert.ProjFIdeal.main_arg0)
      ∧ m' ((c.tc : Thread Cert.RProjFIdeal.nD Cert.RProjFIdeal.τ).loc Cert.RProjFIdeal.main_arg1) = m ((c.tc : Thread Cert.ProjFIdeal.nD Cert.ProjFIdeal.τ).loc Cert.ProjFIdeal.main_arg1)
      ∧ m' ((c.tc : Thread Cert.RProjFIdeal.nD Cert.RProjFIdeal.τ).loc Cert.RProjFIdeal.main_arg2) = m ((c.tc : Thread Cert.ProjFIdeal.nD Cert.ProjFIdeal.τ).loc Cert.ProjFIdeal.main_arg2)) →
    ∃ (v0 : (c : Dev Cert.ProjFIdeal.nD) → Buf (Elt Ideal) ((c.tc : Thread Cert.ProjFIdeal.nD Cert.ProjFIdeal.τ).loc Cert.ProjFIdeal.main_v28_0)) (v1 : (c : Dev Cert.ProjFIdeal.nD) → Buf (Elt Ideal) ((c.tc : Thread Cert.ProjFIdeal.nD Cert.ProjFIdeal.τ).loc Cert.ProjFIdeal.main_v28_1)) (v2 : (c : Dev Cert.ProjFIdeal.nD) → Buf (Elt Ideal) ((c.tc : Thread Cert.ProjFIdeal.nD Cert.ProjFIdeal.τ).loc Cert.ProjFIdeal.main_v28_2)) (v3 : (c : Dev Cert.ProjFIdeal.nD) → Buf (Elt Ideal) ((c.tc : Thread Cert.ProjFIdeal.nD Cert.ProjFIdeal.τ).loc Cert.ProjFIdeal.main_v28_3)) (v4 : (c : Dev Cert.ProjFIdeal.nD) → Buf (Elt Ideal) ((c.tc : Thread Cert.ProjFIdeal.nD Cert.ProjFIdeal.τ).loc Cert.ProjFIdeal.main_v28_4)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v28_0) = v0 c
          ∧ r.2.mem ((c.tc : Thread Cert.ProjFIdeal.nD Cert.ProjFIdeal.τ).loc Cert.ProjFIdeal.main_v28_1) = v1 c
          ∧ r.2.mem ((c.tc : Thread Cert.ProjFIdeal.nD Cert.ProjFIdeal.τ).loc Cert.ProjFIdeal.main_v28_2) = v2 c
          ∧ r.2.mem ((c.tc : Thread Cert.ProjFIdeal.nD Cert.ProjFIdeal.τ).loc Cert.ProjFIdeal.main_v28_3) = v3 c
          ∧ r.2.mem ((c.tc : Thread Cert.ProjFIdeal.nD Cert.ProjFIdeal.τ).loc Cert.ProjFIdeal.main_v28_4) = v4 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1)
          ∧ r.2.mem ((c.tc : Thread Cert.ProjFIdeal.nD Cert.ProjFIdeal.τ).loc Cert.ProjFIdeal.main_arg2) = m ((c.tc : Thread Cert.ProjFIdeal.nD Cert.ProjFIdeal.τ).loc Cert.ProjFIdeal.main_arg2))
      ∧ θ_run (Cert.RProjFIdeal.defs (F := Ideal)) (onTc (τ := Cert.RProjFIdeal.τ) (Cert.RProjFIdeal.main (F := Ideal))) ⟨m', fun _ => 0, g'⟩ (fun r => ∀ c : Dev Cert.RProjFIdeal.nD,
          r.2.mem ((c.tc : Thread Cert.RProjFIdeal.nD Cert.RProjFIdeal.τ).loc Cert.RProjFIdeal.main_v80) = v0 c
          ∧ r.2.mem ((c.tc : Thread Cert.RProjFIdeal.nD Cert.RProjFIdeal.τ).loc Cert.RProjFIdeal.main_v81) = v1 c
          ∧ r.2.mem ((c.tc : Thread Cert.RProjFIdeal.nD Cert.RProjFIdeal.τ).loc Cert.RProjFIdeal.main_v85) = v2 c
          ∧ r.2.mem ((c.tc : Thread Cert.RProjFIdeal.nD Cert.RProjFIdeal.τ).loc Cert.RProjFIdeal.main_v89) = v3 c
          ∧ r.2.mem ((c.tc : Thread Cert.RProjFIdeal.nD Cert.RProjFIdeal.τ).loc Cert.RProjFIdeal.main_v92) = v4 c
          ∧ r.2.mem ((c.tc : Thread Cert.RProjFIdeal.nD Cert.RProjFIdeal.τ).loc Cert.RProjFIdeal.main_arg0) = m' ((c.tc : Thread Cert.RProjFIdeal.nD Cert.RProjFIdeal.τ).loc Cert.RProjFIdeal.main_arg0)
          ∧ r.2.mem ((c.tc : Thread Cert.RProjFIdeal.nD Cert.RProjFIdeal.τ).loc Cert.RProjFIdeal.main_arg1) = m' ((c.tc : Thread Cert.RProjFIdeal.nD Cert.RProjFIdeal.τ).loc Cert.RProjFIdeal.main_arg1)
          ∧ r.2.mem ((c.tc : Thread Cert.RProjFIdeal.nD Cert.RProjFIdeal.τ).loc Cert.RProjFIdeal.main_arg2) = m' ((c.tc : Thread Cert.RProjFIdeal.nD Cert.RProjFIdeal.τ).loc Cert.RProjFIdeal.main_arg2))

def preserves_AdamIn_AdamInIdeal : Prop :=
  True

def algebraic_AdamInIdeal_RAdamInIdeal [hAdamInIdeal : Cert.AdamInIdeal.Facts] [hRAdamInIdeal : Cert.RAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RAdamInIdeal.nD Cert.RAdamInIdeal.τ Cert.RAdamInIdeal.sig) → Buf (Elt Ideal) ℓ) (g' : Dev Cert.RAdamInIdeal.nD → PrngReg), Pre_AdamInIdeal m →
    (∀ c : Dev Cert.AdamInIdeal.nD,
      m' ((c.tc : Thread Cert.RAdamInIdeal.nD Cert.RAdamInIdeal.τ).loc Cert.RAdamInIdeal.main_arg0) = m ((c.tc : Thread Cert.AdamInIdeal.nD Cert.AdamInIdeal.τ).loc Cert.AdamInIdeal.main_arg0)
      ∧ m' ((c.tc : Thread Cert.RAdamInIdeal.nD Cert.RAdamInIdeal.τ).loc Cert.RAdamInIdeal.main_arg1) = m ((c.tc : Thread Cert.AdamInIdeal.nD Cert.AdamInIdeal.τ).loc Cert.AdamInIdeal.main_arg1)
      ∧ m' ((c.tc : Thread Cert.RAdamInIdeal.nD Cert.RAdamInIdeal.τ).loc Cert.RAdamInIdeal.main_arg2) = m ((c.tc : Thread Cert.AdamInIdeal.nD Cert.AdamInIdeal.τ).loc Cert.AdamInIdeal.main_arg2)
      ∧ m' ((c.tc : Thread Cert.RAdamInIdeal.nD Cert.RAdamInIdeal.τ).loc Cert.RAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RAdamInIdeal.defs (F := Ideal)) (onTc (τ := Cert.RAdamInIdeal.τ) (Cert.RAdamInIdeal.main (F := Ideal))) ⟨m', fun _ => 0, g'⟩ (fun r => ∀ c : Dev Cert.RAdamInIdeal.nD,
          r.2.mem ((c.tc : Thread Cert.RAdamInIdeal.nD Cert.RAdamInIdeal.τ).loc Cert.RAdamInIdeal.main_v23) = v0 c
          ∧ r.2.mem ((c.tc : Thread Cert.RAdamInIdeal.nD Cert.RAdamInIdeal.τ).loc Cert.RAdamInIdeal.main_v4) = v1 c
          ∧ r.2.mem ((c.tc : Thread Cert.RAdamInIdeal.nD Cert.RAdamInIdeal.τ).loc Cert.RAdamInIdeal.main_v10) = v2 c
          ∧ r.2.mem ((c.tc : Thread Cert.RAdamInIdeal.nD Cert.RAdamInIdeal.τ).loc Cert.RAdamInIdeal.main_arg0) = m' ((c.tc : Thread Cert.RAdamInIdeal.nD Cert.RAdamInIdeal.τ).loc Cert.RAdamInIdeal.main_arg0)
          ∧ r.2.mem ((c.tc : Thread Cert.RAdamInIdeal.nD Cert.RAdamInIdeal.τ).loc Cert.RAdamInIdeal.main_arg1) = m' ((c.tc : Thread Cert.RAdamInIdeal.nD Cert.RAdamInIdeal.τ).loc Cert.RAdamInIdeal.main_arg1)
          ∧ r.2.mem ((c.tc : Thread Cert.RAdamInIdeal.nD Cert.RAdamInIdeal.τ).loc Cert.RAdamInIdeal.main_arg2) = m' ((c.tc : Thread Cert.RAdamInIdeal.nD Cert.RAdamInIdeal.τ).loc Cert.RAdamInIdeal.main_arg2)
          ∧ r.2.mem ((c.tc : Thread Cert.RAdamInIdeal.nD Cert.RAdamInIdeal.τ).loc Cert.RAdamInIdeal.main_arg3) = m' ((c.tc : Thread Cert.RAdamInIdeal.nD Cert.RAdamInIdeal.τ).loc Cert.RAdamInIdeal.main_arg3))

def preserves_AdamOut_AdamOutIdeal : Prop :=
  True

def algebraic_AdamOutIdeal_RAdamOutIdeal [hAdamOutIdeal : Cert.AdamOutIdeal.Facts] [hRAdamOutIdeal : Cert.RAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RAdamOutIdeal.nD Cert.RAdamOutIdeal.τ Cert.RAdamOutIdeal.sig) → Buf (Elt Ideal) ℓ) (g' : Dev Cert.RAdamOutIdeal.nD → PrngReg), Pre_AdamOutIdeal m →
    (∀ c : Dev Cert.AdamOutIdeal.nD,
      m' ((c.tc : Thread Cert.RAdamOutIdeal.nD Cert.RAdamOutIdeal.τ).loc Cert.RAdamOutIdeal.main_arg0) = m ((c.tc : Thread Cert.AdamOutIdeal.nD Cert.AdamOutIdeal.τ).loc Cert.AdamOutIdeal.main_arg0)
      ∧ m' ((c.tc : Thread Cert.RAdamOutIdeal.nD Cert.RAdamOutIdeal.τ).loc Cert.RAdamOutIdeal.main_arg1) = m ((c.tc : Thread Cert.AdamOutIdeal.nD Cert.AdamOutIdeal.τ).loc Cert.AdamOutIdeal.main_arg1)
      ∧ m' ((c.tc : Thread Cert.RAdamOutIdeal.nD Cert.RAdamOutIdeal.τ).loc Cert.RAdamOutIdeal.main_arg2) = m ((c.tc : Thread Cert.AdamOutIdeal.nD Cert.AdamOutIdeal.τ).loc Cert.AdamOutIdeal.main_arg2)
      ∧ m' ((c.tc : Thread Cert.RAdamOutIdeal.nD Cert.RAdamOutIdeal.τ).loc Cert.RAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RAdamOutIdeal.defs (F := Ideal)) (onTc (τ := Cert.RAdamOutIdeal.τ) (Cert.RAdamOutIdeal.main (F := Ideal))) ⟨m', fun _ => 0, g'⟩ (fun r => ∀ c : Dev Cert.RAdamOutIdeal.nD,
          r.2.mem ((c.tc : Thread Cert.RAdamOutIdeal.nD Cert.RAdamOutIdeal.τ).loc Cert.RAdamOutIdeal.main_v23) = v0 c
          ∧ r.2.mem ((c.tc : Thread Cert.RAdamOutIdeal.nD Cert.RAdamOutIdeal.τ).loc Cert.RAdamOutIdeal.main_v4) = v1 c
          ∧ r.2.mem ((c.tc : Thread Cert.RAdamOutIdeal.nD Cert.RAdamOutIdeal.τ).loc Cert.RAdamOutIdeal.main_v10) = v2 c
          ∧ r.2.mem ((c.tc : Thread Cert.RAdamOutIdeal.nD Cert.RAdamOutIdeal.τ).loc Cert.RAdamOutIdeal.main_arg0) = m' ((c.tc : Thread Cert.RAdamOutIdeal.nD Cert.RAdamOutIdeal.τ).loc Cert.RAdamOutIdeal.main_arg0)
          ∧ r.2.mem ((c.tc : Thread Cert.RAdamOutIdeal.nD Cert.RAdamOutIdeal.τ).loc Cert.RAdamOutIdeal.main_arg1) = m' ((c.tc : Thread Cert.RAdamOutIdeal.nD Cert.RAdamOutIdeal.τ).loc Cert.RAdamOutIdeal.main_arg1)
          ∧ r.2.mem ((c.tc : Thread Cert.RAdamOutIdeal.nD Cert.RAdamOutIdeal.τ).loc Cert.RAdamOutIdeal.main_arg2) = m' ((c.tc : Thread Cert.RAdamOutIdeal.nD Cert.RAdamOutIdeal.τ).loc Cert.RAdamOutIdeal.main_arg2)
          ∧ r.2.mem ((c.tc : Thread Cert.RAdamOutIdeal.nD Cert.RAdamOutIdeal.τ).loc Cert.RAdamOutIdeal.main_arg3) = m' ((c.tc : Thread Cert.RAdamOutIdeal.nD Cert.RAdamOutIdeal.τ).loc Cert.RAdamOutIdeal.main_arg3))

def preserves_AdamGate_AdamGateIdeal : Prop :=
  True

def algebraic_AdamGateIdeal_RAdamGateIdeal [hAdamGateIdeal : Cert.AdamGateIdeal.Facts] [hRAdamGateIdeal : Cert.RAdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.RAdamGateIdeal.nD Cert.RAdamGateIdeal.τ Cert.RAdamGateIdeal.sig) → Buf (Elt Ideal) ℓ) (g' : Dev Cert.RAdamGateIdeal.nD → PrngReg), Pre_AdamGateIdeal m →
    (∀ c : Dev Cert.AdamGateIdeal.nD,
      m' ((c.tc : Thread Cert.RAdamGateIdeal.nD Cert.RAdamGateIdeal.τ).loc Cert.RAdamGateIdeal.main_arg0) = m ((c.tc : Thread Cert.AdamGateIdeal.nD Cert.AdamGateIdeal.τ).loc Cert.AdamGateIdeal.main_arg0)
      ∧ m' ((c.tc : Thread Cert.RAdamGateIdeal.nD Cert.RAdamGateIdeal.τ).loc Cert.RAdamGateIdeal.main_arg1) = m ((c.tc : Thread Cert.AdamGateIdeal.nD Cert.AdamGateIdeal.τ).loc Cert.AdamGateIdeal.main_arg1)
      ∧ m' ((c.tc : Thread Cert.RAdamGateIdeal.nD Cert.RAdamGateIdeal.τ).loc Cert.RAdamGateIdeal.main_arg2) = m ((c.tc : Thread Cert.AdamGateIdeal.nD Cert.AdamGateIdeal.τ).loc Cert.AdamGateIdeal.main_arg2)
      ∧ m' ((c.tc : Thread Cert.RAdamGateIdeal.nD Cert.RAdamGateIdeal.τ).loc Cert.RAdamGateIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.RAdamGateIdeal.defs (F := Ideal)) (onTc (τ := Cert.RAdamGateIdeal.τ) (Cert.RAdamGateIdeal.main (F := Ideal))) ⟨m', fun _ => 0, g'⟩ (fun r => ∀ c : Dev Cert.RAdamGateIdeal.nD,
          r.2.mem ((c.tc : Thread Cert.RAdamGateIdeal.nD Cert.RAdamGateIdeal.τ).loc Cert.RAdamGateIdeal.main_v23) = v0 c
          ∧ r.2.mem ((c.tc : Thread Cert.RAdamGateIdeal.nD Cert.RAdamGateIdeal.τ).loc Cert.RAdamGateIdeal.main_v4) = v1 c
          ∧ r.2.mem ((c.tc : Thread Cert.RAdamGateIdeal.nD Cert.RAdamGateIdeal.τ).loc Cert.RAdamGateIdeal.main_v10) = v2 c
          ∧ r.2.mem ((c.tc : Thread Cert.RAdamGateIdeal.nD Cert.RAdamGateIdeal.τ).loc Cert.RAdamGateIdeal.main_arg0) = m' ((c.tc : Thread Cert.RAdamGateIdeal.nD Cert.RAdamGateIdeal.τ).loc Cert.RAdamGateIdeal.main_arg0)
          ∧ r.2.mem ((c.tc : Thread Cert.RAdamGateIdeal.nD Cert.RAdamGateIdeal.τ).loc Cert.RAdamGateIdeal.main_arg1) = m' ((c.tc : Thread Cert.RAdamGateIdeal.nD Cert.RAdamGateIdeal.τ).loc Cert.RAdamGateIdeal.main_arg1)
          ∧ r.2.mem ((c.tc : Thread Cert.RAdamGateIdeal.nD Cert.RAdamGateIdeal.τ).loc Cert.RAdamGateIdeal.main_arg2) = m' ((c.tc : Thread Cert.RAdamGateIdeal.nD Cert.RAdamGateIdeal.τ).loc Cert.RAdamGateIdeal.main_arg2)
          ∧ r.2.mem ((c.tc : Thread Cert.RAdamGateIdeal.nD Cert.RAdamGateIdeal.τ).loc Cert.RAdamGateIdeal.main_arg3) = m' ((c.tc : Thread Cert.RAdamGateIdeal.nD Cert.RAdamGateIdeal.τ).loc Cert.RAdamGateIdeal.main_arg3))

def preserves_AdamUp_AdamUpIdeal : Prop :=
  True

def algebraic_AdamUpIdeal_RAdamUpIdeal [hAdamUpIdeal : Cert.AdamUpIdeal.Facts] [hRAdamUpIdeal : Cert.RAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RAdamUpIdeal.nD Cert.RAdamUpIdeal.τ Cert.RAdamUpIdeal.sig) → Buf (Elt Ideal) ℓ) (g' : Dev Cert.RAdamUpIdeal.nD → PrngReg), Pre_AdamUpIdeal m →
    (∀ c : Dev Cert.AdamUpIdeal.nD,
      m' ((c.tc : Thread Cert.RAdamUpIdeal.nD Cert.RAdamUpIdeal.τ).loc Cert.RAdamUpIdeal.main_arg0) = m ((c.tc : Thread Cert.AdamUpIdeal.nD Cert.AdamUpIdeal.τ).loc Cert.AdamUpIdeal.main_arg0)
      ∧ m' ((c.tc : Thread Cert.RAdamUpIdeal.nD Cert.RAdamUpIdeal.τ).loc Cert.RAdamUpIdeal.main_arg1) = m ((c.tc : Thread Cert.AdamUpIdeal.nD Cert.AdamUpIdeal.τ).loc Cert.AdamUpIdeal.main_arg1)
      ∧ m' ((c.tc : Thread Cert.RAdamUpIdeal.nD Cert.RAdamUpIdeal.τ).loc Cert.RAdamUpIdeal.main_arg2) = m ((c.tc : Thread Cert.AdamUpIdeal.nD Cert.AdamUpIdeal.τ).loc Cert.AdamUpIdeal.main_arg2)
      ∧ m' ((c.tc : Thread Cert.RAdamUpIdeal.nD Cert.RAdamUpIdeal.τ).loc Cert.RAdamUpIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.RAdamUpIdeal.defs (F := Ideal)) (onTc (τ := Cert.RAdamUpIdeal.τ) (Cert.RAdamUpIdeal.main (F := Ideal))) ⟨m', fun _ => 0, g'⟩ (fun r => ∀ c : Dev Cert.RAdamUpIdeal.nD,
          r.2.mem ((c.tc : Thread Cert.RAdamUpIdeal.nD Cert.RAdamUpIdeal.τ).loc Cert.RAdamUpIdeal.main_v23) = v0 c
          ∧ r.2.mem ((c.tc : Thread Cert.RAdamUpIdeal.nD Cert.RAdamUpIdeal.τ).loc Cert.RAdamUpIdeal.main_v4) = v1 c
          ∧ r.2.mem ((c.tc : Thread Cert.RAdamUpIdeal.nD Cert.RAdamUpIdeal.τ).loc Cert.RAdamUpIdeal.main_v10) = v2 c
          ∧ r.2.mem ((c.tc : Thread Cert.RAdamUpIdeal.nD Cert.RAdamUpIdeal.τ).loc Cert.RAdamUpIdeal.main_arg0) = m' ((c.tc : Thread Cert.RAdamUpIdeal.nD Cert.RAdamUpIdeal.τ).loc Cert.RAdamUpIdeal.main_arg0)
          ∧ r.2.mem ((c.tc : Thread Cert.RAdamUpIdeal.nD Cert.RAdamUpIdeal.τ).loc Cert.RAdamUpIdeal.main_arg1) = m' ((c.tc : Thread Cert.RAdamUpIdeal.nD Cert.RAdamUpIdeal.τ).loc Cert.RAdamUpIdeal.main_arg1)
          ∧ r.2.mem ((c.tc : Thread Cert.RAdamUpIdeal.nD Cert.RAdamUpIdeal.τ).loc Cert.RAdamUpIdeal.main_arg2) = m' ((c.tc : Thread Cert.RAdamUpIdeal.nD Cert.RAdamUpIdeal.τ).loc Cert.RAdamUpIdeal.main_arg2)
          ∧ r.2.mem ((c.tc : Thread Cert.RAdamUpIdeal.nD Cert.RAdamUpIdeal.τ).loc Cert.RAdamUpIdeal.main_arg3) = m' ((c.tc : Thread Cert.RAdamUpIdeal.nD Cert.RAdamUpIdeal.τ).loc Cert.RAdamUpIdeal.main_arg3))

def preserves_AdamDown_AdamDownIdeal : Prop :=
  True

def algebraic_AdamDownIdeal_RAdamDownIdeal [hAdamDownIdeal : Cert.AdamDownIdeal.Facts] [hRAdamDownIdeal : Cert.RAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RAdamDownIdeal.nD Cert.RAdamDownIdeal.τ Cert.RAdamDownIdeal.sig) → Buf (Elt Ideal) ℓ) (g' : Dev Cert.RAdamDownIdeal.nD → PrngReg), Pre_AdamDownIdeal m →
    (∀ c : Dev Cert.AdamDownIdeal.nD,
      m' ((c.tc : Thread Cert.RAdamDownIdeal.nD Cert.RAdamDownIdeal.τ).loc Cert.RAdamDownIdeal.main_arg0) = m ((c.tc : Thread Cert.AdamDownIdeal.nD Cert.AdamDownIdeal.τ).loc Cert.AdamDownIdeal.main_arg0)
      ∧ m' ((c.tc : Thread Cert.RAdamDownIdeal.nD Cert.RAdamDownIdeal.τ).loc Cert.RAdamDownIdeal.main_arg1) = m ((c.tc : Thread Cert.AdamDownIdeal.nD Cert.AdamDownIdeal.τ).loc Cert.AdamDownIdeal.main_arg1)
      ∧ m' ((c.tc : Thread Cert.RAdamDownIdeal.nD Cert.RAdamDownIdeal.τ).loc Cert.RAdamDownIdeal.main_arg2) = m ((c.tc : Thread Cert.AdamDownIdeal.nD Cert.AdamDownIdeal.τ).loc Cert.AdamDownIdeal.main_arg2)
      ∧ m' ((c.tc : Thread Cert.RAdamDownIdeal.nD Cert.RAdamDownIdeal.τ).loc Cert.RAdamDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.RAdamDownIdeal.defs (F := Ideal)) (onTc (τ := Cert.RAdamDownIdeal.τ) (Cert.RAdamDownIdeal.main (F := Ideal))) ⟨m', fun _ => 0, g'⟩ (fun r => ∀ c : Dev Cert.RAdamDownIdeal.nD,
          r.2.mem ((c.tc : Thread Cert.RAdamDownIdeal.nD Cert.RAdamDownIdeal.τ).loc Cert.RAdamDownIdeal.main_v23) = v0 c
          ∧ r.2.mem ((c.tc : Thread Cert.RAdamDownIdeal.nD Cert.RAdamDownIdeal.τ).loc Cert.RAdamDownIdeal.main_v4) = v1 c
          ∧ r.2.mem ((c.tc : Thread Cert.RAdamDownIdeal.nD Cert.RAdamDownIdeal.τ).loc Cert.RAdamDownIdeal.main_v10) = v2 c
          ∧ r.2.mem ((c.tc : Thread Cert.RAdamDownIdeal.nD Cert.RAdamDownIdeal.τ).loc Cert.RAdamDownIdeal.main_arg0) = m' ((c.tc : Thread Cert.RAdamDownIdeal.nD Cert.RAdamDownIdeal.τ).loc Cert.RAdamDownIdeal.main_arg0)
          ∧ r.2.mem ((c.tc : Thread Cert.RAdamDownIdeal.nD Cert.RAdamDownIdeal.τ).loc Cert.RAdamDownIdeal.main_arg1) = m' ((c.tc : Thread Cert.RAdamDownIdeal.nD Cert.RAdamDownIdeal.τ).loc Cert.RAdamDownIdeal.main_arg1)
          ∧ r.2.mem ((c.tc : Thread Cert.RAdamDownIdeal.nD Cert.RAdamDownIdeal.τ).loc Cert.RAdamDownIdeal.main_arg2) = m' ((c.tc : Thread Cert.RAdamDownIdeal.nD Cert.RAdamDownIdeal.τ).loc Cert.RAdamDownIdeal.main_arg2)
          ∧ r.2.mem ((c.tc : Thread Cert.RAdamDownIdeal.nD Cert.RAdamDownIdeal.τ).loc Cert.RAdamDownIdeal.main_arg3) = m' ((c.tc : Thread Cert.RAdamDownIdeal.nD Cert.RAdamDownIdeal.τ).loc Cert.RAdamDownIdeal.main_arg3))

def preserves_AdamSmall_AdamSmallIdeal : Prop :=
  True

def algebraic_AdamSmallIdeal_RAdamSmallIdeal [hAdamSmallIdeal : Cert.AdamSmallIdeal.Facts] [hRAdamSmallIdeal : Cert.RAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RAdamSmallIdeal.nD Cert.RAdamSmallIdeal.τ Cert.RAdamSmallIdeal.sig) → Buf (Elt Ideal) ℓ) (g' : Dev Cert.RAdamSmallIdeal.nD → PrngReg), Pre_AdamSmallIdeal m →
    (∀ c : Dev Cert.AdamSmallIdeal.nD,
      m' ((c.tc : Thread Cert.RAdamSmallIdeal.nD Cert.RAdamSmallIdeal.τ).loc Cert.RAdamSmallIdeal.main_arg0) = m ((c.tc : Thread Cert.AdamSmallIdeal.nD Cert.AdamSmallIdeal.τ).loc Cert.AdamSmallIdeal.main_arg0)
      ∧ m' ((c.tc : Thread Cert.RAdamSmallIdeal.nD Cert.RAdamSmallIdeal.τ).loc Cert.RAdamSmallIdeal.main_arg1) = m ((c.tc : Thread Cert.AdamSmallIdeal.nD Cert.AdamSmallIdeal.τ).loc Cert.AdamSmallIdeal.main_arg1)
      ∧ m' ((c.tc : Thread Cert.RAdamSmallIdeal.nD Cert.RAdamSmallIdeal.τ).loc Cert.RAdamSmallIdeal.main_arg2) = m ((c.tc : Thread Cert.AdamSmallIdeal.nD Cert.AdamSmallIdeal.τ).loc Cert.AdamSmallIdeal.main_arg2)
      ∧ m' ((c.tc : Thread Cert.RAdamSmallIdeal.nD Cert.RAdamSmallIdeal.τ).loc Cert.RAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RAdamSmallIdeal.defs (F := Ideal)) (onTc (τ := Cert.RAdamSmallIdeal.τ) (Cert.RAdamSmallIdeal.main (F := Ideal))) ⟨m', fun _ => 0, g'⟩ (fun r => ∀ c : Dev Cert.RAdamSmallIdeal.nD,
          r.2.mem ((c.tc : Thread Cert.RAdamSmallIdeal.nD Cert.RAdamSmallIdeal.τ).loc Cert.RAdamSmallIdeal.main_v23) = v0 c
          ∧ r.2.mem ((c.tc : Thread Cert.RAdamSmallIdeal.nD Cert.RAdamSmallIdeal.τ).loc Cert.RAdamSmallIdeal.main_v4) = v1 c
          ∧ r.2.mem ((c.tc : Thread Cert.RAdamSmallIdeal.nD Cert.RAdamSmallIdeal.τ).loc Cert.RAdamSmallIdeal.main_v10) = v2 c
          ∧ r.2.mem ((c.tc : Thread Cert.RAdamSmallIdeal.nD Cert.RAdamSmallIdeal.τ).loc Cert.RAdamSmallIdeal.main_arg0) = m' ((c.tc : Thread Cert.RAdamSmallIdeal.nD Cert.RAdamSmallIdeal.τ).loc Cert.RAdamSmallIdeal.main_arg0)
          ∧ r.2.mem ((c.tc : Thread Cert.RAdamSmallIdeal.nD Cert.RAdamSmallIdeal.τ).loc Cert.RAdamSmallIdeal.main_arg1) = m' ((c.tc : Thread Cert.RAdamSmallIdeal.nD Cert.RAdamSmallIdeal.τ).loc Cert.RAdamSmallIdeal.main_arg1)
          ∧ r.2.mem ((c.tc : Thread Cert.RAdamSmallIdeal.nD Cert.RAdamSmallIdeal.τ).loc Cert.RAdamSmallIdeal.main_arg2) = m' ((c.tc : Thread Cert.RAdamSmallIdeal.nD Cert.RAdamSmallIdeal.τ).loc Cert.RAdamSmallIdeal.main_arg2)
          ∧ r.2.mem ((c.tc : Thread Cert.RAdamSmallIdeal.nD Cert.RAdamSmallIdeal.τ).loc Cert.RAdamSmallIdeal.main_arg3) = m' ((c.tc : Thread Cert.RAdamSmallIdeal.nD Cert.RAdamSmallIdeal.τ).loc Cert.RAdamSmallIdeal.main_arg3))

def preserves_SumIn_SumInIdeal : Prop :=
  True

def algebraic_SumInIdeal_RSumInIdeal [hSumInIdeal : Cert.SumInIdeal.Facts] [hRSumInIdeal : Cert.RSumInIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.RSumInIdeal.nD Cert.RSumInIdeal.τ Cert.RSumInIdeal.sig) → Buf (Elt Ideal) ℓ) (g' : Dev Cert.RSumInIdeal.nD → PrngReg), Pre_SumInIdeal m →
    (∀ c : Dev Cert.SumInIdeal.nD,
      m' ((c.tc : Thread Cert.RSumInIdeal.nD Cert.RSumInIdeal.τ).loc Cert.RSumInIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.RSumInIdeal.defs (F := Ideal)) (onTc (τ := Cert.RSumInIdeal.τ) (Cert.RSumInIdeal.main (F := Ideal))) ⟨m', fun _ => 0, g'⟩ (fun r => ∀ c : Dev Cert.RSumInIdeal.nD,
          r.2.mem ((c.tc : Thread Cert.RSumInIdeal.nD Cert.RSumInIdeal.τ).loc Cert.RSumInIdeal.main_v1) = v0 c
          ∧ r.2.mem ((c.tc : Thread Cert.RSumInIdeal.nD Cert.RSumInIdeal.τ).loc Cert.RSumInIdeal.main_arg0) = m' ((c.tc : Thread Cert.RSumInIdeal.nD Cert.RSumInIdeal.τ).loc Cert.RSumInIdeal.main_arg0))

def preserves_SumOut_SumOutIdeal : Prop :=
  True

def algebraic_SumOutIdeal_RSumOutIdeal [hSumOutIdeal : Cert.SumOutIdeal.Facts] [hRSumOutIdeal : Cert.RSumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.RSumOutIdeal.nD Cert.RSumOutIdeal.τ Cert.RSumOutIdeal.sig) → Buf (Elt Ideal) ℓ) (g' : Dev Cert.RSumOutIdeal.nD → PrngReg), Pre_SumOutIdeal m →
    (∀ c : Dev Cert.SumOutIdeal.nD,
      m' ((c.tc : Thread Cert.RSumOutIdeal.nD Cert.RSumOutIdeal.τ).loc Cert.RSumOutIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.RSumOutIdeal.defs (F := Ideal)) (onTc (τ := Cert.RSumOutIdeal.τ) (Cert.RSumOutIdeal.main (F := Ideal))) ⟨m', fun _ => 0, g'⟩ (fun r => ∀ c : Dev Cert.RSumOutIdeal.nD,
          r.2.mem ((c.tc : Thread Cert.RSumOutIdeal.nD Cert.RSumOutIdeal.τ).loc Cert.RSumOutIdeal.main_v1) = v0 c
          ∧ r.2.mem ((c.tc : Thread Cert.RSumOutIdeal.nD Cert.RSumOutIdeal.τ).loc Cert.RSumOutIdeal.main_arg0) = m' ((c.tc : Thread Cert.RSumOutIdeal.nD Cert.RSumOutIdeal.τ).loc Cert.RSumOutIdeal.main_arg0))

def preserves_SumGate_SumGateIdeal : Prop :=
  True

def algebraic_SumGateIdeal_RSumGateIdeal [hSumGateIdeal : Cert.SumGateIdeal.Facts] [hRSumGateIdeal : Cert.RSumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.RSumGateIdeal.nD Cert.RSumGateIdeal.τ Cert.RSumGateIdeal.sig) → Buf (Elt Ideal) ℓ) (g' : Dev Cert.RSumGateIdeal.nD → PrngReg), Pre_SumGateIdeal m →
    (∀ c : Dev Cert.SumGateIdeal.nD,
      m' ((c.tc : Thread Cert.RSumGateIdeal.nD Cert.RSumGateIdeal.τ).loc Cert.RSumGateIdeal.main_arg0) = m ((c.tc : Thread Cert.SumGateIdeal.nD Cert.SumGateIdeal.τ).loc Cert.SumGateIdeal.main_arg0)) →
    ∃ (v0 : (c : Dev Cert.SumGateIdeal.nD) → Buf (Elt Ideal) ((c.tc : Thread Cert.SumGateIdeal.nD Cert.SumGateIdeal.τ).loc Cert.SumGateIdeal.main_v0)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v0) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ θ_run (Cert.RSumGateIdeal.defs (F := Ideal)) (onTc (τ := Cert.RSumGateIdeal.τ) (Cert.RSumGateIdeal.main (F := Ideal))) ⟨m', fun _ => 0, g'⟩ (fun r => ∀ c : Dev Cert.RSumGateIdeal.nD,
          r.2.mem ((c.tc : Thread Cert.RSumGateIdeal.nD Cert.RSumGateIdeal.τ).loc Cert.RSumGateIdeal.main_v1) = v0 c
          ∧ r.2.mem ((c.tc : Thread Cert.RSumGateIdeal.nD Cert.RSumGateIdeal.τ).loc Cert.RSumGateIdeal.main_arg0) = m' ((c.tc : Thread Cert.RSumGateIdeal.nD Cert.RSumGateIdeal.τ).loc Cert.RSumGateIdeal.main_arg0))

def preserves_SumUp_SumUpIdeal : Prop :=
  True

def algebraic_SumUpIdeal_RSumUpIdeal [hSumUpIdeal : Cert.SumUpIdeal.Facts] [hRSumUpIdeal : Cert.RSumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.RSumUpIdeal.nD Cert.RSumUpIdeal.τ Cert.RSumUpIdeal.sig) → Buf (Elt Ideal) ℓ) (g' : Dev Cert.RSumUpIdeal.nD → PrngReg), Pre_SumUpIdeal m →
    (∀ c : Dev Cert.SumUpIdeal.nD,
      m' ((c.tc : Thread Cert.RSumUpIdeal.nD Cert.RSumUpIdeal.τ).loc Cert.RSumUpIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.RSumUpIdeal.defs (F := Ideal)) (onTc (τ := Cert.RSumUpIdeal.τ) (Cert.RSumUpIdeal.main (F := Ideal))) ⟨m', fun _ => 0, g'⟩ (fun r => ∀ c : Dev Cert.RSumUpIdeal.nD,
          r.2.mem ((c.tc : Thread Cert.RSumUpIdeal.nD Cert.RSumUpIdeal.τ).loc Cert.RSumUpIdeal.main_v1) = v0 c
          ∧ r.2.mem ((c.tc : Thread Cert.RSumUpIdeal.nD Cert.RSumUpIdeal.τ).loc Cert.RSumUpIdeal.main_arg0) = m' ((c.tc : Thread Cert.RSumUpIdeal.nD Cert.RSumUpIdeal.τ).loc Cert.RSumUpIdeal.main_arg0))

def preserves_SumDown_SumDownIdeal : Prop :=
  True

def algebraic_SumDownIdeal_RSumDownIdeal [hSumDownIdeal : Cert.SumDownIdeal.Facts] [hRSumDownIdeal : Cert.RSumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.RSumDownIdeal.nD Cert.RSumDownIdeal.τ Cert.RSumDownIdeal.sig) → Buf (Elt Ideal) ℓ) (g' : Dev Cert.RSumDownIdeal.nD → PrngReg), Pre_SumDownIdeal m →
    (∀ c : Dev Cert.SumDownIdeal.nD,
      m' ((c.tc : Thread Cert.RSumDownIdeal.nD Cert.RSumDownIdeal.τ).loc Cert.RSumDownIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.RSumDownIdeal.defs (F := Ideal)) (onTc (τ := Cert.RSumDownIdeal.τ) (Cert.RSumDownIdeal.main (F := Ideal))) ⟨m', fun _ => 0, g'⟩ (fun r => ∀ c : Dev Cert.RSumDownIdeal.nD,
          r.2.mem ((c.tc : Thread Cert.RSumDownIdeal.nD Cert.RSumDownIdeal.τ).loc Cert.RSumDownIdeal.main_v1) = v0 c
          ∧ r.2.mem ((c.tc : Thread Cert.RSumDownIdeal.nD Cert.RSumDownIdeal.τ).loc Cert.RSumDownIdeal.main_arg0) = m' ((c.tc : Thread Cert.RSumDownIdeal.nD Cert.RSumDownIdeal.τ).loc Cert.RSumDownIdeal.main_arg0))

def preserves_SumSmall_SumSmallIdeal : Prop :=
  True

def algebraic_SumSmallIdeal_RSumSmallIdeal [hSumSmallIdeal : Cert.SumSmallIdeal.Facts] [hRSumSmallIdeal : Cert.RSumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.RSumSmallIdeal.nD Cert.RSumSmallIdeal.τ Cert.RSumSmallIdeal.sig) → Buf (Elt Ideal) ℓ) (g' : Dev Cert.RSumSmallIdeal.nD → PrngReg), Pre_SumSmallIdeal m →
    (∀ c : Dev Cert.SumSmallIdeal.nD,
      m' ((c.tc : Thread Cert.RSumSmallIdeal.nD Cert.RSumSmallIdeal.τ).loc Cert.RSumSmallIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.RSumSmallIdeal.defs (F := Ideal)) (onTc (τ := Cert.RSumSmallIdeal.τ) (Cert.RSumSmallIdeal.main (F := Ideal))) ⟨m', fun _ => 0, g'⟩ (fun r => ∀ c : Dev Cert.RSumSmallIdeal.nD,
          r.2.mem ((c.tc : Thread Cert.RSumSmallIdeal.nD Cert.RSumSmallIdeal.τ).loc Cert.RSumSmallIdeal.main_v0) = v0 c
          ∧ r.2.mem ((c.tc : Thread Cert.RSumSmallIdeal.nD Cert.RSumSmallIdeal.τ).loc Cert.RSumSmallIdeal.main_arg0) = m' ((c.tc : Thread Cert.RSumSmallIdeal.nD Cert.RSumSmallIdeal.τ).loc Cert.RSumSmallIdeal.main_arg0))

def preserves_DProj_DProjIdeal : Prop :=
  True

def algebraic_DProjIdeal_RDProjIdeal [hDProjIdeal : Cert.DProjIdeal.Facts] [hRDProjIdeal : Cert.RDProjIdeal.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.RDProjIdeal.nD Cert.RDProjIdeal.τ Cert.RDProjIdeal.sig) → Buf (Elt Ideal) ℓ) (g' : Dev Cert.RDProjIdeal.nD → PrngReg), Pre_DProjIdeal m →
    (∀ c : Dev Cert.DProjIdeal.nD,
      m' ((c.tc : Thread Cert.RDProjIdeal.nD Cert.RDProjIdeal.τ).loc Cert.RDProjIdeal.main_arg0) = m ((c.tc : Thread Cert.DProjIdeal.nD Cert.DProjIdeal.τ).loc Cert.DProjIdeal.main_arg0)
      ∧ m' ((c.tc : Thread Cert.RDProjIdeal.nD Cert.RDProjIdeal.τ).loc Cert.RDProjIdeal.main_arg1) = m ((c.tc : Thread Cert.DProjIdeal.nD Cert.DProjIdeal.τ).loc Cert.DProjIdeal.main_arg1)
      ∧ m' ((c.tc : Thread Cert.RDProjIdeal.nD Cert.RDProjIdeal.τ).loc Cert.RDProjIdeal.main_arg2) = m ((c.tc : Thread Cert.DProjIdeal.nD Cert.DProjIdeal.τ).loc Cert.DProjIdeal.main_arg2)
      ∧ m' ((c.tc : Thread Cert.RDProjIdeal.nD Cert.RDProjIdeal.τ).loc Cert.RDProjIdeal.main_arg3) = m ((c.tc : Thread Cert.DProjIdeal.nD Cert.DProjIdeal.τ).loc Cert.DProjIdeal.main_arg3)
      ∧ m' ((c.tc : Thread Cert.RDProjIdeal.nD Cert.RDProjIdeal.τ).loc Cert.RDProjIdeal.main_arg4) = m ((c.tc : Thread Cert.DProjIdeal.nD Cert.DProjIdeal.τ).loc Cert.DProjIdeal.main_arg4)
      ∧ m' ((c.tc : Thread Cert.RDProjIdeal.nD Cert.RDProjIdeal.τ).loc Cert.RDProjIdeal.main_arg5) = m ((c.tc : Thread Cert.DProjIdeal.nD Cert.DProjIdeal.τ).loc Cert.DProjIdeal.main_arg5)
      ∧ m' ((c.tc : Thread Cert.RDProjIdeal.nD Cert.RDProjIdeal.τ).loc Cert.RDProjIdeal.main_arg6) = m ((c.tc : Thread Cert.DProjIdeal.nD Cert.DProjIdeal.τ).loc Cert.DProjIdeal.main_arg6)
      ∧ m' ((c.tc : Thread Cert.RDProjIdeal.nD Cert.RDProjIdeal.τ).loc Cert.RDProjIdeal.main_arg7) = m ((c.tc : Thread Cert.DProjIdeal.nD Cert.DProjIdeal.τ).loc Cert.DProjIdeal.main_arg7)
      ∧ m' ((c.tc : Thread Cert.RDProjIdeal.nD Cert.RDProjIdeal.τ).loc Cert.RDProjIdeal.main_arg8) = m ((c.tc : Thread Cert.DProjIdeal.nD Cert.DProjIdeal.τ).loc Cert.DProjIdeal.main_arg8)
      ∧ m' ((c.tc : Thread Cert.RDProjIdeal.nD Cert.RDProjIdeal.τ).loc Cert.RDProjIdeal.main_arg9) = m ((c.tc : Thread Cert.DProjIdeal.nD Cert.DProjIdeal.τ).loc Cert.DProjIdeal.main_arg9)
      ∧ m' ((c.tc : Thread Cert.RDProjIdeal.nD Cert.RDProjIdeal.τ).loc Cert.RDProjIdeal.main_arg10) = m ((c.tc : Thread Cert.DProjIdeal.nD Cert.DProjIdeal.τ).loc Cert.DProjIdeal.main_arg10)
      ∧ m' ((c.tc : Thread Cert.RDProjIdeal.nD Cert.RDProjIdeal.τ).loc Cert.RDProjIdeal.main_arg11) = m ((c.tc : Thread Cert.DProjIdeal.nD Cert.DProjIdeal.τ).loc Cert.DProjIdeal.main_arg11)
      ∧ m' ((c.tc : Thread Cert.RDProjIdeal.nD Cert.RDProjIdeal.τ).loc Cert.RDProjIdeal.main_arg12) = m ((c.tc : Thread Cert.DProjIdeal.nD Cert.DProjIdeal.τ).loc Cert.DProjIdeal.main_arg12)
      ∧ m' ((c.tc : Thread Cert.RDProjIdeal.nD Cert.RDProjIdeal.τ).loc Cert.RDProjIdeal.main_arg13) = m ((c.tc : Thread Cert.DProjIdeal.nD Cert.DProjIdeal.τ).loc Cert.DProjIdeal.main_arg13)
      ∧ m' ((c.tc : Thread Cert.RDProjIdeal.nD Cert.RDProjIdeal.τ).loc Cert.RDProjIdeal.main_arg14) = m ((c.tc : Thread Cert.DProjIdeal.nD Cert.DProjIdeal.τ).loc Cert.DProjIdeal.main_arg14)
      ∧ m' ((c.tc : Thread Cert.RDProjIdeal.nD Cert.RDProjIdeal.τ).loc Cert.RDProjIdeal.main_arg15) = m ((c.tc : Thread Cert.DProjIdeal.nD Cert.DProjIdeal.τ).loc Cert.DProjIdeal.main_arg15)) →
    ∃ (v0 : (c : Dev Cert.DProjIdeal.nD) → Buf (Elt Ideal) ((c.tc : Thread Cert.DProjIdeal.nD Cert.DProjIdeal.τ).loc Cert.DProjIdeal.main_v28)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v28) = v0 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
          ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
          ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
          ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
          ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
          ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
          ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
          ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
          ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
          ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10)
          ∧ r.2.mem ((c.tc : Thread Cert.DProjIdeal.nD Cert.DProjIdeal.τ).loc Cert.DProjIdeal.main_arg11) = m ((c.tc : Thread Cert.DProjIdeal.nD Cert.DProjIdeal.τ).loc Cert.DProjIdeal.main_arg11)
          ∧ r.2.mem ((c.tc : Thread Cert.DProjIdeal.nD Cert.DProjIdeal.τ).loc Cert.DProjIdeal.main_arg12) = m ((c.tc : Thread Cert.DProjIdeal.nD Cert.DProjIdeal.τ).loc Cert.DProjIdeal.main_arg12)
          ∧ r.2.mem ((c.tc : Thread Cert.DProjIdeal.nD Cert.DProjIdeal.τ).loc Cert.DProjIdeal.main_arg13) = m ((c.tc : Thread Cert.DProjIdeal.nD Cert.DProjIdeal.τ).loc Cert.DProjIdeal.main_arg13)
          ∧ r.2.mem ((c.tc : Thread Cert.DProjIdeal.nD Cert.DProjIdeal.τ).loc Cert.DProjIdeal.main_arg14) = m ((c.tc : Thread Cert.DProjIdeal.nD Cert.DProjIdeal.τ).loc Cert.DProjIdeal.main_arg14)
          ∧ r.2.mem ((c.tc : Thread Cert.DProjIdeal.nD Cert.DProjIdeal.τ).loc Cert.DProjIdeal.main_arg15) = m ((c.tc : Thread Cert.DProjIdeal.nD Cert.DProjIdeal.τ).loc Cert.DProjIdeal.main_arg15))
      ∧ θ_run (Cert.RDProjIdeal.defs (F := Ideal)) (onTc (τ := Cert.RDProjIdeal.τ) (Cert.RDProjIdeal.main (F := Ideal))) ⟨m', fun _ => 0, g'⟩ (fun r => ∀ c : Dev Cert.RDProjIdeal.nD,
          r.2.mem ((c.tc : Thread Cert.RDProjIdeal.nD Cert.RDProjIdeal.τ).loc Cert.RDProjIdeal.main_v150) = v0 c
          ∧ r.2.mem ((c.tc : Thread Cert.RDProjIdeal.nD Cert.RDProjIdeal.τ).loc Cert.RDProjIdeal.main_arg0) = m' ((c.tc : Thread Cert.RDProjIdeal.nD Cert.RDProjIdeal.τ).loc Cert.RDProjIdeal.main_arg0)
          ∧ r.2.mem ((c.tc : Thread Cert.RDProjIdeal.nD Cert.RDProjIdeal.τ).loc Cert.RDProjIdeal.main_arg1) = m' ((c.tc : Thread Cert.RDProjIdeal.nD Cert.RDProjIdeal.τ).loc Cert.RDProjIdeal.main_arg1)
          ∧ r.2.mem ((c.tc : Thread Cert.RDProjIdeal.nD Cert.RDProjIdeal.τ).loc Cert.RDProjIdeal.main_arg2) = m' ((c.tc : Thread Cert.RDProjIdeal.nD Cert.RDProjIdeal.τ).loc Cert.RDProjIdeal.main_arg2)
          ∧ r.2.mem ((c.tc : Thread Cert.RDProjIdeal.nD Cert.RDProjIdeal.τ).loc Cert.RDProjIdeal.main_arg3) = m' ((c.tc : Thread Cert.RDProjIdeal.nD Cert.RDProjIdeal.τ).loc Cert.RDProjIdeal.main_arg3)
          ∧ r.2.mem ((c.tc : Thread Cert.RDProjIdeal.nD Cert.RDProjIdeal.τ).loc Cert.RDProjIdeal.main_arg4) = m' ((c.tc : Thread Cert.RDProjIdeal.nD Cert.RDProjIdeal.τ).loc Cert.RDProjIdeal.main_arg4)
          ∧ r.2.mem ((c.tc : Thread Cert.RDProjIdeal.nD Cert.RDProjIdeal.τ).loc Cert.RDProjIdeal.main_arg5) = m' ((c.tc : Thread Cert.RDProjIdeal.nD Cert.RDProjIdeal.τ).loc Cert.RDProjIdeal.main_arg5)
          ∧ r.2.mem ((c.tc : Thread Cert.RDProjIdeal.nD Cert.RDProjIdeal.τ).loc Cert.RDProjIdeal.main_arg6) = m' ((c.tc : Thread Cert.RDProjIdeal.nD Cert.RDProjIdeal.τ).loc Cert.RDProjIdeal.main_arg6)
          ∧ r.2.mem ((c.tc : Thread Cert.RDProjIdeal.nD Cert.RDProjIdeal.τ).loc Cert.RDProjIdeal.main_arg7) = m' ((c.tc : Thread Cert.RDProjIdeal.nD Cert.RDProjIdeal.τ).loc Cert.RDProjIdeal.main_arg7)
          ∧ r.2.mem ((c.tc : Thread Cert.RDProjIdeal.nD Cert.RDProjIdeal.τ).loc Cert.RDProjIdeal.main_arg8) = m' ((c.tc : Thread Cert.RDProjIdeal.nD Cert.RDProjIdeal.τ).loc Cert.RDProjIdeal.main_arg8)
          ∧ r.2.mem ((c.tc : Thread Cert.RDProjIdeal.nD Cert.RDProjIdeal.τ).loc Cert.RDProjIdeal.main_arg9) = m' ((c.tc : Thread Cert.RDProjIdeal.nD Cert.RDProjIdeal.τ).loc Cert.RDProjIdeal.main_arg9)
          ∧ r.2.mem ((c.tc : Thread Cert.RDProjIdeal.nD Cert.RDProjIdeal.τ).loc Cert.RDProjIdeal.main_arg10) = m' ((c.tc : Thread Cert.RDProjIdeal.nD Cert.RDProjIdeal.τ).loc Cert.RDProjIdeal.main_arg10)
          ∧ r.2.mem ((c.tc : Thread Cert.RDProjIdeal.nD Cert.RDProjIdeal.τ).loc Cert.RDProjIdeal.main_arg11) = m' ((c.tc : Thread Cert.RDProjIdeal.nD Cert.RDProjIdeal.τ).loc Cert.RDProjIdeal.main_arg11)
          ∧ r.2.mem ((c.tc : Thread Cert.RDProjIdeal.nD Cert.RDProjIdeal.τ).loc Cert.RDProjIdeal.main_arg12) = m' ((c.tc : Thread Cert.RDProjIdeal.nD Cert.RDProjIdeal.τ).loc Cert.RDProjIdeal.main_arg12)
          ∧ r.2.mem ((c.tc : Thread Cert.RDProjIdeal.nD Cert.RDProjIdeal.τ).loc Cert.RDProjIdeal.main_arg13) = m' ((c.tc : Thread Cert.RDProjIdeal.nD Cert.RDProjIdeal.τ).loc Cert.RDProjIdeal.main_arg13)
          ∧ r.2.mem ((c.tc : Thread Cert.RDProjIdeal.nD Cert.RDProjIdeal.τ).loc Cert.RDProjIdeal.main_arg14) = m' ((c.tc : Thread Cert.RDProjIdeal.nD Cert.RDProjIdeal.τ).loc Cert.RDProjIdeal.main_arg14)
          ∧ r.2.mem ((c.tc : Thread Cert.RDProjIdeal.nD Cert.RDProjIdeal.τ).loc Cert.RDProjIdeal.main_arg15) = m' ((c.tc : Thread Cert.RDProjIdeal.nD Cert.RDProjIdeal.τ).loc Cert.RDProjIdeal.main_arg15))

def Claim : Prop :=
  ∃ (hKernel : Cert.Kernel.Facts) (hKernelIdeal : Cert.KernelIdeal.Facts) (hReferenceIdeal : Cert.ReferenceIdeal.Facts) (hWGate : Cert.WGate.Facts) (hWGateIdeal : Cert.WGateIdeal.Facts) (hRGateIdeal : Cert.RGateIdeal.Facts) (hWUp : Cert.WUp.Facts) (hWUpIdeal : Cert.WUpIdeal.Facts) (hRUpIdeal : Cert.RUpIdeal.Facts) (hWDown : Cert.WDown.Facts) (hWDownIdeal : Cert.WDownIdeal.Facts) (hRDownIdeal : Cert.RDownIdeal.Facts) (hWIn : Cert.WIn.Facts) (hWInIdeal : Cert.WInIdeal.Facts) (hRInIdeal : Cert.RInIdeal.Facts) (hWOut : Cert.WOut.Facts) (hWOutIdeal : Cert.WOutIdeal.Facts) (hROutIdeal : Cert.ROutIdeal.Facts) (hFfn : Cert.Ffn.Facts) (hFfnIdeal : Cert.FfnIdeal.Facts) (hRFfnIdeal : Cert.RFfnIdeal.Facts) (hLoss : Cert.Loss.Facts) (hLossIdeal : Cert.LossIdeal.Facts) (hRLossIdeal : Cert.RLossIdeal.Facts) (hProjB : Cert.ProjB.Facts) (hProjBIdeal : Cert.ProjBIdeal.Facts) (hRProjBIdeal : Cert.RProjBIdeal.Facts) (hMixF : Cert.MixF.Facts) (hMixFIdeal : Cert.MixFIdeal.Facts) (hRMixFIdeal : Cert.RMixFIdeal.Facts) (hMixB : Cert.MixB.Facts) (hMixBIdeal : Cert.MixBIdeal.Facts) (hRMixBIdeal : Cert.RMixBIdeal.Facts) (hProjF : Cert.ProjF.Facts) (hProjFIdeal : Cert.ProjFIdeal.Facts) (hRProjFIdeal : Cert.RProjFIdeal.Facts) (hAdamIn : Cert.AdamIn.Facts) (hAdamInIdeal : Cert.AdamInIdeal.Facts) (hRAdamInIdeal : Cert.RAdamInIdeal.Facts) (hAdamOut : Cert.AdamOut.Facts) (hAdamOutIdeal : Cert.AdamOutIdeal.Facts) (hRAdamOutIdeal : Cert.RAdamOutIdeal.Facts) (hAdamGate : Cert.AdamGate.Facts) (hAdamGateIdeal : Cert.AdamGateIdeal.Facts) (hRAdamGateIdeal : Cert.RAdamGateIdeal.Facts) (hAdamUp : Cert.AdamUp.Facts) (hAdamUpIdeal : Cert.AdamUpIdeal.Facts) (hRAdamUpIdeal : Cert.RAdamUpIdeal.Facts) (hAdamDown : Cert.AdamDown.Facts) (hAdamDownIdeal : Cert.AdamDownIdeal.Facts) (hRAdamDownIdeal : Cert.RAdamDownIdeal.Facts) (hAdamSmall : Cert.AdamSmall.Facts) (hAdamSmallIdeal : Cert.AdamSmallIdeal.Facts) (hRAdamSmallIdeal : Cert.RAdamSmallIdeal.Facts) (hSumIn : Cert.SumIn.Facts) (hSumInIdeal : Cert.SumInIdeal.Facts) (hRSumInIdeal : Cert.RSumInIdeal.Facts) (hSumOut : Cert.SumOut.Facts) (hSumOutIdeal : Cert.SumOutIdeal.Facts) (hRSumOutIdeal : Cert.RSumOutIdeal.Facts) (hSumGate : Cert.SumGate.Facts) (hSumGateIdeal : Cert.SumGateIdeal.Facts) (hRSumGateIdeal : Cert.RSumGateIdeal.Facts) (hSumUp : Cert.SumUp.Facts) (hSumUpIdeal : Cert.SumUpIdeal.Facts) (hRSumUpIdeal : Cert.RSumUpIdeal.Facts) (hSumDown : Cert.SumDown.Facts) (hSumDownIdeal : Cert.SumDownIdeal.Facts) (hRSumDownIdeal : Cert.RSumDownIdeal.Facts) (hSumSmall : Cert.SumSmall.Facts) (hSumSmallIdeal : Cert.SumSmallIdeal.Facts) (hRSumSmallIdeal : Cert.RSumSmallIdeal.Facts) (hDProj : Cert.DProj.Facts) (hDProjIdeal : Cert.DProjIdeal.Facts) (hRDProjIdeal : Cert.RDProjIdeal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_WGate (hWGate := hWGate)
    ∧ quiescent_WGateIdeal (hWGateIdeal := hWGateIdeal)
    ∧ quiescent_RGateIdeal (hRGateIdeal := hRGateIdeal)
    ∧ quiescent_WUp (hWUp := hWUp)
    ∧ quiescent_WUpIdeal (hWUpIdeal := hWUpIdeal)
    ∧ quiescent_RUpIdeal (hRUpIdeal := hRUpIdeal)
    ∧ quiescent_WDown (hWDown := hWDown)
    ∧ quiescent_WDownIdeal (hWDownIdeal := hWDownIdeal)
    ∧ quiescent_RDownIdeal (hRDownIdeal := hRDownIdeal)
    ∧ quiescent_WIn (hWIn := hWIn)
    ∧ quiescent_WInIdeal (hWInIdeal := hWInIdeal)
    ∧ quiescent_RInIdeal (hRInIdeal := hRInIdeal)
    ∧ quiescent_WOut (hWOut := hWOut)
    ∧ quiescent_WOutIdeal (hWOutIdeal := hWOutIdeal)
    ∧ quiescent_ROutIdeal (hROutIdeal := hROutIdeal)
    ∧ quiescent_Ffn (hFfn := hFfn)
    ∧ quiescent_FfnIdeal (hFfnIdeal := hFfnIdeal)
    ∧ quiescent_FfnIdeal_pre_all_finite (hFfnIdeal := hFfnIdeal) (hPre_all_finite := hPre_all_finite)
    ∧ quiescent_RFfnIdeal (hRFfnIdeal := hRFfnIdeal)
    ∧ quiescent_RFfnIdeal_pre_all_finite (hRFfnIdeal := hRFfnIdeal) (hPre_all_finite := hPre_all_finite)
    ∧ quiescent_Loss (hLoss := hLoss)
    ∧ quiescent_LossIdeal (hLossIdeal := hLossIdeal)
    ∧ quiescent_RLossIdeal (hRLossIdeal := hRLossIdeal)
    ∧ quiescent_ProjB (hProjB := hProjB)
    ∧ quiescent_ProjBIdeal (hProjBIdeal := hProjBIdeal)
    ∧ quiescent_RProjBIdeal (hRProjBIdeal := hRProjBIdeal)
    ∧ quiescent_MixF (hMixF := hMixF)
    ∧ quiescent_MixFIdeal (hMixFIdeal := hMixFIdeal)
    ∧ quiescent_RMixFIdeal (hRMixFIdeal := hRMixFIdeal)
    ∧ quiescent_MixB (hMixB := hMixB)
    ∧ quiescent_MixBIdeal (hMixBIdeal := hMixBIdeal)
    ∧ quiescent_RMixBIdeal (hRMixBIdeal := hRMixBIdeal)
    ∧ quiescent_ProjF (hProjF := hProjF)
    ∧ quiescent_ProjFIdeal (hProjFIdeal := hProjFIdeal)
    ∧ quiescent_RProjFIdeal (hRProjFIdeal := hRProjFIdeal)
    ∧ quiescent_AdamIn (hAdamIn := hAdamIn)
    ∧ quiescent_AdamInIdeal (hAdamInIdeal := hAdamInIdeal)
    ∧ quiescent_RAdamInIdeal (hRAdamInIdeal := hRAdamInIdeal)
    ∧ quiescent_AdamOut (hAdamOut := hAdamOut)
    ∧ quiescent_AdamOutIdeal (hAdamOutIdeal := hAdamOutIdeal)
    ∧ quiescent_RAdamOutIdeal (hRAdamOutIdeal := hRAdamOutIdeal)
    ∧ quiescent_AdamGate (hAdamGate := hAdamGate)
    ∧ quiescent_AdamGateIdeal (hAdamGateIdeal := hAdamGateIdeal)
    ∧ quiescent_RAdamGateIdeal (hRAdamGateIdeal := hRAdamGateIdeal)
    ∧ quiescent_AdamUp (hAdamUp := hAdamUp)
    ∧ quiescent_AdamUpIdeal (hAdamUpIdeal := hAdamUpIdeal)
    ∧ quiescent_RAdamUpIdeal (hRAdamUpIdeal := hRAdamUpIdeal)
    ∧ quiescent_AdamDown (hAdamDown := hAdamDown)
    ∧ quiescent_AdamDownIdeal (hAdamDownIdeal := hAdamDownIdeal)
    ∧ quiescent_RAdamDownIdeal (hRAdamDownIdeal := hRAdamDownIdeal)
    ∧ quiescent_AdamSmall (hAdamSmall := hAdamSmall)
    ∧ quiescent_AdamSmallIdeal (hAdamSmallIdeal := hAdamSmallIdeal)
    ∧ quiescent_RAdamSmallIdeal (hRAdamSmallIdeal := hRAdamSmallIdeal)
    ∧ quiescent_SumIn (hSumIn := hSumIn)
    ∧ quiescent_SumInIdeal (hSumInIdeal := hSumInIdeal)
    ∧ quiescent_RSumInIdeal (hRSumInIdeal := hRSumInIdeal)
    ∧ quiescent_SumOut (hSumOut := hSumOut)
    ∧ quiescent_SumOutIdeal (hSumOutIdeal := hSumOutIdeal)
    ∧ quiescent_RSumOutIdeal (hRSumOutIdeal := hRSumOutIdeal)
    ∧ quiescent_SumGate (hSumGate := hSumGate)
    ∧ quiescent_SumGateIdeal (hSumGateIdeal := hSumGateIdeal)
    ∧ quiescent_RSumGateIdeal (hRSumGateIdeal := hRSumGateIdeal)
    ∧ quiescent_SumUp (hSumUp := hSumUp)
    ∧ quiescent_SumUpIdeal (hSumUpIdeal := hSumUpIdeal)
    ∧ quiescent_RSumUpIdeal (hRSumUpIdeal := hRSumUpIdeal)
    ∧ quiescent_SumDown (hSumDown := hSumDown)
    ∧ quiescent_SumDownIdeal (hSumDownIdeal := hSumDownIdeal)
    ∧ quiescent_RSumDownIdeal (hRSumDownIdeal := hRSumDownIdeal)
    ∧ quiescent_SumSmall (hSumSmall := hSumSmall)
    ∧ quiescent_SumSmallIdeal (hSumSmallIdeal := hSumSmallIdeal)
    ∧ quiescent_RSumSmallIdeal (hRSumSmallIdeal := hRSumSmallIdeal)
    ∧ quiescent_DProj (hDProj := hDProj)
    ∧ quiescent_DProjIdeal (hDProjIdeal := hDProjIdeal)
    ∧ quiescent_RDProjIdeal (hRDProjIdeal := hRDProjIdeal)
    ∧ preserves_Kernel_KernelIdeal
    ∧ algebraic_KernelIdeal_ReferenceIdeal (hKernelIdeal := hKernelIdeal) (hReferenceIdeal := hReferenceIdeal)
    ∧ preserves_WGate_WGateIdeal
    ∧ algebraic_WGateIdeal_RGateIdeal (hWGateIdeal := hWGateIdeal) (hRGateIdeal := hRGateIdeal)
    ∧ preserves_WUp_WUpIdeal
    ∧ algebraic_WUpIdeal_RUpIdeal (hWUpIdeal := hWUpIdeal) (hRUpIdeal := hRUpIdeal)
    ∧ preserves_WDown_WDownIdeal
    ∧ algebraic_WDownIdeal_RDownIdeal (hWDownIdeal := hWDownIdeal) (hRDownIdeal := hRDownIdeal)
    ∧ preserves_WIn_WInIdeal
    ∧ algebraic_WInIdeal_RInIdeal (hWInIdeal := hWInIdeal) (hRInIdeal := hRInIdeal)
    ∧ preserves_WOut_WOutIdeal
    ∧ algebraic_WOutIdeal_ROutIdeal (hWOutIdeal := hWOutIdeal) (hROutIdeal := hROutIdeal)
    ∧ preserves_Ffn_FfnIdeal
    ∧ algebraic_FfnIdeal_RFfnIdeal_pre_all_finite (hFfnIdeal := hFfnIdeal) (hRFfnIdeal := hRFfnIdeal) (hPre_all_finite := hPre_all_finite)
    ∧ preserves_Loss_LossIdeal
    ∧ algebraic_LossIdeal_RLossIdeal (hLossIdeal := hLossIdeal) (hRLossIdeal := hRLossIdeal)
    ∧ preserves_ProjB_ProjBIdeal
    ∧ algebraic_ProjBIdeal_RProjBIdeal (hProjBIdeal := hProjBIdeal) (hRProjBIdeal := hRProjBIdeal)
    ∧ preserves_MixF_MixFIdeal
    ∧ algebraic_MixFIdeal_RMixFIdeal (hMixFIdeal := hMixFIdeal) (hRMixFIdeal := hRMixFIdeal)
    ∧ preserves_MixB_MixBIdeal
    ∧ algebraic_MixBIdeal_RMixBIdeal (hMixBIdeal := hMixBIdeal) (hRMixBIdeal := hRMixBIdeal)
    ∧ preserves_ProjF_ProjFIdeal
    ∧ algebraic_ProjFIdeal_RProjFIdeal (hProjFIdeal := hProjFIdeal) (hRProjFIdeal := hRProjFIdeal)
    ∧ preserves_AdamIn_AdamInIdeal
    ∧ algebraic_AdamInIdeal_RAdamInIdeal (hAdamInIdeal := hAdamInIdeal) (hRAdamInIdeal := hRAdamInIdeal)
    ∧ preserves_AdamOut_AdamOutIdeal
    ∧ algebraic_AdamOutIdeal_RAdamOutIdeal (hAdamOutIdeal := hAdamOutIdeal) (hRAdamOutIdeal := hRAdamOutIdeal)
    ∧ preserves_AdamGate_AdamGateIdeal
    ∧ algebraic_AdamGateIdeal_RAdamGateIdeal (hAdamGateIdeal := hAdamGateIdeal) (hRAdamGateIdeal := hRAdamGateIdeal)
    ∧ preserves_AdamUp_AdamUpIdeal
    ∧ algebraic_AdamUpIdeal_RAdamUpIdeal (hAdamUpIdeal := hAdamUpIdeal) (hRAdamUpIdeal := hRAdamUpIdeal)
    ∧ preserves_AdamDown_AdamDownIdeal
    ∧ algebraic_AdamDownIdeal_RAdamDownIdeal (hAdamDownIdeal := hAdamDownIdeal) (hRAdamDownIdeal := hRAdamDownIdeal)
    ∧ preserves_AdamSmall_AdamSmallIdeal
    ∧ algebraic_AdamSmallIdeal_RAdamSmallIdeal (hAdamSmallIdeal := hAdamSmallIdeal) (hRAdamSmallIdeal := hRAdamSmallIdeal)
    ∧ preserves_SumIn_SumInIdeal
    ∧ algebraic_SumInIdeal_RSumInIdeal (hSumInIdeal := hSumInIdeal) (hRSumInIdeal := hRSumInIdeal)
    ∧ preserves_SumOut_SumOutIdeal
    ∧ algebraic_SumOutIdeal_RSumOutIdeal (hSumOutIdeal := hSumOutIdeal) (hRSumOutIdeal := hRSumOutIdeal)
    ∧ preserves_SumGate_SumGateIdeal
    ∧ algebraic_SumGateIdeal_RSumGateIdeal (hSumGateIdeal := hSumGateIdeal) (hRSumGateIdeal := hRSumGateIdeal)
    ∧ preserves_SumUp_SumUpIdeal
    ∧ algebraic_SumUpIdeal_RSumUpIdeal (hSumUpIdeal := hSumUpIdeal) (hRSumUpIdeal := hRSumUpIdeal)
    ∧ preserves_SumDown_SumDownIdeal
    ∧ algebraic_SumDownIdeal_RSumDownIdeal (hSumDownIdeal := hSumDownIdeal) (hRSumDownIdeal := hRSumDownIdeal)
    ∧ preserves_SumSmall_SumSmallIdeal
    ∧ algebraic_SumSmallIdeal_RSumSmallIdeal (hSumSmallIdeal := hSumSmallIdeal) (hRSumSmallIdeal := hRSumSmallIdeal)
    ∧ preserves_DProj_DProjIdeal
    ∧ algebraic_DProjIdeal_RDProjIdeal (hDProjIdeal := hDProjIdeal) (hRDProjIdeal := hRDProjIdeal)
-- ==== Pre_all_finite.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S8192x1024 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x1024 .bf16 := Host.absf main_arg8
  let main_cst_14 : FVec F S_ .bf16 := constant S_ .bf16 0x7F80#16
  let main_v33 : FVec F S8192x1024 .bf16 := broadcastInDim S8192x1024 ![] bcast_S_S8192x1024 main_cst_14
  let main_v34 : IVec S8192x1024 1 := cmpf .olt main_v32 main_v33
  let main_c_15 : IVec S_ 1 := constantI S_ 1 1#1
  let main_v35 : IVec S_ 1 := (fun x v => Host.reduce IntOp.andi x v reducesTo_S8192x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2816x1024 .bf16) (main_arg5 : FVec F S2816x1024 .bf16) (main_arg6 : FVec F S2816x1024 .bf16) (main_arg7 : FVec F S8192x1024 .f32) (main_arg8 : FVec F S8192x1024 .bf16) (main_v3 : IVec S_ 1) (main_v7 : IVec S_ 1) (main_v11 : IVec S_ 1) (main_v15 : IVec S_ 1) : IVec S_ 1 :=
  let main_v16 : FVec F S2816x1024 .bf16 := Host.absf main_arg4
  let main_cst_6 : FVec F S_ .bf16 := constant S_ .bf16 0x7F80#16
  let main_v17 : FVec F S2816x1024 .bf16 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S2816x1024 .bf16 := Host.absf main_arg5
  let main_cst_8 : FVec F S_ .bf16 := constant S_ .bf16 0x7F80#16
  let main_v21 : FVec F S2816x1024 .bf16 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S2816x1024 .bf16 := Host.absf main_arg6
  let main_cst_10 : FVec F S_ .bf16 := constant S_ .bf16 0x7F80#16
  let main_v25 : FVec F S2816x1024 .bf16 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S2816x1024 .bf16) (main_arg5 : FVec F S2816x1024 .bf16) (main_arg6 : FVec F S2816x1024 .bf16) (main_arg7 : FVec F S8192x1024 .f32) (main_arg8 : FVec F S8192x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Kernel.lean ====
abbrev S6x8192x128 : Shape := ⟨3, ![6, 8192, 128]⟩
abbrev S8192x128 : Shape := ⟨2, ![8192, 128]⟩
abbrev S6x512x128 : Shape := ⟨3, ![6, 512, 128]⟩
abbrev S512x128 : Shape := ⟨2, ![512, 128]⟩
abbrev S128x128 : Shape := ⟨2, ![128, 128]⟩
abbrev S128x256 : Shape := ⟨2, ![128, 256]⟩
abbrev S256x256 : Shape := ⟨2, ![256, 256]⟩
abbrev S1x512x128 : Shape := ⟨3, ![1, 512, 128]⟩
abbrev S256x128 : Shape := ⟨2, ![256, 128]⟩
abbrev S128 : Shape := ⟨1, ![128]⟩
abbrev S128x1 : Shape := ⟨2, ![128, 1]⟩
abbrev S256x1 : Shape := ⟨2, ![256, 1]⟩
abbrev S1x128x128 : Shape := ⟨3, ![1, 128, 128]⟩

abbrev nBuf : Space → Nat
  | .hbm => 17
  | .vmem => 26
  | .smem => 0
  | _ => 0

abbrev bufTy : (tb : Table) → Fin (tcTables nBuf tb) → BufTy
  | .hbm, ⟨0, _⟩ => ⟨S6x8192x128, .bf16⟩
  | .hbm, ⟨1, _⟩ => ⟨S6x8192x128, .bf16⟩
  | .hbm, ⟨2, _⟩ => ⟨S6x8192x128, .bf16⟩
  | .hbm, ⟨3, _⟩ => ⟨S6x8192x128, .bf16⟩
  | .hbm, ⟨4, _⟩ => ⟨S8192x128, .f32⟩
  | .hbm, ⟨5, _⟩ => ⟨S8192x128, .f32⟩
  | .hbm, ⟨6, _⟩ => ⟨S6x8192x128, .bf16⟩
  | .hbm, ⟨7, _⟩ => ⟨S6x8192x128, .bf16⟩
  | .hbm, ⟨8, _⟩ => ⟨S6x8192x128, .bf16⟩
  | .hbm, ⟨9, _⟩ => ⟨S6x8192x128, .bf16⟩
  | .hbm, ⟨10, _⟩ => ⟨S6x8192x128, .bf16⟩
  | .hbm, ⟨11, _⟩ => ⟨S6x8192x128, .f32⟩
  | .hbm, ⟨12, _⟩ => ⟨S6x8192x128, .f32⟩
  | .hbm, ⟨13, _⟩ => ⟨S6x8192x128, .f32⟩
  | .hbm, ⟨14, _⟩ => ⟨S6x8192x128, .f32⟩
  | .hbm, ⟨15, _⟩ => ⟨S6x8192x128, .f32⟩
  | .hbm, ⟨16, _⟩ => ⟨S6x8192x128, .f32⟩
  | .local _ .vmem, ⟨0, _⟩ => ⟨S6x512x128, .bf16⟩
  | .local _ .vmem, ⟨1, _⟩ => ⟨S6x512x128, .bf16⟩
  | .local _ .vmem, ⟨2, _⟩ => ⟨S6x512x128, .bf16⟩
  | .local _ .vmem, ⟨3, _⟩ => ⟨S6x512x128, .bf16⟩
  | .local _ .vmem, ⟨4, _⟩ => ⟨S6x512x128, .bf16⟩
  | .local _ .vmem, ⟨5, _⟩ => ⟨S6x512x128, .bf16⟩
  | .local _ .vmem, ⟨6, _⟩ => ⟨S6x512x128, .bf16⟩
  | .local _ .vmem, ⟨7, _⟩ => ⟨S6x512x128, .bf16⟩
  | .local _ .vmem, ⟨8, _⟩ => ⟨S6x512x128, .bf16⟩
  | .local _ .vmem, ⟨9, _⟩ => ⟨S6x512x128, .bf16⟩
  | .local _ .vmem, ⟨10, _⟩ => ⟨S6x512x128, .bf16⟩
  | .local _ .vmem, ⟨11, _⟩ => ⟨S6x512x128, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S6x512x128, .bf16⟩
  | .local _ .vmem, ⟨17, _⟩ => ⟨S6x512x128, .bf16⟩
  | .local _ .vmem, ⟨18, _⟩ => ⟨S6x512x128, .bf16⟩
  | .local _ .vmem, ⟨19, _⟩ => ⟨S6x512x128, .bf16⟩
  | .local _ .vmem, ⟨20, _⟩ => ⟨S6x512x128, .bf16⟩
  | .local _ .vmem, ⟨21, _⟩ => ⟨S6x512x128, .bf16⟩
  | .local _ .vmem, ⟨22, _⟩ => ⟨S6x512x128, .bf16⟩
  | .local _ .vmem, ⟨23, _⟩ => ⟨S6x512x128, .bf16⟩
  | .local _ .vmem, ⟨24, _⟩ => ⟨S6x512x128, .bf16⟩
  | .local _ .vmem, ⟨25, _⟩ => ⟨S6x512x128, .bf16⟩
  | _, _ => ⟨S6x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![arg1.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![arg1.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![arg1.toNat, v11.toNat, c0_i32_5.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![arg1.toNat, v11.toNat, c0_i32_5.toNat]

abbrev stage0_0 : Fin 2 → Memref sig .tc .vmem S6x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S6x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S6x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S6x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S6x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S6x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S6x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S6x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S6x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S6x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S6x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S6x8192x128 : Shape := ⟨3, ![6, 8192, 128]⟩
abbrev S8192x128 : Shape := ⟨2, ![8192, 128]⟩
abbrev S6x8192x2x64 : Shape := ⟨4, ![6, 8192, 2, 64]⟩
abbrev S8192x6x2x64 : Shape := ⟨4, ![8192, 6, 2, 64]⟩
abbrev S8192x12x64 : Shape := ⟨3, ![8192, 12, 64]⟩
abbrev S8192x12 : Shape := ⟨2, ![8192, 12]⟩
abbrev S12x8192x8192 : Shape := ⟨3, ![12, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S12x8192 : Shape := ⟨2, ![12, 8192]⟩
abbrev S12x8192x1 : Shape := ⟨3, ![12, 8192, 1]⟩
abbrev S12x64x8192 : Shape := ⟨3, ![12, 64, 8192]⟩
abbrev S12x8192x64 : Shape := ⟨3, ![12, 8192, 64]⟩

abbrev nBuf : Space → Nat
  | .hbm => 88
  | .vmem => 0
  | .smem => 0
  | _ => 0

abbrev bufTy : (tb : Table) → Fin (tcTables nBuf tb) → BufTy
  | .hbm, ⟨0, _⟩ => ⟨S6x8192x128, .bf16⟩
  | .hbm, ⟨1, _⟩ => ⟨S6x8192x128, .bf16⟩
  | .hbm, ⟨2, _⟩ => ⟨S6x8192x128, .bf16⟩
  | .hbm, ⟨3, _⟩ => ⟨S6x8192x128, .bf16⟩
  | .hbm, ⟨4, _⟩ => ⟨S8192x128, .f32⟩
  | .hbm, ⟨5, _⟩ => ⟨S8192x128, .f32⟩
  | .hbm, ⟨6, _⟩ => ⟨S6x8192x128, .f32⟩
  | .hbm, ⟨7, _⟩ => ⟨S6x8192x128, .f32⟩
  | .hbm, ⟨8, _⟩ => ⟨S6x8192x128, .f32⟩
  | .hbm, ⟨9, _⟩ => ⟨S6x8192x128, .f32⟩
  | .hbm, ⟨10, _⟩ => ⟨S6x8192x2x64, .f32⟩
  | .hbm, ⟨11, _⟩ => ⟨S8192x6x2x64, .f32⟩
  | .hbm, ⟨12, _⟩ => ⟨S8192x12x64, .f32⟩
  | .hbm, ⟨13, _⟩ => ⟨S6x8192x2x64, .f32⟩
  | .hbm, ⟨14, _⟩ => ⟨S8192x6x2x64, .f32⟩
  | .hbm, ⟨15, _⟩ => ⟨S8192x12x64, .f32⟩
  | .hbm, ⟨16, _⟩ => ⟨S6x8192x2x64, .f32⟩
  | .hbm, ⟨17, _⟩ => ⟨S8192x6x2x64, .f32⟩
  | .hbm, ⟨18, _⟩ => ⟨S8192x12x64, .f32⟩
  | .hbm, ⟨19, _⟩ => ⟨S8192x12, .f32⟩
  | .hbm, ⟨20, _⟩ => ⟨S12x8192x8192, .f32⟩
  | .hbm, ⟨21, _⟩ => ⟨S_, .f32⟩
  | .hbm, ⟨22, _⟩ => ⟨S12x8192x8192, .f32⟩
  | .hbm, ⟨23, _⟩ => ⟨S12x8192x8192, .f32⟩
  | .hbm, ⟨24, _⟩ => ⟨S8192, .i32⟩
  | .hbm, ⟨25, _⟩ => ⟨S8192x1, .i32⟩
  | .hbm, ⟨26, _⟩ => ⟨S8192, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i1⟩
  | .hbm, ⟨34, _⟩ => ⟨S_, .i32⟩
  | .hbm, ⟨35, _⟩ => ⟨S8192x8192, .i32⟩
  | .hbm, ⟨36, _⟩ => ⟨S8192x8192, .i1⟩
  | .hbm, ⟨37, _⟩ => ⟨S8192x8192, .i1⟩
  | .hbm, ⟨38, _⟩ => ⟨S1x8192x8192, .i1⟩
  | .hbm, ⟨39, _⟩ => ⟨S_, .f32⟩
  | .hbm, ⟨40, _⟩ => ⟨S_, .f32⟩
  | .hbm, ⟨41, _⟩ => ⟨S12x8192x8192, .i1⟩
  | .hbm, ⟨42, _⟩ => ⟨S12x8192x8192, .f32⟩
  | .hbm, ⟨43, _⟩ => ⟨S12x8192x8192, .f32⟩
  | .hbm, ⟨44, _⟩ => ⟨S_, .f32⟩
  | .hbm, ⟨45, _⟩ => ⟨S12x8192x8192, .f32⟩
  | .hbm, ⟨46, _⟩ => ⟨S12x8192, .f32⟩
  | .hbm, ⟨47, _⟩ => ⟨S12x8192x1, .f32⟩
  | .hbm, ⟨48, _⟩ => ⟨S12x8192x8192, .f32⟩
  | .hbm, ⟨49, _⟩ => ⟨S12x8192x8192, .f32⟩
  | .hbm, ⟨50, _⟩ => ⟨S12x8192x8192, .f32⟩
  | .hbm, ⟨51, _⟩ => ⟨S12x64x8192, .f32⟩
  | .hbm, ⟨52, _⟩ => ⟨S8192x12x64, .f32⟩
  | .hbm, ⟨53, _⟩ => ⟨S_, .f32⟩
  | .hbm, ⟨54, _⟩ => ⟨S12x8192, .f32⟩
  | .hbm, ⟨55, _⟩ => ⟨S6x8192x2x64, .f32⟩
  | .hbm, ⟨56, _⟩ => ⟨S8192x6x2x64, .f32⟩
  | .hbm, ⟨57, _⟩ => ⟨S8192x12x64, .f32⟩
  | .hbm, ⟨58, _⟩ => ⟨S8192x12, .f32⟩
  | .hbm, ⟨59, _⟩ => ⟨S12x8192, .f32⟩
  | .hbm, ⟨60, _⟩ => ⟨S12x8192, .f32⟩
  | .hbm, ⟨61, _⟩ => ⟨S12x8192x8192, .f32⟩
  | .hbm, ⟨62, _⟩ => ⟨S12x64x8192, .f32⟩
  | .hbm, ⟨63, _⟩ => ⟨S12x8192x8192, .f32⟩
  | .hbm, ⟨64, _⟩ => ⟨S12x8192x8192, .f32⟩
  | .hbm, ⟨65, _⟩ => ⟨S12x64x8192, .f32⟩
  | .hbm, ⟨66, _⟩ => ⟨S8192x12x64, .f32⟩
  | .hbm, ⟨67, _⟩ => ⟨S12x8192x8192, .f32⟩
  | .hbm, ⟨68, _⟩ => ⟨S_, .f32⟩
  | .hbm, ⟨69, _⟩ => ⟨S12x8192x8192, .f32⟩
  | .hbm, ⟨70, _⟩ => ⟨S12x8192x8192, .f32⟩
  | .hbm, ⟨71, _⟩ => ⟨S_, .f32⟩
  | .hbm, ⟨72, _⟩ => ⟨S12x8192x8192, .f32⟩
  | .hbm, ⟨73, _⟩ => ⟨S12x8192x8192, .f32⟩
  | .hbm, ⟨74, _⟩ => ⟨S12x8192x64, .f32⟩
  | .hbm, ⟨75, _⟩ => ⟨S8192x12x64, .f32⟩
  | .hbm, ⟨76, _⟩ => ⟨S12x8192x64, .f32⟩
  | .hbm, ⟨77, _⟩ => ⟨S8192x12x64, .f32⟩
  | .hbm, ⟨78, _⟩ => ⟨S8192x6x2x64, .f32⟩
  | .hbm, ⟨79, _⟩ => ⟨S6x8192x2x64, .f32⟩
  | .hbm, ⟨80, _⟩ => ⟨S6x8192x128, .f32⟩
  | .hbm, ⟨81, _⟩ => ⟨S8192x6x2x64, .f32⟩
  | .hbm, ⟨82, _⟩ => ⟨S6x8192x2x64, .f32⟩
  | .hbm, ⟨83, _⟩ => ⟨S6x8192x128, .f32⟩
  | .hbm, ⟨84, _⟩ => ⟨S8192x6x2x64, .f32⟩
  | .hbm, ⟨85, _⟩ => ⟨S6x8192x2x64, .f32⟩
  | .hbm, ⟨86, _⟩ => ⟨S6x8192x128, .f32⟩
  | .hbm, ⟨87, _⟩ => ⟨S6x8192x128, .bf16⟩
  | _, _ => ⟨S6x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_call0_v0 : Ref sig .tc := ⟨.hbm, 40, rfl⟩
abbrev main_v30_1 : Ref sig .tc := ⟨.hbm, 41, rfl⟩
abbrev main_call0_v2 : Ref sig .tc := ⟨.hbm, 42, rfl⟩
abbrev main_v30_0 : Ref sig .tc := ⟨.hbm, 43, rfl⟩
abbrev main_call0_cst : Ref sig .tc := ⟨.hbm, 44, rfl⟩
abbrev main_v30_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call1_cst : Ref sig .tc := ⟨.hbm, 68, rfl⟩
abbrev main_call1_v0 : Ref sig .tc := ⟨.hbm, 69, rfl⟩
abbrev main_v52 : Ref sig .tc := ⟨.hbm, 70, rfl⟩
abbrev main_cst_3 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== WGate.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RGateIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WUp.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RUpIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WIn.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RInIdeal.lean ====
abbrev S8192x2560 : Shape := ⟨2, ![8192, 2560]⟩
abbrev S8192x1024 : Shape := ⟨2, ![8192, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S8192x1024, .f32⟩
  | .hbm, ⟨3, _⟩ => ⟨S8192x2560, .f32⟩
  | .hbm, ⟨4, _⟩ => ⟨S_, .f32⟩
  | .hbm, ⟨5, _⟩ => ⟨S1024x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | .hbm, ⟨10, _⟩ => ⟨S2560x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ROutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 50
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x2816, .bf16⟩
  | .hbm, ⟨42, _⟩ => ⟨S8192x2816, .bf16⟩
  | .hbm, ⟨43, _⟩ => ⟨S8192x2816, .bf16⟩
  | .hbm, ⟨44, _⟩ => ⟨S8192x2816, .bf16⟩
  | .hbm, ⟨45, _⟩ => ⟨S8192x2816, .bf16⟩
  | .hbm, ⟨46, _⟩ => ⟨S8192x1024, .f32⟩
  | .hbm, ⟨47, _⟩ => ⟨S8192x1024, .bf16⟩
  | .hbm, ⟨48, _⟩ => ⟨S1x1024, .f32⟩
  | .hbm, ⟨49, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S2816x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S2816x1024, .bf16⟩
  | .local _ .vmem, ⟨18, _⟩ => ⟨S2816x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S1x1024, .f32⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S1x1024, .f32⟩
  | .local _ .vmem, ⟨36, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg16_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem10_0 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem16_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== RFfnIdeal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩

abbrev nBuf : Space → Nat
  | .hbm => 140
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S2816x1024, .bf16⟩
  | 5 => ⟨S2816x1024, .bf16⟩
  | 6 => ⟨S2816x1024, .bf16⟩
  | 7 => ⟨S8192x1024, .f32⟩
  | 8 => ⟨S8192x1024, .bf16⟩
  | 9 => ⟨S1024x2816, .bf16⟩
  | 10 => ⟨S1024x2816, .bf16⟩
  | 11 => ⟨S1024x2816, .f32⟩
  | 12 => ⟨S1024x2816, .f32⟩
  | 13 => ⟨S2816x1024, .f32⟩
  | 14 => ⟨S_, .f32⟩
  | 15 => ⟨S8192x2816, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1024, .f32⟩
  | 52 => ⟨S8192x1024, .f32⟩
  | 53 => ⟨S8192x1024, .f32⟩
  | 54 => ⟨S8192x1024, .f32⟩
  | 55 => ⟨S8192x2816, .f32⟩
  | 56 => ⟨S8192x2816, .f32⟩
  | 57 => ⟨S8192x2816, .f32⟩
  | 58 => ⟨S8192x2816, .f32⟩
  | 59 => ⟨S_, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S8192x1024, .f32⟩
  | 74 => ⟨S8192x1024, .f32⟩
  | 75 => ⟨S_, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x1024, .f32⟩
  | 82 => ⟨S8192x2816, .f32⟩
  | 83 => ⟨S8192x2816, .f32⟩
  | 84 => ⟨S8192x2816, .f32⟩
  | 85 => ⟨S8192x2816, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1024, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x2816, .bf16⟩
  | 9 => ⟨S8192x2816, .bf16⟩
  | 10 => ⟨S8192x2816, .bf16⟩
  | 11 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v39_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v39_1 : Ref sig .tc := ⟨.hbm, 68, rfl⟩
abbrev main_v39_0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_15 : Ref sig .tc := ⟨.hbm, 126, rfl⟩
abbrev main_v86 : Ref sig .tc := ⟨.hbm, 127, rfl⟩
abbrev main_v87 : Ref sig .tc := ⟨.hbm, 128, rfl⟩
abbrev main_cst_16 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S1x1024, .f32⟩
  | .hbm, ⟨8, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RLossIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S1x1, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== ProjB.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S1024x2560 : Shape := ⟨2, ![1024, 2560]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RProjBIdeal.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x2560, .bf16⟩
  | .hbm, ⟨6, _⟩ => ⟨S1024x2560, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2560, .f32⟩
  | .hbm, ⟨27, _⟩ => ⟨S8192x2560, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MixF.lean ====
abbrev S8192x256 : Shape := ⟨2, ![8192, 256]⟩
abbrev S6x8192x128 : Shape := ⟨3, ![6, 8192, 128]⟩
abbrev S8192x1024 : Shape := ⟨2, ![8192, 1024]⟩
abbrev S1024x1024 : Shape := ⟨2, ![1024, 1024]⟩
abbrev S1x1024 : Shape := ⟨2, ![1, 1024]⟩
abbrev S1024x256 : Shape := ⟨2, ![1024, 256]⟩
abbrev S6x1024x128 : Shape := ⟨3, ![6, 1024, 128]⟩
abbrev S1x1024x128 : Shape := ⟨3, ![1, 1024, 128]⟩
abbrev S1024x128 : Shape := ⟨2, ![1024, 128]⟩
abbrev S1024x768 : Shape := ⟨2, ![1024, 768]⟩
abbrev S256x1024 : Shape := ⟨2, ![256, 1024]⟩
abbrev S768x1024 : Shape := ⟨2, ![768, 1024]⟩
abbrev S1024 : Shape := ⟨1, ![1024]⟩
abbrev S1024x1 : Shape := ⟨2, ![1024, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x256, .bf16⟩
  | .hbm, ⟨1, _⟩ => ⟨S6x8192x128, .bf16⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S6x1024x128, .bf16⟩
  | .local _ .vmem, ⟨3, _⟩ => ⟨S6x1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RMixFIdeal.lean ====
abbrev S8192x256 : Shape := ⟨2, ![8192, 256]⟩
abbrev S6x8192x128 : Shape := ⟨3, ![6, 8192, 128]⟩
abbrev S8192x1024 : Shape := ⟨2, ![8192, 1024]⟩
abbrev S1024x1024 : Shape := ⟨2, ![1024, 1024]⟩
abbrev S1x1024 : Shape := ⟨2, ![1, 1024]⟩
abbrev S8192x6x128 : Shape := ⟨3, ![8192, 6, 128]⟩
abbrev S8192x768 : Shape := ⟨2, ![8192, 768]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S6x8192x128, .bf16⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S8192x6x128, .bf16⟩
  | .hbm, ⟨7, _⟩ => ⟨S8192x768, .bf16⟩
  | .hbm, ⟨8, _⟩ => ⟨S8192x1024, .bf16⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== MixB.lean ====
abbrev S8192x1024 : Shape := ⟨2, ![8192, 1024]⟩
abbrev S1024x1024 : Shape := ⟨2, ![1024, 1024]⟩
abbrev S6x8192x128 : Shape := ⟨3, ![6, 8192, 128]⟩
abbrev S_ : Shape := ⟨0, ![]⟩
abbrev S8x128 : Shape := ⟨2, ![8, 128]⟩
abbrev S8192x256 : Shape := ⟨2, ![8192, 256]⟩
abbrev S8192x128 : Shape := ⟨2, ![8192, 128]⟩
abbrev S6x1024x128 : Shape := ⟨3, ![6, 1024, 128]⟩
abbrev S1024x256 : Shape := ⟨2, ![1024, 256]⟩
abbrev S1024x128 : Shape := ⟨2, ![1024, 128]⟩
abbrev S1024x768 : Shape := ⟨2, ![1024, 768]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S6x8192x128, .bf16⟩
  | .hbm, ⟨3, _⟩ => ⟨S_, .f32⟩
  | .hbm, ⟨4, _⟩ => ⟨S8x128, .f32⟩
  | .hbm, ⟨5, _⟩ => ⟨S8192x256, .bf16⟩
  | .hbm, ⟨6, _⟩ => ⟨S6x8192x128, .bf16⟩
  | .hbm, ⟨7, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S6x1024x128, .bf16⟩
  | .local _ .vmem, ⟨4, _⟩ => ⟨S6x1024x128, .bf16⟩
  | .local _ .vmem, ⟨5, _⟩ => ⟨S1024x256, .bf16⟩
  | .local _ .vmem, ⟨6, _⟩ => ⟨S1024x256, .bf16⟩
  | .local _ .vmem, ⟨7, _⟩ => ⟨S6x1024x128, .bf16⟩
  | .local _ .vmem, ⟨8, _⟩ => ⟨S6x1024x128, .bf16⟩
  | .local _ .vmem, ⟨9, _⟩ => ⟨S1024x128, .f32⟩
  | .local _ .vmem, ⟨10, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RMixBIdeal.lean ====
abbrev S8192x1024 : Shape := ⟨2, ![8192, 1024]⟩
abbrev S1024x1024 : Shape := ⟨2, ![1024, 1024]⟩
abbrev S6x8192x128 : Shape := ⟨3, ![6, 8192, 128]⟩
abbrev S8192x6x128 : Shape := ⟨3, ![8192, 6, 128]⟩
abbrev S8192x768 : Shape := ⟨2, ![8192, 768]⟩
abbrev S_ : Shape := ⟨0, ![]⟩
abbrev S8192x256 : Shape := ⟨2, ![8192, 256]⟩
abbrev S8192x12x64 : Shape := ⟨3, ![8192, 12, 64]⟩
abbrev S8192x12 : Shape := ⟨2, ![8192, 12]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S6x8192x128, .bf16⟩
  | .hbm, ⟨3, _⟩ => ⟨S1024x1024, .f32⟩
  | .hbm, ⟨4, _⟩ => ⟨S6x8192x128, .f32⟩
  | .hbm, ⟨5, _⟩ => ⟨S8192x6x128, .f32⟩
  | .hbm, ⟨6, _⟩ => ⟨S8192x768, .f32⟩
  | .hbm, ⟨7, _⟩ => ⟨S_, .f32⟩
  | .hbm, ⟨8, _⟩ => ⟨S8192x256, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x256, .f32⟩
  | .hbm, ⟨14, _⟩ => ⟨S8192x768, .f32⟩
  | .hbm, ⟨15, _⟩ => ⟨S8192x768, .f32⟩
  | .hbm, ⟨16, _⟩ => ⟨S8192x12x64, .f32⟩
  | .hbm, ⟨17, _⟩ => ⟨S_, .f32⟩
  | .hbm, ⟨18, _⟩ => ⟨S8192x12, .f32⟩
  | .hbm, ⟨19, _⟩ => ⟨S_, .i32⟩
  | .hbm, ⟨20, _⟩ => ⟨S_, .f32⟩
  | .hbm, ⟨21, _⟩ => ⟨S8192x128, .f32⟩
  | .hbm, ⟨22, _⟩ => ⟨S8192x256, .bf16⟩
  | .hbm, ⟨23, _⟩ => ⟨S8192x768, .bf16⟩
  | .hbm, ⟨24, _⟩ => ⟨S8192x6x128, .bf16⟩
  | .hbm, ⟨25, _⟩ => ⟨S6x8192x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== ProjF.lean ====
abbrev S8192x1024 : Shape := ⟨2, ![8192, 1024]⟩
abbrev S1x1024 : Shape := ⟨2, ![1, 1024]⟩
abbrev S2560x1024 : Shape := ⟨2, ![2560, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S64 : Shape := ⟨1, ![64]⟩
abbrev S1x64 : Shape := ⟨2, ![1, 64]⟩
abbrev S2x64 : Shape := ⟨2, ![2, 64]⟩
abbrev S8192x256 : Shape := ⟨2, ![8192, 256]⟩
abbrev S6x8192x128 : Shape := ⟨3, ![6, 8192, 128]⟩
abbrev S1024x1024 : Shape := ⟨2, ![1024, 1024]⟩
abbrev S1024x128 : Shape := ⟨2, ![1024, 128]⟩
abbrev S1024x256 : Shape := ⟨2, ![1024, 256]⟩
abbrev S6x1024x128 : Shape := ⟨3, ![6, 1024, 128]⟩
abbrev S1024 : Shape := ⟨1, ![1024]⟩
abbrev S1024x1 : Shape := ⟨2, ![1024, 1]⟩
abbrev S1024x2560 : Shape := ⟨2, ![1024, 2560]⟩
abbrev S1024x768 : Shape := ⟨2, ![1024, 768]⟩
abbrev S1x1024x128 : Shape := ⟨3, ![1, 1024, 128]⟩

abbrev nBuf : Space → Nat
  | .hbm => 40
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2560x1024, .bf16⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .i32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S4x32, .f32⟩
  | .hbm, ⟨16, _⟩ => ⟨S128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S64, .f32⟩
  | .hbm, ⟨27, _⟩ => ⟨S1x64, .f32⟩
  | .hbm, ⟨28, _⟩ => ⟨S2x64, .f32⟩
  | .hbm, ⟨29, _⟩ => ⟨S128, .f32⟩
  | .hbm, ⟨30, _⟩ => ⟨S8192x128, .f32⟩
  | .hbm, ⟨31, _⟩ => ⟨S8192x128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S8192x1024, .bf16⟩
  | .hbm, ⟨36, _⟩ => ⟨S8192x256, .f32⟩
  | .hbm, ⟨37, _⟩ => ⟨S6x8192x128, .bf16⟩
  | .hbm, ⟨38, _⟩ => ⟨S6x8192x128, .bf16⟩
  | .hbm, ⟨39, _⟩ => ⟨S6x8192x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .f32⟩
  | .local _ .vmem, ⟨11, _⟩ => ⟨S1024x256, .f32⟩
  | .local _ .vmem, ⟨12, _⟩ => ⟨S6x1024x128, .bf16⟩
  | .local _ .vmem, ⟨13, _⟩ => ⟨S6x1024x128, .bf16⟩
  | .local _ .vmem, ⟨14, _⟩ => ⟨S6x1024x128, .bf16⟩
  | .local _ .vmem, ⟨15, _⟩ => ⟨S6x1024x128, .bf16⟩
  | .local _ .vmem, ⟨16, _⟩ => ⟨S6x1024x128, .bf16⟩
  | .local _ .vmem, ⟨17, _⟩ => ⟨S6x1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev main_v28_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RProjFIdeal.lean ====
abbrev S8192x1024 : Shape := ⟨2, ![8192, 1024]⟩
abbrev S1x1024 : Shape := ⟨2, ![1, 1024]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩
abbrev S8192x768 : Shape := ⟨2, ![8192, 768]⟩
abbrev S8192x12x64 : Shape := ⟨3, ![8192, 12, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x12x32 : Shape := ⟨3, ![8192, 12, 32]⟩
abbrev S8192x256 : Shape := ⟨2, ![8192, 256]⟩
abbrev S8192x6x128 : Shape := ⟨3, ![8192, 6, 128]⟩
abbrev S6x8192x128 : Shape := ⟨3, ![6, 8192, 128]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2560x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x2560, .bf16⟩
  | .hbm, ⟨19, _⟩ => ⟨S1024x2560, .f32⟩
  | .hbm, ⟨20, _⟩ => ⟨S8192x2560, .f32⟩
  | .hbm, ⟨21, _⟩ => ⟨S8192x768, .f32⟩
  | .hbm, ⟨22, _⟩ => ⟨S8192x12x64, .f32⟩
  | .hbm, ⟨23, _⟩ => ⟨S8192x768, .f32⟩
  | .hbm, ⟨24, _⟩ => ⟨S8192x12x64, .f32⟩
  | .hbm, ⟨25, _⟩ => ⟨S8192x768, .f32⟩
  | .hbm, ⟨26, _⟩ => ⟨S8192, .i32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x1x32, .f32⟩
  | .hbm, ⟨43, _⟩ => ⟨S8192x32, .f32⟩
  | .hbm, ⟨44, _⟩ => ⟨S8192x1x32, .f32⟩
  | .hbm, ⟨45, _⟩ => ⟨S8192x12x32, .f32⟩
  | .hbm, ⟨46, _⟩ => ⟨S8192x12x32, .f32⟩
  | .hbm, ⟨47, _⟩ => ⟨S8192x12x32, .f32⟩
  | .hbm, ⟨48, _⟩ => ⟨S8192x12x32, .f32⟩
  | .hbm, ⟨49, _⟩ => ⟨S8192x12x32, .f32⟩
  | .hbm, ⟨50, _⟩ => ⟨S8192x12x32, .f32⟩
  | .hbm, ⟨51, _⟩ => ⟨S8192x12x32, .f32⟩
  | .hbm, ⟨52, _⟩ => ⟨S8192x12x32, .f32⟩
  | .hbm, ⟨53, _⟩ => ⟨S8192x12x32, .f32⟩
  | .hbm, ⟨54, _⟩ => ⟨S8192x12x32, .f32⟩
  | .hbm, ⟨55, _⟩ => ⟨S8192x12x32, .f32⟩
  | .hbm, ⟨56, _⟩ => ⟨S8192x12x32, .f32⟩
  | .hbm, ⟨57, _⟩ => ⟨S8192x12x64, .f32⟩
  | .hbm, ⟨58, _⟩ => ⟨S8192, .i32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S8192, .f32⟩
  | .hbm, ⟨68, _⟩ => ⟨S8192x1, .f32⟩
  | .hbm, ⟨69, _⟩ => ⟨S1x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x1x32, .f32⟩
  | .hbm, ⟨75, _⟩ => ⟨S8192x32, .f32⟩
  | .hbm, ⟨76, _⟩ => ⟨S8192x1x32, .f32⟩
  | .hbm, ⟨77, _⟩ => ⟨S8192x12x32, .f32⟩
  | .hbm, ⟨78, _⟩ => ⟨S8192x12x32, .f32⟩
  | .hbm, ⟨79, _⟩ => ⟨S8192x12x32, .f32⟩
  | .hbm, ⟨80, _⟩ => ⟨S8192x12x32, .f32⟩
  | .hbm, ⟨81, _⟩ => ⟨S8192x12x32, .f32⟩
  | .hbm, ⟨82, _⟩ => ⟨S8192x12x32, .f32⟩
  | .hbm, ⟨83, _⟩ => ⟨S8192x12x32, .f32⟩
  | .hbm, ⟨84, _⟩ => ⟨S8192x12x32, .f32⟩
  | .hbm, ⟨85, _⟩ => ⟨S8192x12x32, .f32⟩
  | .hbm, ⟨86, _⟩ => ⟨S8192x12x32, .f32⟩
  | .hbm, ⟨87, _⟩ => ⟨S8192x12x32, .f32⟩
  | .hbm, ⟨88, _⟩ => ⟨S8192x12x32, .f32⟩
  | .hbm, ⟨89, _⟩ => ⟨S8192x12x64, .f32⟩
  | .hbm, ⟨90, _⟩ => ⟨S8192x1024, .bf16⟩
  | .hbm, ⟨91, _⟩ => ⟨S8192x256, .f32⟩
  | .hbm, ⟨92, _⟩ => ⟨S8192x768, .f32⟩
  | .hbm, ⟨93, _⟩ => ⟨S8192x768, .bf16⟩
  | .hbm, ⟨94, _⟩ => ⟨S8192x6x128, .bf16⟩
  | .hbm, ⟨95, _⟩ => ⟨S6x8192x128, .bf16⟩
  | .hbm, ⟨96, _⟩ => ⟨S8192x768, .f32⟩
  | .hbm, ⟨97, _⟩ => ⟨S8192x768, .bf16⟩
  | .hbm, ⟨98, _⟩ => ⟨S8192x6x128, .bf16⟩
  | .hbm, ⟨99, _⟩ => ⟨S6x8192x128, .bf16⟩
  | .hbm, ⟨100, _⟩ => ⟨S8192x768, .bf16⟩
  | .hbm, ⟨101, _⟩ => ⟨S8192x6x128, .bf16⟩
  | .hbm, ⟨102, _⟩ => ⟨S6x8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩

abbrev nD : Nat := 1
abbrev τ : Topo := Topo.v7x

variable {F : FTy → Type} [FloatOps F]
-- ==== AdamIn.lean ====
abbrev S1024x320 : Shape := ⟨2, ![1024, 320]⟩

abbrev nBuf : Space → Nat
  | .hbm => 7
  | .vmem => 7
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S1024x320, .f32⟩
  | .local _ .vmem, ⟨1, _⟩ => ⟨S1024x320, .f32⟩
  | .local _ .vmem, ⟨2, _⟩ => ⟨S1024x320, .f32⟩
  | .local _ .vmem, ⟨3, _⟩ => ⟨S1024x320, .f32⟩
  | .local _ .vmem, ⟨4, _⟩ => ⟨S1024x320, .f32⟩
  | .local _ .vmem, ⟨5, _⟩ => ⟨S1024x320, .f32⟩
  | .local _ .vmem, ⟨6, _⟩ => ⟨S1024x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RAdamInIdeal.lean ====
abbrev S1024x320 : Shape := ⟨2, ![1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S_, .f32⟩
  | .hbm, ⟨5, _⟩ => ⟨S1024x320, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RAdamOutIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1024x352 : Shape := ⟨2, ![1024, 352]⟩

abbrev nBuf : Space → Nat
  | .hbm => 7
  | .vmem => 7
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RAdamGateIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x352 : Shape := ⟨2, ![1024, 352]⟩

abbrev nBuf : Space → Nat
  | .hbm => 7
  | .vmem => 7
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RAdamUpIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RAdamDownIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RAdamSmallIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S8x320x1024 : Shape := ⟨3, ![8, 320, 1024]⟩
abbrev S320x1024 : Shape := ⟨2, ![320, 1024]⟩
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .local _ .vmem, ⟨0, _⟩ => ⟨S8x160x1024, .bf16⟩
  | .local _ .vmem, ⟨1, _⟩ => ⟨S8x160x1024, .bf16⟩
  | .local _ .vmem, ⟨2, _⟩ => ⟨S160x1024, .f32⟩
  | .local _ .vmem, ⟨3, _⟩ => ⟨S160x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumInIdeal.lean ====
abbrev S8x320x1024 : Shape := ⟨3, ![8, 320, 1024]⟩
abbrev S_ : Shape := ⟨0, ![]⟩
abbrev S320x1024 : Shape := ⟨2, ![320, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .f32⟩
  | .hbm, ⟨2, _⟩ => ⟨S_, .f32⟩
  | .hbm, ⟨3, _⟩ => ⟨S320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumOutIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumGate.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumGateIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumUpIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumDownIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== RSumSmallIdeal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DProj.lean ====
abbrev S8192x256 : Shape := ⟨2, ![8192, 256]⟩
abbrev S6x8192x128 : Shape := ⟨3, ![6, 8192, 128]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S64 : Shape := ⟨1, ![64]⟩
abbrev S1x64 : Shape := ⟨2, ![1, 64]⟩
abbrev S2x64 : Shape := ⟨2, ![2, 64]⟩
abbrev S8192x2560 : Shape := ⟨2, ![8192, 2560]⟩
abbrev S512x256 : Shape := ⟨2, ![512, 256]⟩
abbrev S6x512x128 : Shape := ⟨3, ![6, 512, 128]⟩
abbrev S512x128 : Shape := ⟨2, ![512, 128]⟩
abbrev S512x2560 : Shape := ⟨2, ![512, 2560]⟩
abbrev S1x512x128 : Shape := ⟨3, ![1, 512, 128]⟩
abbrev S512x768 : Shape := ⟨2, ![512, 768]⟩

abbrev nBuf : Space → Nat
  | .hbm => 49
  | .vmem => 38
  | .smem => 0
  | _ => 0

abbrev bufTy : (tb : Table) → Fin (tcTables nBuf tb) → BufTy
  | .hbm, ⟨0, _⟩ => ⟨S8192x256, .bf16⟩
  | .hbm, ⟨1, _⟩ => ⟨S6x8192x128, .bf16⟩
  | .hbm, ⟨2, _⟩ => ⟨S6x8192x128, .bf16⟩
  | .hbm, ⟨3, _⟩ => ⟨S6x8192x128, .bf16⟩
  | .hbm, ⟨4, _⟩ => ⟨S6x8192x128, .bf16⟩
  | .hbm, ⟨5, _⟩ => ⟨S6x8192x128, .bf16⟩
  | .hbm, ⟨6, _⟩ => ⟨S6x8192x128, .bf16⟩
  | .hbm, ⟨7, _⟩ => ⟨S6x8192x128, .bf16⟩
  | .hbm, ⟨8, _⟩ => ⟨S6x8192x128, .bf16⟩
  | .hbm, ⟨9, _⟩ => ⟨S6x8192x128, .bf16⟩
  | .hbm, ⟨10, _⟩ => ⟨S6x8192x128, .bf16⟩
  | .hbm, ⟨11, _⟩ => ⟨S6x8192x128, .bf16⟩
  | .hbm, ⟨12, _⟩ => ⟨S6x8192x128, .bf16⟩
  | .hbm, ⟨13, _⟩ => ⟨S6x8192x128, .bf16⟩
  | .hbm, ⟨14, _⟩ => ⟨S6x8192x128, .bf16⟩
  | .hbm, ⟨15, _⟩ => ⟨S6x8192x128, .bf16⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192, .i32⟩
  | .hbm, ⟨25, _⟩ => ⟨S8192, .f32⟩
  | .hbm, ⟨26, _⟩ => ⟨S8192x1, .f32⟩
  | .hbm, ⟨27, _⟩ => ⟨S1x32, .f32⟩
  | .hbm, ⟨28, _⟩ => ⟨S4x32, .f32⟩
  | .hbm, ⟨29, _⟩ => ⟨S128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S64, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S8192x128, .f32⟩
  | .hbm, ⟨44, _⟩ => ⟨S8192x128, .f32⟩
  | .hbm, ⟨45, _⟩ => ⟨S1x128, .f32⟩
  | .hbm, ⟨46, _⟩ => ⟨S8192x128, .f32⟩
  | .hbm, ⟨47, _⟩ => ⟨S8192x128, .f32⟩
  | .hbm, ⟨48, _⟩ => ⟨S8192x2560, .bf16⟩
  | .local _ .vmem, ⟨0, _⟩ => ⟨S512x256, .bf16⟩
  | .local _ .vmem, ⟨1, _⟩ => ⟨S512x256, .bf16⟩
  | .local _ .vmem, ⟨2, _⟩ => ⟨S6x512x128, .bf16⟩
  | .local _ .vmem, ⟨3, _⟩ => ⟨S6x512x128, .bf16⟩
  | .local _ .vmem, ⟨4, _⟩ => ⟨S6x512x128, .bf16⟩
  | .local _ .vmem, ⟨5, _⟩ => ⟨S6x512x128, .bf16⟩
  | .local _ .vmem, ⟨6, _⟩ => ⟨S6x512x128, .bf16⟩
  | .local _ .vmem, ⟨7, _⟩ => ⟨S6x512x128, .bf16⟩
  | .local _ .vmem, ⟨8, _⟩ => ⟨S6x512x128, .bf16⟩
  | .local _ .vmem, ⟨9, _⟩ => ⟨S6x512x128, .bf16⟩
  | .local _ .vmem, ⟨10, _⟩ => ⟨S6x512x128, .bf16⟩
  | .local _ .vmem, ⟨11, _⟩ => ⟨S6x512x128, .bf16⟩
  | .local _ .vmem, ⟨12, _⟩ => ⟨S6x512x128, .bf16⟩
  | .local _ .vmem, ⟨13, _⟩ => ⟨S6x512x128, .bf16⟩
  | .local _ .vmem, ⟨14, _⟩ => ⟨S6x512x128, .bf16⟩
  | .local _ .vmem, ⟨15, _⟩ => ⟨S6x512x128, .bf16⟩
  | .local _ .vmem, ⟨16, _⟩ => ⟨S6x512x128, .bf16⟩
  | .local _ .vmem, ⟨17, _⟩ => ⟨S6x512x128, .bf16⟩
  | .local _ .vmem, ⟨18, _⟩ => ⟨S6x512x128, .bf16⟩
  | .local _ .vmem, ⟨19, _⟩ => ⟨S6x512x128, .bf16⟩
  | .local _ .vmem, ⟨20, _⟩ => ⟨S6x512x128, .bf16⟩
  | .local _ .vmem, ⟨21, _⟩ => ⟨S6x512x128, .bf16⟩
  | .local _ .vmem, ⟨22, _⟩ => ⟨S6x512x128, .bf16⟩
  | .local _ .vmem, ⟨23, _⟩ => ⟨S6x512x128, .bf16⟩
  | .local _ .vmem, ⟨24, _⟩ => ⟨S6x512x128, .bf16⟩
  | .local _ .vmem, ⟨25, _⟩ => ⟨S6x512x128, .bf16⟩
  | .local _ .vmem, ⟨26, _⟩ => ⟨S6x512x128, .bf16⟩
  | .local _ .vmem, ⟨27, _⟩ => ⟨S6x512x128, .bf16⟩
  | .local _ .vmem, ⟨28, _⟩ => ⟨S6x512x128, .bf16⟩
  | .local _ .vmem, ⟨29, _⟩ => ⟨S6x512x128, .bf16⟩
  | .local _ .vmem, ⟨30, _⟩ => ⟨S6x512x128, .bf16⟩
  | .local _ .vmem, ⟨31, _⟩ => ⟨S6x512x128, .bf16⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x2560, .bf16⟩
  | .local _ .vmem, ⟨37, _⟩ => ⟨S512x2560, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S6x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S6x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S6x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2560 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RDProjIdeal.lean ====
abbrev S8192x256 : Shape := ⟨2, ![8192, 256]⟩
abbrev S6x8192x128 : Shape := ⟨3, ![6, 8192, 128]⟩
abbrev S8192x6x128 : Shape := ⟨3, ![8192, 6, 128]⟩
abbrev S8192x768 : Shape := ⟨2, ![8192, 768]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x12x64 : Shape := ⟨3, ![8192, 12, 64]⟩
abbrev S8192x12x32 : Shape := ⟨3, ![8192, 12, 32]⟩
abbrev S8192x2560 : Shape := ⟨2, ![8192, 2560]⟩

abbrev nBuf : Space → Nat
  | .hbm => 175
  | .vmem => 0
  | .smem => 0
  | _ => 0

abbrev hbmTy0_0 (i : Nat) : BufTy := match i % 128 with
  | 0 => ⟨S8192x256, .bf16⟩
  | 1 => ⟨S6x8192x128, .bf16⟩
  | 2 => ⟨S6x8192x128, .bf16⟩
  | 3 => ⟨S6x8192x128, .bf16⟩
  | 4 => ⟨S6x8192x128, .bf16⟩
  | 5 => ⟨S6x8192x128, .bf16⟩
  | 6 => ⟨S6x8192x128, .bf16⟩
  | 7 => ⟨S6x8192x128, .bf16⟩
  | 8 => ⟨S6x8192x128, .bf16⟩
  | 9 => ⟨S6x8192x128, .bf16⟩
  | 10 => ⟨S6x8192x128, .bf16⟩
  | 11 => ⟨S6x8192x128, .bf16⟩
  | 12 => ⟨S6x8192x128, .bf16⟩
  | 13 => ⟨S6x8192x128, .bf16⟩
  | 14 => ⟨S6x8192x128, .bf16⟩
  | 15 => ⟨S6x8192x128, .bf16⟩
  | 16 => ⟨S8192x6x128, .bf16⟩
  | 17 => ⟨S8192x768, .bf16⟩
  | 18 => ⟨S8192x768, .f32⟩
  | 19 => ⟨S8192x6x128, .bf16⟩
  | 20 => ⟨S8192x768, .bf16⟩
  | 21 => ⟨S8192x768, .f32⟩
  | 22 => ⟨S8192x768, .f32⟩
  | 23 => ⟨S8192x6x128, .bf16⟩
  | 24 => ⟨S8192x768, .bf16⟩
  | 25 => ⟨S8192x768, .f32⟩
  | 26 => ⟨S8192x768, .f32⟩
  | 27 => ⟨S8192x6x128, .bf16⟩
  | 28 => ⟨S8192x768, .bf16⟩
  | 29 => ⟨S8192x768, .f32⟩
  | 30 => ⟨S8192x6x128, .bf16⟩
  | 31 => ⟨S8192x768, .bf16⟩
  | 32 => ⟨S8192x768, .f32⟩
  | 33 => ⟨S8192x768, .f32⟩
  | 34 => ⟨S8192x6x128, .bf16⟩
  | 35 => ⟨S8192x768, .bf16⟩
  | 36 => ⟨S8192x768, .f32⟩
  | 37 => ⟨S8192x6x128, .bf16⟩
  | 38 => ⟨S8192x768, .bf16⟩
  | 39 => ⟨S8192x768, .f32⟩
  | 40 => ⟨S8192x768, .f32⟩
  | 41 => ⟨S8192x768, .f32⟩
  | 42 => ⟨S8192x6x128, .bf16⟩
  | 43 => ⟨S8192x768, .bf16⟩
  | 44 => ⟨S8192x768, .f32⟩
  | 45 => ⟨S8192x6x128, .bf16⟩
  | 46 => ⟨S8192x768, .bf16⟩
  | 47 => ⟨S8192x768, .f32⟩
  | 48 => ⟨S8192x768, .f32⟩
  | 49 => ⟨S8192x768, .f32⟩
  | 50 => ⟨S8192x6x128, .bf16⟩
  | 51 => ⟨S8192x768, .bf16⟩
  | 52 => ⟨S8192x768, .f32⟩
  | 53 => ⟨S8192x6x128, .bf16⟩
  | 54 => ⟨S8192x768, .bf16⟩
  | 55 => ⟨S8192x768, .f32⟩
  | 56 => ⟨S8192x768, .f32⟩
  | 57 => ⟨S8192x6x128, .bf16⟩
  | 58 => ⟨S8192x768, .bf16⟩
  | 59 => ⟨S8192x768, .f32⟩
  | 60 => ⟨S8192x6x128, .bf16⟩
  | 61 => ⟨S8192x768, .bf16⟩
  | 62 => ⟨S8192x768, .f32⟩
  | 63 => ⟨S8192x768, .f32⟩
  | 64 => ⟨S8192x768, .f32⟩
  | 65 => ⟨S8192x6x128, .bf16⟩
  | 66 => ⟨S8192x768, .bf16⟩
  | 67 => ⟨S8192x768, .f32⟩
  | 68 => ⟨S8192x6x128, .bf16⟩
  | 69 => ⟨S8192x768, .bf16⟩
  | 70 => ⟨S8192x768, .f32⟩
  | 71 => ⟨S8192x768, .f32⟩
  | 72 => ⟨S8192x768, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S8192, .i32⟩
  | 82 => ⟨S8192, .f32⟩
  | 83 => ⟨S8192x1, .f32⟩
  | 84 => ⟨S1x32, .f32⟩
  | 85 => ⟨S8192x32, .f32⟩
  | 86 => ⟨S8192x32, .f32⟩
  | 87 => ⟨S8192x32, .f32⟩
  | 88 => ⟨S8192x32, .f32⟩
  | 89 => ⟨S8192x1x32, .f32⟩
  | 90 => ⟨S8192x32, .f32⟩
  | 91 => ⟨S8192x1x32, .f32⟩
  | 92 => ⟨S8192x12x64, .f32⟩
  | 93 => ⟨S8192x12x32, .f32⟩
  | 94 => ⟨S8192x12x32, .f32⟩
  | 95 => ⟨S_, .f32⟩
  | 96 => ⟨S8192x12x32, .f32⟩
  | 97 => ⟨S_, .f32⟩
  | 98 => ⟨S8192x12x32, .f32⟩
  | 99 => ⟨S8192x12x32, .f32⟩
  | 100 => ⟨S8192x12x32, .f32⟩
  | 101 => ⟨S8192x12x32, .f32⟩
  | 102 => ⟨S8192x12x32, .f32⟩
  | 103 => ⟨S8192x12x32, .f32⟩
  | 104 => ⟨S8192x12x32, .f32⟩
  | 105 => ⟨S8192x12x32, .f32⟩
  | 106 => ⟨S8192x12x32, .f32⟩
  | 107 => ⟨S8192x12x32, .f32⟩
  | 108 => ⟨S8192x12x32, .f32⟩
  | 109 => ⟨S8192x12x32, .f32⟩
  | 110 => ⟨S8192x12x32, .f32⟩
  | 111 => ⟨S8192x12x32, .f32⟩
  | 112 => ⟨S8192x12x32, .f32⟩
  | 113 => ⟨S8192x12x32, .f32⟩
  | 114 => ⟨S8192x12x32, .f32⟩
  | 115 => ⟨S8192x12x32, .f32⟩
  | 116 => ⟨S8192x12x32, .f32⟩
  | 117 => ⟨S8192x12x32, .f32⟩
  | 118 => ⟨S8192x12x32, .f32⟩
  | 119 => ⟨S8192x12x32, .f32⟩
  | 120 => ⟨S8192x12x64, .f32⟩
  | 121 => ⟨S8192x768, .f32⟩
  | 122 => ⟨S8192x768, .bf16⟩
  | 123 => ⟨S32, .f32⟩
  | 124 => ⟨S32, .f32⟩
  | 125 => ⟨S_, .f32⟩
  | 126 => ⟨S32, .f32⟩
  | 127 => ⟨S32, .f32⟩
  | _ => ⟨S8192x256, .bf16⟩

abbrev hbmTy0_1 (i : Nat) : BufTy := match i % 128 with
  | 0 => ⟨S_, .f32⟩
  | 1 => ⟨S32, .f32⟩
  | 2 => ⟨S32, .f32⟩
  | 3 => ⟨S8192, .i32⟩
  | 4 => ⟨S8192, .f32⟩
  | 5 => ⟨S8192x1, .f32⟩
  | 6 => ⟨S1x32, .f32⟩
  | 7 => ⟨S8192x32, .f32⟩
  | 8 => ⟨S8192x32, .f32⟩
  | 9 => ⟨S8192x32, .f32⟩
  | 10 => ⟨S8192x32, .f32⟩
  | 11 => ⟨S8192x1x32, .f32⟩
  | 12 => ⟨S8192x32, .f32⟩
  | 13 => ⟨S8192x1x32, .f32⟩
  | 14 => ⟨S8192x12x64, .f32⟩
  | 15 => ⟨S8192x12x32, .f32⟩
  | 16 => ⟨S8192x12x32, .f32⟩
  | 17 => ⟨S_, .f32⟩
  | 18 => ⟨S8192x12x32, .f32⟩
  | 19 => ⟨S_, .f32⟩
  | 20 => ⟨S8192x12x32, .f32⟩
  | 21 => ⟨S8192x12x32, .f32⟩
  | 22 => ⟨S8192x12x32, .f32⟩
  | 23 => ⟨S8192x12x32, .f32⟩
  | 24 => ⟨S8192x12x32, .f32⟩
  | 25 => ⟨S8192x12x32, .f32⟩
  | 26 => ⟨S8192x12x32, .f32⟩
  | 27 => ⟨S8192x12x32, .f32⟩
  | 28 => ⟨S8192x12x32, .f32⟩
  | 29 => ⟨S8192x12x32, .f32⟩
  | 30 => ⟨S8192x12x32, .f32⟩
  | 31 => ⟨S8192x12x32, .f32⟩
  | 32 => ⟨S8192x12x32, .f32⟩
  | 33 => ⟨S8192x12x32, .f32⟩
  | 34 => ⟨S8192x12x32, .f32⟩
  | 35 => ⟨S8192x12x32, .f32⟩
  | 36 => ⟨S8192x12x32, .f32⟩
  | 37 => ⟨S8192x12x32, .f32⟩
  | 38 => ⟨S8192x12x32, .f32⟩
  | 39 => ⟨S8192x12x32, .f32⟩
  | 40 => ⟨S8192x12x32, .f32⟩
  | 41 => ⟨S8192x12x32, .f32⟩
  | 42 => ⟨S8192x12x64, .f32⟩
  | 43 => ⟨S8192x768, .f32⟩
  | 44 => ⟨S8192x768, .bf16⟩
  | 45 => ⟨S8192x768, .bf16⟩
  | 46 => ⟨S8192x2560, .bf16⟩
  | _ => ⟨S8192x256, .bf16⟩

abbrev hbmTy (i : Nat) : BufTy := match i / 128 with
  | 0 => hbmTy0_0 i
  | 1 => hbmTy0_1 i
  | _ => ⟨S8192x256, .bf16⟩

abbrev bufTy : (tb : Table) → Fin (tcTables nBuf tb) → BufTy
  | .hbm, ⟨i, _⟩ => hbmTy i
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst : Ref sig .tc := ⟨.hbm, 75, rfl⟩
abbrev main_v59 : Ref sig .tc := ⟨.hbm, 76, rfl⟩
abbrev main_v60 : Ref sig .tc := ⟨.hbm, 77, rfl⟩
abbrev main_cst_0 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_1 : Ref sig .tc := ⟨.hbm, 95, rfl⟩
abbrev main_v77 : Ref sig .tc := ⟨.hbm, 96, rfl⟩
abbrev main_cst_2 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_3 : Ref sig .tc := ⟨.hbm, 125, rfl⟩
abbrev main_v105 : Ref sig .tc := ⟨.hbm, 126, rfl⟩
abbrev main_v106 : Ref sig .tc := ⟨.hbm, 127, rfl⟩
abbrev main_cst_4 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_5 : Ref sig .tc := ⟨.hbm, 145, rfl⟩
abbrev main_v123 : Ref sig .tc := ⟨.hbm, 146, rfl⟩
abbrev main_cst_6 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩

abbrev nD : Nat := 1
abbrev τ : Topo := Topo.v7x

variable {F : FTy → Type} [FloatOps F]
-- ==== Proof.BandMath.lean ====
/-
  The gradients of one branch of banded attention, as sums over the extended reals, and the same sums block by block.

  A query at position `t` sees the keys at `t - 128 … t`. With the row statistics given (`L`, the logarithm of the
  denominator, and `D`, the row's product of output and its cotangent) the weights are `prob`, the cotangents of the
  scores `dscore`, and the three gradients are plain sums over all positions (`gradQ`, `gradK`, `gradV`). A block of
  128 queries meets 256 keys only: `gradQ_block`, `gradK_block` and `gradV_block` say which finite sums these are.
-/
module

public import Idealize.ShloMosaic.Lib.Pointwise
public import Idealize.ShloMosaic.PureOps.Ideal.Laws

@[expose] public section

noncomputable section

open Idealize.ShloMosaic

namespace Cert.Band

/-- The scale of the scores, one over the square root of the head's width. -/
def eighth : EReal := ((1 / 8 : ℝ) : EReal)

theorem sum_mul_eighth {ι : Type} (s : Finset ι) (f : ι → EReal) : (∑ i ∈ s, f i) * eighth = ∑ i ∈ s, f i * eighth := by
  classical
  have h0 : (0 : EReal) ≤ eighth := by unfold eighth; exact_mod_cast (by norm_num : (0 : ℝ) ≤ 1 / 8)
  have ht : eighth ≠ ⊤ := EReal.coe_ne_top _
  induction s using Finset.induction_on with
  | empty => simp
  | insert a s ha ih =>
    rw [Finset.sum_insert ha, Finset.sum_insert ha, EReal.right_distrib_of_nonneg_of_ne_top h0 ht, ih]

/-- Lane `d` of head `h` of a pair of heads. -/
def lane (h : Fin 2) (d : Fin 64) : Fin 128 := ⟨h.val * 64 + d.val, by have := h.isLt; have := d.isLt; omega⟩

/-- The head a lane belongs to. -/
def headOf (l : Fin 128) : Fin 2 := ⟨l.val / 64, by have := l.isLt; omega⟩

/-- A sum over the lanes that keeps one head's terms is the sum over that head's lanes. -/
theorem sum_head (h : Fin 2) (f g : Fin 128 → EReal) :
    ∑ l : Fin 128, (if headOf l = h then f l else 0) * g l = ∑ d : Fin 64, f (lane h d) * g (lane h d) := by
  rw [Fin.sum_univ_tiles 2 64 rfl, Finset.sum_eq_single h]
  · refine Finset.sum_congr rfl fun d _ => ?_
    have e : (⟨h.val * 64 + d.val, by have := h.isLt; have := d.isLt; omega⟩ : Fin 128) = lane h d := rfl
    rw [e, if_pos]
    apply Fin.ext; show (h.val * 64 + d.val) / 64 = h.val; have := d.isLt; omega
  · intro b _ hb
    refine Finset.sum_eq_zero fun d _ => ?_
    rw [if_neg, zero_mul]
    intro e
    apply hb
    rw [← e]; apply Fin.ext; show b.val = (b.val * 64 + d.val) / 64; have := d.isLt; omega
  · intro hh; exact absurd (Finset.mem_univ _) hh

section Spec

/-- The positions. -/
abbrev Pos := Fin 8192

/-- Key `s` lies in the band behind query `t`. -/
def inBand (t s : ℕ) : Prop := s ≤ t ∧ t ≤ s + 128

instance (t s : ℕ) : Decidable (inBand t s) := by unfold inBand; infer_instance

variable (Q K V O : Pos → Fin 128 → EReal) (L D : Pos → Fin 2 → EReal)

def score (h : Fin 2) (t s : Pos) : EReal := ∑ d : Fin 64, Q t (lane h d) * K s (lane h d)

def prob (h : Fin 2) (t s : Pos) : EReal :=
  Ideal.exp ((if inBand t s then score Q K h t s * eighth else ⊥) - L t h)

def dscore (h : Fin 2) (t s : Pos) : EReal :=
  if inBand t s then (-D t h + score O V h t s) * prob Q K L h t s else 0

def gradQ (t : Pos) (l : Fin 128) : EReal := ∑ s : Pos, dscore Q K V O L D (headOf l) t s * eighth * K s l
def gradK (s : Pos) (l : Fin 128) : EReal := ∑ t : Pos, dscore Q K V O L D (headOf l) t s * eighth * Q t l
def gradV (s : Pos) (l : Fin 128) : EReal := ∑ t : Pos, O t l * prob Q K L (headOf l) t s

theorem prob_out {h : Fin 2} {t s : Pos} (hb : ¬inBand t s) : prob Q K L h t s = 0 := by
  unfold prob; rw [if_neg hb, sub_eq_add_neg, EReal.bot_add]; rfl

theorem dscore_out {h : Fin 2} {t s : Pos} (hb : ¬inBand t s) : dscore Q K V O L D h t s = 0 := if_neg hb

end Spec

/-! ## One block of 128 queries against its own 128 keys and the 128 before them -/

section Tile

variable (q o : Fin 128 → Fin 128 → EReal) (k v : Fin 256 → Fin 128 → EReal) (lse dsum : Fin 128 → Fin 2 → EReal) (prev : Prop) [Decidable prev]

/-- Key `j` of the 256 is seen by query `i` of the block; the first 128 keys are there only if a block precedes. -/
def seen (i : Fin 128) (j : Fin 256) : Prop := (j.val ≤ i.val + 128 ∧ i.val ≤ j.val) ∧ (128 ≤ j.val ∨ prev)

instance (i : Fin 128) (j : Fin 256) : Decidable (seen prev i j) := by unfold seen; infer_instance

/-- A block of rows with the lanes of one head kept. -/
def keep (x : Fin 128 → Fin 128 → EReal) (h : Fin 2) (i l : Fin 128) : EReal := if headOf l = h then x i l else 0

def tileP (h : Fin 2) (i : Fin 128) (j : Fin 256) : EReal :=
  Ideal.exp ((if seen prev i j then ∑ l : Fin 128, keep (fun i l => q i l * eighth) h i l * k j l else ⊥) - lse i h)

def tileS (h : Fin 2) (i : Fin 128) (j : Fin 256) : EReal :=
  tileP q k lse prev h i j * ((∑ l : Fin 128, keep o h i l * v j l) - dsum i h)

def tileQ (i l : Fin 128) : EReal := (∑ j : Fin 256, tileS q o k v lse dsum prev (headOf l) i j * k j l) * eighth
def tileK (j : Fin 256) (l : Fin 128) : EReal :=
  ∑ h : Fin 2, ∑ i : Fin 128, tileS q o k v lse dsum prev h i j * keep (fun i l => q i l * eighth) h i l
def tileV (j : Fin 256) (l : Fin 128) : EReal := ∑ h : Fin 2, ∑ i : Fin 128, tileP q k lse prev h i j * keep o h i l

end Tile

/-- The sum over both heads of a term that keeps one head is that head's sum. -/
theorem sum_keep (x : Fin 128 → Fin 128 → EReal) (f : Fin 2 → Fin 128 → EReal) (l : Fin 128) :
    ∑ h : Fin 2, ∑ i : Fin 128, f h i * keep x h i l = ∑ i : Fin 128, f (headOf l) i * x i l := by
  rw [Finset.sum_eq_single (headOf l)]
  · exact Finset.sum_congr rfl fun i _ => by unfold keep; rw [if_pos rfl]
  · intro b _ hb
    exact Finset.sum_eq_zero fun i _ => by unfold keep; rw [if_neg (Ne.symm hb), mul_zero]
  · intro hh; exact absurd (Finset.mem_univ _) hh

section Blocks

/-- Position `i` of block `B`. -/
def pos (B : Fin 64) (i : Fin 128) : Pos := ⟨B.val * 128 + i.val, by have := B.isLt; have := i.isLt; omega⟩

theorem sum_pos (f : Pos → EReal) : ∑ s : Pos, f s = ∑ B : Fin 64, ∑ i : Fin 128, f (pos B i) := Fin.sum_univ_tiles 64 128 rfl f

variable (Q K V O : Pos → Fin 128 → EReal) (L D : Pos → Fin 2 → EReal)

/-- Key `j` of the 256 of block `B`, where there is one. -/
def key (B : Fin 64) (j : Fin 256) (h : 128 ≤ B.val * 128 + j.val) : Pos :=
  ⟨B.val * 128 + j.val - 128, by have := B.isLt; have := j.isLt; omega⟩

variable {k v : Fin 256 → Fin 128 → EReal} {B : Fin 64}

/-- The rows of block `B` of an array. -/
abbrev rows {α : Type} (X : Pos → α) (B : Fin 64) : Fin 128 → α := fun i => X (pos B i)

theorem seen_iff (i : Fin 128) (j : Fin 256) :
    seen (0 < B.val) i j ↔ ∃ h : 128 ≤ B.val * 128 + j.val, inBand (pos B i) (key B j h) := by
  have := i.isLt; have := j.isLt
  unfold seen inBand pos key
  constructor
  · rintro ⟨⟨h1, h2⟩, h3⟩
    refine ⟨by omega, ?_⟩
    dsimp only; omega
  · rintro ⟨h, h1, h2⟩
    dsimp only at h1 h2
    omega

variable (hk : ∀ (j : Fin 256) (h : 128 ≤ B.val * 128 + j.val), k j = K (key B j h))
  (hv : ∀ (j : Fin 256) (h : 128 ≤ B.val * 128 + j.val), v j = V (key B j h))

include hk in
theorem tileP_in (h : Fin 2) (i : Fin 128) (j : Fin 256) (hj : 128 ≤ B.val * 128 + j.val) :
    tileP (rows Q B) k (rows L B) (0 < B.val) h i j = prob Q K L h (pos B i) (key B j hj) := by
  unfold tileP prob
  by_cases hs : seen (0 < B.val) i j
  · rw [if_pos hs, if_pos ((seen_iff i j).1 hs).2]
    unfold keep score
    rw [sum_head, sum_mul_eighth, hk j hj]
    congr 2
    refine Finset.sum_congr rfl fun d _ => ?_
    rw [mul_right_comm]
  · rw [if_neg hs, if_neg fun hb => hs ((seen_iff i j).2 ⟨hj, hb⟩)]

theorem tileP_out {q : Fin 128 → Fin 128 → EReal} {lse : Fin 128 → Fin 2 → EReal} {prev : Prop} [Decidable prev] (h : Fin 2) {i : Fin 128} {j : Fin 256}
    (hs : ¬seen prev i j) : tileP q k lse prev h i j = 0 := by
  unfold tileP; rw [if_neg hs, sub_eq_add_neg, EReal.bot_add]; rfl

theorem tileS_out {q o : Fin 128 → Fin 128 → EReal} {lse dsum : Fin 128 → Fin 2 → EReal} {prev : Prop} [Decidable prev] (h : Fin 2) {i : Fin 128} {j : Fin 256}
    (hs : ¬seen prev i j) : tileS q o k v lse dsum prev h i j = 0 := by
  unfold tileS; rw [tileP_out h hs, zero_mul]

include hk hv in
theorem tileS_in (h : Fin 2) (i : Fin 128) (j : Fin 256) (hj : 128 ≤ B.val * 128 + j.val) :
    tileS (rows Q B) (rows O B) k v (rows L B) (rows D B) (0 < B.val) h i j = dscore Q K V O L D h (pos B i) (key B j hj) := by
  by_cases hs : seen (0 < B.val) i j
  · unfold tileS dscore
    rw [if_pos ((seen_iff i j).1 hs).2, tileP_in Q K L hk h i j hj]
    unfold keep score
    rw [sum_head, hv j hj, mul_comm, sub_eq_add_neg, add_comm]
  · rw [tileS_out h hs, dscore_out _ _ _ _ _ _ fun hb => hs ((seen_iff i j).2 ⟨hj, hb⟩)]

/-- A sum over positions whose terms vanish off the 256 keys of block `B` is the sum over those keys. -/
theorem sum_keys (f : Pos → EReal) (g : Fin 256 → EReal) (hg : ∀ j (h : 128 ≤ B.val * 128 + j.val), g j = f (key B j h))
    (h0 : ∀ j : Fin 256, ¬128 ≤ B.val * 128 + j.val → g j = 0)
    (hf : ∀ s : Pos, (s.val + 128 < B.val * 128 ∨ B.val * 128 + 128 ≤ s.val) → f s = 0) : ∑ j, g j = ∑ s, f s := by
  classical
  have e : ∑ j, g j = ∑ j ∈ Finset.univ.filter (fun j : Fin 256 => 128 ≤ B.val * 128 + j.val), g j := by
    rw [Finset.sum_filter]
    refine Finset.sum_congr rfl fun j _ => ?_
    split
    · rfl
    · rename_i h; exact h0 j h
  rw [e]
  refine Finset.sum_of_injOn (fun j => if h : 128 ≤ B.val * 128 + j.val then key B j h else ⟨0, by norm_num⟩) ?_ ?_ ?_ ?_
  · intro a ha b hb hab
    have ha' := (Finset.mem_filter.1 (Finset.mem_coe.1 ha)).2
    have hb' := (Finset.mem_filter.1 (Finset.mem_coe.1 hb)).2
    simp only [dif_pos ha', dif_pos hb'] at hab
    have := congrArg Fin.val hab
    simp only [key] at this
    exact Fin.ext (by omega)
  · intro a _; exact Finset.mem_coe.2 (Finset.mem_univ _)
  · intro s _ hs
    apply hf
    by_contra hc
    push Not at hc
    apply hs
    refine ⟨⟨s.val + 128 - B.val * 128, by omega⟩, Finset.mem_coe.2 (Finset.mem_filter.2 ⟨Finset.mem_univ _, by dsimp only; omega⟩), ?_⟩
    have h' : 128 ≤ B.val * 128 + (s.val + 128 - B.val * 128) := by omega
    simp only [dif_pos h']
    exact Fin.ext (by simp only [key]; omega)
  · intro j hj
    have hj' := (Finset.mem_filter.1 hj).2
    simp only [dif_pos hj']
    exact hg j hj'

include hk hv in
theorem gradQ_block (i l : Fin 128) :
    tileQ (rows Q B) (rows O B) k v (rows L B) (rows D B) (0 < B.val) i l = gradQ Q K V O L D (pos B i) l := by
  unfold tileQ gradQ
  rw [sum_mul_eighth]
  refine sum_keys (B := B) _ _ (fun j hj => ?_) (fun j hj => ?_) (fun s hs => ?_)
  · rw [tileS_in Q K V O L D hk hv _ i j hj, hk j hj, mul_right_comm]
  · rw [tileS_out _ fun h => hj ((seen_iff i j).1 h).1, zero_mul, zero_mul]
  · rw [dscore_out, zero_mul, zero_mul]
    unfold inBand pos; dsimp only; have := i.isLt; omega

end Blocks

section Columns

variable (Q K V O : Pos → Fin 128 → EReal) (L D : Pos → Fin 2 → EReal)

/-- A sum over positions whose terms vanish off block `B` and the next is the sum over those two blocks. -/
theorem sum_two_blocks (f : Pos → EReal) (B : Fin 64) (hf : ∀ t : Pos, (t.val < B.val * 128 ∨ B.val * 128 + 256 ≤ t.val) → f t = 0) :
    ∑ t, f t = (∑ i, f (pos B i)) + if h : B.val + 1 < 64 then ∑ i, f (pos ⟨B.val + 1, h⟩ i) else 0 := by
  have hz : ∀ C : Fin 64, C ≠ B → C.val ≠ B.val + 1 → ∑ i, f (pos C i) = 0 := by
    intro C h1 h2
    refine Finset.sum_eq_zero fun i _ => hf _ ?_
    have h3 : C.val ≠ B.val := fun e => h1 (Fin.ext e)
    have := i.isLt
    unfold pos; dsimp only; omega
  rw [sum_pos]
  split
  · rename_i h
    refine Finset.sum_eq_add B ⟨B.val + 1, h⟩ ?_ ?_ ?_ ?_
    · intro e; have := congrArg Fin.val e; simp at this
    · rintro C - ⟨h1, h2⟩; exact hz C h1 fun e => h2 (Fin.ext e)
    · intro hh; exact absurd (Finset.mem_univ _) hh
    · intro hh; exact absurd (Finset.mem_univ _) hh
  · rename_i h
    rw [add_zero]
    refine Finset.sum_eq_single B ?_ ?_
    · intro C _ h1; exact hz C h1 fun e => by have := C.isLt; omega
    · intro hh; exact absurd (Finset.mem_univ _) hh

/-- The later 128 of the 256 keys are the block's own. -/
def own (j : Fin 128) : Fin 256 := ⟨128 + j.val, by have := j.isLt; omega⟩
/-- The first 128 of the 256 keys are those of the block before. -/
def before (j : Fin 128) : Fin 256 := ⟨j.val, by have := j.isLt; omega⟩

variable {k v k' v' : Fin 256 → Fin 128 → EReal} {B : Fin 64}

theorem key_own (j : Fin 128) (h : 128 ≤ B.val * 128 + (own j).val) : key B (own j) h = pos B j := by
  apply Fin.ext; simp only [key, own, pos]; omega

theorem key_before (hB : B.val + 1 < 64) (j : Fin 128) (h : 128 ≤ (⟨B.val + 1, hB⟩ : Fin 64).val * 128 + (before j).val) :
    key ⟨B.val + 1, hB⟩ (before j) h = pos B j := by
  apply Fin.ext; simp only [key, before, pos]; omega

variable (hk : ∀ (j : Fin 256) (h : 128 ≤ B.val * 128 + j.val), k j = K (key B j h))
  (hv : ∀ (j : Fin 256) (h : 128 ≤ B.val * 128 + j.val), v j = V (key B j h))

include hk hv in
theorem tileK_eq (j : Fin 256) (hj : 128 ≤ B.val * 128 + j.val) (l : Fin 128) :
    tileK (rows Q B) (rows O B) k v (rows L B) (rows D B) (0 < B.val) j l
      = ∑ i, dscore Q K V O L D (headOf l) (pos B i) (key B j hj) * eighth * Q (pos B i) l := by
  unfold tileK
  rw [sum_keep]
  refine Finset.sum_congr rfl fun i _ => ?_
  rw [tileS_in Q K V O L D hk hv _ i j hj, mul_assoc, mul_comm eighth]

include hk in
theorem tileV_eq (j : Fin 256) (hj : 128 ≤ B.val * 128 + j.val) (l : Fin 128) :
    tileV (rows Q B) (rows O B) k (rows L B) (0 < B.val) j l
      = ∑ i, O (pos B i) l * prob Q K L (headOf l) (pos B i) (key B j hj) := by
  unfold tileV
  rw [sum_keep]
  refine Finset.sum_congr rfl fun i _ => ?_
  rw [tileP_in Q K L hk _ i j hj, mul_comm]

theorem gradK_two (j l : Fin 128) :
    gradK Q K V O L D (pos B j) l
      = (∑ i, dscore Q K V O L D (headOf l) (pos B i) (pos B j) * eighth * Q (pos B i) l)
        + if h : B.val + 1 < 64 then ∑ i, dscore Q K V O L D (headOf l) (pos ⟨B.val + 1, h⟩ i) (pos B j) * eighth * Q (pos ⟨B.val + 1, h⟩ i) l else 0 := by
  unfold gradK
  refine sum_two_blocks _ B fun t ht => ?_
  rw [dscore_out, zero_mul, zero_mul]
  unfold inBand pos; dsimp only; have := j.isLt; omega

theorem gradV_two (j l : Fin 128) :
    gradV Q K O L (pos B j) l
      = (∑ i, O (pos B i) l * prob Q K L (headOf l) (pos B i) (pos B j))
        + if h : B.val + 1 < 64 then ∑ i, O (pos ⟨B.val + 1, h⟩ i) l * prob Q K L (headOf l) (pos ⟨B.val + 1, h⟩ i) (pos B j) else 0 := by
  unfold gradV
  refine sum_two_blocks _ B fun t ht => ?_
  rw [prob_out, mul_zero]
  unfold inBand pos; dsimp only; have := j.isLt; omega

/-- Where no block precedes, the first 128 keys get nothing. -/
theorem tileK_first {q o : Fin 128 → Fin 128 → EReal} {lse dsum : Fin 128 → Fin 2 → EReal} {prev : Prop} [Decidable prev] (hp : ¬prev) (j l : Fin 128) :
    tileK q o k v lse dsum prev (before j) l = 0 := by
  unfold tileK
  refine Finset.sum_eq_zero fun h _ => Finset.sum_eq_zero fun i _ => ?_
  rw [tileS_out, zero_mul]
  rintro ⟨-, h1 | h1⟩
  · simp only [before] at h1; have := j.isLt; omega
  · exact hp h1

theorem tileV_first {q o : Fin 128 → Fin 128 → EReal} {lse : Fin 128 → Fin 2 → EReal} {prev : Prop} [Decidable prev] (hp : ¬prev) (j l : Fin 128) :
    tileV q o k lse prev (before j) l = 0 := by
  unfold tileV
  refine Finset.sum_eq_zero fun h _ => Finset.sum_eq_zero fun i _ => ?_
  rw [tileP_out, zero_mul]
  rintro ⟨-, h1 | h1⟩
  · simp only [before] at h1; have := j.isLt; omega
  · exact hp h1

end Columns

end Cert.Band

end
-- ==== Proof.MaskWords.lean ====
module
public import Idealize.ShloMosaic.Lib.Pointwise
@[expose] public section
open Idealize.ShloMosaic
namespace Cert.Band

/-! # The masks' words

The comparisons of iotas the kernel writes, decided over the block's indices. -/

theorem ofBool_iff (b : Bool) : BitVec.ofBool b = 1 ↔ b = true := by revert b; decide

theorem cmpi_eq_ofNat : ∀ l n : Fin 128, IntOp.cmpi .eq (BitVec.ofNat 32 l.val) (BitVec.ofNat 32 n.val) = BitVec.ofBool (decide (l = n)) := by
  decide +kernel

theorem band_word : ∀ (i : Fin 128) (j : Fin 256),
    IntOp.andi (IntOp.cmpi .sge (IntOp.subi (IntOp.addi (BitVec.ofNat 32 i.val) 128#32) (BitVec.ofNat 32 j.val)) 0#32)
      (IntOp.cmpi .sle (IntOp.subi (IntOp.addi (BitVec.ofNat 32 i.val) 128#32) (BitVec.ofNat 32 j.val)) 128#32)
      = BitVec.ofBool (decide (j.val ≤ i.val + 128 ∧ i.val ≤ j.val)) := by
  decide +kernel

theorem own_word : ∀ j : Fin 256, IntOp.cmpi .sge (BitVec.ofNat 32 j.val) 128#32 = BitVec.ofBool (decide (128 ≤ j.val)) := by
  decide +kernel

theorem mask_word (p r : Prop) [Decidable p] [Decidable r] (w : BitVec 1) :
    IntOp.andi (BitVec.ofBool (decide p)) (IntOp.ori (BitVec.ofBool (decide r)) w) = 1 ↔ p ∧ (r ∨ w = 1) := by
  by_cases hp : p <;> by_cases hr : r <;> simp only [hp, hr, decide_true, decide_false] <;> revert w <;> decide

end Cert.Band
end
-- ==== Proof.Unit.lean ====
module
public import proofs.«01_k».proof.Proof.Gen.KernelIdeal.Skeleton
public import proofs.«01_k».proof.Proof.BandMath
public import proofs.«01_k».proof.Proof.MaskWords
public import Idealize.ShloMosaic.Lib.Pointwise
@[expose] public section
set_option maxRecDepth 16384
noncomputable section
open Idealize.ShloMosaic Idealize.ShloMosaic.TcCoe Idealize.SL.Sem
namespace Cert.KernelIdeal.Attn
open Cert.KernelIdeal Cert.KernelIdeal.Gen Cert.Band

/-! # One unit of the attention backward: 128 queries of one pair of heads

The vector expressions one unit is made of, written once for any float operations, and what each is at an index in the
extended reals. -/

section Ops
variable {F : FTy → Type} [FloatOps F] [Named F]

/-- The lane number of each element. -/
def lanes : IVec S128x128 32 := iota .tc S128x128 32 [1] iota_S128x128_d1_w32

/-- The lanes of the first head of a pair. -/
def low : IVec S128x128 1 := cmpi .slt lanes (broadcast S128x128 64#32)

/-- The keys each query row sees; `w` says whether the block before is there. -/
def seenMask (w : BitVec 1) : IVec S256x256 1 :=
  have a : IVec S128x256 32 := iota .tc S128x256 32 [0] iota_S128x256_d0_w32
  have b : IVec S128x256 32 := iota .tc S128x256 32 [1] iota_S128x256_d1_w32
  have d : IVec S128x256 32 := subi (addi a (broadcast S128x256 128#32)) b
  have u : IVec S128x256 1 := andi (andi (cmpi .sge d (broadcast S128x256 0#32)) (cmpi .sle d (broadcast S128x256 128#32)))
    (ori (cmpi .sge b (broadcast S128x256 128#32)) (broadcast S128x256 w))
  concatenate S256x256 0 [⟨S128x256, u⟩, ⟨S128x256, u⟩] concatenates_S128x256_S128x256_S256x256_d0

/-- The two heads of a block stacked, the other head's lanes put to zero. -/
def stack (x : FVec F S128x128 .bf16) : FVec F S256x128 .bf16 :=
  have z : FVec F S128x128 .bf16 := broadcast S128x128 (Scalar.ofBits .bf16 0x0000#16)
  concatenate S256x128 0 [⟨S128x128, (select low x z : FVec F S128x128 .bf16)⟩, ⟨S128x128, (select low z x : FVec F S128x128 .bf16)⟩]
    concatenates_S128x128_S128x128_S256x128_d0

/-- A block below the block before it. -/
def below (x y : FVec F S128x128 .bf16) : FVec F S256x128 .bf16 :=
  concatenate S256x128 0 [⟨S128x128, y⟩, ⟨S128x128, x⟩] concatenates_S128x128_S128x128_S256x128_d0

def scaled (q : FVec F S128x128 .bf16) : FVec F S128x128 .bf16 :=
  mulf q (broadcast S128x128 (Scalar.ofBits .bf16 0x3E00#16))

/-- The column whose lane number is `h`. -/
def column (x : FVec F S128x128 .f32) (h : BitVec 32) : FVec F S128x1 .f32 :=
  have y : FVec F S128x128 .f32 := select (cmpi .eq lanes (broadcast S128x128 h)) x (broadcast S128x128 (Scalar.ofBits .f32 0x00000000#32))
  have z : FVec F S128 .f32 := multiReduction .add [1] S128 y 0x00000000#32 reduces_S128x128_S128 (.inl rfl) rfl
  shapeCast S128x1 z shapeCasts_S128_S128x1

def columns (x : FVec F S128x128 .f32) (h : BitVec 32) : FVec F S256x1 .f32 :=
  concatenate S256x1 0 [⟨S128x1, column x h⟩, ⟨S128x1, column x (Scalar.addi h 1#32)⟩] concatenates_S128x1_S128x1_S256x1_d0

variable (q k k' v v' o : FVec F S128x128 .bf16) (lse dsum : FVec F S128x128 .f32) (h : BitVec 32) (w : BitVec 1)

def probs : FVec F S256x256 .f32 :=
  have s : FVec F S256x256 .f32 := matmul dot_S256x128_S256x128_S256x256_1_1_0_0_n_n none (stack (scaled q)) (below k k')
    (constant S256x256 .f32 0x00000000#32)
  have m : FVec F S256x256 .f32 := select (seenMask w) s (broadcast S256x256 (Named.named κ "mask" 0xF149F2CA#32))
  exp (subf m (broadcastTo S256x256 (columns lse h) broadcasts_S256x1_S256x256))

def dscores : FVec F S256x256 .bf16 :=
  have s : FVec F S256x256 .f32 := matmul dot_S256x128_S256x128_S256x256_1_1_0_0_n_n none (stack o) (below v v')
    (constant S256x256 .f32 0x00000000#32)
  truncf .bf16 (mulf (probs q k k' lse h w) (subf s (broadcastTo S256x256 (columns dsum h) broadcasts_S256x1_S256x256))) bitsLt_bf16_f32

def unitV : FVec F S256x128 .f32 :=
  matmul dot_S256x256_S256x128_S256x128_0_0_1_1_n_n none (truncf .bf16 (probs q k k' lse h w) bitsLt_bf16_f32) (stack o)
    (constant S256x128 .f32 0x00000000#32)

def unitK : FVec F S256x128 .f32 :=
  matmul dot_S256x256_S256x128_S256x128_0_0_1_1_n_n none (dscores q k k' v v' o lse dsum h w) (stack (scaled q))
    (constant S256x128 .f32 0x00000000#32)

def unitQ : FVec F S128x128 .f32 :=
  have s : FVec F S256x128 .f32 := mulf (matmul dot_S256x256_S256x128_S256x128_1_0_0_1_n_n none (dscores q k k' v v' o lse dsum h w)
    (below k k') (constant S256x128 .f32 0x00000000#32)) (broadcast S256x128 (Scalar.ofBits .f32 0x3E000000#32))
  select low (extractStridedSlice S128x128 ![0, 0] s slices_S256x128_o0_0_S128x128)
    (extractStridedSlice S128x128 ![128, 0] s slices_S256x128_o128_0_S128x128)

/-- The rows of a stacked product that belong to the block before, and to the block itself. -/
def upper (s : FVec F S256x128 .f32) : FVec F S128x128 .f32 := extractStridedSlice S128x128 ![0, 0] s slices_S256x128_o0_0_S128x128
def lower (s : FVec F S256x128 .f32) : FVec F S128x128 .f32 := extractStridedSlice S128x128 ![128, 0] s slices_S256x128_o128_0_S128x128

/-- A finished tile as it is stored. -/
def tile (x : FVec F S128x128 .f32) : FVec F S1x128x128 .bf16 :=
  shapeCast S1x128x128 (truncf .bf16 x bitsLt_bf16_f32 : FVec F S128x128 .bf16) shapeCasts_S128x128_S1x128x128

def zeros : FVec F S128x128 .f32 := broadcast S128x128 (Scalar.ofBits .f32 0x00000000#32)

end Ops

/-! ## The expressions at an index -/

/-- Row `i` of head `h` in a stack. -/
def row (h : Fin 2) (i : Fin 128) : Fin 256 := ⟨h.val * 128 + i.val, by omega⟩

theorem ofNat_slt_64 (l : Fin 128) : IntOp.cmpi .slt (BitVec.ofNat 32 l.val) 64#32 = BitVec.ofBool (decide (l.val < 64)) := by
  revert l; decide

theorem low_apply (i l : Fin 128) : low (ix2 i l) = BitVec.ofBool (decide (l.val < 64)) := by
  have : low (ix2 i l) = IntOp.cmpi .slt (BitVec.ofNat 32 l.val) 64#32 := by
    pointwise [low, lanes]
  rw [this, ofNat_slt_64]

theorem low_one (i l : Fin 128) : low (ix2 i l) = 1 ↔ headOf l = 0 := by
  rw [low_apply]; revert l; decide

abbrev M (x : FVec Ideal S128x128 .bf16) : Fin 128 → Fin 128 → EReal := fun i l => x (ix2 i l)
abbrev M' (x : FVec Ideal S128x128 .f32) : Fin 128 → Fin 128 → EReal := fun i l => x (ix2 i l)

theorem select_low {α : Type} (i l : Fin 128) (a b : α) : Scalar.select (low (ix2 i l)) a b = if headOf l = 0 then a else b := by
  unfold Scalar.select; exact if_congr (low_one i l) rfl rfl

theorem one_iff (l : Fin 128) : headOf l = 1 ↔ ¬headOf l = 0 := by revert l; decide

theorem stack_apply (x : FVec Ideal S128x128 .bf16) (h : Fin 2) (i l : Fin 128) :
    stack x (ix2 (row h i) l) = keep (M x) h i l := by
  fin_cases h
  · pointwise [stack, row, keep, M]
    exact select_low ..
  · pointwise [stack, row, keep, M]
    rw [select_low, if_congr (one_iff l) rfl rfl, ite_not]

/-- The 256 keys of a unit: the block before, then the block. -/
def keys (x y : FVec Ideal S128x128 .bf16) (j : Fin 256) (l : Fin 128) : EReal :=
  if h : j.val < 128 then y (ix2 ⟨j.val, h⟩ l) else x (ix2 ⟨j.val - 128, by omega⟩ l)

theorem below_apply (x y : FVec Ideal S128x128 .bf16) (j : Fin 256) (l : Fin 128) : below x y (ix2 j l) = keys x y j l := by
  by_cases h : j.val < 128
  · pointwise [below, keys]
  · pointwise [below, keys]

theorem eighth_bf16 : Ideal.ofBits .bf16 0x3E00#16 = eighth := by
  simp [eighth, Ideal.ofBits, Ideal.ieee, -EReal.coe_mul]; norm_num

theorem eighth_f32 : Ideal.ofBits .f32 0x3E000000#32 = eighth := by
  simp [eighth, Ideal.ofBits, Ideal.ieee, -EReal.coe_mul]; norm_num

theorem scaled_apply (q : FVec Ideal S128x128 .bf16) (i l : Fin 128) : scaled q (ix2 i l) = q (ix2 i l) * eighth := by
  pointwise [scaled]
  rw [eighth_bf16]

theorem M_scaled (q : FVec Ideal S128x128 .bf16) : M (scaled q) = fun i l => M q i l * eighth := by
  funext i l; exact scaled_apply q i l

theorem column_apply (x : FVec Ideal S128x128 .f32) (h : BitVec 32) (n : Fin 128) (hn : h = BitVec.ofNat 32 n.val) (i : Fin 128) :
    column x h (ix2 i 0) = x (ix2 i n) := by
  subst hn
  pointwise [column, lanes]
  simp only [cmpi_eq_ofNat, Scalar.select, ofBool_iff, decide_eq_true_eq, Finset.sum_ite_eq', Finset.mem_univ, if_true]

theorem columns_apply (x : FVec Ideal S128x128 .f32) (h : BitVec 32) (n : Nat) (hn : n + 1 < 128) (hh : h = BitVec.ofNat 32 n) (a : Fin 2)
    (i : Fin 128) : columns x h (ix2 (row a i) 0) = x (ix2 i ⟨n + a.val, by omega⟩) := by
  fin_cases a
  · pointwise [columns, row]
    exact column_apply x h ⟨n, by omega⟩ hh i
  · pointwise [columns, row]
    refine column_apply x _ ⟨n + 1, by omega⟩ ?_ i
    subst hh
    simp [Scalar.addi, IntOp.addi, BitVec.ofNat_add]

theorem seenMask_apply (w : BitVec 1) (a : Fin 2) (i : Fin 128) (j : Fin 256) :
    seenMask w (ix2 (row a i) j) = 1 ↔ seen (w = 1) i j := by
  fin_cases a
  · pointwise [seenMask, row, seen]
    rw [band_word, own_word]; exact mask_word ..
  · pointwise [seenMask, row, seen]
    rw [band_word, own_word]; exact mask_word ..

theorem mask_named : Named.named (F := Ideal) κ "mask" (φ := .f32) 0xF149F2CA#32 = ⊥ := rfl

variable (q k k' v v' o : FVec Ideal S128x128 .bf16) (lse dsum : FVec Ideal S128x128 .f32) (h : BitVec 32) (w : BitVec 1)
  (n : Nat) (hn : n + 1 < 128) (hh : h = BitVec.ofNat 32 n)

/-- The two columns of a unit's heads. -/
abbrev pair (x : FVec Ideal S128x128 .f32) (i : Fin 128) (a : Fin 2) : EReal := x (ix2 i ⟨n + a.val, by omega⟩)

include hh in
theorem probs_apply (a : Fin 2) (i : Fin 128) (j : Fin 256) :
    probs q k k' lse h w (ix2 (row a i) j) = tileP (M q) (keys k k') (pair n hn lse) (w = 1) a i j := by
  pointwise [probs, tileP]
  rw [columns_apply lse h n hn hh, mask_named]
  simp only [stack_apply, below_apply, M_scaled]
  unfold Scalar.select
  rw [if_congr (seenMask_apply w a i j) rfl rfl]

include hh in
theorem dscores_apply (a : Fin 2) (i : Fin 128) (j : Fin 256) :
    dscores q k k' v v' o lse dsum h w (ix2 (row a i) j)
      = tileS (M q) (M o) (keys k k') (keys v v') (pair n hn lse) (pair n hn dsum) (w = 1) a i j := by
  pointwise [dscores, tileS]
  rw [columns_apply dsum h n hn hh, probs_apply q k k' lse h w n hn hh]
  simp only [stack_apply, below_apply]

theorem sum_rows (f : Fin 256 → EReal) : ∑ r, f r = ∑ a : Fin 2, ∑ i : Fin 128, f (row a i) := Fin.sum_univ_tiles 2 128 rfl f

include hh in
theorem unitV_apply (j : Fin 256) (l : Fin 128) :
    unitV q k k' o lse h w (ix2 j l) = tileV (M q) (M o) (keys k k') (pair n hn lse) (w = 1) j l := by
  pointwise [unitV, tileV]
  rw [sum_rows]
  simp only [stack_apply, probs_apply q k k' lse h w n hn hh]

include hh in
theorem unitK_apply (j : Fin 256) (l : Fin 128) :
    unitK q k k' v v' o lse dsum h w (ix2 j l)
      = tileK (M q) (M o) (keys k k') (keys v v') (pair n hn lse) (pair n hn dsum) (w = 1) j l := by
  pointwise [unitK, tileK]
  rw [sum_rows]
  simp only [stack_apply, M_scaled, dscores_apply q k k' v v' o lse dsum h w n hn hh]

include hh in
theorem unitQ_apply (i l : Fin 128) :
    unitQ q k k' v v' o lse dsum h w (ix2 i l)
      = tileQ (M q) (M o) (keys k k') (keys v v') (pair n hn lse) (pair n hn dsum) (w = 1) i l := by
  have key : ∀ a : Fin 2, ∑ j, dscores q k k' v v' o lse dsum h w (ix2 (row a i) j) * below k k' (ix2 j l)
      = ∑ j, tileS (M q) (M o) (keys k k') (keys v v') (pair n hn lse) (pair n hn dsum) (w = 1) a i j * keys k k' j l := fun a => by
    simp only [below_apply, dscores_apply q k k' v v' o lse dsum h w n hn hh]
  have h0 : ∑ j, dscores q k k' v v' o lse dsum h w (ix2 ⟨i.val, by omega⟩ j) * below k k' (ix2 j l) = _ :=
    Eq.trans (by rw [show (⟨i.val, by omega⟩ : Fin 256) = row 0 i from Fin.ext (by simp [row])]) (key 0)
  have h1 : ∑ j, dscores q k k' v v' o lse dsum h w (ix2 ⟨128 + i.val, by omega⟩ j) * below k k' (ix2 j l) = _ :=
    Eq.trans (by rw [show (⟨128 + i.val, by omega⟩ : Fin 256) = row 1 i from Fin.ext (by simp [row])]) (key 1)
  pointwise [unitQ, tileQ]
  rw [select_low, eighth_f32, h0, h1]
  by_cases hl : headOf l = 0
  · rw [if_pos hl, hl]
  · rw [if_neg hl, (one_iff l).2 hl]

theorem upper_apply (s : FVec Ideal S256x128 .f32) (j l : Fin 128) : upper s (ix2 j l) = s (ix2 (before j) l) := by
  pointwise [upper, before]
theorem lower_apply (s : FVec Ideal S256x128 .f32) (j l : Fin 128) : lower s (ix2 j l) = s (ix2 (own j) l) := by
  pointwise [lower, own]
theorem tile_apply (x : FVec Ideal S128x128 .f32) (u : Fin 1) (i l : Fin 128) : tile x (ix3 u i l) = x (ix2 i l) := by
  pointwise [tile]
theorem zeros_apply (i l : Fin 128) : zeros (F := Ideal) (ix2 i l) = 0 := by
  pointwise [zeros]
end Cert.KernelIdeal.Attn
end
-- ==== Proof.Tiles.lean ====
module
public import proofs.«01_k».proof.Proof.Gen.KernelIdeal.Frame
public import proofs.«01_k».proof.Proof.Unit
public import Idealize.ShloMosaic.Lib.Pipeline.Value
public import Idealize.ShloMosaic.Lib.WholeRead
public import Idealize.ShloMosaic.Lib.Tactic
@[expose] public section
set_option maxRecDepth 16384
noncomputable section
open Idealize.ShloMosaic Idealize.ShloMosaic.TcCoe Idealize.SL.Sem
namespace Cert.KernelIdeal.Attn
open Cert.KernelIdeal Cert.KernelIdeal.Gen Cert.Band

/-! # The tiles of a block

A grid point's block holds 4 units of 128 rows for each of 6 pairs of heads. Here are the tiles a unit loads, and the
functions of the block's index that its stores are pieces of. -/

section Tiles
variable {F : FTy → Type} [FloatOps F] [Named F]

/-- An entry of a block, the coordinates taken modulo the block's sides. -/
def at3 {α : Type} (x : S6x512x128.Idx → α) (g r : ℕ) (l : Fin 128) : α :=
  x (ix3 ⟨g % 6, Nat.mod_lt _ (by norm_num)⟩ ⟨r % 512, Nat.mod_lt _ (by norm_num)⟩ l)
def at2 {α : Type} (x : S512x128.Idx → α) (r : ℕ) (l : Fin 128) : α := x (ix2 ⟨r % 512, Nat.mod_lt _ (by norm_num)⟩ l)

/-- The 128 rows from row `o` on. -/
def rows3 (x : FVec F S6x512x128 .bf16) (g o : ℕ) : FVec F S128x128 .bf16 := fun j => at3 x g (o + (j 0).val) (j 1)
def rows2 (x : FVec F S512x128 .f32) (o : ℕ) : FVec F S128x128 .f32 := fun j => at2 x (o + (j 0).val) (j 1)

/-- The 128 rows before unit `b`: of the block before for the first unit. -/
def prior (x x' : FVec F S6x512x128 .bf16) (g : ℕ) : ℕ → FVec F S128x128 .bf16
  | 0 => rows3 x' g 384
  | b + 1 => rows3 x g (128 * b)

def hasPrior (i : grid0.Coords) : ℕ → BitVec 1
  | 0 => Scalar.cmpi .sgt (BitVec.ofNat 32 (i 0).val) 0#32
  | _ + 1 => 1#1

def headWord (i : grid0.Coords) (g : ℕ) : BitVec 32 := Scalar.addi (Scalar.muli (BitVec.ofNat 32 (i 1).val) 12#32) (BitVec.ofNat 32 (2 * g))

variable (i : grid0.Coords) (x0 x1 x2 x3 x4 x5 : FVec F S6x512x128 .bf16) (x6 x7 : FVec F S512x128 .f32)

def blockQ (g b : ℕ) : FVec F S128x128 .f32 :=
  unitQ (rows3 x0 g (128 * b)) (rows3 x1 g (128 * b)) (prior x1 x2 g b) (rows3 x3 g (128 * b)) (prior x3 x4 g b) (rows3 x5 g (128 * b))
    (rows2 x7 (128 * b)) (rows2 x6 (128 * b)) (headWord i g) (hasPrior i b)
def blockK (g b : ℕ) : FVec F S256x128 .f32 :=
  unitK (rows3 x0 g (128 * b)) (rows3 x1 g (128 * b)) (prior x1 x2 g b) (rows3 x3 g (128 * b)) (prior x3 x4 g b) (rows3 x5 g (128 * b))
    (rows2 x7 (128 * b)) (rows2 x6 (128 * b)) (headWord i g) (hasPrior i b)
def blockV (g b : ℕ) : FVec F S256x128 .f32 :=
  unitV (rows3 x0 g (128 * b)) (rows3 x1 g (128 * b)) (prior x1 x2 g b) (rows3 x5 g (128 * b))
    (rows2 x7 (128 * b)) (headWord i g) (hasPrior i b)

/-- What a unit's rows receive: from its own queries and, but for the last unit, from those of the next. -/
def joined (s : ℕ → FVec F S256x128 .f32) (b : ℕ) : FVec F S128x128 .f32 := addf (lower (s b)) (upper (s (b + 1)))

/-! ## Loads -/

section Loads
variable {sig' : RefSig} {κ' : Kind} {sp : Space}

theorem load3 {m : Memref sig' κ' sp S6x512x128 .bf16} (hm : m.IsWhole) (x : FVec F S6x512x128 .bf16) (g o : ℕ)
    (inb : ∀ a, (![g, 0, 0] : Fin 3 → ℕ) a + (![1, 512, 128] : Fin 3 → ℕ) a ≤ S6x512x128.size a)
    (inb' : ∀ a, (![o, 0] : Fin 2 → ℕ) a + (![128, 128] : Fin 2 → ℕ) a ≤ S512x128.size a) :
    (LoadRect.valAlong (lr := (Rect.unit (s := S512x128) ![o, 0] ![128, 128] inb').toLoadRect)
      (LR := (Rect.unit (s := S6x512x128) ![g, 0, 0] ![1, 512, 128] inb).withinL
        ((Rect.unit (s := S512x128) ![o, 0] ![128, 128] inb').toLoadRect.consLift ![1, 512, 128] (by decide) (by decide)) (fun _ => rfl))
      (LoadRect.numel_consLift (Rect.unit (s := S512x128) ![o, 0] ![128, 128] inb').toLoadRect ![1, 512, 128] (by decide) (by decide)) (View.readAt (Elt F) m.view ((Rect.unit (s := S6x512x128) ![g, 0, 0] ![1, 512, 128] inb).withinL
        ((Rect.unit (s := S512x128) ![o, 0] ![128, 128] inb').toLoadRect.consLift ![1, 512, 128] (by decide) (by decide)) (fun _ => rfl)) (hm.unread x)))
      = rows3 x g o := by
  funext j
  refine (hm.readAt_unread (Val := Elt F) x _ _).trans ?_
  have hx := Shape.reshapeEquiv_cons_one (d := ![128, 128])
    (LoadRect.numel_consLift (Rect.unit (s := S512x128) ![o, 0] ![128, 128] inb').toLoadRect ![1, 512, 128] (by decide) (by decide)) j
  have hg : g + 1 ≤ 6 := inb 0
  have ho : o + 128 ≤ 512 := inb' 0
  have h0 : (j 0).val < 128 := (j 0).isLt
  refine (congrArg (fun z => x (LoadRect.idx _ z)) hx).trans (congrArg x (funext fun a => Fin.ext ?_))
  refine (LoadRect.idx_apply ..).trans ?_
  fin_cases a
  · show g + 0 + 1 * 0 = g % 6
    omega
  · show 0 + o + 1 * (j 0).val = (o + (j 0).val) % 512
    omega
  · show 0 + 0 + 1 * (j 1).val = (j 1).val
    omega

theorem load2 {m : Memref sig' κ' sp S512x128 .f32} (hm : m.IsWhole) (x : FVec F S512x128 .f32) (o : ℕ)
    (inb : ∀ a, (![o, 0] : Fin 2 → ℕ) a + (![128, 128] : Fin 2 → ℕ) a ≤ S512x128.size a) :
    View.ld (View.read (Elt F) m.view (hm.unread x)) (Rect.unit (s := S512x128) ![o, 0] ![128, 128] inb) = rows2 x o := by
  funext j
  refine (congrFun (hm.read_unread (Val := Elt F) x) _).trans ?_
  refine congrArg x (funext fun a => Fin.ext ?_)
  fin_cases a
  · show o + 1 * (j 0).val = (o + (j 0).val) % 512
    have ho : o + 128 ≤ 512 := inb 0
    have h0 : (j 0).val < 128 := (j 0).isLt
    omega
  · show 0 + 1 * (j 1).val = (j 1).val
    omega
end Loads

/-- The loads of unit `b` of the pair of heads `g`. -/
def Loaded (g b : ℕ) (q k k' v v' o : FVec F S128x128 .bf16) (lse dsum : FVec F S128x128 .f32) : Prop :=
  (q = rows3 x0 g (128 * b) ∧ k = rows3 x1 g (128 * b) ∧ k' = prior x1 x2 g b ∧ v = rows3 x3 g (128 * b) ∧ v' = prior x3 x4 g b
    ∧ o = rows3 x5 g (128 * b)) ∧ lse = rows2 x7 (128 * b) ∧ dsum = rows2 x6 (128 * b)
end Tiles

/-! ## What the stores are pieces of -/

section Value
variable (i : grid0.Coords) (x0 x1 x2 x3 x4 x5 : FVec Ideal S6x512x128 .bf16) (x6 x7 : FVec Ideal S512x128 .f32)

def rowsOf (x : FVec Ideal S6x512x128 .bf16) (g b : ℕ) (i l : Fin 128) : EReal := at3 x g (128 * b + i.val) l
def keysOf (x x' : FVec Ideal S6x512x128 .bf16) (g b : ℕ) (j : Fin 256) (l : Fin 128) : EReal :=
  if 128 ≤ 128 * b + j.val then at3 x g (128 * b + j.val - 128) l else at3 x' g (384 + j.val) l
def pairOf (x : FVec Ideal S512x128 .f32) (g b : ℕ) (i : Fin 128) (a : Fin 2) : EReal :=
  at2 x (128 * b + i.val) ⟨(2 * g + a.val) % 128, Nat.mod_lt _ (by norm_num)⟩
def prevOf (i : grid0.Coords) (b : ℕ) : Prop := 0 < b ∨ 0 < (i 0).val
instance (b : ℕ) : Decidable (prevOf i b) := by unfold prevOf; infer_instance

def valueQ (g b : ℕ) : Fin 128 → Fin 128 → EReal :=
  tileQ (rowsOf x0 g b) (rowsOf x5 g b) (keysOf x1 x2 g b) (keysOf x3 x4 g b) (pairOf x7 g b) (pairOf x6 g b) (prevOf i b)
def valueK (g b : ℕ) : Fin 256 → Fin 128 → EReal :=
  tileK (rowsOf x0 g b) (rowsOf x5 g b) (keysOf x1 x2 g b) (keysOf x3 x4 g b) (pairOf x7 g b) (pairOf x6 g b) (prevOf i b)
def valueV (g b : ℕ) : Fin 256 → Fin 128 → EReal :=
  tileV (rowsOf x0 g b) (rowsOf x5 g b) (keysOf x1 x2 g b) (pairOf x7 g b) (prevOf i b)

theorem keys_rows (x x' : FVec Ideal S6x512x128 .bf16) (g b : ℕ) : keys (rows3 x g (128 * b)) (prior x x' g b) = keysOf x x' g b := by
  funext j l
  unfold keys keysOf
  have := j.isLt
  by_cases hj : j.val < 128
  · rw [dif_pos hj]
    cases b with
    | zero => rw [if_neg (by omega)]; rfl
    | succ n => rw [if_pos (by omega)]; show at3 x g (128 * n + j.val) l = _; congr 1; omega
  · rw [dif_neg hj, if_pos (by omega)]; show at3 x g (128 * b + (j.val - 128)) l = _; congr 1; omega

theorem pair_rows (x : FVec Ideal S512x128 .f32) (g b : ℕ) (hg : 2 * g + 1 < 128) : pair (2 * g) hg (rows2 x (128 * b)) = pairOf x g b := by
  funext i a
  show at2 x (128 * b + i.val) _ = _
  unfold pairOf
  congr 1
  have := a.isLt
  refine Fin.ext (Nat.mod_eq_of_lt ?_).symm
  show 2 * g + a.val < 128
  omega

theorem sgt_word : ∀ n : Fin 16, Scalar.cmpi .sgt (BitVec.ofNat 32 n.val) 0#32 = 1 ↔ 0 < n.val := by decide +kernel

theorem hasPrior_iff (b : ℕ) : (hasPrior i b = 1) = prevOf i b := by
  apply propext
  unfold prevOf
  cases b with
  | zero => exact (sgt_word (i 0)).trans (by simp)
  | succ n => simp [hasPrior]

theorem headWord_eq (g : ℕ) : headWord i g = BitVec.ofNat 32 (2 * g) := by
  have h : (i 1).val = 0 := by have := (i 1).isLt; change _ < 1 at this; omega
  unfold headWord
  rw [h]; simp [Scalar.addi, Scalar.muli, IntOp.addi, IntOp.muli]

variable {q k k' v v' o : FVec Ideal S128x128 .bf16} {lse dsum : FVec Ideal S128x128 .f32} {g b : ℕ} (hg : g < 6)
  (hl : Loaded x0 x1 x2 x3 x4 x5 x6 x7 g b q k k' v v' o lse dsum)

include hg hl in
theorem unitQ_value (r l : Fin 128) : unitQ q k k' v v' o lse dsum (headWord i g) (hasPrior i b) (ix2 r l)
    = valueQ i x0 x1 x2 x3 x4 x5 x6 x7 g b r l := by
  obtain ⟨⟨rfl, rfl, rfl, rfl, rfl, rfl⟩, rfl, rfl⟩ := hl
  rw [unitQ_apply _ _ _ _ _ _ _ _ _ _ (2 * g) (by omega) (headWord_eq i g)]
  unfold valueQ
  simp only [keys_rows, pair_rows, hasPrior_iff]
  rfl

include hg hl in
theorem unitK_value (r : Fin 256) (l : Fin 128) : unitK q k k' v v' o lse dsum (headWord i g) (hasPrior i b) (ix2 r l)
    = valueK i x0 x1 x2 x3 x4 x5 x6 x7 g b r l := by
  obtain ⟨⟨rfl, rfl, rfl, rfl, rfl, rfl⟩, rfl, rfl⟩ := hl
  rw [unitK_apply _ _ _ _ _ _ _ _ _ _ (2 * g) (by omega) (headWord_eq i g)]
  unfold valueK
  simp only [keys_rows, pair_rows, hasPrior_iff]
  rfl

include hg hl in
theorem unitV_value (r : Fin 256) (l : Fin 128) : unitV q k k' o lse (headWord i g) (hasPrior i b) (ix2 r l)
    = valueV i x0 x1 x2 x5 x7 g b r l := by
  obtain ⟨⟨rfl, rfl, rfl, rfl, rfl, rfl⟩, rfl, rfl⟩ := hl
  rw [unitV_apply _ _ _ _ _ _ _ (2 * g) (by omega) (headWord_eq i g)]
  unfold valueV
  simp only [keys_rows, pair_rows, hasPrior_iff]
  rfl

/-! The five outputs as functions of the block's index. -/

def rowIn (p : S6x512x128.Idx) : Fin 128 := ⟨(p 1).val % 128, Nat.mod_lt _ (by norm_num)⟩

def outQ : FVec Ideal S6x512x128 .bf16 := fun p => valueQ i x0 x1 x2 x3 x4 x5 x6 x7 (p 0).val ((p 1).val / 128) (rowIn p) (p 2)

/-- Rows that stay in the block: a unit's own keys, and those the next unit adds. -/
def outStay (s : ℕ → ℕ → Fin 256 → Fin 128 → EReal) : FVec Ideal S6x512x128 .bf16 := fun p =>
  s (p 0).val ((p 1).val / 128) (own (rowIn p)) (p 2)
    + if (p 1).val / 128 < 3 then s (p 0).val ((p 1).val / 128 + 1) (before (rowIn p)) (p 2) else 0

/-- Rows that go to the block before: what its first unit adds there. -/
def outEdge (s : ℕ → ℕ → Fin 256 → Fin 128 → EReal) : FVec Ideal S6x512x128 .bf16 := fun p =>
  if (p 1).val / 128 < 3 then 0 else s (p 0).val 0 (before (rowIn p)) (p 2)

end Value

section Pieces
variable {b g : ℕ} (hb : b < 4)
  (inb : ∀ a, (![g, 128 * b, 0] : Fin 3 → ℕ) a + (![1, 128, 128] : Fin 3 → ℕ) a ≤ S6x512x128.size a)

/-- A store's tile put at unit `b` of pair `g` is a piece of `G` when its entries are. -/
theorem piece (G : FVec Ideal S6x512x128 .bf16) (x : FVec Ideal S128x128 .f32)
    (h : ∀ (p : S6x512x128.Idx) (l : Fin 128), (p 0).val = g → (p 1).val / 128 = b → p 2 = l → x (ix2 (rowIn p) l) = G p)
    (y : S1x128x128.Idx) : tile x y = G ((Rect.unit (s := S6x512x128) ![g, 128 * b, 0] ![1, 128, 128] inb).emb y) := by
  have h1 : (y 1).val < 128 := (y 1).isLt
  have h0 : (y 0).val < 1 := (y 0).isLt
  rw [← h _ (y 2) (by show g + 1 * (y 0).val = g; omega) (by show (128 * b + 1 * (y 1).val) / 128 = b; omega)
    (Fin.ext (by show 0 + 1 * (y 2).val = (y 2).val; omega))]
  have e : y = ix3 (y 0) (y 1) (y 2) := by idx_ext
  refine (congrArg (tile x) e).trans ((tile_apply x (y 0) (y 1) (y 2)).trans ?_)
  refine congrArg (fun r => x (ix2 r (y 2))) (Fin.ext ?_)
  show (y 1).val = (128 * b + 1 * (y 1).val) % 128
  omega
end Pieces
end Cert.KernelIdeal.Attn
end
-- ==== Proof.Pieces.lean ====
module
public import proofs.«01_k».proof.Proof.Tiles
@[expose] public section
set_option maxRecDepth 16384
noncomputable section
open Idealize.ShloMosaic Idealize.ShloMosaic.TcCoe Idealize.SL.Sem
namespace Cert.KernelIdeal.Attn
open Cert.KernelIdeal Cert.KernelIdeal.Gen Cert.Band

/-! # Every store is a piece of the block's values -/

section Piece
variable (i : grid0.Coords) {x0 x1 x2 x3 x4 x5 : FVec Ideal S6x512x128 .bf16} {x6 x7 : FVec Ideal S512x128 .f32}
  {q k k' v v' o q₂ k₂ k₂' v₂ v₂' o₂ : FVec Ideal S128x128 .bf16} {lse dsum lse₂ dsum₂ : FVec Ideal S128x128 .f32}

theorem pieceQ (g b : ℕ) (inb) (hl : Loaded x0 x1 x2 x3 x4 x5 x6 x7 g b q k k' v v' o lse dsum) (y : S1x128x128.Idx) :
    tile (unitQ q k k' v v' o lse dsum (headWord i g) (hasPrior i b)) y
      = outQ i x0 x1 x2 x3 x4 x5 x6 x7 ((Rect.unit (s := S6x512x128) ![g, 128 * b, 0] ![1, 128, 128] inb).emb y) :=
  piece inb _ _ (fun p l h0 h1 h2 => by
    rw [unitQ_value i x0 x1 x2 x3 x4 x5 x6 x7 (h0 ▸ (p 0).isLt) hl, ← h0, ← h1, ← h2]; rfl) y

theorem pieceK_mid (g b : ℕ) (hb : b < 3) (inb) (hl : Loaded x0 x1 x2 x3 x4 x5 x6 x7 g b q k k' v v' o lse dsum)
    (hl₂ : Loaded x0 x1 x2 x3 x4 x5 x6 x7 g (b + 1) q₂ k₂ k₂' v₂ v₂' o₂ lse₂ dsum₂) (y : S1x128x128.Idx) :
    tile (addf (lower (unitK q k k' v v' o lse dsum (headWord i g) (hasPrior i b)))
        (upper (unitK q₂ k₂ k₂' v₂ v₂' o₂ lse₂ dsum₂ (headWord i g) (hasPrior i (b + 1))))) y
      = outStay (valueK i x0 x1 x2 x3 x4 x5 x6 x7) ((Rect.unit (s := S6x512x128) ![g, 128 * b, 0] ![1, 128, 128] inb).emb y) :=
  piece inb _ _ (fun p l h0 h1 h2 => by
    have hg : g < 6 := h0 ▸ (p 0).isLt
    refine (congrArg₂ (· + ·) (lower_apply _ _ _) (upper_apply _ _ _)).trans ?_
    rw [unitK_value i x0 x1 x2 x3 x4 x5 x6 x7 hg hl, unitK_value i x0 x1 x2 x3 x4 x5 x6 x7 hg hl₂]
    unfold outStay
    rw [h0, h1, h2, if_pos hb]) y

theorem pieceK_last (g : ℕ) (inb) (hl : Loaded x0 x1 x2 x3 x4 x5 x6 x7 g 3 q k k' v v' o lse dsum) (y : S1x128x128.Idx) :
    tile (lower (unitK q k k' v v' o lse dsum (headWord i g) (hasPrior i 3))) y
      = outStay (valueK i x0 x1 x2 x3 x4 x5 x6 x7) ((Rect.unit (s := S6x512x128) ![g, 128 * 3, 0] ![1, 128, 128] inb).emb y) :=
  piece inb _ _ (fun p l h0 h1 h2 => by
    have hg : g < 6 := h0 ▸ (p 0).isLt
    rw [lower_apply, unitK_value i x0 x1 x2 x3 x4 x5 x6 x7 hg hl]
    unfold outStay
    rw [h0, h1, h2, if_neg (by norm_num), add_zero]) y

theorem piece_zero (s : ℕ → ℕ → Fin 256 → Fin 128 → EReal) (g b : ℕ) (hb : b < 3) (inb) (y : S1x128x128.Idx) :
    tile zeros y = outEdge s ((Rect.unit (s := S6x512x128) ![g, 128 * b, 0] ![1, 128, 128] inb).emb y) :=
  piece inb _ _ (fun p l h0 h1 h2 => by
    rw [zeros_apply]; unfold outEdge; rw [h1, if_pos hb]) y

theorem pieceK_edge (g : ℕ) (inb) (hl : Loaded x0 x1 x2 x3 x4 x5 x6 x7 g 0 q k k' v v' o lse dsum) (y : S1x128x128.Idx) :
    tile (upper (unitK q k k' v v' o lse dsum (headWord i g) (hasPrior i 0))) y
      = outEdge (valueK i x0 x1 x2 x3 x4 x5 x6 x7) ((Rect.unit (s := S6x512x128) ![g, 128 * 3, 0] ![1, 128, 128] inb).emb y) :=
  piece inb _ _ (fun p l h0 h1 h2 => by
    have hg : g < 6 := h0 ▸ (p 0).isLt
    rw [upper_apply, unitK_value i x0 x1 x2 x3 x4 x5 x6 x7 hg hl]
    unfold outEdge
    rw [h0, h1, h2, if_neg (by norm_num)]) y

theorem pieceV_mid (g b : ℕ) (hb : b < 3) (inb) (hl : Loaded x0 x1 x2 x3 x4 x5 x6 x7 g b q k k' v v' o lse dsum)
    (hl₂ : Loaded x0 x1 x2 x3 x4 x5 x6 x7 g (b + 1) q₂ k₂ k₂' v₂ v₂' o₂ lse₂ dsum₂) (y : S1x128x128.Idx) :
    tile (addf (lower (unitV q k k' o lse (headWord i g) (hasPrior i b)))
        (upper (unitV q₂ k₂ k₂' o₂ lse₂ (headWord i g) (hasPrior i (b + 1))))) y
      = outStay (valueV i x0 x1 x2 x5 x7) ((Rect.unit (s := S6x512x128) ![g, 128 * b, 0] ![1, 128, 128] inb).emb y) :=
  piece inb _ _ (fun p l h0 h1 h2 => by
    have hg : g < 6 := h0 ▸ (p 0).isLt
    refine (congrArg₂ (· + ·) (lower_apply _ _ _) (upper_apply _ _ _)).trans ?_
    rw [unitV_value i x0 x1 x2 x3 x4 x5 x6 x7 hg hl, unitV_value i x0 x1 x2 x3 x4 x5 x6 x7 hg hl₂]
    unfold outStay
    rw [h0, h1, h2, if_pos hb]) y

theorem pieceV_last (g : ℕ) (inb) (hl : Loaded x0 x1 x2 x3 x4 x5 x6 x7 g 3 q k k' v v' o lse dsum) (y : S1x128x128.Idx) :
    tile (lower (unitV q k k' o lse (headWord i g) (hasPrior i 3))) y
      = outStay (valueV i x0 x1 x2 x5 x7) ((Rect.unit (s := S6x512x128) ![g, 128 * 3, 0] ![1, 128, 128] inb).emb y) :=
  piece inb _ _ (fun p l h0 h1 h2 => by
    have hg : g < 6 := h0 ▸ (p 0).isLt
    rw [lower_apply, unitV_value i x0 x1 x2 x3 x4 x5 x6 x7 hg hl]
    unfold outStay
    rw [h0, h1, h2, if_neg (by norm_num), add_zero]) y

theorem pieceV_edge (g : ℕ) (inb) (hl : Loaded x0 x1 x2 x3 x4 x5 x6 x7 g 0 q k k' v v' o lse dsum) (y : S1x128x128.Idx) :
    tile (upper (unitV q k k' o lse (headWord i g) (hasPrior i 0))) y
      = outEdge (valueV i x0 x1 x2 x5 x7) ((Rect.unit (s := S6x512x128) ![g, 128 * 3, 0] ![1, 128, 128] inb).emb y) :=
  piece inb _ _ (fun p l h0 h1 h2 => by
    have hg : g < 6 := h0 ▸ (p 0).isLt
    rw [upper_apply, unitV_value i x0 x1 x2 x3 x4 x5 x6 x7 hg hl]
    unfold outEdge
    rw [h0, h1, h2, if_neg (by norm_num)]) y
end Piece

theorem pieces_8 (c : Dev nD) (i : grid0.Coords) (arg3 : Memref sig .tc .vmem S6x512x128 .bf16) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x128 .bf16) (harg6 : arg6.IsWhole) (arg7 : Memref sig .tc .vmem S6x512x128 .bf16) (harg7 : arg7.IsWhole) (arg8 : Memref sig .tc .vmem S6x512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S6x512x128 .bf16) (harg11 : arg11.IsWhole) (arg12 : Memref sig .tc .vmem S6x512x128 .bf16) (harg12 : arg12.IsWhole) (arg13 : Memref sig .tc .vmem S6x512x128 .bf16) (harg13 : arg13.IsWhole) (arg14 : Memref sig .tc .vmem S6x512x128 .bf16) (harg14 : arg14.IsWhole) (arg15 : Memref sig .tc .vmem S6x512x128 .bf16) (harg15 : arg15.IsWhole)
    (x0 : FVec Ideal S6x512x128 .bf16) (x1 : FVec Ideal S6x512x128 .bf16) (x2 : FVec Ideal S6x512x128 .bf16) (x3 : FVec Ideal S6x512x128 .bf16) (x4 : FVec Ideal S6x512x128 .bf16) (x5 : FVec Ideal S6x512x128 .bf16) (x6 : FVec Ideal S512x128 .f32) (x7 : FVec Ideal S512x128 .f32) :
    ∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, ∀ y, p.2 y = outQ i x0 x1 x2 x3 x4 x5 x6 x7 (p.1.emb y) := by
  unfold kernelRun0_A
  dsimp only
  sl_unfold_words
  simp only [List.mem_cons, forall_eq_or_imp, View.readAt_eq_ld]
  refine ⟨pieceQ i 5 3 _ ⟨⟨load3 .., load3 .., load3 .., load3 .., load3 .., load3 ..⟩, load2 .., load2 ..⟩,
      pieceQ i 5 2 _ ⟨⟨load3 .., load3 .., load3 .., load3 .., load3 .., load3 ..⟩, load2 .., load2 ..⟩,
      pieceQ i 5 1 _ ⟨⟨load3 .., load3 .., load3 .., load3 .., load3 .., load3 ..⟩, load2 .., load2 ..⟩,
      pieceQ i 5 0 _ ⟨⟨load3 .., load3 .., load3 .., load3 .., load3 .., load3 ..⟩, load2 .., load2 ..⟩,
      pieceQ i 4 3 _ ⟨⟨load3 .., load3 .., load3 .., load3 .., load3 .., load3 ..⟩, load2 .., load2 ..⟩,
      pieceQ i 4 2 _ ⟨⟨load3 .., load3 .., load3 .., load3 .., load3 .., load3 ..⟩, load2 .., load2 ..⟩,
      pieceQ i 4 1 _ ⟨⟨load3 .., load3 .., load3 .., load3 .., load3 .., load3 ..⟩, load2 .., load2 ..⟩,
      pieceQ i 4 0 _ ⟨⟨load3 .., load3 .., load3 .., load3 .., load3 .., load3 ..⟩, load2 .., load2 ..⟩,
      pieceQ i 3 3 _ ⟨⟨load3 .., load3 .., load3 .., load3 .., load3 .., load3 ..⟩, load2 .., load2 ..⟩,
      pieceQ i 3 2 _ ⟨⟨load3 .., load3 .., load3 .., load3 .., load3 .., load3 ..⟩, load2 .., load2 ..⟩,
      pieceQ i 3 1 _ ⟨⟨load3 .., load3 .., load3 .., load3 .., load3 .., load3 ..⟩, load2 .., load2 ..⟩,
      pieceQ i 3 0 _ ⟨⟨load3 .., load3 .., load3 .., load3 .., load3 .., load3 ..⟩, load2 .., load2 ..⟩,
      pieceQ i 2 3 _ ⟨⟨load3 .., load3 .., load3 .., load3 .., load3 .., load3 ..⟩, load2 .., load2 ..⟩,
      pieceQ i 2 2 _ ⟨⟨load3 .., load3 .., load3 .., load3 .., load3 .., load3 ..⟩, load2 .., load2 ..⟩,
      pieceQ i 2 1 _ ⟨⟨load3 .., load3 .., load3 .., load3 .., load3 .., load3 ..⟩, load2 .., load2 ..⟩,
      pieceQ i 2 0 _ ⟨⟨load3 .., load3 .., load3 .., load3 .., load3 .., load3 ..⟩, load2 .., load2 ..⟩,
      pieceQ i 1 3 _ ⟨⟨load3 .., load3 .., load3 .., load3 .., load3 .., load3 ..⟩, load2 .., load2 ..⟩,
      pieceQ i 1 2 _ ⟨⟨load3 .., load3 .., load3 .., load3 .., load3 .., load3 ..⟩, load2 .., load2 ..⟩,
      pieceQ i 1 1 _ ⟨⟨load3 .., load3 .., load3 .., load3 .., load3 .., load3 ..⟩, load2 .., load2 ..⟩,
      pieceQ i 1 0 _ ⟨⟨load3 .., load3 .., load3 .., load3 .., load3 .., load3 ..⟩, load2 .., load2 ..⟩,
      pieceQ i 0 3 _ ⟨⟨load3 .., load3 .., load3 .., load3 .., load3 .., load3 ..⟩, load2 .., load2 ..⟩,
      pieceQ i 0 2 _ ⟨⟨load3 .., load3 .., load3 .., load3 .., load3 .., load3 ..⟩, load2 .., load2 ..⟩,
      pieceQ i 0 1 _ ⟨⟨load3 .., load3 .., load3 .., load3 .., load3 .., load3 ..⟩, load2 .., load2 ..⟩,
      pieceQ i 0 0 _ ⟨⟨load3 .., load3 .., load3 .., load3 .., load3 .., load3 ..⟩, load2 .., load2 ..⟩, ?_⟩
  simp

theorem pieces_9 (c : Dev nD) (i : grid0.Coords) (arg3 : Memref sig .tc .vmem S6x512x128 .bf16) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x128 .bf16) (harg6 : arg6.IsWhole) (arg7 : Memref sig .tc .vmem S6x512x128 .bf16) (harg7 : arg7.IsWhole) (arg8 : Memref sig .tc .vmem S6x512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S6x512x128 .bf16) (harg11 : arg11.IsWhole) (arg12 : Memref sig .tc .vmem S6x512x128 .bf16) (harg12 : arg12.IsWhole) (arg13 : Memref sig .tc .vmem S6x512x128 .bf16) (harg13 : arg13.IsWhole) (arg14 : Memref sig .tc .vmem S6x512x128 .bf16) (harg14 : arg14.IsWhole) (arg15 : Memref sig .tc .vmem S6x512x128 .bf16) (harg15 : arg15.IsWhole)
    (x0 : FVec Ideal S6x512x128 .bf16) (x1 : FVec Ideal S6x512x128 .bf16) (x2 : FVec Ideal S6x512x128 .bf16) (x3 : FVec Ideal S6x512x128 .bf16) (x4 : FVec Ideal S6x512x128 .bf16) (x5 : FVec Ideal S6x512x128 .bf16) (x6 : FVec Ideal S512x128 .f32) (x7 : FVec Ideal S512x128 .f32) :
    ∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1, ∀ y, p.2 y = outStay (valueK i x0 x1 x2 x3 x4 x5 x6 x7) (p.1.emb y) := by
  unfold kernelRun0_A
  dsimp only
  sl_unfold_words
  simp only [List.mem_cons, forall_eq_or_imp, View.readAt_eq_ld]
  refine ⟨pieceK_last i 5 _ ⟨⟨load3 .., load3 .., load3 .., load3 .., load3 .., load3 ..⟩, load2 .., load2 ..⟩,
      pieceK_mid i 5 2 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 5 1 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 5 0 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_last i 4 _ ⟨⟨load3 .., load3 .., load3 .., load3 .., load3 .., load3 ..⟩, load2 .., load2 ..⟩,
      pieceK_mid i 4 2 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 4 1 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 4 0 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_last i 3 _ ⟨⟨load3 .., load3 .., load3 .., load3 .., load3 .., load3 ..⟩, load2 .., load2 ..⟩,
      pieceK_mid i 3 2 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 3 1 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 3 0 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_last i 2 _ ⟨⟨load3 .., load3 .., load3 .., load3 .., load3 .., load3 ..⟩, load2 .., load2 ..⟩,
      pieceK_mid i 2 2 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 2 1 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 2 0 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_last i 1 _ ⟨⟨load3 .., load3 .., load3 .., load3 .., load3 .., load3 ..⟩, load2 .., load2 ..⟩,
      pieceK_mid i 1 2 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 1 1 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 1 0 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_last i 0 _ ⟨⟨load3 .., load3 .., load3 .., load3 .., load3 .., load3 ..⟩, load2 .., load2 ..⟩,
      pieceK_mid i 0 2 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 0 1 (by norm_num) _ ⟨⟨load3 .., load3 .., load3 .., load3 .., load3 .., load3 ..⟩, load2 .., load2 ..⟩
        ⟨⟨load3 .., load3 .., load3 .., load3 .., load3 .., load3 ..⟩, load2 .., load2 ..⟩,
      pieceK_mid i 0 0 (by norm_num) _ ⟨⟨load3 .., load3 .., load3 .., load3 .., load3 .., load3 ..⟩, load2 .., load2 ..⟩
        ⟨⟨load3 .., load3 .., load3 .., load3 .., load3 .., load3 ..⟩, load2 .., load2 ..⟩, ?_⟩
  simp

theorem pieces_10 (c : Dev nD) (i : grid0.Coords) (arg3 : Memref sig .tc .vmem S6x512x128 .bf16) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x128 .bf16) (harg6 : arg6.IsWhole) (arg7 : Memref sig .tc .vmem S6x512x128 .bf16) (harg7 : arg7.IsWhole) (arg8 : Memref sig .tc .vmem S6x512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S6x512x128 .bf16) (harg11 : arg11.IsWhole) (arg12 : Memref sig .tc .vmem S6x512x128 .bf16) (harg12 : arg12.IsWhole) (arg13 : Memref sig .tc .vmem S6x512x128 .bf16) (harg13 : arg13.IsWhole) (arg14 : Memref sig .tc .vmem S6x512x128 .bf16) (harg14 : arg14.IsWhole) (arg15 : Memref sig .tc .vmem S6x512x128 .bf16) (harg15 : arg15.IsWhole)
    (x0 : FVec Ideal S6x512x128 .bf16) (x1 : FVec Ideal S6x512x128 .bf16) (x2 : FVec Ideal S6x512x128 .bf16) (x3 : FVec Ideal S6x512x128 .bf16) (x4 : FVec Ideal S6x512x128 .bf16) (x5 : FVec Ideal S6x512x128 .bf16) (x6 : FVec Ideal S512x128 .f32) (x7 : FVec Ideal S512x128 .f32) :
    ∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1, ∀ y, p.2 y = outEdge (valueK i x0 x1 x2 x3 x4 x5 x6 x7) (p.1.emb y) := by
  unfold kernelRun0_A
  dsimp only
  sl_unfold_words
  simp only [List.mem_cons, forall_eq_or_imp, View.readAt_eq_ld]
  refine ⟨pieceK_edge i 5 _ ⟨⟨load3 .., load3 .., load3 .., load3 .., load3 .., load3 ..⟩, load2 .., load2 ..⟩,
      piece_zero _ 5 2 (by norm_num) _,
      piece_zero _ 5 1 (by norm_num) _,
      piece_zero _ 5 0 (by norm_num) _,
      pieceK_edge i 4 _ ⟨⟨load3 .., load3 .., load3 .., load3 .., load3 .., load3 ..⟩, load2 .., load2 ..⟩,
      piece_zero _ 4 2 (by norm_num) _,
      piece_zero _ 4 1 (by norm_num) _,
      piece_zero _ 4 0 (by norm_num) _,
      pieceK_edge i 3 _ ⟨⟨load3 .., load3 .., load3 .., load3 .., load3 .., load3 ..⟩, load2 .., load2 ..⟩,
      piece_zero _ 3 2 (by norm_num) _,
      piece_zero _ 3 1 (by norm_num) _,
      piece_zero _ 3 0 (by norm_num) _,
      pieceK_edge i 2 _ ⟨⟨load3 .., load3 .., load3 .., load3 .., load3 .., load3 ..⟩, load2 .., load2 ..⟩,
      piece_zero _ 2 2 (by norm_num) _,
      piece_zero _ 2 1 (by norm_num) _,
      piece_zero _ 2 0 (by norm_num) _,
      pieceK_edge i 1 _ ⟨⟨load3 .., load3 .., load3 .., load3 .., load3 .., load3 ..⟩, load2 .., load2 ..⟩,
      piece_zero _ 1 2 (by norm_num) _,
      piece_zero _ 1 1 (by norm_num) _,
      piece_zero _ 1 0 (by norm_num) _,
      pieceK_edge i 0 _ ⟨⟨load3 .., load3 .., load3 .., load3 .., load3 .., load3 ..⟩, load2 .., load2 ..⟩,
      piece_zero _ 0 2 (by norm_num) _,
      piece_zero _ 0 1 (by norm_num) _,
      piece_zero _ 0 0 (by norm_num) _, ?_⟩
  simp

theorem pieces_11 (c : Dev nD) (i : grid0.Coords) (arg3 : Memref sig .tc .vmem S6x512x128 .bf16) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x128 .bf16) (harg6 : arg6.IsWhole) (arg7 : Memref sig .tc .vmem S6x512x128 .bf16) (harg7 : arg7.IsWhole) (arg8 : Memref sig .tc .vmem S6x512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S6x512x128 .bf16) (harg11 : arg11.IsWhole) (arg12 : Memref sig .tc .vmem S6x512x128 .bf16) (harg12 : arg12.IsWhole) (arg13 : Memref sig .tc .vmem S6x512x128 .bf16) (harg13 : arg13.IsWhole) (arg14 : Memref sig .tc .vmem S6x512x128 .bf16) (harg14 : arg14.IsWhole) (arg15 : Memref sig .tc .vmem S6x512x128 .bf16) (harg15 : arg15.IsWhole)
    (x0 : FVec Ideal S6x512x128 .bf16) (x1 : FVec Ideal S6x512x128 .bf16) (x2 : FVec Ideal S6x512x128 .bf16) (x3 : FVec Ideal S6x512x128 .bf16) (x4 : FVec Ideal S6x512x128 .bf16) (x5 : FVec Ideal S6x512x128 .bf16) (x6 : FVec Ideal S512x128 .f32) (x7 : FVec Ideal S512x128 .f32) :
    ∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1, ∀ y, p.2 y = outStay (valueV i x0 x1 x2 x5 x7) (p.1.emb y) := by
  unfold kernelRun0_A
  dsimp only
  sl_unfold_words
  simp only [List.mem_cons, forall_eq_or_imp, View.readAt_eq_ld]
  refine ⟨pieceV_last (x3 := x3) (x4 := x4) (x6 := x6) i 5 _ ⟨⟨load3 .., load3 .., load3 .., rfl, rfl, load3 ..⟩, load2 .., rfl⟩,
      pieceV_mid (x3 := x3) (x4 := x4) (x6 := x6) i 5 2 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 5 1 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 5 0 (by norm_num) _ ⟨⟨load3 .., load3 .., load3 .., rfl, rfl, load3 ..⟩, load2 .., rfl⟩
        ⟨⟨load3 .., load3 .., load3 .., rfl, rfl, load3 ..⟩, load2 .., rfl⟩,
      pieceV_last (x3 := x3) (x4 := x4) (x6 := x6) i 4 _ ⟨⟨load3 .., load3 .., load3 .., rfl, rfl, load3 ..⟩, load2 .., rfl⟩,
      pieceV_mid (x3 := x3) (x4 := x4) (x6 := x6) i 4 2 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 4 1 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 4 0 (by norm_num) _ ⟨⟨load3 .., load3 .., load3 .., rfl, rfl, load3 ..⟩, load2 .., rfl⟩
        ⟨⟨load3 .., load3 .., load3 .., rfl, rfl, load3 ..⟩, load2 .., rfl⟩,
      pieceV_last (x3 := x3) (x4 := x4) (x6 := x6) i 3 _ ⟨⟨load3 .., load3 .., load3 .., rfl, rfl, load3 ..⟩, load2 .., rfl⟩,
      pieceV_mid (x3 := x3) (x4 := x4) (x6 := x6) i 3 2 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 3 1 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 3 0 (by norm_num) _ ⟨⟨load3 .., load3 .., load3 .., rfl, rfl, load3 ..⟩, load2 .., rfl⟩
        ⟨⟨load3 .., load3 .., load3 .., rfl, rfl, load3 ..⟩, load2 .., rfl⟩,
      pieceV_last (x3 := x3) (x4 := x4) (x6 := x6) i 2 _ ⟨⟨load3 .., load3 .., load3 .., rfl, rfl, load3 ..⟩, load2 .., rfl⟩,
      pieceV_mid (x3 := x3) (x4 := x4) (x6 := x6) i 2 2 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 2 1 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 2 0 (by norm_num) _ ⟨⟨load3 .., load3 .., load3 .., rfl, rfl, load3 ..⟩, load2 .., rfl⟩
        ⟨⟨load3 .., load3 .., load3 .., rfl, rfl, load3 ..⟩, load2 .., rfl⟩,
      pieceV_last (x3 := x3) (x4 := x4) (x6 := x6) i 1 _ ⟨⟨load3 .., load3 .., load3 .., rfl, rfl, load3 ..⟩, load2 .., rfl⟩,
      pieceV_mid (x3 := x3) (x4 := x4) (x6 := x6) i 1 2 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 1 1 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 1 0 (by norm_num) _ ⟨⟨load3 .., load3 .., load3 .., rfl, rfl, load3 ..⟩, load2 .., rfl⟩
        ⟨⟨load3 .., load3 .., load3 .., rfl, rfl, load3 ..⟩, load2 .., rfl⟩,
      pieceV_last (x3 := x3) (x4 := x4) (x6 := x6) i 0 _ ⟨⟨load3 .., load3 .., load3 .., rfl, rfl, load3 ..⟩, load2 .., rfl⟩,
      pieceV_mid (x3 := x3) (x4 := x4) (x6 := x6) i 0 2 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 0 1 (by norm_num) _ ⟨⟨load3 .., load3 .., load3 .., rfl, rfl, load3 ..⟩, load2 .., rfl⟩
        ⟨⟨load3 .., load3 .., load3 .., rfl, rfl, load3 ..⟩, load2 .., rfl⟩,
      pieceV_mid (x3 := x3) (x4 := x4) (x6 := x6) i 0 0 (by norm_num) _ ⟨⟨load3 .., load3 .., load3 .., rfl, rfl, load3 ..⟩, load2 .., rfl⟩
        ⟨⟨load3 .., load3 .., load3 .., rfl, rfl, load3 ..⟩, load2 .., rfl⟩, ?_⟩
  simp

theorem pieces_12 (c : Dev nD) (i : grid0.Coords) (arg3 : Memref sig .tc .vmem S6x512x128 .bf16) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x128 .bf16) (harg6 : arg6.IsWhole) (arg7 : Memref sig .tc .vmem S6x512x128 .bf16) (harg7 : arg7.IsWhole) (arg8 : Memref sig .tc .vmem S6x512x128 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S6x512x128 .bf16) (harg11 : arg11.IsWhole) (arg12 : Memref sig .tc .vmem S6x512x128 .bf16) (harg12 : arg12.IsWhole) (arg13 : Memref sig .tc .vmem S6x512x128 .bf16) (harg13 : arg13.IsWhole) (arg14 : Memref sig .tc .vmem S6x512x128 .bf16) (harg14 : arg14.IsWhole) (arg15 : Memref sig .tc .vmem S6x512x128 .bf16) (harg15 : arg15.IsWhole)
    (x0 : FVec Ideal S6x512x128 .bf16) (x1 : FVec Ideal S6x512x128 .bf16) (x2 : FVec Ideal S6x512x128 .bf16) (x3 : FVec Ideal S6x512x128 .bf16) (x4 : FVec Ideal S6x512x128 .bf16) (x5 : FVec Ideal S6x512x128 .bf16) (x6 : FVec Ideal S512x128 .f32) (x7 : FVec Ideal S512x128 .f32) :
    ∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1, ∀ y, p.2 y = outEdge (valueV i x0 x1 x2 x5 x7) (p.1.emb y) := by
  unfold kernelRun0_A
  dsimp only
  sl_unfold_words
  simp only [List.mem_cons, forall_eq_or_imp, View.readAt_eq_ld]
  refine ⟨pieceV_edge (x3 := x3) (x4 := x4) (x6 := x6) i 5 _ ⟨⟨load3 .., load3 .., load3 .., rfl, rfl, load3 ..⟩, load2 .., rfl⟩,
      piece_zero _ 5 2 (by norm_num) _,
      piece_zero _ 5 1 (by norm_num) _,
      piece_zero _ 5 0 (by norm_num) _,
      pieceV_edge (x3 := x3) (x4 := x4) (x6 := x6) i 4 _ ⟨⟨load3 .., load3 .., load3 .., rfl, rfl, load3 ..⟩, load2 .., rfl⟩,
      piece_zero _ 4 2 (by norm_num) _,
      piece_zero _ 4 1 (by norm_num) _,
      piece_zero _ 4 0 (by norm_num) _,
      pieceV_edge (x3 := x3) (x4 := x4) (x6 := x6) i 3 _ ⟨⟨load3 .., load3 .., load3 .., rfl, rfl, load3 ..⟩, load2 .., rfl⟩,
      piece_zero _ 3 2 (by norm_num) _,
      piece_zero _ 3 1 (by norm_num) _,
      piece_zero _ 3 0 (by norm_num) _,
      pieceV_edge (x3 := x3) (x4 := x4) (x6 := x6) i 2 _ ⟨⟨load3 .., load3 .., load3 .., rfl, rfl, load3 ..⟩, load2 .., rfl⟩,
      piece_zero _ 2 2 (by norm_num) _,
      piece_zero _ 2 1 (by norm_num) _,
      piece_zero _ 2 0 (by norm_num) _,
      pieceV_edge (x3 := x3) (x4 := x4) (x6 := x6) i 1 _ ⟨⟨load3 .., load3 .., load3 .., rfl, rfl, load3 ..⟩, load2 .., rfl⟩,
      piece_zero _ 1 2 (by norm_num) _,
      piece_zero _ 1 1 (by norm_num) _,
      piece_zero _ 1 0 (by norm_num) _,
      pieceV_edge (x3 := x3) (x4 := x4) (x6 := x6) i 0 _ ⟨⟨load3 .., load3 .., load3 .., rfl, rfl, load3 ..⟩, load2 .., rfl⟩,
      piece_zero _ 0 2 (by norm_num) _,
      piece_zero _ 0 1 (by norm_num) _,
      piece_zero _ 0 0 (by norm_num) _, ?_⟩
  simp

end Cert.KernelIdeal.Attn
end
-- ==== Proof.Outs.lean ====
module
public import proofs.«01_k».proof.Proof.Pieces
public import proofs.«01_k».proof.Proof.Gen.KernelIdeal.Frame
public import Idealize.ShloMosaic.Lib.Pipeline.ValueKit
@[expose] public section
set_option maxRecDepth 16384
noncomputable section
open Idealize.ShloMosaic Idealize.ShloMosaic.TcCoe Idealize.SL.Sem
open Idealize.ShloMosaic.Tactic Idealize.ShloMosaic.Pipeline
namespace Cert.KernelIdeal.Attn
open Cert.KernelIdeal Cert.KernelIdeal.Gen Cert.Band

/-! # What each grid point writes back, and the five arrays after the run -/

variable (m : (ℓ : Loc nD τ sig) → Buf (Elt Ideal) ℓ)

theorem block_8 (c : Dev nD) (t : Fin cfg0.N) : (outsAt0 m c t).1 = outQ (grid0.coords t) (iblk m c 0 t) (iblk m c 1 t) (iblk m c 2 t) (iblk m c 3 t) (iblk m c 4 t) (iblk m c 5 t) (iblk m c 6 t) (iblk m c 7 t) := by
  unfold outsAt0 out0_A_8
  dsimp only
  rw [View.read_writes_eq_canon _ _ _ (fun y => cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)]
  exact funext fun y => View.canon_apply_of_pieces _ _ (pieces_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)) y (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)

theorem block_9 (c : Dev nD) (t : Fin cfg0.N) : (outsAt0 m c t).2.1 = outStay (valueK (grid0.coords t) (iblk m c 0 t) (iblk m c 1 t) (iblk m c 2 t) (iblk m c 3 t) (iblk m c 4 t) (iblk m c 5 t) (iblk m c 6 t) (iblk m c 7 t)) := by
  unfold outsAt0 out0_A_9
  dsimp only
  rw [View.read_writes_eq_canon _ _ _ (fun y => cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)]
  exact funext fun y => View.canon_apply_of_pieces _ _ (pieces_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)) y (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)

theorem block_10 (c : Dev nD) (t : Fin cfg0.N) : (outsAt0 m c t).2.2.1 = outEdge (valueK (grid0.coords t) (iblk m c 0 t) (iblk m c 1 t) (iblk m c 2 t) (iblk m c 3 t) (iblk m c 4 t) (iblk m c 5 t) (iblk m c 6 t) (iblk m c 7 t)) := by
  unfold outsAt0 out0_A_10
  dsimp only
  rw [View.read_writes_eq_canon _ _ _ (fun y => cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)]
  exact funext fun y => View.canon_apply_of_pieces _ _ (pieces_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)) y (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)

theorem block_11 (c : Dev nD) (t : Fin cfg0.N) : (outsAt0 m c t).2.2.2.1 = outStay (valueV (grid0.coords t) (iblk m c 0 t) (iblk m c 1 t) (iblk m c 2 t) (iblk m c 5 t) (iblk m c 7 t)) := by
  unfold outsAt0 out0_A_11
  dsimp only
  rw [View.read_writes_eq_canon _ _ _ (fun y => cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)]
  exact funext fun y => View.canon_apply_of_pieces _ _ (pieces_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)) y (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)

theorem block_12 (c : Dev nD) (t : Fin cfg0.N) : (outsAt0 m c t).2.2.2.2 = outEdge (valueV (grid0.coords t) (iblk m c 0 t) (iblk m c 1 t) (iblk m c 2 t) (iblk m c 5 t) (iblk m c 7 t)) := by
  unfold outsAt0 out0_A_12
  dsimp only
  rw [View.read_writes_eq_canon _ _ _ (fun y => cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)]
  exact funext fun y => View.canon_apply_of_pieces _ _ (pieces_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t)) y (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) y)

/-! ## The blocks read -/

/-- Block `n` of an array of rows. -/
def IsBlock3 (x : FVec Ideal S6x512x128 .bf16) (A : FVec Ideal S6x8192x128 .bf16) (n : ℕ) : Prop :=
  ∀ (g : Fin 6) (r : Fin 512) (l : Fin 128) (p : Fin 8192), p.val = 512 * n + r.val → x (ix3 g r l) = A (ix3 g p l)

def IsBlock2 (x : FVec Ideal S512x128 .f32) (A : FVec Ideal S8192x128 .f32) (n : ℕ) : Prop :=
  ∀ (r : Fin 512) (l : Fin 128) (p : Fin 8192), p.val = 512 * n + r.val → x (ix2 r l) = A (ix2 p l)

theorem index_0 : ∀ t : Fin cfg0.N, (cfg0.win 0).index t = ![0, t.val, 0] := by decide +kernel
theorem index_1 : ∀ t : Fin cfg0.N, (cfg0.win 1).index t = ![0, t.val, 0] := by decide +kernel
theorem index_2 : ∀ t : Fin cfg0.N, (cfg0.win 2).index t = ![0, t.val - 1, 0] := by decide +kernel
theorem index_3 : ∀ t : Fin cfg0.N, (cfg0.win 3).index t = ![0, t.val, 0] := by decide +kernel
theorem index_4 : ∀ t : Fin cfg0.N, (cfg0.win 4).index t = ![0, t.val - 1, 0] := by decide +kernel
theorem index_5 : ∀ t : Fin cfg0.N, (cfg0.win 5).index t = ![0, t.val, 0] := by decide +kernel
theorem index_6 : ∀ t : Fin cfg0.N, (cfg0.win 6).index t = ![t.val, 0] := by decide +kernel
theorem index_7 : ∀ t : Fin cfg0.N, (cfg0.win 7).index t = ![t.val, 0] := by decide +kernel
theorem index_8 : ∀ t : Fin cfg0.N, (cfg0.win 8).index t = ![0, t.val, 0] := by decide +kernel
theorem index_9 : ∀ t : Fin cfg0.N, (cfg0.win 9).index t = ![0, t.val, 0] := by decide +kernel
theorem index_10 : ∀ t : Fin cfg0.N, (cfg0.win 10).index t = ![0, (t.val + 15) % 16, 0] := by decide +kernel
theorem index_11 : ∀ t : Fin cfg0.N, (cfg0.win 11).index t = ![0, t.val, 0] := by decide +kernel
theorem index_12 : ∀ t : Fin cfg0.N, (cfg0.win 12).index t = ![0, (t.val + 15) % 16, 0] := by decide +kernel
theorem coords_0 : ∀ t : Fin cfg0.N, ((grid0.coords t) 0).val = t.val := by decide +kernel

variable (c : Dev nD) (t : Fin cfg0.N)

theorem blk_0 : IsBlock3 (iblk m c 0 t) (V m c main_arg0) t.val := fun g r l p hp => by blk_ext [iblk, index_0 t]
theorem blk_1 : IsBlock3 (iblk m c 1 t) (V m c main_arg1) t.val := fun g r l p hp => by blk_ext [iblk, index_1 t]
theorem blk_2 : IsBlock3 (iblk m c 2 t) (V m c main_arg1) (t.val - 1) := fun g r l p hp => by blk_ext [iblk, index_2 t]
theorem blk_3 : IsBlock3 (iblk m c 3 t) (V m c main_arg2) t.val := fun g r l p hp => by blk_ext [iblk, index_3 t]
theorem blk_4 : IsBlock3 (iblk m c 4 t) (V m c main_arg2) (t.val - 1) := fun g r l p hp => by blk_ext [iblk, index_4 t]
theorem blk_5 : IsBlock3 (iblk m c 5 t) (V m c main_arg3) t.val := fun g r l p hp => by blk_ext [iblk, index_5 t]
theorem blk_6 : IsBlock2 (iblk m c 6 t) (V m c main_arg4) t.val := fun r l p hp => by blk_ext [iblk, index_6 t]
theorem blk_7 : IsBlock2 (iblk m c 7 t) (V m c main_arg5) t.val := fun r l p hp => by blk_ext [iblk, index_7 t]

/-! ## The blocks' values as the gradients' -/

/-- Pair `g` of an array of rows, and of an array with a row's two heads side by side. -/
def pairs (A : FVec Ideal S6x8192x128 .bf16) (g : Fin 6) : Pos → Fin 128 → EReal := fun p l => A (ix3 g p l)
def sides (A : FVec Ideal S8192x128 .f32) (g : Fin 6) : Pos → Fin 2 → EReal := fun p a => A (ix2 p ⟨2 * g.val + a.val, by have := g.isLt; have := a.isLt; omega⟩)

/-- Unit `b` of block `n`. -/
def unitAt (n : Fin 16) (b : Fin 4) : Fin 64 := ⟨4 * n.val + b.val, by have := n.isLt; have := b.isLt; omega⟩

section Blocks
variable (n : Fin 16) (g : Fin 6) (b : Fin 4)

theorem rowsOf_block {x : FVec Ideal S6x512x128 .bf16} {A : FVec Ideal S6x8192x128 .bf16} (hx : IsBlock3 x A n.val) :
    rowsOf x g.val b.val = rows (pairs A g) (unitAt n b) := by
  funext i l
  refine (hx _ _ _ (pos (unitAt n b) i) ?_).trans (congrArg A ?_)
  · have := b.isLt; have := i.isLt; simp only [pos, unitAt]; omega
  · have := g.isLt; funext a; fin_cases a
    · exact Fin.ext (Nat.mod_eq_of_lt g.isLt)
    · rfl
    · rfl

theorem keysOf_block {x x' : FVec Ideal S6x512x128 .bf16} {A : FVec Ideal S6x8192x128 .bf16} (hx : IsBlock3 x A n.val) (hx' : IsBlock3 x' A (n.val - 1))
    (j : Fin 256) (h : 128 ≤ (unitAt n b).val * 128 + j.val) (l : Fin 128) : keysOf x x' g.val b.val j l = pairs A g (key (unitAt n b) j h) l := by
  have hb := b.isLt; have hj := j.isLt; have hg := g.isLt
  have hu : (unitAt n b).val = 4 * n.val + b.val := rfl
  have key_val : (key (unitAt n b) j h).val = (unitAt n b).val * 128 + j.val - 128 := rfl
  have hix : ∀ (p : Fin 8192), (ix3 (⟨g.val % 6, Nat.mod_lt _ (by norm_num)⟩ : Fin 6) p l : S6x8192x128.Idx) = ix3 g p l := fun p => by
    have : (⟨g.val % 6, Nat.mod_lt _ (by norm_num)⟩ : Fin 6) = g := Fin.ext (Nat.mod_eq_of_lt hg)
    rw [this]
  unfold keysOf
  split
  · refine (hx _ _ _ (key (unitAt n b) j h) ?_).trans (congrArg A (hix _))
    rw [key_val]; show _ = 512 * n.val + (128 * b.val + j.val - 128) % 512; omega
  · refine (hx' _ _ _ (key (unitAt n b) j h) ?_).trans (congrArg A (hix _))
    rw [key_val]; show _ = 512 * (n.val - 1) + (384 + j.val) % 512; omega

theorem pairOf_block {x : FVec Ideal S512x128 .f32} {A : FVec Ideal S8192x128 .f32} (hx : IsBlock2 x A n.val) :
    pairOf x g.val b.val = rows (sides A g) (unitAt n b) := by
  funext i a
  have hb := b.isLt; have hi := i.isLt; have hg := g.isLt; have ha := a.isLt
  refine (hx _ _ (pos (unitAt n b) i) ?_).trans (congrArg A ?_)
  · show (4 * n.val + b.val) * 128 + i.val = 512 * n.val + (128 * b.val + i.val) % 512; omega
  · funext d; fin_cases d
    · rfl
    · exact Fin.ext (Nat.mod_eq_of_lt (by omega))

end Blocks

end Cert.KernelIdeal.Attn
end
-- ==== Proof.Arrays.lean ====
module
public import proofs.«01_k».proof.Proof.Outs
@[expose] public section
set_option maxRecDepth 16384
noncomputable section
open Idealize.ShloMosaic Idealize.ShloMosaic.TcCoe Idealize.SL.Sem
open Idealize.ShloMosaic.Tactic Idealize.ShloMosaic.Pipeline
namespace Cert.KernelIdeal.Attn
open Cert.KernelIdeal Cert.KernelIdeal.Gen Cert.Band

/-! # The five arrays after the run -/

/-! ## A gradient of keys, split into what stays in a block and what its successor adds -/

/-- The unit of a position. -/
def unitOf (p : Pos) : Fin 64 := ⟨p.val / 128, by have := p.isLt; omega⟩
def rowOf (p : Pos) : Fin 128 := ⟨p.val % 128, Nat.mod_lt _ (by norm_num)⟩
theorem pos_unit (p : Pos) : pos (unitOf p) (rowOf p) = p := by
  apply Fin.ext; simp only [pos, unitOf, rowOf]; omega

section Split
variable (part : Fin 64 → Pos → Fin 128 → EReal)

/-- The next unit's part, where there is a next unit. -/
def nextPart (p : Pos) (l : Fin 128) : EReal := if h : (unitOf p).val + 1 < 64 then part ⟨(unitOf p).val + 1, h⟩ p l else 0
def stay (p : Pos) (l : Fin 128) : EReal := part (unitOf p) p l + if (unitOf p).val % 4 < 3 then nextPart part p l else 0
def edge (p : Pos) (l : Fin 128) : EReal := if (unitOf p).val % 4 < 3 then 0 else nextPart part p l

theorem stay_add_edge (p : Pos) (l : Fin 128) : stay part p l + edge part p l = part (unitOf p) p l + nextPart part p l := by
  unfold stay edge
  split
  · rw [add_zero]
  · rw [add_zero]

/-- What a grid point's units give to their own keys and to those of the unit before. -/
structure Splits (s : ℕ → ℕ → Fin 256 → Fin 128 → EReal) (n : Fin 16) (g : Fin 6) : Prop where
  own : ∀ (b : Fin 4) (j l : Fin 128), s g.val b.val (own j) l = part (unitAt n b) (pos (unitAt n b) j) l
  before : ∀ (b : Fin 4) (B : Fin 64) (j l : Fin 128), B.val + 1 = (unitAt n b).val → s g.val b.val (before j) l = part (unitAt n b) (pos B j) l
  first : n.val = 0 → ∀ j l : Fin 128, s g.val 0 (Cert.Band.before j) l = 0

variable {part} {s : ℕ → ℕ → Fin 256 → Fin 128 → EReal} {n : Fin 16} {g : Fin 6} (hs : Splits part s n g)

include hs in
theorem outStay_eq (y : S6x512x128.Idx) (p : Pos) (h0 : (y 0).val = g.val) (h1 : p.val = 512 * n.val + (y 1).val) :
    outStay s y = stay part p (y 2) := by
  have hy : (y 1).val < 512 := (y 1).isLt
  have hn := n.isLt
  have hu : ∀ b : Fin 4, b.val = (y 1).val / 128 → unitAt n b = unitOf p := fun b hb => Fin.ext (by
    show 4 * n.val + b.val = p.val / 128; omega)
  have hp : pos (unitOf p) (rowIn y) = p := by
    apply Fin.ext; show p.val / 128 * 128 + (y 1).val % 128 = p.val; omega
  have hmod : (unitOf p).val % 4 = (y 1).val / 128 := by show p.val / 128 % 4 = _; omega
  unfold outStay stay
  rw [h0, hmod]
  congr 1
  · have := hs.own ⟨(y 1).val / 128, by omega⟩ (rowIn y) (y 2)
    rw [hu _ rfl, hp] at this
    exact this
  · split
    · rename_i hb
      have hval : (unitAt n ⟨(y 1).val / 128 + 1, by omega⟩).val = (unitOf p).val + 1 := by
        show 4 * n.val + ((y 1).val / 128 + 1) = p.val / 128 + 1; omega
      have hlt : (unitOf p).val + 1 < 64 := by rw [← hval]; exact (unitAt n _).isLt
      have := hs.before ⟨(y 1).val / 128 + 1, by omega⟩ (unitOf p) (rowIn y) (y 2) hval.symm
      rw [hp, show unitAt n ⟨(y 1).val / 128 + 1, by omega⟩ = ⟨(unitOf p).val + 1, hlt⟩ from Fin.ext hval] at this
      unfold nextPart
      rw [dif_pos hlt]
      exact this
    · rfl

include hs in
theorem outEdge_eq (y : S6x512x128.Idx) (p : Pos) (h0 : (y 0).val = g.val) (h1 : p.val = 512 * ((n.val + 15) % 16) + (y 1).val) :
    outEdge s y = edge part p (y 2) := by
  have hy : (y 1).val < 512 := (y 1).isLt
  have hn := n.isLt
  have hp : pos (unitOf p) (rowIn y) = p := by
    apply Fin.ext; show p.val / 128 * 128 + (y 1).val % 128 = p.val; omega
  have hmod : (unitOf p).val % 4 = (y 1).val / 128 := by show p.val / 128 % 4 = _; omega
  unfold outEdge edge
  rw [h0, hmod]
  split
  · rfl
  · rename_i hb
    unfold nextPart
    by_cases hz : n.val = 0
    · rw [dif_neg (show ¬ ((unitOf p).val + 1 < 64) by show ¬ (p.val / 128 + 1 < 64); omega)]
      exact hs.first hz _ _
    · have hval : (unitAt n 0).val = (unitOf p).val + 1 := by
        show 4 * n.val + 0 = p.val / 128 + 1; omega
      have hlt : (unitOf p).val + 1 < 64 := by rw [← hval]; exact (unitAt n _).isLt
      have := hs.before 0 (unitOf p) (rowIn y) (y 2) hval.symm
      rw [hp, show unitAt n 0 = ⟨(unitOf p).val + 1, hlt⟩ from Fin.ext hval] at this
      rw [dif_pos hlt]
      exact this
end Split

/-! ## The point's values -/

section Values
variable (Q K V O : Pos → Fin 128 → EReal) (L D : Pos → Fin 2 → EReal)

def partK (B : Fin 64) (p : Pos) (l : Fin 128) : EReal := ∑ i, dscore Q K V O L D (headOf l) (pos B i) p * eighth * Q (pos B i) l
def partV (B : Fin 64) (p : Pos) (l : Fin 128) : EReal := ∑ i, O (pos B i) l * prob Q K L (headOf l) (pos B i) p

theorem gradK_parts (p : Pos) (l : Fin 128) : stay (partK Q K V O L D) p l + edge (partK Q K V O L D) p l = gradK Q K V O L D p l := by
  rw [stay_add_edge, ← pos_unit p, gradK_two, pos_unit]; rfl
theorem gradV_parts (p : Pos) (l : Fin 128) : stay (partV Q K O L) p l + edge (partV Q K O L) p l = gradV Q K O L p l := by
  rw [stay_add_edge, ← pos_unit p, gradV_two, pos_unit]; rfl
end Values

section Prev
variable {q o : Fin 128 → Fin 128 → EReal} {k v : Fin 256 → Fin 128 → EReal} {lse dsum : Fin 128 → Fin 2 → EReal}
  {p p' : Prop} [Decidable p] [Decidable p'] (h : p ↔ p')
include h
theorem tileQ_prev : tileQ q o k v lse dsum p = tileQ q o k v lse dsum p' := by
  obtain rfl := propext h; congr!
theorem tileK_prev : tileK q o k v lse dsum p = tileK q o k v lse dsum p' := by
  obtain rfl := propext h; congr!
theorem tileV_prev : tileV q o k lse p = tileV q o k lse p' := by
  obtain rfl := propext h; congr!
end Prev

section Point
variable {i : grid0.Coords} {n : Fin 16} (hi : (i 0).val = n.val) (g : Fin 6)
  {x0 x1 x2 x3 x4 x5 : FVec Ideal S6x512x128 .bf16} {x6 x7 : FVec Ideal S512x128 .f32}
  {A0 A1 A2 A3 : FVec Ideal S6x8192x128 .bf16} {A4 A5 : FVec Ideal S8192x128 .f32}
  (h0 : IsBlock3 x0 A0 n.val) (h1 : IsBlock3 x1 A1 n.val) (h2 : IsBlock3 x2 A1 (n.val - 1))
  (h3 : IsBlock3 x3 A2 n.val) (h4 : IsBlock3 x4 A2 (n.val - 1)) (h5 : IsBlock3 x5 A3 n.val)
  (h6 : IsBlock2 x6 A4 n.val) (h7 : IsBlock2 x7 A5 n.val)

include hi in
theorem prevOf_unit (b : Fin 4) : prevOf i b.val ↔ 0 < (unitAt n b).val := by
  unfold prevOf; rw [hi]; show _ ↔ 0 < 4 * n.val + b.val; omega

include hi h0 h1 h2 h3 h4 h5 h6 h7

theorem valueQ_grad (b : Fin 4) (r l : Fin 128) : valueQ i x0 x1 x2 x3 x4 x5 x6 x7 g.val b.val r l
    = gradQ (pairs A0 g) (pairs A1 g) (pairs A2 g) (pairs A3 g) (sides A5 g) (sides A4 g) (pos (unitAt n b) r) l := by
  unfold valueQ
  rw [rowsOf_block n g b h0, rowsOf_block n g b h5, pairOf_block n g b h6, pairOf_block n g b h7, tileQ_prev (prevOf_unit hi b)]
  exact gradQ_block _ _ _ _ _ _ (fun j h => funext fun l => keysOf_block n g b h1 h2 j h l) (fun j h => funext fun l => keysOf_block n g b h3 h4 j h l) r l

theorem valueK_splits : Splits (partK (pairs A0 g) (pairs A1 g) (pairs A2 g) (pairs A3 g) (sides A5 g) (sides A4 g))
    (valueK i x0 x1 x2 x3 x4 x5 x6 x7) n g := by
  have key : ∀ (b : Fin 4) (j : Fin 256) (h : 128 ≤ (unitAt n b).val * 128 + j.val) (l : Fin 128),
      valueK i x0 x1 x2 x3 x4 x5 x6 x7 g.val b.val j l
        = partK (pairs A0 g) (pairs A1 g) (pairs A2 g) (pairs A3 g) (sides A5 g) (sides A4 g) (unitAt n b) (Cert.Band.key (unitAt n b) j h) l := fun b j h l => by
    unfold valueK
    rw [rowsOf_block n g b h0, rowsOf_block n g b h5, pairOf_block n g b h6, pairOf_block n g b h7, tileK_prev (prevOf_unit hi b)]
    exact tileK_eq _ _ _ _ _ _ (fun j h => funext fun l => keysOf_block n g b h1 h2 j h l) (fun j h => funext fun l => keysOf_block n g b h3 h4 j h l) j h l
  refine ⟨fun b j l => ?_, fun b B j l hB => ?_, fun hz j l => ?_⟩
  · rw [key b (Cert.Band.own j) (by show _ ≤ _ + (128 + j.val); omega) l, key_own]
  · have hlt : B.val + 1 < 64 := by rw [hB]; exact (unitAt n b).isLt
    obtain hu : unitAt n b = ⟨B.val + 1, hlt⟩ := Fin.ext hB.symm
    have hge : 128 ≤ (unitAt n b).val * 128 + (Cert.Band.before j).val := by rw [← hB]; omega
    rw [key b (Cert.Band.before j) hge l]
    congr 1
    apply Fin.ext
    show (unitAt n b).val * 128 + j.val - 128 = B.val * 128 + j.val
    omega
  · unfold valueK
    exact tileK_first (by unfold prevOf; rw [hi]; omega) j l

theorem valueV_splits : Splits (partV (pairs A0 g) (pairs A1 g) (pairs A3 g) (sides A5 g)) (valueV i x0 x1 x2 x5 x7) n g := by
  have key : ∀ (b : Fin 4) (j : Fin 256) (h : 128 ≤ (unitAt n b).val * 128 + j.val) (l : Fin 128),
      valueV i x0 x1 x2 x5 x7 g.val b.val j l
        = partV (pairs A0 g) (pairs A1 g) (pairs A3 g) (sides A5 g) (unitAt n b) (Cert.Band.key (unitAt n b) j h) l := fun b j h l => by
    unfold valueV
    rw [rowsOf_block n g b h0, rowsOf_block n g b h5, pairOf_block n g b h7, tileV_prev (prevOf_unit hi b)]
    exact tileV_eq _ _ _ _ (fun j h => funext fun l => keysOf_block n g b h1 h2 j h l) j h l
  refine ⟨fun b j l => ?_, fun b B j l hB => ?_, fun hz j l => ?_⟩
  · rw [key b (Cert.Band.own j) (by show _ ≤ _ + (128 + j.val); omega) l, key_own]
  · have hge : 128 ≤ (unitAt n b).val * 128 + (Cert.Band.before j).val := by rw [← hB]; omega
    rw [key b (Cert.Band.before j) hge l]
    congr 1
    apply Fin.ext
    show (unitAt n b).val * 128 + j.val - 128 = B.val * 128 + j.val
    omega
  · unfold valueV
    exact tileV_first (by unfold prevOf; rw [hi]; omega) j l
end Point

/-! ## The arrays -/

section Arrays
variable (m : (ℓ : Loc nD τ sig) → Buf (Elt Ideal) ℓ) (c : Dev nD)

def qs := pairs (V m c main_arg0)
def ks := pairs (V m c main_arg1)
def vs := pairs (V m c main_arg2)
def os := pairs (V m c main_arg3)
def ds := sides (V m c main_arg4)
def ls := sides (V m c main_arg5)

def arr8 : FVec Ideal S6x8192x128 .bf16 := fun i => gradQ (qs m c (i 0)) (ks m c (i 0)) (vs m c (i 0)) (os m c (i 0)) (ls m c (i 0)) (ds m c (i 0)) (i 1) (i 2)
def arr9 : FVec Ideal S6x8192x128 .bf16 := fun i => stay (partK (qs m c (i 0)) (ks m c (i 0)) (vs m c (i 0)) (os m c (i 0)) (ls m c (i 0)) (ds m c (i 0))) (i 1) (i 2)
def arr10 : FVec Ideal S6x8192x128 .bf16 := fun i => edge (partK (qs m c (i 0)) (ks m c (i 0)) (vs m c (i 0)) (os m c (i 0)) (ls m c (i 0)) (ds m c (i 0))) (i 1) (i 2)
def arr11 : FVec Ideal S6x8192x128 .bf16 := fun i => stay (partV (qs m c (i 0)) (ks m c (i 0)) (os m c (i 0)) (ls m c (i 0))) (i 1) (i 2)
def arr12 : FVec Ideal S6x8192x128 .bf16 := fun i => edge (partV (qs m c (i 0)) (ks m c (i 0)) (os m c (i 0)) (ls m c (i 0))) (i 1) (i 2)

theorem place_8 (t : Fin cfg0.N) (y : S6x512x128.Idx) (i : S6x8192x128.Idx) (h0 : (i 0).val = (y 0).val) (h1 : (i 1).val = 512 * t.val + (y 1).val)
    (h2 : (i 2).val = (y 2).val) : outQ (grid0.coords t) (iblk m c 0 t) (iblk m c 1 t) (iblk m c 2 t) (iblk m c 3 t) (iblk m c 4 t) (iblk m c 5 t) (iblk m c 6 t) (iblk m c 7 t) y = arr8 m c i := by
  have hy : (y 1).val < 512 := (y 1).isLt
  have ht : t.val < 16 := t.isLt
  have e2 : i 2 = y 2 := Fin.ext h2
  have hp : pos (unitAt ⟨t.val, ht⟩ ⟨(y 1).val / 128, by omega⟩) (rowIn y) = i 1 := by
    apply Fin.ext; show (4 * t.val + (y 1).val / 128) * 128 + (y 1).val % 128 = (i 1).val; omega
  have := valueQ_grad (n := ⟨t.val, ht⟩) (coords_0 t) (i 0) (blk_0 m c t) (blk_1 m c t) (blk_2 m c t) (blk_3 m c t) (blk_4 m c t) (blk_5 m c t)
    (blk_6 m c t) (blk_7 m c t) ⟨(y 1).val / 128, by omega⟩ (rowIn y) (y 2)
  rw [hp] at this
  unfold outQ arr8
  rw [← h0, e2]
  exact this

theorem place_9 (t : Fin cfg0.N) (y : S6x512x128.Idx) (i : S6x8192x128.Idx) (h0 : (i 0).val = (y 0).val) (h1 : (i 1).val = 512 * t.val + (y 1).val)
    (h2 : (i 2).val = (y 2).val) : outStay (valueK (grid0.coords t) (iblk m c 0 t) (iblk m c 1 t) (iblk m c 2 t) (iblk m c 3 t) (iblk m c 4 t) (iblk m c 5 t) (iblk m c 6 t) (iblk m c 7 t)) y = arr9 m c i := by
  have e2 : i 2 = y 2 := Fin.ext h2
  unfold arr9
  rw [e2]
  exact outStay_eq (valueK_splits (n := ⟨t.val, t.isLt⟩) (coords_0 t) (i 0) (blk_0 m c t) (blk_1 m c t) (blk_2 m c t) (blk_3 m c t) (blk_4 m c t) (blk_5 m c t)
    (blk_6 m c t) (blk_7 m c t)) y (i 1) h0.symm h1

theorem place_10 (t : Fin cfg0.N) (y : S6x512x128.Idx) (i : S6x8192x128.Idx) (h0 : (i 0).val = (y 0).val) (h1 : (i 1).val = 512 * ((t.val + 15) % 16) + (y 1).val)
    (h2 : (i 2).val = (y 2).val) : outEdge (valueK (grid0.coords t) (iblk m c 0 t) (iblk m c 1 t) (iblk m c 2 t) (iblk m c 3 t) (iblk m c 4 t) (iblk m c 5 t) (iblk m c 6 t) (iblk m c 7 t)) y = arr10 m c i := by
  have e2 : i 2 = y 2 := Fin.ext h2
  unfold arr10
  rw [e2]
  exact outEdge_eq (valueK_splits (n := ⟨t.val, t.isLt⟩) (coords_0 t) (i 0) (blk_0 m c t) (blk_1 m c t) (blk_2 m c t) (blk_3 m c t) (blk_4 m c t) (blk_5 m c t)
    (blk_6 m c t) (blk_7 m c t)) y (i 1) h0.symm h1

theorem place_11 (t : Fin cfg0.N) (y : S6x512x128.Idx) (i : S6x8192x128.Idx) (h0 : (i 0).val = (y 0).val) (h1 : (i 1).val = 512 * t.val + (y 1).val)
    (h2 : (i 2).val = (y 2).val) : outStay (valueV (grid0.coords t) (iblk m c 0 t) (iblk m c 1 t) (iblk m c 2 t) (iblk m c 5 t) (iblk m c 7 t)) y = arr11 m c i := by
  have e2 : i 2 = y 2 := Fin.ext h2
  unfold arr11
  rw [e2]
  exact outStay_eq (valueV_splits (n := ⟨t.val, t.isLt⟩) (coords_0 t) (i 0) (blk_0 m c t) (blk_1 m c t) (blk_2 m c t) (blk_3 m c t) (blk_4 m c t) (blk_5 m c t)
    (blk_6 m c t) (blk_7 m c t)) y (i 1) h0.symm h1

theorem place_12 (t : Fin cfg0.N) (y : S6x512x128.Idx) (i : S6x8192x128.Idx) (h0 : (i 0).val = (y 0).val) (h1 : (i 1).val = 512 * ((t.val + 15) % 16) + (y 1).val)
    (h2 : (i 2).val = (y 2).val) : outEdge (valueV (grid0.coords t) (iblk m c 0 t) (iblk m c 1 t) (iblk m c 2 t) (iblk m c 5 t) (iblk m c 7 t)) y = arr12 m c i := by
  have e2 : i 2 = y 2 := Fin.ext h2
  unfold arr12
  rw [e2]
  exact outEdge_eq (valueV_splits (n := ⟨t.val, t.isLt⟩) (coords_0 t) (i 0) (blk_0 m c t) (blk_1 m c t) (blk_2 m c t) (blk_3 m c t) (blk_4 m c t) (blk_5 m c t)
    (blk_6 m c t) (blk_7 m c t)) y (i 1) h0.symm h1

theorem arrAt_8 : (dats m 0 c).arrAt 8 (cfgs 0).N = arr8 m c := by
  refine (dats m 0 c).arrAt_eq_of_covers 8 _ (by decide +kernel) fun t hf y => ?_
  blk_simp
  rw [after0_8, block_8]
  refine place_8 m c t y _ ?_ ?_ ?_ <;> blk_simp [index_8 t] <;> omega

theorem arrAt_9 : (dats m 0 c).arrAt 9 (cfgs 0).N = arr9 m c := by
  refine (dats m 0 c).arrAt_eq_of_covers 9 _ (by decide +kernel) fun t hf y => ?_
  blk_simp
  rw [after0_9, block_9]
  refine place_9 m c t y _ ?_ ?_ ?_ <;> blk_simp [index_9 t] <;> omega

theorem arrAt_10 : (dats m 0 c).arrAt 10 (cfgs 0).N = arr10 m c := by
  refine (dats m 0 c).arrAt_eq_of_covers 10 _ (by decide +kernel) fun t hf y => ?_
  blk_simp
  rw [after0_10, block_10]
  refine place_10 m c t y _ ?_ ?_ ?_ <;> blk_simp [index_10 t] <;> omega

theorem arrAt_11 : (dats m 0 c).arrAt 11 (cfgs 0).N = arr11 m c := by
  refine (dats m 0 c).arrAt_eq_of_covers 11 _ (by decide +kernel) fun t hf y => ?_
  blk_simp
  rw [after0_11, block_11]
  refine place_11 m c t y _ ?_ ?_ ?_ <;> blk_simp [index_11 t] <;> omega

theorem arrAt_12 : (dats m 0 c).arrAt 12 (cfgs 0).N = arr12 m c := by
  refine (dats m 0 c).arrAt_eq_of_covers 12 _ (by decide +kernel) fun t hf y => ?_
  blk_simp
  rw [after0_12, block_12]
  refine place_12 m c t y _ ?_ ?_ ?_ <;> blk_simp [index_12 t] <;> omega

end Arrays
end Cert.KernelIdeal.Attn
end
-- ==== Proof.Tail.lean ====
module
public import proofs.«01_k».proof.Proof.Arrays
@[expose] public section
set_option maxRecDepth 16384
noncomputable section
open Idealize.ShloMosaic Idealize.ShloMosaic.TcCoe Idealize.SL.Sem
open Idealize.ShloMosaic.Tactic Idealize.ShloMosaic.Pipeline
namespace Cert.KernelIdeal.Attn
open Cert.KernelIdeal Cert.KernelIdeal.Gen Cert.Band

/-! # The three results of the whole program -/

variable (m : (ℓ : Loc nD τ sig) → Buf (Elt Ideal) ℓ) (ρ : Dev nD → PrngReg) (c : Dev nD)

def resK : FVec Ideal S6x8192x128 .f32 := fun i => gradK (qs m c (i 0)) (ks m c (i 0)) (vs m c (i 0)) (os m c (i 0)) (ls m c (i 0)) (ds m c (i 0)) (i 1) (i 2)
def resV : FVec Ideal S6x8192x128 .f32 := fun i => gradV (qs m c (i 0)) (ks m c (i 0)) (os m c (i 0)) (ls m c (i 0)) (i 1) (i 2)

theorem exit_9 : withArrays (cfgs 0).spec c (V0 m c) (fun w => (dats m 0 c).arrAt w (cfgs 0).N) (Proc.devRef .tc main_v0_1) = arr9 m c :=
  (Dat.withArrays_arrAt (dats m 0 c) sharedIn0 (V0 m c) (A_eq m c) 9).trans (arrAt_9 m c)

theorem exit_10 : withArrays (cfgs 0).spec c (V0 m c) (fun w => (dats m 0 c).arrAt w (cfgs 0).N) (Proc.devRef .tc main_v0_2) = arr10 m c :=
  (Dat.withArrays_arrAt (dats m 0 c) sharedIn0 (V0 m c) (A_eq m c) 10).trans (arrAt_10 m c)

theorem exit_11 : withArrays (cfgs 0).spec c (V0 m c) (fun w => (dats m 0 c).arrAt w (cfgs 0).N) (Proc.devRef .tc main_v0_3) = arr11 m c :=
  (Dat.withArrays_arrAt (dats m 0 c) sharedIn0 (V0 m c) (A_eq m c) 11).trans (arrAt_11 m c)

theorem exit_12 : withArrays (cfgs 0).spec c (V0 m c) (fun w => (dats m 0 c).arrAt w (cfgs 0).N) (Proc.devRef .tc main_v0_4) = arr12 m c :=
  (Dat.withArrays_arrAt (dats m 0 c) sharedIn0 (V0 m c) (A_eq m c) 12).trans (arrAt_12 m c)

theorem tail_K : afterTail₀ cfgs (dats m) 0 (V0 m) [hostOps1] c main_v3 = resK m c := by
  unfold afterTail₀
  simp only [List.flatten_cons, List.flatten_nil, List.append_nil]
  after_results
  rw [exit_9, exit_10]
  exact funext fun i => gradK_parts _ _ _ _ _ _ (i 1) (i 2)

theorem tail_V : afterTail₀ cfgs (dats m) 0 (V0 m) [hostOps1] c main_v6 = resV m c := by
  unfold afterTail₀
  simp only [List.flatten_cons, List.flatten_nil, List.append_nil]
  after_results
  rw [exit_11, exit_12]
  exact funext fun i => gradV_parts _ _ _ _ (i 1) (i 2)

/-- The whole program: its results are the three gradients, its arguments stay. -/
theorem run : θ_run defs (onTc (τ := τ) (main (F := Ideal))) ⟨m, fun _ => 0, ρ⟩ (fun r => ∀ c : Dev nD,
      r.2.mem ((c.tc : Thread nD τ).loc main_v0_0) = arr8 m c
      ∧ r.2.mem ((c.tc : Thread nD τ).loc main_v3) = resK m c
      ∧ r.2.mem ((c.tc : Thread nD τ).loc main_v6) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 8).trans (arrAt_8 m c), ((h.1 c).2 main_v3 (by decide)).trans (tail_K m c),
    ((h.1 c).2 main_v6 (by decide)).trans (tail_V m c), h.2 c⟩) (θ_run_and (run_main m ρ) (unchanged m ρ))

end Cert.KernelIdeal.Attn
end
-- ==== Proof.Heads.lean ====
module
public import proofs.«01_k».proof.Proof.BandMath
public import proofs.«01_k».proof.Proof.MaskWords
public import proofs.«01_k».proof.Proof.Gen.ReferenceIdeal.Read
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Read Cert.Band

/-! # The reference, read at an index -/

abbrev Rows := (⟨S6x8192x128, .bf16⟩ : BufTy).Contents (Elt Ideal)
abbrev Sides := (⟨S8192x128, .f32⟩ : BufTy).Contents (Elt Ideal)

/-- Pair `g` of an array of rows, and of an array with a row's two heads side by side. -/
def pairs (A : Rows) (g : Fin 6) : Pos → Fin 128 → EReal := fun p l => A (ix3 g p l)
def sides (A : Sides) (g : Fin 6) : Pos → Fin 2 → EReal := fun p a => A (ix2 p ⟨2 * g.val + a.val, by have := g.isLt; have := a.isLt; omega⟩)

theorem sub_int (t s : Pos) : (IntOp.subi (BitVec.ofNat 32 t.val) (BitVec.ofNat 32 s.val)).toInt = (t.val : ℤ) - s.val := by
  have ht := t.isLt
  have hs := s.isLt
  show (BitVec.ofNat 32 t.val - BitVec.ofNat 32 s.val).toInt = _
  rw [BitVec.toInt_sub, BitVec.toInt_eq_toNat_bmod, BitVec.toInt_eq_toNat_bmod, BitVec.toNat_ofNat, BitVec.toNat_ofNat]
  simp only [Int.bmod_def]
  omega

theorem band_word (t s : Pos) :
    IntOp.andi (IntOp.cmpi .sge (IntOp.subi (BitVec.ofNat 32 t.val) (BitVec.ofNat 32 s.val)) 0#32)
      (IntOp.cmpi .sle (IntOp.subi (BitVec.ofNat 32 t.val) (BitVec.ofNat 32 s.val)) 128#32) = BitVec.ofBool (decide (inBand t.val s.val)) := by
  have h := sub_int t s
  generalize IntOp.subi (BitVec.ofNat 32 t.val) (BitVec.ofNat 32 s.val) = d at h
  show BitVec.ofBool (BitVec.sle 0#32 d) &&& BitVec.ofBool (BitVec.sle d 128#32) = _
  have h0 : BitVec.sle 0#32 d = decide (s.val ≤ t.val) := by
    unfold BitVec.sle; rw [h]; congr 1; show ((0 : ℤ) ≤ _) = _; apply propext; omega
  have h1 : BitVec.sle d 128#32 = decide (t.val ≤ s.val + 128) := by
    unfold BitVec.sle; rw [h]; congr 1; show (_ ≤ (128 : ℤ)) = _; apply propext; omega
  rw [h0, h1]
  unfold inBand
  by_cases p : s.val ≤ t.val <;> by_cases q : t.val ≤ s.val + 128 <;> simp [p, q]

theorem eighth_f32 : Ideal.ofBits .f32 0x3E000000#32 = eighth := by
  simp [eighth, Ideal.ofBits, Ideal.ieee, -EReal.coe_mul]; norm_num
theorem lowest_f32 : Ideal.ofBits .f32 0xFF800000#32 = ⊥ := by
  simp [Ideal.ofBits, Ideal.ieee]
theorem zero_f32 : Ideal.ofBits .f32 0x00000000#32 = 0 := by
  simp [Ideal.ofBits, Ideal.ieee]

section Heads
variable (x : Rows) (g : Fin 6) (t : Pos) (a : Fin 2) (d : Fin 64)

theorem heads_place (i : S8192x12x64.Idx) (h0 : (i 0).val = t.val) (h1 : (i 1).val = 2 * g.val + a.val) (h2 : (i 2).val = d.val) :
    idx_main_v4 (idx_main_v5 (idx_main_v6 i)) = ix3 g t (lane a d) := by
  have := g.isLt; have := t.isLt; have := a.isLt; have := d.isLt
  have e0 : (((i 0).val * 12 + (i 1).val) * 64 + (i 2).val) / 768 = t.val := by omega
  have e1 : (((i 0).val * 12 + (i 1).val) * 64 + (i 2).val) / 128 % 6 = g.val := by omega
  have e2 : (((i 0).val * 12 + (i 1).val) * 64 + (i 2).val) / 64 % 2 = a.val := by omega
  have e3 : (((i 0).val * 12 + (i 1).val) * 64 + (i 2).val) % 64 = d.val := by omega
  funext b
  apply Fin.ext
  fin_cases b
  · show (((((((i 0).val * 12 + (i 1).val) * 64 + (i 2).val) / 128 % 6) * 8192 + (((i 0).val * 12 + (i 1).val) * 64 + (i 2).val) / 768) * 2 + (((i 0).val * 12 + (i 1).val) * 64 + (i 2).val) / 64 % 2) * 64 + (((i 0).val * 12 + (i 1).val) * 64 + (i 2).val) % 64) / 1048576 = g.val
    rw [e0, e1, e2, e3]; omega
  · show (((((((i 0).val * 12 + (i 1).val) * 64 + (i 2).val) / 128 % 6) * 8192 + (((i 0).val * 12 + (i 1).val) * 64 + (i 2).val) / 768) * 2 + (((i 0).val * 12 + (i 1).val) * 64 + (i 2).val) / 64 % 2) * 64 + (((i 0).val * 12 + (i 1).val) * 64 + (i 2).val) % 64) / 128 % 8192 = t.val
    rw [e0, e1, e2, e3]; omega
  · show (((((((i 0).val * 12 + (i 1).val) * 64 + (i 2).val) / 128 % 6) * 8192 + (((i 0).val * 12 + (i 1).val) * 64 + (i 2).val) / 768) * 2 + (((i 0).val * 12 + (i 1).val) * 64 + (i 2).val) / 64 % 2) * 64 + (((i 0).val * 12 + (i 1).val) * 64 + (i 2).val) % 64) % 128 = a.val * 64 + d.val
    rw [e0, e1, e2, e3]; omega

variable (i : S8192x12x64.Idx) (h0 : (i 0).val = t.val) (h1 : (i 1).val = 2 * g.val + a.val) (h2 : (i 2).val = d.val)
include h0 h1 h2
theorem q_at : val_main_v6 (F := Ideal) x i = pairs x g t (lane a d) := by
  rw [val_main_v6_apply, val_main_v5_apply, val_main_v4_apply]
  exact congrArg x (heads_place g t a d i h0 h1 h2)
theorem k_at : val_main_v9 (F := Ideal) x i = pairs x g t (lane a d) := by
  rw [val_main_v9_apply, val_main_v8_apply, val_main_v7_apply]
  exact congrArg x (heads_place g t a d i h0 h1 h2)
theorem v_at : val_main_v12 (F := Ideal) x i = pairs x g t (lane a d) := by
  rw [val_main_v12_apply, val_main_v11_apply, val_main_v10_apply]
  exact congrArg x (heads_place g t a d i h0 h1 h2)
theorem o_at : val_main_v41 (F := Ideal) x i = pairs x g t (lane a d) := by
  rw [val_main_v41_apply, val_main_v40_apply, val_main_v39_apply]
  exact congrArg x (heads_place g t a d i h0 h1 h2)
end Heads

section Scores
variable (x0 x1 x2 x3 : Rows) (x4 x5 : Sides) (g : Fin 6) (t s : Pos) (a : Fin 2)
  (i : S12x8192x8192.Idx) (h0 : (i 0).val = 2 * g.val + a.val) (h1 : (i 1).val = t.val) (h2 : (i 2).val = s.val)

include h1 h2 in
theorem valid_at : val_main_v30_1 (F := Ideal) i = BitVec.ofBool (decide (inBand t.val s.val)) := by
  rw [← band_word, ← h1, ← h2]
  rw [val_main_v30_1_apply, val_main_v29_apply, val_main_v28_apply, val_main_v25_apply, val_main_v27_apply, val_main_v23_apply, val_main_v21_apply,
    val_main_v22_apply, val_main_v18_apply, val_main_v20_apply, val_main_v17_apply, val_main_v19_apply, val_main_v24_apply, val_main_v26_apply, val_main_c_apply, val_main_c_0_apply]

include h0 h1 h2
theorem score_at : val_main_v14 (F := Ideal) x0 x1 i = score (pairs x0 g) (pairs x1 g) a t s := by
  rw [val_main_v14_apply]
  exact Finset.sum_congr rfl fun d _ => congrArg₂ (· * ·) (q_at x0 g t a d _ h1 h0 rfl) (k_at x1 g s a d _ h2 h0 rfl)

theorem lse_at : val_main_v33 (F := Ideal) x5 i = sides x5 g t a := by
  rw [val_main_v33_apply, val_main_v32_apply, val_main_v31_apply, val_main_v13_apply]
  refine congrArg x5 (funext fun b => Fin.ext ?_)
  fin_cases b
  · exact h1
  · exact h0

theorem dsum_at : val_main_v45 (F := Ideal) x4 i = -sides x4 g t a := by
  rw [val_main_v45_apply, val_main_v44_apply, val_main_v43_apply, val_main_v42_apply]
  refine congrArg (fun z => -(x4 z : EReal)) (funext fun b => Fin.ext ?_)
  fin_cases b
  · exact h1
  · exact h0

theorem prob_at : val_main_v35 (F := Ideal) x0 x1 x5 i = prob (pairs x0 g) (pairs x1 g) (sides x5 g) a t s := by
  rw [val_main_v35_apply, val_main_v34_apply, val_main_v30_0_apply, val_main_v16_apply, valid_at t s i h1 h2, lse_at x5 g t s a i h0 h1 h2,
    score_at x0 x1 g t s a i h0 h1 h2, val_main_v15_apply, val_main_cst_apply, val_main_call0_v2_apply, val_main_call0_v0_apply, val_main_cst_1_apply]
  show Ideal.exp ((if _ then _ * Ideal.ofBits .f32 0x3E000000#32 else Ideal.ofBits .f32 0xFF800000#32) - _) = _
  rw [eighth_f32, lowest_f32]
  unfold prob
  simp only [ofBool_iff, decide_eq_true_eq]

theorem dweight_at : val_main_v47 (F := Ideal) x2 x3 i = score (pairs x3 g) (pairs x2 g) a t s := by
  rw [val_main_v47_apply]
  refine Finset.sum_congr rfl fun d _ => congrArg₂ (· * ·) ?_ (v_at x2 g s a d _ h2 h0 rfl)
  rw [val_main_v46_apply]
  exact o_at x3 g t a d _ h1 h0 rfl

theorem dscore_at : val_main_v54 (F := Ideal) x0 x1 x2 x3 x4 x5 i
    = dscore (pairs x0 g) (pairs x1 g) (pairs x2 g) (pairs x3 g) (sides x5 g) (sides x4 g) a t s * eighth := by
  rw [val_main_v54_apply, val_main_v52_apply, val_main_v51_apply, val_main_v48_apply, valid_at t s i h1 h2, dsum_at x4 g t s a i h0 h1 h2,
    dweight_at x2 x3 g t s a i h0 h1 h2, prob_at x0 x1 x5 g t s a i h0 h1 h2, val_main_v53_apply, val_main_cst_3_apply, val_main_call1_v0_apply, val_main_call1_cst_apply]
  show (if _ then (_ + _) * _ else Ideal.ofBits .f32 0x00000000#32) * Ideal.ofBits .f32 0x3E000000#32 = _
  rw [eighth_f32, zero_f32]
  unfold dscore
  simp only [ofBool_iff, decide_eq_true_eq]
end Scores

/-! ## The three results -/

section Results
variable (x0 x1 x2 x3 : Rows) (x4 x5 : Sides) (i : S6x8192x128.Idx)

/-- Where an element of the packed array sits among the heads. -/
theorem packed_place : let j := idx_main_v65 (idx_main_v66 (idx_main_v67 i))
    (j 0).val = (i 1).val ∧ (j 1).val = 2 * (i 0).val + (i 2).val / 64 ∧ (j 2).val = (i 2).val % 64 := by
  have h0 : (i 0).val < 6 := (i 0).isLt
  have h1 : (i 1).val < 8192 := (i 1).isLt
  have h2 : (i 2).val < 128 := (i 2).isLt
  have e0 : (((i 0).val * 8192 + (i 1).val) * 128 + (i 2).val) / 1048576 = (i 0).val := by omega
  have e1 : (((i 0).val * 8192 + (i 1).val) * 128 + (i 2).val) / 128 % 8192 = (i 1).val := by omega
  have e2 : (((i 0).val * 8192 + (i 1).val) * 128 + (i 2).val) / 64 % 2 = (i 2).val / 64 := by omega
  have e3 : (((i 0).val * 8192 + (i 1).val) * 128 + (i 2).val) % 64 = (i 2).val % 64 := by omega
  refine ⟨?_, ?_, ?_⟩
  · show (((((((i 0).val * 8192 + (i 1).val) * 128 + (i 2).val) / 128 % 8192) * 6 + (((i 0).val * 8192 + (i 1).val) * 128 + (i 2).val) / 1048576) * 2 + (((i 0).val * 8192 + (i 1).val) * 128 + (i 2).val) / 64 % 2) * 64 + (((i 0).val * 8192 + (i 1).val) * 128 + (i 2).val) % 64) / 768 = _
    rw [e0, e1, e2, e3]; omega
  · show (((((((i 0).val * 8192 + (i 1).val) * 128 + (i 2).val) / 128 % 8192) * 6 + (((i 0).val * 8192 + (i 1).val) * 128 + (i 2).val) / 1048576) * 2 + (((i 0).val * 8192 + (i 1).val) * 128 + (i 2).val) / 64 % 2) * 64 + (((i 0).val * 8192 + (i 1).val) * 128 + (i 2).val) % 64) / 64 % 12 = _
    rw [e0, e1, e2, e3]; omega
  · show (((((((i 0).val * 8192 + (i 1).val) * 128 + (i 2).val) / 128 % 8192) * 6 + (((i 0).val * 8192 + (i 1).val) * 128 + (i 2).val) / 1048576) * 2 + (((i 0).val * 8192 + (i 1).val) * 128 + (i 2).val) / 64 % 2) * 64 + (((i 0).val * 8192 + (i 1).val) * 128 + (i 2).val) % 64) % 64 = _
    rw [e0, e1, e2, e3]; omega

/-- A lane's place within its head. -/
def within (l : Fin 128) : Fin 64 := ⟨l.val % 64, Nat.mod_lt _ (by norm_num)⟩
theorem lane_head (l : Fin 128) : lane (headOf l) (within l) = l := by
  apply Fin.ext; show l.val / 64 * 64 + l.val % 64 = l.val; omega

theorem resQ_at : val_main_v68 (F := Ideal) x0 x1 x2 x3 x4 x5 i
    = gradQ (pairs x0 (i 0)) (pairs x1 (i 0)) (pairs x2 (i 0)) (pairs x3 (i 0)) (sides x5 (i 0)) (sides x4 (i 0)) (i 1) (i 2) := by
  obtain ⟨p0, p1, p2⟩ := packed_place i
  unfold gradQ
  rw [val_main_v68_apply, val_main_v67_apply, val_main_v66_apply, val_main_v65_apply, val_main_v58_apply, val_main_v57_apply]
  refine Finset.sum_congr rfl fun s _ => ?_
  have e := dscore_at x0 x1 x2 x3 x4 x5 (i 0) (i 1) s (headOf (i 2)) (lidx_main_v57 (idx_main_v58 (idx_main_v65 (idx_main_v66 (idx_main_v67 i)))) s) p1 p0 rfl
  rw [e]
  refine congrArg (dscore _ _ _ _ _ _ _ _ _ * eighth * ·) ?_
  rw [k_at x1 (i 0) s (headOf (i 2)) (within (i 2)) (ridx_main_v57 (idx_main_v58 (idx_main_v65 (idx_main_v66 (idx_main_v67 i)))) s) rfl p1 p2]
  exact congrArg (pairs x1 (i 0) s) (lane_head (i 2))

theorem resK_at : val_main_v64 (F := Ideal) x0 x1 x2 x3 x4 x5 i
    = gradK (pairs x0 (i 0)) (pairs x1 (i 0)) (pairs x2 (i 0)) (pairs x3 (i 0)) (sides x5 (i 0)) (sides x4 (i 0)) (i 1) (i 2) := by
  obtain ⟨p0, p1, p2⟩ := packed_place i
  unfold gradK
  rw [val_main_v64_apply, val_main_v63_apply, val_main_v62_apply, val_main_v56_apply, val_main_v55_apply]
  refine Finset.sum_congr rfl fun t _ => ?_
  refine congrArg₂ (· * ·) (dscore_at x0 x1 x2 x3 x4 x5 (i 0) t (i 1) (headOf (i 2)) _ p1 rfl p0) ?_
  rw [q_at x0 (i 0) t (headOf (i 2)) (within (i 2)) (ridx_main_v55 (idx_main_v56 (idx_main_v62 (idx_main_v63 (idx_main_v64 i)))) t) rfl p1 p2]
  exact congrArg (pairs x0 (i 0) t) (lane_head (i 2))

theorem resV_at : val_main_v61 (F := Ideal) x0 x1 x3 x5 i
    = gradV (pairs x0 (i 0)) (pairs x1 (i 0)) (pairs x3 (i 0)) (sides x5 (i 0)) (i 1) (i 2) := by
  obtain ⟨p0, p1, p2⟩ := packed_place i
  unfold gradV
  rw [val_main_v61_apply, val_main_v60_apply, val_main_v59_apply, val_main_v50_apply, val_main_v49_apply]
  refine Finset.sum_congr rfl fun t _ => ?_
  refine congrArg₂ (· * ·) ?_ (prob_at x0 x1 x5 (i 0) t (i 1) (headOf (i 2)) _ p1 rfl p0)
  rw [val_main_v46_apply]
  rw [o_at x3 (i 0) t (headOf (i 2)) (within (i 2)) (idx_main_v46 (lidx_main_v49 (idx_main_v50 (idx_main_v59 (idx_main_v60 (idx_main_v61 i)))) t)) rfl p1 p2]
  exact congrArg (pairs x3 (i 0) t) (lane_head (i 2))
end Results

end Cert.ReferenceIdeal.Attn
end
-- ==== Proof.WGate.lean ====
module

public import proofs.«01_k».proof.Defs
public import proofs.«01_k».proof.Proof.Gen.RGateIdeal.Run
public import proofs.«01_k».proof.Proof.Gen.RGateIdeal.Read
public import proofs.«01_k».proof.Proof.Gen.RGateIdeal
public import proofs.«01_k».proof.Proof.Gen.WGate
public import proofs.«01_k».proof.Proof.Gen.WGate.Frame
public import proofs.«01_k».proof.Proof.Gen.WGateIdeal
public import proofs.«01_k».proof.Proof.Gen.WGateIdeal.Frame
public import proofs.«01_k».proof.Proof.Gen.WGateIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.WGateIdeal.Grad
open Cert.WGateIdeal Cert.WGateIdeal.Gen

/-! # A weight gradient: the product of two arrays over the tokens, eight blocks of tokens after another -/

theorem pay1_at (i : S1408x1024.Idx) : (k0_pay1 (F := Ideal)) i = 0 := by
  unfold k0_pay1
  pointwise

theorem pay2_at (x : Vec Ideal S1408x1024 .f32) (a : Vec Ideal S1024x1408 .bf16) (b : Vec Ideal S1024x1024 .bf16) (i : S1408x1024.Idx) :
    (k0_pay2 (F := Ideal) x a b) i = x i + ∑ k : Fin 1024, a (ix2 k (i 0)) * b (ix2 k (i 1)) := by
  unfold k0_pay2
  pointwise

theorem pay3_at (x : Vec Ideal S1408x1024 .f32) (i : S1408x1024.Idx) : (k0_pay3 (F := Ideal) x) i = x i := by
  unfold k0_pay3
  pointwise

variable (m : (ℓ : Loc nD τ sig) → Buf (Elt Ideal) ℓ)

/-- The two arguments. -/
abbrev argA (c : Dev nD) : S8192x2816.Idx → EReal := m ((c : Thread nD τ).loc main_arg0)
abbrev argB (c : Dev nD) : S8192x1024.Idx → EReal := m ((c : Thread nD τ).loc main_arg1)

theorem index_0 : ∀ t : Fin cfg0.N, (cfg0.win 0).index t = ![t.val % 8, t.val / 8] := by decide +kernel
theorem index_1 : ∀ t : Fin cfg0.N, (cfg0.win 1).index t = ![t.val % 8, 0] := by decide +kernel
theorem index_2 : ∀ t : Fin cfg0.N, (cfg0.win 2).index t = ![t.val / 8, 0] := by decide +kernel

/-- The blocks a grid point is given. -/
def blockA (c : Dev nD) (t : Fin cfg0.N) : S1024x1408.Idx → EReal := iblk m c 0 t
def blockB (c : Dev nD) (t : Fin cfg0.N) : S1024x1024.Idx → EReal := iblk m c 1 t

/-- What one grid point adds. -/
def term (c : Dev nD) (t : Fin cfg0.N) (i : S1408x1024.Idx) : EReal :=
  ∑ k : Fin 1024, blockA m c t (ix2 k (i 0)) * blockB m c t (ix2 k (i 1))

theorem scratch_first (c : Dev nD) (t : Fin cfg0.N) (h : t.val % 8 = 0) (i : S1408x1024.Idx) :
    (outsAt0 m c t.val t.isLt).2 i = 0 + term m c t i := by
  rw [outsAt0_A m c t h (by omega)]
  frame_out
  rw [pay2_at, pay1_at]
  rfl

theorem scratch_next (c : Dev nD) (t : Fin cfg0.N) (h : ¬t.val % 8 = 0) (i : S1408x1024.Idx) :
    (outsAt0 m c t.val t.isLt).2 i = (outsAt0 m c (t.val - 1) (Nat.lt_of_le_of_lt (Nat.sub_le _ _) t.isLt)).2 i + term m c t i := by
  by_cases h1 : t.val % 8 = 7
  · rw [outsAt0_C m c t h h1]
    frame_out
    simp only [read_unread_whole]
    rw [pay2_at]
    rfl
  · rw [outsAt0_B m c t h h1]
    frame_out
    simp only [read_unread_whole]
    rw [pay2_at]
    rfl

theorem out_last (c : Dev nD) (t : Fin cfg0.N) (h : t.val % 8 = 7) (i : S1408x1024.Idx) :
    (outsAt0 m c t.val t.isLt).1 i = (outsAt0 m c t.val t.isLt).2 i := by
  rw [outsAt0_C m c t (by omega) h]
  frame_out
  rw [pay3_at]

theorem scratch_last (c : Dev nD) (t : Fin cfg0.N) (h : t.val % 8 = 7) (i : S1408x1024.Idx) :
    (outsAt0 m c t.val t.isLt).2 i = 0 + ∑ s : Fin 8, term m c ⟨8 * (t.val / 8) + s.val, run_point_lt_of_flush t h s⟩ i :=
  eq_sum_fin_of_reset_step_apply_of_flush (fun n h => (outsAt0 m c n h).2) 8 (fun _ => 0) (term m c)
    (scratch_first m c) (scratch_next m c) t h i

theorem blockA_at (c : Dev nD) (t : Fin cfg0.N) (k : Fin 1024) (l : Fin 1408) (k' : Fin 8192) (l' : Fin 2816)
    (hk : k'.val = t.val % 8 * 1024 + k.val) (hl : l'.val = t.val / 8 * 1408 + l.val) : blockA m c t (ix2 k l) = argA m c (ix2 k' l') := by
  unfold blockA
  blk_ext [iblk, index_0 t]

theorem blockB_at (c : Dev nD) (t : Fin cfg0.N) (k l : Fin 1024) (k' : Fin 8192)
    (hk : k'.val = t.val % 8 * 1024 + k.val) : blockB m c t (ix2 k l) = argB m c (ix2 k' l) := by
  unfold blockB
  blk_ext [iblk, index_1 t]

/-- The product over the tokens. -/
def product (a : S8192x2816.Idx → EReal) (b : S8192x1024.Idx → EReal) : S2816x1024.Idx → EReal :=
  fun i => ∑ k : Fin 8192, a (ix2 k (i 0)) * b (ix2 k (i 1))

theorem place (c : Dev nD) (t : Fin cfg0.N) (h : t.val % 8 = 7) (y : S1408x1024.Idx) (i : S2816x1024.Idx)
    (h0 : (i 0).val = t.val / 8 * 1408 + (y 0).val) (h1 : (i 1).val = (y 1).val) :
    ∑ s : Fin 8, term m c ⟨8 * (t.val / 8) + s.val, run_point_lt_of_flush t h s⟩ y = product (argA m c) (argB m c) i := by
  unfold product term
  refine Fin.sum_mul_add_congr fun s k hl => ?_
  rw [blockA_at m c _ k (y 0) ⟨s.val * 1024 + k.val, hl⟩ (i 0) (by dsimp only; omega) (by dsimp only; omega),
    blockB_at m c _ k (y 1) ⟨s.val * 1024 + k.val, hl⟩ (by dsimp only; omega), show y 1 = i 1 from Fin.ext h1.symm]

theorem array_eq (c : Dev nD) : (dats m 0 c).arrAt 2 cfg0.N = product (argA m c) (argB m c) := by
  refine Dat.arrAt_eq_of_covers (dats m 0 c) 2 _ (by decide +kernel) fun t hf y => ?_
  have h7 : t.val % 8 = 7 := (flush0_2 t).mp hf
  blk_simp
  rw [after0_2, out_last m c t h7, scratch_last m c t h7, zero_add]
  refine place m c t h7 y _ ?_ ?_ <;> blk_simp [index_2 t] <;> omega

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (array_eq m c), (h c).2⟩) (Value.run_blocks (F := Ideal) m ρ)

end Cert.WGateIdeal.Grad

namespace Cert.RGateIdeal.Grad
open Cert.RGateIdeal Cert.RGateIdeal.Gen Cert.RGateIdeal.Read

theorem result_at (a : S8192x2816.Idx → EReal) (b : S8192x1024.Idx → EReal) :
    val_main_v7 (F := Ideal) a b = Cert.WGateIdeal.Grad.product a b := by
  funext i
  rw [val_main_v7_apply, val_main_v6_apply, val_main_v5_apply, val_main_v4_apply]
  simp only [val_main_v0_apply, val_main_v1_apply]
  unfold Cert.WGateIdeal.Grad.product
  refine Finset.sum_congr rfl fun k _ => ?_
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

end Cert.RGateIdeal.Grad

namespace Cert.Proof

theorem rgate_frame : Cert.quiescent_RGateIdeal (hRGateIdeal := Cert.RGateIdeal.Gen.facts) := by
  intro m ρ _
  exact (θ_run _ _ _).mono (fun r h => ⟨fun c => (h c).2, funext fun g => nomatch g.2⟩) (Cert.RGateIdeal.Value.run (F := Ideal) m ρ)

theorem wgate_same : Cert.algebraic_WGateIdeal_RGateIdeal (hWGateIdeal := Cert.WGateIdeal.Gen.facts) (hRGateIdeal := Cert.RGateIdeal.Gen.facts) := by
  intro m g m' g' _ hagree
  refine ⟨fun c => Cert.WGateIdeal.Grad.product (Cert.WGateIdeal.Grad.argA m c) (Cert.WGateIdeal.Grad.argB m c),
    Cert.WGateIdeal.Grad.run m g, (θ_run _ _ _).mono (fun r h c => ?_) (Cert.RGateIdeal.Value.run (F := Ideal) m' g')⟩
  obtain ⟨e0, e1⟩ := hagree c
  refine ⟨(h c).1.trans ?_, (h c).2⟩
  rw [Cert.RGateIdeal.Read.val_main_v7_eq, e0, e1]
  exact Cert.RGateIdeal.Grad.result_at _ _

end Cert.Proof

end
-- ==== Proof.WUp.lean ====
module

public import proofs.«01_k».proof.Defs
public import proofs.«01_k».proof.Proof.Gen.RUpIdeal.Run
public import proofs.«01_k».proof.Proof.Gen.RUpIdeal.Read
public import proofs.«01_k».proof.Proof.Gen.RUpIdeal
public import proofs.«01_k».proof.Proof.Gen.WUp
public import proofs.«01_k».proof.Proof.Gen.WUp.Frame
public import proofs.«01_k».proof.Proof.Gen.WUpIdeal
public import proofs.«01_k».proof.Proof.Gen.WUpIdeal.Frame
public import proofs.«01_k».proof.Proof.Gen.WUpIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.WUpIdeal.Grad
open Cert.WUpIdeal Cert.WUpIdeal.Gen

/-! # A weight gradient: the product of two arrays over the tokens, eight blocks of tokens after another -/

theorem pay1_at (i : S1408x1024.Idx) : (k0_pay1 (F := Ideal)) i = 0 := by
  unfold k0_pay1
  pointwise

theorem pay2_at (x : Vec Ideal S1408x1024 .f32) (a : Vec Ideal S1024x1408 .bf16) (b : Vec Ideal S1024x1024 .bf16) (i : S1408x1024.Idx) :
    (k0_pay2 (F := Ideal) x a b) i = x i + ∑ k : Fin 1024, a (ix2 k (i 0)) * b (ix2 k (i 1)) := by
  unfold k0_pay2
  pointwise

theorem pay3_at (x : Vec Ideal S1408x1024 .f32) (i : S1408x1024.Idx) : (k0_pay3 (F := Ideal) x) i = x i := by
  unfold k0_pay3
  pointwise

variable (m : (ℓ : Loc nD τ sig) → Buf (Elt Ideal) ℓ)

/-- The two arguments. -/
abbrev argA (c : Dev nD) : S8192x2816.Idx → EReal := m ((c : Thread nD τ).loc main_arg0)
abbrev argB (c : Dev nD) : S8192x1024.Idx → EReal := m ((c : Thread nD τ).loc main_arg1)

theorem index_0 : ∀ t : Fin cfg0.N, (cfg0.win 0).index t = ![t.val % 8, t.val / 8] := by decide +kernel
theorem index_1 : ∀ t : Fin cfg0.N, (cfg0.win 1).index t = ![t.val % 8, 0] := by decide +kernel
theorem index_2 : ∀ t : Fin cfg0.N, (cfg0.win 2).index t = ![t.val / 8, 0] := by decide +kernel

/-- The blocks a grid point is given. -/
def blockA (c : Dev nD) (t : Fin cfg0.N) : S1024x1408.Idx → EReal := iblk m c 0 t
def blockB (c : Dev nD) (t : Fin cfg0.N) : S1024x1024.Idx → EReal := iblk m c 1 t

/-- What one grid point adds. -/
def term (c : Dev nD) (t : Fin cfg0.N) (i : S1408x1024.Idx) : EReal :=
  ∑ k : Fin 1024, blockA m c t (ix2 k (i 0)) * blockB m c t (ix2 k (i 1))

theorem scratch_first (c : Dev nD) (t : Fin cfg0.N) (h : t.val % 8 = 0) (i : S1408x1024.Idx) :
    (outsAt0 m c t.val t.isLt).2 i = 0 + term m c t i := by
  rw [outsAt0_A m c t h (by omega)]
  frame_out
  rw [pay2_at, pay1_at]
  rfl

theorem scratch_next (c : Dev nD) (t : Fin cfg0.N) (h : ¬t.val % 8 = 0) (i : S1408x1024.Idx) :
    (outsAt0 m c t.val t.isLt).2 i = (outsAt0 m c (t.val - 1) (Nat.lt_of_le_of_lt (Nat.sub_le _ _) t.isLt)).2 i + term m c t i := by
  by_cases h1 : t.val % 8 = 7
  · rw [outsAt0_C m c t h h1]
    frame_out
    simp only [read_unread_whole]
    rw [pay2_at]
    rfl
  · rw [outsAt0_B m c t h h1]
    frame_out
    simp only [read_unread_whole]
    rw [pay2_at]
    rfl

theorem out_last (c : Dev nD) (t : Fin cfg0.N) (h : t.val % 8 = 7) (i : S1408x1024.Idx) :
    (outsAt0 m c t.val t.isLt).1 i = (outsAt0 m c t.val t.isLt).2 i := by
  rw [outsAt0_C m c t (by omega) h]
  frame_out
  rw [pay3_at]

theorem scratch_last (c : Dev nD) (t : Fin cfg0.N) (h : t.val % 8 = 7) (i : S1408x1024.Idx) :
    (outsAt0 m c t.val t.isLt).2 i = 0 + ∑ s : Fin 8, term m c ⟨8 * (t.val / 8) + s.val, run_point_lt_of_flush t h s⟩ i :=
  eq_sum_fin_of_reset_step_apply_of_flush (fun n h => (outsAt0 m c n h).2) 8 (fun _ => 0) (term m c)
    (scratch_first m c) (scratch_next m c) t h i

theorem blockA_at (c : Dev nD) (t : Fin cfg0.N) (k : Fin 1024) (l : Fin 1408) (k' : Fin 8192) (l' : Fin 2816)
    (hk : k'.val = t.val % 8 * 1024 + k.val) (hl : l'.val = t.val / 8 * 1408 + l.val) : blockA m c t (ix2 k l) = argA m c (ix2 k' l') := by
  unfold blockA
  blk_ext [iblk, index_0 t]

theorem blockB_at (c : Dev nD) (t : Fin cfg0.N) (k l : Fin 1024) (k' : Fin 8192)
    (hk : k'.val = t.val % 8 * 1024 + k.val) : blockB m c t (ix2 k l) = argB m c (ix2 k' l) := by
  unfold blockB
  blk_ext [iblk, index_1 t]

/-- The product over the tokens. -/
def product (a : S8192x2816.Idx → EReal) (b : S8192x1024.Idx → EReal) : S2816x1024.Idx → EReal :=
  fun i => ∑ k : Fin 8192, a (ix2 k (i 0)) * b (ix2 k (i 1))

theorem place (c : Dev nD) (t : Fin cfg0.N) (h : t.val % 8 = 7) (y : S1408x1024.Idx) (i : S2816x1024.Idx)
    (h0 : (i 0).val = t.val / 8 * 1408 + (y 0).val) (h1 : (i 1).val = (y 1).val) :
    ∑ s : Fin 8, term m c ⟨8 * (t.val / 8) + s.val, run_point_lt_of_flush t h s⟩ y = product (argA m c) (argB m c) i := by
  unfold product term
  refine Fin.sum_mul_add_congr fun s k hl => ?_
  rw [blockA_at m c _ k (y 0) ⟨s.val * 1024 + k.val, hl⟩ (i 0) (by dsimp only; omega) (by dsimp only; omega),
    blockB_at m c _ k (y 1) ⟨s.val * 1024 + k.val, hl⟩ (by dsimp only; omega), show y 1 = i 1 from Fin.ext h1.symm]

theorem array_eq (c : Dev nD) : (dats m 0 c).arrAt 2 cfg0.N = product (argA m c) (argB m c) := by
  refine Dat.arrAt_eq_of_covers (dats m 0 c) 2 _ (by decide +kernel) fun t hf y => ?_
  have h7 : t.val % 8 = 7 := (flush0_2 t).mp hf
  blk_simp
  rw [after0_2, out_last m c t h7, scratch_last m c t h7, zero_add]
  refine place m c t h7 y _ ?_ ?_ <;> blk_simp [index_2 t] <;> omega

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (array_eq m c), (h c).2⟩) (Value.run_blocks (F := Ideal) m ρ)

end Cert.WUpIdeal.Grad

namespace Cert.RUpIdeal.Grad
open Cert.RUpIdeal Cert.RUpIdeal.Gen Cert.RUpIdeal.Read

theorem result_at (a : S8192x2816.Idx → EReal) (b : S8192x1024.Idx → EReal) :
    val_main_v7 (F := Ideal) a b = Cert.WUpIdeal.Grad.product a b := by
  funext i
  rw [val_main_v7_apply, val_main_v6_apply, val_main_v5_apply, val_main_v4_apply]
  simp only [val_main_v0_apply, val_main_v1_apply]
  unfold Cert.WUpIdeal.Grad.product
  refine Finset.sum_congr rfl fun k _ => ?_
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

end Cert.RUpIdeal.Grad

namespace Cert.Proof

theorem rup_frame : Cert.quiescent_RUpIdeal (hRUpIdeal := Cert.RUpIdeal.Gen.facts) := by
  intro m ρ _
  exact (θ_run _ _ _).mono (fun r h => ⟨fun c => (h c).2, funext fun g => nomatch g.2⟩) (Cert.RUpIdeal.Value.run (F := Ideal) m ρ)

theorem wup_same : Cert.algebraic_WUpIdeal_RUpIdeal (hWUpIdeal := Cert.WUpIdeal.Gen.facts) (hRUpIdeal := Cert.RUpIdeal.Gen.facts) := by
  intro m g m' g' _ hagree
  refine ⟨fun c => Cert.WUpIdeal.Grad.product (Cert.WUpIdeal.Grad.argA m c) (Cert.WUpIdeal.Grad.argB m c),
    Cert.WUpIdeal.Grad.run m g, (θ_run _ _ _).mono (fun r h c => ?_) (Cert.RUpIdeal.Value.run (F := Ideal) m' g')⟩
  obtain ⟨e0, e1⟩ := hagree c
  refine ⟨(h c).1.trans ?_, (h c).2⟩
  rw [Cert.RUpIdeal.Read.val_main_v7_eq, e0, e1]
  exact Cert.RUpIdeal.Grad.result_at _ _

end Cert.Proof

end
-- ==== Proof.WDown.lean ====
module

public import proofs.«01_k».proof.Defs
public import proofs.«01_k».proof.Proof.Gen.RDownIdeal.Run
public import proofs.«01_k».proof.Proof.Gen.RDownIdeal.Read
public import proofs.«01_k».proof.Proof.Gen.RDownIdeal
public import proofs.«01_k».proof.Proof.Gen.WDown
public import proofs.«01_k».proof.Proof.Gen.WDown.Frame
public import proofs.«01_k».proof.Proof.Gen.WDownIdeal
public import proofs.«01_k».proof.Proof.Gen.WDownIdeal.Frame
public import proofs.«01_k».proof.Proof.Gen.WDownIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.WDownIdeal.Grad
open Cert.WDownIdeal Cert.WDownIdeal.Gen

/-! # A weight gradient: the product of two arrays over the tokens, eight blocks of tokens after another -/

theorem pay1_at (i : S1408x1024.Idx) : (k0_pay1 (F := Ideal)) i = 0 := by
  unfold k0_pay1
  pointwise

theorem pay2_at (x : Vec Ideal S1408x1024 .f32) (a : Vec Ideal S1024x1408 .bf16) (b : Vec Ideal S1024x1024 .bf16) (i : S1408x1024.Idx) :
    (k0_pay2 (F := Ideal) x a b) i = x i + ∑ k : Fin 1024, a (ix2 k (i 0)) * b (ix2 k (i 1)) := by
  unfold k0_pay2
  pointwise

theorem pay3_at (x : Vec Ideal S1408x1024 .f32) (i : S1408x1024.Idx) : (k0_pay3 (F := Ideal) x) i = x i := by
  unfold k0_pay3
  pointwise

variable (m : (ℓ : Loc nD τ sig) → Buf (Elt Ideal) ℓ)

/-- The two arguments. -/
abbrev argA (c : Dev nD) : S8192x2816.Idx → EReal := m ((c : Thread nD τ).loc main_arg0)
abbrev argB (c : Dev nD) : S8192x1024.Idx → EReal := m ((c : Thread nD τ).loc main_arg1)

theorem index_0 : ∀ t : Fin cfg0.N, (cfg0.win 0).index t = ![t.val % 8, t.val / 8] := by decide +kernel
theorem index_1 : ∀ t : Fin cfg0.N, (cfg0.win 1).index t = ![t.val % 8, 0] := by decide +kernel
theorem index_2 : ∀ t : Fin cfg0.N, (cfg0.win 2).index t = ![t.val / 8, 0] := by decide +kernel

/-- The blocks a grid point is given. -/
def blockA (c : Dev nD) (t : Fin cfg0.N) : S1024x1408.Idx → EReal := iblk m c 0 t
def blockB (c : Dev nD) (t : Fin cfg0.N) : S1024x1024.Idx → EReal := iblk m c 1 t

/-- What one grid point adds. -/
def term (c : Dev nD) (t : Fin cfg0.N) (i : S1408x1024.Idx) : EReal :=
  ∑ k : Fin 1024, blockA m c t (ix2 k (i 0)) * blockB m c t (ix2 k (i 1))

theorem scratch_first (c : Dev nD) (t : Fin cfg0.N) (h : t.val % 8 = 0) (i : S1408x1024.Idx) :
    (outsAt0 m c t.val t.isLt).2 i = 0 + term m c t i := by
  rw [outsAt0_A m c t h (by omega)]
  frame_out
  rw [pay2_at, pay1_at]
  rfl

theorem scratch_next (c : Dev nD) (t : Fin cfg0.N) (h : ¬t.val % 8 = 0) (i : S1408x1024.Idx) :
    (outsAt0 m c t.val t.isLt).2 i = (outsAt0 m c (t.val - 1) (Nat.lt_of_le_of_lt (Nat.sub_le _ _) t.isLt)).2 i + term m c t i := by
  by_cases h1 : t.val % 8 = 7
  · rw [outsAt0_C m c t h h1]
    frame_out
    simp only [read_unread_whole]
    rw [pay2_at]
    rfl
  · rw [outsAt0_B m c t h h1]
    frame_out
    simp only [read_unread_whole]
    rw [pay2_at]
    rfl

theorem out_last (c : Dev nD) (t : Fin cfg0.N) (h : t.val % 8 = 7) (i : S1408x1024.Idx) :
    (outsAt0 m c t.val t.isLt).1 i = (outsAt0 m c t.val t.isLt).2 i := by
  rw [outsAt0_C m c t (by omega) h]
  frame_out
  rw [pay3_at]

theorem scratch_last (c : Dev nD) (t : Fin cfg0.N) (h : t.val % 8 = 7) (i : S1408x1024.Idx) :
    (outsAt0 m c t.val t.isLt).2 i = 0 + ∑ s : Fin 8, term m c ⟨8 * (t.val / 8) + s.val, run_point_lt_of_flush t h s⟩ i :=
  eq_sum_fin_of_reset_step_apply_of_flush (fun n h => (outsAt0 m c n h).2) 8 (fun _ => 0) (term m c)
    (scratch_first m c) (scratch_next m c) t h i

theorem blockA_at (c : Dev nD) (t : Fin cfg0.N) (k : Fin 1024) (l : Fin 1408) (k' : Fin 8192) (l' : Fin 2816)
    (hk : k'.val = t.val % 8 * 1024 + k.val) (hl : l'.val = t.val / 8 * 1408 + l.val) : blockA m c t (ix2 k l) = argA m c (ix2 k' l') := by
  unfold blockA
  blk_ext [iblk, index_0 t]

theorem blockB_at (c : Dev nD) (t : Fin cfg0.N) (k l : Fin 1024) (k' : Fin 8192)
    (hk : k'.val = t.val % 8 * 1024 + k.val) : blockB m c t (ix2 k l) = argB m c (ix2 k' l) := by
  unfold blockB
  blk_ext [iblk, index_1 t]

/-- The product over the tokens. -/
def product (a : S8192x2816.Idx → EReal) (b : S8192x1024.Idx → EReal) : S2816x1024.Idx → EReal :=
  fun i => ∑ k : Fin 8192, a (ix2 k (i 0)) * b (ix2 k (i 1))

theorem place (c : Dev nD) (t : Fin cfg0.N) (h : t.val % 8 = 7) (y : S1408x1024.Idx) (i : S2816x1024.Idx)
    (h0 : (i 0).val = t.val / 8 * 1408 + (y 0).val) (h1 : (i 1).val = (y 1).val) :
    ∑ s : Fin 8, term m c ⟨8 * (t.val / 8) + s.val, run_point_lt_of_flush t h s⟩ y = product (argA m c) (argB m c) i := by
  unfold product term
  refine Fin.sum_mul_add_congr fun s k hl => ?_
  rw [blockA_at m c _ k (y 0) ⟨s.val * 1024 + k.val, hl⟩ (i 0) (by dsimp only; omega) (by dsimp only; omega),
    blockB_at m c _ k (y 1) ⟨s.val * 1024 + k.val, hl⟩ (by dsimp only; omega), show y 1 = i 1 from Fin.ext h1.symm]

theorem array_eq (c : Dev nD) : (dats m 0 c).arrAt 2 cfg0.N = product (argA m c) (argB m c) := by
  refine Dat.arrAt_eq_of_covers (dats m 0 c) 2 _ (by decide +kernel) fun t hf y => ?_
  have h7 : t.val % 8 = 7 := (flush0_2 t).mp hf
  blk_simp
  rw [after0_2, out_last m c t h7, scratch_last m c t h7, zero_add]
  refine place m c t h7 y _ ?_ ?_ <;> blk_simp [index_2 t] <;> omega

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (array_eq m c), (h c).2⟩) (Value.run_blocks (F := Ideal) m ρ)

end Cert.WDownIdeal.Grad

namespace Cert.RDownIdeal.Grad
open Cert.RDownIdeal Cert.RDownIdeal.Gen Cert.RDownIdeal.Read

theorem result_at (a : S8192x2816.Idx → EReal) (b : S8192x1024.Idx → EReal) :
    val_main_v6 (F := Ideal) a b = Cert.WDownIdeal.Grad.product a b := by
  funext i
  rw [val_main_v6_apply, val_main_v5_apply, val_main_v4_apply]
  simp only [val_main_v0_apply, val_main_v1_apply]
  unfold Cert.WDownIdeal.Grad.product
  refine Finset.sum_congr rfl fun k _ => ?_
  refine (mul_comm _ _).trans ?_
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

end Cert.RDownIdeal.Grad

namespace Cert.Proof

theorem rdown_frame : Cert.quiescent_RDownIdeal (hRDownIdeal := Cert.RDownIdeal.Gen.facts) := by
  intro m ρ _
  exact (θ_run _ _ _).mono (fun r h => ⟨fun c => (h c).2, funext fun g => nomatch g.2⟩) (Cert.RDownIdeal.Value.run (F := Ideal) m ρ)

theorem wdown_same : Cert.algebraic_WDownIdeal_RDownIdeal (hWDownIdeal := Cert.WDownIdeal.Gen.facts) (hRDownIdeal := Cert.RDownIdeal.Gen.facts) := by
  intro m g m' g' _ hagree
  refine ⟨fun c => Cert.WDownIdeal.Grad.product (Cert.WDownIdeal.Grad.argA m c) (Cert.WDownIdeal.Grad.argB m c),
    Cert.WDownIdeal.Grad.run m g, (θ_run _ _ _).mono (fun r h c => ?_) (Cert.RDownIdeal.Value.run (F := Ideal) m' g')⟩
  obtain ⟨e0, e1⟩ := hagree c
  refine ⟨(h c).1.trans ?_, (h c).2⟩
  rw [Cert.RDownIdeal.Read.val_main_v6_eq, e0, e1]
  exact Cert.RDownIdeal.Grad.result_at _ _

end Cert.Proof

end
-- ==== Proof.WIn.lean ====
module

public import proofs.«01_k».proof.Defs
public import proofs.«01_k».proof.Proof.Gen.RInIdeal.Run
public import proofs.«01_k».proof.Proof.Gen.RInIdeal.Read
public import proofs.«01_k».proof.Proof.Gen.RInIdeal
public import proofs.«01_k».proof.Proof.Gen.WIn
public import proofs.«01_k».proof.Proof.Gen.WIn.Frame
public import proofs.«01_k».proof.Proof.Gen.WInIdeal
public import proofs.«01_k».proof.Proof.Gen.WInIdeal.Frame
public import proofs.«01_k».proof.Proof.Gen.WInIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.WInIdeal.Grad
open Cert.WInIdeal Cert.WInIdeal.Gen

/-! # A weight gradient: the product of two arrays over the tokens, eight blocks of tokens after another -/

theorem pay1_at (i : S1280x1024.Idx) : (k0_pay1 (F := Ideal)) i = 0 := by
  unfold k0_pay1
  pointwise

theorem pay2_at (x : Vec Ideal S1280x1024 .f32) (a : Vec Ideal S1024x1280 .bf16) (b : Vec Ideal S1024x1024 .bf16) (i : S1280x1024.Idx) :
    (k0_pay2 (F := Ideal) x a b) i = x i + ∑ k : Fin 1024, a (ix2 k (i 0)) * b (ix2 k (i 1)) := by
  unfold k0_pay2
  pointwise

theorem pay3_at (x : Vec Ideal S1280x1024 .f32) (i : S1280x1024.Idx) : (k0_pay3 (F := Ideal) x) i = x i := by
  unfold k0_pay3
  pointwise

variable (m : (ℓ : Loc nD τ sig) → Buf (Elt Ideal) ℓ)

/-- The two arguments. -/
abbrev argA (c : Dev nD) : S8192x2560.Idx → EReal := m ((c : Thread nD τ).loc main_arg0)
abbrev argB (c : Dev nD) : S8192x1024.Idx → EReal := m ((c : Thread nD τ).loc main_arg1)

theorem index_0 : ∀ t : Fin cfg0.N, (cfg0.win 0).index t = ![t.val % 8, t.val / 8] := by decide +kernel
theorem index_1 : ∀ t : Fin cfg0.N, (cfg0.win 1).index t = ![t.val % 8, 0] := by decide +kernel
theorem index_2 : ∀ t : Fin cfg0.N, (cfg0.win 2).index t = ![t.val / 8, 0] := by decide +kernel

/-- The blocks a grid point is given. -/
def blockA (c : Dev nD) (t : Fin cfg0.N) : S1024x1280.Idx → EReal := iblk m c 0 t
def blockB (c : Dev nD) (t : Fin cfg0.N) : S1024x1024.Idx → EReal := iblk m c 1 t

/-- What one grid point adds. -/
def term (c : Dev nD) (t : Fin cfg0.N) (i : S1280x1024.Idx) : EReal :=
  ∑ k : Fin 1024, blockA m c t (ix2 k (i 0)) * blockB m c t (ix2 k (i 1))

theorem scratch_first (c : Dev nD) (t : Fin cfg0.N) (h : t.val % 8 = 0) (i : S1280x1024.Idx) :
    (outsAt0 m c t.val t.isLt).2 i = 0 + term m c t i := by
  rw [outsAt0_A m c t h (by omega)]
  frame_out
  rw [pay2_at, pay1_at]
  rfl

theorem scratch_next (c : Dev nD) (t : Fin cfg0.N) (h : ¬t.val % 8 = 0) (i : S1280x1024.Idx) :
    (outsAt0 m c t.val t.isLt).2 i = (outsAt0 m c (t.val - 1) (Nat.lt_of_le_of_lt (Nat.sub_le _ _) t.isLt)).2 i + term m c t i := by
  by_cases h1 : t.val % 8 = 7
  · rw [outsAt0_C m c t h h1]
    frame_out
    simp only [read_unread_whole]
    rw [pay2_at]
    rfl
  · rw [outsAt0_B m c t h h1]
    frame_out
    simp only [read_unread_whole]
    rw [pay2_at]
    rfl

theorem out_last (c : Dev nD) (t : Fin cfg0.N) (h : t.val % 8 = 7) (i : S1280x1024.Idx) :
    (outsAt0 m c t.val t.isLt).1 i = (outsAt0 m c t.val t.isLt).2 i := by
  rw [outsAt0_C m c t (by omega) h]
  frame_out
  rw [pay3_at]

theorem scratch_last (c : Dev nD) (t : Fin cfg0.N) (h : t.val % 8 = 7) (i : S1280x1024.Idx) :
    (outsAt0 m c t.val t.isLt).2 i = 0 + ∑ s : Fin 8, term m c ⟨8 * (t.val / 8) + s.val, run_point_lt_of_flush t h s⟩ i :=
  eq_sum_fin_of_reset_step_apply_of_flush (fun n h => (outsAt0 m c n h).2) 8 (fun _ => 0) (term m c)
    (scratch_first m c) (scratch_next m c) t h i

theorem blockA_at (c : Dev nD) (t : Fin cfg0.N) (k : Fin 1024) (l : Fin 1280) (k' : Fin 8192) (l' : Fin 2560)
    (hk : k'.val = t.val % 8 * 1024 + k.val) (hl : l'.val = t.val / 8 * 1280 + l.val) : blockA m c t (ix2 k l) = argA m c (ix2 k' l') := by
  unfold blockA
  blk_ext [iblk, index_0 t]

theorem blockB_at (c : Dev nD) (t : Fin cfg0.N) (k l : Fin 1024) (k' : Fin 8192)
    (hk : k'.val = t.val % 8 * 1024 + k.val) : blockB m c t (ix2 k l) = argB m c (ix2 k' l) := by
  unfold blockB
  blk_ext [iblk, index_1 t]

/-- The product over the tokens. -/
def product (a : S8192x2560.Idx → EReal) (b : S8192x1024.Idx → EReal) : S2560x1024.Idx → EReal :=
  fun i => ∑ k : Fin 8192, a (ix2 k (i 0)) * b (ix2 k (i 1))

theorem place (c : Dev nD) (t : Fin cfg0.N) (h : t.val % 8 = 7) (y : S1280x1024.Idx) (i : S2560x1024.Idx)
    (h0 : (i 0).val = t.val / 8 * 1280 + (y 0).val) (h1 : (i 1).val = (y 1).val) :
    ∑ s : Fin 8, term m c ⟨8 * (t.val / 8) + s.val, run_point_lt_of_flush t h s⟩ y = product (argA m c) (argB m c) i := by
  unfold product term
  refine Fin.sum_mul_add_congr fun s k hl => ?_
  rw [blockA_at m c _ k (y 0) ⟨s.val * 1024 + k.val, hl⟩ (i 0) (by dsimp only; omega) (by dsimp only; omega),
    blockB_at m c _ k (y 1) ⟨s.val * 1024 + k.val, hl⟩ (by dsimp only; omega), show y 1 = i 1 from Fin.ext h1.symm]

theorem array_eq (c : Dev nD) : (dats m 0 c).arrAt 2 cfg0.N = product (argA m c) (argB m c) := by
  refine Dat.arrAt_eq_of_covers (dats m 0 c) 2 _ (by decide +kernel) fun t hf y => ?_
  have h7 : t.val % 8 = 7 := (flush0_2 t).mp hf
  blk_simp
  rw [after0_2, out_last m c t h7, scratch_last m c t h7, zero_add]
  refine place m c t h7 y _ ?_ ?_ <;> blk_simp [index_2 t] <;> omega

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (array_eq m c), (h c).2⟩) (Value.run_blocks (F := Ideal) m ρ)

end Cert.WInIdeal.Grad

namespace Cert.RInIdeal.Grad
open Cert.RInIdeal Cert.RInIdeal.Gen Cert.RInIdeal.Read

theorem result_at (a : S8192x2560.Idx → EReal) (b : S8192x1024.Idx → EReal) :
    val_main_v7 (F := Ideal) a b = Cert.WInIdeal.Grad.product a b := by
  funext i
  rw [val_main_v7_apply, val_main_v6_apply, val_main_v5_apply, val_main_v4_apply]
  simp only [val_main_v0_apply, val_main_v1_apply]
  unfold Cert.WInIdeal.Grad.product
  refine Finset.sum_congr rfl fun k _ => ?_
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

end Cert.RInIdeal.Grad

namespace Cert.Proof

theorem rin_frame : Cert.quiescent_RInIdeal (hRInIdeal := Cert.RInIdeal.Gen.facts) := by
  intro m ρ _
  exact (θ_run _ _ _).mono (fun r h => ⟨fun c => (h c).2, funext fun g => nomatch g.2⟩) (Cert.RInIdeal.Value.run (F := Ideal) m ρ)

theorem win_same : Cert.algebraic_WInIdeal_RInIdeal (hWInIdeal := Cert.WInIdeal.Gen.facts) (hRInIdeal := Cert.RInIdeal.Gen.facts) := by
  intro m g m' g' _ hagree
  refine ⟨fun c => Cert.WInIdeal.Grad.product (Cert.WInIdeal.Grad.argA m c) (Cert.WInIdeal.Grad.argB m c),
    Cert.WInIdeal.Grad.run m g, (θ_run _ _ _).mono (fun r h c => ?_) (Cert.RInIdeal.Value.run (F := Ideal) m' g')⟩
  obtain ⟨e0, e1⟩ := hagree c
  refine ⟨(h c).1.trans ?_, (h c).2⟩
  rw [Cert.RInIdeal.Read.val_main_v7_eq, e0, e1]
  exact Cert.RInIdeal.Grad.result_at _ _

end Cert.Proof

end
-- ==== Proof.WOut.lean ====
module

public import proofs.«01_k».proof.Defs
public import proofs.«01_k».proof.Proof.Gen.ROutIdeal.Run
public import proofs.«01_k».proof.Proof.Gen.ROutIdeal.Read
public import proofs.«01_k».proof.Proof.Gen.ROutIdeal
public import proofs.«01_k».proof.Proof.Gen.WOut
public import proofs.«01_k».proof.Proof.Gen.WOut.Frame
public import proofs.«01_k».proof.Proof.Gen.WOutIdeal
public import proofs.«01_k».proof.Proof.Gen.WOutIdeal.Frame
public import proofs.«01_k».proof.Proof.Gen.WOutIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.WOutIdeal.Grad
open Cert.WOutIdeal Cert.WOutIdeal.Gen

/-! # A weight gradient: the product of two arrays over the tokens, eight blocks of tokens after another -/

theorem pay1_at (i : S1024x1024.Idx) : (k0_pay1 (F := Ideal)) i = 0 := by
  unfold k0_pay1
  pointwise

theorem pay2_at (x : Vec Ideal S1024x1024 .f32) (a : Vec Ideal S1024x1024 .bf16) (b : Vec Ideal S1024x1024 .bf16) (i : S1024x1024.Idx) :
    (k0_pay2 (F := Ideal) x a b) i = x i + ∑ k : Fin 1024, a (ix2 k (i 0)) * b (ix2 k (i 1)) := by
  unfold k0_pay2
  pointwise

theorem pay3_at (x : Vec Ideal S1024x1024 .f32) (i : S1024x1024.Idx) : (k0_pay3 (F := Ideal) x) i = x i := by
  unfold k0_pay3
  pointwise

variable (m : (ℓ : Loc nD τ sig) → Buf (Elt Ideal) ℓ)

/-- The two arguments. -/
abbrev argA (c : Dev nD) : S8192x1024.Idx → EReal := m ((c : Thread nD τ).loc main_arg0)
abbrev argB (c : Dev nD) : S8192x1024.Idx → EReal := m ((c : Thread nD τ).loc main_arg1)

theorem index_0 : ∀ t : Fin cfg0.N, (cfg0.win 0).index t = ![t.val % 8, t.val / 8] := by decide +kernel
theorem index_1 : ∀ t : Fin cfg0.N, (cfg0.win 1).index t = ![t.val % 8, 0] := by decide +kernel
theorem index_2 : ∀ t : Fin cfg0.N, (cfg0.win 2).index t = ![t.val / 8, 0] := by decide +kernel

/-- The blocks a grid point is given. -/
def blockA (c : Dev nD) (t : Fin cfg0.N) : S1024x1024.Idx → EReal := iblk m c 0 t
def blockB (c : Dev nD) (t : Fin cfg0.N) : S1024x1024.Idx → EReal := iblk m c 1 t

/-- What one grid point adds. -/
def term (c : Dev nD) (t : Fin cfg0.N) (i : S1024x1024.Idx) : EReal :=
  ∑ k : Fin 1024, blockA m c t (ix2 k (i 0)) * blockB m c t (ix2 k (i 1))

theorem scratch_first (c : Dev nD) (t : Fin cfg0.N) (h : t.val % 8 = 0) (i : S1024x1024.Idx) :
    (outsAt0 m c t.val t.isLt).2 i = 0 + term m c t i := by
  rw [outsAt0_A m c t h (by omega)]
  frame_out
  rw [pay2_at, pay1_at]
  rfl

theorem scratch_next (c : Dev nD) (t : Fin cfg0.N) (h : ¬t.val % 8 = 0) (i : S1024x1024.Idx) :
    (outsAt0 m c t.val t.isLt).2 i = (outsAt0 m c (t.val - 1) (Nat.lt_of_le_of_lt (Nat.sub_le _ _) t.isLt)).2 i + term m c t i := by
  by_cases h1 : t.val % 8 = 7
  · rw [outsAt0_C m c t h h1]
    frame_out
    simp only [read_unread_whole]
    rw [pay2_at]
    rfl
  · rw [outsAt0_B m c t h h1]
    frame_out
    simp only [read_unread_whole]
    rw [pay2_at]
    rfl

theorem out_last (c : Dev nD) (t : Fin cfg0.N) (h : t.val % 8 = 7) (i : S1024x1024.Idx) :
    (outsAt0 m c t.val t.isLt).1 i = (outsAt0 m c t.val t.isLt).2 i := by
  rw [outsAt0_C m c t (by omega) h]
  frame_out
  rw [pay3_at]

theorem scratch_last (c : Dev nD) (t : Fin cfg0.N) (h : t.val % 8 = 7) (i : S1024x1024.Idx) :
    (outsAt0 m c t.val t.isLt).2 i = 0 + ∑ s : Fin 8, term m c ⟨8 * (t.val / 8) + s.val, run_point_lt_of_flush t h s⟩ i :=
  eq_sum_fin_of_reset_step_apply_of_flush (fun n h => (outsAt0 m c n h).2) 8 (fun _ => 0) (term m c)
    (scratch_first m c) (scratch_next m c) t h i

theorem blockA_at (c : Dev nD) (t : Fin cfg0.N) (k : Fin 1024) (l : Fin 1024) (k' : Fin 8192) (l' : Fin 1024)
    (hk : k'.val = t.val % 8 * 1024 + k.val) (hl : l'.val = t.val / 8 * 1024 + l.val) : blockA m c t (ix2 k l) = argA m c (ix2 k' l') := by
  unfold blockA
  blk_ext [iblk, index_0 t]

theorem blockB_at (c : Dev nD) (t : Fin cfg0.N) (k l : Fin 1024) (k' : Fin 8192)
    (hk : k'.val = t.val % 8 * 1024 + k.val) : blockB m c t (ix2 k l) = argB m c (ix2 k' l) := by
  unfold blockB
  blk_ext [iblk, index_1 t]

/-- The product over the tokens. -/
def product (a : S8192x1024.Idx → EReal) (b : S8192x1024.Idx → EReal) : S1024x1024.Idx → EReal :=
  fun i => ∑ k : Fin 8192, a (ix2 k (i 0)) * b (ix2 k (i 1))

theorem place (c : Dev nD) (t : Fin cfg0.N) (h : t.val % 8 = 7) (y : S1024x1024.Idx) (i : S1024x1024.Idx)
    (h0 : (i 0).val = t.val / 8 * 1024 + (y 0).val) (h1 : (i 1).val = (y 1).val) :
    ∑ s : Fin 8, term m c ⟨8 * (t.val / 8) + s.val, run_point_lt_of_flush t h s⟩ y = product (argA m c) (argB m c) i := by
  unfold product term
  refine Fin.sum_mul_add_congr fun s k hl => ?_
  rw [blockA_at m c _ k (y 0) ⟨s.val * 1024 + k.val, hl⟩ (i 0) (by dsimp only; omega) (by dsimp only; omega),
    blockB_at m c _ k (y 1) ⟨s.val * 1024 + k.val, hl⟩ (by dsimp only; omega), show y 1 = i 1 from Fin.ext h1.symm]

theorem array_eq (c : Dev nD) : (dats m 0 c).arrAt 2 cfg0.N = product (argA m c) (argB m c) := by
  refine Dat.arrAt_eq_of_covers (dats m 0 c) 2 _ (by decide +kernel) fun t hf y => ?_
  have h7 : t.val % 8 = 7 := (flush0_2 t).mp hf
  blk_simp
  rw [after0_2, out_last m c t h7, scratch_last m c t h7, zero_add]
  refine place m c t h7 y _ ?_ ?_ <;> blk_simp [index_2 t] <;> omega

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => ⟨(h c).1.trans (array_eq m c), (h c).2⟩) (Value.run_blocks (F := Ideal) m ρ)

end Cert.WOutIdeal.Grad

namespace Cert.ROutIdeal.Grad
open Cert.ROutIdeal Cert.ROutIdeal.Gen Cert.ROutIdeal.Read

theorem result_at (a : S8192x1024.Idx → EReal) (b : S8192x1024.Idx → EReal) :
    val_main_v6 (F := Ideal) a b = Cert.WOutIdeal.Grad.product a b := by
  funext i
  rw [val_main_v6_apply, val_main_v5_apply, val_main_v4_apply]
  simp only [val_main_v0_apply, val_main_v1_apply]
  unfold Cert.WOutIdeal.Grad.product
  refine Finset.sum_congr rfl fun k _ => ?_
  refine (mul_comm _ _).trans ?_
  refine congrArg₂ (fun x y : EReal => x * y) (congrArg a (funext fun d => ?_)) (congrArg b (funext fun d => ?_))
  · match d with
    | ⟨0, _⟩ => rfl
    | ⟨1, _⟩ => rfl
  · match d with
    | ⟨0, _⟩ => rfl
    | ⟨1, _⟩ => rfl

end Cert.ROutIdeal.Grad

namespace Cert.Proof

theorem rout_frame : Cert.quiescent_ROutIdeal (hROutIdeal := Cert.ROutIdeal.Gen.facts) := by
  intro m ρ _
  exact (θ_run _ _ _).mono (fun r h => ⟨fun c => (h c).2, funext fun g => nomatch g.2⟩) (Cert.ROutIdeal.Value.run (F := Ideal) m ρ)

theorem wout_same : Cert.algebraic_WOutIdeal_ROutIdeal (hWOutIdeal := Cert.WOutIdeal.Gen.facts) (hROutIdeal := Cert.ROutIdeal.Gen.facts) := by
  intro m g m' g' _ hagree
  refine ⟨fun c => Cert.WOutIdeal.Grad.product (Cert.WOutIdeal.Grad.argA m c) (Cert.WOutIdeal.Grad.argB m c),
    Cert.WOutIdeal.Grad.run m g, (θ_run _ _ _).mono (fun r h c => ?_) (Cert.ROutIdeal.Value.run (F := Ideal) m' g')⟩
  obtain ⟨e0, e1⟩ := hagree c
  refine ⟨(h c).1.trans ?_, (h c).2⟩
  rw [Cert.ROutIdeal.Read.val_main_v6_eq, e0, e1]
  exact Cert.ROutIdeal.Grad.result_at _ _

end Cert.Proof

end
-- ==== Proof.FfnMath.lean ====
module
public import Idealize.ShloMosaic.Lib.Pointwise
public import Idealize.ShloMosaic.Lib.IdealHost
@[expose] public section
noncomputable section
open Idealize.ShloMosaic
namespace Cert.FfnMath

/-! # The feed-forward block over the reals, forward and backward -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem rsqrt_coe_pos (r : ℝ) (h : 0 < r) : Ideal.rsqrt (r : EReal) = (((Real.sqrt r)⁻¹ : ℝ) : EReal) := by
  rw [Ideal.rsqrt_coe, if_neg (not_lt.mpr h.le), if_neg h.ne']

/-- The small number under the root. -/
def eps : ℝ := 8796093 / 2 ^ 43

theorem eps_pos : 0 < eps := by unfold eps; norm_num

theorem ofBits_eps : Ideal.ofBits .f32 0x358637BD#32 = (eps : EReal) := by
  simp [Ideal.ofBits, Ideal.ieee, eps, -EReal.coe_mul]
  norm_num

theorem ofBits_1024 : Ideal.ofBits .f32 0x44800000#32 = ((1024 : ℝ) : EReal) := by
  simp [Ideal.ofBits, Ideal.ieee, -EReal.coe_mul, -EReal.coe_neg]
  norm_num

theorem ofBits_neg_half : Ideal.ofBits .f32 0xBF000000#32 = ((-(1 / 2) : ℝ) : EReal) := by
  simp [Ideal.ofBits, Ideal.ieee, -EReal.coe_mul, -EReal.coe_neg]
  norm_num

theorem ofBits_one : Ideal.ofBits .f32 0x3F800000#32 = ((1 : ℝ) : EReal) := by
  simp

theorem ofBits_zero : Ideal.ofBits .f32 0x00000000#32 = ((0 : ℝ) : EReal) := by
  simp

/-- The mean of the squares of a row, and the small number. -/
def ms (v : Fin 1024 → ℝ) : ℝ := (∑ k, v k * v k) / 1024 + eps

theorem ms_pos (v : Fin 1024 → ℝ) : 0 < ms v := by
  unfold ms
  have h : 0 ≤ ∑ k, v k * v k := Finset.sum_nonneg fun k _ => mul_self_nonneg (v k)
  have := eps_pos
  positivity

/-- The inverse root of the mean of the squares. -/
def rs (v : Fin 1024 → ℝ) : ℝ := (Real.sqrt (ms v))⁻¹

theorem rsqrt_ms (v : Fin 1024 → ℝ) : Ideal.rsqrt (ms v : EReal) = (rs v : EReal) := rsqrt_coe_pos _ (ms_pos v)

theorem rs_sq (v : Fin 1024 → ℝ) : rs v * rs v = (ms v)⁻¹ := by
  unfold rs
  rw [← mul_inv, Real.mul_self_sqrt (ms_pos v).le]

/-- The logistic function. -/
def lgt (z : ℝ) : ℝ := 1 / (1 + Real.exp (-z))

theorem one_add_exp_ne (z : ℝ) : 1 + Real.exp z ≠ 0 := by positivity

theorem lgt_kernel (z : ℝ) : Ideal.div 1 (1 + Ideal.exp (0 - (z : EReal))) = (lgt z : EReal) := by
  rw [zero_sub, ← EReal.coe_neg, Ideal.exp_coe, ← EReal.coe_one, ← EReal.coe_add, div_coe_coe _ _ (one_add_exp_ne _)]
  rfl

theorem div_1024 (z : ℝ) : Ideal.div (z : EReal) (Ideal.ofBits .f32 0x44800000#32) = ((z / 1024 : ℝ) : EReal) := by
  rw [ofBits_1024, div_coe_coe _ _ (by norm_num)]

theorem rms_kernel (v : Fin 1024 → ℝ) :
    Ideal.rsqrt (Ideal.div ((∑ k, v k * v k : ℝ) : EReal) (Ideal.ofBits .f32 0x44800000#32) + Ideal.ofBits .f32 0x358637BD#32) = (rs v : EReal) := by
  rw [div_1024, ofBits_eps, ← EReal.coe_add]
  exact rsqrt_ms v

/-- One entry of a row times a transposed weight. -/
def dot (h : Fin 1024 → ℝ) (w : Fin 2816 → Fin 1024 → ℝ) (l : Fin 2816) : ℝ := ∑ k, h k * w l k

def actOf (g u : ℝ) : ℝ := g * lgt g * u
def gateOf (g u : ℝ) : ℝ := u * (lgt g * (1 + g * (1 - lgt g)))
def upOf (g : ℝ) : ℝ := g * lgt g

/-- A normalised row times the gain. -/
def norm (v g : Fin 1024 → ℝ) (j : Fin 1024) : ℝ := v j * rs v * g j

/-- The gradient of the normalisation in its row, for the row's cotangent d. -/
def back (v g d : Fin 1024 → ℝ) (j : Fin 1024) : ℝ :=
  rs v * (d j * g j - v j * rs v * ((∑ k, d k * g k * (v k * rs v)) / 1024))

/-- The same gradient as differentiation of the root writes it. -/
theorem back_eq (v g d : Fin 1024 → ℝ) (j : Fin 1024) :
    d j * g j * rs v + v j * ((∑ k, v k * (d k * g k)) * (-(1 / 2) * (rs v / ms v)) / 1024)
      + ((∑ k, v k * (d k * g k)) * (-(1 / 2) * (rs v / ms v)) / 1024) * v j = back v g d j := by
  unfold back
  have h : ∑ k, d k * g k * (v k * rs v) = rs v * ∑ k, v k * (d k * g k) := by
    rw [Finset.mul_sum]
    exact Finset.sum_congr rfl fun k _ => by ring
  rw [h, div_eq_mul_inv (rs v) (ms v), ← rs_sq]
  ring

theorem add_back_eq (y : ℝ) (v g d : Fin 1024 → ℝ) (j : Fin 1024) :
    y + d j * g j * rs v + v j * ((∑ k, v k * (d k * g k)) * (-(1 / 2) * (rs v / ms v)) / 1024)
      + ((∑ k, v k * (d k * g k)) * (-(1 / 2) * (rs v / ms v)) / 1024) * v j = y + back v g d j := by
  rw [← back_eq]
  ring

/-- The block's arguments. -/
structure Data where
  X : Fin 8192 → Fin 1024 → ℝ
  M : Fin 8192 → Fin 1024 → ℝ
  G2 : Fin 1024 → ℝ
  G3 : Fin 1024 → ℝ
  WG : Fin 2816 → Fin 1024 → ℝ
  WU : Fin 2816 → Fin 1024 → ℝ
  WD : Fin 2816 → Fin 1024 → ℝ
  DY : Fin 8192 → Fin 1024 → ℝ
  DF : Fin 8192 → Fin 1024 → ℝ

namespace Data
variable (D : Data)
def x2 (i : Fin 8192) (j : Fin 1024) : ℝ := D.X i j + norm (D.M i) D.G2 j
def h2 (i : Fin 8192) (j : Fin 1024) : ℝ := norm (D.x2 i) D.G3 j
def gate (i : Fin 8192) (l : Fin 2816) : ℝ := dot (D.h2 i) D.WG l
def up (i : Fin 8192) (l : Fin 2816) : ℝ := dot (D.h2 i) D.WU l
def act (i : Fin 8192) (l : Fin 2816) : ℝ := actOf (D.gate i l) (D.up i l)
def actGate (i : Fin 8192) (l : Fin 2816) : ℝ := gateOf (D.gate i l) (D.up i l)
def actUp (i : Fin 8192) (l : Fin 2816) : ℝ := upOf (D.gate i l)
def dact (i : Fin 8192) (l : Fin 2816) : ℝ := dot (D.DF i) D.WD l
def dgate (i : Fin 8192) (l : Fin 2816) : ℝ := D.dact i l * D.actGate i l
def dup (i : Fin 8192) (l : Fin 2816) : ℝ := D.dact i l * D.actUp i l
def dh (i : Fin 8192) (j : Fin 1024) : ℝ := ∑ l, D.dgate i l * D.WG l j + ∑ l, D.dup i l * D.WU l j
def dx2 (i : Fin 8192) (j : Fin 1024) : ℝ := D.DY i j + back (D.x2 i) D.G3 (D.dh i) j
def dmix (i : Fin 8192) (j : Fin 1024) : ℝ := back (D.M i) D.G2 (D.dx2 i) j
def dg3 (j : Fin 1024) : ℝ := ∑ i, D.dh i j * (D.x2 i j * rs (D.x2 i))
def dg2 (j : Fin 1024) : ℝ := ∑ i, D.dx2 i j * (D.M i j * rs (D.M i))
end Data

end Cert.FfnMath
end
-- ==== Proof.FfnRef.lean ====
module
public import proofs.«01_k».proof.Proof.Gen.RFfnIdeal.Read
public import proofs.«01_k».proof.Proof.FfnMath
@[expose] public section
set_option maxRecDepth 16384
noncomputable section
open Idealize.ShloMosaic Idealize.ShloMosaic.TcCoe Idealize.SL.Sem
namespace Cert.RFfnIdeal.Real
open Cert.RFfnIdeal Cert.RFfnIdeal.Gen Cert.RFfnIdeal.Read Cert.FfnMath

/-! # The reference of the feed-forward block, one operation after another, of real arguments -/

section ops
variable {f : FTy} {a b : Ideal f} {x y : ℝ}
theorem mul_c (ha : a = (x : EReal)) (hb : b = (y : EReal)) : FloatOps.mulf a b = ((x * y : ℝ) : EReal) := by
  rw [ha, hb, EReal.coe_mul]; rfl
theorem add_c (ha : a = (x : EReal)) (hb : b = (y : EReal)) : FloatOps.addf a b = ((x + y : ℝ) : EReal) := by
  rw [ha, hb, EReal.coe_add]; rfl
theorem sub_c (ha : a = (x : EReal)) (hb : b = (y : EReal)) : FloatOps.subf a b = ((x - y : ℝ) : EReal) := by
  rw [ha, hb, EReal.coe_sub]; rfl
theorem div_c (h : y ≠ 0) (ha : a = (x : EReal)) (hb : b = (y : EReal)) : FloatOps.hostDivf a b = ((x / y : ℝ) : EReal) := by
  rw [ha, hb]; exact div_coe_coe x y h
theorem neg_c (ha : a = (x : EReal)) : FloatOps.hostNegf a = ((-x : ℝ) : EReal) := by
  rw [ha, EReal.coe_neg]; rfl
theorem exp_c (ha : a = (x : EReal)) : FloatOps.hostUnary .exp a = ((Real.exp x : ℝ) : EReal) := by
  rw [ha]; exact Ideal.exp_coe x
theorem rsqrt_c {v : Fin 1024 → ℝ} (ha : a = (ms v : EReal)) : FloatOps.hostUnary .rsqrt a = (rs v : EReal) := by
  rw [ha]; exact rsqrt_ms v
theorem of_eq {c : EReal} (h : c = (x : EReal)) (e : x = y) : c = (y : EReal) := e ▸ h
theorem sum_c {n : Nat} {z : EReal} {g : Fin n → EReal} {w : Fin n → ℝ} (hz : z = ((0 : ℝ) : EReal)) (h : ∀ k, g k = (w k : EReal)) :
    z + ∑ k, g k = ((∑ k, w k : ℝ) : EReal) := by
  rw [hz, EReal.coe_zero, zero_add, ← coe_sum]; exact Finset.sum_congr rfl fun k _ => h k
theorem dot_c {n : Nat} {g g' : Fin n → EReal} {w w' : Fin n → ℝ} (h : ∀ k, g k = (w k : EReal)) (h' : ∀ k, g' k = (w' k : EReal)) :
    ∑ k, g k * g' k = ((∑ k, w k * w' k : ℝ) : EReal) := by
  rw [← coe_sum]; exact Finset.sum_congr rfl fun k _ => by rw [h, h', EReal.coe_mul]
theorem cast_row (i : S1x1024.Idx) : (i 0).val * 1024 + (i 1).val = (i 1).val := by
  have h : (i 0).val < 1 := (i 0).isLt
  omega
theorem cast_col (i : S8192x1.Idx) : (i 0).val * 1 + (i 1).val = (i 0).val := by
  have h : (i 1).val < 1 := (i 1).isLt
  omega
theorem cast_div (i : S8192x1024.Idx) : ((i 0).val * 1024 + (i 1).val) / 1024 = (i 0).val := by
  have h : (i 1).val < 1024 := (i 1).isLt
  omega
theorem cast_mod (i : S8192x1024.Idx) : ((i 0).val * 1024 + (i 1).val) % 1024 = (i 1).val := by
  have h : (i 1).val < 1024 := (i 1).isLt
  omega
end ops

variable (D : Data)
def c0 : S8192x1024.Idx → EReal := fun i => (D.X (i 0) (i 1) : EReal)
def c1 : S8192x1024.Idx → EReal := fun i => (D.M (i 0) (i 1) : EReal)
def c2 : S1x1024.Idx → EReal := fun i => (D.G2 (i 1) : EReal)
def c3 : S1x1024.Idx → EReal := fun i => (D.G3 (i 1) : EReal)
def c4 : S2816x1024.Idx → EReal := fun i => (D.WG (i 0) (i 1) : EReal)
def c5 : S2816x1024.Idx → EReal := fun i => (D.WU (i 0) (i 1) : EReal)
def c6 : S2816x1024.Idx → EReal := fun i => (D.WD (i 0) (i 1) : EReal)
def c7 : S8192x1024.Idx → EReal := fun i => (D.DY (i 0) (i 1) : EReal)
def c8 : S8192x1024.Idx → EReal := fun i => (D.DF (i 0) (i 1) : EReal)

theorem r_v0 (i : S1024x2816.Idx) : val_main_v0 (F := Ideal) (c4 D) i = ((D.WG (i 1) (i 0) : ℝ) : EReal) :=
  (val_main_v0_apply _ i).trans rfl
theorem r_v1 (i : S1024x2816.Idx) : val_main_v1 (F := Ideal) (c5 D) i = ((D.WU (i 1) (i 0) : ℝ) : EReal) :=
  (val_main_v1_apply _ i).trans rfl
theorem r_v2 (i : S1024x2816.Idx) : val_main_v2 (F := Ideal) (c4 D) i = ((D.WG (i 1) (i 0) : ℝ) : EReal) :=
  (val_main_v2_apply _ i).trans (r_v0 D _)
theorem r_v3 (i : S1024x2816.Idx) : val_main_v3 (F := Ideal) (c5 D) i = ((D.WU (i 1) (i 0) : ℝ) : EReal) :=
  (val_main_v3_apply _ i).trans (r_v1 D _)
theorem r_v4 (i : S2816x1024.Idx) : val_main_v4 (F := Ideal) (c6 D) i = ((D.WD (i 0) (i 1) : ℝ) : EReal) :=
  (val_main_v4_apply _ i).trans rfl
include D in
theorem r_cst (i : S_.Idx) : val_main_cst (F := Ideal)  i = ((0 : ℝ) : EReal) :=
  (val_main_cst_apply i).trans ofBits_zero
include D in
theorem r_v5 (i : S8192x2816.Idx) : val_main_v5 (F := Ideal)  i = ((0 : ℝ) : EReal) :=
  (val_main_v5_apply i).trans (r_cst D _)
theorem r_v6 (i : S8192x1024.Idx) : val_main_v6 (F := Ideal) (c1 D) i = ((D.M (i 0) (i 1) * D.M (i 0) (i 1) : ℝ) : EReal) :=
  (val_main_v6_apply _ i).trans (mul_c (rfl : c1 D i = _) (rfl : c1 D i = _))
include D in
theorem r_cst_0 (i : S_.Idx) : val_main_cst_0 (F := Ideal)  i = ((0 : ℝ) : EReal) :=
  (val_main_cst_0_apply i).trans ofBits_zero
theorem r_v7 (i : S8192.Idx) : val_main_v7 (F := Ideal) (c1 D) i = ((∑ k, D.M (i 0) k * D.M (i 0) k : ℝ) : EReal) :=
  (val_main_v7_apply _ i).trans (sum_c (r_cst_0 D _) fun k => r_v6 D _)
theorem r_v8 (i : S8192x1.Idx) : val_main_v8 (F := Ideal) (c1 D) i = ((∑ k, D.M (i 0) k * D.M (i 0) k : ℝ) : EReal) :=
  (val_main_v8_apply _ i).trans (r_v7 D _)
include D in
theorem r_cst_1 (i : S_.Idx) : val_main_cst_1 (F := Ideal)  i = ((1024 : ℝ) : EReal) :=
  (val_main_cst_1_apply i).trans ofBits_1024
include D in
theorem r_v9 (i : S8192x1.Idx) : val_main_v9 (F := Ideal)  i = ((1024 : ℝ) : EReal) :=
  (val_main_v9_apply i).trans (r_cst_1 D _)
theorem r_v10 (i : S8192x1.Idx) : val_main_v10 (F := Ideal) (c1 D) i = (((∑ k, D.M (i 0) k * D.M (i 0) k) / 1024 : ℝ) : EReal) :=
  (val_main_v10_apply _ i).trans (div_c (by norm_num) (r_v8 D i) (r_v9 D i))
include D in
theorem r_cst_2 (i : S_.Idx) : val_main_cst_2 (F := Ideal)  i = ((eps : ℝ) : EReal) :=
  (val_main_cst_2_apply i).trans ofBits_eps
include D in
theorem r_v11 (i : S8192x1.Idx) : val_main_v11 (F := Ideal)  i = ((eps : ℝ) : EReal) :=
  (val_main_v11_apply i).trans (r_cst_2 D _)
theorem r_v12 (i : S8192x1.Idx) : val_main_v12 (F := Ideal) (c1 D) i = ((ms (D.M (i 0)) : ℝ) : EReal) :=
  (val_main_v12_apply _ i).trans (add_c (r_v10 D i) (r_v11 D i))
theorem r_v13 (i : S8192x1.Idx) : val_main_v13 (F := Ideal) (c1 D) i = ((rs (D.M (i 0)) : ℝ) : EReal) :=
  (val_main_v13_apply _ i).trans (rsqrt_c (r_v12 D i))
theorem r_v14 (i : S8192x1.Idx) : val_main_v14 (F := Ideal) (c1 D) i = ((rs (D.M (i 0)) / ms (D.M (i 0)) : ℝ) : EReal) :=
  (val_main_v14_apply _ i).trans (div_c (ms_pos _).ne' (r_v13 D i) (r_v12 D i))
include D in
theorem r_cst_3 (i : S_.Idx) : val_main_cst_3 (F := Ideal)  i = ((-(1 / 2) : ℝ) : EReal) :=
  (val_main_cst_3_apply i).trans ofBits_neg_half
include D in
theorem r_v15 (i : S8192x1.Idx) : val_main_v15 (F := Ideal)  i = ((-(1 / 2) : ℝ) : EReal) :=
  (val_main_v15_apply i).trans (r_cst_3 D _)
theorem r_v16 (i : S8192x1.Idx) : val_main_v16 (F := Ideal) (c1 D) i = ((-(1 / 2) * (rs (D.M (i 0)) / ms (D.M (i 0))) : ℝ) : EReal) :=
  (val_main_v16_apply _ i).trans (mul_c (r_v15 D i) (r_v14 D i))
theorem r_v17 (i : S8192x1024.Idx) : val_main_v17 (F := Ideal) (c1 D) i = ((rs (D.M (i 0)) : ℝ) : EReal) :=
  (val_main_v17_apply _ i).trans (r_v13 D _)
theorem r_v18 (i : S8192x1024.Idx) : val_main_v18 (F := Ideal) (c1 D) i = ((D.M (i 0) (i 1) * rs (D.M (i 0)) : ℝ) : EReal) :=
  (val_main_v18_apply _ i).trans (mul_c (rfl : c1 D i = _) (r_v17 D i))
theorem r_v19 (i : S8192x1024.Idx) : val_main_v19 (F := Ideal) (c2 D) i = ((D.G2 (i 1) : ℝ) : EReal) :=
  (val_main_v19_apply _ i).trans rfl
theorem r_v20 (i : S8192x1024.Idx) : val_main_v20 (F := Ideal) (c1 D) (c2 D) i = ((norm (D.M (i 0)) D.G2 (i 1) : ℝ) : EReal) :=
  (val_main_v20_apply _ _ i).trans (mul_c (r_v18 D i) (r_v19 D i))
theorem r_v21 (i : S8192x1024.Idx) : val_main_v21 (F := Ideal) (c0 D) (c1 D) (c2 D) i = ((D.x2 (i 0) (i 1) : ℝ) : EReal) :=
  (val_main_v21_apply _ _ _ i).trans (add_c (rfl : c0 D i = _) (r_v20 D i))
theorem r_v22 (i : S8192x1024.Idx) : val_main_v22 (F := Ideal) (c0 D) (c1 D) (c2 D) i = ((D.x2 (i 0) (i 1) * D.x2 (i 0) (i 1) : ℝ) : EReal) :=
  (val_main_v22_apply _ _ _ i).trans (mul_c (r_v21 D i) (r_v21 D i))
include D in
theorem r_cst_4 (i : S_.Idx) : val_main_cst_4 (F := Ideal)  i = ((0 : ℝ) : EReal) :=
  (val_main_cst_4_apply i).trans ofBits_zero
theorem r_v23 (i : S8192.Idx) : val_main_v23 (F := Ideal) (c0 D) (c1 D) (c2 D) i = ((∑ k, D.x2 (i 0) k * D.x2 (i 0) k : ℝ) : EReal) :=
  (val_main_v23_apply _ _ _ i).trans (sum_c (r_cst_4 D _) fun k => r_v22 D _)
theorem r_v24 (i : S8192x1.Idx) : val_main_v24 (F := Ideal) (c0 D) (c1 D) (c2 D) i = ((∑ k, D.x2 (i 0) k * D.x2 (i 0) k : ℝ) : EReal) :=
  (val_main_v24_apply _ _ _ i).trans (r_v23 D _)
include D in
theorem r_cst_5 (i : S_.Idx) : val_main_cst_5 (F := Ideal)  i = ((1024 : ℝ) : EReal) :=
  (val_main_cst_5_apply i).trans ofBits_1024
include D in
theorem r_v25 (i : S8192x1.Idx) : val_main_v25 (F := Ideal)  i = ((1024 : ℝ) : EReal) :=
  (val_main_v25_apply i).trans (r_cst_5 D _)
theorem r_v26 (i : S8192x1.Idx) : val_main_v26 (F := Ideal) (c0 D) (c1 D) (c2 D) i = (((∑ k, D.x2 (i 0) k * D.x2 (i 0) k) / 1024 : ℝ) : EReal) :=
  (val_main_v26_apply _ _ _ i).trans (div_c (by norm_num) (r_v24 D i) (r_v25 D i))
include D in
theorem r_cst_6 (i : S_.Idx) : val_main_cst_6 (F := Ideal)  i = ((eps : ℝ) : EReal) :=
  (val_main_cst_6_apply i).trans ofBits_eps
include D in
theorem r_v27 (i : S8192x1.Idx) : val_main_v27 (F := Ideal)  i = ((eps : ℝ) : EReal) :=
  (val_main_v27_apply i).trans (r_cst_6 D _)
theorem r_v28 (i : S8192x1.Idx) : val_main_v28 (F := Ideal) (c0 D) (c1 D) (c2 D) i = ((ms (D.x2 (i 0)) : ℝ) : EReal) :=
  (val_main_v28_apply _ _ _ i).trans (add_c (r_v26 D i) (r_v27 D i))
theorem r_v29 (i : S8192x1.Idx) : val_main_v29 (F := Ideal) (c0 D) (c1 D) (c2 D) i = ((rs (D.x2 (i 0)) : ℝ) : EReal) :=
  (val_main_v29_apply _ _ _ i).trans (rsqrt_c (r_v28 D i))
theorem r_v30 (i : S8192x1.Idx) : val_main_v30 (F := Ideal) (c0 D) (c1 D) (c2 D) i = ((rs (D.x2 (i 0)) / ms (D.x2 (i 0)) : ℝ) : EReal) :=
  (val_main_v30_apply _ _ _ i).trans (div_c (ms_pos _).ne' (r_v29 D i) (r_v28 D i))
include D in
theorem r_cst_7 (i : S_.Idx) : val_main_cst_7 (F := Ideal)  i = ((-(1 / 2) : ℝ) : EReal) :=
  (val_main_cst_7_apply i).trans ofBits_neg_half
include D in
theorem r_v31 (i : S8192x1.Idx) : val_main_v31 (F := Ideal)  i = ((-(1 / 2) : ℝ) : EReal) :=
  (val_main_v31_apply i).trans (r_cst_7 D _)
theorem r_v32 (i : S8192x1.Idx) : val_main_v32 (F := Ideal) (c0 D) (c1 D) (c2 D) i = ((-(1 / 2) * (rs (D.x2 (i 0)) / ms (D.x2 (i 0))) : ℝ) : EReal) :=
  (val_main_v32_apply _ _ _ i).trans (mul_c (r_v31 D i) (r_v30 D i))
theorem r_v33 (i : S8192x1024.Idx) : val_main_v33 (F := Ideal) (c0 D) (c1 D) (c2 D) i = ((rs (D.x2 (i 0)) : ℝ) : EReal) :=
  (val_main_v33_apply _ _ _ i).trans (r_v29 D _)
theorem r_v34 (i : S8192x1024.Idx) : val_main_v34 (F := Ideal) (c0 D) (c1 D) (c2 D) i = ((D.x2 (i 0) (i 1) * rs (D.x2 (i 0)) : ℝ) : EReal) :=
  (val_main_v34_apply _ _ _ i).trans (mul_c (r_v21 D i) (r_v33 D i))
theorem r_v35 (i : S8192x1024.Idx) : val_main_v35 (F := Ideal) (c3 D) i = ((D.G3 (i 1) : ℝ) : EReal) :=
  (val_main_v35_apply _ i).trans rfl
theorem r_v36 (i : S8192x1024.Idx) : val_main_v36 (F := Ideal) (c0 D) (c1 D) (c2 D) (c3 D) i = ((D.h2 (i 0) (i 1) : ℝ) : EReal) :=
  (val_main_v36_apply _ _ _ _ i).trans (mul_c (r_v34 D i) (r_v35 D i))
theorem r_v37 (i : S8192x2816.Idx) : val_main_v37 (F := Ideal) (c0 D) (c1 D) (c2 D) (c3 D) (c4 D) i = ((D.gate (i 0) (i 1) : ℝ) : EReal) :=
  (val_main_v37_apply _ _ _ _ _ i).trans (dot_c (fun k => r_v36 D _) fun k => r_v2 D _)
theorem r_v38 (i : S8192x2816.Idx) : val_main_v38 (F := Ideal) (c0 D) (c1 D) (c2 D) (c3 D) (c4 D) i = ((D.gate (i 0) (i 1) : ℝ) : EReal) :=
  of_eq ((val_main_v38_apply _ _ _ _ _ i).trans (add_c (r_v37 D i) (r_v5 D i))) (add_zero _)
theorem r_call0_v0 (i : S8192x2816.Idx) : val_main_call0_v0 (F := Ideal) (c0 D) (c1 D) (c2 D) (c3 D) (c4 D) i = ((-D.gate (i 0) (i 1) : ℝ) : EReal) :=
  (val_main_call0_v0_apply _ _ _ _ _ i).trans (neg_c (r_v38 D i))
theorem r_call0_v1 (i : S8192x2816.Idx) : val_main_call0_v1 (F := Ideal) (c0 D) (c1 D) (c2 D) (c3 D) (c4 D) i = ((Real.exp (-D.gate (i 0) (i 1)) : ℝ) : EReal) :=
  (val_main_call0_v1_apply _ _ _ _ _ i).trans (exp_c (r_call0_v0 D i))
include D in
theorem r_call0_cst (i : S_.Idx) : val_main_call0_cst (F := Ideal)  i = ((1 : ℝ) : EReal) :=
  (val_main_call0_cst_apply i).trans ofBits_one
include D in
theorem r_call0_v2 (i : S8192x2816.Idx) : val_main_call0_v2 (F := Ideal)  i = ((1 : ℝ) : EReal) :=
  (val_main_call0_v2_apply i).trans (r_call0_cst D _)
theorem r_call0_v3 (i : S8192x2816.Idx) : val_main_call0_v3 (F := Ideal) (c0 D) (c1 D) (c2 D) (c3 D) (c4 D) i = ((1 + Real.exp (-D.gate (i 0) (i 1)) : ℝ) : EReal) :=
  (val_main_call0_v3_apply _ _ _ _ _ i).trans (add_c (r_call0_v2 D i) (r_call0_v1 D i))
include D in
theorem r_call0_cst_0 (i : S_.Idx) : val_main_call0_cst_0 (F := Ideal)  i = ((1 : ℝ) : EReal) :=
  (val_main_call0_cst_0_apply i).trans ofBits_one
include D in
theorem r_call0_v4 (i : S8192x2816.Idx) : val_main_call0_v4 (F := Ideal)  i = ((1 : ℝ) : EReal) :=
  (val_main_call0_v4_apply i).trans (r_call0_cst_0 D _)
theorem r_v39_2 (i : S8192x2816.Idx) : val_main_v39_2 (F := Ideal) (c0 D) (c1 D) (c2 D) (c3 D) (c4 D) i = ((lgt (D.gate (i 0) (i 1)) : ℝ) : EReal) :=
  (val_main_v39_2_apply _ _ _ _ _ i).trans (div_c (one_add_exp_ne _) (r_call0_v4 D i) (r_call0_v3 D i))
include D in
theorem r_call0_cst_1 (i : S_.Idx) : val_main_call0_cst_1 (F := Ideal)  i = ((1 : ℝ) : EReal) :=
  (val_main_call0_cst_1_apply i).trans ofBits_one
include D in
theorem r_call0_v6 (i : S8192x2816.Idx) : val_main_call0_v6 (F := Ideal)  i = ((1 : ℝ) : EReal) :=
  (val_main_call0_v6_apply i).trans (r_call0_cst_1 D _)
theorem r_call0_v7 (i : S8192x2816.Idx) : val_main_call0_v7 (F := Ideal) (c0 D) (c1 D) (c2 D) (c3 D) (c4 D) i = ((1 - lgt (D.gate (i 0) (i 1)) : ℝ) : EReal) :=
  (val_main_call0_v7_apply _ _ _ _ _ i).trans (sub_c (r_call0_v6 D i) (r_v39_2 D i))
theorem r_v39_1 (i : S8192x2816.Idx) : val_main_v39_1 (F := Ideal) (c0 D) (c1 D) (c2 D) (c3 D) (c4 D) i = ((lgt (D.gate (i 0) (i 1)) * (1 - lgt (D.gate (i 0) (i 1))) : ℝ) : EReal) :=
  (val_main_v39_1_apply _ _ _ _ _ i).trans (mul_c (r_v39_2 D i) (r_call0_v7 D i))
theorem r_v39_0 (i : S8192x2816.Idx) : val_main_v39_0 (F := Ideal) (c0 D) (c1 D) (c2 D) (c3 D) (c4 D) i = ((D.actUp (i 0) (i 1) : ℝ) : EReal) :=
  (val_main_v39_0_apply _ _ _ _ _ i).trans (mul_c (r_v38 D i) (r_v39_2 D i))
theorem r_v40 (i : S8192x2816.Idx) : val_main_v40 (F := Ideal) (c0 D) (c1 D) (c2 D) (c3 D) (c5 D) i = ((D.up (i 0) (i 1) : ℝ) : EReal) :=
  (val_main_v40_apply _ _ _ _ _ i).trans (dot_c (fun k => r_v36 D _) fun k => r_v3 D _)
theorem r_v41 (i : S8192x2816.Idx) : val_main_v41 (F := Ideal) (c0 D) (c1 D) (c2 D) (c3 D) (c5 D) i = ((D.up (i 0) (i 1) : ℝ) : EReal) :=
  of_eq ((val_main_v41_apply _ _ _ _ _ i).trans (add_c (r_v40 D i) (r_v5 D i))) (add_zero _)
theorem r_v42 (i : S8192x2816.Idx) : val_main_v42 (F := Ideal) (c0 D) (c1 D) (c2 D) (c3 D) (c4 D) (c5 D) i = ((D.act (i 0) (i 1) : ℝ) : EReal) :=
  (val_main_v42_apply _ _ _ _ _ _ i).trans (mul_c (r_v39_0 D i) (r_v41 D i))
theorem r_v44 (i : S8192x1024.Idx) : val_main_v44 (F := Ideal) (c8 D) i = ((D.DF (i 0) (i 1) : ℝ) : EReal) :=
  (val_main_v44_apply _ i).trans rfl
include D in
theorem r_cst_8 (i : S_.Idx) : val_main_cst_8 (F := Ideal)  i = ((0 : ℝ) : EReal) :=
  (val_main_cst_8_apply i).trans ofBits_zero
include D in
theorem r_v45 (i : S8192x2816.Idx) : val_main_v45 (F := Ideal)  i = ((0 : ℝ) : EReal) :=
  (val_main_v45_apply i).trans (r_cst_8 D _)
theorem r_v46 (i : S8192x2816.Idx) : val_main_v46 (F := Ideal) (c6 D) (c8 D) i = ((D.dact (i 0) (i 1) : ℝ) : EReal) :=
  (val_main_v46_apply _ _ i).trans (dot_c (fun k => r_v44 D _) fun k => r_v4 D _)
theorem r_v47 (i : S8192x2816.Idx) : val_main_v47 (F := Ideal) (c6 D) (c8 D) i = ((D.dact (i 0) (i 1) : ℝ) : EReal) :=
  of_eq ((val_main_v47_apply _ _ i).trans (add_c (r_v45 D i) (r_v46 D i))) (zero_add _)
theorem r_v48 (i : S8192x2816.Idx) : val_main_v48 (F := Ideal) (c0 D) (c1 D) (c2 D) (c3 D) (c4 D) (c6 D) (c8 D) i = ((D.dup (i 0) (i 1) : ℝ) : EReal) :=
  of_eq ((val_main_v48_apply _ _ _ _ _ _ _ i).trans (mul_c (r_v39_0 D i) (r_v47 D i))) (mul_comm _ _)
theorem r_v49 (i : S8192x2816.Idx) : val_main_v49 (F := Ideal) (c0 D) (c1 D) (c2 D) (c3 D) (c5 D) (c6 D) (c8 D) i = ((D.dact (i 0) (i 1) * D.up (i 0) (i 1) : ℝ) : EReal) :=
  (val_main_v49_apply _ _ _ _ _ _ _ i).trans (mul_c (r_v47 D i) (r_v41 D i))
theorem r_v50 (i : S8192x1024.Idx) : val_main_v50 (F := Ideal) (c0 D) (c1 D) (c2 D) (c3 D) (c4 D) (c5 D) (c6 D) (c8 D) i = ((∑ l, D.dup (i 0) l * D.WU l (i 1) : ℝ) : EReal) :=
  (val_main_v50_apply _ _ _ _ _ _ _ _ i).trans (dot_c (fun k => r_v48 D _) fun k => r_v3 D _)
theorem r_call1_v0 (i : S8192x2816.Idx) : val_main_call1_v0 (F := Ideal) (c0 D) (c1 D) (c2 D) (c3 D) (c4 D) (c5 D) (c6 D) (c8 D) i = ((D.gate (i 0) (i 1) * (D.dact (i 0) (i 1) * D.up (i 0) (i 1)) : ℝ) : EReal) :=
  (val_main_call1_v0_apply _ _ _ _ _ _ _ _ i).trans (mul_c (r_v38 D i) (r_v49 D i))
theorem r_call1_v1 (i : S8192x2816.Idx) : val_main_call1_v1 (F := Ideal) (c0 D) (c1 D) (c2 D) (c3 D) (c4 D) (c5 D) (c6 D) (c8 D) i = ((D.dact (i 0) (i 1) * D.up (i 0) (i 1) * lgt (D.gate (i 0) (i 1)) : ℝ) : EReal) :=
  (val_main_call1_v1_apply _ _ _ _ _ _ _ _ i).trans (mul_c (r_v49 D i) (r_v39_2 D i))
theorem r_call1_v2 (i : S8192x2816.Idx) : val_main_call1_v2 (F := Ideal) (c0 D) (c1 D) (c2 D) (c3 D) (c4 D) (c5 D) (c6 D) (c8 D) i = ((D.gate (i 0) (i 1) * (D.dact (i 0) (i 1) * D.up (i 0) (i 1)) * (lgt (D.gate (i 0) (i 1)) * (1 - lgt (D.gate (i 0) (i 1)))) : ℝ) : EReal) :=
  (val_main_call1_v2_apply _ _ _ _ _ _ _ _ i).trans (mul_c (r_call1_v0 D i) (r_v39_1 D i))
theorem r_v51 (i : S8192x2816.Idx) : val_main_v51 (F := Ideal) (c0 D) (c1 D) (c2 D) (c3 D) (c4 D) (c5 D) (c6 D) (c8 D) i = ((D.dgate (i 0) (i 1) : ℝ) : EReal) :=
  of_eq ((val_main_v51_apply _ _ _ _ _ _ _ _ i).trans (add_c (r_call1_v1 D i) (r_call1_v2 D i))) (by unfold Data.dgate Data.actGate gateOf; ring)
theorem r_v52 (i : S8192x1024.Idx) : val_main_v52 (F := Ideal) (c0 D) (c1 D) (c2 D) (c3 D) (c4 D) (c5 D) (c6 D) (c8 D) i = ((∑ l, D.dgate (i 0) l * D.WG l (i 1) : ℝ) : EReal) :=
  (val_main_v52_apply _ _ _ _ _ _ _ _ i).trans (dot_c (fun k => r_v51 D _) fun k => r_v2 D _)
theorem r_v53 (i : S8192x1024.Idx) : val_main_v53 (F := Ideal) (c0 D) (c1 D) (c2 D) (c3 D) (c4 D) (c5 D) (c6 D) (c8 D) i = ((D.dh (i 0) (i 1) : ℝ) : EReal) :=
  of_eq ((val_main_v53_apply _ _ _ _ _ _ _ _ i).trans (add_c (r_v50 D i) (r_v52 D i))) (add_comm _ _)
theorem r_v54 (i : S8192x1024.Idx) : val_main_v54 (F := Ideal) (c0 D) (c1 D) (c2 D) (c3 D) (c4 D) (c5 D) (c6 D) (c8 D) i = ((D.x2 (i 0) (i 1) * rs (D.x2 (i 0)) * D.dh (i 0) (i 1) : ℝ) : EReal) :=
  (val_main_v54_apply _ _ _ _ _ _ _ _ i).trans (mul_c (r_v34 D i) (r_v53 D i))
include D in
theorem r_cst_9 (i : S_.Idx) : val_main_cst_9 (F := Ideal)  i = ((0 : ℝ) : EReal) :=
  (val_main_cst_9_apply i).trans ofBits_zero
theorem r_v55 (i : S1024.Idx) : val_main_v55 (F := Ideal) (c0 D) (c1 D) (c2 D) (c3 D) (c4 D) (c5 D) (c6 D) (c8 D) i = ((D.dg3 (i 0) : ℝ) : EReal) :=
  of_eq ((val_main_v55_apply _ _ _ _ _ _ _ _ i).trans (sum_c (r_cst_9 D _) fun k => r_v54 D _)) (Finset.sum_congr rfl fun k _ => mul_comm _ _)
theorem r_v56 (i : S1x1024.Idx) : val_main_v56 (F := Ideal) (c0 D) (c1 D) (c2 D) (c3 D) (c4 D) (c5 D) (c6 D) (c8 D) i = ((D.dg3 (i 1) : ℝ) : EReal) :=
  (val_main_v56_apply _ _ _ _ _ _ _ _ i).trans ((r_v55 D _).trans (congrArg (fun a : Fin 1024 => (((D.dg3 a : ℝ)) : EReal)) (Fin.ext (cast_row i))))
theorem r_v57 (i : S8192x1024.Idx) : val_main_v57 (F := Ideal) (c3 D) i = ((D.G3 (i 1) : ℝ) : EReal) :=
  (val_main_v57_apply _ i).trans rfl
theorem r_v58 (i : S8192x1024.Idx) : val_main_v58 (F := Ideal) (c0 D) (c1 D) (c2 D) (c3 D) (c4 D) (c5 D) (c6 D) (c8 D) i = ((D.dh (i 0) (i 1) * D.G3 (i 1) : ℝ) : EReal) :=
  (val_main_v58_apply _ _ _ _ _ _ _ _ i).trans (mul_c (r_v53 D i) (r_v57 D i))
theorem r_v59 (i : S8192x1024.Idx) : val_main_v59 (F := Ideal) (c0 D) (c1 D) (c2 D) (c3 D) (c4 D) (c5 D) (c6 D) (c8 D) i = ((D.x2 (i 0) (i 1) * (D.dh (i 0) (i 1) * D.G3 (i 1)) : ℝ) : EReal) :=
  (val_main_v59_apply _ _ _ _ _ _ _ _ i).trans (mul_c (r_v21 D i) (r_v58 D i))
include D in
theorem r_cst_10 (i : S_.Idx) : val_main_cst_10 (F := Ideal)  i = ((0 : ℝ) : EReal) :=
  (val_main_cst_10_apply i).trans ofBits_zero
theorem r_v60 (i : S8192.Idx) : val_main_v60 (F := Ideal) (c0 D) (c1 D) (c2 D) (c3 D) (c4 D) (c5 D) (c6 D) (c8 D) i = ((∑ k, D.x2 (i 0) k * (D.dh (i 0) k * D.G3 k) : ℝ) : EReal) :=
  (val_main_v60_apply _ _ _ _ _ _ _ _ i).trans (sum_c (r_cst_10 D _) fun k => r_v59 D _)
theorem r_v61 (i : S8192x1.Idx) : val_main_v61 (F := Ideal) (c0 D) (c1 D) (c2 D) (c3 D) (c4 D) (c5 D) (c6 D) (c8 D) i = ((∑ k, D.x2 (i 0) k * (D.dh (i 0) k * D.G3 k) : ℝ) : EReal) :=
  (val_main_v61_apply _ _ _ _ _ _ _ _ i).trans ((r_v60 D _).trans (congrArg (fun a : Fin 8192 => (((∑ k, D.x2 a k * (D.dh a k * D.G3 k) : ℝ)) : EReal)) (Fin.ext (cast_col i))))
theorem r_v62 (i : S8192x1024.Idx) : val_main_v62 (F := Ideal) (c0 D) (c1 D) (c2 D) i = ((rs (D.x2 (i 0)) : ℝ) : EReal) :=
  (val_main_v62_apply _ _ _ i).trans (r_v29 D _)
theorem r_v63 (i : S8192x1024.Idx) : val_main_v63 (F := Ideal) (c0 D) (c1 D) (c2 D) (c3 D) (c4 D) (c5 D) (c6 D) (c8 D) i = ((D.dh (i 0) (i 1) * D.G3 (i 1) * rs (D.x2 (i 0)) : ℝ) : EReal) :=
  (val_main_v63_apply _ _ _ _ _ _ _ _ i).trans (mul_c (r_v58 D i) (r_v62 D i))
theorem r_v65 (i : S8192x1.Idx) : val_main_v65 (F := Ideal) (c0 D) (c1 D) (c2 D) (c3 D) (c4 D) (c5 D) (c6 D) (c8 D) i = (((∑ k, D.x2 (i 0) k * (D.dh (i 0) k * D.G3 k)) * (-(1 / 2) * (rs (D.x2 (i 0)) / ms (D.x2 (i 0)))) : ℝ) : EReal) :=
  (val_main_v65_apply _ _ _ _ _ _ _ _ i).trans (mul_c (r_v61 D i) (r_v32 D i))
include D in
theorem r_cst_11 (i : S_.Idx) : val_main_cst_11 (F := Ideal)  i = ((1024 : ℝ) : EReal) :=
  (val_main_cst_11_apply i).trans ofBits_1024
include D in
theorem r_v66 (i : S8192x1.Idx) : val_main_v66 (F := Ideal)  i = ((1024 : ℝ) : EReal) :=
  (val_main_v66_apply i).trans (r_cst_11 D _)
theorem r_v67 (i : S8192x1.Idx) : val_main_v67 (F := Ideal) (c0 D) (c1 D) (c2 D) (c3 D) (c4 D) (c5 D) (c6 D) (c8 D) i = (((∑ k, D.x2 (i 0) k * (D.dh (i 0) k * D.G3 k)) * (-(1 / 2) * (rs (D.x2 (i 0)) / ms (D.x2 (i 0)))) / 1024 : ℝ) : EReal) :=
  (val_main_v67_apply _ _ _ _ _ _ _ _ i).trans (div_c (by norm_num) (r_v65 D i) (r_v66 D i))
include D in
theorem r_cst_12 (i : S_.Idx) : val_main_cst_12 (F := Ideal)  i = ((0 : ℝ) : EReal) :=
  (val_main_cst_12_apply i).trans ofBits_zero
theorem r_v68 (i : S8192.Idx) : val_main_v68 (F := Ideal) (c0 D) (c1 D) (c2 D) (c3 D) (c4 D) (c5 D) (c6 D) (c8 D) i = (((∑ k, D.x2 (i 0) k * (D.dh (i 0) k * D.G3 k)) * (-(1 / 2) * (rs (D.x2 (i 0)) / ms (D.x2 (i 0)))) / 1024 : ℝ) : EReal) :=
  of_eq ((val_main_v68_apply _ _ _ _ _ _ _ _ i).trans (sum_c (r_cst_12 D _) fun k => r_v67 D _)) (Fin.sum_univ_one _)
theorem r_v69 (i : S8192x1024.Idx) : val_main_v69 (F := Ideal) (c0 D) (c1 D) (c2 D) (c3 D) (c4 D) (c5 D) (c6 D) (c8 D) i = (((∑ k, D.x2 (i 0) k * (D.dh (i 0) k * D.G3 k)) * (-(1 / 2) * (rs (D.x2 (i 0)) / ms (D.x2 (i 0)))) / 1024 : ℝ) : EReal) :=
  (val_main_v69_apply _ _ _ _ _ _ _ _ i).trans (r_v68 D _)
theorem r_v64 (i : S8192x1024.Idx) : val_main_v64 (F := Ideal) (c0 D) (c1 D) (c2 D) (c3 D) (c4 D) (c5 D) (c6 D) (c7 D) (c8 D) i = ((D.DY (i 0) (i 1) + D.dh (i 0) (i 1) * D.G3 (i 1) * rs (D.x2 (i 0)) : ℝ) : EReal) :=
  (val_main_v64_apply _ _ _ _ _ _ _ _ _ i).trans (add_c (rfl : c7 D i = _) (r_v63 D i))
theorem r_v70 (i : S8192x1024.Idx) : val_main_v70 (F := Ideal) (c0 D) (c1 D) (c2 D) (c3 D) (c4 D) (c5 D) (c6 D) (c8 D) i = ((D.x2 (i 0) (i 1) * ((∑ k, D.x2 (i 0) k * (D.dh (i 0) k * D.G3 k)) * (-(1 / 2) * (rs (D.x2 (i 0)) / ms (D.x2 (i 0)))) / 1024) : ℝ) : EReal) :=
  (val_main_v70_apply _ _ _ _ _ _ _ _ i).trans (mul_c (r_v21 D i) (r_v69 D i))
theorem r_v71 (i : S8192x1024.Idx) : val_main_v71 (F := Ideal) (c0 D) (c1 D) (c2 D) (c3 D) (c4 D) (c5 D) (c6 D) (c7 D) (c8 D) i = ((D.DY (i 0) (i 1) + D.dh (i 0) (i 1) * D.G3 (i 1) * rs (D.x2 (i 0)) + D.x2 (i 0) (i 1) * ((∑ k, D.x2 (i 0) k * (D.dh (i 0) k * D.G3 k)) * (-(1 / 2) * (rs (D.x2 (i 0)) / ms (D.x2 (i 0)))) / 1024) : ℝ) : EReal) :=
  (val_main_v71_apply _ _ _ _ _ _ _ _ _ i).trans (add_c (r_v64 D i) (r_v70 D i))
theorem r_v72 (i : S8192x1024.Idx) : val_main_v72 (F := Ideal) (c0 D) (c1 D) (c2 D) (c3 D) (c4 D) (c5 D) (c6 D) (c8 D) i = ((((∑ k, D.x2 (i 0) k * (D.dh (i 0) k * D.G3 k)) * (-(1 / 2) * (rs (D.x2 (i 0)) / ms (D.x2 (i 0)))) / 1024) * D.x2 (i 0) (i 1) : ℝ) : EReal) :=
  (val_main_v72_apply _ _ _ _ _ _ _ _ i).trans (mul_c (r_v69 D i) (r_v21 D i))
theorem r_v73 (i : S8192x1024.Idx) : val_main_v73 (F := Ideal) (c0 D) (c1 D) (c2 D) (c3 D) (c4 D) (c5 D) (c6 D) (c7 D) (c8 D) i = ((D.dx2 (i 0) (i 1) : ℝ) : EReal) :=
  of_eq ((val_main_v73_apply _ _ _ _ _ _ _ _ _ i).trans (add_c (r_v71 D i) (r_v72 D i))) (add_back_eq _ _ _ _ _)
theorem r_v74 (i : S8192x1024.Idx) : val_main_v74 (F := Ideal) (c0 D) (c1 D) (c2 D) (c3 D) (c4 D) (c5 D) (c6 D) (c7 D) (c8 D) i = ((D.dx2 (i 0) (i 1) : ℝ) : EReal) :=
  (val_main_v74_apply _ _ _ _ _ _ _ _ _ i).trans ((r_v73 D _).trans (congrArg₂ (fun (a : Fin 8192) (b : Fin 1024) => ((D.dx2 a b : ℝ) : EReal)) (Fin.ext (cast_div i)) (Fin.ext (cast_mod i))))
theorem r_v75 (i : S8192x1024.Idx) : val_main_v75 (F := Ideal) (c0 D) (c1 D) (c2 D) (c3 D) (c4 D) (c5 D) (c6 D) (c7 D) (c8 D) i = ((D.M (i 0) (i 1) * rs (D.M (i 0)) * D.dx2 (i 0) (i 1) : ℝ) : EReal) :=
  (val_main_v75_apply _ _ _ _ _ _ _ _ _ i).trans (mul_c (r_v18 D i) (r_v74 D i))
include D in
theorem r_cst_13 (i : S_.Idx) : val_main_cst_13 (F := Ideal)  i = ((0 : ℝ) : EReal) :=
  (val_main_cst_13_apply i).trans ofBits_zero
theorem r_v76 (i : S1024.Idx) : val_main_v76 (F := Ideal) (c0 D) (c1 D) (c2 D) (c3 D) (c4 D) (c5 D) (c6 D) (c7 D) (c8 D) i = ((D.dg2 (i 0) : ℝ) : EReal) :=
  of_eq ((val_main_v76_apply _ _ _ _ _ _ _ _ _ i).trans (sum_c (r_cst_13 D _) fun k => r_v75 D _)) (Finset.sum_congr rfl fun k _ => mul_comm _ _)
theorem r_v77 (i : S1x1024.Idx) : val_main_v77 (F := Ideal) (c0 D) (c1 D) (c2 D) (c3 D) (c4 D) (c5 D) (c6 D) (c7 D) (c8 D) i = ((D.dg2 (i 1) : ℝ) : EReal) :=
  (val_main_v77_apply _ _ _ _ _ _ _ _ _ i).trans ((r_v76 D _).trans (congrArg (fun a : Fin 1024 => (((D.dg2 a : ℝ)) : EReal)) (Fin.ext (cast_row i))))
theorem r_v78 (i : S8192x1024.Idx) : val_main_v78 (F := Ideal) (c2 D) i = ((D.G2 (i 1) : ℝ) : EReal) :=
  (val_main_v78_apply _ i).trans rfl
theorem r_v79 (i : S8192x1024.Idx) : val_main_v79 (F := Ideal) (c0 D) (c1 D) (c2 D) (c3 D) (c4 D) (c5 D) (c6 D) (c7 D) (c8 D) i = ((D.dx2 (i 0) (i 1) * D.G2 (i 1) : ℝ) : EReal) :=
  (val_main_v79_apply _ _ _ _ _ _ _ _ _ i).trans (mul_c (r_v74 D i) (r_v78 D i))
theorem r_v80 (i : S8192x1024.Idx) : val_main_v80 (F := Ideal) (c0 D) (c1 D) (c2 D) (c3 D) (c4 D) (c5 D) (c6 D) (c7 D) (c8 D) i = ((D.M (i 0) (i 1) * (D.dx2 (i 0) (i 1) * D.G2 (i 1)) : ℝ) : EReal) :=
  (val_main_v80_apply _ _ _ _ _ _ _ _ _ i).trans (mul_c (rfl : c1 D i = _) (r_v79 D i))
include D in
theorem r_cst_14 (i : S_.Idx) : val_main_cst_14 (F := Ideal)  i = ((0 : ℝ) : EReal) :=
  (val_main_cst_14_apply i).trans ofBits_zero
theorem r_v81 (i : S8192.Idx) : val_main_v81 (F := Ideal) (c0 D) (c1 D) (c2 D) (c3 D) (c4 D) (c5 D) (c6 D) (c7 D) (c8 D) i = ((∑ k, D.M (i 0) k * (D.dx2 (i 0) k * D.G2 k) : ℝ) : EReal) :=
  (val_main_v81_apply _ _ _ _ _ _ _ _ _ i).trans (sum_c (r_cst_14 D _) fun k => r_v80 D _)
theorem r_v82 (i : S8192x1.Idx) : val_main_v82 (F := Ideal) (c0 D) (c1 D) (c2 D) (c3 D) (c4 D) (c5 D) (c6 D) (c7 D) (c8 D) i = ((∑ k, D.M (i 0) k * (D.dx2 (i 0) k * D.G2 k) : ℝ) : EReal) :=
  (val_main_v82_apply _ _ _ _ _ _ _ _ _ i).trans ((r_v81 D _).trans (congrArg (fun a : Fin 8192 => (((∑ k, D.M a k * (D.dx2 a k * D.G2 k) : ℝ)) : EReal)) (Fin.ext (cast_col i))))
theorem r_v83 (i : S8192x1024.Idx) : val_main_v83 (F := Ideal) (c1 D) i = ((rs (D.M (i 0)) : ℝ) : EReal) :=
  (val_main_v83_apply _ i).trans (r_v13 D _)
theorem r_v84 (i : S8192x1024.Idx) : val_main_v84 (F := Ideal) (c0 D) (c1 D) (c2 D) (c3 D) (c4 D) (c5 D) (c6 D) (c7 D) (c8 D) i = ((D.dx2 (i 0) (i 1) * D.G2 (i 1) * rs (D.M (i 0)) : ℝ) : EReal) :=
  (val_main_v84_apply _ _ _ _ _ _ _ _ _ i).trans (mul_c (r_v79 D i) (r_v83 D i))
theorem r_v85 (i : S8192x1.Idx) : val_main_v85 (F := Ideal) (c0 D) (c1 D) (c2 D) (c3 D) (c4 D) (c5 D) (c6 D) (c7 D) (c8 D) i = (((∑ k, D.M (i 0) k * (D.dx2 (i 0) k * D.G2 k)) * (-(1 / 2) * (rs (D.M (i 0)) / ms (D.M (i 0)))) : ℝ) : EReal) :=
  (val_main_v85_apply _ _ _ _ _ _ _ _ _ i).trans (mul_c (r_v82 D i) (r_v16 D i))
include D in
theorem r_cst_15 (i : S_.Idx) : val_main_cst_15 (F := Ideal)  i = ((1024 : ℝ) : EReal) :=
  (val_main_cst_15_apply i).trans ofBits_1024
include D in
theorem r_v86 (i : S8192x1.Idx) : val_main_v86 (F := Ideal)  i = ((1024 : ℝ) : EReal) :=
  (val_main_v86_apply i).trans (r_cst_15 D _)
theorem r_v87 (i : S8192x1.Idx) : val_main_v87 (F := Ideal) (c0 D) (c1 D) (c2 D) (c3 D) (c4 D) (c5 D) (c6 D) (c7 D) (c8 D) i = (((∑ k, D.M (i 0) k * (D.dx2 (i 0) k * D.G2 k)) * (-(1 / 2) * (rs (D.M (i 0)) / ms (D.M (i 0)))) / 1024 : ℝ) : EReal) :=
  (val_main_v87_apply _ _ _ _ _ _ _ _ _ i).trans (div_c (by norm_num) (r_v85 D i) (r_v86 D i))
include D in
theorem r_cst_16 (i : S_.Idx) : val_main_cst_16 (F := Ideal)  i = ((0 : ℝ) : EReal) :=
  (val_main_cst_16_apply i).trans ofBits_zero
theorem r_v88 (i : S8192.Idx) : val_main_v88 (F := Ideal) (c0 D) (c1 D) (c2 D) (c3 D) (c4 D) (c5 D) (c6 D) (c7 D) (c8 D) i = (((∑ k, D.M (i 0) k * (D.dx2 (i 0) k * D.G2 k)) * (-(1 / 2) * (rs (D.M (i 0)) / ms (D.M (i 0)))) / 1024 : ℝ) : EReal) :=
  of_eq ((val_main_v88_apply _ _ _ _ _ _ _ _ _ i).trans (sum_c (r_cst_16 D _) fun k => r_v87 D _)) (Fin.sum_univ_one _)
theorem r_v89 (i : S8192x1024.Idx) : val_main_v89 (F := Ideal) (c0 D) (c1 D) (c2 D) (c3 D) (c4 D) (c5 D) (c6 D) (c7 D) (c8 D) i = (((∑ k, D.M (i 0) k * (D.dx2 (i 0) k * D.G2 k)) * (-(1 / 2) * (rs (D.M (i 0)) / ms (D.M (i 0)))) / 1024 : ℝ) : EReal) :=
  (val_main_v89_apply _ _ _ _ _ _ _ _ _ i).trans (r_v88 D _)
theorem r_v90 (i : S8192x1024.Idx) : val_main_v90 (F := Ideal) (c0 D) (c1 D) (c2 D) (c3 D) (c4 D) (c5 D) (c6 D) (c7 D) (c8 D) i = ((D.M (i 0) (i 1) * ((∑ k, D.M (i 0) k * (D.dx2 (i 0) k * D.G2 k)) * (-(1 / 2) * (rs (D.M (i 0)) / ms (D.M (i 0)))) / 1024) : ℝ) : EReal) :=
  (val_main_v90_apply _ _ _ _ _ _ _ _ _ i).trans (mul_c (rfl : c1 D i = _) (r_v89 D i))
theorem r_v91 (i : S8192x1024.Idx) : val_main_v91 (F := Ideal) (c0 D) (c1 D) (c2 D) (c3 D) (c4 D) (c5 D) (c6 D) (c7 D) (c8 D) i = ((D.dx2 (i 0) (i 1) * D.G2 (i 1) * rs (D.M (i 0)) + D.M (i 0) (i 1) * ((∑ k, D.M (i 0) k * (D.dx2 (i 0) k * D.G2 k)) * (-(1 / 2) * (rs (D.M (i 0)) / ms (D.M (i 0)))) / 1024) : ℝ) : EReal) :=
  (val_main_v91_apply _ _ _ _ _ _ _ _ _ i).trans (add_c (r_v84 D i) (r_v90 D i))
theorem r_v92 (i : S8192x1024.Idx) : val_main_v92 (F := Ideal) (c0 D) (c1 D) (c2 D) (c3 D) (c4 D) (c5 D) (c6 D) (c7 D) (c8 D) i = ((((∑ k, D.M (i 0) k * (D.dx2 (i 0) k * D.G2 k)) * (-(1 / 2) * (rs (D.M (i 0)) / ms (D.M (i 0)))) / 1024) * D.M (i 0) (i 1) : ℝ) : EReal) :=
  (val_main_v92_apply _ _ _ _ _ _ _ _ _ i).trans (mul_c (r_v89 D i) (rfl : c1 D i = _))
theorem r_v93 (i : S8192x1024.Idx) : val_main_v93 (F := Ideal) (c0 D) (c1 D) (c2 D) (c3 D) (c4 D) (c5 D) (c6 D) (c7 D) (c8 D) i = ((D.dmix (i 0) (i 1) : ℝ) : EReal) :=
  of_eq ((val_main_v93_apply _ _ _ _ _ _ _ _ _ i).trans (add_c (r_v91 D i) (r_v92 D i))) (back_eq _ _ _ _)
theorem r_v94 (i : S8192x2816.Idx) : val_main_v94 (F := Ideal) (c0 D) (c1 D) (c2 D) (c3 D) (c4 D) (c5 D) i = ((D.act (i 0) (i 1) : ℝ) : EReal) :=
  (val_main_v94_apply _ _ _ _ _ _ i).trans (r_v42 D _)
theorem r_v95 (i : S8192x2816.Idx) : val_main_v95 (F := Ideal) (c0 D) (c1 D) (c2 D) (c3 D) (c4 D) (c5 D) (c6 D) (c8 D) i = ((D.dgate (i 0) (i 1) : ℝ) : EReal) :=
  (val_main_v95_apply _ _ _ _ _ _ _ _ i).trans (r_v51 D _)
theorem r_v96 (i : S8192x2816.Idx) : val_main_v96 (F := Ideal) (c0 D) (c1 D) (c2 D) (c3 D) (c4 D) (c6 D) (c8 D) i = ((D.dup (i 0) (i 1) : ℝ) : EReal) :=
  (val_main_v96_apply _ _ _ _ _ _ _ i).trans (r_v48 D _)
theorem r_v97 (i : S8192x1024.Idx) : val_main_v97 (F := Ideal) (c0 D) (c1 D) (c2 D) (c3 D) (c4 D) (c5 D) (c6 D) (c7 D) (c8 D) i = ((D.dmix (i 0) (i 1) : ℝ) : EReal) :=
  (val_main_v97_apply _ _ _ _ _ _ _ _ _ i).trans (r_v93 D _)

end Cert.RFfnIdeal.Real
end
-- ==== Proof.FfnPay.lean ====
module
public import proofs.«01_k».proof.Proof.Gen.FfnIdeal.Skeleton
public import proofs.«01_k».proof.Proof.FfnMath
@[expose] public section
set_option maxRecDepth 16384
noncomputable section
open Idealize.ShloMosaic Idealize.ShloMosaic.TcCoe Idealize.SL.Sem
open Idealize.ShloMosaic.Tactic
namespace Cert.FfnIdeal.Pay
open Cert.FfnIdeal Cert.FfnIdeal.Gen Cert.FfnMath

/-! # What the two bodies of the feed-forward block compute of blocks of real numbers -/

section up
variable {v0 : Vec Ideal S256x1024 .bf16} {v2 v4 : Vec Ideal S2816x1024 .bf16}
  {h : Fin 256 → Fin 1024 → ℝ} {w w' : Fin 2816 → Fin 1024 → ℝ}

theorem pay2_0 (h0 : ∀ r k, v0 (ix2 r k) = (h r k : EReal)) (h2 : ∀ l k, v2 (ix2 l k) = (w l k : EReal)) (r : Fin 256) (l : Fin 2816) :
    (k0_pay2 (F := Ideal) v0 v2) (ix2 r l) = (dot (h r) w l : EReal) := by
  unfold k0_pay2 k0_pay1
  pointwise
  show ∑ k : Fin 1024, v0 (ix2 r k) * v2 (ix2 l k) = _
  simp only [h0, h2, ← EReal.coe_mul, coe_sum]
  rfl

theorem pay3_0 (h0 : ∀ r k, v0 (ix2 r k) = (h r k : EReal)) (h4 : ∀ l k, v4 (ix2 l k) = (w' l k : EReal)) (r : Fin 256) (l : Fin 2816) :
    (k0_pay3 (F := Ideal) v0 v4) (ix2 r l) = (dot (h r) w' l : EReal) := by
  unfold k0_pay3 k0_pay1
  pointwise
  show ∑ k : Fin 1024, v0 (ix2 r k) * v4 (ix2 l k) = _
  simp only [h0, h4, ← EReal.coe_mul, coe_sum]
  rfl

theorem pay4_0 (h0 : ∀ r k, v0 (ix2 r k) = (h r k : EReal)) (h2 : ∀ l k, v2 (ix2 l k) = (w l k : EReal)) (r : Fin 256) (l : Fin 2816) :
    (k0_pay4 (F := Ideal) v0 v2) (ix2 r l) = (lgt (dot (h r) w l) : EReal) := by
  unfold k0_pay4
  pointwise
  rw [pay2_0 h0 h2]
  exact lgt_kernel _

theorem pay5_0 (h0 : ∀ r k, v0 (ix2 r k) = (h r k : EReal)) (h2 : ∀ l k, v2 (ix2 l k) = (w l k : EReal)) (r : Fin 256) (l : Fin 2816) :
    (k0_pay5 (F := Ideal) v0 v2) (ix2 r l) = (upOf (dot (h r) w l) : EReal) := by
  unfold k0_pay5
  pointwise
  rw [pay2_0 h0 h2, pay4_0 h0 h2, ← EReal.coe_mul]
  rfl

theorem pay6_0 (h0 : ∀ r k, v0 (ix2 r k) = (h r k : EReal)) (h2 : ∀ l k, v2 (ix2 l k) = (w l k : EReal))
    (h4 : ∀ l k, v4 (ix2 l k) = (w' l k : EReal)) (r : Fin 256) (l : Fin 2816) :
    (k0_pay6 (F := Ideal) v0 v2 v4) (ix2 r l) = (actOf (dot (h r) w l) (dot (h r) w' l) : EReal) := by
  unfold k0_pay6
  pointwise
  rw [pay5_0 h0 h2, pay3_0 h0 h4, ← EReal.coe_mul]
  rfl

theorem pay7_0 (h0 : ∀ r k, v0 (ix2 r k) = (h r k : EReal)) (h2 : ∀ l k, v2 (ix2 l k) = (w l k : EReal))
    (h4 : ∀ l k, v4 (ix2 l k) = (w' l k : EReal)) (r : Fin 256) (l : Fin 2816) :
    (k0_pay7 (F := Ideal) v0 v2 v4) (ix2 r l) = (gateOf (dot (h r) w l) (dot (h r) w' l) : EReal) := by
  unfold k0_pay7
  pointwise
  rw [pay2_0 h0 h2, pay3_0 h0 h4, pay4_0 h0 h2]
  simp only [← EReal.coe_one, ← EReal.coe_mul, ← EReal.coe_sub, ← EReal.coe_add]
  rfl

theorem pay8_0 (h0 : ∀ r k, v0 (ix2 r k) = (h r k : EReal)) (h2 : ∀ l k, v2 (ix2 l k) = (w l k : EReal)) (r : Fin 256) (l : Fin 2816) :
    (k0_pay8 (F := Ideal) v0 v2) (ix2 r l) = (upOf (dot (h r) w l) : EReal) := by
  unfold k0_pay8
  pointwise
  rw [pay5_0 h0 h2]

end up

section bwd
variable {v3 : Vec Ideal S256x1024 .bf16} {v4 v18 v20 : Vec Ideal S2816x1024 .bf16} {v6 v11 : Vec Ideal S256x2816 .bf16}
  {df : Fin 256 → Fin 1024 → ℝ} {wd wg wu : Fin 2816 → Fin 1024 → ℝ} {ag au : Fin 256 → Fin 2816 → ℝ}

theorem pay6_1 (h3 : ∀ r k, v3 (ix2 r k) = (df r k : EReal)) (h4 : ∀ l k, v4 (ix2 l k) = (wd l k : EReal)) (r : Fin 256) (l : Fin 2816) :
    (k1_pay6 (F := Ideal) v3 v4) (ix2 r l) = (dot (df r) wd l : EReal) := by
  unfold k1_pay6
  pointwise
  show ∑ k : Fin 1024, v3 (ix2 r k) * v4 (ix2 l k) = _
  simp only [h3, h4, ← EReal.coe_mul, coe_sum]
  rfl

theorem pay7_1 (h3 : ∀ r k, v3 (ix2 r k) = (df r k : EReal)) (h4 : ∀ l k, v4 (ix2 l k) = (wd l k : EReal))
    (h6 : ∀ r l, v6 (ix2 r l) = (ag r l : EReal)) (r : Fin 256) (l : Fin 2816) :
    (k1_pay7 (F := Ideal) v3 v4 v6) (ix2 r l) = ((dot (df r) wd l * ag r l : ℝ) : EReal) := by
  unfold k1_pay7
  pointwise
  rw [pay6_1 h3 h4, h6, ← EReal.coe_mul]

theorem pay8_1 (h3 : ∀ r k, v3 (ix2 r k) = (df r k : EReal)) (h4 : ∀ l k, v4 (ix2 l k) = (wd l k : EReal))
    (h11 : ∀ r l, v11 (ix2 r l) = (au r l : EReal)) (r : Fin 256) (l : Fin 2816) :
    (k1_pay8 (F := Ideal) v3 v4 v11) (ix2 r l) = ((dot (df r) wd l * au r l : ℝ) : EReal) := by
  unfold k1_pay8
  pointwise
  rw [pay6_1 h3 h4, h11, ← EReal.coe_mul]

theorem pay9_1 (h3 : ∀ r k, v3 (ix2 r k) = (df r k : EReal)) (h4 : ∀ l k, v4 (ix2 l k) = (wd l k : EReal))
    (h6 : ∀ r l, v6 (ix2 r l) = (ag r l : EReal)) (h11 : ∀ r l, v11 (ix2 r l) = (au r l : EReal))
    (h18 : ∀ l k, v18 (ix2 l k) = (wg l k : EReal)) (h20 : ∀ l k, v20 (ix2 l k) = (wu l k : EReal)) (r : Fin 256) (j : Fin 1024) :
    (k1_pay9 (F := Ideal) v3 v4 v6 v11 v18 v20) (ix2 r j)
      = ((∑ l, dot (df r) wd l * ag r l * wg l j + ∑ l, dot (df r) wd l * au r l * wu l j : ℝ) : EReal) := by
  unfold k1_pay9
  pointwise
  show ∑ l : Fin 2816, k1_pay7 v3 v4 v6 (ix2 r l) * v18 (ix2 l j) + ∑ l : Fin 2816, k1_pay8 v3 v4 v11 (ix2 r l) * v20 (ix2 l j) = _
  simp only [pay7_1 h3 h4 h6, pay8_1 h3 h4 h11, h18, h20, ← EReal.coe_mul, coe_sum, ← EReal.coe_add]

end bwd

section rms
variable {v : Vec Ideal S256x1024 .f32} {x : Fin 256 → Fin 1024 → ℝ} {vd : FVec Ideal S256x1024 .f32} {d : Fin 256 → Fin 1024 → ℝ}
  {vg : Vec Ideal S1x1024 .f32} {g : Fin 1024 → ℝ} {vy : Vec Ideal S256x1024 .f32} {y : Fin 256 → Fin 1024 → ℝ}

theorem pay10_1 (h : ∀ r k, v (ix2 r k) = (x r k : EReal)) (r : Fin 256) (k : Fin 1024) :
    (k1_pay10 (F := Ideal) v) (ix2 r k) = (x r k : EReal) := by
  unfold k1_pay10
  pointwise
  exact h r k

theorem pay11_1 (h : ∀ r k, v (ix2 r k) = (x r k : EReal)) (r : Fin 256) :
    (k1_pay11 (F := Ideal) v) (ix2 r 0) = ((∑ k, x r k * x r k : ℝ) : EReal) := by
  unfold k1_pay11
  pointwise
  show ∑ k : Fin 1024, k1_pay10 v (ix2 r k) * k1_pay10 v (ix2 r k) = _
  simp only [pay10_1 h, ← EReal.coe_mul, coe_sum]

theorem pay12_1 (h : ∀ r k, v (ix2 r k) = (x r k : EReal)) (r : Fin 256) :
    (k1_pay12 (F := Ideal) (k1_pay11 v) (Scalar.ofBits .f32 0x44800000#32)) (ix2 r 0) = (rs (x r) : EReal) := by
  unfold k1_pay12
  pointwise
  rw [pay11_1 h]
  exact rms_kernel _

theorem pay13_1 (h : ∀ r k, v (ix2 r k) = (x r k : EReal)) (r : Fin 256) (k : Fin 1024) :
    (k1_pay13 (F := Ideal) (k1_pay10 v) (k1_pay11 v) (Scalar.ofBits .f32 0x44800000#32)) (ix2 r k) = ((x r k * rs (x r) : ℝ) : EReal) := by
  unfold k1_pay13
  pointwise
  show k1_pay10 v (ix2 r k) * k1_pay12 (k1_pay11 v) (Scalar.ofBits .f32 0x44800000#32) (ix2 r 0) = _
  rw [pay10_1 h, pay12_1 h, ← EReal.coe_mul]

theorem pay14_1 (h : ∀ r k, v (ix2 r k) = (x r k : EReal)) (hd : ∀ r k, vd (ix2 r k) = (d r k : EReal))
    (hg : ∀ k, vg (ix2 0 k) = (g k : EReal)) (hy : ∀ r k, vy (ix2 r k) = (y r k : EReal)) (r : Fin 256) (j : Fin 1024) :
    (k1_pay14 (F := Ideal) vd (k1_pay10 v) vg (k1_pay11 v) (Scalar.ofBits .f32 0x44800000#32) vy) (ix2 r j)
      = ((y r j + back (x r) g (d r) j : ℝ) : EReal) := by
  unfold k1_pay14
  pointwise
  show vy (ix2 r j) + k1_pay12 (k1_pay11 v) (Scalar.ofBits .f32 0x44800000#32) (ix2 r 0) *
    (vd (ix2 r j) * vg (ix2 0 j) - k1_pay13 (k1_pay10 v) (k1_pay11 v) (Scalar.ofBits .f32 0x44800000#32) (ix2 r j) *
      Ideal.div (∑ k : Fin 1024, vd (ix2 r k) * vg (ix2 0 k) * k1_pay13 (k1_pay10 v) (k1_pay11 v) (Scalar.ofBits .f32 0x44800000#32) (ix2 r k))
        (Ideal.ofBits .f32 0x44800000#32)) = _
  simp only [hy, hd, hg, pay12_1 h, pay13_1 h, ← EReal.coe_mul, coe_sum, div_1024, ← EReal.coe_add, ← EReal.coe_sub]
  rfl

theorem pay15_1 (h : ∀ r k, v (ix2 r k) = (x r k : EReal)) (hd : ∀ r k, vd (ix2 r k) = (d r k : EReal)) (acc : Vec Ideal S1x1024 .f32) (j : Fin 1024) :
    (k1_pay15 (F := Ideal) vd (k1_pay10 v) (k1_pay11 v) (Scalar.ofBits .f32 0x44800000#32) acc) (ix2 0 j)
      = acc (ix2 0 j) + ((∑ r, d r j * (x r j * rs (x r)) : ℝ) : EReal) := by
  unfold k1_pay15
  pointwise
  show acc (ix2 0 j) + ∑ r : Fin 256, vd (ix2 r j) * k1_pay13 (k1_pay10 v) (k1_pay11 v) (Scalar.ofBits .f32 0x44800000#32) (ix2 r j) = _
  simp only [hd, pay13_1 h, ← EReal.coe_mul, coe_sum]

theorem pay16_1 (h : ∀ r k, v (ix2 r k) = (x r k : EReal)) (r : Fin 256) :
    (k1_pay16 (F := Ideal) v) (ix2 r 0) = (rs (x r) : EReal) := by
  unfold k1_pay16
  pointwise
  show Ideal.rsqrt (Ideal.div (∑ k : Fin 1024, v (ix2 r k) * v (ix2 r k)) (Ideal.ofBits .f32 0x44800000#32) + Ideal.ofBits .f32 0x358637BD#32) = _
  simp only [h, ← EReal.coe_mul, coe_sum]
  exact rms_kernel _

theorem pay1_1 (h : ∀ r k, v (ix2 r k) = (x r k : EReal)) (r : Fin 256) (k : Fin 1024) :
    (k1_pay1 (F := Ideal) v (k1_pay16 v)) (ix2 r k) = ((x r k * rs (x r) : ℝ) : EReal) := by
  unfold k1_pay1
  pointwise
  show v (ix2 r k) * k1_pay16 v (ix2 r 0) = _
  rw [h, pay16_1 h, ← EReal.coe_mul]

theorem pay2_1 (h : ∀ r k, v (ix2 r k) = (x r k : EReal)) (hd : ∀ r k, vd (ix2 r k) = (d r k : EReal)) (acc : Vec Ideal S1x1024 .f32) (j : Fin 1024) :
    (k1_pay2 (F := Ideal) vd v (k1_pay16 v) acc) (ix2 0 j)
      = acc (ix2 0 j) + ((∑ r, d r j * (x r j * rs (x r)) : ℝ) : EReal) := by
  unfold k1_pay2
  pointwise
  show acc (ix2 0 j) + ∑ r : Fin 256, vd (ix2 r j) * k1_pay1 v (k1_pay16 v) (ix2 r j) = _
  simp only [hd, pay1_1 h, ← EReal.coe_mul, coe_sum]

theorem pay3_1 (h : ∀ r k, v (ix2 r k) = (x r k : EReal)) (hd : ∀ r k, vd (ix2 r k) = (d r k : EReal))
    (hg : ∀ k, vg (ix2 0 k) = (g k : EReal)) (r : Fin 256) (j : Fin 1024) :
    (k1_pay3 (F := Ideal) vd v vg (k1_pay16 v)) (ix2 r j) = (back (x r) g (d r) j : EReal) := by
  unfold k1_pay3
  pointwise
  show k1_pay16 v (ix2 r 0) *
    (vd (ix2 r j) * vg (ix2 0 j) - k1_pay1 v (k1_pay16 v) (ix2 r j) *
      Ideal.div (∑ k : Fin 1024, vd (ix2 r k) * vg (ix2 0 k) * k1_pay1 v (k1_pay16 v) (ix2 r k))
        (Ideal.ofBits .f32 0x44800000#32)) = _
  simp only [hd, hg, pay16_1 h, pay1_1 h, ← EReal.coe_mul, coe_sum, div_1024, ← EReal.coe_add, ← EReal.coe_sub]
  rfl

theorem pay4_1 (i : S1x1024.Idx) : (k1_pay4 (F := Ideal)) i = 0 := by
  unfold k1_pay4
  pointwise

theorem pay5_1 (i : S1x1024.Idx) : (k1_pay5 (F := Ideal)) i = 0 := by
  unfold k1_pay5
  pointwise

end rms
end Cert.FfnIdeal.Pay
end
-- ==== Proof.FfnUp.lean ====
module
public import proofs.«01_k».proof.Proof.Gen.FfnIdeal
public import proofs.«01_k».proof.Proof.Gen.FfnIdeal.Frame
public import proofs.«01_k».proof.Proof.FfnPay
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.FfnIdeal.Up
open Cert.FfnIdeal Cert.FfnIdeal.Gen Cert.FfnMath Cert.FfnIdeal.Pay

/-! # The forward body: the activation and the two factors of its gradient, block of tokens after block -/

variable (V : (c : Dev nD) → (b : Ref sig .tc) → Buf (Elt Ideal) ((c : Thread nD τ).loc b)) (c : Dev nD) (D : Data)

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![t.val, 0] := by decide +kernel
theorem index_4 : ∀ t : Fin cfg0.N, (cfg0.win 4).index t = ![t.val, 0] := by decide +kernel
theorem index_5 : ∀ t : Fin cfg0.N, (cfg0.win 5).index t = ![t.val, 0] := by decide +kernel

/-- The arrays and the blocks the body is given. -/
abbrev arrH : S8192x1024.Idx → EReal := V c main_v25
abbrev arrG : S2816x1024.Idx → EReal := V c main_arg4
abbrev arrU : S2816x1024.Idx → EReal := V c main_arg5
def blockH (t : Fin cfg0.N) : S256x1024.Idx → EReal := iblk0 V c 0 t
def blockG (t : Fin cfg0.N) : S2816x1024.Idx → EReal := iblk0 V c 1 t
def blockU (t : Fin cfg0.N) : S2816x1024.Idx → EReal := iblk0 V c 2 t

theorem row_lt (t : Fin cfg0.N) (r : Fin 256) : t.val * 256 + r.val < 8192 := by
  have := lt_of_lt_of_eq t.isLt (show cfg0.N = 32 from N_0)
  omega

/-- The token a block's row holds. -/
def row (t : Fin cfg0.N) (r : Fin 256) : Fin 8192 := ⟨t.val * 256 + r.val, row_lt t r⟩

theorem blockH_at (t : Fin cfg0.N) (r : Fin 256) (k : Fin 1024) : blockH V c t (ix2 r k) = arrH V c (ix2 (row t r) k) := by
  unfold blockH
  have hk : (row t r).val = t.val * 256 + r.val := rfl
  blk_ext [iblk0, index_0 t]

theorem blockG_at (t : Fin cfg0.N) (l : Fin 2816) (k : Fin 1024) : blockG V c t (ix2 l k) = arrG V c (ix2 l k) := by
  unfold blockG
  blk_ext [iblk0, index_1 t]

theorem blockU_at (t : Fin cfg0.N) (l : Fin 2816) (k : Fin 1024) : blockU V c t (ix2 l k) = arrU V c (ix2 l k) := by
  unfold blockU
  blk_ext [iblk0, index_2 t]

/-- The arrays hold the given real numbers. -/
structure Holds : Prop where
  h : ∀ i k, arrH V c (ix2 i k) = (D.h2 i k : EReal)
  g : ∀ l k, arrG V c (ix2 l k) = (D.WG l k : EReal)
  u : ∀ l k, arrU V c (ix2 l k) = (D.WU l k : EReal)

variable {V c D} (H : Holds V c D)
include H

theorem after_3 (t : Fin cfg0.N) (r : Fin 256) (l : Fin 2816) : (dat0 V c).after 3 t (ix2 r l) = (D.actGate (row t r) l : EReal) := by
  rw [after0_3]
  unfold out0_3
  frame_out
  exact pay7_0 (v0 := blockH V c t) (v2 := blockG V c t) (v4 := blockU V c t) (fun r k => (blockH_at V c t r k).trans (H.h _ _))
    (fun l k => (blockG_at V c t l k).trans (H.g _ _)) (fun l k => (blockU_at V c t l k).trans (H.u _ _)) r l

theorem array_3 : (dat0 V c).arrAt 3 cfg0.N = (fun i => (D.actGate (i 0) (i 1) : EReal) : S8192x2816.Idx → EReal) := by
  refine Dat.arrAt_eq_of_covers (dat0 V c) 3 _ (by decide +kernel) fun t hf y => ?_
  have e : (dat0 V c).after 3 t y = (D.actGate (row t (y 0)) (y 1) : EReal) :=
    (congrArg ((dat0 V c).after 3 t) (ix2_eta y).symm).trans (after_3 H t (y 0) (y 1))
  blk_simp
  rw [e]
  refine congrArg₂ (fun (a : Fin 8192) (b : Fin 2816) => (D.actGate a b : EReal)) (Fin.ext ?_) (Fin.ext ?_) <;> blk_simp [index_3 t] <;> rfl

theorem after_4 (t : Fin cfg0.N) (r : Fin 256) (l : Fin 2816) : (dat0 V c).after 4 t (ix2 r l) = (D.actUp (row t r) l : EReal) := by
  rw [after0_4]
  unfold out0_4
  frame_out
  exact pay8_0 (v0 := blockH V c t) (v2 := blockG V c t) (fun r k => (blockH_at V c t r k).trans (H.h _ _))
    (fun l k => (blockG_at V c t l k).trans (H.g _ _)) r l

theorem array_4 : (dat0 V c).arrAt 4 cfg0.N = (fun i => (D.actUp (i 0) (i 1) : EReal) : S8192x2816.Idx → EReal) := by
  refine Dat.arrAt_eq_of_covers (dat0 V c) 4 _ (by decide +kernel) fun t hf y => ?_
  have e : (dat0 V c).after 4 t y = (D.actUp (row t (y 0)) (y 1) : EReal) :=
    (congrArg ((dat0 V c).after 4 t) (ix2_eta y).symm).trans (after_4 H t (y 0) (y 1))
  blk_simp
  rw [e]
  refine congrArg₂ (fun (a : Fin 8192) (b : Fin 2816) => (D.actUp a b : EReal)) (Fin.ext ?_) (Fin.ext ?_) <;> blk_simp [index_4 t] <;> rfl

theorem after_5 (t : Fin cfg0.N) (r : Fin 256) (l : Fin 2816) : (dat0 V c).after 5 t (ix2 r l) = (D.act (row t r) l : EReal) := by
  rw [after0_5]
  unfold out0_5
  frame_out
  exact pay6_0 (v0 := blockH V c t) (v2 := blockG V c t) (v4 := blockU V c t) (fun r k => (blockH_at V c t r k).trans (H.h _ _))
    (fun l k => (blockG_at V c t l k).trans (H.g _ _)) (fun l k => (blockU_at V c t l k).trans (H.u _ _)) r l

theorem array_5 : (dat0 V c).arrAt 5 cfg0.N = (fun i => (D.act (i 0) (i 1) : EReal) : S8192x2816.Idx → EReal) := by
  refine Dat.arrAt_eq_of_covers (dat0 V c) 5 _ (by decide +kernel) fun t hf y => ?_
  have e : (dat0 V c).after 5 t y = (D.act (row t (y 0)) (y 1) : EReal) :=
    (congrArg ((dat0 V c).after 5 t) (ix2_eta y).symm).trans (after_5 H t (y 0) (y 1))
  blk_simp
  rw [e]
  refine congrArg₂ (fun (a : Fin 8192) (b : Fin 2816) => (D.act a b : EReal)) (Fin.ext ?_) (Fin.ext ?_) <;> blk_simp [index_5 t] <;> rfl

end Cert.FfnIdeal.Up
end
-- ==== Proof.FfnBwd.lean ====
module
public import proofs.«01_k».proof.Proof.FfnUp

@[expose] public section
set_option maxRecDepth 16384
noncomputable section
open Idealize.ShloMosaic Idealize.ShloMosaic.TcCoe Idealize.SL.Sem
open Idealize.ShloMosaic.Tactic Idealize.ShloMosaic.Pipeline
namespace Cert.FfnIdeal.Bwd
open Cert.FfnIdeal Cert.FfnIdeal.Gen Cert.FfnMath Cert.FfnIdeal.Pay

/-! # The backward body: the gradients of the feed-forward block, block of tokens after block -/

variable (V : (c : Dev nD) → (b : Ref sig .tc) → Buf (Elt Ideal) ((c : Thread nD τ).loc b)) (c : Dev nD) (D : Data)

theorem row_lt (t : Fin cfg1.N) (r : Fin 256) : t.val * 256 + r.val < 8192 := by
  have := lt_of_lt_of_eq t.isLt (show cfg1.N = 32 from N_1)
  omega

/-- The token a block's row holds. -/
def row (t : Fin cfg1.N) (r : Fin 256) : Fin 8192 := ⟨t.val * 256 + r.val, row_lt t r⟩

theorem index_0 : ∀ t : Fin cfg1.N, (cfg1.win 0).index t = ![t.val, 0] := by decide +kernel
theorem index_1 : ∀ t : Fin cfg1.N, (cfg1.win 1).index t = ![0, 0] := by decide +kernel
theorem index_2 : ∀ t : Fin cfg1.N, (cfg1.win 2).index t = ![t.val, 0] := by decide +kernel
theorem index_3 : ∀ t : Fin cfg1.N, (cfg1.win 3).index t = ![t.val, 0] := by decide +kernel
theorem index_4 : ∀ t : Fin cfg1.N, (cfg1.win 4).index t = ![0, 0] := by decide +kernel
theorem index_5 : ∀ t : Fin cfg1.N, (cfg1.win 5).index t = ![0, 0] := by decide +kernel
theorem index_6 : ∀ t : Fin cfg1.N, (cfg1.win 6).index t = ![t.val, 0] := by decide +kernel
theorem index_7 : ∀ t : Fin cfg1.N, (cfg1.win 7).index t = ![t.val, 0] := by decide +kernel
theorem index_8 : ∀ t : Fin cfg1.N, (cfg1.win 8).index t = ![t.val, 0] := by decide +kernel
theorem index_9 : ∀ t : Fin cfg1.N, (cfg1.win 9).index t = ![0, 0] := by decide +kernel
theorem index_10 : ∀ t : Fin cfg1.N, (cfg1.win 10).index t = ![0, 0] := by decide +kernel
theorem index_11 : ∀ t : Fin cfg1.N, (cfg1.win 11).index t = ![t.val, 0] := by decide +kernel
theorem index_12 : ∀ t : Fin cfg1.N, (cfg1.win 12).index t = ![t.val, 0] := by decide +kernel
theorem index_13 : ∀ t : Fin cfg1.N, (cfg1.win 13).index t = ![t.val, 0] := by decide +kernel
theorem index_14 : ∀ t : Fin cfg1.N, (cfg1.win 14).index t = ![t.val, 0] := by decide +kernel
theorem index_15 : ∀ t : Fin cfg1.N, (cfg1.win 15).index t = ![0, 0] := by decide +kernel
theorem index_16 : ∀ t : Fin cfg1.N, (cfg1.win 16).index t = ![0, 0] := by decide +kernel

/-- The arrays and the blocks the body is given. -/
abbrev arrDF : S8192x1024.Idx → EReal := V c main_arg8
def blockDF (t : Fin cfg1.N) : S256x1024.Idx → EReal := iblk1 V c 0 t
abbrev arrWD : S2816x1024.Idx → EReal := V c main_arg6
def blockWD (t : Fin cfg1.N) : S2816x1024.Idx → EReal := iblk1 V c 1 t
abbrev arrAG : S8192x2816.Idx → EReal := V c main_v26_0
def blockAG (t : Fin cfg1.N) : S256x2816.Idx → EReal := iblk1 V c 2 t
abbrev arrAU : S8192x2816.Idx → EReal := V c main_v26_1
def blockAU (t : Fin cfg1.N) : S256x2816.Idx → EReal := iblk1 V c 3 t
abbrev arrWG : S2816x1024.Idx → EReal := V c main_arg4
def blockWG (t : Fin cfg1.N) : S2816x1024.Idx → EReal := iblk1 V c 4 t
abbrev arrWU : S2816x1024.Idx → EReal := V c main_arg5
def blockWU (t : Fin cfg1.N) : S2816x1024.Idx → EReal := iblk1 V c 5 t
abbrev arrX2 : S8192x1024.Idx → EReal := V c main_v12
def blockX2 (t : Fin cfg1.N) : S256x1024.Idx → EReal := iblk1 V c 6 t
abbrev arrM : S8192x1024.Idx → EReal := V c main_arg1
def blockM (t : Fin cfg1.N) : S256x1024.Idx → EReal := iblk1 V c 7 t
abbrev arrDY : S8192x1024.Idx → EReal := V c main_arg7
def blockDY (t : Fin cfg1.N) : S256x1024.Idx → EReal := iblk1 V c 8 t
abbrev arrG3 : S1x1024.Idx → EReal := V c main_arg3
def blockG3 (t : Fin cfg1.N) : S1x1024.Idx → EReal := iblk1 V c 9 t
abbrev arrG2 : S1x1024.Idx → EReal := V c main_arg2
def blockG2 (t : Fin cfg1.N) : S1x1024.Idx → EReal := iblk1 V c 10 t

theorem blockDF_at (t : Fin cfg1.N) (r : Fin 256) (k : Fin 1024) : blockDF V c t (ix2 r k) = arrDF V c (ix2 (row t r) k) := by
  unfold blockDF
  have hk : (row t r).val = t.val * 256 + r.val := rfl
  blk_ext [iblk1, index_0 t]

theorem blockWD_at (t : Fin cfg1.N) (l : Fin 2816) (k : Fin 1024) : blockWD V c t (ix2 l k) = arrWD V c (ix2 l k) := by
  unfold blockWD
  blk_ext [iblk1, index_1 t]

theorem blockAG_at (t : Fin cfg1.N) (r : Fin 256) (k : Fin 2816) : blockAG V c t (ix2 r k) = arrAG V c (ix2 (row t r) k) := by
  unfold blockAG
  have hk : (row t r).val = t.val * 256 + r.val := rfl
  blk_ext [iblk1, index_2 t]

theorem blockAU_at (t : Fin cfg1.N) (r : Fin 256) (k : Fin 2816) : blockAU V c t (ix2 r k) = arrAU V c (ix2 (row t r) k) := by
  unfold blockAU
  have hk : (row t r).val = t.val * 256 + r.val := rfl
  blk_ext [iblk1, index_3 t]

theorem blockWG_at (t : Fin cfg1.N) (l : Fin 2816) (k : Fin 1024) : blockWG V c t (ix2 l k) = arrWG V c (ix2 l k) := by
  unfold blockWG
  blk_ext [iblk1, index_4 t]

theorem blockWU_at (t : Fin cfg1.N) (l : Fin 2816) (k : Fin 1024) : blockWU V c t (ix2 l k) = arrWU V c (ix2 l k) := by
  unfold blockWU
  blk_ext [iblk1, index_5 t]

theorem blockX2_at (t : Fin cfg1.N) (r : Fin 256) (k : Fin 1024) : blockX2 V c t (ix2 r k) = arrX2 V c (ix2 (row t r) k) := by
  unfold blockX2
  have hk : (row t r).val = t.val * 256 + r.val := rfl
  blk_ext [iblk1, index_6 t]

theorem blockM_at (t : Fin cfg1.N) (r : Fin 256) (k : Fin 1024) : blockM V c t (ix2 r k) = arrM V c (ix2 (row t r) k) := by
  unfold blockM
  have hk : (row t r).val = t.val * 256 + r.val := rfl
  blk_ext [iblk1, index_7 t]

theorem blockDY_at (t : Fin cfg1.N) (r : Fin 256) (k : Fin 1024) : blockDY V c t (ix2 r k) = arrDY V c (ix2 (row t r) k) := by
  unfold blockDY
  have hk : (row t r).val = t.val * 256 + r.val := rfl
  blk_ext [iblk1, index_8 t]

theorem blockG3_at (t : Fin cfg1.N) (l : Fin 1) (k : Fin 1024) : blockG3 V c t (ix2 l k) = arrG3 V c (ix2 l k) := by
  unfold blockG3
  blk_ext [iblk1, index_9 t]

theorem blockG2_at (t : Fin cfg1.N) (l : Fin 1) (k : Fin 1024) : blockG2 V c t (ix2 l k) = arrG2 V c (ix2 l k) := by
  unfold blockG2
  blk_ext [iblk1, index_10 t]

/-- The arrays hold the given real numbers. -/
structure Holds : Prop where
  DF : ∀ i k, arrDF V c (ix2 i k) = (D.DF i k : EReal)
  WD : ∀ i k, arrWD V c (ix2 i k) = (D.WD i k : EReal)
  AG : ∀ i k, arrAG V c (ix2 i k) = (D.actGate i k : EReal)
  AU : ∀ i k, arrAU V c (ix2 i k) = (D.actUp i k : EReal)
  WG : ∀ i k, arrWG V c (ix2 i k) = (D.WG i k : EReal)
  WU : ∀ i k, arrWU V c (ix2 i k) = (D.WU i k : EReal)
  X2 : ∀ i k, arrX2 V c (ix2 i k) = (D.x2 i k : EReal)
  M : ∀ i k, arrM V c (ix2 i k) = (D.M i k : EReal)
  DY : ∀ i k, arrDY V c (ix2 i k) = (D.DY i k : EReal)
  G3 : ∀ k, arrG3 V c (ix2 0 k) = (D.G3 k : EReal)
  G2 : ∀ k, arrG2 V c (ix2 0 k) = (D.G2 k : EReal)

variable {V c D} (H : Holds V c D)
include H

theorem realDF (t : Fin cfg1.N) (r : Fin 256) (k : Fin 1024) : blockDF V c t (ix2 r k) = (D.DF (row t r) k : EReal) :=
  (blockDF_at V c t r k).trans (H.DF (row t r) k)
theorem realWD (t : Fin cfg1.N) (l : Fin 2816) (k : Fin 1024) : blockWD V c t (ix2 l k) = (D.WD l k : EReal) :=
  (blockWD_at V c t l k).trans (H.WD l k)
theorem realAG (t : Fin cfg1.N) (r : Fin 256) (k : Fin 2816) : blockAG V c t (ix2 r k) = (D.actGate (row t r) k : EReal) :=
  (blockAG_at V c t r k).trans (H.AG (row t r) k)
theorem realAU (t : Fin cfg1.N) (r : Fin 256) (k : Fin 2816) : blockAU V c t (ix2 r k) = (D.actUp (row t r) k : EReal) :=
  (blockAU_at V c t r k).trans (H.AU (row t r) k)
theorem realWG (t : Fin cfg1.N) (l : Fin 2816) (k : Fin 1024) : blockWG V c t (ix2 l k) = (D.WG l k : EReal) :=
  (blockWG_at V c t l k).trans (H.WG l k)
theorem realWU (t : Fin cfg1.N) (l : Fin 2816) (k : Fin 1024) : blockWU V c t (ix2 l k) = (D.WU l k : EReal) :=
  (blockWU_at V c t l k).trans (H.WU l k)
theorem realX2 (t : Fin cfg1.N) (r : Fin 256) (k : Fin 1024) : blockX2 V c t (ix2 r k) = (D.x2 (row t r) k : EReal) :=
  (blockX2_at V c t r k).trans (H.X2 (row t r) k)
theorem realM (t : Fin cfg1.N) (r : Fin 256) (k : Fin 1024) : blockM V c t (ix2 r k) = (D.M (row t r) k : EReal) :=
  (blockM_at V c t r k).trans (H.M (row t r) k)
theorem realDY (t : Fin cfg1.N) (r : Fin 256) (k : Fin 1024) : blockDY V c t (ix2 r k) = (D.DY (row t r) k : EReal) :=
  (blockDY_at V c t r k).trans (H.DY (row t r) k)
theorem realG3 (t : Fin cfg1.N) (k : Fin 1024) : blockG3 V c t (ix2 0 k) = (D.G3 k : EReal) :=
  (blockG3_at V c t 0 k).trans (H.G3 k)
theorem realG2 (t : Fin cfg1.N) (k : Fin 1024) : blockG2 V c t (ix2 0 k) = (D.G2 k : EReal) :=
  (blockG2_at V c t 0 k).trans (H.G2 k)

theorem realDh (t : Fin cfg1.N) (r : Fin 256) (j : Fin 1024) : (k1_pay9 (blockDF V c t) (blockWD V c t) (blockAG V c t) (blockAU V c t) (blockWG V c t) (blockWU V c t) : FVec Ideal S256x1024 .f32) (ix2 r j) = (D.dh (row t r) j : EReal) :=
  pay9_1 (realDF H t) (realWD H t) (realAG H t) (realAU H t) (realWG H t) (realWU H t) r j

theorem realDx2 (t : Fin cfg1.N) (r : Fin 256) (j : Fin 1024) : (k1_pay14 (k1_pay9 (blockDF V c t) (blockWD V c t) (blockAG V c t) (blockAU V c t) (blockWG V c t) (blockWU V c t)) (k1_pay10 (blockX2 V c t)) (blockG3 V c t) (k1_pay11 (blockX2 V c t)) (Scalar.ofBits .f32 0x44800000#32) (blockDY V c t) : FVec Ideal S256x1024 .f32) (ix2 r j) = (D.dx2 (row t r) j : EReal) :=
  pay14_1 (realX2 H t) (realDh H t) (realG3 H t) (realDY H t) r j

theorem after_11 (t : Fin cfg1.N) (r : Fin 256) (k : Fin 2816) : (dat1 V c).after 11 t (ix2 r k) = (D.dgate (row t r) k : EReal) := by
  rw [after1_11]
  by_cases h : t.val % 32 = 0
  · rw [outsAt1_A V c t h]
    frame_out
    exact pay7_1 (realDF H t) (realWD H t) (realAG H t) r k
  · rw [outsAt1_B V c t h]
    frame_out
    exact pay7_1 (realDF H t) (realWD H t) (realAG H t) r k

theorem array_11 : (dat1 V c).arrAt 11 cfg1.N = (fun i => (D.dgate (i 0) (i 1) : EReal) : S8192x2816.Idx → EReal) := by
  refine Dat.arrAt_eq_of_covers (dat1 V c) 11 _ (by decide +kernel) fun t hf y => ?_
  have e : (dat1 V c).after 11 t y = (D.dgate (row t (y 0)) (y 1) : EReal) :=
    (congrArg ((dat1 V c).after 11 t) (ix2_eta y).symm).trans (after_11 H t (y 0) (y 1))
  blk_simp
  rw [e]
  refine congrArg₂ (fun (a : Fin 8192) (b : Fin 2816) => (D.dgate a b : EReal)) (Fin.ext ?_) (Fin.ext ?_) <;> blk_simp [index_11 t] <;> rfl

theorem after_12 (t : Fin cfg1.N) (r : Fin 256) (k : Fin 2816) : (dat1 V c).after 12 t (ix2 r k) = (D.dup (row t r) k : EReal) := by
  rw [after1_12]
  by_cases h : t.val % 32 = 0
  · rw [outsAt1_A V c t h]
    frame_out
    exact pay8_1 (realDF H t) (realWD H t) (realAU H t) r k
  · rw [outsAt1_B V c t h]
    frame_out
    exact pay8_1 (realDF H t) (realWD H t) (realAU H t) r k

theorem array_12 : (dat1 V c).arrAt 12 cfg1.N = (fun i => (D.dup (i 0) (i 1) : EReal) : S8192x2816.Idx → EReal) := by
  refine Dat.arrAt_eq_of_covers (dat1 V c) 12 _ (by decide +kernel) fun t hf y => ?_
  have e : (dat1 V c).after 12 t y = (D.dup (row t (y 0)) (y 1) : EReal) :=
    (congrArg ((dat1 V c).after 12 t) (ix2_eta y).symm).trans (after_12 H t (y 0) (y 1))
  blk_simp
  rw [e]
  refine congrArg₂ (fun (a : Fin 8192) (b : Fin 2816) => (D.dup a b : EReal)) (Fin.ext ?_) (Fin.ext ?_) <;> blk_simp [index_12 t] <;> rfl

theorem after_13 (t : Fin cfg1.N) (r : Fin 256) (k : Fin 1024) : (dat1 V c).after 13 t (ix2 r k) = (D.dx2 (row t r) k : EReal) := by
  rw [after1_13]
  by_cases h : t.val % 32 = 0
  · rw [outsAt1_A V c t h]
    frame_out
    exact realDx2 H t r k
  · rw [outsAt1_B V c t h]
    frame_out
    exact realDx2 H t r k

theorem array_13 : (dat1 V c).arrAt 13 cfg1.N = (fun i => (D.dx2 (i 0) (i 1) : EReal) : S8192x1024.Idx → EReal) := by
  refine Dat.arrAt_eq_of_covers (dat1 V c) 13 _ (by decide +kernel) fun t hf y => ?_
  have e : (dat1 V c).after 13 t y = (D.dx2 (row t (y 0)) (y 1) : EReal) :=
    (congrArg ((dat1 V c).after 13 t) (ix2_eta y).symm).trans (after_13 H t (y 0) (y 1))
  blk_simp
  rw [e]
  refine congrArg₂ (fun (a : Fin 8192) (b : Fin 1024) => (D.dx2 a b : EReal)) (Fin.ext ?_) (Fin.ext ?_) <;> blk_simp [index_13 t] <;> rfl

theorem after_14 (t : Fin cfg1.N) (r : Fin 256) (k : Fin 1024) : (dat1 V c).after 14 t (ix2 r k) = (D.dmix (row t r) k : EReal) := by
  rw [after1_14]
  by_cases h : t.val % 32 = 0
  · rw [outsAt1_A V c t h]
    frame_out
    exact pay3_1 (realM H t) (realDx2 H t) (realG2 H t) r k
  · rw [outsAt1_B V c t h]
    frame_out
    exact pay3_1 (realM H t) (realDx2 H t) (realG2 H t) r k

theorem array_14 : (dat1 V c).arrAt 14 cfg1.N = (fun i => (D.dmix (i 0) (i 1) : EReal) : S8192x1024.Idx → EReal) := by
  refine Dat.arrAt_eq_of_covers (dat1 V c) 14 _ (by decide +kernel) fun t hf y => ?_
  have e : (dat1 V c).after 14 t y = (D.dmix (row t (y 0)) (y 1) : EReal) :=
    (congrArg ((dat1 V c).after 14 t) (ix2_eta y).symm).trans (after_14 H t (y 0) (y 1))
  blk_simp
  rw [e]
  refine congrArg₂ (fun (a : Fin 8192) (b : Fin 1024) => (D.dmix a b : EReal)) (Fin.ext ?_) (Fin.ext ?_) <;> blk_simp [index_14 t] <;> rfl

theorem first_15 (t : Fin cfg1.N) (h : t.val % 32 = 0) (j : Fin 1024) :
    (outsAt1 V c t.val t.isLt).2.2.2.2.1 (ix2 0 j) = 0 + ((∑ r, D.dh (row t r) j * (D.x2 (row t r) j * rs (D.x2 (row t r))) : ℝ) : EReal) := by
  rw [outsAt1_A V c t h]
  frame_out
  exact (pay15_1 (realX2 H t) (realDh H t) _ j).trans (congrArg (fun a : EReal => a + _) (pay4_1 _))

theorem next_15 (t : Fin cfg1.N) (h : ¬t.val % 32 = 0) (j : Fin 1024) :
    (outsAt1 V c t.val t.isLt).2.2.2.2.1 (ix2 0 j)
      = (outsAt1 V c (t.val - 1) (Nat.lt_of_le_of_lt (Nat.sub_le _ _) t.isLt)).2.2.2.2.1 (ix2 0 j)
        + ((∑ r, D.dh (row t r) j * (D.x2 (row t r) j * rs (D.x2 (row t r))) : ℝ) : EReal) := by
  rw [outsAt1_B V c t h]
  frame_out
  exact pay15_1 (realX2 H t) (realDh H t) _ j

theorem last_15 (t : Fin cfg1.N) (h : t.val % 32 = 32 - 1) (j : Fin 1024) : (outsAt1 V c t.val t.isLt).2.2.2.2.1 (ix2 0 j) = (D.dg3 j : EReal) := by
  refine (eq_sum_fin_of_reset_step_apply_of_flush (fun n h (j : Fin 1024) => ((outsAt1 V c n h).2.2.2.2.1 (ix2 0 j) : EReal)) 32 (fun _ => 0)
    (fun t j => ((∑ r, D.dh (row t r) j * (D.x2 (row t r) j * rs (D.x2 (row t r))) : ℝ) : EReal)) (first_15 H) (next_15 H) t h j).trans ?_
  rw [zero_add, coe_sum]
  refine congrArg (fun a : ℝ => (a : EReal)) ?_
  unfold Data.dg3
  refine Fin.sum_mul_add_congr fun s k hl => ?_
  have e : row ⟨32 * (t.val / 32) + s.val, run_point_lt_of_flush t h s⟩ k = ⟨s.val * 256 + k.val, hl⟩ := Fin.ext (by
    have := lt_of_lt_of_eq t.isLt (show cfg1.N = 32 from N_1)
    show (32 * (t.val / 32) + s.val) * 256 + k.val = s.val * 256 + k.val
    omega)
  rw [e]

theorem array_15 : (dat1 V c).arrAt 15 cfg1.N = (fun i => (D.dg3 (i 1) : EReal) : S1x1024.Idx → EReal) := by
  refine Dat.arrAt_eq_of_covers (dat1 V c) 15 _ (by decide +kernel) fun t hf y => ?_
  have h7 : t.val % 32 = 31 := (flush1_15 t).mp hf
  have hy : y = ix2 0 (y 1) := by
    funext a
    match a with
    | ⟨0, _⟩ => exact Fin.ext (Nat.lt_one_iff.mp (y 0).isLt)
    | ⟨1, _⟩ => rfl
  have e : (dat1 V c).after 15 t y = (D.dg3 (y 1) : EReal) := by
    rw [after1_15]
    exact (congrArg ((outsAt1 V c t.val t.isLt).2.2.2.2.1) hy).trans (last_15 H t h7 (y 1))
  blk_simp
  rw [e]
  refine congrArg (fun a : Fin 1024 => (D.dg3 a : EReal)) (Fin.ext ?_)
  blk_simp [index_15 t]

theorem first_16 (t : Fin cfg1.N) (h : t.val % 32 = 0) (j : Fin 1024) :
    (outsAt1 V c t.val t.isLt).2.2.2.2.2 (ix2 0 j) = 0 + ((∑ r, D.dx2 (row t r) j * (D.M (row t r) j * rs (D.M (row t r))) : ℝ) : EReal) := by
  rw [outsAt1_A V c t h]
  frame_out
  exact (pay2_1 (realM H t) (realDx2 H t) _ j).trans (congrArg (fun a : EReal => a + _) (pay5_1 _))

theorem next_16 (t : Fin cfg1.N) (h : ¬t.val % 32 = 0) (j : Fin 1024) :
    (outsAt1 V c t.val t.isLt).2.2.2.2.2 (ix2 0 j)
      = (outsAt1 V c (t.val - 1) (Nat.lt_of_le_of_lt (Nat.sub_le _ _) t.isLt)).2.2.2.2.2 (ix2 0 j)
        + ((∑ r, D.dx2 (row t r) j * (D.M (row t r) j * rs (D.M (row t r))) : ℝ) : EReal) := by
  rw [outsAt1_B V c t h]
  frame_out
  exact pay2_1 (realM H t) (realDx2 H t) _ j

theorem last_16 (t : Fin cfg1.N) (h : t.val % 32 = 32 - 1) (j : Fin 1024) : (outsAt1 V c t.val t.isLt).2.2.2.2.2 (ix2 0 j) = (D.dg2 j : EReal) := by
  refine (eq_sum_fin_of_reset_step_apply_of_flush (fun n h (j : Fin 1024) => ((outsAt1 V c n h).2.2.2.2.2 (ix2 0 j) : EReal)) 32 (fun _ => 0)
    (fun t j => ((∑ r, D.dx2 (row t r) j * (D.M (row t r) j * rs (D.M (row t r))) : ℝ) : EReal)) (first_16 H) (next_16 H) t h j).trans ?_
  rw [zero_add, coe_sum]
  refine congrArg (fun a : ℝ => (a : EReal)) ?_
  unfold Data.dg2
  refine Fin.sum_mul_add_congr fun s k hl => ?_
  have e : row ⟨32 * (t.val / 32) + s.val, run_point_lt_of_flush t h s⟩ k = ⟨s.val * 256 + k.val, hl⟩ := Fin.ext (by
    have := lt_of_lt_of_eq t.isLt (show cfg1.N = 32 from N_1)
    show (32 * (t.val / 32) + s.val) * 256 + k.val = s.val * 256 + k.val
    omega)
  rw [e]

theorem array_16 : (dat1 V c).arrAt 16 cfg1.N = (fun i => (D.dg2 (i 1) : EReal) : S1x1024.Idx → EReal) := by
  refine Dat.arrAt_eq_of_covers (dat1 V c) 16 _ (by decide +kernel) fun t hf y => ?_
  have h7 : t.val % 32 = 31 := (flush1_16 t).mp hf
  have hy : y = ix2 0 (y 1) := by
    funext a
    match a with
    | ⟨0, _⟩ => exact Fin.ext (Nat.lt_one_iff.mp (y 0).isLt)
    | ⟨1, _⟩ => rfl
  have e : (dat1 V c).after 16 t y = (D.dg2 (y 1) : EReal) := by
    rw [after1_16]
    exact (congrArg ((outsAt1 V c t.val t.isLt).2.2.2.2.2) hy).trans (last_16 H t h7 (y 1))
  blk_simp
  rw [e]
  refine congrArg (fun a : Fin 1024 => (D.dg2 a : EReal)) (Fin.ext ?_)
  blk_simp [index_16 t]

end Cert.FfnIdeal.Bwd
end
-- ==== Proof.FfnRun.lean ====
module
public import proofs.«01_k».proof.Proof.Gen.FfnIdeal
public import proofs.«01_k».proof.Proof.Gen.FfnIdeal.Frame
public import proofs.«01_k».proof.Proof.Gen.RFfnIdeal.Read
public import proofs.«01_k».proof.Proof.FfnRef
public import proofs.«01_k».proof.Proof.FfnUp
public import proofs.«01_k».proof.Proof.FfnBwd

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.FfnIdeal.Whole
open Cert.FfnIdeal Cert.FfnIdeal.Gen Cert.FfnMath Cert.RFfnIdeal.Real

/-! # The whole program of the feed-forward block, of real arguments -/

variable (m : (ℓ : Loc nD τ sig) → Buf (Elt Ideal) ℓ) (ρ : Dev nD → PrngReg) (c : Dev nD)

/-- The arguments on a device are the real arrays of `D`. -/
structure Args (D : Data) : Prop where
  a0 : m ((c : Thread nD τ).loc main_arg0) = c0 D
  a1 : m ((c : Thread nD τ).loc main_arg1) = c1 D
  a2 : m ((c : Thread nD τ).loc main_arg2) = c2 D
  a3 : m ((c : Thread nD τ).loc main_arg3) = c3 D
  a4 : m ((c : Thread nD τ).loc main_arg4) = c4 D
  a5 : m ((c : Thread nD τ).loc main_arg5) = c5 D
  a6 : m ((c : Thread nD τ).loc main_arg6) = c6 D
  a7 : m ((c : Thread nD τ).loc main_arg7) = c7 D
  a8 : m ((c : Thread nD τ).loc main_arg8) = c8 D

theorem host_x2 : W1 m ρ c (Proc.devRef .tc main_v12)
    = Cert.RFfnIdeal.Read.val_main_v21 (F := Ideal) (m ((c : Thread nD τ).loc main_arg0)) (m ((c : Thread nD τ).loc main_arg1))
      (m ((c : Thread nD τ).loc main_arg2)) := by
  unfold_abbrev_sides
  after_results
  rfl

theorem host_h2 : W1 m ρ c (Proc.devRef .tc main_v25)
    = Cert.RFfnIdeal.Read.val_main_v36 (F := Ideal) (m ((c : Thread nD τ).loc main_arg0)) (m ((c : Thread nD τ).loc main_arg1))
      (m ((c : Thread nD τ).loc main_arg2)) (m ((c : Thread nD τ).loc main_arg3)) := by
  unfold_abbrev_sides
  after_results
  rfl

variable {D : Data} (H : Args m c D)
include H

theorem up : Up.Holds (V1 m ρ) c D where
  h i k := by
    show W1 m ρ c (Proc.devRef .tc main_v25) (ix2 i k) = _
    rw [host_h2, H.a0, H.a1, H.a2, H.a3]
    exact r_v36 D (ix2 i k)
  g i k := congrFun ((W1_args m ρ c main_arg4 (by decide)).trans H.a4) (ix2 i k)
  u i k := congrFun ((W1_args m ρ c main_arg5 (by decide)).trans H.a5) (ix2 i k)

theorem x2_at (i : Fin 8192) (k : Fin 1024) : V2 m ρ c main_v12 (ix2 i k) = (D.x2 i k : EReal) := by
  have e : W2 m ρ c (Proc.devRef .tc main_v12) = W1 m ρ c (Proc.devRef .tc main_v12) := W2_of_ne m ρ c main_v12 (by decide)
  show W2 m ρ c (Proc.devRef .tc main_v12) (ix2 i k) = _
  rw [e, host_x2, H.a0, H.a1, H.a2]
  exact r_v21 D (ix2 i k)

theorem bwd : Bwd.Holds (V2 m ρ) c D where
  DF i k := congrFun ((W2_args m ρ c main_arg8 (by decide)).trans H.a8) (ix2 i k)
  WD i k := congrFun ((W2_args m ρ c main_arg6 (by decide)).trans H.a6) (ix2 i k)
  AG i k := congrFun ((W2_arr m ρ c 3).trans (Up.array_3 (up m ρ c H))) (ix2 i k)
  AU i k := congrFun ((W2_arr m ρ c 4).trans (Up.array_4 (up m ρ c H))) (ix2 i k)
  WG i k := congrFun ((W2_args m ρ c main_arg4 (by decide)).trans H.a4) (ix2 i k)
  WU i k := congrFun ((W2_args m ρ c main_arg5 (by decide)).trans H.a5) (ix2 i k)
  X2 := x2_at m ρ c H
  M i k := congrFun ((W2_args m ρ c main_arg1 (by decide)).trans H.a1) (ix2 i k)
  DY i k := congrFun ((W2_args m ρ c main_arg7 (by decide)).trans H.a7) (ix2 i k)
  G3 k := congrFun ((W2_args m ρ c main_arg3 (by decide)).trans H.a3) (ix2 0 k)
  G2 k := congrFun ((W2_args m ρ c main_arg2 (by decide)).trans H.a2) (ix2 0 k)

theorem out_act : W3 m ρ c (Proc.devRef .tc main_v26_2) = (fun i => (D.act (i 0) (i 1) : EReal)) :=
  (W3_of_ne m ρ c main_v26_2 (by decide)).trans ((W2_arr m ρ c 5).trans (Up.array_5 (up m ρ c H)))
theorem out_dgate : W3 m ρ c (Proc.devRef .tc main_v27_0) = (fun i => (D.dgate (i 0) (i 1) : EReal)) :=
  (W3_arr m ρ c 11).trans (Bwd.array_11 (bwd m ρ c H))
theorem out_dup : W3 m ρ c (Proc.devRef .tc main_v27_1) = (fun i => (D.dup (i 0) (i 1) : EReal)) :=
  (W3_arr m ρ c 12).trans (Bwd.array_12 (bwd m ρ c H))
theorem out_dx2 : W3 m ρ c (Proc.devRef .tc main_v27_2) = (fun i => (D.dx2 (i 0) (i 1) : EReal)) :=
  (W3_arr m ρ c 13).trans (Bwd.array_13 (bwd m ρ c H))
theorem out_dmix : W3 m ρ c (Proc.devRef .tc main_v27_3) = (fun i => (D.dmix (i 0) (i 1) : EReal)) :=
  (W3_arr m ρ c 14).trans (Bwd.array_14 (bwd m ρ c H))
theorem out_dg3 : W3 m ρ c (Proc.devRef .tc main_v27_4) = (fun i => (D.dg3 (i 1) : EReal)) :=
  (W3_arr m ρ c 15).trans (Bwd.array_15 (bwd m ρ c H))
theorem out_dg2 : W3 m ρ c (Proc.devRef .tc main_v27_5) = (fun i => (D.dg2 (i 1) : EReal)) :=
  (W3_arr m ρ c 16).trans (Bwd.array_16 (bwd m ρ c H))

omit H in
-- the launch's implicit arguments are found by unifying its conclusion with this one
set_option backward.isDefEq.respectTransparency.types false in
/-- The whole program ends with its seven results at the real arrays, its arguments as they were. -/
theorem run (D : Dev nD → Data) (H : ∀ c, Args m c (D c)) :
    θ_run defs (onTc (τ := τ) (main (F := Ideal))) ⟨m, fun _ => 0, ρ⟩ (fun r => ∀ c : Dev nD,
      r.2.mem ((c.tc : Thread nD τ).loc main_v26_2) = (fun i => ((D c).act (i 0) (i 1) : EReal))
      ∧ r.2.mem ((c.tc : Thread nD τ).loc main_v27_0) = (fun i => ((D c).dgate (i 0) (i 1) : EReal))
      ∧ r.2.mem ((c.tc : Thread nD τ).loc main_v27_1) = (fun i => ((D c).dup (i 0) (i 1) : EReal))
      ∧ r.2.mem ((c.tc : Thread nD τ).loc main_v27_2) = (fun i => ((D c).dx2 (i 0) (i 1) : EReal))
      ∧ r.2.mem ((c.tc : Thread nD τ).loc main_v27_3) = (fun i => ((D c).dmix (i 0) (i 1) : EReal))
      ∧ r.2.mem ((c.tc : Thread nD τ).loc main_v27_4) = (fun i => ((D c).dg3 (i 1) : EReal))
      ∧ r.2.mem ((c.tc : Thread nD τ).loc main_v27_5) = (fun i => ((D c).dg2 (i 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v26_2 (by decide))).trans (out_act m ρ c (H c)),
       (h c _ (mem_uc main_v27_0 (by decide))).trans (out_dgate m ρ c (H c)),
       (h c _ (mem_uc main_v27_1 (by decide))).trans (out_dup m ρ c (H c)),
       (h c _ (mem_uc main_v27_2 (by decide))).trans (out_dx2 m ρ c (H c)),
       (h c _ (mem_uc main_v27_3 (by decide))).trans (out_dmix m ρ c (H c)),
       (h c _ (mem_uc main_v27_4 (by decide))).trans (out_dg3 m ρ c (H c)),
       (h c _ (mem_uc main_v27_5 (by decide))).trans (out_dg2 m ρ c (H c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.FfnIdeal.Whole

end
-- ==== Proof.FfnSame.lean ====
module
public import proofs.«01_k».proof.Defs
public import proofs.«01_k».proof.Proof.FfnRun
public import proofs.«01_k».proof.Proof.Gen.Ffn
public import proofs.«01_k».proof.Proof.Gen.Ffn.Frame
public import proofs.«01_k».proof.Proof.Gen.RFfnIdeal
public import proofs.«01_k».proof.Proof.Gen.RFfnIdeal.Run
public import proofs.«01_k».proof.Proof.Gen.Pre_all_finite
public import Idealize.ShloMosaic.Lib.ReduceAll
public import Idealize.ShloMosaic.Lib.Affine
public import Idealize.ShloMosaic.Lib.Pointwise

@[expose] public section
set_option maxRecDepth 16384
noncomputable section
open Idealize.ShloMosaic Idealize.ShloMosaic.TcCoe Idealize.SL.Sem

namespace Cert.Pre_all_finite.Decode
open Cert.Pre_all_finite Cert.Pre_all_finite.Gen Cert.FfnMath

/-! # What the precondition says: every entry of every argument is a real number -/

theorem ofBits_inf_f32 : Ideal.ofBits .f32 0x7F800000#32 = ⊤ := by simp [Ideal.ofBits, Ideal.ieee]
theorem ofBits_inf_bf16 : Ideal.ofBits .bf16 0x7F80#16 = ⊤ := by simp [Ideal.ofBits, Ideal.ieee]

theorem real_of_lt (x : EReal) (h : max x (-x) < ⊤) : x = (x.toReal : EReal) := by
  obtain ⟨h1, h2⟩ := max_lt_iff.mp h
  exact (EReal.coe_toReal h1.ne fun e => by rw [e] at h2; exact absurd h2 (by simp)).symm

theorem real_of_word {φ : FTy} (w : BitVec φ.bits) (hw : Ideal.ofBits φ w = ⊤) (x : Ideal φ)
    (h : FloatOps.cmpf .olt (FloatOps.hostAbsf x) (FloatOps.ofBits (F := Ideal) φ w) = 1#1) : (x : EReal) = ((x : EReal).toReal : EReal) := by
  have h' : Ideal.cmp .olt (max (x : EReal) (-(x : EReal))) (Ideal.ofBits φ w) = 1#1 := h
  rw [hw, Ideal.cmp] at h'
  refine real_of_lt x ?_
  by_contra hn
  simp [hn] at h'

instance : Subsingleton S_.Idx := ⟨fun a b => funext fun d => d.elim0⟩

/-- The arrays as arrays of real numbers. -/
def data (x0 : FVec Ideal S8192x1024 .f32)
    (x1 : FVec Ideal S8192x1024 .f32)
    (x2 : FVec Ideal S1x1024 .f32)
    (x3 : FVec Ideal S1x1024 .f32)
    (x4 : FVec Ideal S2816x1024 .bf16)
    (x5 : FVec Ideal S2816x1024 .bf16)
    (x6 : FVec Ideal S2816x1024 .bf16)
    (x7 : FVec Ideal S8192x1024 .f32)
    (x8 : FVec Ideal S8192x1024 .bf16) : Data where
  X := fun i k => (x0 (ix2 i k) : EReal).toReal
  M := fun i k => (x1 (ix2 i k) : EReal).toReal
  G2 := fun k => (x2 (ix2 0 k) : EReal).toReal
  G3 := fun k => (x3 (ix2 0 k) : EReal).toReal
  WG := fun i k => (x4 (ix2 i k) : EReal).toReal
  WU := fun i k => (x5 (ix2 i k) : EReal).toReal
  WD := fun i k => (x6 (ix2 i k) : EReal).toReal
  DY := fun i k => (x7 (ix2 i k) : EReal).toReal
  DF := fun i k => (x8 (ix2 i k) : EReal).toReal

theorem real_of_all {s : Shape} {φ : FTy} {axes : List (Fin s.rank)} (w : BitVec φ.bits) (hw : Ideal.ofBits φ w = ⊤) (x : FVec Ideal s φ)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ φ w))) (constantI S_ 1 1#1) hr hu j = 1#1)
    (i : s.Idx) : (x i : EReal) = ((x i : EReal).toReal : EReal) :=
  real_of_word w hw (x i) (Host.reduce_andi_all _ _ _ _ _ h i)

theorem andi_left {a b : IVec S_ 1} {j : S_.Idx} (h : andi a b j = 1#1) : a j = 1#1 := (IntOp.andi_eq_one.mp h).1
theorem andi_right {a b : IVec S_ 1} {j : S_.Idx} (h : andi a b j = 1#1) : b j = 1#1 := (IntOp.andi_eq_one.mp h).2

theorem reals (x0 : FVec Ideal S8192x1024 .f32)
    (x1 : FVec Ideal S8192x1024 .f32)
    (x2 : FVec Ideal S1x1024 .f32)
    (x3 : FVec Ideal S1x1024 .f32)
    (x4 : FVec Ideal S2816x1024 .bf16)
    (x5 : FVec Ideal S2816x1024 .bf16)
    (x6 : FVec Ideal S2816x1024 .bf16)
    (x7 : FVec Ideal S8192x1024 .f32)
    (x8 : FVec Ideal S8192x1024 .bf16)
    (h : fn (F := Ideal) x0 x1 x2 x3 x4 x5 x6 x7 x8 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal)) ∧ (∀ i, (x3 i : EReal) = ((x3 i : EReal).toReal : EReal)) ∧ (∀ i, (x4 i : EReal) = ((x4 i : EReal).toReal : EReal)) ∧ (∀ i, (x5 i : EReal) = ((x5 i : EReal).toReal : EReal)) ∧ (∀ i, (x6 i : EReal) = ((x6 i : EReal).toReal : EReal)) ∧ (∀ i, (x7 i : EReal) = ((x7 i : EReal).toReal : EReal)) ∧ (∀ i, (x8 i : EReal) = ((x8 i : EReal).toReal : EReal)) := by
  have e := congrFun h (fun d => d.elim0)
  dsimp only [fn, fn_part1, fn_part2] at e
  refine ⟨?_, ?_, ?_, ?_, ?_, ?_, ?_, ?_, ?_⟩
  · exact real_of_all _ ofBits_inf_f32 x0 _ _ _ _ (andi_left (andi_left (andi_left (andi_left (andi_left (andi_left (andi_left (andi_left e))))))))
  · exact real_of_all _ ofBits_inf_f32 x1 _ _ _ _ (andi_right (andi_left (andi_left (andi_left (andi_left (andi_left (andi_left (andi_left e))))))))
  · exact real_of_all _ ofBits_inf_f32 x2 _ _ _ _ (andi_right (andi_left (andi_left (andi_left (andi_left (andi_left (andi_left e)))))))
  · exact real_of_all _ ofBits_inf_f32 x3 _ _ _ _ (andi_right (andi_left (andi_left (andi_left (andi_left (andi_left e))))))
  · exact real_of_all _ ofBits_inf_bf16 x4 _ _ _ _ (andi_right (andi_left (andi_left (andi_left (andi_left e)))))
  · exact real_of_all _ ofBits_inf_bf16 x5 _ _ _ _ (andi_right (andi_left (andi_left (andi_left e))))
  · exact real_of_all _ ofBits_inf_bf16 x6 _ _ _ _ (andi_right (andi_left (andi_left e)))
  · exact real_of_all _ ofBits_inf_f32 x7 _ _ _ _ (andi_right (andi_left e))
  · exact real_of_all _ ofBits_inf_bf16 x8 _ _ _ _ (andi_right e)

theorem two_eq {n k : ℕ} (i : (⟨2, ![n, k]⟩ : Shape).Idx) : i = ix2 (i 0) (i 1) := (ix2_eta i).symm

theorem one_eq {k : ℕ} (i : (⟨2, ![1, k]⟩ : Shape).Idx) : i = ix2 0 (i 1) := by
  refine (two_eq i).trans (congrArg (fun z => ix2 z (i 1)) (Fin.ext (Nat.lt_one_iff.mp (i 0).isLt)))

end Cert.Pre_all_finite.Decode

namespace Cert.RFfnIdeal.Whole
open Cert.RFfnIdeal Cert.RFfnIdeal.Gen Cert.RFfnIdeal.Read Cert.RFfnIdeal.Real Cert.FfnMath

variable (m' : (ℓ : Loc nD τ sig) → Buf (Elt Ideal) ℓ) (c : Dev nD) (D : Data)

/-- The reference's arguments on a device are the real arrays of `D`. -/
structure Args : Prop where
  a0 : m' ((c.tc : Thread nD τ).loc main_arg0) = c0 D
  a1 : m' ((c.tc : Thread nD τ).loc main_arg1) = c1 D
  a2 : m' ((c.tc : Thread nD τ).loc main_arg2) = c2 D
  a3 : m' ((c.tc : Thread nD τ).loc main_arg3) = c3 D
  a4 : m' ((c.tc : Thread nD τ).loc main_arg4) = c4 D
  a5 : m' ((c.tc : Thread nD τ).loc main_arg5) = c5 D
  a6 : m' ((c.tc : Thread nD τ).loc main_arg6) = c6 D
  a7 : m' ((c.tc : Thread nD τ).loc main_arg7) = c7 D
  a8 : m' ((c.tc : Thread nD τ).loc main_arg8) = c8 D

variable (E : Args m' c D)
include E

theorem value_v94 : val_main_v94 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5))
    = (fun i => (D.act (i 0) (i 1) : EReal)) := by
  obtain ⟨e0, e1, e2, e3, e4, e5, e6, e7, e8⟩ := E
  rw [e0, e1, e2, e3, e4, e5]
  exact funext fun i => r_v94 D i
theorem value_v95 : val_main_v95 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg8))
    = (fun i => (D.dgate (i 0) (i 1) : EReal)) := by
  obtain ⟨e0, e1, e2, e3, e4, e5, e6, e7, e8⟩ := E
  rw [e0, e1, e2, e3, e4, e5, e6, e8]
  exact funext fun i => r_v95 D i
theorem value_v96 : val_main_v96 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg6)) (m' ((c.tc : Thread nD τ).loc main_arg8))
    = (fun i => (D.dup (i 0) (i 1) : EReal)) := by
  obtain ⟨e0, e1, e2, e3, e4, e5, e6, e7, e8⟩ := E
  rw [e0, e1, e2, e3, e4, e6, e8]
  exact funext fun i => r_v96 D i
theorem value_v73 : val_main_v73 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
    = (fun i => (D.dx2 (i 0) (i 1) : EReal)) := by
  obtain ⟨e0, e1, e2, e3, e4, e5, e6, e7, e8⟩ := E
  rw [e0, e1, e2, e3, e4, e5, e6, e7, e8]
  exact funext fun i => r_v73 D i
theorem value_v97 : val_main_v97 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
    = (fun i => (D.dmix (i 0) (i 1) : EReal)) := by
  obtain ⟨e0, e1, e2, e3, e4, e5, e6, e7, e8⟩ := E
  rw [e0, e1, e2, e3, e4, e5, e6, e7, e8]
  exact funext fun i => r_v97 D i
theorem value_v56 : val_main_v56 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg8))
    = (fun i => (D.dg3 (i 1) : EReal)) := by
  obtain ⟨e0, e1, e2, e3, e4, e5, e6, e7, e8⟩ := E
  rw [e0, e1, e2, e3, e4, e5, e6, e8]
  exact funext fun i => r_v56 D i
theorem value_v77 : val_main_v77 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
    = (fun i => (D.dg2 (i 1) : EReal)) := by
  obtain ⟨e0, e1, e2, e3, e4, e5, e6, e7, e8⟩ := E
  rw [e0, e1, e2, e3, e4, e5, e6, e7, e8]
  exact funext fun i => r_v77 D i

end Cert.RFfnIdeal.Whole

namespace Cert.Proof
open Cert.FfnMath Cert.RFfnIdeal.Real

theorem rffn_frame : Cert.quiescent_RFfnIdeal (hRFfnIdeal := Cert.RFfnIdeal.Gen.facts) := by
  intro m ρ _
  exact (θ_run _ _ _).mono (fun r h => ⟨fun c => (h c).2.2.2.2.2.2.2, funext fun g => nomatch g.2⟩) (Cert.RFfnIdeal.Value.run (F := Ideal) m ρ)

/-- The real arrays on a device. -/
def ffnData (m : (ℓ : Loc Cert.FfnIdeal.nD Cert.FfnIdeal.τ Cert.FfnIdeal.sig) → Buf (Elt Ideal) ℓ) (c : Dev Cert.FfnIdeal.nD) : Data :=
  Cert.Pre_all_finite.Decode.data (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))

theorem ffn_args (m : (ℓ : Loc Cert.FfnIdeal.nD Cert.FfnIdeal.τ Cert.FfnIdeal.sig) → Buf (Elt Ideal) ℓ)
    (h : Cert.Pre_FfnIdeal_all_finite (hPre_all_finite := Cert.Pre_all_finite.Gen.facts) m) (c : Dev Cert.FfnIdeal.nD) :
    Cert.FfnIdeal.Whole.Args m c (ffnData m c) := by
  obtain ⟨h0, h1, h2, h3, h4, h5, h6, h7, h8⟩ := Cert.Pre_all_finite.Decode.reals _ _ _ _ _ _ _ _ _ (h c)
  exact ⟨funext fun i => (h0 i).trans (by rw [Cert.Pre_all_finite.Decode.two_eq i]; rfl), funext fun i => (h1 i).trans (by rw [Cert.Pre_all_finite.Decode.two_eq i]; rfl),
    funext fun i => (h2 i).trans (by rw [Cert.Pre_all_finite.Decode.one_eq i]; rfl), funext fun i => (h3 i).trans (by rw [Cert.Pre_all_finite.Decode.one_eq i]; rfl),
    funext fun i => (h4 i).trans (by rw [Cert.Pre_all_finite.Decode.two_eq i]; rfl), funext fun i => (h5 i).trans (by rw [Cert.Pre_all_finite.Decode.two_eq i]; rfl),
    funext fun i => (h6 i).trans (by rw [Cert.Pre_all_finite.Decode.two_eq i]; rfl), funext fun i => (h7 i).trans (by rw [Cert.Pre_all_finite.Decode.two_eq i]; rfl),
    funext fun i => (h8 i).trans (by rw [Cert.Pre_all_finite.Decode.two_eq i]; rfl)⟩

theorem ffn_same : Cert.algebraic_FfnIdeal_RFfnIdeal_pre_all_finite (hFfnIdeal := Cert.FfnIdeal.Gen.facts) (hRFfnIdeal := Cert.RFfnIdeal.Gen.facts)
    (hPre_all_finite := Cert.Pre_all_finite.Gen.facts) := by
  intro m g m' g' hp hagree
  let D : (c : Dev Cert.FfnIdeal.nD) → Data := fun c => ffnData m c
  have A : ∀ c, Cert.FfnIdeal.Whole.Args m c (D c) := fun c => ffn_args m hp c
  refine ⟨fun c => (fun i => ((D c).act (i 0) (i 1) : EReal)),
    fun c => (fun i => ((D c).dgate (i 0) (i 1) : EReal)),
    fun c => (fun i => ((D c).dup (i 0) (i 1) : EReal)),
    fun c => (fun i => ((D c).dx2 (i 0) (i 1) : EReal)),
    fun c => (fun i => ((D c).dmix (i 0) (i 1) : EReal)),
    fun c => (fun i => ((D c).dg3 (i 1) : EReal)),
    fun c => (fun i => ((D c).dg2 (i 1) : EReal)),
    Cert.FfnIdeal.Whole.run m g D A, (θ_run _ _ _).mono (fun r h c => ?_) (Cert.RFfnIdeal.Value.run (F := Ideal) m' g')⟩
  obtain ⟨e0, e1, e2, e3, e4, e5, e6, e7, e8⟩ := hagree c
  have E : Cert.RFfnIdeal.Whole.Args m' c (D c) := ⟨e0.trans (A c).a0, e1.trans (A c).a1, e2.trans (A c).a2, e3.trans (A c).a3, e4.trans (A c).a4,
    e5.trans (A c).a5, e6.trans (A c).a6, e7.trans (A c).a7, e8.trans (A c).a8⟩
  obtain ⟨h0, h1, h2, h3, h4, h5, h6, hargs⟩ := h c
  exact ⟨h0.trans ((Cert.RFfnIdeal.Read.val_main_v94_eq _).trans (Cert.RFfnIdeal.Whole.value_v94 m' c (D c) E)), h1.trans ((Cert.RFfnIdeal.Read.val_main_v95_eq _).trans (Cert.RFfnIdeal.Whole.value_v95 m' c (D c) E)), h2.trans ((Cert.RFfnIdeal.Read.val_main_v96_eq _).trans (Cert.RFfnIdeal.Whole.value_v96 m' c (D c) E)), h3.trans ((Cert.RFfnIdeal.Read.val_main_v73_eq _).trans (Cert.RFfnIdeal.Whole.value_v73 m' c (D c) E)), h4.trans ((Cert.RFfnIdeal.Read.val_main_v97_eq _).trans (Cert.RFfnIdeal.Whole.value_v97 m' c (D c) E)), h5.trans ((Cert.RFfnIdeal.Read.val_main_v56_eq _).trans (Cert.RFfnIdeal.Whole.value_v56 m' c (D c) E)), h6.trans ((Cert.RFfnIdeal.Read.val_main_v77_eq _).trans (Cert.RFfnIdeal.Whole.value_v77 m' c (D c) E)), hargs⟩

end Cert.Proof

end
-- ==== Proof.NormMath.lean ====
module
public import proofs.«01_k».proof.Proof.FfnMath
@[expose] public section
noncomputable section
open Idealize.ShloMosaic
namespace Cert.NormMath
open Cert.FfnMath

/-! # The normalisation of a row of extended reals, and its gradient -/

def msE (v : Fin 1024 → EReal) : EReal := Ideal.div (∑ k, v k * v k) (Ideal.ofBits .f32 0x44800000#32) + Ideal.ofBits .f32 0x358637BD#32
def rE (v : Fin 1024 → EReal) : EReal := Ideal.rsqrt (msE v)
def normE (v g : Fin 1024 → EReal) (j : Fin 1024) : EReal := v j * rE v * g j

/-- The gradient in the row, as the kernel writes it. -/
def backE (v g d : Fin 1024 → EReal) (j : Fin 1024) : EReal :=
  rE v * (d j * g j - v j * rE v * Ideal.div (∑ k, d k * g k * (v k * rE v)) (Ideal.ofBits .f32 0x44800000#32))

/-- What differentiation of the mean and of the root multiplies the row with. -/
def halfE (v g d : Fin 1024 → EReal) : EReal :=
  Ideal.div ((∑ k, v k * (d k * g k)) * (Ideal.ofBits .f32 0xBF000000#32 * Ideal.div (rE v) (msE v))) (Ideal.ofBits .f32 0x44800000#32)

theorem mul_self_nonneg' (a : EReal) : 0 ≤ a * a := by
  induction a using EReal.rec with
  | bot => simp
  | top => simp
  | coe x => rw [← EReal.coe_mul]; exact_mod_cast mul_self_nonneg x

theorem rE_coe (u : Fin 1024 → ℝ) : rE (fun k => (u k : EReal)) = (rs u : EReal) := by
  unfold rE msE
  simp only [← EReal.coe_mul, coe_sum]
  exact rms_kernel u

theorem msE_coe (u : Fin 1024 → ℝ) : msE (fun k => (u k : EReal)) = (ms u : EReal) := by
  unfold msE
  simp only [← EReal.coe_mul, coe_sum]
  rw [div_1024, ofBits_eps, ← EReal.coe_add]
  rfl

theorem rs_pos (u : Fin 1024 → ℝ) : 0 < rs u := by
  unfold rs
  exact inv_pos.mpr (Real.sqrt_pos.mpr (ms_pos u))

theorem div_1024_mul (x : EReal) : Ideal.div x (Ideal.ofBits .f32 0x44800000#32) = x * ((1 / 1024 : ℝ) : EReal) := by
  rw [ofBits_1024, Ideal.div_coe (by norm_num)]

theorem msE_top (v : Fin 1024 → EReal) (k : Fin 1024) (h : v k * v k = ⊤) : msE v = ⊤ := by
  have e : ∑ k, v k * v k = ⊤ := by
    refine top_le_iff.mp (h ▸ ?_)
    exact Finset.single_le_sum (f := fun k => v k * v k) (fun i _ => mul_self_nonneg' (v i)) (Finset.mem_univ k)
  unfold msE
  rw [e, div_1024_mul, EReal.top_mul_coe_of_pos (by norm_num), ofBits_eps, EReal.top_add_coe]

theorem rE_top (v : Fin 1024 → EReal) (k : Fin 1024) (h : v k * v k = ⊤) : rE v = 0 := by
  unfold rE
  rw [msE_top v k h]
  rfl

theorem coe_pos_mul_sum {ι : Type} (s : Finset ι) (r : ℝ) (hr : 0 < r) (f : ι → EReal) : ∑ i ∈ s, (r : EReal) * f i = (r : EReal) * ∑ i ∈ s, f i := by
  classical
  induction s using Finset.induction_on with
  | empty => simp
  | insert a s h ih =>
    rw [Finset.sum_insert h, Finset.sum_insert h, ih, EReal.left_distrib_of_nonneg_of_ne_top (by exact_mod_cast hr.le) (EReal.coe_ne_top r)]

theorem mul_add_self (S : EReal) (p : ℝ) : S * (p : EReal) + S * (p : EReal) = S * ((p + p : ℝ) : EReal) := by
  induction S using EReal.rec with
  | coe x => simp only [← EReal.coe_mul, ← EReal.coe_add]; congr 1; ring
  | bot =>
    rcases lt_trichotomy p 0 with h | h | h
    · rw [EReal.bot_mul_coe_of_neg h, EReal.bot_mul_coe_of_neg (by linarith)]; rfl
    · simp [h]
    · rw [EReal.bot_mul_coe_of_pos h, EReal.bot_mul_coe_of_pos (by linarith)]; rfl
  | top =>
    rcases lt_trichotomy p 0 with h | h | h
    · rw [EReal.top_mul_coe_of_neg h, EReal.top_mul_coe_of_neg (by linarith)]; rfl
    · simp [h]
    · rw [EReal.top_mul_coe_of_pos h, EReal.top_mul_coe_of_pos (by linarith)]; rfl

/-- The two ways of writing the gradient agree, also when entries of the row or of the cotangent are infinite. -/
theorem back_all (y : EReal) (v g d : Fin 1024 → EReal) (j : Fin 1024) :
    y + d j * g j * rE v + v j * halfE v g d + halfE v g d * v j = y + backE v g d j := by
  by_cases hv : ∃ k, v k * v k = ⊤
  · obtain ⟨k, hk⟩ := hv
    have h0 : halfE v g d = 0 := by
      unfold halfE
      rw [rE_top v k hk, msE_top v k hk, div_1024_mul]
      simp [Ideal.div]
    unfold backE
    rw [h0, rE_top v k hk]
    simp
  · have hr : ∀ k, ∃ u : ℝ, v k = (u : EReal) := fun k => by
      have h := not_exists.mp hv k
      revert h
      induction v k using EReal.rec with
      | bot => intro h; exact absurd rfl h
      | top => intro h; exact absurd rfl h
      | coe x => exact fun _ => ⟨x, rfl⟩
    choose u hu using hr
    obtain rfl : v = fun k => (u k : EReal) := funext hu
    have e : ∑ k, d k * g k * ((u k : EReal) * (rs u : EReal)) = (rs u : EReal) * ∑ k, (u k : EReal) * (d k * g k) := by
      rw [← coe_pos_mul_sum _ _ (rs_pos u)]
      exact Finset.sum_congr rfl fun k _ => by rw [mul_comm, mul_comm (u k : EReal), mul_assoc]
    unfold backE halfE
    simp only [rE_coe, msE_coe, div_1024_mul, ofBits_neg_half]
    rw [e, div_coe_coe _ _ (ms_pos u).ne', ← EReal.coe_mul]
    generalize ∑ k, (u k : EReal) * (d k * g k) = S
    have hm : rs u / ms u = rs u * (rs u * rs u) := by rw [rs_sq, div_eq_mul_inv]
    have a1 : (u j : EReal) * (S * ((-(1 / 2) * (rs u / ms u) : ℝ) : EReal) * ((1 / 1024 : ℝ) : EReal))
        = S * ((-(1 / 2) * (rs u / ms u) * (1 / 1024) * u j : ℝ) : EReal) := by
      rw [mul_comm, mul_assoc, mul_assoc, ← EReal.coe_mul, ← EReal.coe_mul]
      congr 2
      ring
    have a2 : S * ((-(1 / 2) * (rs u / ms u) : ℝ) : EReal) * ((1 / 1024 : ℝ) : EReal) * (u j : EReal)
        = S * ((-(1 / 2) * (rs u / ms u) * (1 / 1024) * u j : ℝ) : EReal) := by
      rw [mul_assoc, mul_assoc, ← EReal.coe_mul, ← EReal.coe_mul]
      congr 2
      ring
    have a3 : (u j : EReal) * (rs u : EReal) * ((rs u : EReal) * S * ((1 / 1024 : ℝ) : EReal)) = S * ((u j * rs u * rs u * (1 / 1024) : ℝ) : EReal) := by
      rw [mul_comm (rs u : EReal) S, mul_assoc S, mul_left_comm, ← EReal.coe_mul, ← EReal.coe_mul, ← EReal.coe_mul]
      congr 2
      ring
    rw [a1, a2, a3, add_assoc, mul_add_self, sub_eq_add_neg, EReal.left_distrib_of_nonneg_of_ne_top (by exact_mod_cast (rs_pos u).le) (EReal.coe_ne_top _),
      ← add_assoc, mul_comm (d j * g j)]
    congr 1
    rw [← mul_neg, ← EReal.coe_neg, mul_left_comm, ← EReal.coe_mul]
    congr 2
    rw [hm]
    ring

theorem back_only (v g d : Fin 1024 → EReal) (j : Fin 1024) :
    d j * g j * rE v + v j * halfE v g d + halfE v g d * v j = backE v g d j := by
  have h := back_all 0 v g d j
  simpa only [zero_add] using h

section ops
variable {f : FTy} {a b : Ideal f} {x y : EReal}
theorem mul_e (ha : a = x) (hb : b = y) : FloatOps.mulf a b = x * y := by rw [ha, hb]; rfl
theorem add_e (ha : a = x) (hb : b = y) : FloatOps.addf a b = x + y := by rw [ha, hb]; rfl
theorem sub_e (ha : a = x) (hb : b = y) : FloatOps.subf a b = x - y := by rw [ha, hb]; rfl
theorem div_e (ha : a = x) (hb : b = y) : FloatOps.hostDivf a b = Ideal.div x y := by rw [ha, hb]; rfl
theorem rsqrt_e (ha : a = x) : FloatOps.hostUnary .rsqrt a = Ideal.rsqrt x := by rw [ha]; rfl
theorem zero_e : Ideal.ofBits .f32 0x00000000#32 = 0 := ofBits_zero.trans EReal.coe_zero
theorem of_eq {c u w : EReal} (h : c = u) (e : u = w) : c = w := h.trans e
theorem sum_e {n : Nat} {z : EReal} {g w : Fin n → EReal} (hz : z = 0) (h : ∀ k, g k = w k) : z + ∑ k, g k = ∑ k, w k := by
  rw [hz, zero_add]; exact Finset.sum_congr rfl fun k _ => h k
theorem dot_e {n : Nat} {g g' w w' : Fin n → EReal} (h : ∀ k, g k = w k) (h' : ∀ k, g' k = w' k) : ∑ k, g k * g' k = ∑ k, w k * w' k :=
  Finset.sum_congr rfl fun k _ => by rw [h, h']
theorem cast_row (i : (⟨2, ![1, 1024]⟩ : Shape).Idx) : (i 0).val * 1024 + (i 1).val = (i 1).val := by
  have h : (i 0).val < 1 := (i 0).isLt
  omega
theorem cast_col (i : (⟨2, ![8192, 1]⟩ : Shape).Idx) : (i 0).val * 1 + (i 1).val = (i 0).val := by
  have h : (i 1).val < 1 := (i 1).isLt
  omega
end ops

end Cert.NormMath
end
-- ==== Proof.LossDown.lean ====
module
public import proofs.«01_k».proof.Proof.Gen.LossIdeal.Frame
public import proofs.«01_k».proof.Proof.Gen.LossIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.LossIdeal.Down
open Cert.LossIdeal Cert.LossIdeal.Gen Cert.FfnMath Cert.NormMath

/-! # The product with w_down, the normalisation after it, the loss and its gradient -/

theorem ofBits_half : Ideal.ofBits .f32 0x3F000000#32 = ((1 / 2 : ℝ) : EReal) := by
  simp [Ideal.ofBits, Ideal.ieee, -EReal.coe_mul, -EReal.coe_neg]
  norm_num

theorem ofBits_two : Ideal.ofBits .f32 0x40000000#32 = ((2 : ℝ) : EReal) := by
  simp [Ideal.ofBits, Ideal.ieee, -EReal.coe_mul, -EReal.coe_neg]
  norm_num

theorem ofBits_1_1024 : Ideal.ofBits .f32 0x3A800000#32 = ((1 / 1024 : ℝ) : EReal) := by
  simp [Ideal.ofBits, Ideal.ieee, -EReal.coe_mul, -EReal.coe_neg]
  norm_num

/-- The product, its difference to the target after the normalisation, and the cotangent of the row. -/
def prod (A : Fin 8192 → Fin 2816 → EReal) (W : Fin 2816 → Fin 1024 → EReal) (i : Fin 8192) (j : Fin 1024) : EReal := ∑ l : Fin 2816, A i l * W l j
def errOf (f g x t : Fin 1024 → EReal) (j : Fin 1024) : EReal := x j + normE f g j - t j
def dyOf (f g x t : Fin 1024 → EReal) (j : Fin 1024) : EReal := errOf f g x t j * Ideal.ofBits .f32 0x3A800000#32
def meanOf (e : Fin 1024 → EReal) : EReal := Ideal.div (∑ k, e k * e k) (Ideal.ofBits .f32 0x44800000#32)

section pay
variable {a : Vec Ideal S512x2816 .bf16} {b : Vec Ideal S2816x1024 .bf16} {vg : Vec Ideal S1x1024 .f32} {vx vt : Vec Ideal S512x1024 .f32}
  {vf ve : FVec Ideal S512x1024 .f32}
  {p : Fin 512 → Fin 2816 → EReal} {w : Fin 2816 → Fin 1024 → EReal} {f e x t : Fin 512 → Fin 1024 → EReal} {g : Fin 1024 → EReal}

theorem pay8_at (ha : ∀ r k, a (ix2 r k) = p r k) (hb : ∀ r k, b (ix2 r k) = w r k) (r : Fin 512) (j : Fin 1024) :
    (k0_pay8 (F := Ideal) a b) (ix2 r j) = ∑ l : Fin 2816, p r l * w l j := by
  unfold k0_pay8
  pointwise
  show ∑ l : Fin 2816, a (ix2 r l) * b (ix2 l j) = _
  simp only [ha, hb]

theorem pay9_at (ha : ∀ r k, (k0_pay8 (F := Ideal) a b) (ix2 r k) = f r k) (hg : ∀ k, vg (ix2 0 k) = g k) (hx : ∀ r k, vx (ix2 r k) = x r k)
    (ht : ∀ r k, vt (ix2 r k) = t r k) (r : Fin 512) (j : Fin 1024) :
    (k0_pay9 (F := Ideal) a b vg vx vt) (ix2 r j) = errOf (f r) g (x r) (t r) j := by
  unfold k0_pay9
  pointwise
  show vx (ix2 r j) + k0_pay8 a b (ix2 r j) * Ideal.rsqrt (Ideal.div (∑ k : Fin 1024, k0_pay8 a b (ix2 r k) * k0_pay8 a b (ix2 r k)) (Ideal.ofBits .f32 0x44800000#32) + Ideal.ofBits .f32 0x358637BD#32) * vg (ix2 0 j) - vt (ix2 r j) = _
  simp only [ha, hg, hx, ht]
  rfl

theorem pay10_at (he : ∀ r k, (k0_pay9 (F := Ideal) a b vg vx vt) (ix2 r k) = e r k) (acc : Vec Ideal S1x1 .f32) (j : Fin 1) :
    (k0_pay10 (F := Ideal) a b vg vx vt acc) (ix2 0 j) = acc (ix2 0 j) + Ideal.ofBits .f32 0x3F000000#32 * ∑ r : Fin 512, meanOf (e r) := by
  unfold k0_pay10
  pointwise
  show acc (ix2 0 j) + Ideal.ofBits .f32 0x3F000000#32 * ∑ r : Fin 512, Ideal.div (∑ k : Fin 1024, k0_pay9 a b vg vx vt (ix2 r k) * k0_pay9 a b vg vx vt (ix2 r k)) (Ideal.ofBits .f32 0x44800000#32) = _
  simp only [he]
  rfl

theorem pay1_at (he : ∀ r k, ve (ix2 r k) = e r k) (r : Fin 512) (j : Fin 1024) :
    (k0_pay1 (F := Ideal) ve) (ix2 r j) = e r j * Ideal.ofBits .f32 0x3A800000#32 := by
  unfold k0_pay1
  pointwise
  show ve (ix2 r j) * Ideal.ofBits .f32 0x3A800000#32 = _
  rw [he]

theorem pay2_at (hf : ∀ r k, vf (ix2 r k) = f r k) (r : Fin 512) : (k0_pay2 (F := Ideal) vf) (ix2 r 0) = rE (f r) := by
  unfold k0_pay2
  pointwise
  show Ideal.rsqrt (Ideal.div (∑ k : Fin 1024, vf (ix2 r k) * vf (ix2 r k)) (Ideal.ofBits .f32 0x44800000#32) + Ideal.ofBits .f32 0x358637BD#32) = _
  simp only [hf]
  rfl

theorem pay3_at (hf : ∀ r k, vf (ix2 r k) = f r k) (r : Fin 512) (j : Fin 1024) : (k0_pay3 (F := Ideal) vf) (ix2 r j) = f r j * rE (f r) := by
  unfold k0_pay3
  pointwise
  show vf (ix2 r j) * k0_pay2 vf (ix2 r 0) = _
  rw [hf, pay2_at hf]

theorem pay4_at (hf : ∀ r k, vf (ix2 r k) = f r k) (he : ∀ r k, ve (ix2 r k) = e r k) (acc : Vec Ideal S1x1024 .f32) (j : Fin 1024) :
    (k0_pay4 (F := Ideal) vf ve acc) (ix2 0 j) = acc (ix2 0 j) + ∑ r : Fin 512, e r j * Ideal.ofBits .f32 0x3A800000#32 * (f r j * rE (f r)) := by
  unfold k0_pay4
  pointwise
  show acc (ix2 0 j) + ∑ r : Fin 512, k0_pay1 ve (ix2 r j) * k0_pay3 vf (ix2 r j) = _
  simp only [pay1_at he, pay3_at hf]

theorem pay5_at (hf : ∀ r k, vf (ix2 r k) = f r k) (he : ∀ r k, ve (ix2 r k) = e r k) (hg : ∀ k, vg (ix2 0 k) = g k) (r : Fin 512) (j : Fin 1024) :
    (k0_pay5 (F := Ideal) vf vg ve) (ix2 r j) = backE (f r) g (fun k => e r k * Ideal.ofBits .f32 0x3A800000#32) j := by
  unfold k0_pay5
  pointwise
  show k0_pay2 vf (ix2 r 0) * (k0_pay1 ve (ix2 r j) * vg (ix2 0 j) - k0_pay3 vf (ix2 r j) *
      Ideal.div (∑ k : Fin 1024, k0_pay1 ve (ix2 r k) * vg (ix2 0 k) * k0_pay3 vf (ix2 r k)) (Ideal.ofBits .f32 0x44800000#32)) = _
  simp only [pay2_at hf, pay3_at hf, pay1_at he, hg]
  rfl

theorem pay6_at (i : S1x1024.Idx) : (k0_pay6 (F := Ideal)) i = 0 := by
  unfold k0_pay6
  pointwise

theorem pay7_at (i : S1x1.Idx) : (k0_pay7 (F := Ideal)) i = 0 := by
  unfold k0_pay7
  pointwise
end pay

/-- The call's arguments. -/
structure Data where
  A : Fin 8192 → Fin 2816 → EReal
  W : Fin 2816 → Fin 1024 → EReal
  X : Fin 8192 → Fin 1024 → EReal
  G : Fin 1024 → EReal
  T : Fin 8192 → Fin 1024 → EReal

namespace Data
variable (D : Data)
def F (i : Fin 8192) (j : Fin 1024) : EReal := prod D.A D.W i j
def err (i : Fin 8192) (j : Fin 1024) : EReal := errOf (D.F i) D.G (D.X i) (D.T i) j
def dy (i : Fin 8192) (j : Fin 1024) : EReal := D.err i j * Ideal.ofBits .f32 0x3A800000#32
def df (i : Fin 8192) (j : Fin 1024) : EReal := backE (D.F i) D.G (D.dy i) j
def dg (j : Fin 1024) : EReal := ∑ i, D.dy i j * (D.F i j * rE (D.F i))
def loss (_ : Fin 1) : EReal := Ideal.ofBits .f32 0x3F000000#32 * ∑ i, meanOf (D.err i)
end Data

variable (m : (ℓ : Loc nD τ sig) → Buf (Elt Ideal) ℓ) (c : Dev nD)

theorem row_lt (t : Fin cfg0.N) (r : Fin 512) : t.val * 512 + r.val < 8192 := by
  have := lt_of_lt_of_eq t.isLt (show cfg0.N = 16 from N_0)
  omega

/-- The token a block's row holds. -/
def row (t : Fin cfg0.N) (r : Fin 512) : Fin 8192 := ⟨t.val * 512 + r.val, row_lt t r⟩

theorem row_sum (t : Fin cfg0.N) (h : t.val % 16 = 16 - 1) (s : Fin 16) (k : Fin 512) (hl : s.val * 512 + k.val < 8192)
    (hs : 16 * (t.val / 16) + s.val < cfg0.N) : row ⟨16 * (t.val / 16) + s.val, hs⟩ k = ⟨s.val * 512 + k.val, hl⟩ := Fin.ext (by
  have := lt_of_lt_of_eq t.isLt (show cfg0.N = 16 from N_0)
  show (16 * (t.val / 16) + s.val) * 512 + k.val = s.val * 512 + k.val
  omega)
theorem index_0 : ∀ t : Fin cfg0.N, (cfg0.win 0).index t = ![t.val, 0] := by decide +kernel
abbrev matA : Fin 8192 → Fin 2816 → EReal := fun i j => (m ((c : Thread nD τ).loc main_arg0) : S8192x2816.Idx → EReal) (ix2 i j)
def blockA (t : Fin cfg0.N) : S512x2816.Idx → EReal := iblk m c 0 t
theorem atA (t : Fin cfg0.N) (r : Fin 512) (k : Fin 2816) : blockA m c t (ix2 r k) = matA m c (row t r) k := by
  unfold blockA
  have hk : (row t r).val = t.val * 512 + r.val := rfl
  blk_ext [iblk, index_0 t]

theorem index_1 : ∀ t : Fin cfg0.N, (cfg0.win 1).index t = ![0, 0] := by decide +kernel
abbrev matW : Fin 2816 → Fin 1024 → EReal := fun i j => (m ((c : Thread nD τ).loc main_arg1) : S2816x1024.Idx → EReal) (ix2 i j)
def blockW (t : Fin cfg0.N) : S2816x1024.Idx → EReal := iblk m c 1 t
theorem atW (t : Fin cfg0.N) (r : Fin 2816) (k : Fin 1024) : blockW m c t (ix2 r k) = matW m c r k := by
  unfold blockW
  blk_ext [iblk, index_1 t]

theorem index_2 : ∀ t : Fin cfg0.N, (cfg0.win 2).index t = ![t.val, 0] := by decide +kernel
abbrev matX : Fin 8192 → Fin 1024 → EReal := fun i j => (m ((c : Thread nD τ).loc main_arg2) : S8192x1024.Idx → EReal) (ix2 i j)
def blockX (t : Fin cfg0.N) : S512x1024.Idx → EReal := iblk m c 2 t
theorem atX (t : Fin cfg0.N) (r : Fin 512) (k : Fin 1024) : blockX m c t (ix2 r k) = matX m c (row t r) k := by
  unfold blockX
  have hk : (row t r).val = t.val * 512 + r.val := rfl
  blk_ext [iblk, index_2 t]

theorem index_3 : ∀ t : Fin cfg0.N, (cfg0.win 3).index t = ![0, 0] := by decide +kernel
abbrev matG : Fin 1 → Fin 1024 → EReal := fun i j => (m ((c : Thread nD τ).loc main_arg3) : S1x1024.Idx → EReal) (ix2 i j)
def blockG (t : Fin cfg0.N) : S1x1024.Idx → EReal := iblk m c 3 t
theorem atG (t : Fin cfg0.N) (r : Fin 1) (k : Fin 1024) : blockG m c t (ix2 r k) = matG m c r k := by
  unfold blockG
  blk_ext [iblk, index_3 t]

theorem index_4 : ∀ t : Fin cfg0.N, (cfg0.win 4).index t = ![t.val, 0] := by decide +kernel
abbrev matT : Fin 8192 → Fin 1024 → EReal := fun i j => (m ((c : Thread nD τ).loc main_arg4) : S8192x1024.Idx → EReal) (ix2 i j)
def blockT (t : Fin cfg0.N) : S512x1024.Idx → EReal := iblk m c 4 t
theorem atT (t : Fin cfg0.N) (r : Fin 512) (k : Fin 1024) : blockT m c t (ix2 r k) = matT m c (row t r) k := by
  unfold blockT
  have hk : (row t r).val = t.val * 512 + r.val := rfl
  blk_ext [iblk, index_4 t]

theorem index_5 : ∀ t : Fin cfg0.N, (cfg0.win 5).index t = ![t.val, 0] := by decide +kernel
theorem index_6 : ∀ t : Fin cfg0.N, (cfg0.win 6).index t = ![t.val, 0] := by decide +kernel
theorem index_7 : ∀ t : Fin cfg0.N, (cfg0.win 7).index t = ![0, 0] := by decide +kernel
theorem index_8 : ∀ t : Fin cfg0.N, (cfg0.win 8).index t = ![0, 0] := by decide +kernel

def data : Data where
  A := matA m c
  W := matW m c
  X := matX m c
  G := matG m c 0
  T := matT m c

theorem atF (t : Fin cfg0.N) (r : Fin 512) (k : Fin 1024) : (k0_pay8 (F := Ideal) (blockA m c t) (blockW m c t)) (ix2 r k) = (data m c).F (row t r) k :=
  pay8_at (atA m c t) (atW m c t) r k

theorem atE (t : Fin cfg0.N) (r : Fin 512) (k : Fin 1024) :
    (k0_pay9 (F := Ideal) (blockA m c t) (blockW m c t) (blockG m c t) (blockX m c t) (blockT m c t)) (ix2 r k) = (data m c).err (row t r) k :=
  pay9_at (atF m c t) (atG m c t 0) (atX m c t) (atT m c t) r k

theorem after_5 (t : Fin cfg0.N) (r : Fin 512) (k : Fin 1024) : (dats m 0 c).after 5 t (ix2 r k) = (data m c).df (row t r) k := by
  rw [after0_5]
  by_cases h : t.val % 16 = 0
  · rw [outsAt0_A m c t h]
    frame_out
    exact pay5_at (atF m c t) (atE m c t) (atG m c t 0) r k
  · rw [outsAt0_B m c t h]
    frame_out
    exact pay5_at (atF m c t) (atE m c t) (atG m c t 0) r k

theorem array_5 : (dats m 0 c).arrAt 5 cfg0.N = (fun i => (data m c).df (i 0) (i 1) : S8192x1024.Idx → EReal) := by
  refine Dat.arrAt_eq_of_covers (dats m 0 c) 5 _ (by decide +kernel) fun t hf y => ?_
  have e : (dats m 0 c).after 5 t y = (data m c).df (row t (y 0)) (y 1) :=
    (congrArg ((dats m 0 c).after 5 t) (ix2_eta y).symm).trans (after_5 m c t (y 0) (y 1))
  blk_simp
  rw [e]
  refine congrArg₂ (fun (a : Fin 8192) (b : Fin 1024) => (data m c).df a b) (Fin.ext ?_) (Fin.ext ?_) <;> blk_simp [index_5 t] <;> rfl

theorem after_6 (t : Fin cfg0.N) (r : Fin 512) (k : Fin 1024) : (dats m 0 c).after 6 t (ix2 r k) = (data m c).dy (row t r) k := by
  rw [after0_6]
  by_cases h : t.val % 16 = 0
  · rw [outsAt0_A m c t h]
    frame_out
    exact pay1_at (atE m c t) r k
  · rw [outsAt0_B m c t h]
    frame_out
    exact pay1_at (atE m c t) r k

theorem array_6 : (dats m 0 c).arrAt 6 cfg0.N = (fun i => (data m c).dy (i 0) (i 1) : S8192x1024.Idx → EReal) := by
  refine Dat.arrAt_eq_of_covers (dats m 0 c) 6 _ (by decide +kernel) fun t hf y => ?_
  have e : (dats m 0 c).after 6 t y = (data m c).dy (row t (y 0)) (y 1) :=
    (congrArg ((dats m 0 c).after 6 t) (ix2_eta y).symm).trans (after_6 m c t (y 0) (y 1))
  blk_simp
  rw [e]
  refine congrArg₂ (fun (a : Fin 8192) (b : Fin 1024) => (data m c).dy a b) (Fin.ext ?_) (Fin.ext ?_) <;> blk_simp [index_6 t] <;> rfl

theorem first_7 (t : Fin cfg0.N) (h : t.val % 16 = 0) (j : Fin 1024) :
    (outsAt0 m c t.val t.isLt).2.2.1 (ix2 0 j) = 0 + ∑ r : Fin 512, (data m c).dy (row t r) j * ((data m c).F (row t r) j * rE ((data m c).F (row t r))) := by
  rw [outsAt0_A m c t h]
  frame_out
  exact (pay4_at (atF m c t) (atE m c t) _ j).trans (congrArg (fun a : EReal => a + _) (pay6_at _))

theorem next_7 (t : Fin cfg0.N) (h : ¬t.val % 16 = 0) (j : Fin 1024) :
    (outsAt0 m c t.val t.isLt).2.2.1 (ix2 0 j)
      = (outsAt0 m c (t.val - 1) (Nat.lt_of_le_of_lt (Nat.sub_le _ _) t.isLt)).2.2.1 (ix2 0 j) + ∑ r : Fin 512, (data m c).dy (row t r) j * ((data m c).F (row t r) j * rE ((data m c).F (row t r))) := by
  rw [outsAt0_B m c t h]
  frame_out
  exact pay4_at (atF m c t) (atE m c t) _ j

theorem sum_7 (t : Fin cfg0.N) (h : t.val % 16 = 16 - 1) (j : Fin 1024) : (outsAt0 m c t.val t.isLt).2.2.1 (ix2 0 j) = (data m c).dg j := by
  refine (eq_sum_fin_of_reset_step_apply_of_flush (fun n h (j : Fin 1024) => ((outsAt0 m c n h).2.2.1 (ix2 0 j) : EReal)) 16 (fun _ => 0)
    (fun t j => ∑ r : Fin 512, (data m c).dy (row t r) j * ((data m c).F (row t r) j * rE ((data m c).F (row t r)))) (first_7 m c) (next_7 m c) t h j).trans ?_
  rw [zero_add]
  unfold Data.dg
  refine Fin.sum_mul_add_congr fun s k hl => ?_
  rw [row_sum t h s k hl]

theorem array_7 : (dats m 0 c).arrAt 7 cfg0.N = (fun i => (data m c).dg (i 1) : S1x1024.Idx → EReal) := by
  refine Dat.arrAt_eq_of_covers (dats m 0 c) 7 _ (by decide +kernel) fun t hf y => ?_
  have h7 : t.val % 16 = 16 - 1 := (flush0_7 t).mp hf
  have hy : y = ix2 0 (y 1) := by
    funext a
    match a with
    | ⟨0, _⟩ => exact Fin.ext (Nat.lt_one_iff.mp (y 0).isLt)
    | ⟨1, _⟩ => rfl
  have e : (dats m 0 c).after 7 t y = (data m c).dg (y 1) := by
    rw [after0_7]
    exact (congrArg ((outsAt0 m c t.val t.isLt).2.2.1) hy).trans (sum_7 m c t h7 (y 1))
  blk_simp
  rw [e]
  refine congrArg (fun a : Fin 1024 => (data m c).dg a) (Fin.ext ?_)
  blk_simp [index_7 t]

theorem first_8 (t : Fin cfg0.N) (h : t.val % 16 = 0) (j : Fin 1) :
    (outsAt0 m c t.val t.isLt).2.2.2 (ix2 0 j) = 0 + Ideal.ofBits .f32 0x3F000000#32 * ∑ r : Fin 512, meanOf ((data m c).err (row t r)) := by
  rw [outsAt0_A m c t h]
  frame_out
  exact (pay10_at (atE m c t) _ j).trans (congrArg (fun a : EReal => a + _) (pay7_at _))

theorem next_8 (t : Fin cfg0.N) (h : ¬t.val % 16 = 0) (j : Fin 1) :
    (outsAt0 m c t.val t.isLt).2.2.2 (ix2 0 j)
      = (outsAt0 m c (t.val - 1) (Nat.lt_of_le_of_lt (Nat.sub_le _ _) t.isLt)).2.2.2 (ix2 0 j) + Ideal.ofBits .f32 0x3F000000#32 * ∑ r : Fin 512, meanOf ((data m c).err (row t r)) := by
  rw [outsAt0_B m c t h]
  frame_out
  exact pay10_at (atE m c t) _ j

theorem sum_8 (t : Fin cfg0.N) (h : t.val % 16 = 16 - 1) (j : Fin 1) : (outsAt0 m c t.val t.isLt).2.2.2 (ix2 0 j) = (data m c).loss j := by
  refine (eq_sum_fin_of_reset_step_apply_of_flush (fun n h (j : Fin 1) => ((outsAt0 m c n h).2.2.2 (ix2 0 j) : EReal)) 16 (fun _ => 0)
    (fun t j => Ideal.ofBits .f32 0x3F000000#32 * ∑ r : Fin 512, meanOf ((data m c).err (row t r))) (first_8 m c) (next_8 m c) t h j).trans ?_
  rw [zero_add]
  rw [ofBits_half, coe_pos_mul_sum _ _ (by norm_num)]
  unfold Data.loss
  rw [ofBits_half]
  refine congrArg (fun a : EReal => ((1 / 2 : ℝ) : EReal) * a) ?_
  refine Fin.sum_mul_add_congr fun s k hl => ?_
  rw [row_sum t h s k hl]

theorem array_8 : (dats m 0 c).arrAt 8 cfg0.N = (fun i => (data m c).loss (i 1) : S1x1.Idx → EReal) := by
  refine Dat.arrAt_eq_of_covers (dats m 0 c) 8 _ (by decide +kernel) fun t hf y => ?_
  have h7 : t.val % 16 = 16 - 1 := (flush0_8 t).mp hf
  have hy : y = ix2 0 (y 1) := by
    funext a
    match a with
    | ⟨0, _⟩ => exact Fin.ext (Nat.lt_one_iff.mp (y 0).isLt)
    | ⟨1, _⟩ => rfl
  have e : (dats m 0 c).after 8 t y = (data m c).loss (y 1) := by
    rw [after0_8]
    exact (congrArg ((outsAt0 m c t.val t.isLt).2.2.2) hy).trans (sum_8 m c t h7 (y 1))
  blk_simp
  rw [e]
  refine congrArg (fun a : Fin 1 => (data m c).loss a) (Fin.ext ?_)
  blk_simp [index_8 t]

theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = (fun i => (data m c).df (i 0) (i 1) : S8192x1024.Idx → EReal)
      ∧ r.2.mem ((c : Thread nD τ).loc main_v0_1) = (fun i => (data m c).dy (i 0) (i 1) : S8192x1024.Idx → EReal)
      ∧ r.2.mem ((c : Thread nD τ).loc main_v0_2) = (fun i => (data m c).dg (i 1) : S1x1024.Idx → EReal)
      ∧ r.2.mem ((c : Thread nD τ).loc main_v0_3) = (fun i => (data m c).loss (i 1) : S1x1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => by
    obtain ⟨h5, h6, h7, h8, hr⟩ := h c
    exact ⟨h5.trans (array_5 m c), h6.trans (array_6 m c), h7.trans (array_7 m c), h8.trans (array_8 m c), hr⟩) (Value.run_blocks (F := Ideal) m ρ)

end Cert.LossIdeal.Down
end
-- ==== Proof.LossRef.lean ====
module
public import proofs.«01_k».proof.Proof.Gen.RLossIdeal.Read
public import proofs.«01_k».proof.Proof.LossDown
@[expose] public section
set_option maxRecDepth 16384
noncomputable section
open Idealize.ShloMosaic Idealize.ShloMosaic.TcCoe Idealize.SL.Sem
namespace Cert.RLossIdeal.Whole
open Cert.RLossIdeal Cert.RLossIdeal.Gen Cert.RLossIdeal.Read Cert.FfnMath Cert.NormMath Cert.LossIdeal.Down

/-! # The reference of the loss and its gradient -/

theorem ofBits_1 : Ideal.ofBits .f32 0x3F800000#32 = ((1 : ℝ) : EReal) := by
  simp [Ideal.ofBits, Ideal.ieee, -EReal.coe_mul, -EReal.coe_neg, -EReal.coe_one]
  norm_num
theorem scale_e (e : EReal) : Ideal.div (Ideal.ofBits .f32 0x3F000000#32 * Ideal.ofBits .f32 0x3F800000#32) (Ideal.ofBits .f32 0x44800000#32) * (Ideal.ofBits .f32 0x40000000#32 * e) = e * Ideal.ofBits .f32 0x3A800000#32 := by
  rw [div_1024_mul, ofBits_1, ofBits_half, ofBits_two, ofBits_1_1024, ← mul_assoc, mul_comm e]
  simp only [← EReal.coe_mul]
  norm_num
theorem total_e {n : Nat} {z : EReal} {g : (⟨1, ![n]⟩ : Shape).Idx → EReal} {w : Fin n → EReal} (hz : z = 0) (h : ∀ j, g j = w (j 0)) : z + ∑ j, g j = ∑ k, w k := by
  rw [hz, zero_add, sum_idx1]
  exact Finset.sum_congr rfl fun k _ => h _

variable (D : Cert.LossIdeal.Down.Data)
def c0 : S8192x2816.Idx → EReal := fun i => D.A (i 0) (i 1)
def c1 : S2816x1024.Idx → EReal := fun i => D.W (i 0) (i 1)
def c2 : S8192x1024.Idx → EReal := fun i => D.X (i 0) (i 1)
def c3 : S1x1024.Idx → EReal := fun i => D.G (i 1)
def c4 : S8192x1024.Idx → EReal := fun i => D.T (i 0) (i 1)

theorem r_v0 (i : S8192x2816.Idx) : val_main_v0 (F := Ideal) (c0 D) i = (D.A (i 0) (i 1) : EReal) :=
  (val_main_v0_apply _ i).trans rfl
theorem r_v1 (i : S2816x1024.Idx) : val_main_v1 (F := Ideal) (c1 D) i = (D.W (i 0) (i 1) : EReal) :=
  (val_main_v1_apply _ i).trans rfl
theorem r_v2 (i : S8192x1024.Idx) : val_main_v2 (F := Ideal) (c0 D) (c1 D) i = (D.F (i 0) (i 1) : EReal) :=
  (val_main_v2_apply _ _ i).trans (dot_e (fun k => r_v0 D _) (fun k => r_v1 D _))
theorem r_v3 (i : S8192x1024.Idx) : val_main_v3 (F := Ideal) (c0 D) (c1 D) i = (D.F (i 0) (i 1) * D.F (i 0) (i 1) : EReal) :=
  (val_main_v3_apply _ _ i).trans (mul_e (r_v2 D i) (r_v2 D i))
include D in
theorem r_cst (i : S_.Idx) : val_main_cst (F := Ideal)  i = (0 : EReal) :=
  (val_main_cst_apply i).trans zero_e
theorem r_v4 (i : S8192.Idx) : val_main_v4 (F := Ideal) (c0 D) (c1 D) i = (∑ k, D.F (i 0) k * D.F (i 0) k : EReal) :=
  (val_main_v4_apply _ _ i).trans (sum_e (r_cst D _) fun k => r_v3 D _)
theorem r_v5 (i : S8192x1.Idx) : val_main_v5 (F := Ideal) (c0 D) (c1 D) i = (∑ k, D.F (i 0) k * D.F (i 0) k : EReal) :=
  (val_main_v5_apply _ _ i).trans (r_v4 D _)
include D in
theorem r_cst_0 (i : S_.Idx) : val_main_cst_0 (F := Ideal)  i = (Ideal.ofBits .f32 0x44800000#32 : EReal) :=
  (val_main_cst_0_apply i).trans rfl
include D in
theorem r_v6 (i : S8192x1.Idx) : val_main_v6 (F := Ideal)  i = (Ideal.ofBits .f32 0x44800000#32 : EReal) :=
  (val_main_v6_apply i).trans (r_cst_0 D _)
theorem r_v7 (i : S8192x1.Idx) : val_main_v7 (F := Ideal) (c0 D) (c1 D) i = (Ideal.div (∑ k, D.F (i 0) k * D.F (i 0) k) (Ideal.ofBits .f32 0x44800000#32) : EReal) :=
  (val_main_v7_apply _ _ i).trans (div_e (r_v5 D i) (r_v6 D i))
include D in
theorem r_cst_1 (i : S_.Idx) : val_main_cst_1 (F := Ideal)  i = (Ideal.ofBits .f32 0x358637BD#32 : EReal) :=
  (val_main_cst_1_apply i).trans rfl
include D in
theorem r_v8 (i : S8192x1.Idx) : val_main_v8 (F := Ideal)  i = (Ideal.ofBits .f32 0x358637BD#32 : EReal) :=
  (val_main_v8_apply i).trans (r_cst_1 D _)
theorem r_v9 (i : S8192x1.Idx) : val_main_v9 (F := Ideal) (c0 D) (c1 D) i = (msE (D.F (i 0)) : EReal) :=
  (val_main_v9_apply _ _ i).trans (add_e (r_v7 D i) (r_v8 D i))
theorem r_v10 (i : S8192x1.Idx) : val_main_v10 (F := Ideal) (c0 D) (c1 D) i = (rE (D.F (i 0)) : EReal) :=
  (val_main_v10_apply _ _ i).trans (rsqrt_e (r_v9 D i))
theorem r_v11 (i : S8192x1.Idx) : val_main_v11 (F := Ideal) (c0 D) (c1 D) i = (Ideal.div (rE (D.F (i 0))) (msE (D.F (i 0))) : EReal) :=
  (val_main_v11_apply _ _ i).trans (div_e (r_v10 D i) (r_v9 D i))
include D in
theorem r_cst_2 (i : S_.Idx) : val_main_cst_2 (F := Ideal)  i = (Ideal.ofBits .f32 0xBF000000#32 : EReal) :=
  (val_main_cst_2_apply i).trans rfl
include D in
theorem r_v12 (i : S8192x1.Idx) : val_main_v12 (F := Ideal)  i = (Ideal.ofBits .f32 0xBF000000#32 : EReal) :=
  (val_main_v12_apply i).trans (r_cst_2 D _)
theorem r_v13 (i : S8192x1.Idx) : val_main_v13 (F := Ideal) (c0 D) (c1 D) i = (Ideal.ofBits .f32 0xBF000000#32 * Ideal.div (rE (D.F (i 0))) (msE (D.F (i 0))) : EReal) :=
  (val_main_v13_apply _ _ i).trans (mul_e (r_v12 D i) (r_v11 D i))
theorem r_v14 (i : S8192x1024.Idx) : val_main_v14 (F := Ideal) (c0 D) (c1 D) i = (rE (D.F (i 0)) : EReal) :=
  (val_main_v14_apply _ _ i).trans (r_v10 D _)
theorem r_v15 (i : S8192x1024.Idx) : val_main_v15 (F := Ideal) (c0 D) (c1 D) i = (D.F (i 0) (i 1) * rE (D.F (i 0)) : EReal) :=
  (val_main_v15_apply _ _ i).trans (mul_e (r_v2 D i) (r_v14 D i))
theorem r_v16 (i : S8192x1024.Idx) : val_main_v16 (F := Ideal) (c3 D) i = (D.G (i 1) : EReal) :=
  (val_main_v16_apply _ i).trans rfl
theorem r_v17 (i : S8192x1024.Idx) : val_main_v17 (F := Ideal) (c0 D) (c1 D) (c3 D) i = (normE (D.F (i 0)) D.G (i 1) : EReal) :=
  (val_main_v17_apply _ _ _ i).trans (mul_e (r_v15 D i) (r_v16 D i))
theorem r_v18 (i : S8192x1024.Idx) : val_main_v18 (F := Ideal) (c0 D) (c1 D) (c2 D) (c3 D) i = (D.X (i 0) (i 1) + normE (D.F (i 0)) D.G (i 1) : EReal) :=
  (val_main_v18_apply _ _ _ _ i).trans (add_e (rfl : c2 D i = _) (r_v17 D i))
theorem r_v19 (i : S8192x1024.Idx) : val_main_v19 (F := Ideal) (c0 D) (c1 D) (c2 D) (c3 D) (c4 D) i = (D.err (i 0) (i 1) : EReal) :=
  (val_main_v19_apply _ _ _ _ _ i).trans (sub_e (r_v18 D i) (rfl : c4 D i = _))
theorem r_v20 (i : S8192x1024.Idx) : val_main_v20 (F := Ideal) (c0 D) (c1 D) (c2 D) (c3 D) (c4 D) i = (D.err (i 0) (i 1) * D.err (i 0) (i 1) : EReal) :=
  (val_main_v20_apply _ _ _ _ _ i).trans (mul_e (r_v19 D i) (r_v19 D i))
include D in
theorem r_cst_3 (i : S_.Idx) : val_main_cst_3 (F := Ideal)  i = (Ideal.ofBits .f32 0x40000000#32 : EReal) :=
  (val_main_cst_3_apply i).trans rfl
include D in
theorem r_v21 (i : S8192x1024.Idx) : val_main_v21 (F := Ideal)  i = (Ideal.ofBits .f32 0x40000000#32 : EReal) :=
  (val_main_v21_apply i).trans (r_cst_3 D _)
theorem r_v22 (i : S8192x1024.Idx) : val_main_v22 (F := Ideal) (c0 D) (c1 D) (c2 D) (c3 D) (c4 D) i = (Ideal.ofBits .f32 0x40000000#32 * D.err (i 0) (i 1) : EReal) :=
  (val_main_v22_apply _ _ _ _ _ i).trans (mul_e (r_v21 D i) (r_v19 D i))
include D in
theorem r_cst_4 (i : S_.Idx) : val_main_cst_4 (F := Ideal)  i = (0 : EReal) :=
  (val_main_cst_4_apply i).trans zero_e
theorem r_v23 (i : S8192.Idx) : val_main_v23 (F := Ideal) (c0 D) (c1 D) (c2 D) (c3 D) (c4 D) i = (∑ k, D.err (i 0) k * D.err (i 0) k : EReal) :=
  (val_main_v23_apply _ _ _ _ _ i).trans (sum_e (r_cst_4 D _) fun k => r_v20 D _)
include D in
theorem r_cst_5 (i : S_.Idx) : val_main_cst_5 (F := Ideal)  i = (Ideal.ofBits .f32 0x44800000#32 : EReal) :=
  (val_main_cst_5_apply i).trans rfl
include D in
theorem r_v24 (i : S8192.Idx) : val_main_v24 (F := Ideal)  i = (Ideal.ofBits .f32 0x44800000#32 : EReal) :=
  (val_main_v24_apply i).trans (r_cst_5 D _)
theorem r_v25 (i : S8192.Idx) : val_main_v25 (F := Ideal) (c0 D) (c1 D) (c2 D) (c3 D) (c4 D) i = (meanOf (D.err (i 0)) : EReal) :=
  (val_main_v25_apply _ _ _ _ _ i).trans (div_e (r_v23 D i) (r_v24 D i))
include D in
theorem r_cst_6 (i : S_.Idx) : val_main_cst_6 (F := Ideal)  i = (0 : EReal) :=
  (val_main_cst_6_apply i).trans zero_e
theorem r_v26 (i : S_.Idx) : val_main_v26 (F := Ideal) (c0 D) (c1 D) (c2 D) (c3 D) (c4 D) i = (∑ a, meanOf (D.err a) : EReal) :=
  (val_main_v26_apply _ _ _ _ _ i).trans (total_e (r_cst_6 D _) fun k => r_v25 D _)
include D in
theorem r_cst_7 (i : S_.Idx) : val_main_cst_7 (F := Ideal)  i = (Ideal.ofBits .f32 0x3F000000#32 : EReal) :=
  (val_main_cst_7_apply i).trans rfl
theorem r_v27 (i : S_.Idx) : val_main_v27 (F := Ideal) (c0 D) (c1 D) (c2 D) (c3 D) (c4 D) i = (D.loss 0 : EReal) :=
  (val_main_v27_apply _ _ _ _ _ i).trans (mul_e (r_cst_7 D i) (r_v26 D i))
include D in
theorem r_cst_8 (i : S_.Idx) : val_main_cst_8 (F := Ideal)  i = (Ideal.ofBits .f32 0x3F000000#32 : EReal) :=
  (val_main_cst_8_apply i).trans rfl
include D in
theorem r_cst_9 (i : S_.Idx) : val_main_cst_9 (F := Ideal)  i = (Ideal.ofBits .f32 0x3F800000#32 : EReal) :=
  (val_main_cst_9_apply i).trans rfl
include D in
theorem r_v28 (i : S_.Idx) : val_main_v28 (F := Ideal)  i = (Ideal.ofBits .f32 0x3F000000#32 * Ideal.ofBits .f32 0x3F800000#32 : EReal) :=
  (val_main_v28_apply i).trans (mul_e (r_cst_8 D i) (r_cst_9 D i))
include D in
theorem r_v29 (i : S8192.Idx) : val_main_v29 (F := Ideal)  i = (Ideal.ofBits .f32 0x3F000000#32 * Ideal.ofBits .f32 0x3F800000#32 : EReal) :=
  (val_main_v29_apply i).trans (r_v28 D _)
include D in
theorem r_cst_10 (i : S_.Idx) : val_main_cst_10 (F := Ideal)  i = (Ideal.ofBits .f32 0x44800000#32 : EReal) :=
  (val_main_cst_10_apply i).trans rfl
include D in
theorem r_v30 (i : S8192.Idx) : val_main_v30 (F := Ideal)  i = (Ideal.ofBits .f32 0x44800000#32 : EReal) :=
  (val_main_v30_apply i).trans (r_cst_10 D _)
include D in
theorem r_v31 (i : S8192.Idx) : val_main_v31 (F := Ideal)  i = (Ideal.div (Ideal.ofBits .f32 0x3F000000#32 * Ideal.ofBits .f32 0x3F800000#32) (Ideal.ofBits .f32 0x44800000#32) : EReal) :=
  (val_main_v31_apply i).trans (div_e (r_v29 D i) (r_v30 D i))
include D in
theorem r_v32 (i : S8192x1024.Idx) : val_main_v32 (F := Ideal)  i = (Ideal.div (Ideal.ofBits .f32 0x3F000000#32 * Ideal.ofBits .f32 0x3F800000#32) (Ideal.ofBits .f32 0x44800000#32) : EReal) :=
  (val_main_v32_apply i).trans (r_v31 D _)
theorem r_v33 (i : S8192x1024.Idx) : val_main_v33 (F := Ideal) (c0 D) (c1 D) (c2 D) (c3 D) (c4 D) i = (D.dy (i 0) (i 1) : EReal) :=
  of_eq ((val_main_v33_apply _ _ _ _ _ i).trans (mul_e (r_v32 D i) (r_v22 D i))) (scale_e _)
theorem r_v34 (i : S8192x1024.Idx) : val_main_v34 (F := Ideal) (c0 D) (c1 D) (c2 D) (c3 D) (c4 D) i = (D.F (i 0) (i 1) * rE (D.F (i 0)) * D.dy (i 0) (i 1) : EReal) :=
  (val_main_v34_apply _ _ _ _ _ i).trans (mul_e (r_v15 D i) (r_v33 D i))
include D in
theorem r_cst_11 (i : S_.Idx) : val_main_cst_11 (F := Ideal)  i = (0 : EReal) :=
  (val_main_cst_11_apply i).trans zero_e
theorem r_v35 (i : S1024.Idx) : val_main_v35 (F := Ideal) (c0 D) (c1 D) (c2 D) (c3 D) (c4 D) i = (∑ l, D.dy l (i 0) * (D.F l (i 0) * rE (D.F l)) : EReal) :=
  of_eq ((val_main_v35_apply _ _ _ _ _ i).trans (sum_e (r_cst_11 D _) fun k => r_v34 D _)) (Finset.sum_congr rfl fun k _ => mul_comm _ _)
theorem r_v36 (i : S1x1024.Idx) : val_main_v36 (F := Ideal) (c0 D) (c1 D) (c2 D) (c3 D) (c4 D) i = (∑ l, D.dy l (i 1) * (D.F l (i 1) * rE (D.F l)) : EReal) :=
  (val_main_v36_apply _ _ _ _ _ i).trans ((r_v35 D _).trans (congrArg (fun a : Fin 1024 => (∑ l, D.dy l a * (D.F l a * rE (D.F l)) : EReal)) (Fin.ext (cast_row i))))
theorem r_v37 (i : S8192x1024.Idx) : val_main_v37 (F := Ideal) (c3 D) i = (D.G (i 1) : EReal) :=
  (val_main_v37_apply _ i).trans rfl
theorem r_v38 (i : S8192x1024.Idx) : val_main_v38 (F := Ideal) (c0 D) (c1 D) (c2 D) (c3 D) (c4 D) i = (D.dy (i 0) (i 1) * D.G (i 1) : EReal) :=
  (val_main_v38_apply _ _ _ _ _ i).trans (mul_e (r_v33 D i) (r_v37 D i))
theorem r_v39 (i : S8192x1024.Idx) : val_main_v39 (F := Ideal) (c0 D) (c1 D) (c2 D) (c3 D) (c4 D) i = (D.F (i 0) (i 1) * (D.dy (i 0) (i 1) * D.G (i 1)) : EReal) :=
  (val_main_v39_apply _ _ _ _ _ i).trans (mul_e (r_v2 D i) (r_v38 D i))
include D in
theorem r_cst_12 (i : S_.Idx) : val_main_cst_12 (F := Ideal)  i = (0 : EReal) :=
  (val_main_cst_12_apply i).trans zero_e
theorem r_v40 (i : S8192.Idx) : val_main_v40 (F := Ideal) (c0 D) (c1 D) (c2 D) (c3 D) (c4 D) i = (∑ k, D.F (i 0) k * (D.dy (i 0) k * D.G k) : EReal) :=
  (val_main_v40_apply _ _ _ _ _ i).trans (sum_e (r_cst_12 D _) fun k => r_v39 D _)
theorem r_v41 (i : S8192x1.Idx) : val_main_v41 (F := Ideal) (c0 D) (c1 D) (c2 D) (c3 D) (c4 D) i = (∑ k, D.F (i 0) k * (D.dy (i 0) k * D.G k) : EReal) :=
  (val_main_v41_apply _ _ _ _ _ i).trans ((r_v40 D _).trans (congrArg (fun a : Fin 8192 => (∑ k, D.F a k * (D.dy a k * D.G k) : EReal)) (Fin.ext (cast_col i))))
theorem r_v42 (i : S8192x1024.Idx) : val_main_v42 (F := Ideal) (c0 D) (c1 D) i = (rE (D.F (i 0)) : EReal) :=
  (val_main_v42_apply _ _ i).trans (r_v10 D _)
theorem r_v43 (i : S8192x1024.Idx) : val_main_v43 (F := Ideal) (c0 D) (c1 D) (c2 D) (c3 D) (c4 D) i = (D.dy (i 0) (i 1) * D.G (i 1) * rE (D.F (i 0)) : EReal) :=
  (val_main_v43_apply _ _ _ _ _ i).trans (mul_e (r_v38 D i) (r_v42 D i))
theorem r_v44 (i : S8192x1.Idx) : val_main_v44 (F := Ideal) (c0 D) (c1 D) (c2 D) (c3 D) (c4 D) i = ((∑ k, D.F (i 0) k * (D.dy (i 0) k * D.G k)) * (Ideal.ofBits .f32 0xBF000000#32 * Ideal.div (rE (D.F (i 0))) (msE (D.F (i 0)))) : EReal) :=
  (val_main_v44_apply _ _ _ _ _ i).trans (mul_e (r_v41 D i) (r_v13 D i))
include D in
theorem r_cst_13 (i : S_.Idx) : val_main_cst_13 (F := Ideal)  i = (Ideal.ofBits .f32 0x44800000#32 : EReal) :=
  (val_main_cst_13_apply i).trans rfl
include D in
theorem r_v45 (i : S8192x1.Idx) : val_main_v45 (F := Ideal)  i = (Ideal.ofBits .f32 0x44800000#32 : EReal) :=
  (val_main_v45_apply i).trans (r_cst_13 D _)
theorem r_v46 (i : S8192x1.Idx) : val_main_v46 (F := Ideal) (c0 D) (c1 D) (c2 D) (c3 D) (c4 D) i = (halfE (D.F (i 0)) D.G (D.dy (i 0)) : EReal) :=
  (val_main_v46_apply _ _ _ _ _ i).trans (div_e (r_v44 D i) (r_v45 D i))
include D in
theorem r_cst_14 (i : S_.Idx) : val_main_cst_14 (F := Ideal)  i = (0 : EReal) :=
  (val_main_cst_14_apply i).trans zero_e
theorem r_v47 (i : S8192.Idx) : val_main_v47 (F := Ideal) (c0 D) (c1 D) (c2 D) (c3 D) (c4 D) i = (halfE (D.F (i 0)) D.G (D.dy (i 0)) : EReal) :=
  of_eq ((val_main_v47_apply _ _ _ _ _ i).trans (sum_e (r_cst_14 D _) fun k => r_v46 D _)) (Fin.sum_univ_one _)
theorem r_v48 (i : S8192x1024.Idx) : val_main_v48 (F := Ideal) (c0 D) (c1 D) (c2 D) (c3 D) (c4 D) i = (halfE (D.F (i 0)) D.G (D.dy (i 0)) : EReal) :=
  (val_main_v48_apply _ _ _ _ _ i).trans (r_v47 D _)
theorem r_v49 (i : S8192x1024.Idx) : val_main_v49 (F := Ideal) (c0 D) (c1 D) (c2 D) (c3 D) (c4 D) i = (D.F (i 0) (i 1) * halfE (D.F (i 0)) D.G (D.dy (i 0)) : EReal) :=
  (val_main_v49_apply _ _ _ _ _ i).trans (mul_e (r_v2 D i) (r_v48 D i))
theorem r_v50 (i : S8192x1024.Idx) : val_main_v50 (F := Ideal) (c0 D) (c1 D) (c2 D) (c3 D) (c4 D) i = (D.dy (i 0) (i 1) * D.G (i 1) * rE (D.F (i 0)) + D.F (i 0) (i 1) * halfE (D.F (i 0)) D.G (D.dy (i 0)) : EReal) :=
  (val_main_v50_apply _ _ _ _ _ i).trans (add_e (r_v43 D i) (r_v49 D i))
theorem r_v51 (i : S8192x1024.Idx) : val_main_v51 (F := Ideal) (c0 D) (c1 D) (c2 D) (c3 D) (c4 D) i = (halfE (D.F (i 0)) D.G (D.dy (i 0)) * D.F (i 0) (i 1) : EReal) :=
  (val_main_v51_apply _ _ _ _ _ i).trans (mul_e (r_v48 D i) (r_v2 D i))
theorem r_v52 (i : S8192x1024.Idx) : val_main_v52 (F := Ideal) (c0 D) (c1 D) (c2 D) (c3 D) (c4 D) i = (backE (D.F (i 0)) D.G (D.dy (i 0)) (i 1) : EReal) :=
  of_eq ((val_main_v52_apply _ _ _ _ _ i).trans (add_e (r_v50 D i) (r_v51 D i))) (back_only _ _ _ _)
theorem r_v53 (i : S8192x1024.Idx) : val_main_v53 (F := Ideal) (c0 D) (c1 D) (c2 D) (c3 D) (c4 D) i = (D.df (i 0) (i 1) : EReal) :=
  (val_main_v53_apply _ _ _ _ _ i).trans (r_v52 D _)

end Cert.RLossIdeal.Whole
end
-- ==== Proof.LossSame.lean ====
module
public import proofs.«01_k».proof.Defs
public import proofs.«01_k».proof.Proof.Gen.RLossIdeal.Run
public import proofs.«01_k».proof.Proof.Gen.RLossIdeal
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.LossDown
public import proofs.«01_k».proof.Proof.LossRef
@[expose] public section
set_option maxRecDepth 16384
noncomputable section
open Idealize.ShloMosaic Idealize.ShloMosaic.TcCoe Idealize.SL.Sem

namespace Cert.RLossIdeal.Whole
open Cert.RLossIdeal Cert.RLossIdeal.Gen Cert.RLossIdeal.Read Cert.LossIdeal.Down

/-- The arguments as matrices. -/
def dataOf (x0 : S8192x2816.Idx → EReal) (x1 : S2816x1024.Idx → EReal) (x2 : S8192x1024.Idx → EReal) (x3 : S1x1024.Idx → EReal) (x4 : S8192x1024.Idx → EReal) : Cert.LossIdeal.Down.Data where
  A := fun i j => x0 (ix2 i j)
  W := fun i j => x1 (ix2 i j)
  X := fun i j => x2 (ix2 i j)
  G := fun j => x3 (ix2 0 j)
  T := fun i j => x4 (ix2 i j)

variable (x0 : S8192x2816.Idx → EReal) (x1 : S2816x1024.Idx → EReal) (x2 : S8192x1024.Idx → EReal) (x3 : S1x1024.Idx → EReal) (x4 : S8192x1024.Idx → EReal)

theorem c0_of : c0 (dataOf x0 x1 x2 x3 x4) = x0 := funext fun i => congrArg x0 (ix2_eta i)
theorem c1_of : c1 (dataOf x0 x1 x2 x3 x4) = x1 := funext fun i => congrArg x1 (ix2_eta i)
theorem c2_of : c2 (dataOf x0 x1 x2 x3 x4) = x2 := funext fun i => congrArg x2 (ix2_eta i)
theorem c3_of : c3 (dataOf x0 x1 x2 x3 x4) = x3 := funext fun i => congrArg x3 (funext fun a => match a with
  | ⟨0, _⟩ => (Fin.ext (Nat.lt_one_iff.mp (i 0).isLt)).symm
  | ⟨1, _⟩ => rfl)
theorem c4_of : c4 (dataOf x0 x1 x2 x3 x4) = x4 := funext fun i => congrArg x4 (ix2_eta i)

theorem value_f : val_main_v53 (F := Ideal) x0 x1 x2 x3 x4 = fun i => (dataOf x0 x1 x2 x3 x4).df (i 0) (i 1) := by
  funext i
  have h := r_v53 (dataOf x0 x1 x2 x3 x4) i
  rw [c0_of, c1_of, c2_of, c3_of, c4_of] at h
  exact h

theorem value_y : val_main_v33 (F := Ideal) x0 x1 x2 x3 x4 = fun i => (dataOf x0 x1 x2 x3 x4).dy (i 0) (i 1) := by
  funext i
  have h := r_v33 (dataOf x0 x1 x2 x3 x4) i
  rw [c0_of, c1_of, c2_of, c3_of, c4_of] at h
  exact h

theorem value_g : val_main_v36 (F := Ideal) x0 x1 x2 x3 x4 = fun i => (dataOf x0 x1 x2 x3 x4).dg (i 1) := by
  funext i
  have h := r_v36 (dataOf x0 x1 x2 x3 x4) i
  rw [c0_of, c1_of, c2_of, c3_of, c4_of] at h
  exact h

theorem value_l : val_main_v54 (F := Ideal) x0 x1 x2 x3 x4 = fun i => (dataOf x0 x1 x2 x3 x4).loss (i 1) := by
  funext i
  have h : ∀ k : S_.Idx, val_main_v27 (F := Ideal) x0 x1 x2 x3 x4 k = (dataOf x0 x1 x2 x3 x4).loss 0 := fun k => by
    have h := r_v27 (dataOf x0 x1 x2 x3 x4) k
    rw [c0_of, c1_of, c2_of, c3_of, c4_of] at h
    exact h
  unfold val_main_v54 shapeCast
  exact h _

end Cert.RLossIdeal.Whole

namespace Cert.Proof

theorem rloss_frame : Cert.quiescent_RLossIdeal (hRLossIdeal := Cert.RLossIdeal.Gen.facts) := by
  intro m ρ _
  exact (θ_run _ _ _).mono (fun r h => ⟨fun c => (h c).2.2.2.2, funext fun g => nomatch g.2⟩) (Cert.RLossIdeal.Value.run (F := Ideal) m ρ)

theorem loss_same : Cert.algebraic_LossIdeal_RLossIdeal (hLossIdeal := Cert.LossIdeal.Gen.facts) (hRLossIdeal := Cert.RLossIdeal.Gen.facts) := by
  intro m g m' g' _ hagree
  refine ⟨fun c => (fun i => (Cert.LossIdeal.Down.data m c).df (i 0) (i 1)), fun c => (fun i => (Cert.LossIdeal.Down.data m c).dy (i 0) (i 1)), fun c => (fun i => (Cert.LossIdeal.Down.data m c).dg (i 1)), fun c => (fun i => (Cert.LossIdeal.Down.data m c).loss (i 1)),
    Cert.LossIdeal.Down.run m g, (θ_run _ _ _).mono (fun r h c => ?_) (Cert.RLossIdeal.Value.run (F := Ideal) m' g')⟩
  obtain ⟨e0, e1, e2, e3, e4⟩ := hagree c
  obtain ⟨h0, h1, h2, h3, hargs⟩ := h c
  refine ⟨h0.trans ?_, h1.trans ?_, h2.trans ?_, h3.trans ?_, hargs⟩
  · rw [Cert.RLossIdeal.Read.val_main_v53_eq, e0, e1, e2, e3, e4]
    exact Cert.RLossIdeal.Whole.value_f _ _ _ _ _
  · rw [Cert.RLossIdeal.Read.val_main_v33_eq, e0, e1, e2, e3, e4]
    exact Cert.RLossIdeal.Whole.value_y _ _ _ _ _
  · rw [Cert.RLossIdeal.Read.val_main_v36_eq, e0, e1, e2, e3, e4]
    exact Cert.RLossIdeal.Whole.value_g _ _ _ _ _
  · rw [Cert.RLossIdeal.Read.val_main_v54_eq, e0, e1, e2, e3, e4]
    exact Cert.RLossIdeal.Whole.value_l _ _ _ _ _

end Cert.Proof
end
-- ==== Proof.ProjBack.lean ====
module
public import proofs.«01_k».proof.Proof.Gen.ProjBIdeal.Frame
public import proofs.«01_k».proof.Proof.Gen.ProjBIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.ProjBIdeal.Back
open Cert.ProjBIdeal Cert.ProjBIdeal.Gen Cert.FfnMath Cert.NormMath

/-! # The gradient of the first normalisation and of the product after it -/

section pay
variable {v3 : Vec Ideal S1024x1024 .f32} {v4 : Vec Ideal S1x1024 .f32} {v5 : Vec Ideal S1024x2560 .bf16} {v6 : Vec Ideal S2560x1024 .bf16}
  {x : Fin 1024 → Fin 1024 → EReal} {g : Fin 1024 → EReal} {p : Fin 1024 → Fin 2560 → EReal} {w : Fin 2560 → Fin 1024 → EReal}

theorem pay3_at (h5 : ∀ r k, v5 (ix2 r k) = p r k) (h6 : ∀ r k, v6 (ix2 r k) = w r k) (r j : Fin 1024) :
    (k0_pay3 (F := Ideal) v5 v6) (ix2 r j) = ∑ l : Fin 2560, p r l * w l j := by
  unfold k0_pay3
  pointwise
  show ∑ l : Fin 2560, v5 (ix2 r l) * v6 (ix2 l j) = _
  simp only [h5, h6]

theorem pay4_at (h3 : ∀ r k, v3 (ix2 r k) = x r k) (r : Fin 1024) : (k0_pay4 (F := Ideal) v3) (ix2 r 0) = rE (x r) := by
  unfold k0_pay4
  pointwise
  show Ideal.rsqrt (Ideal.div (∑ k : Fin 1024, v3 (ix2 r k) * v3 (ix2 r k)) (Ideal.ofBits .f32 0x44800000#32) + Ideal.ofBits .f32 0x358637BD#32) = _
  simp only [h3]
  rfl

theorem pay5_at (h3 : ∀ r k, v3 (ix2 r k) = x r k) (r j : Fin 1024) : (k0_pay5 (F := Ideal) v3) (ix2 r j) = x r j * rE (x r) := by
  unfold k0_pay5
  pointwise
  show v3 (ix2 r j) * k0_pay4 v3 (ix2 r 0) = _
  rw [h3, pay4_at h3]

theorem pay6_at (h3 : ∀ r k, v3 (ix2 r k) = x r k) (h4 : ∀ k, v4 (ix2 0 k) = g k) (h5 : ∀ r k, v5 (ix2 r k) = p r k) (h6 : ∀ r k, v6 (ix2 r k) = w r k) (r j : Fin 1024) :
    (k0_pay6 (F := Ideal) v3 v4 v5 v6) (ix2 r j) = backE (x r) g (fun k => ∑ l : Fin 2560, p r l * w l k) j := by
  unfold k0_pay6
  pointwise
  show k0_pay4 v3 (ix2 r 0) * (k0_pay3 v5 v6 (ix2 r j) * v4 (ix2 0 j) - k0_pay5 v3 (ix2 r j) *
      Ideal.div (∑ k : Fin 1024, k0_pay3 v5 v6 (ix2 r k) * v4 (ix2 0 k) * k0_pay5 v3 (ix2 r k)) (Ideal.ofBits .f32 0x44800000#32)) = _
  simp only [pay4_at h3, pay5_at h3, pay3_at h5 h6, h4]
  rfl

theorem pay7_at (h3 : ∀ r k, v3 (ix2 r k) = x r k) (h5 : ∀ r k, v5 (ix2 r k) = p r k) (h6 : ∀ r k, v6 (ix2 r k) = w r k) (acc : Vec Ideal S1x1024 .f32) (j : Fin 1024) :
    (k0_pay7 (F := Ideal) v3 v5 v6 acc) (ix2 0 j) = acc (ix2 0 j) + ∑ r : Fin 1024, (∑ l : Fin 2560, p r l * w l j) * (x r j * rE (x r)) := by
  unfold k0_pay7
  pointwise
  show acc (ix2 0 j) + ∑ r : Fin 1024, k0_pay3 v5 v6 (ix2 r j) * k0_pay5 v3 (ix2 r j) = _
  simp only [pay5_at h3, pay3_at h5 h6]

theorem pay1_at (a b : Vec Ideal S1024x1024 .f32) (i : S1024x1024.Idx) : (k0_pay1 (F := Ideal) a b) i = b i + a i := by
  unfold k0_pay1
  pointwise

theorem pay2_at (i : S1x1024.Idx) : (k0_pay2 (F := Ideal)) i = 0 := by
  unfold k0_pay2
  pointwise
end pay

/-- The cotangent of the normalised rows. -/
def dn (P : Fin 8192 → Fin 2560 → EReal) (W : Fin 2560 → Fin 1024 → EReal) (i : Fin 8192) (j : Fin 1024) : EReal := ∑ l : Fin 2560, P i l * W l j
def gx (P : Fin 8192 → Fin 2560 → EReal) (W : Fin 2560 → Fin 1024 → EReal) (X R : Fin 8192 → Fin 1024 → EReal) (G : Fin 1024 → EReal) (i : Fin 8192) (j : Fin 1024) : EReal :=
  R i j + backE (X i) G (dn P W i) j
def dg (P : Fin 8192 → Fin 2560 → EReal) (W : Fin 2560 → Fin 1024 → EReal) (X : Fin 8192 → Fin 1024 → EReal) (j : Fin 1024) : EReal :=
  ∑ i, dn P W i j * (X i j * rE (X i))

variable (m : (ℓ : Loc nD τ sig) → Buf (Elt Ideal) ℓ) (c : Dev nD)

theorem row_lt (t : Fin cfg0.N) (r : Fin 1024) : t.val * 1024 + r.val < 8192 := by
  have := lt_of_lt_of_eq t.isLt (show cfg0.N = 8 from N_0)
  omega

/-- The token a block's row holds. -/
def row (t : Fin cfg0.N) (r : Fin 1024) : Fin 8192 := ⟨t.val * 1024 + r.val, row_lt t r⟩

theorem row_sum (t : Fin cfg0.N) (h : t.val % 8 = 8 - 1) (s : Fin 8) (k : Fin 1024) (hl : s.val * 1024 + k.val < 8192)
    (hs : 8 * (t.val / 8) + s.val < cfg0.N) : row ⟨8 * (t.val / 8) + s.val, hs⟩ k = ⟨s.val * 1024 + k.val, hl⟩ := Fin.ext (by
  have := lt_of_lt_of_eq t.isLt (show cfg0.N = 8 from N_0)
  show (8 * (t.val / 8) + s.val) * 1024 + k.val = s.val * 1024 + k.val
  omega)
theorem index_0 : ∀ t : Fin cfg0.N, (cfg0.win 0).index t = ![t.val, 0] := by decide +kernel
abbrev matP : Fin 8192 → Fin 2560 → EReal := fun i j => (m ((c : Thread nD τ).loc main_arg0) : S8192x2560.Idx → EReal) (ix2 i j)
def blockP (t : Fin cfg0.N) : S1024x2560.Idx → EReal := iblk m c 0 t
theorem atP (t : Fin cfg0.N) (r : Fin 1024) (k : Fin 2560) : blockP m c t (ix2 r k) = matP m c (row t r) k := by
  unfold blockP
  have hk : (row t r).val = t.val * 1024 + r.val := rfl
  blk_ext [iblk, index_0 t]

theorem index_1 : ∀ t : Fin cfg0.N, (cfg0.win 1).index t = ![0, 0] := by decide +kernel
abbrev matW : Fin 2560 → Fin 1024 → EReal := fun i j => (m ((c : Thread nD τ).loc main_arg1) : S2560x1024.Idx → EReal) (ix2 i j)
def blockW (t : Fin cfg0.N) : S2560x1024.Idx → EReal := iblk m c 1 t
theorem atW (t : Fin cfg0.N) (r : Fin 2560) (k : Fin 1024) : blockW m c t (ix2 r k) = matW m c r k := by
  unfold blockW
  blk_ext [iblk, index_1 t]

theorem index_2 : ∀ t : Fin cfg0.N, (cfg0.win 2).index t = ![t.val, 0] := by decide +kernel
abbrev matX : Fin 8192 → Fin 1024 → EReal := fun i j => (m ((c : Thread nD τ).loc main_arg2) : S8192x1024.Idx → EReal) (ix2 i j)
def blockX (t : Fin cfg0.N) : S1024x1024.Idx → EReal := iblk m c 2 t
theorem atX (t : Fin cfg0.N) (r : Fin 1024) (k : Fin 1024) : blockX m c t (ix2 r k) = matX m c (row t r) k := by
  unfold blockX
  have hk : (row t r).val = t.val * 1024 + r.val := rfl
  blk_ext [iblk, index_2 t]

theorem index_3 : ∀ t : Fin cfg0.N, (cfg0.win 3).index t = ![t.val, 0] := by decide +kernel
abbrev matR : Fin 8192 → Fin 1024 → EReal := fun i j => (m ((c : Thread nD τ).loc main_arg3) : S8192x1024.Idx → EReal) (ix2 i j)
def blockR (t : Fin cfg0.N) : S1024x1024.Idx → EReal := iblk m c 3 t
theorem atR (t : Fin cfg0.N) (r : Fin 1024) (k : Fin 1024) : blockR m c t (ix2 r k) = matR m c (row t r) k := by
  unfold blockR
  have hk : (row t r).val = t.val * 1024 + r.val := rfl
  blk_ext [iblk, index_3 t]

theorem index_4 : ∀ t : Fin cfg0.N, (cfg0.win 4).index t = ![0, 0] := by decide +kernel
abbrev matG : Fin 1 → Fin 1024 → EReal := fun i j => (m ((c : Thread nD τ).loc main_arg4) : S1x1024.Idx → EReal) (ix2 i j)
def blockG (t : Fin cfg0.N) : S1x1024.Idx → EReal := iblk m c 4 t
theorem atG (t : Fin cfg0.N) (r : Fin 1) (k : Fin 1024) : blockG m c t (ix2 r k) = matG m c r k := by
  unfold blockG
  blk_ext [iblk, index_4 t]

theorem index_5 : ∀ t : Fin cfg0.N, (cfg0.win 5).index t = ![t.val, 0] := by decide +kernel
theorem index_6 : ∀ t : Fin cfg0.N, (cfg0.win 6).index t = ![0, 0] := by decide +kernel

abbrev resX (i : Fin 8192) (j : Fin 1024) : EReal := gx (matP m c) (matW m c) (matX m c) (matR m c) (matG m c 0) i j
abbrev resG (j : Fin 1024) : EReal := dg (matP m c) (matW m c) (matX m c) j

theorem after_5 (t : Fin cfg0.N) (r : Fin 1024) (k : Fin 1024) : (dats m 0 c).after 5 t (ix2 r k) = resX m c (row t r) k := by
  rw [after0_5]
  by_cases h : t.val % 8 = 0
  · rw [outsAt0_A m c t h]
    frame_out
    exact (pay1_at _ _ _).trans (congrArg₂ (fun a b : EReal => a + b) (atR m c t r k) (pay6_at (atX m c t) (atG m c t 0) (atP m c t) (atW m c t) r k))
  · rw [outsAt0_B m c t h]
    frame_out
    exact (pay1_at _ _ _).trans (congrArg₂ (fun a b : EReal => a + b) (atR m c t r k) (pay6_at (atX m c t) (atG m c t 0) (atP m c t) (atW m c t) r k))

theorem array_5 : (dats m 0 c).arrAt 5 cfg0.N = (fun i => resX m c (i 0) (i 1) : S8192x1024.Idx → EReal) := by
  refine Dat.arrAt_eq_of_covers (dats m 0 c) 5 _ (by decide +kernel) fun t hf y => ?_
  have e : (dats m 0 c).after 5 t y = resX m c (row t (y 0)) (y 1) :=
    (congrArg ((dats m 0 c).after 5 t) (ix2_eta y).symm).trans (after_5 m c t (y 0) (y 1))
  blk_simp
  rw [e]
  refine congrArg₂ (fun (a : Fin 8192) (b : Fin 1024) => resX m c a b) (Fin.ext ?_) (Fin.ext ?_) <;> blk_simp [index_5 t] <;> rfl

theorem first_6 (t : Fin cfg0.N) (h : t.val % 8 = 0) (j : Fin 1024) :
    (outsAt0 m c t.val t.isLt).2 (ix2 0 j) = 0 + ∑ r : Fin 1024, dn (matP m c) (matW m c) (row t r) j * (matX m c (row t r) j * rE (matX m c (row t r))) := by
  rw [outsAt0_A m c t h]
  frame_out
  exact (pay7_at (atX m c t) (atP m c t) (atW m c t) _ j).trans (congrArg (fun a : EReal => a + _) (pay2_at _))

theorem next_6 (t : Fin cfg0.N) (h : ¬t.val % 8 = 0) (j : Fin 1024) :
    (outsAt0 m c t.val t.isLt).2 (ix2 0 j)
      = (outsAt0 m c (t.val - 1) (Nat.lt_of_le_of_lt (Nat.sub_le _ _) t.isLt)).2 (ix2 0 j) + ∑ r : Fin 1024, dn (matP m c) (matW m c) (row t r) j * (matX m c (row t r) j * rE (matX m c (row t r))) := by
  rw [outsAt0_B m c t h]
  frame_out
  exact pay7_at (atX m c t) (atP m c t) (atW m c t) _ j

theorem sum_6 (t : Fin cfg0.N) (h : t.val % 8 = 8 - 1) (j : Fin 1024) : (outsAt0 m c t.val t.isLt).2 (ix2 0 j) = resG m c j := by
  refine (eq_sum_fin_of_reset_step_apply_of_flush (fun n h (j : Fin 1024) => ((outsAt0 m c n h).2 (ix2 0 j) : EReal)) 8 (fun _ => 0)
    (fun t j => ∑ r : Fin 1024, dn (matP m c) (matW m c) (row t r) j * (matX m c (row t r) j * rE (matX m c (row t r)))) (first_6 m c) (next_6 m c) t h j).trans ?_
  rw [zero_add]
  unfold resG dg
  refine Fin.sum_mul_add_congr fun s k hl => ?_
  rw [row_sum t h s k hl]

theorem array_6 : (dats m 0 c).arrAt 6 cfg0.N = (fun i => resG m c (i 1) : S1x1024.Idx → EReal) := by
  refine Dat.arrAt_eq_of_covers (dats m 0 c) 6 _ (by decide +kernel) fun t hf y => ?_
  have h7 : t.val % 8 = 8 - 1 := (flush0_6 t).mp hf
  have hy : y = ix2 0 (y 1) := by
    funext a
    match a with
    | ⟨0, _⟩ => exact Fin.ext (Nat.lt_one_iff.mp (y 0).isLt)
    | ⟨1, _⟩ => rfl
  have e : (dats m 0 c).after 6 t y = resG m c (y 1) := by
    rw [after0_6]
    exact (congrArg ((outsAt0 m c t.val t.isLt).2) hy).trans (sum_6 m c t h7 (y 1))
  blk_simp
  rw [e]
  refine congrArg (fun a : Fin 1024 => resG m c a) (Fin.ext ?_)
  blk_simp [index_6 t]

theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = (fun i => resX m c (i 0) (i 1) : S8192x1024.Idx → EReal)
      ∧ r.2.mem ((c : Thread nD τ).loc main_v0_1) = (fun i => resG m c (i 1) : S1x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => by
    obtain ⟨h5, h6, hr⟩ := h c
    exact ⟨h5.trans (array_5 m c), h6.trans (array_6 m c), hr⟩) (Value.run_blocks (F := Ideal) m ρ)

end Cert.ProjBIdeal.Back
end
-- ==== Proof.ProjBackRef.lean ====
module
public import proofs.«01_k».proof.Proof.Gen.RProjBIdeal.Read
public import proofs.«01_k».proof.Proof.ProjBack
@[expose] public section
set_option maxRecDepth 16384
noncomputable section
open Idealize.ShloMosaic Idealize.ShloMosaic.TcCoe Idealize.SL.Sem
namespace Cert.RProjBIdeal.Whole
open Cert.RProjBIdeal Cert.RProjBIdeal.Gen Cert.RProjBIdeal.Read Cert.FfnMath Cert.NormMath Cert.ProjBIdeal.Back

/-! # The reference of the gradient of the first normalisation -/

structure Data where
  P : Fin 8192 → Fin 2560 → EReal
  W : Fin 2560 → Fin 1024 → EReal
  X : Fin 8192 → Fin 1024 → EReal
  R : Fin 8192 → Fin 1024 → EReal
  G : Fin 1024 → EReal

variable (D : Data)
def c0 : S8192x2560.Idx → EReal := fun i => D.P (i 0) (i 1)
def c1 : S2560x1024.Idx → EReal := fun i => D.W (i 0) (i 1)
def c2 : S8192x1024.Idx → EReal := fun i => D.X (i 0) (i 1)
def c3 : S8192x1024.Idx → EReal := fun i => D.R (i 0) (i 1)
def c4 : S1x1024.Idx → EReal := fun i => D.G (i 1)

theorem r_v0 (i : S1024x2560.Idx) : val_main_v0 (F := Ideal) (c1 D) i = (D.W (i 1) (i 0) : EReal) :=
  (val_main_v0_apply _ i).trans rfl
theorem r_v1 (i : S1024x2560.Idx) : val_main_v1 (F := Ideal) (c1 D) i = (D.W (i 1) (i 0) : EReal) :=
  (val_main_v1_apply _ i).trans (r_v0 D _)
theorem r_v2 (i : S8192x1024.Idx) : val_main_v2 (F := Ideal) (c2 D) i = (D.X (i 0) (i 1) * D.X (i 0) (i 1) : EReal) :=
  (val_main_v2_apply _ i).trans (mul_e (rfl : c2 D i = _) (rfl : c2 D i = _))
include D in
theorem r_cst (i : S_.Idx) : val_main_cst (F := Ideal)  i = (0 : EReal) :=
  (val_main_cst_apply i).trans zero_e
theorem r_v3 (i : S8192.Idx) : val_main_v3 (F := Ideal) (c2 D) i = (∑ k, D.X (i 0) k * D.X (i 0) k : EReal) :=
  (val_main_v3_apply _ i).trans (sum_e (r_cst D _) fun k => r_v2 D _)
theorem r_v4 (i : S8192x1.Idx) : val_main_v4 (F := Ideal) (c2 D) i = (∑ k, D.X (i 0) k * D.X (i 0) k : EReal) :=
  (val_main_v4_apply _ i).trans (r_v3 D _)
include D in
theorem r_cst_0 (i : S_.Idx) : val_main_cst_0 (F := Ideal)  i = (Ideal.ofBits .f32 0x44800000#32 : EReal) :=
  (val_main_cst_0_apply i).trans rfl
include D in
theorem r_v5 (i : S8192x1.Idx) : val_main_v5 (F := Ideal)  i = (Ideal.ofBits .f32 0x44800000#32 : EReal) :=
  (val_main_v5_apply i).trans (r_cst_0 D _)
theorem r_v6 (i : S8192x1.Idx) : val_main_v6 (F := Ideal) (c2 D) i = (Ideal.div (∑ k, D.X (i 0) k * D.X (i 0) k) (Ideal.ofBits .f32 0x44800000#32) : EReal) :=
  (val_main_v6_apply _ i).trans (div_e (r_v4 D i) (r_v5 D i))
include D in
theorem r_cst_1 (i : S_.Idx) : val_main_cst_1 (F := Ideal)  i = (Ideal.ofBits .f32 0x358637BD#32 : EReal) :=
  (val_main_cst_1_apply i).trans rfl
include D in
theorem r_v7 (i : S8192x1.Idx) : val_main_v7 (F := Ideal)  i = (Ideal.ofBits .f32 0x358637BD#32 : EReal) :=
  (val_main_v7_apply i).trans (r_cst_1 D _)
theorem r_v8 (i : S8192x1.Idx) : val_main_v8 (F := Ideal) (c2 D) i = (msE (D.X (i 0)) : EReal) :=
  (val_main_v8_apply _ i).trans (add_e (r_v6 D i) (r_v7 D i))
theorem r_v9 (i : S8192x1.Idx) : val_main_v9 (F := Ideal) (c2 D) i = (rE (D.X (i 0)) : EReal) :=
  (val_main_v9_apply _ i).trans (rsqrt_e (r_v8 D i))
theorem r_v10 (i : S8192x1.Idx) : val_main_v10 (F := Ideal) (c2 D) i = (Ideal.div (rE (D.X (i 0))) (msE (D.X (i 0))) : EReal) :=
  (val_main_v10_apply _ i).trans (div_e (r_v9 D i) (r_v8 D i))
include D in
theorem r_cst_2 (i : S_.Idx) : val_main_cst_2 (F := Ideal)  i = (Ideal.ofBits .f32 0xBF000000#32 : EReal) :=
  (val_main_cst_2_apply i).trans rfl
include D in
theorem r_v11 (i : S8192x1.Idx) : val_main_v11 (F := Ideal)  i = (Ideal.ofBits .f32 0xBF000000#32 : EReal) :=
  (val_main_v11_apply i).trans (r_cst_2 D _)
theorem r_v12 (i : S8192x1.Idx) : val_main_v12 (F := Ideal) (c2 D) i = (Ideal.ofBits .f32 0xBF000000#32 * Ideal.div (rE (D.X (i 0))) (msE (D.X (i 0))) : EReal) :=
  (val_main_v12_apply _ i).trans (mul_e (r_v11 D i) (r_v10 D i))
theorem r_v13 (i : S8192x1024.Idx) : val_main_v13 (F := Ideal) (c2 D) i = (rE (D.X (i 0)) : EReal) :=
  (val_main_v13_apply _ i).trans (r_v9 D _)
theorem r_v14 (i : S8192x1024.Idx) : val_main_v14 (F := Ideal) (c2 D) i = (D.X (i 0) (i 1) * rE (D.X (i 0)) : EReal) :=
  (val_main_v14_apply _ i).trans (mul_e (rfl : c2 D i = _) (r_v13 D i))
theorem r_v18 (i : S8192x2560.Idx) : val_main_v18 (F := Ideal) (c0 D) i = (D.P (i 0) (i 1) : EReal) :=
  (val_main_v18_apply _ i).trans rfl
theorem r_v19 (i : S8192x1024.Idx) : val_main_v19 (F := Ideal) (c0 D) (c1 D) i = (dn D.P D.W (i 0) (i 1) : EReal) :=
  (val_main_v19_apply _ _ i).trans (dot_e (fun k => r_v18 D _) (fun k => r_v1 D _))
theorem r_v20 (i : S8192x1024.Idx) : val_main_v20 (F := Ideal) (c0 D) (c1 D) (c2 D) i = (D.X (i 0) (i 1) * rE (D.X (i 0)) * dn D.P D.W (i 0) (i 1) : EReal) :=
  (val_main_v20_apply _ _ _ i).trans (mul_e (r_v14 D i) (r_v19 D i))
include D in
theorem r_cst_3 (i : S_.Idx) : val_main_cst_3 (F := Ideal)  i = (0 : EReal) :=
  (val_main_cst_3_apply i).trans zero_e
theorem r_v21 (i : S1024.Idx) : val_main_v21 (F := Ideal) (c0 D) (c1 D) (c2 D) i = (∑ l, dn D.P D.W l (i 0) * (D.X l (i 0) * rE (D.X l)) : EReal) :=
  of_eq ((val_main_v21_apply _ _ _ i).trans (sum_e (r_cst_3 D _) fun k => r_v20 D _)) (Finset.sum_congr rfl fun k _ => mul_comm _ _)
theorem r_v22 (i : S1x1024.Idx) : val_main_v22 (F := Ideal) (c0 D) (c1 D) (c2 D) i = (∑ l, dn D.P D.W l (i 1) * (D.X l (i 1) * rE (D.X l)) : EReal) :=
  (val_main_v22_apply _ _ _ i).trans ((r_v21 D _).trans (congrArg (fun a : Fin 1024 => (∑ l, dn D.P D.W l a * (D.X l a * rE (D.X l)) : EReal)) (Fin.ext (cast_row i))))
theorem r_v23 (i : S8192x1024.Idx) : val_main_v23 (F := Ideal) (c4 D) i = (D.G (i 1) : EReal) :=
  (val_main_v23_apply _ i).trans rfl
theorem r_v24 (i : S8192x1024.Idx) : val_main_v24 (F := Ideal) (c0 D) (c1 D) (c4 D) i = (dn D.P D.W (i 0) (i 1) * D.G (i 1) : EReal) :=
  (val_main_v24_apply _ _ _ i).trans (mul_e (r_v19 D i) (r_v23 D i))
theorem r_v25 (i : S8192x1024.Idx) : val_main_v25 (F := Ideal) (c0 D) (c1 D) (c2 D) (c4 D) i = (D.X (i 0) (i 1) * (dn D.P D.W (i 0) (i 1) * D.G (i 1)) : EReal) :=
  (val_main_v25_apply _ _ _ _ i).trans (mul_e (rfl : c2 D i = _) (r_v24 D i))
include D in
theorem r_cst_4 (i : S_.Idx) : val_main_cst_4 (F := Ideal)  i = (0 : EReal) :=
  (val_main_cst_4_apply i).trans zero_e
theorem r_v26 (i : S8192.Idx) : val_main_v26 (F := Ideal) (c0 D) (c1 D) (c2 D) (c4 D) i = (∑ k, D.X (i 0) k * (dn D.P D.W (i 0) k * D.G k) : EReal) :=
  (val_main_v26_apply _ _ _ _ i).trans (sum_e (r_cst_4 D _) fun k => r_v25 D _)
theorem r_v27 (i : S8192x1.Idx) : val_main_v27 (F := Ideal) (c0 D) (c1 D) (c2 D) (c4 D) i = (∑ k, D.X (i 0) k * (dn D.P D.W (i 0) k * D.G k) : EReal) :=
  (val_main_v27_apply _ _ _ _ i).trans ((r_v26 D _).trans (congrArg (fun a : Fin 8192 => (∑ k, D.X a k * (dn D.P D.W a k * D.G k) : EReal)) (Fin.ext (cast_col i))))
theorem r_v28 (i : S8192x1024.Idx) : val_main_v28 (F := Ideal) (c2 D) i = (rE (D.X (i 0)) : EReal) :=
  (val_main_v28_apply _ i).trans (r_v9 D _)
theorem r_v29 (i : S8192x1024.Idx) : val_main_v29 (F := Ideal) (c0 D) (c1 D) (c2 D) (c4 D) i = (dn D.P D.W (i 0) (i 1) * D.G (i 1) * rE (D.X (i 0)) : EReal) :=
  (val_main_v29_apply _ _ _ _ i).trans (mul_e (r_v24 D i) (r_v28 D i))
theorem r_v31 (i : S8192x1.Idx) : val_main_v31 (F := Ideal) (c0 D) (c1 D) (c2 D) (c4 D) i = ((∑ k, D.X (i 0) k * (dn D.P D.W (i 0) k * D.G k)) * (Ideal.ofBits .f32 0xBF000000#32 * Ideal.div (rE (D.X (i 0))) (msE (D.X (i 0)))) : EReal) :=
  (val_main_v31_apply _ _ _ _ i).trans (mul_e (r_v27 D i) (r_v12 D i))
include D in
theorem r_cst_5 (i : S_.Idx) : val_main_cst_5 (F := Ideal)  i = (Ideal.ofBits .f32 0x44800000#32 : EReal) :=
  (val_main_cst_5_apply i).trans rfl
include D in
theorem r_v32 (i : S8192x1.Idx) : val_main_v32 (F := Ideal)  i = (Ideal.ofBits .f32 0x44800000#32 : EReal) :=
  (val_main_v32_apply i).trans (r_cst_5 D _)
theorem r_v33 (i : S8192x1.Idx) : val_main_v33 (F := Ideal) (c0 D) (c1 D) (c2 D) (c4 D) i = (halfE (D.X (i 0)) D.G (dn D.P D.W (i 0)) : EReal) :=
  (val_main_v33_apply _ _ _ _ i).trans (div_e (r_v31 D i) (r_v32 D i))
include D in
theorem r_cst_6 (i : S_.Idx) : val_main_cst_6 (F := Ideal)  i = (0 : EReal) :=
  (val_main_cst_6_apply i).trans zero_e
theorem r_v34 (i : S8192.Idx) : val_main_v34 (F := Ideal) (c0 D) (c1 D) (c2 D) (c4 D) i = (halfE (D.X (i 0)) D.G (dn D.P D.W (i 0)) : EReal) :=
  of_eq ((val_main_v34_apply _ _ _ _ i).trans (sum_e (r_cst_6 D _) fun k => r_v33 D _)) (Fin.sum_univ_one _)
theorem r_v35 (i : S8192x1024.Idx) : val_main_v35 (F := Ideal) (c0 D) (c1 D) (c2 D) (c4 D) i = (halfE (D.X (i 0)) D.G (dn D.P D.W (i 0)) : EReal) :=
  (val_main_v35_apply _ _ _ _ i).trans (r_v34 D _)
theorem r_v30 (i : S8192x1024.Idx) : val_main_v30 (F := Ideal) (c0 D) (c1 D) (c2 D) (c3 D) (c4 D) i = (D.R (i 0) (i 1) + dn D.P D.W (i 0) (i 1) * D.G (i 1) * rE (D.X (i 0)) : EReal) :=
  (val_main_v30_apply _ _ _ _ _ i).trans (add_e (rfl : c3 D i = _) (r_v29 D i))
theorem r_v36 (i : S8192x1024.Idx) : val_main_v36 (F := Ideal) (c0 D) (c1 D) (c2 D) (c4 D) i = (D.X (i 0) (i 1) * halfE (D.X (i 0)) D.G (dn D.P D.W (i 0)) : EReal) :=
  (val_main_v36_apply _ _ _ _ i).trans (mul_e (rfl : c2 D i = _) (r_v35 D i))
theorem r_v37 (i : S8192x1024.Idx) : val_main_v37 (F := Ideal) (c0 D) (c1 D) (c2 D) (c3 D) (c4 D) i = (D.R (i 0) (i 1) + dn D.P D.W (i 0) (i 1) * D.G (i 1) * rE (D.X (i 0)) + D.X (i 0) (i 1) * halfE (D.X (i 0)) D.G (dn D.P D.W (i 0)) : EReal) :=
  (val_main_v37_apply _ _ _ _ _ i).trans (add_e (r_v30 D i) (r_v36 D i))
theorem r_v38 (i : S8192x1024.Idx) : val_main_v38 (F := Ideal) (c0 D) (c1 D) (c2 D) (c4 D) i = (halfE (D.X (i 0)) D.G (dn D.P D.W (i 0)) * D.X (i 0) (i 1) : EReal) :=
  (val_main_v38_apply _ _ _ _ i).trans (mul_e (r_v35 D i) (rfl : c2 D i = _))
theorem r_v39 (i : S8192x1024.Idx) : val_main_v39 (F := Ideal) (c0 D) (c1 D) (c2 D) (c3 D) (c4 D) i = (D.R (i 0) (i 1) + backE (D.X (i 0)) D.G (dn D.P D.W (i 0)) (i 1) : EReal) :=
  of_eq ((val_main_v39_apply _ _ _ _ _ i).trans (add_e (r_v37 D i) (r_v38 D i))) (back_all _ _ _ _ _)

end Cert.RProjBIdeal.Whole
end
-- ==== Proof.ProjBackSame.lean ====
module
public import proofs.«01_k».proof.Defs
public import proofs.«01_k».proof.Proof.Gen.RProjBIdeal.Run
public import proofs.«01_k».proof.Proof.Gen.RProjBIdeal
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.ProjBack
public import proofs.«01_k».proof.Proof.ProjBackRef
@[expose] public section
set_option maxRecDepth 16384
noncomputable section
open Idealize.ShloMosaic Idealize.ShloMosaic.TcCoe Idealize.SL.Sem

namespace Cert.RProjBIdeal.Whole
open Cert.RProjBIdeal Cert.RProjBIdeal.Read

/-- The arguments as matrices. -/
def dataOf (x0 : S8192x2560.Idx → EReal) (x1 : S2560x1024.Idx → EReal) (x2 x3 : S8192x1024.Idx → EReal) (x4 : S1x1024.Idx → EReal) : Data where
  P := fun i j => x0 (ix2 i j)
  W := fun i j => x1 (ix2 i j)
  X := fun i j => x2 (ix2 i j)
  R := fun i j => x3 (ix2 i j)
  G := fun j => x4 (ix2 0 j)

variable (x0 : S8192x2560.Idx → EReal) (x1 : S2560x1024.Idx → EReal) (x2 x3 : S8192x1024.Idx → EReal) (x4 : S1x1024.Idx → EReal)

theorem c0_of : c0 (dataOf x0 x1 x2 x3 x4) = x0 := funext fun i => congrArg x0 (ix2_eta i)
theorem c1_of : c1 (dataOf x0 x1 x2 x3 x4) = x1 := funext fun i => congrArg x1 (ix2_eta i)
theorem c2_of : c2 (dataOf x0 x1 x2 x3 x4) = x2 := funext fun i => congrArg x2 (ix2_eta i)
theorem c3_of : c3 (dataOf x0 x1 x2 x3 x4) = x3 := funext fun i => congrArg x3 (ix2_eta i)
theorem c4_of : c4 (dataOf x0 x1 x2 x3 x4) = x4 := funext fun i => congrArg x4 (funext fun a => match a with
  | ⟨0, _⟩ => (Fin.ext (Nat.lt_one_iff.mp (i 0).isLt)).symm
  | ⟨1, _⟩ => rfl)

theorem value_x : val_main_v39 (F := Ideal) x0 x1 x2 x3 x4
    = fun i => Cert.ProjBIdeal.Back.gx (fun i j => x0 (ix2 i j)) (fun i j => x1 (ix2 i j)) (fun i j => x2 (ix2 i j)) (fun i j => x3 (ix2 i j)) (fun j => x4 (ix2 0 j)) (i 0) (i 1) := by
  funext i
  have h := r_v39 (dataOf x0 x1 x2 x3 x4) i
  rw [c0_of, c1_of, c2_of, c3_of, c4_of] at h
  exact h

theorem value_g : val_main_v22 (F := Ideal) x0 x1 x2
    = fun i => Cert.ProjBIdeal.Back.dg (fun i j => x0 (ix2 i j)) (fun i j => x1 (ix2 i j)) (fun i j => x2 (ix2 i j)) (i 1) := by
  funext i
  have h := r_v22 (dataOf x0 x1 x2 x2 (fun _ => 0)) i
  rw [c0_of, c1_of, c2_of] at h
  exact h

end Cert.RProjBIdeal.Whole

namespace Cert.Proof

theorem rprojb_frame : Cert.quiescent_RProjBIdeal (hRProjBIdeal := Cert.RProjBIdeal.Gen.facts) := by
  intro m ρ _
  exact (θ_run _ _ _).mono (fun r h => ⟨fun c => (h c).2.2, funext fun g => nomatch g.2⟩) (Cert.RProjBIdeal.Value.run (F := Ideal) m ρ)

theorem projb_same : Cert.algebraic_ProjBIdeal_RProjBIdeal (hProjBIdeal := Cert.ProjBIdeal.Gen.facts) (hRProjBIdeal := Cert.RProjBIdeal.Gen.facts) := by
  intro m g m' g' _ hagree
  refine ⟨fun c => (fun i => Cert.ProjBIdeal.Back.resX m c (i 0) (i 1)), fun c => (fun i => Cert.ProjBIdeal.Back.resG m c (i 1)),
    Cert.ProjBIdeal.Back.run m g, (θ_run _ _ _).mono (fun r h c => ?_) (Cert.RProjBIdeal.Value.run (F := Ideal) m' g')⟩
  obtain ⟨e0, e1, e2, e3, e4⟩ := hagree c
  obtain ⟨h0, h1, hargs⟩ := h c
  refine ⟨h0.trans ?_, h1.trans ?_, hargs⟩
  · rw [Cert.RProjBIdeal.Read.val_main_v39_eq, e0, e1, e2, e3, e4]
    exact Cert.RProjBIdeal.Whole.value_x _ _ _ _ _
  · rw [Cert.RProjBIdeal.Read.val_main_v22_eq, e0, e1, e2]
    exact Cert.RProjBIdeal.Whole.value_g _ _ _

end Cert.Proof
end
-- ==== Proof.MixFwd.lean ====
module
public import proofs.«01_k».proof.Proof.Gen.MixFIdeal.Frame
public import proofs.«01_k».proof.Proof.Gen.MixFIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.MixFIdeal.Fwd
open Cert.MixFIdeal Cert.MixFIdeal.Gen Cert.FfnMath Cert.NormMath

/-! # The product with w_out, and the two normalisations after it -/

/-- Two rows side by side. -/
def catR (p : Fin 256 → EReal) (a : Fin 768 → EReal) (j : Fin 1024) : EReal := if h : j.val < 256 then p ⟨j.val, h⟩ else a ⟨j.val - 256, by omega⟩
theorem cat_low (p : Fin 256 → EReal) (a : Fin 768 → EReal) (k : Fin 256) : catR p a ⟨k.val, by omega⟩ = p k := dif_pos k.isLt
theorem cat_high (p : Fin 256 → EReal) (a : Fin 768 → EReal) (k : Fin 768) : catR p a ⟨256 + k.val, by omega⟩ = a k :=
  (dif_neg (by show ¬(256 + k.val < 256); omega)).trans (congrArg a (Fin.ext (by show 256 + k.val - 256 = k.val; omega)))

def attOf (A : Fin 6 → Fin 8192 → Fin 128 → EReal) (i : Fin 8192) (j : Fin 768) : EReal := A ⟨j.val / 128, by omega⟩ i ⟨j.val % 128, by omega⟩
theorem att_of (A : Fin 6 → Fin 8192 → Fin 128 → EReal) {g : Fin 6} {i i' : Fin 8192} {l : Fin 128} {j : Fin 768} (hg : g.val = j.val / 128) (hi : i'.val = i.val) (hl : l.val = j.val % 128) :
    A g i' l = attOf A i j := by
  obtain rfl : i' = i := Fin.ext hi
  exact congrArg₂ (fun (a : Fin 6) (b : Fin 128) => A a i' b) (Fin.ext hg) (Fin.ext hl)

/-- The inputs side by side, their product, the stream after it, and its normalisation. -/
def catOf (P : Fin 8192 → Fin 256 → EReal) (A : Fin 6 → Fin 8192 → Fin 128 → EReal) (i : Fin 8192) (j : Fin 1024) : EReal := catR (P i) (attOf A i) j
def mixOf (P : Fin 8192 → Fin 256 → EReal) (A : Fin 6 → Fin 8192 → Fin 128 → EReal) (W : Fin 1024 → Fin 1024 → EReal) (i : Fin 8192) (j : Fin 1024) : EReal := ∑ l : Fin 1024, catOf P A i l * W l j
def addN (x f g : Fin 1024 → EReal) (j : Fin 1024) : EReal := x j + normE f g j

section pay
variable {v0 : Vec Ideal S1024x256 .bf16} {u0 u1 u2 u3 u4 u5 : Vec Ideal S1x1024x128 .bf16} {v16 : Vec Ideal S256x1024 .bf16} {v18 : Vec Ideal S768x1024 .bf16}
  {v20 : FVec Ideal S1024x1024 .f32} {v22 : Vec Ideal S1024x1024 .f32} {v23 v38 : Vec Ideal S1x1024 .f32}
  {p : Fin 1024 → Fin 256 → EReal} {a : Fin 1024 → Fin 768 → EReal} {w f x : Fin 1024 → Fin 1024 → EReal} {g g' : Fin 1024 → EReal}

theorem pay1_at (hf : ∀ r k, v20 (ix2 r k) = f r k) (hx : ∀ r k, v22 (ix2 r k) = x r k) (hg : ∀ k, v23 (ix2 0 k) = g k) (r j : Fin 1024) :
    (k0_pay1 (F := Ideal) v20 v22 v23) (ix2 r j) = addN (x r) (f r) g j := by
  unfold k0_pay1
  pointwise
  simp only [hf, hx, hg]
  rfl

theorem pay2_at (hf : ∀ r k, v20 (ix2 r k) = f r k) (hx : ∀ r k, v22 (ix2 r k) = x r k) (hg : ∀ k, v23 (ix2 0 k) = g k) (hg' : ∀ k, v38 (ix2 0 k) = g' k) (r j : Fin 1024) :
    (k0_pay2 (F := Ideal) v20 v22 v23 v38) (ix2 r j) = normE (addN (x r) (f r) g) g' j := by
  unfold k0_pay2
  pointwise
  show k0_pay1 v20 v22 v23 (ix2 r j) * Ideal.rsqrt (Ideal.div (∑ k : Fin 1024, k0_pay1 v20 v22 v23 (ix2 r k) * k0_pay1 v20 v22 v23 (ix2 r k)) (Ideal.ofBits .f32 0x44800000#32) + Ideal.ofBits .f32 0x358637BD#32) * v38 (ix2 0 j) = _
  simp only [pay1_at hf hx hg, hg']
  rfl

theorem pay3_at {a : Fin 6 → Fin 1024 → Fin 128 → EReal} (h0 : ∀ r k, u0 (ix3 0 r k) = a 0 r k) (h1 : ∀ r k, u1 (ix3 0 r k) = a 1 r k) (h2 : ∀ r k, u2 (ix3 0 r k) = a 2 r k)
    (h3 : ∀ r k, u3 (ix3 0 r k) = a 3 r k) (h4 : ∀ r k, u4 (ix3 0 r k) = a 4 r k) (h5 : ∀ r k, u5 (ix3 0 r k) = a 5 r k) (r : Fin 1024) (j : Fin 768) :
    (k0_pay3 (F := Ideal) u0 u1 u2 u3 u4 u5) (ix2 r j) = a ⟨j.val / 128, by omega⟩ r ⟨j.val % 128, by omega⟩ := by
  unfold k0_pay3
  pointwise
  by_cases c0 : j.val < 128
  · rw [dif_pos c0]
    exact (h0 r _).trans (congrArg₂ (fun (g : Fin 6) (l : Fin 128) => a g r l) (Fin.ext (by show 0 = j.val / 128; omega)) (Fin.ext (by show j.val = j.val % 128; omega)))
  rw [dif_neg c0]
  by_cases c1 : j.val - 128 < 128
  · rw [dif_pos c1]
    exact (h1 r _).trans (congrArg₂ (fun (g : Fin 6) (l : Fin 128) => a g r l) (Fin.ext (by show 1 = j.val / 128; omega)) (Fin.ext (by show j.val - 128 = j.val % 128; omega)))
  rw [dif_neg c1]
  by_cases c2 : j.val - 128 - 128 < 128
  · rw [dif_pos c2]
    exact (h2 r _).trans (congrArg₂ (fun (g : Fin 6) (l : Fin 128) => a g r l) (Fin.ext (by show 2 = j.val / 128; omega)) (Fin.ext (by show j.val - 128 - 128 = j.val % 128; omega)))
  rw [dif_neg c2]
  by_cases c3 : j.val - 128 - 128 - 128 < 128
  · rw [dif_pos c3]
    exact (h3 r _).trans (congrArg₂ (fun (g : Fin 6) (l : Fin 128) => a g r l) (Fin.ext (by show 3 = j.val / 128; omega)) (Fin.ext (by show j.val - 128 - 128 - 128 = j.val % 128; omega)))
  rw [dif_neg c3]
  by_cases c4 : j.val - 128 - 128 - 128 - 128 < 128
  · rw [dif_pos c4]
    exact (h4 r _).trans (congrArg₂ (fun (g : Fin 6) (l : Fin 128) => a g r l) (Fin.ext (by show 4 = j.val / 128; omega)) (Fin.ext (by show j.val - 128 - 128 - 128 - 128 = j.val % 128; omega)))
  rw [dif_neg c4]
  exact (h5 r _).trans (congrArg₂ (fun (g : Fin 6) (l : Fin 128) => a g r l) (Fin.ext (by show 5 = j.val / 128; omega)) (Fin.ext (by show j.val - 128 - 128 - 128 - 128 - 128 = j.val % 128; omega)))

theorem pay4_at (h0 : ∀ r k, v0 (ix2 r k) = p r k) (h3 : ∀ r k, (k0_pay3 (F := Ideal) u0 u1 u2 u3 u4 u5) (ix2 r k) = a r k) (r j : Fin 1024) :
    (k0_pay4 (F := Ideal) v0 u0 u1 u2 u3 u4 u5) (ix2 r j) = catR (p r) (a r) j := by
  unfold k0_pay4
  pointwise
  unfold catR
  by_cases h : j.val < 256
  · rw [dif_pos h, dif_pos h]
    exact h0 r _
  · rw [dif_neg h, dif_neg h]
    exact h3 r _

theorem pay5_at (h0 : ∀ r k, v0 (ix2 r k) = p r k) (h3 : ∀ r k, (k0_pay3 (F := Ideal) u0 u1 u2 u3 u4 u5) (ix2 r k) = a r k)
    (h16 : ∀ (k : Fin 256) j, v16 (ix2 k j) = w ⟨k.val, by omega⟩ j) (h18 : ∀ (k : Fin 768) j, v18 (ix2 k j) = w ⟨256 + k.val, by omega⟩ j) (r j : Fin 1024) :
    (k0_pay5 (F := Ideal) v0 u0 u1 u2 u3 u4 u5 v16 v18) (ix2 r j) = ∑ l : Fin 1024, catR (p r) (a r) l * w l j := by
  unfold k0_pay5
  pointwise
  show ∑ k : Fin 256, v0 (ix2 r k) * v16 (ix2 k j) + ∑ k : Fin 768, k0_pay3 (F := Ideal) u0 u1 u2 u3 u4 u5 (ix2 r k) * v18 (ix2 k j) = _
  refine Eq.trans ?_ (Fin.sum_univ_add (a := 256) (b := 768) fun l : Fin 1024 => catR (p r) (a r) l * w l j).symm
  refine congrArg₂ (fun a b : EReal => a + b) (Finset.sum_congr rfl fun k _ => ?_) (Finset.sum_congr rfl fun k _ => ?_)
  · exact congrArg₂ (fun a b : EReal => a * b) ((h0 r k).trans (cat_low (p r) (a r) k).symm) (h16 k j)
  · exact congrArg₂ (fun a b : EReal => a * b) ((h3 r k).trans (cat_high (p r) (a r) k).symm) (h18 k j)
end pay

variable (m : (ℓ : Loc nD τ sig) → Buf (Elt Ideal) ℓ) (c : Dev nD)

theorem row_lt (t : Fin cfg0.N) (r : Fin 1024) : t.val * 1024 + r.val < 8192 := by
  have := lt_of_lt_of_eq t.isLt (show cfg0.N = 8 from N_0)
  omega

/-- The token a block's row holds. -/
def row (t : Fin cfg0.N) (r : Fin 1024) : Fin 8192 := ⟨t.val * 1024 + r.val, row_lt t r⟩

theorem row_sum (t : Fin cfg0.N) (h : t.val % 8 = 8 - 1) (s : Fin 8) (k : Fin 1024) (hl : s.val * 1024 + k.val < 8192)
    (hs : 8 * (t.val / 8) + s.val < cfg0.N) : row ⟨8 * (t.val / 8) + s.val, hs⟩ k = ⟨s.val * 1024 + k.val, hl⟩ := Fin.ext (by
  have := lt_of_lt_of_eq t.isLt (show cfg0.N = 8 from N_0)
  show (8 * (t.val / 8) + s.val) * 1024 + k.val = s.val * 1024 + k.val
  omega)
theorem index_0 : ∀ t : Fin cfg0.N, (cfg0.win 0).index t = ![t.val, 0] := by decide +kernel
abbrev matP : Fin 8192 → Fin 256 → EReal := fun i j => (m ((c : Thread nD τ).loc main_arg0) : S8192x256.Idx → EReal) (ix2 i j)
def blockP (t : Fin cfg0.N) : S1024x256.Idx → EReal := iblk m c 0 t
theorem atP (t : Fin cfg0.N) (r : Fin 1024) (k : Fin 256) : blockP m c t (ix2 r k) = matP m c (row t r) k := by
  unfold blockP
  have hk : (row t r).val = t.val * 1024 + r.val := rfl
  blk_ext [iblk, index_0 t]

theorem index_1 : ∀ t : Fin cfg0.N, (cfg0.win 1).index t = ![0, t.val, 0] := by decide +kernel
abbrev matA : Fin 6 → Fin 8192 → Fin 128 → EReal := fun g i j => (m ((c : Thread nD τ).loc main_arg1) : S6x8192x128.Idx → EReal) (ix3 g i j)
def blockA (t : Fin cfg0.N) : S6x1024x128.Idx → EReal := iblk m c 1 t
theorem atA (t : Fin cfg0.N) (g : Fin 6) (r : Fin 1024) (k : Fin 128) : blockA m c t (ix3 g r k) = matA m c g (row t r) k := by
  unfold blockA
  have hk : (row t r).val = t.val * 1024 + r.val := rfl
  blk_ext [iblk, index_1 t]

theorem index_2 : ∀ t : Fin cfg0.N, (cfg0.win 2).index t = ![t.val, 0] := by decide +kernel
abbrev matX : Fin 8192 → Fin 1024 → EReal := fun i j => (m ((c : Thread nD τ).loc main_arg2) : S8192x1024.Idx → EReal) (ix2 i j)
def blockX (t : Fin cfg0.N) : S1024x1024.Idx → EReal := iblk m c 2 t
theorem atX (t : Fin cfg0.N) (r : Fin 1024) (k : Fin 1024) : blockX m c t (ix2 r k) = matX m c (row t r) k := by
  unfold blockX
  have hk : (row t r).val = t.val * 1024 + r.val := rfl
  blk_ext [iblk, index_2 t]

theorem index_3 : ∀ t : Fin cfg0.N, (cfg0.win 3).index t = ![0, 0] := by decide +kernel
abbrev matW : Fin 1024 → Fin 1024 → EReal := fun i j => (m ((c : Thread nD τ).loc main_arg3) : S1024x1024.Idx → EReal) (ix2 i j)
def blockW (t : Fin cfg0.N) : S1024x1024.Idx → EReal := iblk m c 3 t
theorem atW (t : Fin cfg0.N) (r : Fin 1024) (k : Fin 1024) : blockW m c t (ix2 r k) = matW m c r k := by
  unfold blockW
  blk_ext [iblk, index_3 t]

theorem index_4 : ∀ t : Fin cfg0.N, (cfg0.win 4).index t = ![0, 0] := by decide +kernel
abbrev matG : Fin 1 → Fin 1024 → EReal := fun i j => (m ((c : Thread nD τ).loc main_arg4) : S1x1024.Idx → EReal) (ix2 i j)
def blockG (t : Fin cfg0.N) : S1x1024.Idx → EReal := iblk m c 4 t
theorem atG (t : Fin cfg0.N) (r : Fin 1) (k : Fin 1024) : blockG m c t (ix2 r k) = matG m c r k := by
  unfold blockG
  blk_ext [iblk, index_4 t]

theorem index_5 : ∀ t : Fin cfg0.N, (cfg0.win 5).index t = ![0, 0] := by decide +kernel
abbrev matH : Fin 1 → Fin 1024 → EReal := fun i j => (m ((c : Thread nD τ).loc main_arg5) : S1x1024.Idx → EReal) (ix2 i j)
def blockH (t : Fin cfg0.N) : S1x1024.Idx → EReal := iblk m c 5 t
theorem atH (t : Fin cfg0.N) (r : Fin 1) (k : Fin 1024) : blockH m c t (ix2 r k) = matH m c r k := by
  unfold blockH
  blk_ext [iblk, index_5 t]

theorem index_6 : ∀ t : Fin cfg0.N, (cfg0.win 6).index t = ![t.val, 0] := by decide +kernel
theorem index_7 : ∀ t : Fin cfg0.N, (cfg0.win 7).index t = ![t.val, 0] := by decide +kernel
theorem index_8 : ∀ t : Fin cfg0.N, (cfg0.win 8).index t = ![t.val, 0] := by decide +kernel
theorem index_9 : ∀ t : Fin cfg0.N, (cfg0.win 9).index t = ![t.val, 0] := by decide +kernel

abbrev gainG (j : Fin 1024) : EReal := matG m c 0 j
abbrev gainH (j : Fin 1024) : EReal := matH m c 0 j
abbrev resC (i : Fin 8192) (j : Fin 1024) : EReal := catOf (matP m c) (matA m c) i j
abbrev resM (i : Fin 8192) (j : Fin 1024) : EReal := mixOf (matP m c) (matA m c) (matW m c) i j
abbrev resX (i : Fin 8192) (j : Fin 1024) : EReal := addN (matX m c i) (mixOf (matP m c) (matA m c) (matW m c) i) (gainG m c) j
abbrev resH (i : Fin 8192) (j : Fin 1024) : EReal := normE (addN (matX m c i) (mixOf (matP m c) (matA m c) (matW m c) i) (gainG m c)) (gainH m c) j

abbrev groupA (t : Fin cfg0.N) (g : ℕ) (inb : ∀ a, ![g, 0, 0] a + ![1, 1024, 128] a ≤ S6x1024x128.size a) := View.ld (Val := Elt Ideal) (e' := .bf16) (blockA m c t) (Rect.unit (s := S6x1024x128) ![g, 0, 0] ![1, 1024, 128] inb)
theorem groupA_at (t : Fin cfg0.N) (g : Fin 6) (inb) (r : Fin 1024) (k : Fin 128) : groupA m c t g.val inb (ix3 0 r k) = matA m c g (row t r) k :=
  (View.ld_unit_apply_of (Val := Elt Ideal) (e := .bf16) (blockA m c t) ![g.val, 0, 0] ![1, 1024, 128] inb (ix3 0 r k) (ix3 g r k) (fun a => match a with
    | ⟨0, _⟩ => rfl
    | ⟨1, _⟩ => (Nat.zero_add _).symm
    | ⟨2, _⟩ => (Nat.zero_add _).symm)).trans (atA m c t g r k)

abbrev lowW (t : Fin cfg0.N) (inb : ∀ a, ![0, 0] a + ![256, 1024] a ≤ S1024x1024.size a) := View.ld (Val := Elt Ideal) (e' := .bf16) (blockW m c t) (Rect.unit (s := S1024x1024) ![0, 0] ![256, 1024] inb)
theorem lowW_at (t : Fin cfg0.N) (inb) (k : Fin 256) (j : Fin 1024) : lowW m c t inb (ix2 k j) = matW m c ⟨k.val, by omega⟩ j :=
  (View.ld_unit_apply_of (Val := Elt Ideal) (e := .bf16) (blockW m c t) ![0, 0] ![256, 1024] inb (ix2 k j) (ix2 ⟨k.val, by omega⟩ j) (fun a => match a with
    | ⟨0, _⟩ => (Nat.zero_add _).symm
    | ⟨1, _⟩ => (Nat.zero_add _).symm)).trans (atW m c t _ j)
abbrev highW (t : Fin cfg0.N) (inb : ∀ a, ![256, 0] a + ![768, 1024] a ≤ S1024x1024.size a) := View.ld (Val := Elt Ideal) (e' := .bf16) (blockW m c t) (Rect.unit (s := S1024x1024) ![256, 0] ![768, 1024] inb)
theorem highW_at (t : Fin cfg0.N) (inb) (k : Fin 768) (j : Fin 1024) : highW m c t inb (ix2 k j) = matW m c ⟨256 + k.val, by omega⟩ j :=
  (View.ld_unit_apply_of (Val := Elt Ideal) (e := .bf16) (blockW m c t) ![256, 0] ![768, 1024] inb (ix2 k j) (ix2 ⟨256 + k.val, by omega⟩ j) (fun a => match a with
    | ⟨0, _⟩ => rfl
    | ⟨1, _⟩ => (Nat.zero_add _).symm)).trans (atW m c t _ j)

theorem att_at (t : Fin cfg0.N) (i0 i1 i2 i3 i4 i5) (r : Fin 1024) (j : Fin 768) :
    (k0_pay3 (F := Ideal) (groupA m c t 0 i0) (groupA m c t 1 i1) (groupA m c t 2 i2) (groupA m c t 3 i3) (groupA m c t 4 i4) (groupA m c t 5 i5)) (ix2 r j) = attOf (matA m c) (row t r) j :=
  pay3_at (a := fun g r k => matA m c g (row t r) k) (groupA_at m c t 0 _) (groupA_at m c t 1 _) (groupA_at m c t 2 _) (groupA_at m c t 3 _) (groupA_at m c t 4 _) (groupA_at m c t 5 _) r j

theorem cat_at (t : Fin cfg0.N) (i0 i1 i2 i3 i4 i5) (r j : Fin 1024) :
    (k0_pay4 (F := Ideal) (blockP m c t) (groupA m c t 0 i0) (groupA m c t 1 i1) (groupA m c t 2 i2) (groupA m c t 3 i3) (groupA m c t 4 i4) (groupA m c t 5 i5)) (ix2 r j) = resC m c (row t r) j :=
  pay4_at (p := fun r => matP m c (row t r)) (a := fun r => attOf (matA m c) (row t r)) (atP m c t) (att_at m c t _ _ _ _ _ _) r j

theorem mix_at (t : Fin cfg0.N) (i0 i1 i2 i3 i4 i5 j0 j1) (r j : Fin 1024) :
    (k0_pay5 (F := Ideal) (blockP m c t) (groupA m c t 0 i0) (groupA m c t 1 i1) (groupA m c t 2 i2) (groupA m c t 3 i3) (groupA m c t 4 i4) (groupA m c t 5 i5) (lowW m c t j0) (highW m c t j1)) (ix2 r j) = resM m c (row t r) j :=
  pay5_at (p := fun r => matP m c (row t r)) (a := fun r => attOf (matA m c) (row t r)) (w := matW m c) (atP m c t) (att_at m c t _ _ _ _ _ _) (lowW_at m c t _) (highW_at m c t _) r j

theorem after_6 (t : Fin cfg0.N) (r : Fin 1024) (k : Fin 1024) : (dats m 0 c).after 6 t (ix2 r k) = resC m c (row t r) k := by
  rw [after0_6]
  unfold_out out0_6
  frame_out
  exact cat_at m c t _ _ _ _ _ _ r k

theorem array_6 : (dats m 0 c).arrAt 6 cfg0.N = (fun i => resC m c (i 0) (i 1) : S8192x1024.Idx → EReal) := by
  refine Dat.arrAt_eq_of_covers (dats m 0 c) 6 _ (by decide +kernel) fun t hf y => ?_
  have e : (dats m 0 c).after 6 t y = resC m c (row t (y 0)) (y 1) :=
    (congrArg ((dats m 0 c).after 6 t) (ix2_eta y).symm).trans (after_6 m c t (y 0) (y 1))
  blk_simp
  rw [e]
  refine congrArg₂ (fun (a : Fin 8192) (b : Fin 1024) => resC m c a b) (Fin.ext ?_) (Fin.ext ?_) <;> blk_simp [index_6 t] <;> rfl

theorem after_7 (t : Fin cfg0.N) (r : Fin 1024) (k : Fin 1024) : (dats m 0 c).after 7 t (ix2 r k) = resM m c (row t r) k := by
  rw [after0_7]
  unfold_out out0_7
  frame_out
  exact mix_at m c t _ _ _ _ _ _ _ _ r k

theorem array_7 : (dats m 0 c).arrAt 7 cfg0.N = (fun i => resM m c (i 0) (i 1) : S8192x1024.Idx → EReal) := by
  refine Dat.arrAt_eq_of_covers (dats m 0 c) 7 _ (by decide +kernel) fun t hf y => ?_
  have e : (dats m 0 c).after 7 t y = resM m c (row t (y 0)) (y 1) :=
    (congrArg ((dats m 0 c).after 7 t) (ix2_eta y).symm).trans (after_7 m c t (y 0) (y 1))
  blk_simp
  rw [e]
  refine congrArg₂ (fun (a : Fin 8192) (b : Fin 1024) => resM m c a b) (Fin.ext ?_) (Fin.ext ?_) <;> blk_simp [index_7 t] <;> rfl

theorem after_8 (t : Fin cfg0.N) (r : Fin 1024) (k : Fin 1024) : (dats m 0 c).after 8 t (ix2 r k) = resX m c (row t r) k := by
  rw [after0_8]
  unfold_out out0_8
  frame_out
  exact pay1_at (f := fun r => resM m c (row t r)) (x := fun r => matX m c (row t r)) (g := gainG m c) (mix_at m c t _ _ _ _ _ _ _ _) (atX m c t) (atG m c t 0) r k

theorem array_8 : (dats m 0 c).arrAt 8 cfg0.N = (fun i => resX m c (i 0) (i 1) : S8192x1024.Idx → EReal) := by
  refine Dat.arrAt_eq_of_covers (dats m 0 c) 8 _ (by decide +kernel) fun t hf y => ?_
  have e : (dats m 0 c).after 8 t y = resX m c (row t (y 0)) (y 1) :=
    (congrArg ((dats m 0 c).after 8 t) (ix2_eta y).symm).trans (after_8 m c t (y 0) (y 1))
  blk_simp
  rw [e]
  refine congrArg₂ (fun (a : Fin 8192) (b : Fin 1024) => resX m c a b) (Fin.ext ?_) (Fin.ext ?_) <;> blk_simp [index_8 t] <;> rfl

theorem after_9 (t : Fin cfg0.N) (r : Fin 1024) (k : Fin 1024) : (dats m 0 c).after 9 t (ix2 r k) = resH m c (row t r) k := by
  rw [after0_9]
  unfold_out out0_9
  frame_out
  exact pay2_at (f := fun r => resM m c (row t r)) (x := fun r => matX m c (row t r)) (g := gainG m c) (g' := gainH m c) (mix_at m c t _ _ _ _ _ _ _ _) (atX m c t) (atG m c t 0) (atH m c t 0) r k

theorem array_9 : (dats m 0 c).arrAt 9 cfg0.N = (fun i => resH m c (i 0) (i 1) : S8192x1024.Idx → EReal) := by
  refine Dat.arrAt_eq_of_covers (dats m 0 c) 9 _ (by decide +kernel) fun t hf y => ?_
  have e : (dats m 0 c).after 9 t y = resH m c (row t (y 0)) (y 1) :=
    (congrArg ((dats m 0 c).after 9 t) (ix2_eta y).symm).trans (after_9 m c t (y 0) (y 1))
  blk_simp
  rw [e]
  refine congrArg₂ (fun (a : Fin 8192) (b : Fin 1024) => resH m c a b) (Fin.ext ?_) (Fin.ext ?_) <;> blk_simp [index_9 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = (fun i => resC m c (i 0) (i 1) : S8192x1024.Idx → EReal)
      ∧ r.2.mem ((c : Thread nD τ).loc main_v0_1) = (fun i => resM m c (i 0) (i 1) : S8192x1024.Idx → EReal)
      ∧ r.2.mem ((c : Thread nD τ).loc main_v0_2) = (fun i => resX m c (i 0) (i 1) : S8192x1024.Idx → EReal)
      ∧ r.2.mem ((c : Thread nD τ).loc main_v0_3) = (fun i => resH m c (i 0) (i 1) : S8192x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun r h c => by
    obtain ⟨h6, h7, h8, h9, hr⟩ := h c
    exact ⟨h6.trans (array_6 m c), h7.trans (array_7 m c), h8.trans (array_8 m c), h9.trans (array_9 m c), hr⟩) (Value.run_blocks (F := Ideal) m ρ)

end Cert.MixFIdeal.Fwd
end
-- ==== Proof.MixFwdRef.lean ====
module
public import proofs.«01_k».proof.Proof.Gen.RMixFIdeal.Read
public import proofs.«01_k».proof.Proof.MixFwd
public import Idealize.ShloMosaic.Lib.Pointwise
@[expose] public section
set_option maxRecDepth 16384
noncomputable section
open Idealize.ShloMosaic Idealize.ShloMosaic.TcCoe Idealize.SL.Sem
namespace Cert.RMixFIdeal.Whole
open Cert.RMixFIdeal Cert.RMixFIdeal.Gen Cert.RMixFIdeal.Read Cert.FfnMath Cert.NormMath Cert.MixFIdeal.Fwd

/-! # The reference of the product with w_out -/

structure Data where
  P : Fin 8192 → Fin 256 → EReal
  A : Fin 6 → Fin 8192 → Fin 128 → EReal
  X : Fin 8192 → Fin 1024 → EReal
  W : Fin 1024 → Fin 1024 → EReal
  G : Fin 1024 → EReal
  H : Fin 1024 → EReal

/-- The stream after the product and its normalisation. -/
def Data.x2 (D : Data) (i : Fin 8192) (j : Fin 1024) : EReal := addN (D.X i) (mixOf D.P D.A D.W i) D.G j

section side
open Idealize.ShloMosaic.Tactic
theorem side {x : FVec Ideal S8192x256 .bf16} {y : FVec Ideal S8192x768 .bf16} {p : Fin 8192 → Fin 256 → EReal} {a : Fin 8192 → Fin 768 → EReal}
    (hx : ∀ r k, x (ix2 r k) = p r k) (hy : ∀ r k, y (ix2 r k) = a r k) (r : Fin 8192) (j : Fin 1024) :
    concatenate S8192x1024 1 [⟨S8192x256, x⟩, ⟨S8192x768, y⟩] concatenates_S8192x256_S8192x768_S8192x1024_d1 (ix2 r j) = catR (p r) (a r) j := by
  pointwise
  unfold catR
  by_cases h : j.val < 256
  · rw [dif_pos h, dif_pos h]
    exact hx r _
  · rw [dif_neg h, dif_neg h]
    exact hy r _
end side

variable (D : Cert.RMixFIdeal.Whole.Data)
def c0 : S8192x256.Idx → EReal := fun i => D.P (i 0) (i 1)
def c1 : S6x8192x128.Idx → EReal := fun i => D.A (i 0) (i 1) (i 2)
def c2 : S8192x1024.Idx → EReal := fun i => D.X (i 0) (i 1)
def c3 : S1024x1024.Idx → EReal := fun i => D.W (i 0) (i 1)
def c4 : S1x1024.Idx → EReal := fun i => D.G (i 1)
def c5 : S1x1024.Idx → EReal := fun i => D.H (i 1)

theorem r_v0 (i : S8192x6x128.Idx) : val_main_v0 (F := Ideal) (c1 D) i = (D.A (i 1) (i 0) (i 2) : EReal) :=
  (val_main_v0_apply _ i).trans rfl
theorem r_v1 (i : S8192x768.Idx) : val_main_v1 (F := Ideal) (c1 D) i = (attOf D.A (i 0) (i 1) : EReal) :=
  (val_main_v1_apply _ i).trans ((r_v0 D _).trans (att_of D.A (by
    have h1 : (i 1).val < 768 := (i 1).isLt
    show ((i 0).val * 768 + (i 1).val) / 128 % 6 = (i 1).val / 128
    omega) (by
    have h1 : (i 1).val < 768 := (i 1).isLt
    show ((i 0).val * 768 + (i 1).val) / 768 = (i 0).val
    omega) (by
    show ((i 0).val * 768 + (i 1).val) % 128 = (i 1).val % 128
    omega)))
theorem r_v2 (i : S8192x1024.Idx) : val_main_v2 (F := Ideal) (c0 D) (c1 D) i = (catOf D.P D.A (i 0) (i 1) : EReal) :=
  by
  unfold val_main_v2
  have e : i = ix2 (i 0) (i 1) := (ix2_eta i).symm
  rw [e]
  exact side (fun r k => rfl) (fun r k => r_v1 D _) _ _
theorem r_v3 (i : S8192x1024.Idx) : val_main_v3 (F := Ideal) (c0 D) (c1 D) i = (catOf D.P D.A (i 0) (i 1) : EReal) :=
  (val_main_v3_apply _ _ i).trans (r_v2 D _)
theorem r_v4 (i : S1024x1024.Idx) : val_main_v4 (F := Ideal) (c3 D) i = (D.W (i 0) (i 1) : EReal) :=
  (val_main_v4_apply _ i).trans rfl
theorem r_v5 (i : S8192x1024.Idx) : val_main_v5 (F := Ideal) (c0 D) (c1 D) (c3 D) i = (mixOf D.P D.A D.W (i 0) (i 1) : EReal) :=
  (val_main_v5_apply _ _ _ i).trans (dot_e (fun k => r_v3 D _) (fun k => r_v4 D _))
theorem r_v6 (i : S8192x1024.Idx) : val_main_v6 (F := Ideal) (c0 D) (c1 D) (c3 D) i = (mixOf D.P D.A D.W (i 0) (i 1) * mixOf D.P D.A D.W (i 0) (i 1) : EReal) :=
  (val_main_v6_apply _ _ _ i).trans (mul_e (r_v5 D i) (r_v5 D i))
include D in
theorem r_cst (i : S_.Idx) : val_main_cst (F := Ideal)  i = (0 : EReal) :=
  (val_main_cst_apply i).trans zero_e
theorem r_v7 (i : S8192.Idx) : val_main_v7 (F := Ideal) (c0 D) (c1 D) (c3 D) i = (∑ k, mixOf D.P D.A D.W (i 0) k * mixOf D.P D.A D.W (i 0) k : EReal) :=
  (val_main_v7_apply _ _ _ i).trans (sum_e (r_cst D _) fun k => r_v6 D _)
theorem r_v8 (i : S8192x1.Idx) : val_main_v8 (F := Ideal) (c0 D) (c1 D) (c3 D) i = (∑ k, mixOf D.P D.A D.W (i 0) k * mixOf D.P D.A D.W (i 0) k : EReal) :=
  (val_main_v8_apply _ _ _ i).trans (r_v7 D _)
include D in
theorem r_cst_0 (i : S_.Idx) : val_main_cst_0 (F := Ideal)  i = (Ideal.ofBits .f32 0x44800000#32 : EReal) :=
  (val_main_cst_0_apply i).trans rfl
include D in
theorem r_v9 (i : S8192x1.Idx) : val_main_v9 (F := Ideal)  i = (Ideal.ofBits .f32 0x44800000#32 : EReal) :=
  (val_main_v9_apply i).trans (r_cst_0 D _)
theorem r_v10 (i : S8192x1.Idx) : val_main_v10 (F := Ideal) (c0 D) (c1 D) (c3 D) i = (Ideal.div (∑ k, mixOf D.P D.A D.W (i 0) k * mixOf D.P D.A D.W (i 0) k) (Ideal.ofBits .f32 0x44800000#32) : EReal) :=
  (val_main_v10_apply _ _ _ i).trans (div_e (r_v8 D i) (r_v9 D i))
include D in
theorem r_cst_1 (i : S_.Idx) : val_main_cst_1 (F := Ideal)  i = (Ideal.ofBits .f32 0x358637BD#32 : EReal) :=
  (val_main_cst_1_apply i).trans rfl
include D in
theorem r_v11 (i : S8192x1.Idx) : val_main_v11 (F := Ideal)  i = (Ideal.ofBits .f32 0x358637BD#32 : EReal) :=
  (val_main_v11_apply i).trans (r_cst_1 D _)
theorem r_v12 (i : S8192x1.Idx) : val_main_v12 (F := Ideal) (c0 D) (c1 D) (c3 D) i = (msE (mixOf D.P D.A D.W (i 0)) : EReal) :=
  (val_main_v12_apply _ _ _ i).trans (add_e (r_v10 D i) (r_v11 D i))
theorem r_v13 (i : S8192x1.Idx) : val_main_v13 (F := Ideal) (c0 D) (c1 D) (c3 D) i = (rE (mixOf D.P D.A D.W (i 0)) : EReal) :=
  (val_main_v13_apply _ _ _ i).trans (rsqrt_e (r_v12 D i))
theorem r_v14 (i : S8192x1024.Idx) : val_main_v14 (F := Ideal) (c0 D) (c1 D) (c3 D) i = (rE (mixOf D.P D.A D.W (i 0)) : EReal) :=
  (val_main_v14_apply _ _ _ i).trans (r_v13 D _)
theorem r_v15 (i : S8192x1024.Idx) : val_main_v15 (F := Ideal) (c0 D) (c1 D) (c3 D) i = (mixOf D.P D.A D.W (i 0) (i 1) * rE (mixOf D.P D.A D.W (i 0)) : EReal) :=
  (val_main_v15_apply _ _ _ i).trans (mul_e (r_v5 D i) (r_v14 D i))
theorem r_v16 (i : S8192x1024.Idx) : val_main_v16 (F := Ideal) (c4 D) i = (D.G (i 1) : EReal) :=
  (val_main_v16_apply _ i).trans rfl
theorem r_v17 (i : S8192x1024.Idx) : val_main_v17 (F := Ideal) (c0 D) (c1 D) (c3 D) (c4 D) i = (normE (mixOf D.P D.A D.W (i 0)) D.G (i 1) : EReal) :=
  (val_main_v17_apply _ _ _ _ i).trans (mul_e (r_v15 D i) (r_v16 D i))
theorem r_v18 (i : S8192x1024.Idx) : val_main_v18 (F := Ideal) (c0 D) (c1 D) (c2 D) (c3 D) (c4 D) i = (D.x2 (i 0) (i 1) : EReal) :=
  (val_main_v18_apply _ _ _ _ _ i).trans (add_e (rfl : c2 D i = _) (r_v17 D i))
theorem r_v19 (i : S8192x1024.Idx) : val_main_v19 (F := Ideal) (c0 D) (c1 D) (c2 D) (c3 D) (c4 D) i = (D.x2 (i 0) (i 1) * D.x2 (i 0) (i 1) : EReal) :=
  (val_main_v19_apply _ _ _ _ _ i).trans (mul_e (r_v18 D i) (r_v18 D i))
include D in
theorem r_cst_2 (i : S_.Idx) : val_main_cst_2 (F := Ideal)  i = (0 : EReal) :=
  (val_main_cst_2_apply i).trans zero_e
theorem r_v20 (i : S8192.Idx) : val_main_v20 (F := Ideal) (c0 D) (c1 D) (c2 D) (c3 D) (c4 D) i = (∑ k, D.x2 (i 0) k * D.x2 (i 0) k : EReal) :=
  (val_main_v20_apply _ _ _ _ _ i).trans (sum_e (r_cst_2 D _) fun k => r_v19 D _)
theorem r_v21 (i : S8192x1.Idx) : val_main_v21 (F := Ideal) (c0 D) (c1 D) (c2 D) (c3 D) (c4 D) i = (∑ k, D.x2 (i 0) k * D.x2 (i 0) k : EReal) :=
  (val_main_v21_apply _ _ _ _ _ i).trans (r_v20 D _)
include D in
theorem r_cst_3 (i : S_.Idx) : val_main_cst_3 (F := Ideal)  i = (Ideal.ofBits .f32 0x44800000#32 : EReal) :=
  (val_main_cst_3_apply i).trans rfl
include D in
theorem r_v22 (i : S8192x1.Idx) : val_main_v22 (F := Ideal)  i = (Ideal.ofBits .f32 0x44800000#32 : EReal) :=
  (val_main_v22_apply i).trans (r_cst_3 D _)
theorem r_v23 (i : S8192x1.Idx) : val_main_v23 (F := Ideal) (c0 D) (c1 D) (c2 D) (c3 D) (c4 D) i = (Ideal.div (∑ k, D.x2 (i 0) k * D.x2 (i 0) k) (Ideal.ofBits .f32 0x44800000#32) : EReal) :=
  (val_main_v23_apply _ _ _ _ _ i).trans (div_e (r_v21 D i) (r_v22 D i))
include D in
theorem r_cst_4 (i : S_.Idx) : val_main_cst_4 (F := Ideal)  i = (Ideal.ofBits .f32 0x358637BD#32 : EReal) :=
  (val_main_cst_4_apply i).trans rfl
include D in
theorem r_v24 (i : S8192x1.Idx) : val_main_v24 (F := Ideal)  i = (Ideal.ofBits .f32 0x358637BD#32 : EReal) :=
  (val_main_v24_apply i).trans (r_cst_4 D _)
theorem r_v25 (i : S8192x1.Idx) : val_main_v25 (F := Ideal) (c0 D) (c1 D) (c2 D) (c3 D) (c4 D) i = (msE (D.x2 (i 0)) : EReal) :=
  (val_main_v25_apply _ _ _ _ _ i).trans (add_e (r_v23 D i) (r_v24 D i))
theorem r_v26 (i : S8192x1.Idx) : val_main_v26 (F := Ideal) (c0 D) (c1 D) (c2 D) (c3 D) (c4 D) i = (rE (D.x2 (i 0)) : EReal) :=
  (val_main_v26_apply _ _ _ _ _ i).trans (rsqrt_e (r_v25 D i))
theorem r_v27 (i : S8192x1024.Idx) : val_main_v27 (F := Ideal) (c0 D) (c1 D) (c2 D) (c3 D) (c4 D) i = (rE (D.x2 (i 0)) : EReal) :=
  (val_main_v27_apply _ _ _ _ _ i).trans (r_v26 D _)
theorem r_v28 (i : S8192x1024.Idx) : val_main_v28 (F := Ideal) (c0 D) (c1 D) (c2 D) (c3 D) (c4 D) i = (D.x2 (i 0) (i 1) * rE (D.x2 (i 0)) : EReal) :=
  (val_main_v28_apply _ _ _ _ _ i).trans (mul_e (r_v18 D i) (r_v27 D i))
theorem r_v29 (i : S8192x1024.Idx) : val_main_v29 (F := Ideal) (c5 D) i = (D.H (i 1) : EReal) :=
  (val_main_v29_apply _ i).trans rfl
theorem r_v30 (i : S8192x1024.Idx) : val_main_v30 (F := Ideal) (c0 D) (c1 D) (c2 D) (c3 D) (c4 D) (c5 D) i = (normE (D.x2 (i 0)) D.H (i 1) : EReal) :=
  (val_main_v30_apply _ _ _ _ _ _ i).trans (mul_e (r_v28 D i) (r_v29 D i))
theorem r_v31 (i : S8192x1024.Idx) : val_main_v31 (F := Ideal) (c0 D) (c1 D) (c2 D) (c3 D) (c4 D) (c5 D) i = (normE (D.x2 (i 0)) D.H (i 1) : EReal) :=
  (val_main_v31_apply _ _ _ _ _ _ i).trans (r_v30 D _)

end Cert.RMixFIdeal.Whole
end
-- ==== Proof.MixFSame.lean ====
module
public import proofs.«01_k».proof.Defs
public import proofs.«01_k».proof.Proof.Gen.RMixFIdeal.Run
public import proofs.«01_k».proof.Proof.Gen.RMixFIdeal
public import proofs.«01_k».proof.Proof.Gen.MixF
public import proofs.«01_k».proof.Proof.Gen.MixF.Frame
public import proofs.«01_k».proof.Proof.Gen.MixFIdeal
public import proofs.«01_k».proof.Proof.Gen.MixFIdeal.Frame
public import proofs.«01_k».proof.Proof.MixFwd
public import proofs.«01_k».proof.Proof.MixFwdRef
@[expose] public section
set_option maxRecDepth 16384
noncomputable section
open Idealize.ShloMosaic Idealize.ShloMosaic.TcCoe Idealize.SL.Sem

namespace Cert.RMixFIdeal.Whole
open Cert.RMixFIdeal Cert.RMixFIdeal.Read Cert.NormMath Cert.FfnMath

/-- The arguments as matrices. -/
def dataOf (x0 : S8192x256.Idx → EReal) (x1 : S6x8192x128.Idx → EReal) (x2 : S8192x1024.Idx → EReal) (x3 : S1024x1024.Idx → EReal) (x4 : S1x1024.Idx → EReal) (x5 : S1x1024.Idx → EReal) : Data where
  P := fun i j => x0 (ix2 i j)
  A := fun g i j => x1 (ix3 g i j)
  X := fun i j => x2 (ix2 i j)
  W := fun i j => x3 (ix2 i j)
  G := fun j => x4 (ix2 0 j)
  H := fun j => x5 (ix2 0 j)

variable (x0 : S8192x256.Idx → EReal) (x1 : S6x8192x128.Idx → EReal) (x2 : S8192x1024.Idx → EReal) (x3 : S1024x1024.Idx → EReal) (x4 : S1x1024.Idx → EReal) (x5 : S1x1024.Idx → EReal)

theorem c0_of : c0 (dataOf x0 x1 x2 x3 x4 x5) = x0 := funext fun i => congrArg x0 (ix2_eta i)
theorem c1_of : c1 (dataOf x0 x1 x2 x3 x4 x5) = x1 := funext fun i => congrArg x1 (ix3_eta i)
theorem c2_of : c2 (dataOf x0 x1 x2 x3 x4 x5) = x2 := funext fun i => congrArg x2 (ix2_eta i)
theorem c3_of : c3 (dataOf x0 x1 x2 x3 x4 x5) = x3 := funext fun i => congrArg x3 (ix2_eta i)
theorem c4_of : c4 (dataOf x0 x1 x2 x3 x4 x5) = x4 := funext fun i => congrArg x4 (funext fun a => match a with
  | ⟨0, _⟩ => Fin.ext (Nat.lt_one_iff.mp (i 0).isLt).symm
  | ⟨1, _⟩ => rfl)
theorem c5_of : c5 (dataOf x0 x1 x2 x3 x4 x5) = x5 := funext fun i => congrArg x5 (funext fun a => match a with
  | ⟨0, _⟩ => Fin.ext (Nat.lt_one_iff.mp (i 0).isLt).symm
  | ⟨1, _⟩ => rfl)

theorem value_c : val_main_v2 (F := Ideal) x0 x1 = fun i => Cert.MixFIdeal.Fwd.catOf (fun i j => x0 (ix2 i j)) (fun g i j => x1 (ix3 g i j)) (i 0) (i 1) := by
  funext i
  have h := r_v2 (dataOf x0 x1 (fun _ => 0) (fun _ => 0) (fun _ => 0) (fun _ => 0)) i
  rw [c0_of, c1_of] at h
  exact h

theorem value_m : val_main_v5 (F := Ideal) x0 x1 x3 = fun i => Cert.MixFIdeal.Fwd.mixOf (fun i j => x0 (ix2 i j)) (fun g i j => x1 (ix3 g i j)) (fun i j => x3 (ix2 i j)) (i 0) (i 1) := by
  funext i
  have h := r_v5 (dataOf x0 x1 (fun _ => 0) x3 (fun _ => 0) (fun _ => 0)) i
  rw [c0_of, c1_of, c3_of] at h
  exact h

theorem value_x : val_main_v18 (F := Ideal) x0 x1 x2 x3 x4 = fun i => Cert.MixFIdeal.Fwd.addN (fun j => x2 (ix2 (i 0) j)) (Cert.MixFIdeal.Fwd.mixOf (fun i j => x0 (ix2 i j)) (fun g i j => x1 (ix3 g i j)) (fun i j => x3 (ix2 i j)) (i 0)) (fun j => x4 (ix2 0 j)) (i 1) := by
  funext i
  have h := r_v18 (dataOf x0 x1 x2 x3 x4 (fun _ => 0)) i
  rw [c0_of, c1_of, c2_of, c3_of, c4_of] at h
  exact h

theorem value_h : val_main_v31 (F := Ideal) x0 x1 x2 x3 x4 x5 = fun i => normE (Cert.MixFIdeal.Fwd.addN (fun j => x2 (ix2 (i 0) j)) (Cert.MixFIdeal.Fwd.mixOf (fun i j => x0 (ix2 i j)) (fun g i j => x1 (ix3 g i j)) (fun i j => x3 (ix2 i j)) (i 0)) (fun j => x4 (ix2 0 j))) (fun j => x5 (ix2 0 j)) (i 1) := by
  funext i
  have h := r_v31 (dataOf x0 x1 x2 x3 x4 x5) i
  rw [c0_of, c1_of, c2_of, c3_of, c4_of, c5_of] at h
  exact h

end Cert.RMixFIdeal.Whole

namespace Cert.Proof

theorem rmixf_frame : Cert.quiescent_RMixFIdeal (hRMixFIdeal := Cert.RMixFIdeal.Gen.facts) := by
  intro m ρ _
  exact (θ_run _ _ _).mono (fun r h => ⟨fun c => (h c).2.2.2.2, funext fun g => nomatch g.2⟩) (Cert.RMixFIdeal.Value.run (F := Ideal) m ρ)

theorem mixf_same : Cert.algebraic_MixFIdeal_RMixFIdeal (hMixFIdeal := Cert.MixFIdeal.Gen.facts) (hRMixFIdeal := Cert.RMixFIdeal.Gen.facts) := by
  intro m g m' g' _ hagree
  refine ⟨fun c => (fun i => Cert.MixFIdeal.Fwd.resC m c (i 0) (i 1)), fun c => (fun i => Cert.MixFIdeal.Fwd.resM m c (i 0) (i 1)), fun c => (fun i => Cert.MixFIdeal.Fwd.resX m c (i 0) (i 1)), fun c => (fun i => Cert.MixFIdeal.Fwd.resH m c (i 0) (i 1)),
    Cert.MixFIdeal.Fwd.run m g, (θ_run _ _ _).mono (fun r h c => ?_) (Cert.RMixFIdeal.Value.run (F := Ideal) m' g')⟩
  obtain ⟨e0, e1, e2, e3, e4, e5⟩ := hagree c
  obtain ⟨h0, h1, h2, h3, hargs⟩ := h c
  refine ⟨h0.trans ?_, h1.trans ?_, h2.trans ?_, h3.trans ?_, hargs⟩
  · rw [Cert.RMixFIdeal.Read.val_main_v2_eq, e0, e1]
    exact Cert.RMixFIdeal.Whole.value_c _ _
  · rw [Cert.RMixFIdeal.Read.val_main_v5_eq, e0, e1, e3]
    exact Cert.RMixFIdeal.Whole.value_m _ _ _
  · rw [Cert.RMixFIdeal.Read.val_main_v18_eq, e0, e1, e2, e3, e4]
    exact Cert.RMixFIdeal.Whole.value_x _ _ _ _ _
  · rw [Cert.RMixFIdeal.Read.val_main_v31_eq, e0, e1, e2, e3, e4, e5]
    exact Cert.RMixFIdeal.Whole.value_h _ _ _ _ _ _

end Cert.Proof
end
-- ==== Proof.MixBack.lean ====
module
public import proofs.«01_k».proof.Proof.Gen.MixBIdeal.Frame
public import proofs.«01_k».proof.Proof.Gen.MixBIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.MixBIdeal.Back
open Cert.MixBIdeal Cert.MixBIdeal.Gen Cert.FfnMath Cert.NormMath

/-! # The gradient of the product with w_out and the rows summed for the attention gradient -/

/-! ## Sums over half the lanes -/

theorem low_sum (v : Fin 128 → EReal) : ∑ k : Fin 128, Scalar.select (α := EReal) (IntOp.cmpi .slt (BitVec.ofNat 32 k.val) 64#32) (v k) 0 = ∑ d : Fin 64, v ⟨d.val, by omega⟩ := by
  refine (Fin.sum_univ_add (a := 64) (b := 64) fun k : Fin 128 => Scalar.select (α := EReal) (IntOp.cmpi .slt (BitVec.ofNat 32 k.val) 64#32) (v k) 0).trans ?_
  refine (congrArg₂ (fun a b : EReal => a + b) (Finset.sum_congr rfl fun d _ => ?_) (Finset.sum_eq_zero fun d _ => ?_)).trans (add_zero _)
  · have : ∀ d : Fin 64, IntOp.cmpi .slt (BitVec.ofNat 32 d.val) 64#32 = 1#1 := by decide +kernel
    exact congrArg (fun b => Scalar.select (α := EReal) b (v ⟨d.val, by omega⟩) 0) (this d)
  · have : ∀ d : Fin 64, IntOp.cmpi .slt (BitVec.ofNat 32 (64 + d.val)) 64#32 = 0#1 := by decide +kernel
    exact congrArg (fun b => Scalar.select (α := EReal) b (v ⟨64 + d.val, by omega⟩) 0) (this d)

theorem high_sum (v : Fin 128 → EReal) : ∑ k : Fin 128, Scalar.select (α := EReal) (IntOp.cmpi .slt (BitVec.ofNat 32 k.val) 64#32) 0 (v k) = ∑ d : Fin 64, v ⟨64 + d.val, by omega⟩ := by
  refine (Fin.sum_univ_add (a := 64) (b := 64) fun k : Fin 128 => Scalar.select (α := EReal) (IntOp.cmpi .slt (BitVec.ofNat 32 k.val) 64#32) 0 (v k)).trans ?_
  refine (congrArg₂ (fun a b : EReal => a + b) (Finset.sum_eq_zero fun d _ => ?_) (Finset.sum_congr rfl fun d _ => ?_)).trans (zero_add _)
  · have : ∀ d : Fin 64, IntOp.cmpi .slt (BitVec.ofNat 32 d.val) 64#32 = 1#1 := by decide +kernel
    exact congrArg (fun b => Scalar.select (α := EReal) b 0 (v ⟨d.val, by omega⟩)) (this d)
  · have : ∀ d : Fin 64, IntOp.cmpi .slt (BitVec.ofNat 32 (64 + d.val)) 64#32 = 0#1 := by decide +kernel
    exact congrArg (fun b => Scalar.select (α := EReal) b 0 (v ⟨64 + d.val, by omega⟩)) (this d)

/-- A lane chosen by its number. -/
theorem lane_eq (n : Fin 128) (k : Fin 12) (a b : EReal) :
    Scalar.select (α := EReal) (IntOp.cmpi .eq (BitVec.ofNat 32 n.val) (BitVec.ofNat 32 k.val)) a b = if n.val = k.val then a else b := by
  have : ∀ (n : Fin 128) (k : Fin 12), IntOp.cmpi .eq (BitVec.ofNat 32 n.val) (BitVec.ofNat 32 k.val) = if n.val = k.val then 1#1 else 0#1 := by decide +kernel
  rw [this]
  split <;> rfl

/-- The twelve sums at their lanes. -/
def lanes (S : Fin 12 → EReal) (n : Fin 128) : EReal := if h : n.val < 12 then S ⟨n.val, h⟩ else 0
def upTo (S : Fin 12 → EReal) (k : ℕ) (n : Fin 128) : EReal := if h : n.val < k ∧ n.val < 12 then S ⟨n.val, h.2⟩ else 0

theorem upTo_zero (S : Fin 12 → EReal) (n : Fin 128) : upTo S 0 n = 0 := dif_neg fun h => Nat.not_lt_zero _ h.1
theorem upTo_all (S : Fin 12 → EReal) (n : Fin 128) : upTo S 12 n = lanes S n := by
  unfold upTo lanes
  by_cases h : n.val < 12
  · rw [dif_pos ⟨h, h⟩, dif_pos h]
  · rw [dif_neg fun h' => h h'.2, dif_neg h]
theorem upTo_succ (S : Fin 12 → EReal) (k : Fin 12) (n : Fin 128) {a b : EReal} (ha : a = S k) (hb : b = upTo S k.val n) :
    Scalar.select (α := EReal) (IntOp.cmpi .eq (BitVec.ofNat 32 n.val) (BitVec.ofNat 32 k.val)) a b = upTo S (k.val + 1) n := by
  rw [lane_eq, ha, hb]
  unfold upTo
  by_cases h : n.val = k.val
  · rw [if_pos h, dif_pos ⟨by omega, by omega⟩]
    exact congrArg S (Fin.ext h.symm)
  · rw [if_neg h]
    by_cases h' : n.val < k.val
    · rw [dif_pos ⟨h', by omega⟩, dif_pos ⟨by omega, by omega⟩]
    · rw [dif_neg fun q => h' q.1, dif_neg fun q => by omega]

/-- The sum of a head's 64 products. -/
def heads (f : Fin 768 → EReal) (n : Fin 12) : EReal := ∑ d : Fin 64, f ⟨64 * n.val + d.val, by omega⟩

theorem low_heads {c : Fin 128 → BitVec 1} {v : Fin 128 → EReal} {f : Fin 768 → EReal} (g : Fin 6) (hc : ∀ x, c x = IntOp.cmpi .slt (BitVec.ofNat 32 x.val) 64#32)
    (hv : ∀ x, v x = f ⟨128 * g.val + x.val, by omega⟩) : ∑ x : Fin 128, Scalar.select (α := EReal) (c x) (v x) 0 = heads f ⟨2 * g.val, by omega⟩ := by
  simp only [hc, hv]
  refine (low_sum fun x => f ⟨128 * g.val + x.val, by omega⟩).trans (Finset.sum_congr rfl fun d _ => congrArg f (Fin.ext ?_))
  show 128 * g.val + d.val = 64 * (2 * g.val) + d.val
  omega

theorem high_heads {c : Fin 128 → BitVec 1} {v : Fin 128 → EReal} {f : Fin 768 → EReal} (g : Fin 6) (hc : ∀ x, c x = IntOp.cmpi .slt (BitVec.ofNat 32 x.val) 64#32)
    (hv : ∀ x, v x = f ⟨128 * g.val + x.val, by omega⟩) : ∑ x : Fin 128, Scalar.select (α := EReal) (c x) 0 (v x) = heads f ⟨2 * g.val + 1, by omega⟩ := by
  simp only [hc, hv]
  refine (high_sum fun x => f ⟨128 * g.val + x.val, by omega⟩).trans (Finset.sum_congr rfl fun d _ => congrArg f (Fin.ext ?_))
  show 128 * g.val + (64 + d.val) = 64 * (2 * g.val + 1) + d.val
  omega

theorem q_of (q : Fin 1024 → Fin 768 → EReal) (r : Fin 1024) {a b : Fin 768} (h : a.val = b.val) : q r a = q r b := congrArg (q r) (Fin.ext h)

section pay
variable {v0 v1 : Vec Ideal S1024x1024 .bf16} {p w : Fin 1024 → Fin 1024 → EReal}

theorem pay2_at (h0 : ∀ r k, v0 (ix2 r k) = p r k) (h1 : ∀ r k, v1 (ix2 r k) = w r k) (r j : Fin 1024) :
    (k0_pay2 (F := Ideal) v0 v1) (ix2 r j) = ∑ l : Fin 1024, p r l * w j l := by
  unfold k0_pay2
  pointwise
  show ∑ l : Fin 1024, v0 (ix2 r l) * v1 (ix2 j l) = _
  simp only [h0, h1]

theorem pay3_at (h0 : ∀ r k, v0 (ix2 r k) = p r k) (h1 : ∀ r k, v1 (ix2 r k) = w r k) (r : Fin 1024) (j : Fin 256) :
    (k0_pay3 (F := Ideal) v0 v1) (ix2 r j) = ∑ l : Fin 1024, p r l * w ⟨j.val, by omega⟩ l := by
  unfold k0_pay3
  pointwise
  refine Eq.trans ?_ (pay2_at h0 h1 r ⟨j.val, by omega⟩)
  congr 1

theorem pay4_at (h0 : ∀ r k, v0 (ix2 r k) = p r k) (h1 : ∀ r k, v1 (ix2 r k) = w r k) (r : Fin 1024) (j : Fin 768) :
    (k0_pay4 (F := Ideal) v0 v1) (ix2 r j) = ∑ l : Fin 1024, p r l * w ⟨256 + j.val, by omega⟩ l := by
  unfold k0_pay4
  pointwise
  refine Eq.trans ?_ (pay2_at h0 h1 r ⟨256 + j.val, by omega⟩)
  congr 1

theorem pay5_at (h0 : ∀ r k, v0 (ix2 r k) = p r k) (h1 : ∀ r k, v1 (ix2 r k) = w r k) (r : Fin 1024) (j : Fin 128) :
    (k0_pay5 (F := Ideal) v0 v1) (ix3 0 r j) = ∑ l : Fin 1024, p r l * w ⟨256 + (j.val), by omega⟩ l := by
  unfold k0_pay5
  pointwise
  refine Eq.trans ?_ (pay4_at h0 h1 r ⟨j.val, by omega⟩)
  congr 1

theorem pay6_at (h0 : ∀ r k, v0 (ix2 r k) = p r k) (h1 : ∀ r k, v1 (ix2 r k) = w r k) (r : Fin 1024) (j : Fin 128) :
    (k0_pay6 (F := Ideal) v0 v1) (ix3 0 r j) = ∑ l : Fin 1024, p r l * w ⟨256 + (128 + j.val), by omega⟩ l := by
  unfold k0_pay6
  pointwise
  refine Eq.trans ?_ (pay4_at h0 h1 r ⟨128 + j.val, by omega⟩)
  congr 1

theorem pay7_at (h0 : ∀ r k, v0 (ix2 r k) = p r k) (h1 : ∀ r k, v1 (ix2 r k) = w r k) (r : Fin 1024) (j : Fin 128) :
    (k0_pay7 (F := Ideal) v0 v1) (ix3 0 r j) = ∑ l : Fin 1024, p r l * w ⟨256 + (256 + j.val), by omega⟩ l := by
  unfold k0_pay7
  pointwise
  refine Eq.trans ?_ (pay4_at h0 h1 r ⟨256 + j.val, by omega⟩)
  congr 1

theorem pay8_at (h0 : ∀ r k, v0 (ix2 r k) = p r k) (h1 : ∀ r k, v1 (ix2 r k) = w r k) (r : Fin 1024) (j : Fin 128) :
    (k0_pay8 (F := Ideal) v0 v1) (ix3 0 r j) = ∑ l : Fin 1024, p r l * w ⟨256 + (384 + j.val), by omega⟩ l := by
  unfold k0_pay8
  pointwise
  refine Eq.trans ?_ (pay4_at h0 h1 r ⟨384 + j.val, by omega⟩)
  congr 1

theorem pay9_at (h0 : ∀ r k, v0 (ix2 r k) = p r k) (h1 : ∀ r k, v1 (ix2 r k) = w r k) (r : Fin 1024) (j : Fin 128) :
    (k0_pay9 (F := Ideal) v0 v1) (ix3 0 r j) = ∑ l : Fin 1024, p r l * w ⟨256 + (512 + j.val), by omega⟩ l := by
  unfold k0_pay9
  pointwise
  refine Eq.trans ?_ (pay4_at h0 h1 r ⟨512 + j.val, by omega⟩)
  congr 1

theorem pay11_at (h0 : ∀ r k, v0 (ix2 r k) = p r k) (h1 : ∀ r k, v1 (ix2 r k) = w r k) (r : Fin 1024) (j : Fin 128) :
    (k0_pay11 (F := Ideal) (k0_pay10 v0 v1)) (ix3 0 r j) = ∑ l : Fin 1024, p r l * w ⟨256 + (640 + j.val), by omega⟩ l := by
  unfold k0_pay11 k0_pay10
  pointwise
  refine Eq.trans ?_ (pay4_at h0 h1 r ⟨640 + j.val, by omega⟩)
  congr 1
end pay

section lanes
variable {v7 : FVec Ideal S1024x768 .bf16} {u0 u1 u2 u3 u4 u5 : Vec Ideal S1x1024x128 .bf16} {q : Fin 1024 → Fin 768 → EReal} {a : Fin 6 → Fin 1024 → Fin 128 → EReal}

theorem pay12_at (h7 : ∀ r k, v7 (ix2 r k) = q r k) (h0 : ∀ r k, u0 (ix3 0 r k) = a 0 r k) (h1 : ∀ r k, u1 (ix3 0 r k) = a 1 r k) (h2 : ∀ r k, u2 (ix3 0 r k) = a 2 r k)
    (h3 : ∀ r k, u3 (ix3 0 r k) = a 3 r k) (h4 : ∀ r k, u4 (ix3 0 r k) = a 4 r k) (h5 : ∀ r k, u5 (ix3 0 r k) = a 5 r k) (r : Fin 1024) (j : Fin 768) :
    (k0_pay12 (F := Ideal) v7 u0 u1 u2 u3 u4 u5) (ix2 r j) = q r j * a ⟨j.val / 128, by omega⟩ r ⟨j.val % 128, by omega⟩ := by
  unfold k0_pay12
  pointwise
  rw [h7]
  refine congrArg (fun b : EReal => q r j * b) ?_
  by_cases c0 : j.val < 128
  · rw [dif_pos c0]
    exact (h0 r _).trans (congrArg₂ (fun (g : Fin 6) (l : Fin 128) => a g r l) (Fin.ext (by show 0 = j.val / 128; omega)) (Fin.ext (by show j.val = j.val % 128; omega)))
  rw [dif_neg c0]
  by_cases c1 : j.val - 128 < 128
  · rw [dif_pos c1]
    exact (h1 r _).trans (congrArg₂ (fun (g : Fin 6) (l : Fin 128) => a g r l) (Fin.ext (by show 1 = j.val / 128; omega)) (Fin.ext (by show j.val - 128 = j.val % 128; omega)))
  rw [dif_neg c1]
  by_cases c2 : j.val - 128 - 128 < 128
  · rw [dif_pos c2]
    exact (h2 r _).trans (congrArg₂ (fun (g : Fin 6) (l : Fin 128) => a g r l) (Fin.ext (by show 2 = j.val / 128; omega)) (Fin.ext (by show j.val - 128 - 128 = j.val % 128; omega)))
  rw [dif_neg c2]
  by_cases c3 : j.val - 128 - 128 - 128 < 128
  · rw [dif_pos c3]
    exact (h3 r _).trans (congrArg₂ (fun (g : Fin 6) (l : Fin 128) => a g r l) (Fin.ext (by show 3 = j.val / 128; omega)) (Fin.ext (by show j.val - 128 - 128 - 128 = j.val % 128; omega)))
  rw [dif_neg c3]
  by_cases c4 : j.val - 128 - 128 - 128 - 128 < 128
  · rw [dif_pos c4]
    exact (h4 r _).trans (congrArg₂ (fun (g : Fin 6) (l : Fin 128) => a g r l) (Fin.ext (by show 4 = j.val / 128; omega)) (Fin.ext (by show j.val - 128 - 128 - 128 - 128 = j.val % 128; omega)))
  rw [dif_neg c4]
  exact (h5 r _).trans (congrArg₂ (fun (g : Fin 6) (l : Fin 128) => a g r l) (Fin.ext (by show 5 = j.val / 128; omega)) (Fin.ext (by show j.val - 128 - 128 - 128 - 128 - 128 = j.val % 128; omega)))

variable {v47 : FVec Ideal S1024x768 .f32} {v48 v62 : IVec S1024x128 32} {v50 v149 : IVec S1024x128 1} {v52 v61 v108 v146 v147 : FVec Ideal S1024x128 .f32} {v153 : FVec Ideal S1024x1 .f32}

theorem pay13_at (i : S1024x128.Idx) : k0_pay13 i = IntOp.cmpi .slt (BitVec.ofNat 32 (i 1).val) 64#32 := by
  unfold k0_pay13
  pointwise

theorem pay14_at (hq : ∀ r k, (k0_pay12 (F := Ideal) v7 u0 u1 u2 u3 u4 u5) (ix2 r k) = q r k) (r : Fin 1024) (k : Fin 128) :
    (k0_pay14 (F := Ideal) v7 u0 u1 u2 u3 u4 u5) (ix2 r k) = q r ⟨k.val, by omega⟩ := by
  unfold k0_pay14
  pointwise
  exact hq r _

theorem pay16_at (i : S1024x128.Idx) : k0_pay16 i = 1#32 := rfl

theorem pay15_at (hq : ∀ r k, (k0_pay12 (F := Ideal) v7 u0 u1 u2 u3 u4 u5) (ix2 r k) = q r k) (r : Fin 1024) (n : Fin 128) :
    (k0_pay15 (F := Ideal) v7 u0 u1 u2 u3 u4 u5) (ix2 r n) = upTo (heads (q r)) 1 n := by
  unfold k0_pay15 k0_pay14
  pointwise
  exact upTo_succ _ 0 n (low_heads 0 (fun x => pay13_at _) fun x => (hq r _).trans (q_of q r (by show x.val = 128 * 0 + x.val; omega))) (upTo_zero _ n).symm

theorem pay17_at (hq : ∀ r k, v47 (ix2 r k) = q r k) (h48 : ∀ i, v48 i = BitVec.ofNat 32 (i 1).val) (h50 : ∀ i, v50 i = IntOp.cmpi .slt (BitVec.ofNat 32 (i 1).val) 64#32)
    (h52 : ∀ r (k : Fin 128), v52 (ix2 r k) = q r ⟨k.val, by omega⟩) (h61 : ∀ r n, v61 (ix2 r n) = upTo (heads (q r)) 1 n) (h62 : ∀ i, v62 i = 1#32) (r : Fin 1024) (n : Fin 128) :
    (k0_pay17 (F := Ideal) v47 v48 v50 v52 v61 v62) (ix2 r n) = upTo (heads (q r)) 6 n := by
  unfold k0_pay17
  pointwise
  rw [h48, h62]
  exact upTo_succ _ 5 n (high_heads 2 (fun x => h50 _) fun x => (hq r _).trans (q_of q r (by show 256 + x.val = 128 * 2 + x.val; omega))) (upTo_succ _ 4 n (low_heads 2 (fun x => h50 _) fun x => (hq r _).trans (q_of q r (by show 256 + x.val = 128 * 2 + x.val; omega))) (upTo_succ _ 3 n (high_heads 1 (fun x => h50 _) fun x => (hq r _).trans (q_of q r (by show 128 + x.val = 128 * 1 + x.val; omega))) (upTo_succ _ 2 n (low_heads 1 (fun x => h50 _) fun x => (hq r _).trans (q_of q r (by show 128 + x.val = 128 * 1 + x.val; omega))) (upTo_succ _ 1 n (high_heads 0 (fun x => h50 _) fun x => (h52 r _).trans (q_of q r (by show x.val = 128 * 0 + x.val; omega))) (h61 r n)))))

theorem pay18_at (hq : ∀ r k, v47 (ix2 r k) = q r k) (h48 : ∀ i, v48 i = BitVec.ofNat 32 (i 1).val) (h50 : ∀ i, v50 i = IntOp.cmpi .slt (BitVec.ofNat 32 (i 1).val) 64#32)
    (h108 : ∀ r n, v108 (ix2 r n) = upTo (heads (q r)) 6 n) (r : Fin 1024) (n : Fin 128) :
    (k0_pay18 (F := Ideal) v47 v48 v50 v108) (ix2 r n) = upTo (heads (q r)) 10 n := by
  unfold k0_pay18
  pointwise
  rw [h48]
  exact upTo_succ _ 9 n (high_heads 4 (fun x => h50 _) fun x => (hq r _).trans (q_of q r (by show 512 + x.val = 128 * 4 + x.val; omega))) (upTo_succ _ 8 n (low_heads 4 (fun x => h50 _) fun x => (hq r _).trans (q_of q r (by show 512 + x.val = 128 * 4 + x.val; omega))) (upTo_succ _ 7 n (high_heads 3 (fun x => h50 _) fun x => (hq r _).trans (q_of q r (by show 384 + x.val = 128 * 3 + x.val; omega))) (upTo_succ _ 6 n (low_heads 3 (fun x => h50 _) fun x => (hq r _).trans (q_of q r (by show 384 + x.val = 128 * 3 + x.val; omega))) (h108 r n))))

theorem pay19_at (hq : ∀ r k, v47 (ix2 r k) = q r k) (r : Fin 1024) (k : Fin 128) : (k0_pay19 (F := Ideal) v47) (ix2 r k) = q r ⟨640 + k.val, by omega⟩ := by
  unfold k0_pay19
  pointwise
  exact hq r _

theorem pay20_at (h48 : ∀ i, v48 i = BitVec.ofNat 32 (i 1).val) (i : S1024x128.Idx) : k0_pay20 v48 i = IntOp.cmpi .eq (BitVec.ofNat 32 (i 1).val) 10#32 := by
  unfold k0_pay20
  pointwise
  rw [h48]

theorem pay21_at (hq : ∀ r k, v47 (ix2 r k) = q r k) (h50 : ∀ i, v50 i = IntOp.cmpi .slt (BitVec.ofNat 32 (i 1).val) 64#32) (r : Fin 1024) :
    (k0_pay21 (F := Ideal) v47 v50) (ix2 r 0) = heads (q r) 10 := by
  unfold k0_pay21
  pointwise
  exact low_heads 5 (fun x => h50 _) fun x => (pay19_at hq r x).trans (q_of q r (by show 640 + x.val = 128 * 5 + x.val; omega))

theorem pay1_at (h48 : ∀ i, v48 i = BitVec.ofNat 32 (i 1).val) (h50 : ∀ i, v50 i = IntOp.cmpi .slt (BitVec.ofNat 32 (i 1).val) 64#32)
    (h146 : ∀ r n, v146 (ix2 r n) = upTo (heads (q r)) 10 n) (h147 : ∀ r (k : Fin 128), v147 (ix2 r k) = q r ⟨640 + k.val, by omega⟩)
    (h149 : ∀ i, v149 i = IntOp.cmpi .eq (BitVec.ofNat 32 (i 1).val) 10#32) (h153 : ∀ r, v153 (ix2 r 0) = heads (q r) 10) (r : Fin 1024) (n : Fin 128) :
    (k0_pay1 (F := Ideal) v48 v50 v146 v147 v149 v153) (ix2 r n) = lanes (heads (q r)) n := by
  unfold k0_pay1
  pointwise
  rw [h48, h149]
  refine Eq.trans ?_ (upTo_all _ n)
  exact upTo_succ _ 11 n (high_heads 5 (fun x => h50 _) fun x => (h147 r _).trans (q_of q r (by show 640 + x.val = 128 * 5 + x.val; omega))) (upTo_succ _ 10 n (h153 r) (h146 r n))
end lanes

theorem congr3 {α β γ δ : Type} (f : α → β → γ → δ) {a a' : α} {b b' : β} {d d' : γ} (h : a = a') (h' : b = b') (h'' : d = d') : f a b d = f a' b' d' := by rw [h, h', h'']

/-- A store of one group of lanes at an index of the block. -/
theorem piece {pay : S1x1024x128.Idx → EReal} (f : Fin 6 → Fin 1024 → Fin 128 → EReal) (p : Fin 6) (hp : ∀ r k, pay (ix3 0 r k) = f p r k) (g : Fin 6) (r : Fin 1024) (k : Fin 128)
    (x : S1x1024x128.Idx) (h0 : g.val = p.val + (x 0).val) (l0 : (x 0).val < 1) (h1 : r.val = (x 1).val) (h2 : k.val = (x 2).val) : pay x = f g r k := by
  have e : x = ix3 0 r k := funext fun a => match a with
    | ⟨0, _⟩ => Fin.ext (Nat.lt_one_iff.mp l0)
    | ⟨1, _⟩ => Fin.ext h1.symm
    | ⟨2, _⟩ => Fin.ext h2.symm
  obtain rfl : g = p := Fin.ext (by omega)
  rw [e, hp]

theorem iota_at (i : S1024x128.Idx) : iota .tc S1024x128 32 [1] iota_S1024x128_d1_w32 i = BitVec.ofNat 32 (i 1).val := by
  pointwise

section lanes
variable {v7 : FVec Ideal S1024x768 .bf16} {u0 u1 u2 u3 u4 u5 : Vec Ideal S1x1024x128 .bf16} {q : Fin 1024 → Fin 768 → EReal}
theorem dsum_at (hq : ∀ r k, (k0_pay12 (F := Ideal) v7 u0 u1 u2 u3 u4 u5) (ix2 r k) = q r k) (r : Fin 1024) (n : Fin 128) :
    k0_pay1 (F := Ideal) (iota .tc S1024x128 32 [1] iota_S1024x128_d1_w32) k0_pay13
      (k0_pay18 (k0_pay12 v7 u0 u1 u2 u3 u4 u5) (iota .tc S1024x128 32 [1] iota_S1024x128_d1_w32) k0_pay13
        (k0_pay17 (k0_pay12 v7 u0 u1 u2 u3 u4 u5) (iota .tc S1024x128 32 [1] iota_S1024x128_d1_w32) k0_pay13 (k0_pay14 v7 u0 u1 u2 u3 u4 u5) (k0_pay15 v7 u0 u1 u2 u3 u4 u5) k0_pay16))
      (k0_pay19 (k0_pay12 v7 u0 u1 u2 u3 u4 u5)) (k0_pay20 (iota .tc S1024x128 32 [1] iota_S1024x128_d1_w32)) (k0_pay21 (k0_pay12 v7 u0 u1 u2 u3 u4 u5) k0_pay13) (ix2 r n)
      = lanes (heads (q r)) n :=
  pay1_at iota_at pay13_at (pay18_at hq iota_at pay13_at (pay17_at hq iota_at pay13_at (pay14_at hq) (pay15_at hq) pay16_at)) (pay19_at hq) (pay20_at iota_at)
    (pay21_at hq pay13_at) r n
end lanes

/-- The cotangent of the two inputs side by side, its parts, and the products of a head's lanes. -/
def dcat (M : Fin 8192 → Fin 1024 → EReal) (W : Fin 1024 → Fin 1024 → EReal) (i : Fin 8192) (j : Fin 1024) : EReal := ∑ l : Fin 1024, M i l * W j l
def dpool (M : Fin 8192 → Fin 1024 → EReal) (W : Fin 1024 → Fin 1024 → EReal) (i : Fin 8192) (j : Fin 256) : EReal := dcat M W i ⟨j.val, by omega⟩
def datt (M : Fin 8192 → Fin 1024 → EReal) (W : Fin 1024 → Fin 1024 → EReal) (i : Fin 8192) (j : Fin 768) : EReal := dcat M W i ⟨256 + j.val, by omega⟩
def attOf (A : Fin 6 → Fin 8192 → Fin 128 → EReal) (i : Fin 8192) (j : Fin 768) : EReal := A ⟨j.val / 128, by omega⟩ i ⟨j.val % 128, by omega⟩
def prodOf (M : Fin 8192 → Fin 1024 → EReal) (W : Fin 1024 → Fin 1024 → EReal) (A : Fin 6 → Fin 8192 → Fin 128 → EReal) (i : Fin 8192) (j : Fin 768) : EReal := datt M W i j * attOf A i j
def groupAt (g : Fin 6) (l : Fin 128) : Fin 768 := ⟨128 * g.val + l.val, by omega⟩
def headAt (h : Fin 12) (d : Fin 64) : Fin 768 := ⟨64 * h.val + d.val, by omega⟩

theorem att_of (A : Fin 6 → Fin 8192 → Fin 128 → EReal) {g : Fin 6} {i i' : Fin 8192} {l : Fin 128} {j : Fin 768} (hg : g.val = j.val / 128) (hi : i'.val = i.val) (hl : l.val = j.val % 128) :
    A g i' l = attOf A i j := by
  obtain rfl : i' = i := Fin.ext hi
  exact congrArg₂ (fun (a : Fin 6) (b : Fin 128) => A a i' b) (Fin.ext hg) (Fin.ext hl)

variable (m : (ℓ : Loc nD τ sig) → Buf (Elt Ideal) ℓ) (c : Dev nD)

theorem row_lt (t : Fin cfg0.N) (r : Fin 1024) : t.val * 1024 + r.val < 8192 := by
  have := lt_of_lt_of_eq t.isLt (show cfg0.N = 8 from N_0)
  omega

/-- The token a block's row holds. -/
def row (t : Fin cfg0.N) (r : Fin 1024) : Fin 8192 := ⟨t.val * 1024 + r.val, row_lt t r⟩

theorem row_sum (t : Fin cfg0.N) (h : t.val % 8 = 8 - 1) (s : Fin 8) (k : Fin 1024) (hl : s.val * 1024 + k.val < 8192)
    (hs : 8 * (t.val / 8) + s.val < cfg0.N) : row ⟨8 * (t.val / 8) + s.val, hs⟩ k = ⟨s.val * 1024 + k.val, hl⟩ := Fin.ext (by
  have := lt_of_lt_of_eq t.isLt (show cfg0.N = 8 from N_0)
  show (8 * (t.val / 8) + s.val) * 1024 + k.val = s.val * 1024 + k.val
  omega)
theorem index_0 : ∀ t : Fin cfg0.N, (cfg0.win 0).index t = ![t.val, 0] := by decide +kernel
abbrev matM : Fin 8192 → Fin 1024 → EReal := fun i j => (m ((c : Thread nD τ).loc main_arg0) : S8192x1024.Idx → EReal) (ix2 i j)
def blockM (t : Fin cfg0.N) : S1024x1024.Idx → EReal := iblk m c 0 t
theorem atM (t : Fin cfg0.N) (r : Fin 1024) (k : Fin 1024) : blockM m c t (ix2 r k) = matM m c (row t r) k := by
  unfold blockM
  have hk : (row t r).val = t.val * 1024 + r.val := rfl
  blk_ext [iblk, index_0 t]

theorem index_1 : ∀ t : Fin cfg0.N, (cfg0.win 1).index t = ![0, 0] := by decide +kernel
abbrev matW : Fin 1024 → Fin 1024 → EReal := fun i j => (m ((c : Thread nD τ).loc main_arg1) : S1024x1024.Idx → EReal) (ix2 i j)
def blockW (t : Fin cfg0.N) : S1024x1024.Idx → EReal := iblk m c 1 t
theorem atW (t : Fin cfg0.N) (r : Fin 1024) (k : Fin 1024) : blockW m c t (ix2 r k) = matW m c r k := by
  unfold blockW
  blk_ext [iblk, index_1 t]

theorem index_2 : ∀ t : Fin cfg0.N, (cfg0.win 2).index t = ![0, t.val, 0] := by decide +kernel
abbrev matA : Fin 6 → Fin 8192 → Fin 128 → EReal := fun g i j => (m ((c : Thread nD τ).loc main_arg2) : S6x8192x128.Idx → EReal) (ix3 g i j)
def blockA (t : Fin cfg0.N) : S6x1024x128.Idx → EReal := iblk m c 2 t
theorem atA (t : Fin cfg0.N) (g : Fin 6) (r : Fin 1024) (k : Fin 128) : blockA m c t (ix3 g r k) = matA m c g (row t r) k := by
  unfold blockA
  have hk : (row t r).val = t.val * 1024 + r.val := rfl
  blk_ext [iblk, index_2 t]

theorem index_3 : ∀ t : Fin cfg0.N, (cfg0.win 3).index t = ![t.val, 0] := by decide +kernel
theorem index_4 : ∀ t : Fin cfg0.N, (cfg0.win 4).index t = ![0, t.val, 0] := by decide +kernel
theorem index_5 : ∀ t : Fin cfg0.N, (cfg0.win 5).index t = ![t.val, 0] := by decide +kernel

abbrev resP (i : Fin 8192) (j : Fin 256) : EReal := dpool (matM m c) (matW m c) i j
abbrev resA (g : Fin 6) (i : Fin 8192) (l : Fin 128) : EReal := datt (matM m c) (matW m c) i (groupAt g l)
abbrev resS (i : Fin 8192) (n : Fin 128) : EReal := lanes (heads (prodOf (matM m c) (matW m c) (matA m c) i)) n

theorem after_3 (t : Fin cfg0.N) (r : Fin 1024) (k : Fin 256) : (dats m 0 c).after 3 t (ix2 r k) = resP m c (row t r) k := by
  rw [after0_3]
  unfold outsAt0
  frame_out
  have e := pay3_at (p := fun r k => matM m c (row t r) k) (w := matW m c) (atM m c t) (atW m c t) r k
  exact e

theorem array_3 : (dats m 0 c).arrAt 3 cfg0.N = (fun i => resP m c (i 0) (i 1) : S8192x256.Idx → EReal) := by
  refine Dat.arrAt_eq_of_covers (dats m 0 c) 3 _ (by decide +kernel) fun t hf y => ?_
  have e : (dats m 0 c).after 3 t y = resP m c (row t (y 0)) (y 1) :=
    (congrArg ((dats m 0 c).after 3 t) (ix2_eta y).symm).trans (after_3 m c t (y 0) (y 1))
  blk_simp
  rw [e]
  refine congrArg₂ (fun (a : Fin 8192) (b : Fin 256) => resP m c a b) (Fin.ext ?_) (Fin.ext ?_) <;> blk_simp [index_3 t] <;> rfl

theorem of_cat (i : Fin 8192) {a : ℕ} {g : Fin 6} {l : Fin 128} {h} (e : a = 128 * g.val + l.val) : (∑ k : Fin 1024, matM m c i k * matW m c ⟨256 + a, h⟩ k) = resA m c g i l := by
  subst e
  rfl

theorem after_4 (t : Fin cfg0.N) (g : Fin 6) (r : Fin 1024) (k : Fin 128) : (dats m 0 c).after 4 t (ix3 g r k) = resA m c g (row t r) k := by
  rw [after0_4]
  frame_out
  canon_tiles x h
  · exact piece (fun g r k => resA m c g (row t r) k) 5 (fun r k => (pay11_at (atM m c t) (atW m c t) r k).trans (of_cat m c (row t r) (by show 640 + k.val = 128 * 5 + k.val; omega))) g r k x h0 x0_lt h1 h2
  · exact piece (fun g r k => resA m c g (row t r) k) 4 (fun r k => (pay9_at (atM m c t) (atW m c t) r k).trans (of_cat m c (row t r) (by show 512 + k.val = 128 * 4 + k.val; omega))) g r k x h0 x0_lt h1 h2
  · exact piece (fun g r k => resA m c g (row t r) k) 3 (fun r k => (pay8_at (atM m c t) (atW m c t) r k).trans (of_cat m c (row t r) (by show 384 + k.val = 128 * 3 + k.val; omega))) g r k x h0 x0_lt h1 h2
  · exact piece (fun g r k => resA m c g (row t r) k) 2 (fun r k => (pay7_at (atM m c t) (atW m c t) r k).trans (of_cat m c (row t r) (by show 256 + k.val = 128 * 2 + k.val; omega))) g r k x h0 x0_lt h1 h2
  · exact piece (fun g r k => resA m c g (row t r) k) 1 (fun r k => (pay6_at (atM m c t) (atW m c t) r k).trans (of_cat m c (row t r) (by show 128 + k.val = 128 * 1 + k.val; omega))) g r k x h0 x0_lt h1 h2
  · exact piece (fun g r k => resA m c g (row t r) k) 0 (fun r k => (pay5_at (atM m c t) (atW m c t) r k).trans (of_cat m c (row t r) (by show k.val = 128 * 0 + k.val; omega))) g r k x (h0.trans (Nat.zero_add _).symm) x0_lt h1 h2

theorem array_4 : (dats m 0 c).arrAt 4 cfg0.N = (fun i => resA m c (i 0) (i 1) (i 2) : S6x8192x128.Idx → EReal) := by
  refine Dat.arrAt_eq_of_covers (dats m 0 c) 4 _ (by decide +kernel) fun t hf y => ?_
  have e : (dats m 0 c).after 4 t y = resA m c (y 0) (row t (y 1)) (y 2) :=
    (congrArg ((dats m 0 c).after 4 t) (ix3_eta y).symm).trans (after_4 m c t (y 0) (y 1) (y 2))
  blk_simp
  rw [e]
  refine congr3 (resA m c) (Fin.ext ?_) (Fin.ext ?_) (Fin.ext ?_) <;> blk_simp [index_4 t] <;> rfl

abbrev groupA (t : Fin cfg0.N) (g : ℕ) (inb : ∀ a, ![g, 0, 0] a + ![1, 1024, 128] a ≤ S6x1024x128.size a) := View.ld (Val := Elt Ideal) (e' := .bf16) (blockA m c t) (Rect.unit (s := S6x1024x128) ![g, 0, 0] ![1, 1024, 128] inb)
theorem groupA_at (t : Fin cfg0.N) (g : Fin 6) (inb) (r : Fin 1024) (k : Fin 128) : groupA m c t g.val inb (ix3 0 r k) = matA m c g (row t r) k :=
  (View.ld_unit_apply_of (Val := Elt Ideal) (e := .bf16) (blockA m c t) ![g.val, 0, 0] ![1, 1024, 128] inb (ix3 0 r k) (ix3 g r k) (fun a => match a with
    | ⟨0, _⟩ => rfl
    | ⟨1, _⟩ => (Nat.zero_add _).symm
    | ⟨2, _⟩ => (Nat.zero_add _).symm)).trans (atA m c t g r k)

theorem prod_at (t : Fin cfg0.N) (i0 i1 i2 i3 i4 i5) (r : Fin 1024) (j : Fin 768) :
    (k0_pay12 (F := Ideal) (k0_pay4 (blockM m c t) (blockW m c t)) (groupA m c t 0 i0) (groupA m c t 1 i1) (groupA m c t 2 i2) (groupA m c t 3 i3) (groupA m c t 4 i4) (groupA m c t 5 i5)) (ix2 r j)
      = prodOf (matM m c) (matW m c) (matA m c) (row t r) j :=
  pay12_at (q := fun r j => datt (matM m c) (matW m c) (row t r) j) (a := fun g r k => matA m c g (row t r) k) (pay4_at (atM m c t) (atW m c t))
    (groupA_at m c t 0 _) (groupA_at m c t 1 _) (groupA_at m c t 2 _) (groupA_at m c t 3 _) (groupA_at m c t 4 _) (groupA_at m c t 5 _) r j

theorem after_5 (t : Fin cfg0.N) (r : Fin 1024) (k : Fin 128) : (dats m 0 c).after 5 t (ix2 r k) = resS m c (row t r) k := by
  rw [after0_5]
  frame_out
  exact dsum_at (prod_at m c t _ _ _ _ _ _) r k

theorem array_5 : (dats m 0 c).arrAt 5 cfg0.N = (fun i => resS m c (i 0) (i 1) : S8192x128.Idx → EReal) := by
  refine Dat.arrAt_eq_of_covers (dats m 0 c) 5 _ (by decide +kernel) fun t hf y => ?_
  have e : (dats m 0 c).after 5 t y = resS m c (row t (y 0)) (y 1) :=
    (congrArg ((dats m 0 c).after 5 t) (ix2_eta y).symm).trans (after_5 m c t (y 0) (y 1))
  blk_simp
  rw [e]
  refine congrArg₂ (fun (a : Fin 8192) (b : Fin 128) => resS m c a b) (Fin.ext ?_) (Fin.ext ?_) <;> blk_simp [index_5 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v1_0) = (fun i => resP m c (i 0) (i 1) : S8192x256.Idx → EReal)
      ∧ r.2.mem ((c : Thread nD τ).loc main_v1_1) = (fun i => resA m c (i 0) (i 1) (i 2) : S6x8192x128.Idx → EReal)
      ∧ r.2.mem ((c : Thread nD τ).loc main_v1_2) = (fun i => resS m c (i 0) (i 1) : S8192x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => by
    obtain ⟨h3, h4, h5, hr⟩ := h c
    exact ⟨h3.trans (array_3 m c), h4.trans (array_4 m c), h5.trans (array_5 m c), hr⟩) (Value.run_blocks (F := Ideal) m ρ)

end Cert.MixBIdeal.Back
end
-- ==== Proof.MixBackRef.lean ====
module
public import proofs.«01_k».proof.Proof.Gen.RMixBIdeal.Read
public import proofs.«01_k».proof.Proof.MixBack
public import Idealize.ShloMosaic.Lib.KernelVsHost
@[expose] public section
set_option maxRecDepth 16384
noncomputable section
open Idealize.ShloMosaic Idealize.ShloMosaic.TcCoe Idealize.SL.Sem
namespace Cert.RMixBIdeal.Whole
open Cert.RMixBIdeal Cert.RMixBIdeal.Gen Cert.RMixBIdeal.Read Cert.FfnMath Cert.NormMath Cert.MixBIdeal.Back

/-! # The reference of the gradient of the product with w_out -/

structure Data where
  M : Fin 8192 → Fin 1024 → EReal
  W : Fin 1024 → Fin 1024 → EReal
  A : Fin 6 → Fin 8192 → Fin 128 → EReal

variable (D : Cert.RMixBIdeal.Whole.Data)
def c0 : S8192x1024.Idx → EReal := fun i => D.M (i 0) (i 1)
def c1 : S1024x1024.Idx → EReal := fun i => D.W (i 0) (i 1)
def c2 : S6x8192x128.Idx → EReal := fun i => D.A (i 0) (i 1) (i 2)

theorem r_v0 (i : S1024x1024.Idx) : val_main_v0 (F := Ideal) (c1 D) i = (D.W (i 0) (i 1) : EReal) :=
  (val_main_v0_apply _ i).trans rfl
theorem r_v1 (i : S6x8192x128.Idx) : val_main_v1 (F := Ideal) (c2 D) i = (D.A (i 0) (i 1) (i 2) : EReal) :=
  (val_main_v1_apply _ i).trans rfl
theorem r_v2 (i : S8192x6x128.Idx) : val_main_v2 (F := Ideal) (c2 D) i = (D.A (i 1) (i 0) (i 2) : EReal) :=
  (val_main_v2_apply _ i).trans (r_v1 D _)
theorem r_v3 (i : S8192x768.Idx) : val_main_v3 (F := Ideal) (c2 D) i = (attOf D.A (i 0) (i 1) : EReal) :=
  (val_main_v3_apply _ i).trans ((r_v2 D _).trans (att_of D.A (by
    have h1 : (i 1).val < 768 := (i 1).isLt
    show ((i 0).val * 768 + (i 1).val) / 128 % 6 = (i 1).val / 128
    omega) (by
    have h1 : (i 1).val < 768 := (i 1).isLt
    show ((i 0).val * 768 + (i 1).val) / 768 = (i 0).val
    omega) (by
    show ((i 0).val * 768 + (i 1).val) % 128 = (i 1).val % 128
    omega)))
theorem r_v7 (i : S8192x1024.Idx) : val_main_v7 (F := Ideal) (c0 D) i = (D.M (i 0) (i 1) : EReal) :=
  (val_main_v7_apply _ i).trans rfl
theorem r_v8 (i : S8192x1024.Idx) : val_main_v8 (F := Ideal) (c0 D) (c1 D) i = (dcat D.M D.W (i 0) (i 1) : EReal) :=
  (val_main_v8_apply _ _ i).trans (dot_e (fun k => r_v7 D _) (fun k => r_v0 D _))
theorem r_v9 (i : S8192x256.Idx) : val_main_v9 (F := Ideal) (c0 D) (c1 D) i = (dpool D.M D.W (i 0) (i 1) : EReal) :=
  (val_main_v9_apply _ _ i).trans (r_v8 D _)
theorem r_v10 (i : S8192x768.Idx) : val_main_v10 (F := Ideal) (c0 D) (c1 D) i = (datt D.M D.W (i 0) (i 1) : EReal) :=
  (val_main_v10_apply _ _ i).trans (r_v8 D _)
theorem r_v11 (i : S8192x768.Idx) : val_main_v11 (F := Ideal) (c0 D) (c1 D) (c2 D) i = (prodOf D.M D.W D.A (i 0) (i 1) : EReal) :=
  (val_main_v11_apply _ _ _ i).trans (mul_e (r_v10 D i) (r_v3 D i))
theorem r_v12 (i : S8192x12x64.Idx) : val_main_v12 (F := Ideal) (c0 D) (c1 D) (c2 D) i = (prodOf D.M D.W D.A (i 0) (headAt (i 1) (i 2)) : EReal) :=
  (val_main_v12_apply _ _ _ i).trans ((r_v11 D _).trans (congrArg₂ (fun (a : Fin 8192) (b : Fin 768) => prodOf D.M D.W D.A a b) (Fin.ext (by
    have h1 : (i 1).val < 12 := (i 1).isLt
    have h2 : (i 2).val < 64 := (i 2).isLt
    show (((i 0).val * 12 + (i 1).val) * 64 + (i 2).val) / 768 = (i 0).val
    omega)) (Fin.ext (by
    have h1 : (i 1).val < 12 := (i 1).isLt
    have h2 : (i 2).val < 64 := (i 2).isLt
    show (((i 0).val * 12 + (i 1).val) * 64 + (i 2).val) % 768 = 64 * (i 1).val + (i 2).val
    omega))))
include D in
theorem r_cst_0 (i : S_.Idx) : val_main_cst_0 (F := Ideal)  i = (0 : EReal) :=
  (val_main_cst_0_apply i).trans zero_e
theorem r_v13 (i : S8192x12.Idx) : val_main_v13 (F := Ideal) (c0 D) (c1 D) (c2 D) i = (heads (prodOf D.M D.W D.A (i 0)) (i 1) : EReal) :=
  (val_main_v13_apply _ _ _ i).trans (sum_e (r_cst_0 D _) fun k => r_v12 D _)
include D in
theorem r_c (i : S_.Idx) : val_main_c (F := Ideal)  i = 0#32 :=
  (val_main_c_apply i).trans rfl
include D in
theorem r_call0_v0 (i : S_.Idx) : val_main_call0_v0 (F := Ideal) i = (0 : EReal) := by
  rw [val_main_call0_v0_apply, r_c D]
  show ((((0#32 : BitVec 32).toInt : ℤ) : ℝ) : EReal) = 0
  norm_num
theorem r_v14 (i : S8192x128.Idx) : val_main_v14 (F := Ideal) (c0 D) (c1 D) (c2 D) i = (lanes (heads (prodOf D.M D.W D.A (i 0))) (i 1) : EReal) := by
  unfold val_main_v14
  have h0 : (i 0).val < 8192 := (i 0).isLt
  by_cases h : (i 1).val < 12
  · refine (pad_apply_of_inside _ _ _ _ _ _ _ i (fun a => match a with | ⟨0, _⟩ => ⟨(i 0).val, h0⟩ | ⟨1, _⟩ => ⟨(i 1).val, h⟩) fun a => ?_).trans ?_
    · match a with
      | ⟨0, _⟩ => show (i 0).val = 0 + (i 0).val * (0 + 1); omega
      | ⟨1, _⟩ => show (i 1).val = 0 + (i 1).val * (0 + 1); omega
    · refine (r_v13 D _).trans ?_
      unfold lanes
      rw [dif_pos h]
      rfl
  · refine (pad_apply_of_not_inside _ _ _ _ _ _ _ i ⟨1, by decide⟩ fun q => h ?_).trans ((r_call0_v0 D _).trans ?_)
    · have := q.2.2
      have e : ((i 1).val - 0) / (0 + 1) < 12 := this
      omega
    · unfold lanes
      rw [dif_neg h]
theorem r_v15 (i : S8192x256.Idx) : val_main_v15 (F := Ideal) (c0 D) (c1 D) i = (dpool D.M D.W (i 0) (i 1) : EReal) :=
  (val_main_v15_apply _ _ i).trans (r_v9 D _)
theorem r_v16 (i : S8192x768.Idx) : val_main_v16 (F := Ideal) (c0 D) (c1 D) i = (datt D.M D.W (i 0) (i 1) : EReal) :=
  (val_main_v16_apply _ _ i).trans (r_v10 D _)
theorem r_v17 (i : S8192x6x128.Idx) : val_main_v17 (F := Ideal) (c0 D) (c1 D) i = (datt D.M D.W (i 0) (groupAt (i 1) (i 2)) : EReal) :=
  (val_main_v17_apply _ _ i).trans ((r_v16 D _).trans (congrArg₂ (fun (a : Fin 8192) (b : Fin 768) => datt D.M D.W a b) (Fin.ext (by
    have h1 : (i 1).val < 6 := (i 1).isLt
    have h2 : (i 2).val < 128 := (i 2).isLt
    show (((i 0).val * 6 + (i 1).val) * 128 + (i 2).val) / 768 = (i 0).val
    omega)) (Fin.ext (by
    have h1 : (i 1).val < 6 := (i 1).isLt
    have h2 : (i 2).val < 128 := (i 2).isLt
    show (((i 0).val * 6 + (i 1).val) * 128 + (i 2).val) % 768 = 128 * (i 1).val + (i 2).val
    omega))))
theorem r_v18 (i : S6x8192x128.Idx) : val_main_v18 (F := Ideal) (c0 D) (c1 D) i = (datt D.M D.W (i 1) (groupAt (i 0) (i 2)) : EReal) :=
  (val_main_v18_apply _ _ i).trans (r_v17 D _)

end Cert.RMixBIdeal.Whole
end
-- ==== Proof.MixBSame.lean ====
module
public import proofs.«01_k».proof.Defs
public import proofs.«01_k».proof.Proof.Gen.RMixBIdeal.Run
public import proofs.«01_k».proof.Proof.Gen.RMixBIdeal
public import proofs.«01_k».proof.Proof.Gen.MixB
public import proofs.«01_k».proof.Proof.Gen.MixB.Frame
public import proofs.«01_k».proof.Proof.Gen.MixBIdeal
public import proofs.«01_k».proof.Proof.Gen.MixBIdeal.Frame
public import proofs.«01_k».proof.Proof.MixBack
public import proofs.«01_k».proof.Proof.MixBackRef
@[expose] public section
set_option maxRecDepth 16384
noncomputable section
open Idealize.ShloMosaic Idealize.ShloMosaic.TcCoe Idealize.SL.Sem

namespace Cert.RMixBIdeal.Whole
open Cert.RMixBIdeal Cert.RMixBIdeal.Read

/-- The arguments as matrices. -/
def dataOf (x0 : S8192x1024.Idx → EReal) (x1 : S1024x1024.Idx → EReal) (x2 : S6x8192x128.Idx → EReal) : Data where
  M := fun i j => x0 (ix2 i j)
  W := fun i j => x1 (ix2 i j)
  A := fun g i l => x2 (ix3 g i l)

variable (x0 : S8192x1024.Idx → EReal) (x1 : S1024x1024.Idx → EReal) (x2 : S6x8192x128.Idx → EReal)

theorem c0_of : c0 (dataOf x0 x1 x2) = x0 := funext fun i => congrArg x0 (ix2_eta i)
theorem c1_of : c1 (dataOf x0 x1 x2) = x1 := funext fun i => congrArg x1 (ix2_eta i)
theorem c2_of : c2 (dataOf x0 x1 x2) = x2 := funext fun i => congrArg x2 (ix3_eta i)

theorem value_p : val_main_v15 (F := Ideal) x0 x1 = fun i => Cert.MixBIdeal.Back.dpool (fun i j => x0 (ix2 i j)) (fun i j => x1 (ix2 i j)) (i 0) (i 1) := by
  funext i
  have h := r_v15 (dataOf x0 x1 (fun _ => 0)) i
  rw [c0_of, c1_of] at h
  exact h

theorem value_a : val_main_v18 (F := Ideal) x0 x1 = fun i => Cert.MixBIdeal.Back.datt (fun i j => x0 (ix2 i j)) (fun i j => x1 (ix2 i j)) (i 1) (Cert.MixBIdeal.Back.groupAt (i 0) (i 2)) := by
  funext i
  have h := r_v18 (dataOf x0 x1 (fun _ => 0)) i
  rw [c0_of, c1_of] at h
  exact h

theorem value_s : val_main_v14 (F := Ideal) x0 x1 x2 = fun i => Cert.MixBIdeal.Back.lanes (Cert.MixBIdeal.Back.heads (Cert.MixBIdeal.Back.prodOf (fun i j => x0 (ix2 i j)) (fun i j => x1 (ix2 i j)) (fun g i l => x2 (ix3 g i l)) (i 0))) (i 1) := by
  funext i
  have h := r_v14 (dataOf x0 x1 x2) i
  rw [c0_of, c1_of, c2_of] at h
  exact h

end Cert.RMixBIdeal.Whole

namespace Cert.Proof

theorem rmixb_frame : Cert.quiescent_RMixBIdeal (hRMixBIdeal := Cert.RMixBIdeal.Gen.facts) := by
  intro m ρ _
  exact (θ_run _ _ _).mono (fun r h => ⟨fun c => (h c).2.2.2, funext fun g => nomatch g.2⟩) (Cert.RMixBIdeal.Value.run (F := Ideal) m ρ)

theorem mixb_same : Cert.algebraic_MixBIdeal_RMixBIdeal (hMixBIdeal := Cert.MixBIdeal.Gen.facts) (hRMixBIdeal := Cert.RMixBIdeal.Gen.facts) := by
  intro m g m' g' _ hagree
  refine ⟨fun c => (fun i => Cert.MixBIdeal.Back.resP m c (i 0) (i 1)), fun c => (fun i => Cert.MixBIdeal.Back.resA m c (i 0) (i 1) (i 2)), fun c => (fun i => Cert.MixBIdeal.Back.resS m c (i 0) (i 1)),
    Cert.MixBIdeal.Back.run m g, (θ_run _ _ _).mono (fun r h c => ?_) (Cert.RMixBIdeal.Value.run (F := Ideal) m' g')⟩
  obtain ⟨e0, e1, e2⟩ := hagree c
  obtain ⟨h0, h1, h2, hargs⟩ := h c
  refine ⟨h0.trans ?_, h1.trans ?_, h2.trans ?_, hargs⟩
  · rw [Cert.RMixBIdeal.Read.val_main_v15_eq, e0, e1]
    exact Cert.RMixBIdeal.Whole.value_p _ _
  · rw [Cert.RMixBIdeal.Read.val_main_v18_eq, e0, e1]
    exact Cert.RMixBIdeal.Whole.value_a _ _
  · rw [Cert.RMixBIdeal.Read.val_main_v14_eq, e0, e1, e2]
    exact Cert.RMixBIdeal.Whole.value_s _ _ _

end Cert.Proof
end
-- ==== Proof.ProjTurn.lean ====
module
public import proofs.«01_k».proof.Proof.Gen.ProjFIdeal.Frame
public import proofs.«01_k».proof.Proof.Gen.ProjFIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.ProjFIdeal.Fwd
open Cert.ProjFIdeal Cert.ProjFIdeal.Gen Cert.FfnMath Cert.NormMath

/-! # The body of the product with w_in: the normalised rows, the product, and the turned lanes -/

def groupAt (g : Fin 6) (l : Fin 128) : Fin 768 := ⟨128 * g.val + l.val, by omega⟩
theorem group_of {f : Fin 768 → EReal} {g : Fin 6} {l : Fin 128} {a : Fin 768} (h : a.val = 128 * g.val + l.val) : f a = f (groupAt g l) := congrArg f (Fin.ext h)

/-- A group of lanes turned: each lane times its cosine, plus its partner's times its signed sine. -/
def turn (y c s : Fin 128 → EReal) (l : Fin 128) : EReal :=
  y l * c l + (if l.val % 64 < 32 then y ⟨(l.val + 32) % 128, by omega⟩ else y ⟨(l.val + 96) % 128, by omega⟩) * s l

section pay
variable {v0 : Vec Ideal S1024x1024 .f32} {v1 : Vec Ideal S1x1024 .f32} {v16 : Vec Ideal S2560x1024 .bf16} {x : Fin 1024 → Fin 1024 → EReal} {g : Fin 1024 → EReal} {w : Fin 2560 → Fin 1024 → EReal}

theorem pay7_at (h0 : ∀ r k, v0 (ix2 r k) = x r k) (h1 : ∀ k, v1 (ix2 0 k) = g k) (r j : Fin 1024) :
    (k0_pay7 (F := Ideal) v0 v1) (ix2 r j) = normE (x r) g j := by
  unfold k0_pay7
  pointwise
  simp only [h0, h1]
  rfl

theorem pay8_at (h0 : ∀ r k, v0 (ix2 r k) = x r k) (h1 : ∀ k, v1 (ix2 0 k) = g k) (h16 : ∀ r k, v16 (ix2 r k) = w r k) (r : Fin 1024) (n : Fin 2560) :
    (k0_pay8 (F := Ideal) v0 v1 v16) (ix2 r n) = ∑ k, normE (x r) g k * w n k := by
  unfold k0_pay8
  pointwise
  show ∑ k : Fin 1024, k0_pay7 (F := Ideal) v0 v1 (ix2 r k) * v16 (ix2 n k) = _
  exact Finset.sum_congr rfl fun k _ => congrArg₂ (fun a b : EReal => a * b) (pay7_at h0 h1 r k) (h16 n k)

theorem pay11_at (h0 : ∀ r k, v0 (ix2 r k) = x r k) (h1 : ∀ k, v1 (ix2 0 k) = g k) (h16 : ∀ r k, v16 (ix2 r k) = w r k) (r : Fin 1024) (n : Fin 256) :
    (k0_pay11 (F := Ideal) v0 v1 v16) (ix2 r n) = ∑ k, normE (x r) g k * w ⟨n.val, by omega⟩ k := by
  unfold k0_pay11
  pointwise
  refine Eq.trans ?_ (pay8_at h0 h1 h16 r ⟨n.val, by omega⟩)
  congr 1

theorem pay12_at (h0 : ∀ r k, v0 (ix2 r k) = x r k) (h1 : ∀ k, v1 (ix2 0 k) = g k) (h16 : ∀ r k, v16 (ix2 r k) = w r k) (r : Fin 1024) (n : Fin 768) :
    (k0_pay12 (F := Ideal) v0 v1 v16) (ix2 r n) = ∑ k, normE (x r) g k * w ⟨256 + n.val, by omega⟩ k := by
  unfold k0_pay12
  pointwise
  refine Eq.trans ?_ (pay8_at h0 h1 h16 r ⟨256 + n.val, by omega⟩)
  congr 1
end pay

section parts
variable {v17 : FVec Ideal S1024x2560 .f32} {p : Fin 1024 → Fin 2560 → EReal}
theorem pay28_at (h : ∀ r n, v17 (ix2 r n) = p r n) (r : Fin 1024) (n : Fin 768) : (k0_pay28 (F := Ideal) v17) (ix2 r n) = p r ⟨1024 + n.val, by omega⟩ := by
  unfold k0_pay28
  pointwise
  exact h r _
theorem pay40_at (h : ∀ r n, v17 (ix2 r n) = p r n) (r : Fin 1024) (n : Fin 768) : (k0_pay40 (F := Ideal) v17) (ix2 r n) = p r ⟨1792 + n.val, by omega⟩ := by
  unfold k0_pay40
  pointwise
  exact h r _
theorem pay9_at {v : Vec Ideal S1024x128 .f32} (i : S1024x128.Idx) : (k0_pay9 (F := Ideal) v) i = v i := by
  unfold k0_pay9
  pointwise
theorem pay10_at {v : Vec Ideal S1024x128 .f32} (i : S1024x128.Idx) : (k0_pay10 (F := Ideal) v) i = v i := by
  unfold k0_pay10
  pointwise
end parts

section mask
theorem maskQ (r : Fin 1024) (l : Fin 128) : k0_pay16 (Scalar.select (Scalar.cmpi .eq 64#32 0#32) 1#32 64#32) k0_pay13 k0_pay14 k0_pay15 (ix2 r l) = if l.val % 64 < 32 then 1#1 else 0#1 := by
  unfold k0_pay16 k0_pay14 k0_pay15 k0_pay13
  pointwise
  revert l
  decide +kernel
theorem maskK (r : Fin 1024) (l : Fin 128) : k0_pay29 (ix2 r l) = if l.val % 64 < 32 then 1#1 else 0#1 := by
  unfold k0_pay29
  pointwise
  revert l
  decide +kernel
end mask

section turns
variable {z : FVec Ideal S1024x768 .f32} {q : Fin 1024 → Fin 768 → EReal}

theorem slice0 (h : ∀ r j, z (ix2 r j) = q r j) (r : Fin 1024) (l : Fin 128) :
    (extractStridedSlice S1024x128 ![0, 0] z slices_S1024x768_o0_0_S1024x128) (ix2 r l) = q r (groupAt 0 l) := by
  pointwise
  exact (h r _).trans (group_of (f := q r) (g := 0) (l := l) (by show l.val = 128 * 0 + l.val; omega))

theorem store0 (h : ∀ r j, z (ix2 r j) = q r j) (r : Fin 1024) (l : Fin 128) :
    (shapeCast S1x1024x128 (truncf .bf16 (extractStridedSlice S1024x128 ![0, 0] z slices_S1024x768_o0_0_S1024x128) bitsLt_bf16_f32 : FVec Ideal S1024x128 .bf16) shapeCasts_S1024x128_S1x1024x128) (ix3 0 r l) = q r (groupAt 0 l) := by
  pointwise
  exact (h r _).trans (group_of (f := q r) (g := 0) (l := l) (by show l.val = 128 * 0 + l.val; omega))

theorem slice1 (h : ∀ r j, z (ix2 r j) = q r j) (r : Fin 1024) (l : Fin 128) :
    (extractStridedSlice S1024x128 ![0, 128] z slices_S1024x768_o0_128_S1024x128) (ix2 r l) = q r (groupAt 1 l) := by
  pointwise
  exact (h r _).trans (group_of (f := q r) (g := 1) (l := l) (by show 128 + l.val = 128 * 1 + l.val; omega))

theorem store1 (h : ∀ r j, z (ix2 r j) = q r j) (r : Fin 1024) (l : Fin 128) :
    (shapeCast S1x1024x128 (truncf .bf16 (extractStridedSlice S1024x128 ![0, 128] z slices_S1024x768_o0_128_S1024x128) bitsLt_bf16_f32 : FVec Ideal S1024x128 .bf16) shapeCasts_S1024x128_S1x1024x128) (ix3 0 r l) = q r (groupAt 1 l) := by
  pointwise
  exact (h r _).trans (group_of (f := q r) (g := 1) (l := l) (by show 128 + l.val = 128 * 1 + l.val; omega))

theorem slice2 (h : ∀ r j, z (ix2 r j) = q r j) (r : Fin 1024) (l : Fin 128) :
    (extractStridedSlice S1024x128 ![0, 256] z slices_S1024x768_o0_256_S1024x128) (ix2 r l) = q r (groupAt 2 l) := by
  pointwise
  exact (h r _).trans (group_of (f := q r) (g := 2) (l := l) (by show 256 + l.val = 128 * 2 + l.val; omega))

theorem store2 (h : ∀ r j, z (ix2 r j) = q r j) (r : Fin 1024) (l : Fin 128) :
    (shapeCast S1x1024x128 (truncf .bf16 (extractStridedSlice S1024x128 ![0, 256] z slices_S1024x768_o0_256_S1024x128) bitsLt_bf16_f32 : FVec Ideal S1024x128 .bf16) shapeCasts_S1024x128_S1x1024x128) (ix3 0 r l) = q r (groupAt 2 l) := by
  pointwise
  exact (h r _).trans (group_of (f := q r) (g := 2) (l := l) (by show 256 + l.val = 128 * 2 + l.val; omega))

theorem slice3 (h : ∀ r j, z (ix2 r j) = q r j) (r : Fin 1024) (l : Fin 128) :
    (extractStridedSlice S1024x128 ![0, 384] z slices_S1024x768_o0_384_S1024x128) (ix2 r l) = q r (groupAt 3 l) := by
  pointwise
  exact (h r _).trans (group_of (f := q r) (g := 3) (l := l) (by show 384 + l.val = 128 * 3 + l.val; omega))

theorem store3 (h : ∀ r j, z (ix2 r j) = q r j) (r : Fin 1024) (l : Fin 128) :
    (shapeCast S1x1024x128 (truncf .bf16 (extractStridedSlice S1024x128 ![0, 384] z slices_S1024x768_o0_384_S1024x128) bitsLt_bf16_f32 : FVec Ideal S1024x128 .bf16) shapeCasts_S1024x128_S1x1024x128) (ix3 0 r l) = q r (groupAt 3 l) := by
  pointwise
  exact (h r _).trans (group_of (f := q r) (g := 3) (l := l) (by show 384 + l.val = 128 * 3 + l.val; omega))

theorem slice4 (h : ∀ r j, z (ix2 r j) = q r j) (r : Fin 1024) (l : Fin 128) :
    (extractStridedSlice S1024x128 ![0, 512] z slices_S1024x768_o0_512_S1024x128) (ix2 r l) = q r (groupAt 4 l) := by
  pointwise
  exact (h r _).trans (group_of (f := q r) (g := 4) (l := l) (by show 512 + l.val = 128 * 4 + l.val; omega))

theorem store4 (h : ∀ r j, z (ix2 r j) = q r j) (r : Fin 1024) (l : Fin 128) :
    (shapeCast S1x1024x128 (truncf .bf16 (extractStridedSlice S1024x128 ![0, 512] z slices_S1024x768_o0_512_S1024x128) bitsLt_bf16_f32 : FVec Ideal S1024x128 .bf16) shapeCasts_S1024x128_S1x1024x128) (ix3 0 r l) = q r (groupAt 4 l) := by
  pointwise
  exact (h r _).trans (group_of (f := q r) (g := 4) (l := l) (by show 512 + l.val = 128 * 4 + l.val; omega))

theorem slice5 (h : ∀ r j, z (ix2 r j) = q r j) (r : Fin 1024) (l : Fin 128) :
    (extractStridedSlice S1024x128 ![0, 640] z slices_S1024x768_o0_640_S1024x128) (ix2 r l) = q r (groupAt 5 l) := by
  pointwise
  exact (h r _).trans (group_of (f := q r) (g := 5) (l := l) (by show 640 + l.val = 128 * 5 + l.val; omega))

theorem store5 (h : ∀ r j, z (ix2 r j) = q r j) (r : Fin 1024) (l : Fin 128) :
    (shapeCast S1x1024x128 (truncf .bf16 (extractStridedSlice S1024x128 ![0, 640] z slices_S1024x768_o0_640_S1024x128) bitsLt_bf16_f32 : FVec Ideal S1024x128 .bf16) shapeCasts_S1024x128_S1x1024x128) (ix3 0 r l) = q r (groupAt 5 l) := by
  pointwise
  exact (h r _).trans (group_of (f := q r) (g := 5) (l := l) (by show 640 + l.val = 128 * 5 + l.val; omega))

variable {xg cs sn : FVec Ideal S1024x128 .f32} {mask : IVec S1024x128 1} {y cT sT : Fin 1024 → Fin 128 → EReal}

theorem turn_at (hm : ∀ r (l : Fin 128), mask (ix2 r l) = if l.val % 64 < 32 then 1#1 else 0#1) (hc : ∀ r l, cs (ix2 r l) = cT r l) (hs : ∀ r l, sn (ix2 r l) = sT r l) (hx : ∀ r l, xg (ix2 r l) = y r l) (r : Fin 1024) (l : Fin 128) :
    (addf (mulf xg cs) (mulf (broadcast S1024x128 (Scalar.ofBits .f32 0x3F800000#32 : Ideal .f32)) (mulf (select mask (dynamicRotate 1 96#32 none xg rotates_S1024x128_d1) (dynamicRotate 1 32#32 none xg rotates_S1024x128_d1)) sn))) (ix2 r l)
      = turn (y r) (cT r) (sT r) l := by
  pointwise
  rw [hc, hs, hm]
  unfold turn
  refine congrArg₂ (fun a b : EReal => a * cT r l + b * sT r l) (hx r l) ?_
  by_cases h : l.val % 64 < 32
  · rw [if_pos h, if_pos h]
    exact (hx r _).trans (congrArg (y r) (Fin.ext (by show (l.val + 128 - 96) % 128 = (l.val + 32) % 128; omega)))
  · rw [if_neg h, if_neg h]
    exact (hx r _).trans (congrArg (y r) (Fin.ext (by show (l.val + 128 - 32) % 128 = (l.val + 96) % 128; omega)))

theorem cat_at {x0 x1 x2 x3 x4 x5 : FVec Ideal S1024x128 .f32} {a : Fin 6 → Fin 1024 → Fin 128 → EReal} (h0 : ∀ r k, x0 (ix2 r k) = a 0 r k) (h1 : ∀ r k, x1 (ix2 r k) = a 1 r k) (h2 : ∀ r k, x2 (ix2 r k) = a 2 r k)
    (h3 : ∀ r k, x3 (ix2 r k) = a 3 r k) (h4 : ∀ r k, x4 (ix2 r k) = a 4 r k) (h5 : ∀ r k, x5 (ix2 r k) = a 5 r k) (r : Fin 1024) (j : Fin 768) :
    (concatenate S1024x768 1 [⟨S1024x128, x0⟩, ⟨S1024x128, x1⟩, ⟨S1024x128, x2⟩, ⟨S1024x128, x3⟩, ⟨S1024x128, x4⟩, ⟨S1024x128, x5⟩] concatenates_S1024x128_S1024x128_S1024x128_S1024x128_S1024x128_S1024x128_S1024x768_d1) (ix2 r j)
      = a ⟨j.val / 128, by omega⟩ r ⟨j.val % 128, by omega⟩ := by
  pointwise
  by_cases c0 : j.val < 128
  · rw [dif_pos c0]
    exact (h0 r _).trans (congrArg₂ (fun (g : Fin 6) (l : Fin 128) => a g r l) (Fin.ext (by show 0 = j.val / 128; omega)) (Fin.ext (by show j.val = j.val % 128; omega)))
  rw [dif_neg c0]
  by_cases c1 : j.val - 128 < 128
  · rw [dif_pos c1]
    exact (h1 r _).trans (congrArg₂ (fun (g : Fin 6) (l : Fin 128) => a g r l) (Fin.ext (by show 1 = j.val / 128; omega)) (Fin.ext (by show j.val - 128 = j.val % 128; omega)))
  rw [dif_neg c1]
  by_cases c2 : j.val - 128 - 128 < 128
  · rw [dif_pos c2]
    exact (h2 r _).trans (congrArg₂ (fun (g : Fin 6) (l : Fin 128) => a g r l) (Fin.ext (by show 2 = j.val / 128; omega)) (Fin.ext (by show j.val - 128 - 128 = j.val % 128; omega)))
  rw [dif_neg c2]
  by_cases c3 : j.val - 128 - 128 - 128 < 128
  · rw [dif_pos c3]
    exact (h3 r _).trans (congrArg₂ (fun (g : Fin 6) (l : Fin 128) => a g r l) (Fin.ext (by show 3 = j.val / 128; omega)) (Fin.ext (by show j.val - 128 - 128 - 128 = j.val % 128; omega)))
  rw [dif_neg c3]
  by_cases c4 : j.val - 128 - 128 - 128 - 128 < 128
  · rw [dif_pos c4]
    exact (h4 r _).trans (congrArg₂ (fun (g : Fin 6) (l : Fin 128) => a g r l) (Fin.ext (by show 4 = j.val / 128; omega)) (Fin.ext (by show j.val - 128 - 128 - 128 - 128 = j.val % 128; omega)))
  rw [dif_neg c4]
  exact (h5 r _).trans (congrArg₂ (fun (g : Fin 6) (l : Fin 128) => a g r l) (Fin.ext (by show 5 = j.val / 128; omega)) (Fin.ext (by show j.val - 128 - 128 - 128 - 128 - 128 = j.val % 128; omega)))

/-- The groups turned, side by side. -/
def turned (q : Fin 1024 → Fin 768 → EReal) (cT sT : Fin 1024 → Fin 128 → EReal) (r : Fin 1024) (j : Fin 768) : EReal :=
  turn (fun l => q r (groupAt ⟨j.val / 128, by omega⟩ l)) (cT r) (sT r) ⟨j.val % 128, by omega⟩
end turns

section whole
variable {v17 : FVec Ideal S1024x2560 .f32} {v19 v21 : FVec Ideal S1024x128 .f32} {v24 : FVec Ideal S1024x768 .f32} {q : Fin 1024 → Fin 768 → EReal} {cT sT : Fin 1024 → Fin 128 → EReal}
abbrev n64 : BitVec 32 := Scalar.select (Scalar.cmpi .eq 64#32 0#32) 1#32 64#32
abbrev maskV := k0_pay16 n64 k0_pay13 k0_pay14 k0_pay15

theorem pay17_at (hc : ∀ r l, v19 (ix2 r l) = cT r l) (hs : ∀ r l, v21 (ix2 r l) = sT r l) (hq : ∀ r j, v24 (ix2 r j) = q r j) (r : Fin 1024) (l : Fin 128) :
    (k0_pay17 (F := Ideal) v19 v21 v24 n64 k0_pay13 k0_pay14 k0_pay15) (ix2 r l) = turn (fun l => q r (groupAt 0 l)) (cT r) (sT r) l := by
  unfold k0_pay17
  exact turn_at maskQ hc hs (slice0 hq) r l

theorem pay18_at (hc : ∀ r l, v19 (ix2 r l) = cT r l) (hs : ∀ r l, v21 (ix2 r l) = sT r l) (hq : ∀ r j, v24 (ix2 r j) = q r j) (r : Fin 1024) (l : Fin 128) :
    (k0_pay18 (F := Ideal) v19 v21 v24 n64 k0_pay13 k0_pay14 k0_pay15) (ix2 r l) = turn (fun l => q r (groupAt 1 l)) (cT r) (sT r) l := by
  unfold k0_pay18
  exact turn_at maskQ hc hs (slice1 hq) r l

theorem pay19_at (hc : ∀ r l, v19 (ix2 r l) = cT r l) (hs : ∀ r l, v21 (ix2 r l) = sT r l) (hq : ∀ r j, v24 (ix2 r j) = q r j) (r : Fin 1024) (l : Fin 128) :
    (k0_pay19 (F := Ideal) v19 v21 v24 n64 k0_pay13 k0_pay14 k0_pay15) (ix2 r l) = turn (fun l => q r (groupAt 2 l)) (cT r) (sT r) l := by
  unfold k0_pay19
  exact turn_at maskQ hc hs (slice2 hq) r l

theorem pay20_at (hc : ∀ r l, v19 (ix2 r l) = cT r l) (hs : ∀ r l, v21 (ix2 r l) = sT r l) (hq : ∀ r j, v24 (ix2 r j) = q r j) (r : Fin 1024) (l : Fin 128) :
    (k0_pay20 (F := Ideal) v19 v21 v24 n64 k0_pay13 k0_pay14 k0_pay15) (ix2 r l) = turn (fun l => q r (groupAt 3 l)) (cT r) (sT r) l := by
  unfold k0_pay20
  exact turn_at maskQ hc hs (slice3 hq) r l

theorem pay21_at (hc : ∀ r l, v19 (ix2 r l) = cT r l) (hs : ∀ r l, v21 (ix2 r l) = sT r l) (hq : ∀ r j, v24 (ix2 r j) = q r j) (r : Fin 1024) (j : Fin 768) :
    (k0_pay21 (F := Ideal) v19 v21 v24 maskV (k0_pay17 v19 v21 v24 n64 k0_pay13 k0_pay14 k0_pay15) (k0_pay18 v19 v21 v24 n64 k0_pay13 k0_pay14 k0_pay15) (k0_pay19 v19 v21 v24 n64 k0_pay13 k0_pay14 k0_pay15) (k0_pay20 v19 v21 v24 n64 k0_pay13 k0_pay14 k0_pay15)) (ix2 r j) = turned q cT sT r j := by
  unfold k0_pay21
  exact cat_at (a := fun g r l => turn (fun l => q r (groupAt g l)) (cT r) (sT r) l) (pay17_at hc hs hq) (pay18_at hc hs hq) (pay19_at hc hs hq) (pay20_at hc hs hq)
    (turn_at maskQ hc hs (slice4 hq)) (turn_at maskQ hc hs (slice5 hq)) r j

theorem pay22_at (hc : ∀ r l, v19 (ix2 r l) = cT r l) (hs : ∀ r l, v21 (ix2 r l) = sT r l) (hq : ∀ r j, v24 (ix2 r j) = q r j) (r : Fin 1024) (l : Fin 128) :
    (k0_pay22 (F := Ideal) v19 v21 v24 maskV (k0_pay17 v19 v21 v24 n64 k0_pay13 k0_pay14 k0_pay15) (k0_pay18 v19 v21 v24 n64 k0_pay13 k0_pay14 k0_pay15) (k0_pay19 v19 v21 v24 n64 k0_pay13 k0_pay14 k0_pay15) (k0_pay20 v19 v21 v24 n64 k0_pay13 k0_pay14 k0_pay15)) (ix3 0 r l) = turned q cT sT r (groupAt 0 l) := by
  unfold k0_pay22
  exact store0 (pay21_at hc hs hq) r l

theorem pay23_at (hc : ∀ r l, v19 (ix2 r l) = cT r l) (hs : ∀ r l, v21 (ix2 r l) = sT r l) (hq : ∀ r j, v24 (ix2 r j) = q r j) (r : Fin 1024) (l : Fin 128) :
    (k0_pay23 (F := Ideal) v19 v21 v24 maskV (k0_pay17 v19 v21 v24 n64 k0_pay13 k0_pay14 k0_pay15) (k0_pay18 v19 v21 v24 n64 k0_pay13 k0_pay14 k0_pay15) (k0_pay19 v19 v21 v24 n64 k0_pay13 k0_pay14 k0_pay15) (k0_pay20 v19 v21 v24 n64 k0_pay13 k0_pay14 k0_pay15)) (ix3 0 r l) = turned q cT sT r (groupAt 1 l) := by
  unfold k0_pay23
  exact store1 (pay21_at hc hs hq) r l

theorem pay24_at (hc : ∀ r l, v19 (ix2 r l) = cT r l) (hs : ∀ r l, v21 (ix2 r l) = sT r l) (hq : ∀ r j, v24 (ix2 r j) = q r j) (r : Fin 1024) (l : Fin 128) :
    (k0_pay24 (F := Ideal) v19 v21 v24 maskV (k0_pay17 v19 v21 v24 n64 k0_pay13 k0_pay14 k0_pay15) (k0_pay18 v19 v21 v24 n64 k0_pay13 k0_pay14 k0_pay15) (k0_pay19 v19 v21 v24 n64 k0_pay13 k0_pay14 k0_pay15) (k0_pay20 v19 v21 v24 n64 k0_pay13 k0_pay14 k0_pay15)) (ix3 0 r l) = turned q cT sT r (groupAt 2 l) := by
  unfold k0_pay24
  exact store2 (pay21_at hc hs hq) r l

theorem pay25_at (hc : ∀ r l, v19 (ix2 r l) = cT r l) (hs : ∀ r l, v21 (ix2 r l) = sT r l) (hq : ∀ r j, v24 (ix2 r j) = q r j) (r : Fin 1024) (l : Fin 128) :
    (k0_pay25 (F := Ideal) v19 v21 v24 maskV (k0_pay17 v19 v21 v24 n64 k0_pay13 k0_pay14 k0_pay15) (k0_pay18 v19 v21 v24 n64 k0_pay13 k0_pay14 k0_pay15) (k0_pay19 v19 v21 v24 n64 k0_pay13 k0_pay14 k0_pay15) (k0_pay20 v19 v21 v24 n64 k0_pay13 k0_pay14 k0_pay15)) (ix3 0 r l) = turned q cT sT r (groupAt 3 l) := by
  unfold k0_pay25
  exact store3 (pay21_at hc hs hq) r l

theorem pay32_at (hc : ∀ r l, v19 (ix2 r l) = cT r l) (hs : ∀ r l, v21 (ix2 r l) = sT r l) (hq : ∀ r j, (k0_pay28 (F := Ideal) v17) (ix2 r j) = q r j) (r : Fin 1024) (j : Fin 768) :
    (k0_pay32 (F := Ideal) v19 v21 (k0_pay28 v17) k0_pay29 (k0_pay30 v17 v19 v21) (k0_pay31 v17) 96#32) (ix2 r j) = turned q cT sT r j := by
  unfold k0_pay32 k0_pay31 k0_pay30
  exact cat_at (a := fun g r l => turn (fun l => q r (groupAt g l)) (cT r) (sT r) l) (turn_at maskK hc hs (slice0 hq)) (turn_at maskK hc hs (slice1 hq)) (turn_at maskK hc hs (slice2 hq))
    (turn_at maskK hc hs (slice3 hq)) (turn_at maskK hc hs (slice4 hq)) (turn_at maskK hc hs (slice5 hq)) r j

theorem pay34_at (hc : ∀ r l, v19 (ix2 r l) = cT r l) (hs : ∀ r l, v21 (ix2 r l) = sT r l) (hq : ∀ r j, (k0_pay28 (F := Ideal) v17) (ix2 r j) = q r j) (r : Fin 1024) (l : Fin 128) :
    (k0_pay34 (F := Ideal) (k0_pay33 v19 v21 (k0_pay28 v17) k0_pay29 (k0_pay30 v17 v19 v21) (k0_pay31 v17) 96#32)) (ix3 0 r l) = turned q cT sT r (groupAt 0 l) := by
  unfold k0_pay34 k0_pay33
  exact store0 (pay32_at hc hs hq) r l

theorem pay1_at (hq : ∀ r j, (k0_pay40 (F := Ideal) v17) (ix2 r j) = q r j) (r : Fin 1024) (l : Fin 128) :
    (k0_pay1 (F := Ideal) (k0_pay41 v17)) (ix3 0 r l) = q r (groupAt 0 l) := by
  unfold k0_pay1 k0_pay41
  exact store0 hq r l
end whole

section stores
variable {z : FVec Ideal S1024x768 .f32} {q : Fin 1024 → Fin 768 → EReal} (h : ∀ r j, z (ix2 r j) = q r j) (r : Fin 1024) (l : Fin 128)
include h
theorem pay26_at : (k0_pay26 (F := Ideal) z) (ix3 0 r l) = q r (groupAt 4 l) := by
  unfold k0_pay26
  exact store4 h r l
theorem pay27_at : (k0_pay27 (F := Ideal) z) (ix3 0 r l) = q r (groupAt 5 l) := by
  unfold k0_pay27
  exact store5 h r l
theorem pay35_at : (k0_pay35 (F := Ideal) z) (ix3 0 r l) = q r (groupAt 1 l) := by
  unfold k0_pay35
  exact store1 h r l
theorem pay36_at : (k0_pay36 (F := Ideal) z) (ix3 0 r l) = q r (groupAt 2 l) := by
  unfold k0_pay36
  exact store2 h r l
theorem pay37_at : (k0_pay37 (F := Ideal) z) (ix3 0 r l) = q r (groupAt 3 l) := by
  unfold k0_pay37
  exact store3 h r l
theorem pay38_at : (k0_pay38 (F := Ideal) z) (ix3 0 r l) = q r (groupAt 4 l) := by
  unfold k0_pay38
  exact store4 h r l
theorem pay39_at : (k0_pay39 (F := Ideal) z) (ix3 0 r l) = q r (groupAt 5 l) := by
  unfold k0_pay39
  exact store5 h r l
theorem pay2_at : (k0_pay2 (F := Ideal) z) (ix3 0 r l) = q r (groupAt 1 l) := by
  unfold k0_pay2
  exact store1 h r l
theorem pay3_at : (k0_pay3 (F := Ideal) z) (ix3 0 r l) = q r (groupAt 2 l) := by
  unfold k0_pay3
  exact store2 h r l
theorem pay4_at : (k0_pay4 (F := Ideal) z) (ix3 0 r l) = q r (groupAt 3 l) := by
  unfold k0_pay4
  exact store3 h r l
theorem pay5_at : (k0_pay5 (F := Ideal) z) (ix3 0 r l) = q r (groupAt 4 l) := by
  unfold k0_pay5
  exact store4 h r l
theorem pay6_at : (k0_pay6 (F := Ideal) z) (ix3 0 r l) = q r (groupAt 5 l) := by
  unfold k0_pay6
  exact store5 h r l
end stores

/-! ## The turn is the rotary embedding -/

/-- The rotary embedding of a row of heads of 64 lanes: the two halves of a head turned by the angle of their lane. -/
def ropeE (q : Fin 768 → EReal) (c s : Fin 32 → EReal) (n : Fin 768) : EReal :=
  if h : n.val % 64 < 32 then q n * c ⟨n.val % 32, by omega⟩ - q ⟨n.val + 32, by omega⟩ * s ⟨n.val % 32, by omega⟩
  else q n * c ⟨n.val % 32, by omega⟩ + q ⟨n.val - 32, by omega⟩ * s ⟨n.val % 32, by omega⟩

/-- A head's lane among the lanes of all the heads, and the two halves of a head. -/
def headAt (h : Fin 12) (d : Fin 64) : Fin 768 := ⟨64 * h.val + d.val, by omega⟩
def lowAt (d : Fin 32) : Fin 64 := ⟨d.val, by omega⟩
def highAt (d : Fin 32) : Fin 64 := ⟨32 + d.val, by omega⟩

theorem rope_low (q : Fin 768 → EReal) (c s : Fin 32 → EReal) (b : Fin 12) (d : Fin 32) :
    ropeE q c s (headAt b (lowAt d)) = q (headAt b (lowAt d)) * c d - q (headAt b (highAt d)) * s d := by
  have h : (headAt b (lowAt d)).val % 64 < 32 := by show (64 * b.val + d.val) % 64 < 32; omega
  unfold ropeE
  rw [dif_pos h]
  have e : (⟨(headAt b (lowAt d)).val % 32, by omega⟩ : Fin 32) = d := Fin.ext (by show (64 * b.val + d.val) % 32 = d.val; omega)
  have e' : ∀ h, (⟨(headAt b (lowAt d)).val + 32, h⟩ : Fin 768) = headAt b (highAt d) := fun _ => Fin.ext (by show 64 * b.val + d.val + 32 = 64 * b.val + (32 + d.val); omega)
  rw [e, e']

theorem rope_high (q : Fin 768 → EReal) (c s : Fin 32 → EReal) (b : Fin 12) (d : Fin 32) :
    ropeE q c s (headAt b (highAt d)) = q (headAt b (highAt d)) * c d + q (headAt b (lowAt d)) * s d := by
  have h : ¬(headAt b (highAt d)).val % 64 < 32 := by show ¬(64 * b.val + (32 + d.val)) % 64 < 32; omega
  unfold ropeE
  rw [dif_neg h]
  have e : (⟨(headAt b (highAt d)).val % 32, by omega⟩ : Fin 32) = d := Fin.ext (by show (64 * b.val + (32 + d.val)) % 32 = d.val; omega)
  have e' : ∀ h, (⟨(headAt b (highAt d)).val - 32, h⟩ : Fin 768) = headAt b (lowAt d) := fun _ => Fin.ext (by show 64 * b.val + (32 + d.val) - 32 = 64 * b.val + d.val; omega)
  rw [e, e']

/-- The rotary angles: a token's number times the frequency of its lane. -/
def tokE (i : Fin 8192) : EReal := (((BitVec.ofNat 32 i.val).toInt : ℝ) : EReal)
def laneE (d : Fin 32) : EReal := (((BitVec.ofNat 32 d.val).toInt : ℝ) : EReal)
def freqE (d : Fin 32) : EReal := Ideal.pow (Ideal.ofBits .f32 0x461C4000#32) (-laneE d * Ideal.ofBits .f32 0x3D000000#32)
def cosR (i : Fin 8192) (d : Fin 32) : EReal := Ideal.cos (tokE i * freqE d)
def sinR (i : Fin 8192) (d : Fin 32) : EReal := Ideal.sin (tokE i * freqE d)

/-- The normalised rows times w_in, and its four parts. -/
def pj (X : Fin 8192 → Fin 1024 → EReal) (G : Fin 1024 → EReal) (W : Fin 2560 → Fin 1024 → EReal) (i : Fin 8192) (n : Fin 2560) : EReal := ∑ k, normE (X i) G k * W n k
def uOf (X : Fin 8192 → Fin 1024 → EReal) (G : Fin 1024 → EReal) (W : Fin 2560 → Fin 1024 → EReal) (i : Fin 8192) (n : Fin 256) : EReal := pj X G W i ⟨n.val, by omega⟩
def qOf (X : Fin 8192 → Fin 1024 → EReal) (G : Fin 1024 → EReal) (W : Fin 2560 → Fin 1024 → EReal) (i : Fin 8192) (n : Fin 768) : EReal := pj X G W i ⟨256 + n.val, by omega⟩
def kOf (X : Fin 8192 → Fin 1024 → EReal) (G : Fin 1024 → EReal) (W : Fin 2560 → Fin 1024 → EReal) (i : Fin 8192) (n : Fin 768) : EReal := pj X G W i ⟨1024 + n.val, by omega⟩
def vOf (X : Fin 8192 → Fin 1024 → EReal) (G : Fin 1024 → EReal) (W : Fin 2560 → Fin 1024 → EReal) (i : Fin 8192) (n : Fin 768) : EReal := pj X G W i ⟨1792 + n.val, by omega⟩

/-- The sign of the sine at a lane. -/
def signE (l : Fin 128) : EReal := if l.val % 64 < 32 then -Ideal.ofBits .f32 0x3F800000#32 else Ideal.ofBits .f32 0x3F800000#32

theorem one_e : Ideal.ofBits .f32 0x3F800000#32 = (1 : EReal) := ofBits_one.trans EReal.coe_one

theorem turned_rope (q : Fin 1024 → Fin 768 → EReal) (cT sT : Fin 1024 → Fin 128 → EReal) (c s : Fin 32 → EReal) (r : Fin 1024) (n : Fin 768)
    (hc : ∀ l : Fin 128, cT r l = c ⟨l.val % 32, by omega⟩) (hs : ∀ l : Fin 128, sT r l = s ⟨l.val % 32, by omega⟩ * signE l) : turned q cT sT r n = ropeE (q r) c s n := by
  unfold turned turn
  rw [hc, hs]
  unfold ropeE signE
  have e0 : groupAt ⟨n.val / 128, by omega⟩ ⟨n.val % 128, by omega⟩ = n := Fin.ext (by show 128 * (n.val / 128) + n.val % 128 = n.val; omega)
  have ec : c ⟨n.val % 128 % 32, by omega⟩ = c ⟨n.val % 32, by omega⟩ := congrArg c (Fin.ext (by show n.val % 128 % 32 = n.val % 32; omega))
  have es : s ⟨n.val % 128 % 32, by omega⟩ = s ⟨n.val % 32, by omega⟩ := congrArg s (Fin.ext (by show n.val % 128 % 32 = n.val % 32; omega))
  by_cases h : n.val % 64 < 32
  · have h' : n.val % 128 % 64 < 32 := by omega
    rw [dif_pos h, if_pos h', if_pos h']
    show q r (groupAt ⟨n.val / 128, by omega⟩ ⟨n.val % 128, by omega⟩) * _ + q r (groupAt ⟨n.val / 128, by omega⟩ ⟨(n.val % 128 + 32) % 128, by omega⟩) * _ = _
    rw [e0]
    have e1 : groupAt ⟨n.val / 128, by omega⟩ ⟨(n.val % 128 + 32) % 128, by omega⟩ = ⟨n.val + 32, by omega⟩ := Fin.ext (by show 128 * (n.val / 128) + (n.val % 128 + 32) % 128 = n.val + 32; omega)
    rw [e1]
    refine (congrArg₂ (fun a b : EReal => q r n * a + q r ⟨n.val + 32, by omega⟩ * (b * -Ideal.ofBits .f32 0x3F800000#32)) ec es).trans ?_
    rw [one_e, mul_neg, mul_one, mul_neg, sub_eq_add_neg]
  · have h' : ¬ n.val % 128 % 64 < 32 := by omega
    rw [dif_neg h, if_neg h', if_neg h']
    show q r (groupAt ⟨n.val / 128, by omega⟩ ⟨n.val % 128, by omega⟩) * _ + q r (groupAt ⟨n.val / 128, by omega⟩ ⟨(n.val % 128 + 96) % 128, by omega⟩) * _ = _
    rw [e0]
    have e1 : groupAt ⟨n.val / 128, by omega⟩ ⟨(n.val % 128 + 96) % 128, by omega⟩ = ⟨n.val - 32, by omega⟩ := Fin.ext (by show 128 * (n.val / 128) + (n.val % 128 + 96) % 128 = n.val - 32; omega)
    rw [e1]
    refine (congrArg₂ (fun a b : EReal => q r n * a + q r ⟨n.val - 32, by omega⟩ * (b * Ideal.ofBits .f32 0x3F800000#32)) ec es).trans ?_
    rw [one_e, mul_one]

end Cert.ProjFIdeal.Fwd
end
-- ==== Proof.ProjFwd.lean ====
module
public import proofs.«01_k».proof.Proof.ProjTurn
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.ProjFIdeal.Fwd
open Cert.ProjFIdeal Cert.ProjFIdeal.Gen Cert.FfnMath Cert.NormMath

/-! # The product with w_in: from blocks of tokens to the arrays -/

variable (m : (ℓ : Loc nD τ sig) → Buf (Elt Ideal) ℓ) (c : Dev nD)

theorem row_lt (t : Fin cfg0.N) (r : Fin 1024) : t.val * 1024 + r.val < 8192 := by
  have := lt_of_lt_of_eq t.isLt (show cfg0.N = 8 from N_0)
  omega

/-- The token a block's row holds. -/
def row (t : Fin cfg0.N) (r : Fin 1024) : Fin 8192 := ⟨t.val * 1024 + r.val, row_lt t r⟩

theorem row_sum (t : Fin cfg0.N) (h : t.val % 8 = 8 - 1) (s : Fin 8) (k : Fin 1024) (hl : s.val * 1024 + k.val < 8192)
    (hs : 8 * (t.val / 8) + s.val < cfg0.N) : row ⟨8 * (t.val / 8) + s.val, hs⟩ k = ⟨s.val * 1024 + k.val, hl⟩ := Fin.ext (by
  have := lt_of_lt_of_eq t.isLt (show cfg0.N = 8 from N_0)
  show (8 * (t.val / 8) + s.val) * 1024 + k.val = s.val * 1024 + k.val
  omega)
theorem index_0 : ∀ t : Fin cfg0.N, (cfg0.win 0).index t = ![t.val, 0] := by decide +kernel
abbrev matX : Fin 8192 → Fin 1024 → EReal := fun i j => (m ((c : Thread nD τ).loc main_arg0) : S8192x1024.Idx → EReal) (ix2 i j)
def blockX (t : Fin cfg0.N) : S1024x1024.Idx → EReal := iblk m c 0 t
theorem atX (t : Fin cfg0.N) (r : Fin 1024) (k : Fin 1024) : blockX m c t (ix2 r k) = matX m c (row t r) k := by
  unfold blockX
  have hk : (row t r).val = t.val * 1024 + r.val := rfl
  blk_ext [iblk, index_0 t, V_main_arg0]

theorem index_1 : ∀ t : Fin cfg0.N, (cfg0.win 1).index t = ![0, 0] := by decide +kernel
abbrev matG : Fin 1 → Fin 1024 → EReal := fun i j => (m ((c : Thread nD τ).loc main_arg1) : S1x1024.Idx → EReal) (ix2 i j)
def blockG (t : Fin cfg0.N) : S1x1024.Idx → EReal := iblk m c 1 t
theorem atG (t : Fin cfg0.N) (r : Fin 1) (k : Fin 1024) : blockG m c t (ix2 r k) = matG m c r k := by
  unfold blockG
  blk_ext [iblk, index_1 t, V_main_arg1]

theorem index_2 : ∀ t : Fin cfg0.N, (cfg0.win 2).index t = ![0, 0] := by decide +kernel
abbrev matW : Fin 2560 → Fin 1024 → EReal := fun i j => (m ((c : Thread nD τ).loc main_arg2) : S2560x1024.Idx → EReal) (ix2 i j)
def blockW (t : Fin cfg0.N) : S2560x1024.Idx → EReal := iblk m c 2 t
theorem atW (t : Fin cfg0.N) (r : Fin 2560) (k : Fin 1024) : blockW m c t (ix2 r k) = matW m c r k := by
  unfold blockW
  blk_ext [iblk, index_2 t, V_main_arg2]

theorem index_3 : ∀ t : Fin cfg0.N, (cfg0.win 3).index t = ![t.val, 0] := by decide +kernel
abbrev matC : Fin 8192 → Fin 128 → EReal := fun i j => (V (F := Ideal) m c main_v23 : S8192x128.Idx → EReal) (ix2 i j)
def blockC (t : Fin cfg0.N) : S1024x128.Idx → EReal := iblk m c 3 t
theorem atC (t : Fin cfg0.N) (r : Fin 1024) (k : Fin 128) : blockC m c t (ix2 r k) = matC m c (row t r) k := by
  unfold blockC
  have hk : (row t r).val = t.val * 1024 + r.val := rfl
  blk_ext [iblk, index_3 t]

theorem index_4 : ∀ t : Fin cfg0.N, (cfg0.win 4).index t = ![t.val, 0] := by decide +kernel
abbrev matS : Fin 8192 → Fin 128 → EReal := fun i j => (V (F := Ideal) m c main_v27 : S8192x128.Idx → EReal) (ix2 i j)
def blockS (t : Fin cfg0.N) : S1024x128.Idx → EReal := iblk m c 4 t
theorem atS (t : Fin cfg0.N) (r : Fin 1024) (k : Fin 128) : blockS m c t (ix2 r k) = matS m c (row t r) k := by
  unfold blockS
  have hk : (row t r).val = t.val * 1024 + r.val := rfl
  blk_ext [iblk, index_4 t]

theorem cos_table (i : Fin 8192) (l : Fin 128) : matC m c i l = cosR i ⟨l.val % 32, by omega⟩ := by
  show (V (F := Ideal) m c main_v23 : S8192x128.Idx → EReal) (ix2 i l) = _
  unfold_abbrev_sides
  after_results
  pointwise
  rfl

theorem sin_table (i : Fin 8192) (l : Fin 128) : matS m c i l = sinR i ⟨l.val % 32, by omega⟩ * signE l := by
  show (V (F := Ideal) m c main_v27 : S8192x128.Idx → EReal) (ix2 i l) = _
  unfold_abbrev_sides
  after_results
  pointwise
  refine congrArg (fun a : EReal => Ideal.sin (tokE i * freqE ⟨l.val % 32, by omega⟩) * a) ?_
  unfold signE
  rw [one_e]
  by_cases h : l.val % 64 < 32
  · rw [dif_pos h, if_pos h]
  · rw [dif_neg h, if_neg h]

abbrev gainG (j : Fin 1024) : EReal := matG m c 0 j
theorem index_5 : ∀ t : Fin cfg0.N, (cfg0.win 5).index t = ![t.val, 0] := by decide +kernel
theorem index_6 : ∀ t : Fin cfg0.N, (cfg0.win 6).index t = ![t.val, 0] := by decide +kernel
theorem index_7 : ∀ t : Fin cfg0.N, (cfg0.win 7).index t = ![0, t.val, 0] := by decide +kernel
theorem index_8 : ∀ t : Fin cfg0.N, (cfg0.win 8).index t = ![0, t.val, 0] := by decide +kernel
theorem index_9 : ∀ t : Fin cfg0.N, (cfg0.win 9).index t = ![0, t.val, 0] := by decide +kernel

abbrev resH (i : Fin 8192) (j : Fin 1024) : EReal := normE (matX m c i) (gainG m c) j
abbrev resU (i : Fin 8192) (j : Fin 256) : EReal := uOf (matX m c) (gainG m c) (matW m c) i j
abbrev resQ (g : Fin 6) (i : Fin 8192) (l : Fin 128) : EReal := ropeE (qOf (matX m c) (gainG m c) (matW m c) i) (cosR i) (sinR i) (groupAt g l)
abbrev resK (g : Fin 6) (i : Fin 8192) (l : Fin 128) : EReal := ropeE (kOf (matX m c) (gainG m c) (matW m c) i) (cosR i) (sinR i) (groupAt g l)
abbrev resV (g : Fin 6) (i : Fin 8192) (l : Fin 128) : EReal := vOf (matX m c) (gainG m c) (matW m c) i (groupAt g l)

theorem after_5 (t : Fin cfg0.N) (r : Fin 1024) (k : Fin 1024) : (dats m 0 c).after 5 t (ix2 r k) = resH m c (row t r) k := by
  rw [after0_5]
  unfold out0_5
  frame_out
  exact pay7_at (x := fun r k => matX m c (row t r) k) (atX m c t) (atG m c t 0) r k

theorem array_5 : (dats m 0 c).arrAt 5 cfg0.N = (fun i => resH m c (i 0) (i 1) : S8192x1024.Idx → EReal) := by
  refine Dat.arrAt_eq_of_covers (dats m 0 c) 5 _ (by decide +kernel) fun t hf y => ?_
  have e : (dats m 0 c).after 5 t y = resH m c (row t (y 0)) (y 1) :=
    (congrArg ((dats m 0 c).after 5 t) (ix2_eta y).symm).trans (after_5 m c t (y 0) (y 1))
  blk_simp
  rw [e]
  refine congrArg₂ (fun (a : Fin 8192) (b : Fin 1024) => resH m c a b) (Fin.ext ?_) (Fin.ext ?_) <;> blk_simp [index_5 t] <;> rfl

theorem after_6 (t : Fin cfg0.N) (r : Fin 1024) (k : Fin 256) : (dats m 0 c).after 6 t (ix2 r k) = resU m c (row t r) k := by
  rw [after0_6]
  unfold out0_6
  frame_out
  exact pay11_at (x := fun r k => matX m c (row t r) k) (w := matW m c) (atX m c t) (atG m c t 0) (atW m c t) r k

theorem array_6 : (dats m 0 c).arrAt 6 cfg0.N = (fun i => resU m c (i 0) (i 1) : S8192x256.Idx → EReal) := by
  refine Dat.arrAt_eq_of_covers (dats m 0 c) 6 _ (by decide +kernel) fun t hf y => ?_
  have e : (dats m 0 c).after 6 t y = resU m c (row t (y 0)) (y 1) :=
    (congrArg ((dats m 0 c).after 6 t) (ix2_eta y).symm).trans (after_6 m c t (y 0) (y 1))
  blk_simp
  rw [e]
  refine congrArg₂ (fun (a : Fin 8192) (b : Fin 256) => resU m c a b) (Fin.ext ?_) (Fin.ext ?_) <;> blk_simp [index_6 t] <;> rfl

theorem congr3 {α β γ δ : Type} (f : α → β → γ → δ) {a a' : α} {b b' : β} {d d' : γ} (h : a = a') (h' : b = b') (h'' : d = d') : f a b d = f a' b' d' := by rw [h, h', h'']

/-- A store of one group of lanes at an index of the block. -/
theorem piece {pay : S1x1024x128.Idx → EReal} (f : Fin 6 → Fin 1024 → Fin 128 → EReal) (p : Fin 6) (hp : ∀ r k, pay (ix3 0 r k) = f p r k) (g : Fin 6) (r : Fin 1024) (k : Fin 128)
    (x : S1x1024x128.Idx) (h0 : g.val = p.val + (x 0).val) (l0 : (x 0).val < 1) (h1 : r.val = (x 1).val) (h2 : k.val = (x 2).val) : pay x = f g r k := by
  have e : x = ix3 0 r k := funext fun a => match a with
    | ⟨0, _⟩ => Fin.ext (Nat.lt_one_iff.mp l0)
    | ⟨1, _⟩ => Fin.ext h1.symm
    | ⟨2, _⟩ => Fin.ext h2.symm
  obtain rfl : g = p := Fin.ext (by omega)
  rw [e, hp]

/-- The blocks of the tables, and the parts of the product of a block. -/
theorem tableC (t : Fin cfg0.N) (r : Fin 1024) (l : Fin 128) : (k0_pay9 (F := Ideal) (blockC m c t)) (ix2 r l) = matC m c (row t r) l := (pay9_at _).trans (atC m c t r l)
theorem tableS (t : Fin cfg0.N) (r : Fin 1024) (l : Fin 128) : (k0_pay10 (F := Ideal) (blockS m c t)) (ix2 r l) = matS m c (row t r) l := (pay10_at _).trans (atS m c t r l)
theorem partQ (t : Fin cfg0.N) (r : Fin 1024) (j : Fin 768) : (k0_pay12 (F := Ideal) (blockX m c t) (blockG m c t) (blockW m c t)) (ix2 r j) = qOf (matX m c) (gainG m c) (matW m c) (row t r) j :=
  pay12_at (x := fun r k => matX m c (row t r) k) (w := matW m c) (atX m c t) (atG m c t 0) (atW m c t) r j
theorem allP (t : Fin cfg0.N) (r : Fin 1024) (j : Fin 2560) : (k0_pay8 (F := Ideal) (blockX m c t) (blockG m c t) (blockW m c t)) (ix2 r j) = pj (matX m c) (gainG m c) (matW m c) (row t r) j :=
  pay8_at (x := fun r k => matX m c (row t r) k) (w := matW m c) (atX m c t) (atG m c t 0) (atW m c t) r j
theorem partK (t : Fin cfg0.N) (r : Fin 1024) (j : Fin 768) : (k0_pay28 (F := Ideal) (k0_pay8 (blockX m c t) (blockG m c t) (blockW m c t))) (ix2 r j) = kOf (matX m c) (gainG m c) (matW m c) (row t r) j :=
  pay28_at (allP m c t) r j
theorem partV (t : Fin cfg0.N) (r : Fin 1024) (j : Fin 768) : (k0_pay40 (F := Ideal) (k0_pay8 (blockX m c t) (blockG m c t) (blockW m c t))) (ix2 r j) = vOf (matX m c) (gainG m c) (matW m c) (row t r) j :=
  pay40_at (allP m c t) r j

theorem rope_row (q : Fin 8192 → Fin 768 → EReal) (t : Fin cfg0.N) (r : Fin 1024) (n : Fin 768) :
    turned (fun r => q (row t r)) (fun r => matC m c (row t r)) (fun r => matS m c (row t r)) r n = ropeE (q (row t r)) (cosR (row t r)) (sinR (row t r)) n :=
  turned_rope (fun r => q (row t r)) _ _ _ _ r n (cos_table m c (row t r)) (sin_table m c (row t r))

theorem after_7 (t : Fin cfg0.N) (g : Fin 6) (r : Fin 1024) (k : Fin 128) : (dats m 0 c).after 7 t (ix3 g r k) = resQ m c g (row t r) k := by
  rw [after0_7]
  unfold_out out0_7
  frame_out
  canon_tiles x h
  · exact piece (fun g r k => resQ m c g (row t r) k) 5 (fun r k => (pay27_at (pay21_at (tableC m c t) (tableS m c t) (partQ m c t)) r k).trans (rope_row m c (qOf (matX m c) (gainG m c) (matW m c)) t r _)) g r k x h0 x0_lt h1 h2
  · exact piece (fun g r k => resQ m c g (row t r) k) 4 (fun r k => (pay26_at (pay21_at (tableC m c t) (tableS m c t) (partQ m c t)) r k).trans (rope_row m c (qOf (matX m c) (gainG m c) (matW m c)) t r _)) g r k x h0 x0_lt h1 h2
  · exact piece (fun g r k => resQ m c g (row t r) k) 3 (fun r k => (pay25_at (tableC m c t) (tableS m c t) (partQ m c t) r k).trans (rope_row m c (qOf (matX m c) (gainG m c) (matW m c)) t r _)) g r k x h0 x0_lt h1 h2
  · exact piece (fun g r k => resQ m c g (row t r) k) 2 (fun r k => (pay24_at (tableC m c t) (tableS m c t) (partQ m c t) r k).trans (rope_row m c (qOf (matX m c) (gainG m c) (matW m c)) t r _)) g r k x h0 x0_lt h1 h2
  · exact piece (fun g r k => resQ m c g (row t r) k) 1 (fun r k => (pay23_at (tableC m c t) (tableS m c t) (partQ m c t) r k).trans (rope_row m c (qOf (matX m c) (gainG m c) (matW m c)) t r _)) g r k x h0 x0_lt h1 h2
  · exact piece (fun g r k => resQ m c g (row t r) k) 0 (fun r k => (pay22_at (tableC m c t) (tableS m c t) (partQ m c t) r k).trans (rope_row m c (qOf (matX m c) (gainG m c) (matW m c)) t r _)) g r k x (h0.trans (Nat.zero_add _).symm) x0_lt h1 h2

theorem array_7 : (dats m 0 c).arrAt 7 cfg0.N = (fun i => resQ m c (i 0) (i 1) (i 2) : S6x8192x128.Idx → EReal) := by
  refine Dat.arrAt_eq_of_covers (dats m 0 c) 7 _ (by decide +kernel) fun t hf y => ?_
  have e : (dats m 0 c).after 7 t y = resQ m c (y 0) (row t (y 1)) (y 2) :=
    (congrArg ((dats m 0 c).after 7 t) (ix3_eta y).symm).trans (after_7 m c t (y 0) (y 1) (y 2))
  blk_simp
  rw [e]
  refine congr3 (resQ m c) (Fin.ext ?_) (Fin.ext ?_) (Fin.ext ?_) <;> blk_simp [index_7 t] <;> rfl

theorem after_8 (t : Fin cfg0.N) (g : Fin 6) (r : Fin 1024) (k : Fin 128) : (dats m 0 c).after 8 t (ix3 g r k) = resK m c g (row t r) k := by
  rw [after0_8]
  unfold_out out0_8
  frame_out
  canon_tiles x h
  · exact piece (fun g r k => resK m c g (row t r) k) 5 (fun r k => (pay39_at (pay32_at (tableC m c t) (tableS m c t) (partK m c t)) r k).trans (rope_row m c (kOf (matX m c) (gainG m c) (matW m c)) t r _)) g r k x h0 x0_lt h1 h2
  · exact piece (fun g r k => resK m c g (row t r) k) 4 (fun r k => (pay38_at (pay32_at (tableC m c t) (tableS m c t) (partK m c t)) r k).trans (rope_row m c (kOf (matX m c) (gainG m c) (matW m c)) t r _)) g r k x h0 x0_lt h1 h2
  · exact piece (fun g r k => resK m c g (row t r) k) 3 (fun r k => (pay37_at (pay32_at (tableC m c t) (tableS m c t) (partK m c t)) r k).trans (rope_row m c (kOf (matX m c) (gainG m c) (matW m c)) t r _)) g r k x h0 x0_lt h1 h2
  · exact piece (fun g r k => resK m c g (row t r) k) 2 (fun r k => (pay36_at (pay32_at (tableC m c t) (tableS m c t) (partK m c t)) r k).trans (rope_row m c (kOf (matX m c) (gainG m c) (matW m c)) t r _)) g r k x h0 x0_lt h1 h2
  · exact piece (fun g r k => resK m c g (row t r) k) 1 (fun r k => (pay35_at (pay32_at (tableC m c t) (tableS m c t) (partK m c t)) r k).trans (rope_row m c (kOf (matX m c) (gainG m c) (matW m c)) t r _)) g r k x h0 x0_lt h1 h2
  · exact piece (fun g r k => resK m c g (row t r) k) 0 (fun r k => (pay34_at (tableC m c t) (tableS m c t) (partK m c t) r k).trans (rope_row m c (kOf (matX m c) (gainG m c) (matW m c)) t r _)) g r k x (h0.trans (Nat.zero_add _).symm) x0_lt h1 h2

theorem array_8 : (dats m 0 c).arrAt 8 cfg0.N = (fun i => resK m c (i 0) (i 1) (i 2) : S6x8192x128.Idx → EReal) := by
  refine Dat.arrAt_eq_of_covers (dats m 0 c) 8 _ (by decide +kernel) fun t hf y => ?_
  have e : (dats m 0 c).after 8 t y = resK m c (y 0) (row t (y 1)) (y 2) :=
    (congrArg ((dats m 0 c).after 8 t) (ix3_eta y).symm).trans (after_8 m c t (y 0) (y 1) (y 2))
  blk_simp
  rw [e]
  refine congr3 (resK m c) (Fin.ext ?_) (Fin.ext ?_) (Fin.ext ?_) <;> blk_simp [index_8 t] <;> rfl

theorem after_9 (t : Fin cfg0.N) (g : Fin 6) (r : Fin 1024) (k : Fin 128) : (dats m 0 c).after 9 t (ix3 g r k) = resV m c g (row t r) k := by
  rw [after0_9]
  unfold_out out0_9
  frame_out
  canon_tiles x h
  · exact piece (fun g r k => resV m c g (row t r) k) 5 (fun r k => pay6_at (partV m c t) r k) g r k x h0 x0_lt h1 h2
  · exact piece (fun g r k => resV m c g (row t r) k) 4 (fun r k => pay5_at (partV m c t) r k) g r k x h0 x0_lt h1 h2
  · exact piece (fun g r k => resV m c g (row t r) k) 3 (fun r k => pay4_at (partV m c t) r k) g r k x h0 x0_lt h1 h2
  · exact piece (fun g r k => resV m c g (row t r) k) 2 (fun r k => pay3_at (partV m c t) r k) g r k x h0 x0_lt h1 h2
  · exact piece (fun g r k => resV m c g (row t r) k) 1 (fun r k => pay2_at (partV m c t) r k) g r k x h0 x0_lt h1 h2
  · exact piece (fun g r k => resV m c g (row t r) k) 0 (fun r k => pay1_at (partV m c t) r k) g r k x (h0.trans (Nat.zero_add _).symm) x0_lt h1 h2

theorem array_9 : (dats m 0 c).arrAt 9 cfg0.N = (fun i => resV m c (i 0) (i 1) (i 2) : S6x8192x128.Idx → EReal) := by
  refine Dat.arrAt_eq_of_covers (dats m 0 c) 9 _ (by decide +kernel) fun t hf y => ?_
  have e : (dats m 0 c).after 9 t y = resV m c (y 0) (row t (y 1)) (y 2) :=
    (congrArg ((dats m 0 c).after 9 t) (ix3_eta y).symm).trans (after_9 m c t (y 0) (y 1) (y 2))
  blk_simp
  rw [e]
  refine congr3 (resV m c) (Fin.ext ?_) (Fin.ext ?_) (Fin.ext ?_) <;> blk_simp [index_9 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v28_0) = (fun i => resH m c (i 0) (i 1) : S8192x1024.Idx → EReal)
      ∧ r.2.mem ((c : Thread nD τ).loc main_v28_1) = (fun i => resU m c (i 0) (i 1) : S8192x256.Idx → EReal)
      ∧ r.2.mem ((c : Thread nD τ).loc main_v28_2) = (fun i => resQ m c (i 0) (i 1) (i 2) : S6x8192x128.Idx → EReal)
      ∧ r.2.mem ((c : Thread nD τ).loc main_v28_3) = (fun i => resK m c (i 0) (i 1) (i 2) : S6x8192x128.Idx → EReal)
      ∧ r.2.mem ((c : Thread nD τ).loc main_v28_4) = (fun i => resV m c (i 0) (i 1) (i 2) : S6x8192x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => by
    obtain ⟨h5, h6, h7, h8, h9, hr⟩ := h c
    exact ⟨h5.trans (array_5 m c), h6.trans (array_6 m c), h7.trans (array_7 m c), h8.trans (array_8 m c), h9.trans (array_9 m c), hr⟩) (Value.run_blocks (F := Ideal) m ρ)

end Cert.ProjFIdeal.Fwd
end
-- ==== Proof.ProjFwdRef.lean ====
module
public import proofs.«01_k».proof.Proof.Gen.RProjFIdeal.Read
public import proofs.«01_k».proof.Proof.ProjTurn
public import Idealize.ShloMosaic.Lib.Pointwise
@[expose] public section
set_option maxRecDepth 16384
noncomputable section
open Idealize.ShloMosaic Idealize.ShloMosaic.TcCoe Idealize.SL.Sem
namespace Cert.RProjFIdeal.Whole
open Cert.RProjFIdeal Cert.RProjFIdeal.Gen Cert.RProjFIdeal.Read Cert.FfnMath Cert.NormMath Cert.ProjFIdeal.Fwd

/-! # The reference of the product with w_in -/

structure Data where
  X : Fin 8192 → Fin 1024 → EReal
  G : Fin 1024 → EReal
  W : Fin 2560 → Fin 1024 → EReal

section halves
open Idealize.ShloMosaic.Tactic
variable (x y : FVec Ideal S8192x12x32 .f32) (a : Fin 8192) (b : Fin 12) (d : Fin 32)
theorem low_half : concatenate S8192x12x64 2 [⟨S8192x12x32, x⟩, ⟨S8192x12x32, y⟩] concatenates_S8192x12x32_S8192x12x32_S8192x12x64_d2 (ix3 a b (lowAt d)) = x (ix3 a b d) := by
  pointwise
  have h : (lowAt d).val < 32 := d.isLt
  rw [dif_pos h]
  rfl
theorem high_half : concatenate S8192x12x64 2 [⟨S8192x12x32, x⟩, ⟨S8192x12x32, y⟩] concatenates_S8192x12x32_S8192x12x32_S8192x12x64_d2 (ix3 a b (highAt d)) = y (ix3 a b d) := by
  pointwise
  have h : ¬(highAt d).val < 32 := by show ¬(32 + d.val < 32); omega
  rw [dif_neg h]
  exact congrArg y (congrArg (ix3 a b) (Fin.ext (by show 32 + d.val - 32 = d.val; omega)))
end halves

variable (D : Cert.RProjFIdeal.Whole.Data)
def c0 : S8192x1024.Idx → EReal := fun i => D.X (i 0) (i 1)
def c1 : S1x1024.Idx → EReal := fun i => D.G (i 1)
def c2 : S2560x1024.Idx → EReal := fun i => D.W (i 0) (i 1)

theorem r_v0 (i : S8192x1024.Idx) : val_main_v0 (F := Ideal) (c0 D) i = (D.X (i 0) (i 1) * D.X (i 0) (i 1) : EReal) :=
  (val_main_v0_apply _ i).trans (mul_e (rfl : c0 D i = _) (rfl : c0 D i = _))
include D in
theorem r_cst (i : S_.Idx) : val_main_cst (F := Ideal)  i = (0 : EReal) :=
  (val_main_cst_apply i).trans zero_e
theorem r_v1 (i : S8192.Idx) : val_main_v1 (F := Ideal) (c0 D) i = (∑ k, D.X (i 0) k * D.X (i 0) k : EReal) :=
  (val_main_v1_apply _ i).trans (sum_e (r_cst D _) fun k => r_v0 D _)
theorem r_v2 (i : S8192x1.Idx) : val_main_v2 (F := Ideal) (c0 D) i = (∑ k, D.X (i 0) k * D.X (i 0) k : EReal) :=
  (val_main_v2_apply _ i).trans (r_v1 D _)
include D in
theorem r_cst_0 (i : S_.Idx) : val_main_cst_0 (F := Ideal)  i = (Ideal.ofBits .f32 0x44800000#32 : EReal) :=
  (val_main_cst_0_apply i).trans rfl
include D in
theorem r_v3 (i : S8192x1.Idx) : val_main_v3 (F := Ideal)  i = (Ideal.ofBits .f32 0x44800000#32 : EReal) :=
  (val_main_v3_apply i).trans (r_cst_0 D _)
theorem r_v4 (i : S8192x1.Idx) : val_main_v4 (F := Ideal) (c0 D) i = (Ideal.div (∑ k, D.X (i 0) k * D.X (i 0) k) (Ideal.ofBits .f32 0x44800000#32) : EReal) :=
  (val_main_v4_apply _ i).trans (div_e (r_v2 D i) (r_v3 D i))
include D in
theorem r_cst_1 (i : S_.Idx) : val_main_cst_1 (F := Ideal)  i = (Ideal.ofBits .f32 0x358637BD#32 : EReal) :=
  (val_main_cst_1_apply i).trans rfl
include D in
theorem r_v5 (i : S8192x1.Idx) : val_main_v5 (F := Ideal)  i = (Ideal.ofBits .f32 0x358637BD#32 : EReal) :=
  (val_main_v5_apply i).trans (r_cst_1 D _)
theorem r_v6 (i : S8192x1.Idx) : val_main_v6 (F := Ideal) (c0 D) i = (msE (D.X (i 0)) : EReal) :=
  (val_main_v6_apply _ i).trans (add_e (r_v4 D i) (r_v5 D i))
theorem r_v7 (i : S8192x1.Idx) : val_main_v7 (F := Ideal) (c0 D) i = (rE (D.X (i 0)) : EReal) :=
  (val_main_v7_apply _ i).trans (rsqrt_e (r_v6 D i))
theorem r_v8 (i : S8192x1024.Idx) : val_main_v8 (F := Ideal) (c0 D) i = (rE (D.X (i 0)) : EReal) :=
  (val_main_v8_apply _ i).trans (r_v7 D _)
theorem r_v9 (i : S8192x1024.Idx) : val_main_v9 (F := Ideal) (c0 D) i = (D.X (i 0) (i 1) * rE (D.X (i 0)) : EReal) :=
  (val_main_v9_apply _ i).trans (mul_e (rfl : c0 D i = _) (r_v8 D i))
theorem r_v10 (i : S8192x1024.Idx) : val_main_v10 (F := Ideal) (c1 D) i = (D.G (i 1) : EReal) :=
  (val_main_v10_apply _ i).trans rfl
theorem r_v11 (i : S8192x1024.Idx) : val_main_v11 (F := Ideal) (c0 D) (c1 D) i = (normE (D.X (i 0)) D.G (i 1) : EReal) :=
  (val_main_v11_apply _ _ i).trans (mul_e (r_v9 D i) (r_v10 D i))
theorem r_v12 (i : S1024x2560.Idx) : val_main_v12 (F := Ideal) (c2 D) i = (D.W (i 1) (i 0) : EReal) :=
  (val_main_v12_apply _ i).trans rfl
theorem r_v13 (i : S1024x2560.Idx) : val_main_v13 (F := Ideal) (c2 D) i = (D.W (i 1) (i 0) : EReal) :=
  (val_main_v13_apply _ i).trans (r_v12 D _)
theorem r_v14 (i : S8192x2560.Idx) : val_main_v14 (F := Ideal) (c0 D) (c1 D) (c2 D) i = (pj D.X D.G D.W (i 0) (i 1) : EReal) :=
  (val_main_v14_apply _ _ _ i).trans (dot_e (fun k => r_v11 D _) (fun k => r_v13 D _))
theorem r_v15 (i : S8192x768.Idx) : val_main_v15 (F := Ideal) (c0 D) (c1 D) (c2 D) i = (qOf D.X D.G D.W (i 0) (i 1) : EReal) :=
  (val_main_v15_apply _ _ _ i).trans (r_v14 D _)
theorem r_v16 (i : S8192x12x64.Idx) : val_main_v16 (F := Ideal) (c0 D) (c1 D) (c2 D) i = (qOf D.X D.G D.W (i 0) (headAt (i 1) (i 2)) : EReal) :=
  (val_main_v16_apply _ _ _ i).trans ((r_v15 D _).trans (congrArg₂ (fun (a : Fin 8192) (b : Fin 768) => (qOf D.X D.G D.W a b : EReal)) (Fin.ext (by
    have h1 : (i 1).val < 12 := (i 1).isLt
    have h2 : (i 2).val < 64 := (i 2).isLt
    show (((i 0).val * 12 + (i 1).val) * 64 + (i 2).val) / 768 = (i 0).val
    omega)) (Fin.ext (by
    have h1 : (i 1).val < 12 := (i 1).isLt
    have h2 : (i 2).val < 64 := (i 2).isLt
    show (((i 0).val * 12 + (i 1).val) * 64 + (i 2).val) % 768 = 64 * (i 1).val + (i 2).val
    omega))))
theorem r_v17 (i : S8192x768.Idx) : val_main_v17 (F := Ideal) (c0 D) (c1 D) (c2 D) i = (kOf D.X D.G D.W (i 0) (i 1) : EReal) :=
  (val_main_v17_apply _ _ _ i).trans (r_v14 D _)
theorem r_v18 (i : S8192x12x64.Idx) : val_main_v18 (F := Ideal) (c0 D) (c1 D) (c2 D) i = (kOf D.X D.G D.W (i 0) (headAt (i 1) (i 2)) : EReal) :=
  (val_main_v18_apply _ _ _ i).trans ((r_v17 D _).trans (congrArg₂ (fun (a : Fin 8192) (b : Fin 768) => (kOf D.X D.G D.W a b : EReal)) (Fin.ext (by
    have h1 : (i 1).val < 12 := (i 1).isLt
    have h2 : (i 2).val < 64 := (i 2).isLt
    show (((i 0).val * 12 + (i 1).val) * 64 + (i 2).val) / 768 = (i 0).val
    omega)) (Fin.ext (by
    have h1 : (i 1).val < 12 := (i 1).isLt
    have h2 : (i 2).val < 64 := (i 2).isLt
    show (((i 0).val * 12 + (i 1).val) * 64 + (i 2).val) % 768 = 64 * (i 1).val + (i 2).val
    omega))))
theorem r_v19 (i : S8192x768.Idx) : val_main_v19 (F := Ideal) (c0 D) (c1 D) (c2 D) i = (vOf D.X D.G D.W (i 0) (i 1) : EReal) :=
  (val_main_v19_apply _ _ _ i).trans (r_v14 D _)
include D in
theorem r_v27 (i : S8192.Idx) : val_main_v27 (F := Ideal)  i = (tokE (i 0) : EReal) :=
  (val_main_v27_apply i).trans rfl
include D in
theorem r_v21 (i : S32.Idx) : val_main_v21 (F := Ideal)  i = (laneE (i 0) : EReal) :=
  rfl
include D in
theorem r_v22 (i : S32.Idx) : val_main_v22 (F := Ideal)  i = (-laneE (i 0) : EReal) :=
  (val_main_v22_apply i).trans (congrArg (fun a : EReal => -a) (r_v21 D i))
include D in
theorem r_cst_2 (i : S_.Idx) : val_main_cst_2 (F := Ideal)  i = (Ideal.ofBits .f32 0x3D000000#32 : EReal) :=
  (val_main_cst_2_apply i).trans rfl
include D in
theorem r_v23 (i : S32.Idx) : val_main_v23 (F := Ideal)  i = (Ideal.ofBits .f32 0x3D000000#32 : EReal) :=
  (val_main_v23_apply i).trans (r_cst_2 D _)
include D in
theorem r_v24 (i : S32.Idx) : val_main_v24 (F := Ideal)  i = (-laneE (i 0) * Ideal.ofBits .f32 0x3D000000#32 : EReal) :=
  (val_main_v24_apply i).trans (mul_e (r_v22 D i) (r_v23 D i))
include D in
theorem r_cst_3 (i : S_.Idx) : val_main_cst_3 (F := Ideal)  i = (Ideal.ofBits .f32 0x461C4000#32 : EReal) :=
  (val_main_cst_3_apply i).trans rfl
include D in
theorem r_v25 (i : S32.Idx) : val_main_v25 (F := Ideal)  i = (Ideal.ofBits .f32 0x461C4000#32 : EReal) :=
  (val_main_v25_apply i).trans (r_cst_3 D _)
include D in
theorem r_v26 (i : S32.Idx) : val_main_v26 (F := Ideal)  i = (freqE (i 0) : EReal) :=
  (val_main_v26_apply i).trans (congrArg₂ Ideal.pow (r_v25 D i) (r_v24 D i))
include D in
theorem r_v28 (i : S8192x1.Idx) : val_main_v28 (F := Ideal)  i = (tokE (i 0) : EReal) :=
  (val_main_v28_apply i).trans (r_v27 D _)
include D in
theorem r_v29 (i : S1x32.Idx) : val_main_v29 (F := Ideal)  i = (freqE (i 1) : EReal) :=
  (val_main_v29_apply i).trans (r_v26 D _)
include D in
theorem r_v30 (i : S8192x32.Idx) : val_main_v30 (F := Ideal)  i = (tokE (i 0) : EReal) :=
  (val_main_v30_apply i).trans (r_v28 D _)
include D in
theorem r_v31 (i : S8192x32.Idx) : val_main_v31 (F := Ideal)  i = (freqE (i 1) : EReal) :=
  (val_main_v31_apply i).trans (r_v29 D _)
include D in
theorem r_v32 (i : S8192x32.Idx) : val_main_v32 (F := Ideal)  i = (tokE (i 0) * freqE (i 1) : EReal) :=
  (val_main_v32_apply i).trans (mul_e (r_v30 D i) (r_v31 D i))
include D in
theorem r_v33 (i : S8192x32.Idx) : val_main_v33 (F := Ideal)  i = (cosR (i 0) (i 1) : EReal) :=
  (val_main_v33_apply i).trans (congrArg Ideal.cos (r_v32 D i))
include D in
theorem r_v34 (i : S8192x1x32.Idx) : val_main_v34 (F := Ideal)  i = (cosR (i 0) (i 2) : EReal) :=
  (val_main_v34_apply i).trans (r_v33 D _)
include D in
theorem r_v35 (i : S8192x32.Idx) : val_main_v35 (F := Ideal)  i = (sinR (i 0) (i 1) : EReal) :=
  (val_main_v35_apply i).trans (congrArg Ideal.sin (r_v32 D i))
include D in
theorem r_v36 (i : S8192x1x32.Idx) : val_main_v36 (F := Ideal)  i = (sinR (i 0) (i 2) : EReal) :=
  (val_main_v36_apply i).trans (r_v35 D _)
theorem r_v37 (i : S8192x12x32.Idx) : val_main_v37 (F := Ideal) (c0 D) (c1 D) (c2 D) i = (qOf D.X D.G D.W (i 0) (headAt (i 1) (lowAt (i 2))) : EReal) :=
  (val_main_v37_apply _ _ _ i).trans (r_v16 D _)
theorem r_v38 (i : S8192x12x32.Idx) : val_main_v38 (F := Ideal) (c0 D) (c1 D) (c2 D) i = (qOf D.X D.G D.W (i 0) (headAt (i 1) (highAt (i 2))) : EReal) :=
  (val_main_v38_apply _ _ _ i).trans (r_v16 D _)
include D in
theorem r_v39 (i : S8192x12x32.Idx) : val_main_v39 (F := Ideal)  i = (cosR (i 0) (i 2) : EReal) :=
  (val_main_v39_apply i).trans (r_v34 D _)
theorem r_v40 (i : S8192x12x32.Idx) : val_main_v40 (F := Ideal) (c0 D) (c1 D) (c2 D) i = (qOf D.X D.G D.W (i 0) (headAt (i 1) (lowAt (i 2))) * cosR (i 0) (i 2) : EReal) :=
  (val_main_v40_apply _ _ _ i).trans (mul_e (r_v37 D i) (r_v39 D i))
include D in
theorem r_v41 (i : S8192x12x32.Idx) : val_main_v41 (F := Ideal)  i = (sinR (i 0) (i 2) : EReal) :=
  (val_main_v41_apply i).trans (r_v36 D _)
theorem r_v42 (i : S8192x12x32.Idx) : val_main_v42 (F := Ideal) (c0 D) (c1 D) (c2 D) i = (qOf D.X D.G D.W (i 0) (headAt (i 1) (highAt (i 2))) * sinR (i 0) (i 2) : EReal) :=
  (val_main_v42_apply _ _ _ i).trans (mul_e (r_v38 D i) (r_v41 D i))
theorem r_v43 (i : S8192x12x32.Idx) : val_main_v43 (F := Ideal) (c0 D) (c1 D) (c2 D) i = (qOf D.X D.G D.W (i 0) (headAt (i 1) (lowAt (i 2))) * cosR (i 0) (i 2) - qOf D.X D.G D.W (i 0) (headAt (i 1) (highAt (i 2))) * sinR (i 0) (i 2) : EReal) :=
  (val_main_v43_apply _ _ _ i).trans (sub_e (r_v40 D i) (r_v42 D i))
include D in
theorem r_v44 (i : S8192x12x32.Idx) : val_main_v44 (F := Ideal)  i = (cosR (i 0) (i 2) : EReal) :=
  (val_main_v44_apply i).trans (r_v34 D _)
theorem r_v45 (i : S8192x12x32.Idx) : val_main_v45 (F := Ideal) (c0 D) (c1 D) (c2 D) i = (qOf D.X D.G D.W (i 0) (headAt (i 1) (highAt (i 2))) * cosR (i 0) (i 2) : EReal) :=
  (val_main_v45_apply _ _ _ i).trans (mul_e (r_v38 D i) (r_v44 D i))
include D in
theorem r_v46 (i : S8192x12x32.Idx) : val_main_v46 (F := Ideal)  i = (sinR (i 0) (i 2) : EReal) :=
  (val_main_v46_apply i).trans (r_v36 D _)
theorem r_v47 (i : S8192x12x32.Idx) : val_main_v47 (F := Ideal) (c0 D) (c1 D) (c2 D) i = (qOf D.X D.G D.W (i 0) (headAt (i 1) (lowAt (i 2))) * sinR (i 0) (i 2) : EReal) :=
  (val_main_v47_apply _ _ _ i).trans (mul_e (r_v37 D i) (r_v46 D i))
theorem r_v48 (i : S8192x12x32.Idx) : val_main_v48 (F := Ideal) (c0 D) (c1 D) (c2 D) i = (qOf D.X D.G D.W (i 0) (headAt (i 1) (highAt (i 2))) * cosR (i 0) (i 2) + qOf D.X D.G D.W (i 0) (headAt (i 1) (lowAt (i 2))) * sinR (i 0) (i 2) : EReal) :=
  (val_main_v48_apply _ _ _ i).trans (add_e (r_v45 D i) (r_v47 D i))
theorem r_v49 (i : S8192x12x64.Idx) : val_main_v49 (F := Ideal) (c0 D) (c1 D) (c2 D) i = (ropeE (qOf D.X D.G D.W (i 0)) (cosR (i 0)) (sinR (i 0)) (headAt (i 1) (i 2)) : EReal) :=
  by
  unfold val_main_v49
  have l2 : (i 2).val < 64 := (i 2).isLt
  by_cases h : (i 2).val < 32
  · have e : i = ix3 (i 0) (i 1) (lowAt ⟨(i 2).val, h⟩) := funext fun a => match a with
      | ⟨0, _⟩ => rfl
      | ⟨1, _⟩ => rfl
      | ⟨2, _⟩ => rfl
    rw [e]
    exact (low_half _ _ _ _ _).trans ((r_v43 D _).trans (rope_low _ _ _ _ _).symm)
  · have e : i = ix3 (i 0) (i 1) (highAt ⟨(i 2).val - 32, by omega⟩) := funext fun a => match a with
      | ⟨0, _⟩ => rfl
      | ⟨1, _⟩ => rfl
      | ⟨2, _⟩ => Fin.ext (by show (i 2).val = 32 + ((i 2).val - 32); omega)
    rw [e]
    exact (high_half _ _ _ _ _).trans ((r_v48 D _).trans (rope_high _ _ _ _ _).symm)
include D in
theorem r_v57 (i : S8192.Idx) : val_main_v57 (F := Ideal)  i = (tokE (i 0) : EReal) :=
  (val_main_v57_apply i).trans rfl
include D in
theorem r_v51 (i : S32.Idx) : val_main_v51 (F := Ideal)  i = (laneE (i 0) : EReal) :=
  rfl
include D in
theorem r_v52 (i : S32.Idx) : val_main_v52 (F := Ideal)  i = (-laneE (i 0) : EReal) :=
  (val_main_v52_apply i).trans (congrArg (fun a : EReal => -a) (r_v51 D i))
include D in
theorem r_cst_4 (i : S_.Idx) : val_main_cst_4 (F := Ideal)  i = (Ideal.ofBits .f32 0x3D000000#32 : EReal) :=
  (val_main_cst_4_apply i).trans rfl
include D in
theorem r_v53 (i : S32.Idx) : val_main_v53 (F := Ideal)  i = (Ideal.ofBits .f32 0x3D000000#32 : EReal) :=
  (val_main_v53_apply i).trans (r_cst_4 D _)
include D in
theorem r_v54 (i : S32.Idx) : val_main_v54 (F := Ideal)  i = (-laneE (i 0) * Ideal.ofBits .f32 0x3D000000#32 : EReal) :=
  (val_main_v54_apply i).trans (mul_e (r_v52 D i) (r_v53 D i))
include D in
theorem r_cst_5 (i : S_.Idx) : val_main_cst_5 (F := Ideal)  i = (Ideal.ofBits .f32 0x461C4000#32 : EReal) :=
  (val_main_cst_5_apply i).trans rfl
include D in
theorem r_v55 (i : S32.Idx) : val_main_v55 (F := Ideal)  i = (Ideal.ofBits .f32 0x461C4000#32 : EReal) :=
  (val_main_v55_apply i).trans (r_cst_5 D _)
include D in
theorem r_v56 (i : S32.Idx) : val_main_v56 (F := Ideal)  i = (freqE (i 0) : EReal) :=
  (val_main_v56_apply i).trans (congrArg₂ Ideal.pow (r_v55 D i) (r_v54 D i))
include D in
theorem r_v58 (i : S8192x1.Idx) : val_main_v58 (F := Ideal)  i = (tokE (i 0) : EReal) :=
  (val_main_v58_apply i).trans (r_v57 D _)
include D in
theorem r_v59 (i : S1x32.Idx) : val_main_v59 (F := Ideal)  i = (freqE (i 1) : EReal) :=
  (val_main_v59_apply i).trans (r_v56 D _)
include D in
theorem r_v60 (i : S8192x32.Idx) : val_main_v60 (F := Ideal)  i = (tokE (i 0) : EReal) :=
  (val_main_v60_apply i).trans (r_v58 D _)
include D in
theorem r_v61 (i : S8192x32.Idx) : val_main_v61 (F := Ideal)  i = (freqE (i 1) : EReal) :=
  (val_main_v61_apply i).trans (r_v59 D _)
include D in
theorem r_v62 (i : S8192x32.Idx) : val_main_v62 (F := Ideal)  i = (tokE (i 0) * freqE (i 1) : EReal) :=
  (val_main_v62_apply i).trans (mul_e (r_v60 D i) (r_v61 D i))
include D in
theorem r_v63 (i : S8192x32.Idx) : val_main_v63 (F := Ideal)  i = (cosR (i 0) (i 1) : EReal) :=
  (val_main_v63_apply i).trans (congrArg Ideal.cos (r_v62 D i))
include D in
theorem r_v64 (i : S8192x1x32.Idx) : val_main_v64 (F := Ideal)  i = (cosR (i 0) (i 2) : EReal) :=
  (val_main_v64_apply i).trans (r_v63 D _)
include D in
theorem r_v65 (i : S8192x32.Idx) : val_main_v65 (F := Ideal)  i = (sinR (i 0) (i 1) : EReal) :=
  (val_main_v65_apply i).trans (congrArg Ideal.sin (r_v62 D i))
include D in
theorem r_v66 (i : S8192x1x32.Idx) : val_main_v66 (F := Ideal)  i = (sinR (i 0) (i 2) : EReal) :=
  (val_main_v66_apply i).trans (r_v65 D _)
theorem r_v67 (i : S8192x12x32.Idx) : val_main_v67 (F := Ideal) (c0 D) (c1 D) (c2 D) i = (kOf D.X D.G D.W (i 0) (headAt (i 1) (lowAt (i 2))) : EReal) :=
  (val_main_v67_apply _ _ _ i).trans (r_v18 D _)
theorem r_v68 (i : S8192x12x32.Idx) : val_main_v68 (F := Ideal) (c0 D) (c1 D) (c2 D) i = (kOf D.X D.G D.W (i 0) (headAt (i 1) (highAt (i 2))) : EReal) :=
  (val_main_v68_apply _ _ _ i).trans (r_v18 D _)
include D in
theorem r_v69 (i : S8192x12x32.Idx) : val_main_v69 (F := Ideal)  i = (cosR (i 0) (i 2) : EReal) :=
  (val_main_v69_apply i).trans (r_v64 D _)
theorem r_v70 (i : S8192x12x32.Idx) : val_main_v70 (F := Ideal) (c0 D) (c1 D) (c2 D) i = (kOf D.X D.G D.W (i 0) (headAt (i 1) (lowAt (i 2))) * cosR (i 0) (i 2) : EReal) :=
  (val_main_v70_apply _ _ _ i).trans (mul_e (r_v67 D i) (r_v69 D i))
include D in
theorem r_v71 (i : S8192x12x32.Idx) : val_main_v71 (F := Ideal)  i = (sinR (i 0) (i 2) : EReal) :=
  (val_main_v71_apply i).trans (r_v66 D _)
theorem r_v72 (i : S8192x12x32.Idx) : val_main_v72 (F := Ideal) (c0 D) (c1 D) (c2 D) i = (kOf D.X D.G D.W (i 0) (headAt (i 1) (highAt (i 2))) * sinR (i 0) (i 2) : EReal) :=
  (val_main_v72_apply _ _ _ i).trans (mul_e (r_v68 D i) (r_v71 D i))
theorem r_v73 (i : S8192x12x32.Idx) : val_main_v73 (F := Ideal) (c0 D) (c1 D) (c2 D) i = (kOf D.X D.G D.W (i 0) (headAt (i 1) (lowAt (i 2))) * cosR (i 0) (i 2) - kOf D.X D.G D.W (i 0) (headAt (i 1) (highAt (i 2))) * sinR (i 0) (i 2) : EReal) :=
  (val_main_v73_apply _ _ _ i).trans (sub_e (r_v70 D i) (r_v72 D i))
include D in
theorem r_v74 (i : S8192x12x32.Idx) : val_main_v74 (F := Ideal)  i = (cosR (i 0) (i 2) : EReal) :=
  (val_main_v74_apply i).trans (r_v64 D _)
theorem r_v75 (i : S8192x12x32.Idx) : val_main_v75 (F := Ideal) (c0 D) (c1 D) (c2 D) i = (kOf D.X D.G D.W (i 0) (headAt (i 1) (highAt (i 2))) * cosR (i 0) (i 2) : EReal) :=
  (val_main_v75_apply _ _ _ i).trans (mul_e (r_v68 D i) (r_v74 D i))
include D in
theorem r_v76 (i : S8192x12x32.Idx) : val_main_v76 (F := Ideal)  i = (sinR (i 0) (i 2) : EReal) :=
  (val_main_v76_apply i).trans (r_v66 D _)
theorem r_v77 (i : S8192x12x32.Idx) : val_main_v77 (F := Ideal) (c0 D) (c1 D) (c2 D) i = (kOf D.X D.G D.W (i 0) (headAt (i 1) (lowAt (i 2))) * sinR (i 0) (i 2) : EReal) :=
  (val_main_v77_apply _ _ _ i).trans (mul_e (r_v67 D i) (r_v76 D i))
theorem r_v78 (i : S8192x12x32.Idx) : val_main_v78 (F := Ideal) (c0 D) (c1 D) (c2 D) i = (kOf D.X D.G D.W (i 0) (headAt (i 1) (highAt (i 2))) * cosR (i 0) (i 2) + kOf D.X D.G D.W (i 0) (headAt (i 1) (lowAt (i 2))) * sinR (i 0) (i 2) : EReal) :=
  (val_main_v78_apply _ _ _ i).trans (add_e (r_v75 D i) (r_v77 D i))
theorem r_v79 (i : S8192x12x64.Idx) : val_main_v79 (F := Ideal) (c0 D) (c1 D) (c2 D) i = (ropeE (kOf D.X D.G D.W (i 0)) (cosR (i 0)) (sinR (i 0)) (headAt (i 1) (i 2)) : EReal) :=
  by
  unfold val_main_v79
  have l2 : (i 2).val < 64 := (i 2).isLt
  by_cases h : (i 2).val < 32
  · have e : i = ix3 (i 0) (i 1) (lowAt ⟨(i 2).val, h⟩) := funext fun a => match a with
      | ⟨0, _⟩ => rfl
      | ⟨1, _⟩ => rfl
      | ⟨2, _⟩ => rfl
    rw [e]
    exact (low_half _ _ _ _ _).trans ((r_v73 D _).trans (rope_low _ _ _ _ _).symm)
  · have e : i = ix3 (i 0) (i 1) (highAt ⟨(i 2).val - 32, by omega⟩) := funext fun a => match a with
      | ⟨0, _⟩ => rfl
      | ⟨1, _⟩ => rfl
      | ⟨2, _⟩ => Fin.ext (by show (i 2).val = 32 + ((i 2).val - 32); omega)
    rw [e]
    exact (high_half _ _ _ _ _).trans ((r_v78 D _).trans (rope_high _ _ _ _ _).symm)
theorem r_v80 (i : S8192x1024.Idx) : val_main_v80 (F := Ideal) (c0 D) (c1 D) i = (normE (D.X (i 0)) D.G (i 1) : EReal) :=
  (val_main_v80_apply _ _ i).trans (r_v11 D _)
theorem r_v81 (i : S8192x256.Idx) : val_main_v81 (F := Ideal) (c0 D) (c1 D) (c2 D) i = (uOf D.X D.G D.W (i 0) (i 1) : EReal) :=
  (val_main_v81_apply _ _ _ i).trans (r_v14 D _)
theorem r_v82 (i : S8192x768.Idx) : val_main_v82 (F := Ideal) (c0 D) (c1 D) (c2 D) i = (ropeE (qOf D.X D.G D.W (i 0)) (cosR (i 0)) (sinR (i 0)) (i 1) : EReal) :=
  (val_main_v82_apply _ _ _ i).trans ((r_v49 D _).trans (congrArg₂ (fun (a : Fin 8192) (b : Fin 768) => (ropeE (qOf D.X D.G D.W a) (cosR a) (sinR a) b : EReal)) (Fin.ext (by
    have h1 : (i 1).val < 768 := (i 1).isLt
    show ((i 0).val * 768 + (i 1).val) / 768 = (i 0).val
    omega)) (Fin.ext (by
    have h1 : (i 1).val < 768 := (i 1).isLt
    show 64 * (((i 0).val * 768 + (i 1).val) / 64 % 12) + ((i 0).val * 768 + (i 1).val) % 64 = (i 1).val
    omega))))
theorem r_v83 (i : S8192x768.Idx) : val_main_v83 (F := Ideal) (c0 D) (c1 D) (c2 D) i = (ropeE (qOf D.X D.G D.W (i 0)) (cosR (i 0)) (sinR (i 0)) (i 1) : EReal) :=
  (val_main_v83_apply _ _ _ i).trans (r_v82 D _)
theorem r_v84 (i : S8192x6x128.Idx) : val_main_v84 (F := Ideal) (c0 D) (c1 D) (c2 D) i = (ropeE (qOf D.X D.G D.W (i 0)) (cosR (i 0)) (sinR (i 0)) (groupAt (i 1) (i 2)) : EReal) :=
  (val_main_v84_apply _ _ _ i).trans ((r_v83 D _).trans (congrArg₂ (fun (a : Fin 8192) (b : Fin 768) => (ropeE (qOf D.X D.G D.W a) (cosR a) (sinR a) b : EReal)) (Fin.ext (by
    have h1 : (i 1).val < 6 := (i 1).isLt
    have h2 : (i 2).val < 128 := (i 2).isLt
    show (((i 0).val * 6 + (i 1).val) * 128 + (i 2).val) / 768 = (i 0).val
    omega)) (Fin.ext (by
    have h1 : (i 1).val < 6 := (i 1).isLt
    have h2 : (i 2).val < 128 := (i 2).isLt
    show (((i 0).val * 6 + (i 1).val) * 128 + (i 2).val) % 768 = 128 * (i 1).val + (i 2).val
    omega))))
theorem r_v85 (i : S6x8192x128.Idx) : val_main_v85 (F := Ideal) (c0 D) (c1 D) (c2 D) i = (ropeE (qOf D.X D.G D.W (i 1)) (cosR (i 1)) (sinR (i 1)) (groupAt (i 0) (i 2)) : EReal) :=
  (val_main_v85_apply _ _ _ i).trans (r_v84 D _)
theorem r_v86 (i : S8192x768.Idx) : val_main_v86 (F := Ideal) (c0 D) (c1 D) (c2 D) i = (ropeE (kOf D.X D.G D.W (i 0)) (cosR (i 0)) (sinR (i 0)) (i 1) : EReal) :=
  (val_main_v86_apply _ _ _ i).trans ((r_v79 D _).trans (congrArg₂ (fun (a : Fin 8192) (b : Fin 768) => (ropeE (kOf D.X D.G D.W a) (cosR a) (sinR a) b : EReal)) (Fin.ext (by
    have h1 : (i 1).val < 768 := (i 1).isLt
    show ((i 0).val * 768 + (i 1).val) / 768 = (i 0).val
    omega)) (Fin.ext (by
    have h1 : (i 1).val < 768 := (i 1).isLt
    show 64 * (((i 0).val * 768 + (i 1).val) / 64 % 12) + ((i 0).val * 768 + (i 1).val) % 64 = (i 1).val
    omega))))
theorem r_v87 (i : S8192x768.Idx) : val_main_v87 (F := Ideal) (c0 D) (c1 D) (c2 D) i = (ropeE (kOf D.X D.G D.W (i 0)) (cosR (i 0)) (sinR (i 0)) (i 1) : EReal) :=
  (val_main_v87_apply _ _ _ i).trans (r_v86 D _)
theorem r_v88 (i : S8192x6x128.Idx) : val_main_v88 (F := Ideal) (c0 D) (c1 D) (c2 D) i = (ropeE (kOf D.X D.G D.W (i 0)) (cosR (i 0)) (sinR (i 0)) (groupAt (i 1) (i 2)) : EReal) :=
  (val_main_v88_apply _ _ _ i).trans ((r_v87 D _).trans (congrArg₂ (fun (a : Fin 8192) (b : Fin 768) => (ropeE (kOf D.X D.G D.W a) (cosR a) (sinR a) b : EReal)) (Fin.ext (by
    have h1 : (i 1).val < 6 := (i 1).isLt
    have h2 : (i 2).val < 128 := (i 2).isLt
    show (((i 0).val * 6 + (i 1).val) * 128 + (i 2).val) / 768 = (i 0).val
    omega)) (Fin.ext (by
    have h1 : (i 1).val < 6 := (i 1).isLt
    have h2 : (i 2).val < 128 := (i 2).isLt
    show (((i 0).val * 6 + (i 1).val) * 128 + (i 2).val) % 768 = 128 * (i 1).val + (i 2).val
    omega))))
theorem r_v89 (i : S6x8192x128.Idx) : val_main_v89 (F := Ideal) (c0 D) (c1 D) (c2 D) i = (ropeE (kOf D.X D.G D.W (i 1)) (cosR (i 1)) (sinR (i 1)) (groupAt (i 0) (i 2)) : EReal) :=
  (val_main_v89_apply _ _ _ i).trans (r_v88 D _)
theorem r_v90 (i : S8192x768.Idx) : val_main_v90 (F := Ideal) (c0 D) (c1 D) (c2 D) i = (vOf D.X D.G D.W (i 0) (i 1) : EReal) :=
  (val_main_v90_apply _ _ _ i).trans (r_v19 D _)
theorem r_v91 (i : S8192x6x128.Idx) : val_main_v91 (F := Ideal) (c0 D) (c1 D) (c2 D) i = (vOf D.X D.G D.W (i 0) (groupAt (i 1) (i 2)) : EReal) :=
  (val_main_v91_apply _ _ _ i).trans ((r_v90 D _).trans (congrArg₂ (fun (a : Fin 8192) (b : Fin 768) => (vOf D.X D.G D.W a b : EReal)) (Fin.ext (by
    have h1 : (i 1).val < 6 := (i 1).isLt
    have h2 : (i 2).val < 128 := (i 2).isLt
    show (((i 0).val * 6 + (i 1).val) * 128 + (i 2).val) / 768 = (i 0).val
    omega)) (Fin.ext (by
    have h1 : (i 1).val < 6 := (i 1).isLt
    have h2 : (i 2).val < 128 := (i 2).isLt
    show (((i 0).val * 6 + (i 1).val) * 128 + (i 2).val) % 768 = 128 * (i 1).val + (i 2).val
    omega))))
theorem r_v92 (i : S6x8192x128.Idx) : val_main_v92 (F := Ideal) (c0 D) (c1 D) (c2 D) i = (vOf D.X D.G D.W (i 1) (groupAt (i 0) (i 2)) : EReal) :=
  (val_main_v92_apply _ _ _ i).trans (r_v91 D _)

end Cert.RProjFIdeal.Whole
end
-- ==== Proof.ProjFSame.lean ====
module
public import proofs.«01_k».proof.Defs
public import proofs.«01_k».proof.Proof.Gen.RProjFIdeal.Run
public import proofs.«01_k».proof.Proof.Gen.RProjFIdeal
public import proofs.«01_k».proof.Proof.Gen.ProjF
public import proofs.«01_k».proof.Proof.Gen.ProjF.Frame
public import proofs.«01_k».proof.Proof.Gen.ProjFIdeal
public import proofs.«01_k».proof.Proof.Gen.ProjFIdeal.Frame
public import proofs.«01_k».proof.Proof.ProjFwd
public import proofs.«01_k».proof.Proof.ProjFwdRef
@[expose] public section
set_option maxRecDepth 16384
noncomputable section
open Idealize.ShloMosaic Idealize.ShloMosaic.TcCoe Idealize.SL.Sem

namespace Cert.RProjFIdeal.Whole
open Cert.RProjFIdeal Cert.RProjFIdeal.Read Cert.NormMath Cert.FfnMath

/-- The arguments as matrices. -/
def dataOf (x0 : S8192x1024.Idx → EReal) (x1 : S1x1024.Idx → EReal) (x2 : S2560x1024.Idx → EReal) : Data where
  X := fun i j => x0 (ix2 i j)
  G := fun j => x1 (ix2 0 j)
  W := fun i j => x2 (ix2 i j)

variable (x0 : S8192x1024.Idx → EReal) (x1 : S1x1024.Idx → EReal) (x2 : S2560x1024.Idx → EReal)

theorem c0_of : c0 (dataOf x0 x1 x2) = x0 := funext fun i => congrArg x0 (ix2_eta i)
theorem c1_of : c1 (dataOf x0 x1 x2) = x1 := funext fun i => congrArg x1 (funext fun a => match a with
  | ⟨0, _⟩ => Fin.ext (Nat.lt_one_iff.mp (i 0).isLt).symm
  | ⟨1, _⟩ => rfl)
theorem c2_of : c2 (dataOf x0 x1 x2) = x2 := funext fun i => congrArg x2 (ix2_eta i)

theorem value_h : val_main_v80 (F := Ideal) x0 x1 = fun i => normE ((fun i j => x0 (ix2 i j)) (i 0)) (fun j => x1 (ix2 0 j)) (i 1) := by
  funext i
  have h := r_v80 (dataOf x0 x1 (fun _ => 0)) i
  rw [c0_of, c1_of] at h
  exact h

theorem value_u : val_main_v81 (F := Ideal) x0 x1 x2 = fun i => Cert.ProjFIdeal.Fwd.uOf (fun i j => x0 (ix2 i j)) (fun j => x1 (ix2 0 j)) (fun i j => x2 (ix2 i j)) (i 0) (i 1) := by
  funext i
  have h := r_v81 (dataOf x0 x1 x2) i
  rw [c0_of, c1_of, c2_of] at h
  exact h

theorem value_q : val_main_v85 (F := Ideal) x0 x1 x2 = fun i => Cert.ProjFIdeal.Fwd.ropeE (Cert.ProjFIdeal.Fwd.qOf (fun i j => x0 (ix2 i j)) (fun j => x1 (ix2 0 j)) (fun i j => x2 (ix2 i j)) (i 1)) (Cert.ProjFIdeal.Fwd.cosR (i 1)) (Cert.ProjFIdeal.Fwd.sinR (i 1)) (Cert.ProjFIdeal.Fwd.groupAt (i 0) (i 2)) := by
  funext i
  have h := r_v85 (dataOf x0 x1 x2) i
  rw [c0_of, c1_of, c2_of] at h
  exact h

theorem value_k : val_main_v89 (F := Ideal) x0 x1 x2 = fun i => Cert.ProjFIdeal.Fwd.ropeE (Cert.ProjFIdeal.Fwd.kOf (fun i j => x0 (ix2 i j)) (fun j => x1 (ix2 0 j)) (fun i j => x2 (ix2 i j)) (i 1)) (Cert.ProjFIdeal.Fwd.cosR (i 1)) (Cert.ProjFIdeal.Fwd.sinR (i 1)) (Cert.ProjFIdeal.Fwd.groupAt (i 0) (i 2)) := by
  funext i
  have h := r_v89 (dataOf x0 x1 x2) i
  rw [c0_of, c1_of, c2_of] at h
  exact h

theorem value_v : val_main_v92 (F := Ideal) x0 x1 x2 = fun i => Cert.ProjFIdeal.Fwd.vOf (fun i j => x0 (ix2 i j)) (fun j => x1 (ix2 0 j)) (fun i j => x2 (ix2 i j)) (i 1) (Cert.ProjFIdeal.Fwd.groupAt (i 0) (i 2)) := by
  funext i
  have h := r_v92 (dataOf x0 x1 x2) i
  rw [c0_of, c1_of, c2_of] at h
  exact h

end Cert.RProjFIdeal.Whole

namespace Cert.Proof

theorem rprojf_frame : Cert.quiescent_RProjFIdeal (hRProjFIdeal := Cert.RProjFIdeal.Gen.facts) := by
  intro m ρ _
  exact (θ_run _ _ _).mono (fun r h => ⟨fun c => (h c).2.2.2.2.2, funext fun g => nomatch g.2⟩) (Cert.RProjFIdeal.Value.run (F := Ideal) m ρ)

theorem projf_same : Cert.algebraic_ProjFIdeal_RProjFIdeal (hProjFIdeal := Cert.ProjFIdeal.Gen.facts) (hRProjFIdeal := Cert.RProjFIdeal.Gen.facts) := by
  intro m g m' g' _ hagree
  refine ⟨fun c => (fun i => Cert.ProjFIdeal.Fwd.resH m c (i 0) (i 1)), fun c => (fun i => Cert.ProjFIdeal.Fwd.resU m c (i 0) (i 1)), fun c => (fun i => Cert.ProjFIdeal.Fwd.resQ m c (i 0) (i 1) (i 2)), fun c => (fun i => Cert.ProjFIdeal.Fwd.resK m c (i 0) (i 1) (i 2)), fun c => (fun i => Cert.ProjFIdeal.Fwd.resV m c (i 0) (i 1) (i 2)),
    Cert.ProjFIdeal.Fwd.run m g, (θ_run _ _ _).mono (fun r h c => ?_) (Cert.RProjFIdeal.Value.run (F := Ideal) m' g')⟩
  obtain ⟨e0, e1, e2⟩ := hagree c
  obtain ⟨h0, h1, h2, h3, h4, hargs⟩ := h c
  refine ⟨h0.trans ?_, h1.trans ?_, h2.trans ?_, h3.trans ?_, h4.trans ?_, hargs⟩
  · rw [Cert.RProjFIdeal.Read.val_main_v80_eq, e0, e1]
    exact Cert.RProjFIdeal.Whole.value_h _ _
  · rw [Cert.RProjFIdeal.Read.val_main_v81_eq, e0, e1, e2]
    exact Cert.RProjFIdeal.Whole.value_u _ _ _
  · rw [Cert.RProjFIdeal.Read.val_main_v85_eq, e0, e1, e2]
    exact Cert.RProjFIdeal.Whole.value_q _ _ _
  · rw [Cert.RProjFIdeal.Read.val_main_v89_eq, e0, e1, e2]
    exact Cert.RProjFIdeal.Whole.value_k _ _ _
  · rw [Cert.RProjFIdeal.Read.val_main_v92_eq, e0, e1, e2]
    exact Cert.RProjFIdeal.Whole.value_v _ _ _

end Cert.Proof
end
-- ==== Proof.DComb.lean ====
module
public import proofs.«01_k».proof.Proof.Gen.DProjIdeal.Frame
public import proofs.«01_k».proof.Proof.Gen.DProjIdeal.Value
public import proofs.«01_k».proof.Proof.ProjTurn
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.DProjIdeal.Comb
open Cert.DProjIdeal Cert.DProjIdeal.Gen Cert.FfnMath Cert.NormMath Cert.ProjFIdeal.Fwd

/-! # The gradients of the branches summed, turned back, and set side by side -/

/-- The six groups of lanes side by side. -/
def wideOf {n : Nat} (A : Fin 6 → Fin n → Fin 128 → EReal) (i : Fin n) (j : Fin 768) : EReal := A ⟨j.val / 128, by omega⟩ i ⟨j.val % 128, by omega⟩

/-- The gradient of the rotary embedding: the two halves of a head turned by the opposite of the angle of their lane. -/
def backE (q : Fin 768 → EReal) (c s : Fin 32 → EReal) (n : Fin 768) : EReal :=
  if h : n.val % 64 < 32 then q ⟨n.val + 32, by omega⟩ * s ⟨n.val % 32, by omega⟩ + q n * c ⟨n.val % 32, by omega⟩
  else q n * c ⟨n.val % 32, by omega⟩ + -q ⟨n.val - 32, by omega⟩ * s ⟨n.val % 32, by omega⟩

theorem back_low (q : Fin 768 → EReal) (c s : Fin 32 → EReal) (b : Fin 12) (d : Fin 32) :
    backE q c s (headAt b (lowAt d)) = q (headAt b (highAt d)) * s d + q (headAt b (lowAt d)) * c d := by
  have h : (headAt b (lowAt d)).val % 64 < 32 := by show (64 * b.val + d.val) % 64 < 32; omega
  unfold backE
  rw [dif_pos h]
  have e : (⟨(headAt b (lowAt d)).val % 32, by omega⟩ : Fin 32) = d := Fin.ext (by show (64 * b.val + d.val) % 32 = d.val; omega)
  have e' : ∀ h, (⟨(headAt b (lowAt d)).val + 32, h⟩ : Fin 768) = headAt b (highAt d) := fun _ => Fin.ext (by show 64 * b.val + d.val + 32 = 64 * b.val + (32 + d.val); omega)
  rw [e, e']

theorem back_high (q : Fin 768 → EReal) (c s : Fin 32 → EReal) (b : Fin 12) (d : Fin 32) :
    backE q c s (headAt b (highAt d)) = q (headAt b (highAt d)) * c d + -q (headAt b (lowAt d)) * s d := by
  have h : ¬(headAt b (highAt d)).val % 64 < 32 := by show ¬(64 * b.val + (32 + d.val)) % 64 < 32; omega
  unfold backE
  rw [dif_neg h]
  have e : (⟨(headAt b (highAt d)).val % 32, by omega⟩ : Fin 32) = d := Fin.ext (by show (64 * b.val + (32 + d.val)) % 32 = d.val; omega)
  have e' : ∀ h, (⟨(headAt b (highAt d)).val - 32, h⟩ : Fin 768) = headAt b (lowAt d) := fun _ => Fin.ext (by show 64 * b.val + (32 + d.val) - 32 = 64 * b.val + d.val; omega)
  rw [e, e']

/-- Four rows side by side. -/
def joinE (u : Fin 256 → EReal) (q k v : Fin 768 → EReal) (n : Fin 2560) : EReal :=
  if h : n.val < 256 then u ⟨n.val, h⟩ else if h1 : n.val - 256 < 768 then q ⟨n.val - 256, h1⟩
  else if h2 : n.val - 256 - 768 < 768 then k ⟨n.val - 256 - 768, h2⟩ else v ⟨n.val - 256 - 768 - 768, by omega⟩

theorem minus_one : Ideal.ofBits .f32 0xBF800000#32 = (-1 : EReal) := by
  have h : Ideal.ofBits .f32 0xBF800000#32 = ((-1 : ℝ) : EReal) := by
    simp [Ideal.ofBits, Ideal.ieee, -EReal.coe_mul, -EReal.coe_neg]
    norm_num
  rw [h, EReal.coe_neg, EReal.coe_one]

/-- A group of lanes turned back: each lane times its cosine, minus its partner's times its signed sine. -/
def turnB (y c s : Fin 128 → EReal) (l : Fin 128) : EReal :=
  y l * c l + Ideal.ofBits .f32 0xBF800000#32 * ((if l.val % 64 < 32 then y ⟨(l.val + 32) % 128, by omega⟩ else y ⟨(l.val + 96) % 128, by omega⟩) * s l)

def turnedB (q : Fin 768 → EReal) (cT sT : Fin 128 → EReal) (j : Fin 768) : EReal :=
  turnB (fun l => q (groupAt ⟨j.val / 128, by omega⟩ l)) cT sT ⟨j.val % 128, by omega⟩

theorem turned_back (q : Fin 768 → EReal) (cT sT : Fin 128 → EReal) (c s : Fin 32 → EReal) (n : Fin 768)
    (hc : ∀ l : Fin 128, cT l = c ⟨l.val % 32, by omega⟩) (hs : ∀ l : Fin 128, sT l = s ⟨l.val % 32, by omega⟩ * signE l) : turnedB q cT sT n = backE q c s n := by
  unfold turnedB turnB
  rw [hc, hs]
  unfold backE signE
  have e0 : groupAt ⟨n.val / 128, by omega⟩ ⟨n.val % 128, by omega⟩ = n := Fin.ext (by show 128 * (n.val / 128) + n.val % 128 = n.val; omega)
  have ec : c ⟨n.val % 128 % 32, by omega⟩ = c ⟨n.val % 32, by omega⟩ := congrArg c (Fin.ext (by show n.val % 128 % 32 = n.val % 32; omega))
  have es : s ⟨n.val % 128 % 32, by omega⟩ = s ⟨n.val % 32, by omega⟩ := congrArg s (Fin.ext (by show n.val % 128 % 32 = n.val % 32; omega))
  by_cases h : n.val % 64 < 32
  · have h' : n.val % 128 % 64 < 32 := by omega
    rw [dif_pos h, if_pos h', if_pos h']
    show q (groupAt ⟨n.val / 128, by omega⟩ ⟨n.val % 128, by omega⟩) * _ + _ * (q (groupAt ⟨n.val / 128, by omega⟩ ⟨(n.val % 128 + 32) % 128, by omega⟩) * _) = _
    rw [e0]
    have e1 : groupAt ⟨n.val / 128, by omega⟩ ⟨(n.val % 128 + 32) % 128, by omega⟩ = ⟨n.val + 32, by omega⟩ := Fin.ext (by show 128 * (n.val / 128) + (n.val % 128 + 32) % 128 = n.val + 32; omega)
    rw [e1]
    refine (congrArg₂ (fun a b : EReal => q n * a + Ideal.ofBits .f32 0xBF800000#32 * (q ⟨n.val + 32, by omega⟩ * (b * -Ideal.ofBits .f32 0x3F800000#32))) ec es).trans ?_
    rw [one_e, minus_one, mul_neg, mul_one, mul_neg, mul_neg, neg_mul, one_mul, neg_neg, add_comm]
  · have h' : ¬ n.val % 128 % 64 < 32 := by omega
    rw [dif_neg h, if_neg h', if_neg h']
    show q (groupAt ⟨n.val / 128, by omega⟩ ⟨n.val % 128, by omega⟩) * _ + _ * (q (groupAt ⟨n.val / 128, by omega⟩ ⟨(n.val % 128 + 96) % 128, by omega⟩) * _) = _
    rw [e0]
    have e1 : groupAt ⟨n.val / 128, by omega⟩ ⟨(n.val % 128 + 96) % 128, by omega⟩ = ⟨n.val - 32, by omega⟩ := Fin.ext (by show 128 * (n.val / 128) + (n.val % 128 + 96) % 128 = n.val - 32; omega)
    rw [e1]
    refine (congrArg₂ (fun a b : EReal => q n * a + Ideal.ofBits .f32 0xBF800000#32 * (q ⟨n.val - 32, by omega⟩ * (b * Ideal.ofBits .f32 0x3F800000#32))) ec es).trans ?_
    rw [one_e, minus_one, mul_one, neg_mul, one_mul, neg_mul]

section turns
theorem maskQ (r : Fin 512) (l : Fin 128) : k0_pay11 n64 k0_pay9 k0_pay10 (ix2 r l) = if l.val % 64 < 32 then 1#1 else 0#1 := by
  unfold k0_pay11 k0_pay9 k0_pay10
  pointwise
  revert l
  decide +kernel
theorem maskK (r : Fin 512) (l : Fin 128) : k0_pay32 n64 k0_pay31 (ix2 r l) = if l.val % 64 < 32 then 1#1 else 0#1 := by
  unfold k0_pay32 k0_pay31
  pointwise
  revert l
  decide +kernel
variable {z : FVec Ideal S512x768 .f32} {q : Fin 512 → Fin 768 → EReal}

theorem slice0 (h : ∀ r j, z (ix2 r j) = q r j) (r : Fin 512) (l : Fin 128) :
    (extractStridedSlice S512x128 ![0, 0] z slices_S512x768_o0_0_S512x128) (ix2 r l) = q r (groupAt 0 l) := by
  pointwise
  exact (h r _).trans (group_of (f := q r) (g := 0) (l := l) (by show l.val = 128 * 0 + l.val; omega))

theorem slice1 (h : ∀ r j, z (ix2 r j) = q r j) (r : Fin 512) (l : Fin 128) :
    (extractStridedSlice S512x128 ![0, 128] z slices_S512x768_o0_128_S512x128) (ix2 r l) = q r (groupAt 1 l) := by
  pointwise
  exact (h r _).trans (group_of (f := q r) (g := 1) (l := l) (by show 128 + l.val = 128 * 1 + l.val; omega))

theorem slice2 (h : ∀ r j, z (ix2 r j) = q r j) (r : Fin 512) (l : Fin 128) :
    (extractStridedSlice S512x128 ![0, 256] z slices_S512x768_o0_256_S512x128) (ix2 r l) = q r (groupAt 2 l) := by
  pointwise
  exact (h r _).trans (group_of (f := q r) (g := 2) (l := l) (by show 256 + l.val = 128 * 2 + l.val; omega))

theorem slice3 (h : ∀ r j, z (ix2 r j) = q r j) (r : Fin 512) (l : Fin 128) :
    (extractStridedSlice S512x128 ![0, 384] z slices_S512x768_o0_384_S512x128) (ix2 r l) = q r (groupAt 3 l) := by
  pointwise
  exact (h r _).trans (group_of (f := q r) (g := 3) (l := l) (by show 384 + l.val = 128 * 3 + l.val; omega))

theorem slice4 (h : ∀ r j, z (ix2 r j) = q r j) (r : Fin 512) (l : Fin 128) :
    (extractStridedSlice S512x128 ![0, 512] z slices_S512x768_o0_512_S512x128) (ix2 r l) = q r (groupAt 4 l) := by
  pointwise
  exact (h r _).trans (group_of (f := q r) (g := 4) (l := l) (by show 512 + l.val = 128 * 4 + l.val; omega))

theorem slice5 (h : ∀ r j, z (ix2 r j) = q r j) (r : Fin 512) (l : Fin 128) :
    (extractStridedSlice S512x128 ![0, 640] z slices_S512x768_o0_640_S512x128) (ix2 r l) = q r (groupAt 5 l) := by
  pointwise
  exact (h r _).trans (group_of (f := q r) (g := 5) (l := l) (by show 640 + l.val = 128 * 5 + l.val; omega))

variable {xg cs sn : FVec Ideal S512x128 .f32} {mask : IVec S512x128 1} {y cT sT : Fin 512 → Fin 128 → EReal}

theorem turn_at (hm : ∀ r (l : Fin 128), mask (ix2 r l) = if l.val % 64 < 32 then 1#1 else 0#1) (hc : ∀ r l, cs (ix2 r l) = cT r l) (hs : ∀ r l, sn (ix2 r l) = sT r l) (hx : ∀ r l, xg (ix2 r l) = y r l) (r : Fin 512) (l : Fin 128) :
    (addf (mulf xg cs) (mulf (broadcast S512x128 (Scalar.ofBits .f32 0xBF800000#32 : Ideal .f32)) (mulf (select mask (dynamicRotate 1 96#32 none xg rotates_S512x128_d1) (dynamicRotate 1 32#32 none xg rotates_S512x128_d1)) sn))) (ix2 r l)
      = turnB (y r) (cT r) (sT r) l := by
  pointwise
  rw [hc, hs, hm]
  unfold turnB
  refine congrArg₂ (fun a b : EReal => a * cT r l + Ideal.ofBits .f32 0xBF800000#32 * (b * sT r l)) (hx r l) ?_
  by_cases h : l.val % 64 < 32
  · rw [if_pos h, if_pos h]
    exact (hx r _).trans (congrArg (y r) (Fin.ext (by show (l.val + 128 - 96) % 128 = (l.val + 32) % 128; omega)))
  · rw [if_neg h, if_neg h]
    exact (hx r _).trans (congrArg (y r) (Fin.ext (by show (l.val + 128 - 32) % 128 = (l.val + 96) % 128; omega)))

theorem cat_at {φ : FTy} {x0 x1 x2 x3 x4 x5 : FVec Ideal S512x128 φ} {a : Fin 6 → Fin 512 → Fin 128 → EReal} (h0 : ∀ r k, x0 (ix2 r k) = a 0 r k) (h1 : ∀ r k, x1 (ix2 r k) = a 1 r k) (h2 : ∀ r k, x2 (ix2 r k) = a 2 r k) (h3 : ∀ r k, x3 (ix2 r k) = a 3 r k) (h4 : ∀ r k, x4 (ix2 r k) = a 4 r k) (h5 : ∀ r k, x5 (ix2 r k) = a 5 r k) (r : Fin 512) (j : Fin 768) :
    (concatenate S512x768 1 [⟨S512x128, x0⟩, ⟨S512x128, x1⟩, ⟨S512x128, x2⟩, ⟨S512x128, x3⟩, ⟨S512x128, x4⟩, ⟨S512x128, x5⟩] concatenates_S512x128_S512x128_S512x128_S512x128_S512x128_S512x128_S512x768_d1 : FVec Ideal S512x768 φ) (ix2 r j)
      = wideOf a r j := by
  pointwise
  by_cases c0 : j.val < 128
  · rw [dif_pos c0]
    exact (h0 r _).trans (congrArg₂ (fun (g : Fin 6) (l : Fin 128) => a g r l) (Fin.ext (by show 0 = j.val / 128; omega)) (Fin.ext (by show j.val = j.val % 128; omega)))
  rw [dif_neg c0]
  by_cases c1 : j.val - 128 < 128
  · rw [dif_pos c1]
    exact (h1 r _).trans (congrArg₂ (fun (g : Fin 6) (l : Fin 128) => a g r l) (Fin.ext (by show 1 = j.val / 128; omega)) (Fin.ext (by show j.val - 128 = j.val % 128; omega)))
  rw [dif_neg c1]
  by_cases c2 : j.val - 128 - 128 < 128
  · rw [dif_pos c2]
    exact (h2 r _).trans (congrArg₂ (fun (g : Fin 6) (l : Fin 128) => a g r l) (Fin.ext (by show 2 = j.val / 128; omega)) (Fin.ext (by show j.val - 128 - 128 = j.val % 128; omega)))
  rw [dif_neg c2]
  by_cases c3 : j.val - 128 - 128 - 128 < 128
  · rw [dif_pos c3]
    exact (h3 r _).trans (congrArg₂ (fun (g : Fin 6) (l : Fin 128) => a g r l) (Fin.ext (by show 3 = j.val / 128; omega)) (Fin.ext (by show j.val - 128 - 128 - 128 = j.val % 128; omega)))
  rw [dif_neg c3]
  by_cases c4 : j.val - 128 - 128 - 128 - 128 < 128
  · rw [dif_pos c4]
    exact (h4 r _).trans (congrArg₂ (fun (g : Fin 6) (l : Fin 128) => a g r l) (Fin.ext (by show 4 = j.val / 128; omega)) (Fin.ext (by show j.val - 128 - 128 - 128 - 128 = j.val % 128; omega)))
  rw [dif_neg c4]
  exact (h5 r _).trans (congrArg₂ (fun (g : Fin 6) (l : Fin 128) => a g r l) (Fin.ext (by show 5 = j.val / 128; omega)) (Fin.ext (by show j.val - 128 - 128 - 128 - 128 - 128 = j.val % 128; omega)))

end turns

section sums
theorem ld0 (x : Vec Ideal S6x512x128 .bf16) (r : Fin 512) (k : Fin 128) : (shapeCast S512x128 (View.ld x r0_1) shapeCasts_S1x512x128_S512x128 : FVec Ideal S512x128 .bf16) (ix2 r k) = x (ix3 0 r k) := by
  pointwise

theorem ld1 (x : Vec Ideal S6x512x128 .bf16) (r : Fin 512) (k : Fin 128) : (shapeCast S512x128 (View.ld x r0_2) shapeCasts_S1x512x128_S512x128 : FVec Ideal S512x128 .bf16) (ix2 r k) = x (ix3 1 r k) := by
  pointwise

theorem ld2 (x : Vec Ideal S6x512x128 .bf16) (r : Fin 512) (k : Fin 128) : (shapeCast S512x128 (View.ld x r0_3) shapeCasts_S1x512x128_S512x128 : FVec Ideal S512x128 .bf16) (ix2 r k) = x (ix3 2 r k) := by
  pointwise

theorem ld3 (x : Vec Ideal S6x512x128 .bf16) (r : Fin 512) (k : Fin 128) : (shapeCast S512x128 (View.ld x r0_4) shapeCasts_S1x512x128_S512x128 : FVec Ideal S512x128 .bf16) (ix2 r k) = x (ix3 3 r k) := by
  pointwise

theorem ld4 (x : Vec Ideal S6x512x128 .bf16) (r : Fin 512) (k : Fin 128) : (shapeCast S512x128 (View.ld x r0_5) shapeCasts_S1x512x128_S512x128 : FVec Ideal S512x128 .bf16) (ix2 r k) = x (ix3 4 r k) := by
  pointwise

theorem ld5 (x : Vec Ideal S6x512x128 .bf16) (r : Fin 512) (k : Fin 128) : (shapeCast S512x128 (View.ld x r0_6) shapeCasts_S1x512x128_S512x128 : FVec Ideal S512x128 .bf16) (ix2 r k) = x (ix3 5 r k) := by
  pointwise

/-- A block of one array, its groups side by side. -/
abbrev wideV (x : Vec Ideal S6x512x128 .bf16) : FVec Ideal S512x768 .bf16 := concatenate S512x768 1 [⟨S512x128, shapeCast S512x128 (View.ld x r0_1) shapeCasts_S1x512x128_S512x128⟩, ⟨S512x128, shapeCast S512x128 (View.ld x r0_2) shapeCasts_S1x512x128_S512x128⟩, ⟨S512x128, shapeCast S512x128 (View.ld x r0_3) shapeCasts_S1x512x128_S512x128⟩, ⟨S512x128, shapeCast S512x128 (View.ld x r0_4) shapeCasts_S1x512x128_S512x128⟩, ⟨S512x128, shapeCast S512x128 (View.ld x r0_5) shapeCasts_S1x512x128_S512x128⟩, ⟨S512x128, shapeCast S512x128 (View.ld x r0_6) shapeCasts_S1x512x128_S512x128⟩] concatenates_S512x128_S512x128_S512x128_S512x128_S512x128_S512x128_S512x768_d1
theorem wide_at {x : Vec Ideal S6x512x128 .bf16} {a : Fin 6 → Fin 512 → Fin 128 → EReal} (h : ∀ g r k, x (ix3 g r k) = a g r k) (r : Fin 512) (j : Fin 768) : (extf .f32 (wideV x) bitsLt_bf16_f32 : FVec Ideal S512x768 .f32) (ix2 r j) = wideOf a r j :=
  cat_at (a := a) (fun r k => (ld0 x r k).trans (h 0 r k)) (fun r k => (ld1 x r k).trans (h 1 r k)) (fun r k => (ld2 x r k).trans (h 2 r k)) (fun r k => (ld3 x r k).trans (h 3 r k)) (fun r k => (ld4 x r k).trans (h 4 r k)) (fun r k => (ld5 x r k).trans (h 5 r k)) r j
theorem plus_at {x y : FVec Ideal S512x768 .f32} {i : S512x768.Idx} {a b : EReal} (hx : x i = a) (hy : y i = b) : (addf x y) i = a + b := congrArg₂ (fun a b : EReal => a + b) hx hy
theorem none_at (i : S512x768.Idx) : (broadcast S512x768 (Scalar.ofBits .f32 0x00000000#32 : Ideal .f32)) i = (0 : EReal) := zero_e

variable {x1 x2 x3 x4 x5 x6 x7 x8 x9 x10 x11 x12 x13 x14 x15 : Vec Ideal S6x512x128 .bf16} {a1 a2 a3 a4 a5 a6 a7 a8 a9 a10 a11 a12 a13 a14 a15 : Fin 6 → Fin 512 → Fin 128 → EReal}

theorem sumQ (h1 : ∀ g r k, x1 (ix3 g r k) = a1 g r k) (h2 : ∀ g r k, x2 (ix3 g r k) = a2 g r k) (h3 : ∀ g r k, x3 (ix3 g r k) = a3 g r k) (r : Fin 512) (j : Fin 768) :
    (k0_pay8 (k0_pay4 (View.ld x1 r0_1) (View.ld x1 r0_2) (View.ld x1 r0_3) (View.ld x1 r0_4) (View.ld x1 r0_5) (View.ld x1 r0_6)) (k0_pay5 (View.ld x2 r0_1)) (k0_pay6 (View.ld x2 r0_2)) (k0_pay7 (View.ld x2 r0_3)) (View.ld x2 r0_4) (View.ld x2 r0_5) (View.ld x2 r0_6) (View.ld x3 r0_1) (View.ld x3 r0_2) (View.ld x3 r0_3) (View.ld x3 r0_4) (View.ld x3 r0_5) (View.ld x3 r0_6) : FVec Ideal S512x768 .f32) (ix2 r j) = (0 + wideOf a1 r j + wideOf a2 r j + wideOf a3 r j) := by
  unfold k0_pay8 k0_pay4 k0_pay5 k0_pay6 k0_pay7
  exact (plus_at (plus_at (plus_at (none_at _) (wide_at h1 r j)) (wide_at h2 r j)) (wide_at h3 r j))

theorem sumK (h4 : ∀ g r k, x4 (ix3 g r k) = a4 g r k) (h5 : ∀ g r k, x5 (ix3 g r k) = a5 g r k) (h6 : ∀ g r k, x6 (ix3 g r k) = a6 g r k) (h7 : ∀ g r k, x7 (ix3 g r k) = a7 g r k) (h8 : ∀ g r k, x8 (ix3 g r k) = a8 g r k) (h9 : ∀ g r k, x9 (ix3 g r k) = a9 g r k) (r : Fin 512) (j : Fin 768) :
    (k0_pay30 (k0_pay25 (k0_pay20 (k0_pay19 (View.ld x4 r0_1) (View.ld x4 r0_2) (View.ld x4 r0_3) (View.ld x4 r0_4) (View.ld x4 r0_5) (View.ld x4 r0_6)) (View.ld x5 r0_1) (View.ld x5 r0_2) (View.ld x5 r0_3) (View.ld x5 r0_4) (View.ld x5 r0_5) (View.ld x5 r0_6)) (k0_pay21 (View.ld x6 r0_1)) (k0_pay22 (View.ld x6 r0_2)) (k0_pay23 (View.ld x6 r0_3)) (k0_pay24 (View.ld x6 r0_4)) (View.ld x6 r0_5) (View.ld x6 r0_6)) (k0_pay26 (View.ld x7 r0_1) (View.ld x7 r0_2) (View.ld x7 r0_3) (View.ld x7 r0_4) (View.ld x7 r0_5) (View.ld x7 r0_6)) (k0_pay27 (View.ld x8 r0_1)) (k0_pay28 (View.ld x8 r0_2)) (k0_pay29 (View.ld x8 r0_3)) (View.ld x8 r0_4) (View.ld x8 r0_5) (View.ld x8 r0_6) (View.ld x9 r0_1) (View.ld x9 r0_2) (View.ld x9 r0_3) (View.ld x9 r0_4) (View.ld x9 r0_5) (View.ld x9 r0_6) : FVec Ideal S512x768 .f32) (ix2 r j) = (0 + wideOf a4 r j + wideOf a5 r j + wideOf a6 r j) + (0 + wideOf a7 r j + wideOf a8 r j + wideOf a9 r j) := by
  unfold k0_pay30 k0_pay25 k0_pay20 k0_pay19 k0_pay21 k0_pay22 k0_pay23 k0_pay24 k0_pay26 k0_pay27 k0_pay28 k0_pay29
  exact plus_at (plus_at (plus_at (plus_at (none_at _) (wide_at h4 r j)) (wide_at h5 r j)) (wide_at h6 r j)) (plus_at (plus_at (plus_at (none_at _) (wide_at h7 r j)) (wide_at h8 r j)) (wide_at h9 r j))

theorem sumV (h10 : ∀ g r k, x10 (ix3 g r k) = a10 g r k) (h11 : ∀ g r k, x11 (ix3 g r k) = a11 g r k) (h12 : ∀ g r k, x12 (ix3 g r k) = a12 g r k) (h13 : ∀ g r k, x13 (ix3 g r k) = a13 g r k) (h14 : ∀ g r k, x14 (ix3 g r k) = a14 g r k) (h15 : ∀ g r k, x15 (ix3 g r k) = a15 g r k) (r : Fin 512) (j : Fin 768) :
    (k0_pay55 (k0_pay49 (k0_pay44 (k0_pay39 (View.ld x10 r0_1)) (k0_pay40 (View.ld x10 r0_2)) (k0_pay41 (View.ld x10 r0_3)) (k0_pay42 (View.ld x10 r0_4)) (k0_pay43 (View.ld x10 r0_5)) (View.ld x10 r0_6) (View.ld x11 r0_1) (View.ld x11 r0_2) (View.ld x11 r0_3) (View.ld x11 r0_4) (View.ld x11 r0_5) (View.ld x11 r0_6)) (k0_pay45 (View.ld x12 r0_1)) (k0_pay46 (View.ld x12 r0_2)) (k0_pay47 (View.ld x12 r0_3)) (k0_pay48 (View.ld x12 r0_4)) (View.ld x12 r0_5) (View.ld x12 r0_6)) (k0_pay50 (View.ld x13 r0_1) (View.ld x13 r0_2) (View.ld x13 r0_3) (View.ld x13 r0_4) (View.ld x13 r0_5) (View.ld x13 r0_6)) (k0_pay51 (View.ld x14 r0_1)) (k0_pay52 (View.ld x14 r0_2)) (View.ld x14 r0_3) (View.ld x14 r0_4) (View.ld x14 r0_5) (View.ld x14 r0_6) (View.ld x15 r0_1) (View.ld x15 r0_2) (View.ld x15 r0_3) (View.ld x15 r0_4) (View.ld x15 r0_5) (View.ld x15 r0_6) : FVec Ideal S512x768 .bf16) (ix2 r j) = (0 + wideOf a10 r j + wideOf a11 r j + wideOf a12 r j) + (0 + wideOf a13 r j + wideOf a14 r j + wideOf a15 r j) := by
  unfold k0_pay55 k0_pay49 k0_pay44 k0_pay39 k0_pay40 k0_pay41 k0_pay42 k0_pay43 k0_pay45 k0_pay46 k0_pay47 k0_pay48 k0_pay50 k0_pay51 k0_pay52
  exact plus_at (plus_at (plus_at (plus_at (none_at _) (wide_at h10 r j)) (wide_at h11 r j)) (wide_at h12 r j)) (plus_at (plus_at (plus_at (none_at _) (wide_at h13 r j)) (wide_at h14 r j)) (wide_at h15 r j))
end sums

section whole
variable {v1 v3 : FVec Ideal S512x128 .f32} {z : FVec Ideal S512x768 .f32} {q : Fin 512 → Fin 768 → EReal} {cT sT : Fin 512 → Fin 128 → EReal} (hc : ∀ r l, v1 (ix2 r l) = cT r l) (hs : ∀ r l, v3 (ix2 r l) = sT r l) (hq : ∀ r j, z (ix2 r j) = q r j)
include hc hs hq
theorem turnQ (r : Fin 512) (j : Fin 768) : (k0_pay53 (k0_pay18 v1 v3 z (k0_pay11 n64 k0_pay9 k0_pay10) (k0_pay12 v1 v3 z n64 k0_pay9 k0_pay10) (k0_pay13 v1 v3 z n64 k0_pay9 k0_pay10) (k0_pay14 v1 v3 z n64 k0_pay9 k0_pay10) (k0_pay16 v1 z) (k0_pay17 v3 z n64 k0_pay9 k0_pay10)) : FVec Ideal S512x768 .bf16) (ix2 r j) = turnedB (q r) (cT r) (sT r) j := by
  unfold k0_pay53 k0_pay18 k0_pay12 k0_pay13 k0_pay14 k0_pay16 k0_pay17 k0_pay15
  exact cat_at (a := fun g r l => turnB (fun l => q r (groupAt g l)) (cT r) (sT r) l) (turn_at maskQ hc hs (slice0 hq)) (turn_at maskQ hc hs (slice1 hq)) (turn_at maskQ hc hs (slice2 hq)) (turn_at maskQ hc hs (slice3 hq)) (turn_at maskQ hc hs (slice4 hq)) (turn_at maskQ hc hs (slice5 hq)) r j

theorem turnK (r : Fin 512) (j : Fin 768) : (k0_pay54 (k0_pay38 v1 v3 z (k0_pay32 n64 k0_pay31) (k0_pay33 v1 v3 z n64 k0_pay31) (k0_pay34 v1 v3 z n64 k0_pay31) (k0_pay35 v1 v3 z n64 k0_pay31) (k0_pay36 z) (k0_pay37 z n64 k0_pay31)) : FVec Ideal S512x768 .bf16) (ix2 r j) = turnedB (q r) (cT r) (sT r) j := by
  unfold k0_pay54 k0_pay38 k0_pay33 k0_pay34 k0_pay35 k0_pay37 k0_pay36
  exact cat_at (a := fun g r l => turnB (fun l => q r (groupAt g l)) (cT r) (sT r) l) (turn_at maskK hc hs (slice0 hq)) (turn_at maskK hc hs (slice1 hq)) (turn_at maskK hc hs (slice2 hq)) (turn_at maskK hc hs (slice3 hq)) (turn_at maskK hc hs (slice4 hq)) (turn_at maskK hc hs (slice5 hq)) r j

end whole

theorem join_at {v384 : Vec Ideal S512x256 .bf16} {v385 v386 v387 : FVec Ideal S512x768 .bf16} {u : Fin 512 → Fin 256 → EReal} {q k v : Fin 512 → Fin 768 → EReal}
    (hu : ∀ r j, v384 (ix2 r j) = u r j) (hq : ∀ r j, v385 (ix2 r j) = q r j) (hk : ∀ r j, v386 (ix2 r j) = k r j) (hv : ∀ r j, v387 (ix2 r j) = v r j) (r : Fin 512) (n : Fin 2560) :
    (k0_pay1 (F := Ideal) v384 v385 v386 v387) (ix2 r n) = joinE (u r) (q r) (k r) (v r) n := by
  unfold k0_pay1
  pointwise
  unfold joinE
  by_cases h : n.val < 256
  · rw [dif_pos h, dif_pos h]
    exact hu r _
  rw [dif_neg h, dif_neg h]
  by_cases h1 : n.val - 256 < 768
  · rw [dif_pos h1, dif_pos h1]
    exact hq r _
  rw [dif_neg h1, dif_neg h1]
  by_cases h2 : n.val - 256 - 768 < 768
  · rw [dif_pos h2, dif_pos h2]
    exact hk r _
  rw [dif_neg h2, dif_neg h2]
  exact hv r _

theorem pay2_at {v : Vec Ideal S512x128 .f32} (i : S512x128.Idx) : (k0_pay2 (F := Ideal) v) i = v i := by
  unfold k0_pay2
  pointwise
theorem pay3_at {v : Vec Ideal S512x128 .f32} (i : S512x128.Idx) : (k0_pay3 (F := Ideal) v) i = v i := by
  unfold k0_pay3
  pointwise

end Cert.DProjIdeal.Comb
end
-- ==== Proof.DFwd.lean ====
module
public import proofs.«01_k».proof.Proof.DComb
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline
namespace Cert.DProjIdeal.Comb
open Cert.DProjIdeal Cert.DProjIdeal.Gen Cert.FfnMath Cert.NormMath Cert.ProjFIdeal.Fwd

/-! # The gradients set side by side: from blocks of tokens to the array -/

variable (m : (ℓ : Loc nD τ sig) → Buf (Elt Ideal) ℓ) (c : Dev nD)

theorem row_lt (t : Fin cfg0.N) (r : Fin 512) : t.val * 512 + r.val < 8192 := by
  have := lt_of_lt_of_eq t.isLt (show cfg0.N = 16 from N_0)
  omega

/-- The token a block's row holds. -/
def row (t : Fin cfg0.N) (r : Fin 512) : Fin 8192 := ⟨t.val * 512 + r.val, row_lt t r⟩

theorem index_0 : ∀ t : Fin cfg0.N, (cfg0.win 0).index t = ![t.val, 0] := by decide +kernel
abbrev matU : Fin 8192 → Fin 256 → EReal := fun i j => (m ((c : Thread nD τ).loc main_arg0) : S8192x256.Idx → EReal) (ix2 i j)
theorem at0 (t : Fin cfg0.N) (r : Fin 512) (k : Fin 256) : (iblk m c 0 t : S512x256.Idx → EReal) (ix2 r k) = matU m c (row t r) k := by
  have hk : (row t r).val = t.val * 512 + r.val := rfl
  blk_ext [iblk, index_0 t, V_main_arg0]

theorem index_1 : ∀ t : Fin cfg0.N, (cfg0.win 1).index t = ![0, t.val, 0] := by decide +kernel
abbrev mat1 : Fin 6 → Fin 8192 → Fin 128 → EReal := fun g i j => (m ((c : Thread nD τ).loc main_arg1) : S6x8192x128.Idx → EReal) (ix3 g i j)
theorem at1 (t : Fin cfg0.N) (g : Fin 6) (r : Fin 512) (k : Fin 128) : (iblk m c 1 t : S6x512x128.Idx → EReal) (ix3 g r k) = mat1 m c g (row t r) k := by
  have hk : (row t r).val = t.val * 512 + r.val := rfl
  blk_ext [iblk, index_1 t, V_main_arg1]

theorem index_2 : ∀ t : Fin cfg0.N, (cfg0.win 2).index t = ![0, t.val, 0] := by decide +kernel
abbrev mat2 : Fin 6 → Fin 8192 → Fin 128 → EReal := fun g i j => (m ((c : Thread nD τ).loc main_arg2) : S6x8192x128.Idx → EReal) (ix3 g i j)
theorem at2 (t : Fin cfg0.N) (g : Fin 6) (r : Fin 512) (k : Fin 128) : (iblk m c 2 t : S6x512x128.Idx → EReal) (ix3 g r k) = mat2 m c g (row t r) k := by
  have hk : (row t r).val = t.val * 512 + r.val := rfl
  blk_ext [iblk, index_2 t, V_main_arg2]

theorem index_3 : ∀ t : Fin cfg0.N, (cfg0.win 3).index t = ![0, t.val, 0] := by decide +kernel
abbrev mat3 : Fin 6 → Fin 8192 → Fin 128 → EReal := fun g i j => (m ((c : Thread nD τ).loc main_arg3) : S6x8192x128.Idx → EReal) (ix3 g i j)
theorem at3 (t : Fin cfg0.N) (g : Fin 6) (r : Fin 512) (k : Fin 128) : (iblk m c 3 t : S6x512x128.Idx → EReal) (ix3 g r k) = mat3 m c g (row t r) k := by
  have hk : (row t r).val = t.val * 512 + r.val := rfl
  blk_ext [iblk, index_3 t, V_main_arg3]

theorem index_4 : ∀ t : Fin cfg0.N, (cfg0.win 4).index t = ![0, t.val, 0] := by decide +kernel
abbrev mat4 : Fin 6 → Fin 8192 → Fin 128 → EReal := fun g i j => (m ((c : Thread nD τ).loc main_arg4) : S6x8192x128.Idx → EReal) (ix3 g i j)
theorem at4 (t : Fin cfg0.N) (g : Fin 6) (r : Fin 512) (k : Fin 128) : (iblk m c 4 t : S6x512x128.Idx → EReal) (ix3 g r k) = mat4 m c g (row t r) k := by
  have hk : (row t r).val = t.val * 512 + r.val := rfl
  blk_ext [iblk, index_4 t, V_main_arg4]

theorem index_5 : ∀ t : Fin cfg0.N, (cfg0.win 5).index t = ![0, t.val, 0] := by decide +kernel
abbrev mat5 : Fin 6 → Fin 8192 → Fin 128 → EReal := fun g i j => (m ((c : Thread nD τ).loc main_arg5) : S6x8192x128.Idx → EReal) (ix3 g i j)
theorem at5 (t : Fin cfg0.N) (g : Fin 6) (r : Fin 512) (k : Fin 128) : (iblk m c 5 t : S6x512x128.Idx → EReal) (ix3 g r k) = mat5 m c g (row t r) k := by
  have hk : (row t r).val = t.val * 512 + r.val := rfl
  blk_ext [iblk, index_5 t, V_main_arg5]

theorem index_6 : ∀ t : Fin cfg0.N, (cfg0.win 6).index t = ![0, t.val, 0] := by decide +kernel
abbrev mat6 : Fin 6 → Fin 8192 → Fin 128 → EReal := fun g i j => (m ((c : Thread nD τ).loc main_arg6) : S6x8192x128.Idx → EReal) (ix3 g i j)
theorem at6 (t : Fin cfg0.N) (g : Fin 6) (r : Fin 512) (k : Fin 128) : (iblk m c 6 t : S6x512x128.Idx → EReal) (ix3 g r k) = mat6 m c g (row t r) k := by
  have hk : (row t r).val = t.val * 512 + r.val := rfl
  blk_ext [iblk, index_6 t, V_main_arg6]

theorem index_7 : ∀ t : Fin cfg0.N, (cfg0.win 7).index t = ![0, t.val, 0] := by decide +kernel
abbrev mat7 : Fin 6 → Fin 8192 → Fin 128 → EReal := fun g i j => (m ((c : Thread nD τ).loc main_arg7) : S6x8192x128.Idx → EReal) (ix3 g i j)
theorem at7 (t : Fin cfg0.N) (g : Fin 6) (r : Fin 512) (k : Fin 128) : (iblk m c 7 t : S6x512x128.Idx → EReal) (ix3 g r k) = mat7 m c g (row t r) k := by
  have hk : (row t r).val = t.val * 512 + r.val := rfl
  blk_ext [iblk, index_7 t, V_main_arg7]

theorem index_8 : ∀ t : Fin cfg0.N, (cfg0.win 8).index t = ![0, t.val, 0] := by decide +kernel
abbrev mat8 : Fin 6 → Fin 8192 → Fin 128 → EReal := fun g i j => (m ((c : Thread nD τ).loc main_arg8) : S6x8192x128.Idx → EReal) (ix3 g i j)
theorem at8 (t : Fin cfg0.N) (g : Fin 6) (r : Fin 512) (k : Fin 128) : (iblk m c 8 t : S6x512x128.Idx → EReal) (ix3 g r k) = mat8 m c g (row t r) k := by
  have hk : (row t r).val = t.val * 512 + r.val := rfl
  blk_ext [iblk, index_8 t, V_main_arg8]

theorem index_9 : ∀ t : Fin cfg0.N, (cfg0.win 9).index t = ![0, t.val, 0] := by decide +kernel
abbrev mat9 : Fin 6 → Fin 8192 → Fin 128 → EReal := fun g i j => (m ((c : Thread nD τ).loc main_arg9) : S6x8192x128.Idx → EReal) (ix3 g i j)
theorem at9 (t : Fin cfg0.N) (g : Fin 6) (r : Fin 512) (k : Fin 128) : (iblk m c 9 t : S6x512x128.Idx → EReal) (ix3 g r k) = mat9 m c g (row t r) k := by
  have hk : (row t r).val = t.val * 512 + r.val := rfl
  blk_ext [iblk, index_9 t, V_main_arg9]

theorem index_10 : ∀ t : Fin cfg0.N, (cfg0.win 10).index t = ![0, t.val, 0] := by decide +kernel
abbrev mat10 : Fin 6 → Fin 8192 → Fin 128 → EReal := fun g i j => (m ((c : Thread nD τ).loc main_arg10) : S6x8192x128.Idx → EReal) (ix3 g i j)
theorem at10 (t : Fin cfg0.N) (g : Fin 6) (r : Fin 512) (k : Fin 128) : (iblk m c 10 t : S6x512x128.Idx → EReal) (ix3 g r k) = mat10 m c g (row t r) k := by
  have hk : (row t r).val = t.val * 512 + r.val := rfl
  blk_ext [iblk, index_10 t, V_main_arg10]

theorem index_11 : ∀ t : Fin cfg0.N, (cfg0.win 11).index t = ![0, t.val, 0] := by decide +kernel
abbrev mat11 : Fin 6 → Fin 8192 → Fin 128 → EReal := fun g i j => (m ((c : Thread nD τ).loc main_arg11) : S6x8192x128.Idx → EReal) (ix3 g i j)
theorem at11 (t : Fin cfg0.N) (g : Fin 6) (r : Fin 512) (k : Fin 128) : (iblk m c 11 t : S6x512x128.Idx → EReal) (ix3 g r k) = mat11 m c g (row t r) k := by
  have hk : (row t r).val = t.val * 512 + r.val := rfl
  blk_ext [iblk, index_11 t, V_main_arg11]

theorem index_12 : ∀ t : Fin cfg0.N, (cfg0.win 12).index t = ![0, t.val, 0] := by decide +kernel
abbrev mat12 : Fin 6 → Fin 8192 → Fin 128 → EReal := fun g i j => (m ((c : Thread nD τ).loc main_arg12) : S6x8192x128.Idx → EReal) (ix3 g i j)
theorem at12 (t : Fin cfg0.N) (g : Fin 6) (r : Fin 512) (k : Fin 128) : (iblk m c 12 t : S6x512x128.Idx → EReal) (ix3 g r k) = mat12 m c g (row t r) k := by
  have hk : (row t r).val = t.val * 512 + r.val := rfl
  blk_ext [iblk, index_12 t, V_main_arg12]

theorem index_13 : ∀ t : Fin cfg0.N, (cfg0.win 13).index t = ![0, t.val, 0] := by decide +kernel
abbrev mat13 : Fin 6 → Fin 8192 → Fin 128 → EReal := fun g i j => (m ((c : Thread nD τ).loc main_arg13) : S6x8192x128.Idx → EReal) (ix3 g i j)
theorem at13 (t : Fin cfg0.N) (g : Fin 6) (r : Fin 512) (k : Fin 128) : (iblk m c 13 t : S6x512x128.Idx → EReal) (ix3 g r k) = mat13 m c g (row t r) k := by
  have hk : (row t r).val = t.val * 512 + r.val := rfl
  blk_ext [iblk, index_13 t, V_main_arg13]

theorem index_14 : ∀ t : Fin cfg0.N, (cfg0.win 14).index t = ![0, t.val, 0] := by decide +kernel
abbrev mat14 : Fin 6 → Fin 8192 → Fin 128 → EReal := fun g i j => (m ((c : Thread nD τ).loc main_arg14) : S6x8192x128.Idx → EReal) (ix3 g i j)
theorem at14 (t : Fin cfg0.N) (g : Fin 6) (r : Fin 512) (k : Fin 128) : (iblk m c 14 t : S6x512x128.Idx → EReal) (ix3 g r k) = mat14 m c g (row t r) k := by
  have hk : (row t r).val = t.val * 512 + r.val := rfl
  blk_ext [iblk, index_14 t, V_main_arg14]

theorem index_15 : ∀ t : Fin cfg0.N, (cfg0.win 15).index t = ![0, t.val, 0] := by decide +kernel
abbrev mat15 : Fin 6 → Fin 8192 → Fin 128 → EReal := fun g i j => (m ((c : Thread nD τ).loc main_arg15) : S6x8192x128.Idx → EReal) (ix3 g i j)
theorem at15 (t : Fin cfg0.N) (g : Fin 6) (r : Fin 512) (k : Fin 128) : (iblk m c 15 t : S6x512x128.Idx → EReal) (ix3 g r k) = mat15 m c g (row t r) k := by
  have hk : (row t r).val = t.val * 512 + r.val := rfl
  blk_ext [iblk, index_15 t, V_main_arg15]

theorem index_16 : ∀ t : Fin cfg0.N, (cfg0.win 16).index t = ![t.val, 0] := by decide +kernel
abbrev matC : Fin 8192 → Fin 128 → EReal := fun i j => (V (F := Ideal) m c main_v23 : S8192x128.Idx → EReal) (ix2 i j)
theorem at16 (t : Fin cfg0.N) (r : Fin 512) (k : Fin 128) : (iblk m c 16 t : S512x128.Idx → EReal) (ix2 r k) = matC m c (row t r) k := by
  have hk : (row t r).val = t.val * 512 + r.val := rfl
  blk_ext [iblk, index_16 t]

theorem index_17 : ∀ t : Fin cfg0.N, (cfg0.win 17).index t = ![t.val, 0] := by decide +kernel
abbrev matS : Fin 8192 → Fin 128 → EReal := fun i j => (V (F := Ideal) m c main_v27 : S8192x128.Idx → EReal) (ix2 i j)
theorem at17 (t : Fin cfg0.N) (r : Fin 512) (k : Fin 128) : (iblk m c 17 t : S512x128.Idx → EReal) (ix2 r k) = matS m c (row t r) k := by
  have hk : (row t r).val = t.val * 512 + r.val := rfl
  blk_ext [iblk, index_17 t]

theorem cos_table (i : Fin 8192) (l : Fin 128) : matC m c i l = cosR i ⟨l.val % 32, by omega⟩ := by
  show (V (F := Ideal) m c main_v23 : S8192x128.Idx → EReal) (ix2 i l) = _
  unfold_abbrev_sides
  after_results
  pointwise
  rfl

theorem sin_table (i : Fin 8192) (l : Fin 128) : matS m c i l = sinR i ⟨l.val % 32, by omega⟩ * signE l := by
  show (V (F := Ideal) m c main_v27 : S8192x128.Idx → EReal) (ix2 i l) = _
  unfold_abbrev_sides
  after_results
  pointwise
  refine congrArg (fun a : EReal => Ideal.sin (tokE i * freqE ⟨l.val % 32, by omega⟩) * a) ?_
  unfold signE
  rw [one_e]
  by_cases h : l.val % 64 < 32
  · rw [dif_pos h, if_pos h]
  · rw [dif_neg h, if_neg h]

/-- The sums of the branches' gradients of the queries, of the keys and of the values. -/
def gradQ (A1 A2 A3 : Fin 6 → Fin 8192 → Fin 128 → EReal) (i : Fin 8192) (j : Fin 768) : EReal := wideOf A1 i j + wideOf A2 i j + wideOf A3 i j
def gradK (A1 A2 A3 B1 B2 B3 : Fin 6 → Fin 8192 → Fin 128 → EReal) (i : Fin 8192) (j : Fin 768) : EReal := (wideOf A1 i j + wideOf B1 i j) + (wideOf A2 i j + wideOf B2 i j) + (wideOf A3 i j + wideOf B3 i j)
theorem gradK_eq (A1 A2 A3 B1 B2 B3 : Fin 6 → Fin 8192 → Fin 128 → EReal) (i : Fin 8192) (j : Fin 768) :
    (0 + wideOf A1 i j + wideOf A2 i j + wideOf A3 i j) + (0 + wideOf B1 i j + wideOf B2 i j + wideOf B3 i j) = gradK A1 A2 A3 B1 B2 B3 i j := by
  unfold gradK
  rw [zero_add, zero_add, add_add_add_comm, add_add_add_comm (wideOf A1 i j)]

abbrev dQ := gradQ (mat1 m c) (mat2 m c) (mat3 m c)
abbrev dK := gradK (mat4 m c) (mat5 m c) (mat6 m c) (mat7 m c) (mat8 m c) (mat9 m c)
abbrev dV := gradK (mat10 m c) (mat11 m c) (mat12 m c) (mat13 m c) (mat14 m c) (mat15 m c)

/-- The gradient of the product's output. -/
abbrev resD (i : Fin 8192) (n : Fin 2560) : EReal := joinE (matU m c i) (backE (dQ m c i) (cosR i) (sinR i)) (backE (dK m c i) (cosR i) (sinR i)) (dV m c i) n

theorem tableC (t : Fin cfg0.N) (r : Fin 512) (l : Fin 128) : (k0_pay2 (F := Ideal) (iblk m c 16 t)) (ix2 r l) = matC m c (row t r) l := (pay2_at _).trans (at16 m c t r l)
theorem tableS (t : Fin cfg0.N) (r : Fin 512) (l : Fin 128) : (k0_pay3 (F := Ideal) (iblk m c 17 t)) (ix2 r l) = matS m c (row t r) l := (pay3_at _).trans (at17 m c t r l)

theorem after_18 (t : Fin cfg0.N) (r : Fin 512) (n : Fin 2560) : (dats m 0 c).after 18 t (ix2 r n) = resD m c (row t r) n := by
  rw [after0_18]
  unfold_out out0_18
  frame_out
  exact join_at (u := fun r => matU m c (row t r)) (q := fun r => backE (dQ m c (row t r)) (cosR (row t r)) (sinR (row t r))) (k := fun r => backE (dK m c (row t r)) (cosR (row t r)) (sinR (row t r))) (v := fun r => dV m c (row t r))
    (at0 m c t)
    (fun r j => (turnQ (q := fun r => dQ m c (row t r)) (tableC m c t) (tableS m c t) (fun r j => (sumQ (at1 m c t) (at2 m c t) (at3 m c t) r j).trans (by rw [zero_add]; rfl)) r j).trans (turned_back _ _ _ _ _ j (cos_table m c (row t r)) (sin_table m c (row t r))))
    (fun r j => (turnK (q := fun r => dK m c (row t r)) (tableC m c t) (tableS m c t) (fun r j => (sumK (at4 m c t) (at5 m c t) (at6 m c t) (at7 m c t) (at8 m c t) (at9 m c t) r j).trans (gradK_eq _ _ _ _ _ _ (row t r) j)) r j).trans (turned_back _ _ _ _ _ j (cos_table m c (row t r)) (sin_table m c (row t r))))
    (fun r j => (sumV (at10 m c t) (at11 m c t) (at12 m c t) (at13 m c t) (at14 m c t) (at15 m c t) r j).trans (gradK_eq _ _ _ _ _ _ (row t r) j)) r n

theorem index_18 : ∀ t : Fin cfg0.N, (cfg0.win 18).index t = ![t.val, 0] := by decide +kernel
theorem array_18 : (dats m 0 c).arrAt 18 cfg0.N = (fun i => resD m c (i 0) (i 1) : S8192x2560.Idx → EReal) := by
  refine Dat.arrAt_eq_of_covers (dats m 0 c) 18 _ (by decide +kernel) fun t hf y => ?_
  have e : (dats m 0 c).after 18 t y = resD m c (row t (y 0)) (y 1) :=
    (congrArg ((dats m 0 c).after 18 t) (ix2_eta y).symm).trans (after_18 m c t (y 0) (y 1))
  blk_simp
  rw [e]
  refine congrArg₂ (fun (a : Fin 8192) (b : Fin 2560) => resD m c a b) (Fin.ext ?_) (Fin.ext ?_) <;> blk_simp [index_18 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v28) = (fun i => resD m c (i 0) (i 1) : S8192x2560.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run _ _ _).mono (fun r h c => by
    obtain ⟨h18, hr⟩ := h c
    exact ⟨h18.trans (array_18 m c), hr⟩) (Value.run_blocks (F := Ideal) m ρ)

end Cert.DProjIdeal.Comb
end
-- ==== Proof.DFwdRef.lean ====
module
public import proofs.«01_k».proof.Proof.Gen.RDProjIdeal.Read
public import proofs.«01_k».proof.Proof.DFwd
public import Idealize.ShloMosaic.Lib.Pointwise
@[expose] public section
set_option maxRecDepth 16384
noncomputable section
open Idealize.ShloMosaic Idealize.ShloMosaic.TcCoe Idealize.SL.Sem
namespace Cert.RDProjIdeal.Whole
open Cert.RDProjIdeal Cert.RDProjIdeal.Gen Cert.RDProjIdeal.Read Cert.FfnMath Cert.NormMath Cert.ProjFIdeal.Fwd Cert.DProjIdeal.Comb

/-! # The reference of the gradients set side by side -/

section halves
open Idealize.ShloMosaic.Tactic
variable (x y : FVec Ideal S8192x12x32 .f32) (a : Fin 8192) (b : Fin 12) (d : Fin 32)
theorem low_half : concatenate S8192x12x64 2 [⟨S8192x12x32, x⟩, ⟨S8192x12x32, y⟩] concatenates_S8192x12x32_S8192x12x32_S8192x12x64_d2 (ix3 a b (lowAt d)) = x (ix3 a b d) := by
  pointwise
  have h : (lowAt d).val < 32 := d.isLt
  rw [dif_pos h]
  rfl
theorem high_half : concatenate S8192x12x64 2 [⟨S8192x12x32, x⟩, ⟨S8192x12x32, y⟩] concatenates_S8192x12x32_S8192x12x32_S8192x12x64_d2 (ix3 a b (highAt d)) = y (ix3 a b d) := by
  pointwise
  have h : ¬(highAt d).val < 32 := by show ¬(32 + d.val < 32); omega
  rw [dif_neg h]
  exact congrArg y (congrArg (ix3 a b) (Fin.ext (by show 32 + d.val - 32 = d.val; omega)))
theorem join_row {x0 : FVec Ideal S8192x256 .bf16} {x1 x2 x3 : FVec Ideal S8192x768 .bf16} {u : Fin 8192 → Fin 256 → EReal} {q k v : Fin 8192 → Fin 768 → EReal}
    (hu : ∀ r j, x0 (ix2 r j) = u r j) (hq : ∀ r j, x1 (ix2 r j) = q r j) (hk : ∀ r j, x2 (ix2 r j) = k r j) (hv : ∀ r j, x3 (ix2 r j) = v r j) (r : Fin 8192) (n : Fin 2560) :
    (concatenate S8192x2560 1 [⟨S8192x256, x0⟩, ⟨S8192x768, x1⟩, ⟨S8192x768, x2⟩, ⟨S8192x768, x3⟩] concatenates_S8192x256_S8192x768_S8192x768_S8192x768_S8192x2560_d1) (ix2 r n) = joinE (u r) (q r) (k r) (v r) n := by
  pointwise
  unfold joinE
  by_cases h : n.val < 256
  · rw [dif_pos h, dif_pos h]
    exact hu r _
  rw [dif_neg h, dif_neg h]
  by_cases h1 : n.val - 256 < 768
  · rw [dif_pos h1, dif_pos h1]
    exact hq r _
  rw [dif_neg h1, dif_neg h1]
  by_cases h2 : n.val - 256 - 768 < 768
  · rw [dif_pos h2, dif_pos h2]
    exact hk r _
  rw [dif_neg h2, dif_neg h2]
  exact hv r _
end halves

abbrev C : Type := S6x8192x128.Idx → EReal
abbrev arr (x : C) : Fin 6 → Fin 8192 → Fin 128 → EReal := fun g i l => x (ix3 g i l)
theorem wide_of (x : C) (i : S8192x768.Idx) (k : S6x8192x128.Idx) (h0 : (k 0).val = ((i 0).val * 768 + (i 1).val) / 128 % 6) (h1 : (k 1).val = ((i 0).val * 768 + (i 1).val) / 768) (h2 : (k 2).val = ((i 0).val * 768 + (i 1).val) % 128) :
    x k = wideOf (arr x) (i 0) (i 1) := by
  have l1 : (i 1).val < 768 := (i 1).isLt
  refine congrArg x (funext fun a => match a with
    | ⟨0, _⟩ => Fin.ext (h0.trans ?_)
    | ⟨1, _⟩ => Fin.ext (h1.trans ?_)
    | ⟨2, _⟩ => Fin.ext (h2.trans ?_))
  · show ((i 0).val * 768 + (i 1).val) / 128 % 6 = (i 1).val / 128
    omega
  · show ((i 0).val * 768 + (i 1).val) / 768 = (i 0).val
    omega
  · show ((i 0).val * 768 + (i 1).val) % 128 = (i 1).val % 128
    omega
theorem head_of (q : Fin 8192 → Fin 768 → EReal) (i : S8192x12x64.Idx) (k : S8192x768.Idx) (h0 : (k 0).val = (((i 0).val * 12 + (i 1).val) * 64 + (i 2).val) / 768) (h1 : (k 1).val = (((i 0).val * 12 + (i 1).val) * 64 + (i 2).val) % 768) :
    q (k 0) (k 1) = q (i 0) (headAt (i 1) (i 2)) := by
  have l1 : (i 1).val < 12 := (i 1).isLt
  have l2 : (i 2).val < 64 := (i 2).isLt
  refine congrArg₂ (fun (a : Fin 8192) (b : Fin 768) => q a b) (Fin.ext (h0.trans ?_)) (Fin.ext (h1.trans ?_))
  · omega
  · show (((i 0).val * 12 + (i 1).val) * 64 + (i 2).val) % 768 = 64 * (i 1).val + (i 2).val
    omega

abbrev gradQR (x1 x2 x3 : C) := gradQ (arr x1) (arr x2) (arr x3)
abbrev gradKR (x4 x5 x6 x7 x8 x9 : C) := gradK (arr x4) (arr x5) (arr x6) (arr x7) (arr x8) (arr x9)
variable (x1 x2 x3 x4 x5 x6 x7 x8 x9 x10 x11 x12 x13 x14 x15 : C)

theorem wide1 (x : C) (i : S8192x768.Idx) : val_main_v2 (F := Ideal) x i = wideOf (arr x) (i 0) (i 1) := by
  refine Eq.trans (val_main_v2_apply (F := Ideal) x i) ?_
  show (val_main_v1 (F := Ideal) x i : EReal) = _
  exact Eq.trans (val_main_v1_apply (F := Ideal) x i) (Eq.trans (val_main_v0_apply (F := Ideal) x _) (wide_of x i _ rfl rfl rfl))
theorem wide2 (x : C) (i : S8192x768.Idx) : val_main_v5 (F := Ideal) x i = wideOf (arr x) (i 0) (i 1) := by
  refine Eq.trans (val_main_v5_apply (F := Ideal) x i) ?_
  show (val_main_v4 (F := Ideal) x i : EReal) = _
  exact Eq.trans (val_main_v4_apply (F := Ideal) x i) (Eq.trans (val_main_v3_apply (F := Ideal) x _) (wide_of x i _ rfl rfl rfl))
theorem wide3 (x : C) (i : S8192x768.Idx) : val_main_v9 (F := Ideal) x i = wideOf (arr x) (i 0) (i 1) := by
  refine Eq.trans (val_main_v9_apply (F := Ideal) x i) ?_
  show (val_main_v8 (F := Ideal) x i : EReal) = _
  exact Eq.trans (val_main_v8_apply (F := Ideal) x i) (Eq.trans (val_main_v7_apply (F := Ideal) x _) (wide_of x i _ rfl rfl rfl))
theorem wide4 (x : C) (i : S8192x768.Idx) : val_main_v13 (F := Ideal) x i = wideOf (arr x) (i 0) (i 1) := by
  refine Eq.trans (val_main_v13_apply (F := Ideal) x i) ?_
  show (val_main_v12 (F := Ideal) x i : EReal) = _
  exact Eq.trans (val_main_v12_apply (F := Ideal) x i) (Eq.trans (val_main_v11_apply (F := Ideal) x _) (wide_of x i _ rfl rfl rfl))
theorem wide5 (x : C) (i : S8192x768.Idx) : val_main_v20 (F := Ideal) x i = wideOf (arr x) (i 0) (i 1) := by
  refine Eq.trans (val_main_v20_apply (F := Ideal) x i) ?_
  show (val_main_v19 (F := Ideal) x i : EReal) = _
  exact Eq.trans (val_main_v19_apply (F := Ideal) x i) (Eq.trans (val_main_v18_apply (F := Ideal) x _) (wide_of x i _ rfl rfl rfl))
theorem wide6 (x : C) (i : S8192x768.Idx) : val_main_v28 (F := Ideal) x i = wideOf (arr x) (i 0) (i 1) := by
  refine Eq.trans (val_main_v28_apply (F := Ideal) x i) ?_
  show (val_main_v27 (F := Ideal) x i : EReal) = _
  exact Eq.trans (val_main_v27_apply (F := Ideal) x i) (Eq.trans (val_main_v26_apply (F := Ideal) x _) (wide_of x i _ rfl rfl rfl))
theorem wide7 (x : C) (i : S8192x768.Idx) : val_main_v16 (F := Ideal) x i = wideOf (arr x) (i 0) (i 1) := by
  refine Eq.trans (val_main_v16_apply (F := Ideal) x i) ?_
  show (val_main_v15 (F := Ideal) x i : EReal) = _
  exact Eq.trans (val_main_v15_apply (F := Ideal) x i) (Eq.trans (val_main_v14_apply (F := Ideal) x _) (wide_of x i _ rfl rfl rfl))
theorem wide8 (x : C) (i : S8192x768.Idx) : val_main_v23 (F := Ideal) x i = wideOf (arr x) (i 0) (i 1) := by
  refine Eq.trans (val_main_v23_apply (F := Ideal) x i) ?_
  show (val_main_v22 (F := Ideal) x i : EReal) = _
  exact Eq.trans (val_main_v22_apply (F := Ideal) x i) (Eq.trans (val_main_v21_apply (F := Ideal) x _) (wide_of x i _ rfl rfl rfl))
theorem wide9 (x : C) (i : S8192x768.Idx) : val_main_v31 (F := Ideal) x i = wideOf (arr x) (i 0) (i 1) := by
  refine Eq.trans (val_main_v31_apply (F := Ideal) x i) ?_
  show (val_main_v30 (F := Ideal) x i : EReal) = _
  exact Eq.trans (val_main_v30_apply (F := Ideal) x i) (Eq.trans (val_main_v29_apply (F := Ideal) x _) (wide_of x i _ rfl rfl rfl))
theorem wide10 (x : C) (i : S8192x768.Idx) : val_main_v36 (F := Ideal) x i = wideOf (arr x) (i 0) (i 1) := by
  refine Eq.trans (val_main_v36_apply (F := Ideal) x i) ?_
  show (val_main_v35 (F := Ideal) x i : EReal) = _
  exact Eq.trans (val_main_v35_apply (F := Ideal) x i) (Eq.trans (val_main_v34_apply (F := Ideal) x _) (wide_of x i _ rfl rfl rfl))
theorem wide11 (x : C) (i : S8192x768.Idx) : val_main_v43 (F := Ideal) x i = wideOf (arr x) (i 0) (i 1) := by
  refine Eq.trans (val_main_v43_apply (F := Ideal) x i) ?_
  show (val_main_v42 (F := Ideal) x i : EReal) = _
  exact Eq.trans (val_main_v42_apply (F := Ideal) x i) (Eq.trans (val_main_v41_apply (F := Ideal) x _) (wide_of x i _ rfl rfl rfl))
theorem wide12 (x : C) (i : S8192x768.Idx) : val_main_v51 (F := Ideal) x i = wideOf (arr x) (i 0) (i 1) := by
  refine Eq.trans (val_main_v51_apply (F := Ideal) x i) ?_
  show (val_main_v50 (F := Ideal) x i : EReal) = _
  exact Eq.trans (val_main_v50_apply (F := Ideal) x i) (Eq.trans (val_main_v49_apply (F := Ideal) x _) (wide_of x i _ rfl rfl rfl))
theorem wide13 (x : C) (i : S8192x768.Idx) : val_main_v39 (F := Ideal) x i = wideOf (arr x) (i 0) (i 1) := by
  refine Eq.trans (val_main_v39_apply (F := Ideal) x i) ?_
  show (val_main_v38 (F := Ideal) x i : EReal) = _
  exact Eq.trans (val_main_v38_apply (F := Ideal) x i) (Eq.trans (val_main_v37_apply (F := Ideal) x _) (wide_of x i _ rfl rfl rfl))
theorem wide14 (x : C) (i : S8192x768.Idx) : val_main_v46 (F := Ideal) x i = wideOf (arr x) (i 0) (i 1) := by
  refine Eq.trans (val_main_v46_apply (F := Ideal) x i) ?_
  show (val_main_v45 (F := Ideal) x i : EReal) = _
  exact Eq.trans (val_main_v45_apply (F := Ideal) x i) (Eq.trans (val_main_v44_apply (F := Ideal) x _) (wide_of x i _ rfl rfl rfl))
theorem wide15 (x : C) (i : S8192x768.Idx) : val_main_v54 (F := Ideal) x i = wideOf (arr x) (i 0) (i 1) := by
  refine Eq.trans (val_main_v54_apply (F := Ideal) x i) ?_
  show (val_main_v53 (F := Ideal) x i : EReal) = _
  exact Eq.trans (val_main_v53_apply (F := Ideal) x i) (Eq.trans (val_main_v52_apply (F := Ideal) x _) (wide_of x i _ rfl rfl rfl))
theorem r_v10 (i : S8192x768.Idx) : val_main_v10 (F := Ideal) x1 x2 x3 i = gradQ (arr x1) (arr x2) (arr x3) (i 0) (i 1) :=
  (val_main_v10_apply _ _ _ i).trans (add_e ((val_main_v6_apply _ _ i).trans (add_e (wide1 x1 i) (wide2 x2 i))) (wide3 x3 i))
theorem r_v33 (i : S8192x768.Idx) : val_main_v33 (F := Ideal) x4 x5 x6 x7 x8 x9 i = gradK (arr x4) (arr x5) (arr x6) (arr x7) (arr x8) (arr x9) (i 0) (i 1) :=
  (val_main_v33_apply _ _ _ _ _ _ i).trans (add_e ((val_main_v25_apply _ _ _ _ i).trans (add_e ((val_main_v17_apply _ _ i).trans (add_e (wide4 x4 i) (wide7 x7 i))) ((val_main_v24_apply _ _ i).trans (add_e (wide5 x5 i) (wide8 x8 i)))))
    ((val_main_v32_apply _ _ i).trans (add_e (wide6 x6 i) (wide9 x9 i))))
theorem r_v56 (i : S8192x768.Idx) : val_main_v56 (F := Ideal) x10 x11 x12 x13 x14 x15 i = gradK (arr x10) (arr x11) (arr x12) (arr x13) (arr x14) (arr x15) (i 0) (i 1) :=
  (val_main_v56_apply _ _ _ _ _ _ i).trans (add_e ((val_main_v48_apply _ _ _ _ i).trans (add_e ((val_main_v40_apply _ _ i).trans (add_e (wide10 x10 i) (wide13 x13 i))) ((val_main_v47_apply _ _ i).trans (add_e (wide11 x11 i) (wide14 x14 i)))))
    ((val_main_v55_apply _ _ i).trans (add_e (wide12 x12 i) (wide15 x15 i))))

theorem flat_of (f : Fin 8192 → Fin 768 → EReal) (r : Fin 8192) (j : Fin 768) (k : S8192x12x64.Idx) (h0 : (k 0).val = (r.val * 768 + j.val) / 768) (h1 : (k 1).val = (r.val * 768 + j.val) / 64 % 12) (h2 : (k 2).val = (r.val * 768 + j.val) % 64) :
    f (k 0) (headAt (k 1) (k 2)) = f r j := by
  refine congrArg₂ (fun (a : Fin 8192) (b : Fin 768) => f a b) (Fin.ext (h0.trans ?_)) (Fin.ext ?_)
  · omega
  · show 64 * (k 1).val + (k 2).val = j.val
    omega

/-! ## The rotary embedding's gradient: the queries -/
theorem tq_1 (i : S32.Idx) : val_main_v58 (F := Ideal) i = -laneE (i 0) := (val_main_v58_apply i).trans rfl
theorem tq_3 (i : S32.Idx) : val_main_v60 (F := Ideal) i = -laneE (i 0) * Ideal.ofBits .f32 0x3D000000#32 :=
  (val_main_v60_apply i).trans (mul_e (tq_1 i) ((val_main_v59_apply i).trans ((val_main_cst_apply _).trans rfl)))
theorem tq_5 (i : S32.Idx) : val_main_v62 (F := Ideal) i = freqE (i 0) :=
  (val_main_v62_apply i).trans (congrArg₂ Ideal.pow ((val_main_v61_apply i).trans ((val_main_cst_0_apply _).trans rfl)) (tq_3 i))
theorem tq_7 (i : S8192.Idx) : val_main_v64 (F := Ideal) i = tokE (i 0) := (val_main_v64_apply i).trans rfl
theorem tq_12 (i : S8192x32.Idx) : val_main_v69 (F := Ideal) i = tokE (i 0) * freqE (i 1) :=
  (val_main_v69_apply i).trans (mul_e ((val_main_v67_apply i).trans ((val_main_v65_apply _).trans (tq_7 _))) ((val_main_v68_apply i).trans ((val_main_v66_apply _).trans (tq_5 _))))
theorem tq_14 (i : S8192x1x32.Idx) : val_main_v71 (F := Ideal) i = cosR (i 0) (i 2) :=
  (val_main_v71_apply i).trans ((val_main_v70_apply _).trans (congrArg Ideal.cos (tq_12 _)))
theorem tq_16 (i : S8192x1x32.Idx) : val_main_v73 (F := Ideal) i = sinR (i 0) (i 2) :=
  (val_main_v73_apply i).trans ((val_main_v72_apply _).trans (congrArg Ideal.sin (tq_12 _)))
theorem tq_17 (i : S8192x12x64.Idx) : val_main_v74 (F := Ideal) x1 x2 x3 i = gradQR x1 x2 x3 (i 0) (headAt (i 1) (i 2)) :=
  (val_main_v74_apply _ _ _ i).trans ((r_v10 x1 x2 x3 _).trans (head_of (gradQR x1 x2 x3) i _ rfl rfl))
theorem tq_18 (i : S8192x12x32.Idx) : val_main_v75 (F := Ideal) x1 x2 x3 i = gradQR x1 x2 x3 (i 0) (headAt (i 1) (lowAt (i 2))) :=
  (val_main_v75_apply _ _ _ i).trans (tq_17 x1 x2 x3 _)
theorem tq_19 (i : S8192x12x32.Idx) : val_main_v76 (F := Ideal) x1 x2 x3 i = gradQR x1 x2 x3 (i 0) (headAt (i 1) (highAt (i 2))) :=
  (val_main_v76_apply _ _ _ i).trans (tq_17 x1 x2 x3 _)
theorem tq_33 (i : S8192x12x32.Idx) : val_main_v90 (F := Ideal) x1 x2 x3 i = gradQR x1 x2 x3 (i 0) (headAt (i 1) (highAt (i 2))) * sinR (i 0) (i 2) :=
  (val_main_v90_apply _ _ _ i).trans (mul_e (tq_19 x1 x2 x3 i) ((val_main_v89_apply i).trans (tq_16 _)))
theorem tq_35 (i : S8192x12x32.Idx) : val_main_v92 (F := Ideal) x1 x2 x3 i = gradQR x1 x2 x3 (i 0) (headAt (i 1) (highAt (i 2))) * cosR (i 0) (i 2) :=
  (val_main_v92_apply _ _ _ i).trans (mul_e (tq_19 x1 x2 x3 i) ((val_main_v91_apply i).trans (tq_14 _)))
theorem tq_38 (i : S8192x12x32.Idx) : val_main_v95 (F := Ideal) x1 x2 x3 i = -gradQR x1 x2 x3 (i 0) (headAt (i 1) (lowAt (i 2))) * sinR (i 0) (i 2) :=
  (val_main_v95_apply _ _ _ i).trans (mul_e ((val_main_v93_apply _ _ _ i).trans (congrArg (fun a : EReal => -a) (tq_18 x1 x2 x3 i))) ((val_main_v94_apply i).trans (tq_16 _)))
theorem tq_41 (i : S8192x12x32.Idx) : val_main_v98 (F := Ideal) x1 x2 x3 i = gradQR x1 x2 x3 (i 0) (headAt (i 1) (lowAt (i 2))) * cosR (i 0) (i 2) :=
  (val_main_v98_apply _ _ _ i).trans (mul_e (tq_18 x1 x2 x3 i) ((val_main_v97_apply i).trans (tq_14 _)))
theorem tq_43 (i : S8192x12x64.Idx) : val_main_v100 (F := Ideal) x1 x2 x3 i = backE (gradQR x1 x2 x3 (i 0)) (cosR (i 0)) (sinR (i 0)) (headAt (i 1) (i 2)) := by
  unfold val_main_v100
  have l2 : (i 2).val < 64 := (i 2).isLt
  by_cases h : (i 2).val < 32
  · have e : i = ix3 (i 0) (i 1) (lowAt ⟨(i 2).val, h⟩) := funext fun a => match a with
      | ⟨0, _⟩ => rfl
      | ⟨1, _⟩ => rfl
      | ⟨2, _⟩ => rfl
    rw [e]
    exact (low_half _ _ _ _ _).trans (((val_main_v99_apply _ _ _ _).trans (add_e (tq_33 x1 x2 x3 _) (tq_41 x1 x2 x3 _))).trans (back_low _ _ _ _ _).symm)
  · have e : i = ix3 (i 0) (i 1) (highAt ⟨(i 2).val - 32, by omega⟩) := funext fun a => match a with
      | ⟨0, _⟩ => rfl
      | ⟨1, _⟩ => rfl
      | ⟨2, _⟩ => Fin.ext (by show (i 2).val = 32 + ((i 2).val - 32); omega)
    rw [e]
    exact (high_half _ _ _ _ _).trans (((val_main_v96_apply _ _ _ _).trans (add_e (tq_35 x1 x2 x3 _) (tq_38 x1 x2 x3 _))).trans (back_high _ _ _ _ _).symm)
theorem tq_45 (r : Fin 8192) (j : Fin 768) : val_main_v102 (F := Ideal) x1 x2 x3 (ix2 r j) = backE (gradQR x1 x2 x3 r) (cosR r) (sinR r) j :=
  (val_main_v102_apply _ _ _ _).trans ((val_main_v101_apply _ _ _ _).trans ((tq_43 x1 x2 x3 _).trans (flat_of (fun a b => backE (gradQR x1 x2 x3 a) (cosR a) (sinR a) b) r j _ rfl rfl rfl)))

/-! ## The rotary embedding's gradient: the keys -/
theorem tk_1 (i : S32.Idx) : val_main_v104 (F := Ideal) i = -laneE (i 0) := (val_main_v104_apply i).trans rfl
theorem tk_3 (i : S32.Idx) : val_main_v106 (F := Ideal) i = -laneE (i 0) * Ideal.ofBits .f32 0x3D000000#32 :=
  (val_main_v106_apply i).trans (mul_e (tk_1 i) ((val_main_v105_apply i).trans ((val_main_cst_3_apply _).trans rfl)))
theorem tk_5 (i : S32.Idx) : val_main_v108 (F := Ideal) i = freqE (i 0) :=
  (val_main_v108_apply i).trans (congrArg₂ Ideal.pow ((val_main_v107_apply i).trans ((val_main_cst_4_apply _).trans rfl)) (tk_3 i))
theorem tk_7 (i : S8192.Idx) : val_main_v110 (F := Ideal) i = tokE (i 0) := (val_main_v110_apply i).trans rfl
theorem tk_12 (i : S8192x32.Idx) : val_main_v115 (F := Ideal) i = tokE (i 0) * freqE (i 1) :=
  (val_main_v115_apply i).trans (mul_e ((val_main_v113_apply i).trans ((val_main_v111_apply _).trans (tk_7 _))) ((val_main_v114_apply i).trans ((val_main_v112_apply _).trans (tk_5 _))))
theorem tk_14 (i : S8192x1x32.Idx) : val_main_v117 (F := Ideal) i = cosR (i 0) (i 2) :=
  (val_main_v117_apply i).trans ((val_main_v116_apply _).trans (congrArg Ideal.cos (tk_12 _)))
theorem tk_16 (i : S8192x1x32.Idx) : val_main_v119 (F := Ideal) i = sinR (i 0) (i 2) :=
  (val_main_v119_apply i).trans ((val_main_v118_apply _).trans (congrArg Ideal.sin (tk_12 _)))
theorem tk_17 (i : S8192x12x64.Idx) : val_main_v120 (F := Ideal) x4 x5 x6 x7 x8 x9 i = gradKR x4 x5 x6 x7 x8 x9 (i 0) (headAt (i 1) (i 2)) :=
  (val_main_v120_apply _ _ _ _ _ _ i).trans ((r_v33 x4 x5 x6 x7 x8 x9 _).trans (head_of (gradKR x4 x5 x6 x7 x8 x9) i _ rfl rfl))
theorem tk_18 (i : S8192x12x32.Idx) : val_main_v121 (F := Ideal) x4 x5 x6 x7 x8 x9 i = gradKR x4 x5 x6 x7 x8 x9 (i 0) (headAt (i 1) (lowAt (i 2))) :=
  (val_main_v121_apply _ _ _ _ _ _ i).trans (tk_17 x4 x5 x6 x7 x8 x9 _)
theorem tk_19 (i : S8192x12x32.Idx) : val_main_v122 (F := Ideal) x4 x5 x6 x7 x8 x9 i = gradKR x4 x5 x6 x7 x8 x9 (i 0) (headAt (i 1) (highAt (i 2))) :=
  (val_main_v122_apply _ _ _ _ _ _ i).trans (tk_17 x4 x5 x6 x7 x8 x9 _)
theorem tk_33 (i : S8192x12x32.Idx) : val_main_v136 (F := Ideal) x4 x5 x6 x7 x8 x9 i = gradKR x4 x5 x6 x7 x8 x9 (i 0) (headAt (i 1) (highAt (i 2))) * sinR (i 0) (i 2) :=
  (val_main_v136_apply _ _ _ _ _ _ i).trans (mul_e (tk_19 x4 x5 x6 x7 x8 x9 i) ((val_main_v135_apply i).trans (tk_16 _)))
theorem tk_35 (i : S8192x12x32.Idx) : val_main_v138 (F := Ideal) x4 x5 x6 x7 x8 x9 i = gradKR x4 x5 x6 x7 x8 x9 (i 0) (headAt (i 1) (highAt (i 2))) * cosR (i 0) (i 2) :=
  (val_main_v138_apply _ _ _ _ _ _ i).trans (mul_e (tk_19 x4 x5 x6 x7 x8 x9 i) ((val_main_v137_apply i).trans (tk_14 _)))
theorem tk_38 (i : S8192x12x32.Idx) : val_main_v141 (F := Ideal) x4 x5 x6 x7 x8 x9 i = -gradKR x4 x5 x6 x7 x8 x9 (i 0) (headAt (i 1) (lowAt (i 2))) * sinR (i 0) (i 2) :=
  (val_main_v141_apply _ _ _ _ _ _ i).trans (mul_e ((val_main_v139_apply _ _ _ _ _ _ i).trans (congrArg (fun a : EReal => -a) (tk_18 x4 x5 x6 x7 x8 x9 i))) ((val_main_v140_apply i).trans (tk_16 _)))
theorem tk_41 (i : S8192x12x32.Idx) : val_main_v144 (F := Ideal) x4 x5 x6 x7 x8 x9 i = gradKR x4 x5 x6 x7 x8 x9 (i 0) (headAt (i 1) (lowAt (i 2))) * cosR (i 0) (i 2) :=
  (val_main_v144_apply _ _ _ _ _ _ i).trans (mul_e (tk_18 x4 x5 x6 x7 x8 x9 i) ((val_main_v143_apply i).trans (tk_14 _)))
theorem tk_43 (i : S8192x12x64.Idx) : val_main_v146 (F := Ideal) x4 x5 x6 x7 x8 x9 i = backE (gradKR x4 x5 x6 x7 x8 x9 (i 0)) (cosR (i 0)) (sinR (i 0)) (headAt (i 1) (i 2)) := by
  unfold val_main_v146
  have l2 : (i 2).val < 64 := (i 2).isLt
  by_cases h : (i 2).val < 32
  · have e : i = ix3 (i 0) (i 1) (lowAt ⟨(i 2).val, h⟩) := funext fun a => match a with
      | ⟨0, _⟩ => rfl
      | ⟨1, _⟩ => rfl
      | ⟨2, _⟩ => rfl
    rw [e]
    exact (low_half _ _ _ _ _).trans (((val_main_v145_apply _ _ _ _ _ _ _).trans (add_e (tk_33 x4 x5 x6 x7 x8 x9 _) (tk_41 x4 x5 x6 x7 x8 x9 _))).trans (back_low _ _ _ _ _).symm)
  · have e : i = ix3 (i 0) (i 1) (highAt ⟨(i 2).val - 32, by omega⟩) := funext fun a => match a with
      | ⟨0, _⟩ => rfl
      | ⟨1, _⟩ => rfl
      | ⟨2, _⟩ => Fin.ext (by show (i 2).val = 32 + ((i 2).val - 32); omega)
    rw [e]
    exact (high_half _ _ _ _ _).trans (((val_main_v142_apply _ _ _ _ _ _ _).trans (add_e (tk_35 x4 x5 x6 x7 x8 x9 _) (tk_38 x4 x5 x6 x7 x8 x9 _))).trans (back_high _ _ _ _ _).symm)
theorem tk_45 (r : Fin 8192) (j : Fin 768) : val_main_v148 (F := Ideal) x4 x5 x6 x7 x8 x9 (ix2 r j) = backE (gradKR x4 x5 x6 x7 x8 x9 r) (cosR r) (sinR r) j :=
  (val_main_v148_apply _ _ _ _ _ _ _).trans ((val_main_v147_apply _ _ _ _ _ _ _).trans ((tk_43 x4 x5 x6 x7 x8 x9 _).trans (flat_of (fun a b => backE (gradKR x4 x5 x6 x7 x8 x9 a) (cosR a) (sinR a) b) r j _ rfl rfl rfl)))

theorem value (x0 : S8192x256.Idx → EReal) : val_main_v150 (F := Ideal) x0 x1 x2 x3 x4 x5 x6 x7 x8 x9 x10 x11 x12 x13 x14 x15
    = fun i => joinE ((fun i j => x0 (ix2 i j) : Fin 8192 → Fin 256 → EReal) (i 0)) (backE (gradQ (arr x1) (arr x2) (arr x3) (i 0)) (cosR (i 0)) (sinR (i 0)))
      (backE (gradK (arr x4) (arr x5) (arr x6) (arr x7) (arr x8) (arr x9) (i 0)) (cosR (i 0)) (sinR (i 0))) (gradK (arr x10) (arr x11) (arr x12) (arr x13) (arr x14) (arr x15) (i 0)) (i 1) := by
  funext i
  refine (congrArg (val_main_v150 (F := Ideal) x0 x1 x2 x3 x4 x5 x6 x7 x8 x9 x10 x11 x12 x13 x14 x15) (ix2_eta (n0 := 8192) (n1 := 2560) i).symm).trans ?_
  unfold val_main_v150
  exact join_row (u := fun i j => x0 (ix2 i j)) (q := fun r => backE (gradQ (arr x1) (arr x2) (arr x3) r) (cosR r) (sinR r)) (k := fun r => backE (gradK (arr x4) (arr x5) (arr x6) (arr x7) (arr x8) (arr x9) r) (cosR r) (sinR r))
    (v := fun r => gradK (arr x10) (arr x11) (arr x12) (arr x13) (arr x14) (arr x15) r) (fun _ _ => rfl) (tq_45 x1 x2 x3) (tk_45 x4 x5 x6 x7 x8 x9)
    (fun r j => (val_main_v149_apply _ _ _ _ _ _ _).trans (r_v56 x10 x11 x12 x13 x14 x15 (ix2 r j))) (i 0) (i 1)

end Cert.RDProjIdeal.Whole
end
-- ==== Proof.DProjSame.lean ====
module
public import proofs.«01_k».proof.Defs
public import proofs.«01_k».proof.Proof.Gen.RDProjIdeal.Run
public import proofs.«01_k».proof.Proof.Gen.RDProjIdeal
public import proofs.«01_k».proof.Proof.Gen.DProjIdeal
public import proofs.«01_k».proof.Proof.Gen.DProjIdeal.Frame
public import proofs.«01_k».proof.Proof.DFwd
public import proofs.«01_k».proof.Proof.DFwdRef
@[expose] public section
set_option maxRecDepth 16384
noncomputable section
open Idealize.ShloMosaic Idealize.ShloMosaic.TcCoe Idealize.SL.Sem

namespace Cert.Proof

theorem rdproj_frame : Cert.quiescent_RDProjIdeal (hRDProjIdeal := Cert.RDProjIdeal.Gen.facts) := by
  intro m ρ _
  exact (θ_run _ _ _).mono (fun r h => ⟨fun c => (h c).2, funext fun g => nomatch g.2⟩) (Cert.RDProjIdeal.Value.run (F := Ideal) m ρ)

theorem dproj_same : Cert.algebraic_DProjIdeal_RDProjIdeal (hDProjIdeal := Cert.DProjIdeal.Gen.facts) (hRDProjIdeal := Cert.RDProjIdeal.Gen.facts) := by
  intro m g m' g' _ hagree
  refine ⟨fun c => (fun i => Cert.DProjIdeal.Comb.resD m c (i 0) (i 1)), Cert.DProjIdeal.Comb.run m g, (θ_run _ _ _).mono (fun r h c => ?_) (Cert.RDProjIdeal.Value.run (F := Ideal) m' g')⟩
  obtain ⟨e0, e1, e2, e3, e4, e5, e6, e7, e8, e9, e10, e11, e12, e13, e14, e15⟩ := hagree c
  obtain ⟨h0, hargs⟩ := h c
  refine ⟨h0.trans ?_, hargs⟩
  rw [Cert.RDProjIdeal.Read.val_main_v150_eq, e0, e1, e2, e3, e4, e5, e6, e7, e8, e9, e10, e11, e12, e13, e14, e15]
  exact Cert.RDProjIdeal.Whole.value _ _ _ _ _ _ _ _ _ _ _ _ _ _ _ _

end Cert.Proof
end
-- ==== Proof.AdamSame.lean ====
module
public import proofs.«01_k».proof.Defs
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.RAdamInIdeal
public import proofs.«01_k».proof.Proof.Gen.RAdamInIdeal.Run
public import proofs.«01_k».proof.Proof.Gen.RAdamInIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.RAdamOutIdeal
public import proofs.«01_k».proof.Proof.Gen.RAdamOutIdeal.Run
public import proofs.«01_k».proof.Proof.Gen.RAdamOutIdeal.Read
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.RAdamGateIdeal
public import proofs.«01_k».proof.Proof.Gen.RAdamGateIdeal.Run
public import proofs.«01_k».proof.Proof.Gen.RAdamGateIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.RAdamUpIdeal
public import proofs.«01_k».proof.Proof.Gen.RAdamUpIdeal.Run
public import proofs.«01_k».proof.Proof.Gen.RAdamUpIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.RAdamDownIdeal
public import proofs.«01_k».proof.Proof.Gen.RAdamDownIdeal.Run
public import proofs.«01_k».proof.Proof.Gen.RAdamDownIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.RAdamSmallIdeal
public import proofs.«01_k».proof.Proof.Gen.RAdamSmallIdeal.Run
public import proofs.«01_k».proof.Proof.Gen.RAdamSmallIdeal.Read
@[expose] public section
set_option maxRecDepth 16384
noncomputable section
open Idealize.ShloMosaic Idealize.ShloMosaic.TcCoe Idealize.SL.Sem

/-! # The optimiser's step: entry by entry the kernel's operations are the reference's -/

namespace Cert.Proof

theorem radamin_frame : Cert.quiescent_RAdamInIdeal (hRAdamInIdeal := Cert.RAdamInIdeal.Gen.facts) := by
  intro m ρ _
  exact (θ_run _ _ _).mono (fun r h => ⟨fun c => (h c).2.2.2, funext fun g => nomatch g.2⟩) (Cert.RAdamInIdeal.Value.run (F := Ideal) m ρ)

theorem adamin_same : Cert.algebraic_AdamInIdeal_RAdamInIdeal (hAdamInIdeal := Cert.AdamInIdeal.Gen.facts) (hRAdamInIdeal := Cert.RAdamInIdeal.Gen.facts) := by
  intro m g m' g' _ hagree
  refine ⟨_, _, _, Cert.AdamInIdeal.Value.run (F := Ideal) m g, (θ_run _ _ _).mono (fun r h c => ?_) (Cert.RAdamInIdeal.Value.run (F := Ideal) m' g')⟩
  obtain ⟨e0, e1, e2, e3⟩ := hagree c
  obtain ⟨hd, hm, hv, hargs⟩ := h c
  refine ⟨hd.trans ?_, hm.trans ?_, hv.trans ?_, hargs⟩
  · rw [e0, e1, e2, e3]
    rfl
  · rw [e1, e2]
    rfl
  · rw [e1, e3]
    rfl

theorem radamout_frame : Cert.quiescent_RAdamOutIdeal (hRAdamOutIdeal := Cert.RAdamOutIdeal.Gen.facts) := by
  intro m ρ _
  exact (θ_run _ _ _).mono (fun r h => ⟨fun c => (h c).2.2.2, funext fun g => nomatch g.2⟩) (Cert.RAdamOutIdeal.Value.run (F := Ideal) m ρ)

theorem adamout_same : Cert.algebraic_AdamOutIdeal_RAdamOutIdeal (hAdamOutIdeal := Cert.AdamOutIdeal.Gen.facts) (hRAdamOutIdeal := Cert.RAdamOutIdeal.Gen.facts) := by
  intro m g m' g' _ hagree
  refine ⟨_, _, _, Cert.AdamOutIdeal.Value.run (F := Ideal) m g, (θ_run _ _ _).mono (fun r h c => ?_) (Cert.RAdamOutIdeal.Value.run (F := Ideal) m' g')⟩
  obtain ⟨e0, e1, e2, e3⟩ := hagree c
  obtain ⟨hd, hm, hv, hargs⟩ := h c
  refine ⟨hd.trans ?_, hm.trans ?_, hv.trans ?_, hargs⟩
  · rw [e0, e1, e2, e3]
    rfl
  · rw [e1, e2]
    rfl
  · rw [e1, e3]
    rfl

theorem radamgate_frame : Cert.quiescent_RAdamGateIdeal (hRAdamGateIdeal := Cert.RAdamGateIdeal.Gen.facts) := by
  intro m ρ _
  exact (θ_run _ _ _).mono (fun r h => ⟨fun c => (h c).2.2.2, funext fun g => nomatch g.2⟩) (Cert.RAdamGateIdeal.Value.run (F := Ideal) m ρ)

theorem adamgate_same : Cert.algebraic_AdamGateIdeal_RAdamGateIdeal (hAdamGateIdeal := Cert.AdamGateIdeal.Gen.facts) (hRAdamGateIdeal := Cert.RAdamGateIdeal.Gen.facts) := by
  intro m g m' g' _ hagree
  refine ⟨_, _, _, Cert.AdamGateIdeal.Value.run (F := Ideal) m g, (θ_run _ _ _).mono (fun r h c => ?_) (Cert.RAdamGateIdeal.Value.run (F := Ideal) m' g')⟩
  obtain ⟨e0, e1, e2, e3⟩ := hagree c
  obtain ⟨hd, hm, hv, hargs⟩ := h c
  refine ⟨hd.trans ?_, hm.trans ?_, hv.trans ?_, hargs⟩
  · rw [e0, e1, e2, e3]
    rfl
  · rw [e1, e2]
    rfl
  · rw [e1, e3]
    rfl

theorem radamup_frame : Cert.quiescent_RAdamUpIdeal (hRAdamUpIdeal := Cert.RAdamUpIdeal.Gen.facts) := by
  intro m ρ _
  exact (θ_run _ _ _).mono (fun r h => ⟨fun c => (h c).2.2.2, funext fun g => nomatch g.2⟩) (Cert.RAdamUpIdeal.Value.run (F := Ideal) m ρ)

theorem adamup_same : Cert.algebraic_AdamUpIdeal_RAdamUpIdeal (hAdamUpIdeal := Cert.AdamUpIdeal.Gen.facts) (hRAdamUpIdeal := Cert.RAdamUpIdeal.Gen.facts) := by
  intro m g m' g' _ hagree
  refine ⟨_, _, _, Cert.AdamUpIdeal.Value.run (F := Ideal) m g, (θ_run _ _ _).mono (fun r h c => ?_) (Cert.RAdamUpIdeal.Value.run (F := Ideal) m' g')⟩
  obtain ⟨e0, e1, e2, e3⟩ := hagree c
  obtain ⟨hd, hm, hv, hargs⟩ := h c
  refine ⟨hd.trans ?_, hm.trans ?_, hv.trans ?_, hargs⟩
  · rw [e0, e1, e2, e3]
    rfl
  · rw [e1, e2]
    rfl
  · rw [e1, e3]
    rfl

theorem radamdown_frame : Cert.quiescent_RAdamDownIdeal (hRAdamDownIdeal := Cert.RAdamDownIdeal.Gen.facts) := by
  intro m ρ _
  exact (θ_run _ _ _).mono (fun r h => ⟨fun c => (h c).2.2.2, funext fun g => nomatch g.2⟩) (Cert.RAdamDownIdeal.Value.run (F := Ideal) m ρ)

theorem adamdown_same : Cert.algebraic_AdamDownIdeal_RAdamDownIdeal (hAdamDownIdeal := Cert.AdamDownIdeal.Gen.facts) (hRAdamDownIdeal := Cert.RAdamDownIdeal.Gen.facts) := by
  intro m g m' g' _ hagree
  refine ⟨_, _, _, Cert.AdamDownIdeal.Value.run (F := Ideal) m g, (θ_run _ _ _).mono (fun r h c => ?_) (Cert.RAdamDownIdeal.Value.run (F := Ideal) m' g')⟩
  obtain ⟨e0, e1, e2, e3⟩ := hagree c
  obtain ⟨hd, hm, hv, hargs⟩ := h c
  refine ⟨hd.trans ?_, hm.trans ?_, hv.trans ?_, hargs⟩
  · rw [e0, e1, e2, e3]
    rfl
  · rw [e1, e2]
    rfl
  · rw [e1, e3]
    rfl

theorem radamsmall_frame : Cert.quiescent_RAdamSmallIdeal (hRAdamSmallIdeal := Cert.RAdamSmallIdeal.Gen.facts) := by
  intro m ρ _
  exact (θ_run _ _ _).mono (fun r h => ⟨fun c => (h c).2.2.2, funext fun g => nomatch g.2⟩) (Cert.RAdamSmallIdeal.Value.run (F := Ideal) m ρ)

theorem adamsmall_same : Cert.algebraic_AdamSmallIdeal_RAdamSmallIdeal (hAdamSmallIdeal := Cert.AdamSmallIdeal.Gen.facts) (hRAdamSmallIdeal := Cert.RAdamSmallIdeal.Gen.facts) := by
  intro m g m' g' _ hagree
  refine ⟨_, _, _, Cert.AdamSmallIdeal.Value.run (F := Ideal) m g, (θ_run _ _ _).mono (fun r h c => ?_) (Cert.RAdamSmallIdeal.Value.run (F := Ideal) m' g')⟩
  obtain ⟨e0, e1, e2, e3⟩ := hagree c
  obtain ⟨hd, hm, hv, hargs⟩ := h c
  refine ⟨hd.trans ?_, hm.trans ?_, hv.trans ?_, hargs⟩
  · rw [e0, e1, e2, e3]
    rfl
  · rw [e1, e2]
    rfl
  · rw [e1, e3]
    rfl

end Cert.Proof
end
-- ==== Proof.SumSame.lean ====
module
public import proofs.«01_k».proof.Defs
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInIdeal.Value
public import proofs.«01_k».proof.Proof.Gen.RSumInIdeal
public import proofs.«01_k».proof.Proof.Gen.RSumInIdeal.Run
public import proofs.«01_k».proof.Proof.Gen.RSumInIdeal.Read
public import proofs.«01_k».proof.Proof.Gen.SumOut
public import proofs.«01_k».proof.Proof.Gen.SumOut.Frame
public import proofs.«01_k».proof.Proof.Gen.SumOutIdeal
public import proofs.«01_k».proof.Proof.Gen.SumOutIdeal.Frame
public import proofs.«01_k».proof.Proof.Gen.SumOutIdeal.Value
public import proofs.«01_k».proof.Proof.Gen.RSumOutIdeal
public import proofs.«01_k».proof.Proof.Gen.RSumOutIdeal.Run
public import proofs.«01_k».proof.Proof.Gen.RSumOutIdeal.Read
public import proofs.«01_k».proof.Proof.Gen.SumGate
public import proofs.«01_k».proof.Proof.Gen.SumGate.Frame
public import proofs.«01_k».proof.Proof.Gen.SumGateIdeal
public import proofs.«01_k».proof.Proof.Gen.SumGateIdeal.Frame
public import proofs.«01_k».proof.Proof.Gen.SumGateIdeal.Value
public import proofs.«01_k».proof.Proof.Gen.RSumGateIdeal
public import proofs.«01_k».proof.Proof.Gen.RSumGateIdeal.Run
public import proofs.«01_k».proof.Proof.Gen.RSumGateIdeal.Read
public import proofs.«01_k».proof.Proof.Gen.SumUp
public import proofs.«01_k».proof.Proof.Gen.SumUp.Frame
public import proofs.«01_k».proof.Proof.Gen.SumUpIdeal
public import proofs.«01_k».proof.Proof.Gen.SumUpIdeal.Frame
public import proofs.«01_k».proof.Proof.Gen.SumUpIdeal.Value
public import proofs.«01_k».proof.Proof.Gen.RSumUpIdeal
public import proofs.«01_k».proof.Proof.Gen.RSumUpIdeal.Run
public import proofs.«01_k».proof.Proof.Gen.RSumUpIdeal.Read
public import proofs.«01_k».proof.Proof.Gen.SumDown
public import proofs.«01_k».proof.Proof.Gen.SumDown.Frame
public import proofs.«01_k».proof.Proof.Gen.SumDownIdeal
public import proofs.«01_k».proof.Proof.Gen.SumDownIdeal.Frame
public import proofs.«01_k».proof.Proof.Gen.SumDownIdeal.Value
public import proofs.«01_k».proof.Proof.Gen.RSumDownIdeal
public import proofs.«01_k».proof.Proof.Gen.RSumDownIdeal.Run
public import proofs.«01_k».proof.Proof.Gen.RSumDownIdeal.Read
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.RSumSmallIdeal
public import proofs.«01_k».proof.Proof.Gen.RSumSmallIdeal.Run
public import proofs.«01_k».proof.Proof.Gen.RSumSmallIdeal.Read
public import proofs.«01_k».proof.Proof.NormMath
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Tactic Idealize.ShloMosaic.Pipeline

/-! # The sums of the devices' parts: eight terms, added one after the other -/

namespace Cert.SumInIdeal.Total
open Cert.SumInIdeal Cert.SumInIdeal.Gen Cert.FfnMath Cert.NormMath

/-- The sum of the parts. -/
def total (a : S8x320x1024.Idx → EReal) : S320x1024.Idx → EReal := fun i => ∑ s : Fin 8, a (ix3 s (i 0) (i 1))

theorem pay_at {u0 u1 u2 u3 u4 u5 u6 u7 : Vec Ideal S1x160x1024 .bf16} {a : Fin 8 → Fin 160 → Fin 1024 → EReal} (h0 : ∀ r k, u0 (ix3 0 r k) = a 0 r k) (h1 : ∀ r k, u1 (ix3 0 r k) = a 1 r k) (h2 : ∀ r k, u2 (ix3 0 r k) = a 2 r k) (h3 : ∀ r k, u3 (ix3 0 r k) = a 3 r k) (h4 : ∀ r k, u4 (ix3 0 r k) = a 4 r k) (h5 : ∀ r k, u5 (ix3 0 r k) = a 5 r k) (h6 : ∀ r k, u6 (ix3 0 r k) = a 6 r k) (h7 : ∀ r k, u7 (ix3 0 r k) = a 7 r k) (r : Fin 160) (j : Fin 1024) :
    (k0_pay1 (F := Ideal) u0 u1 u2 u3 u4 u5 u6 u7) (ix2 r j) = ∑ s : Fin 8, a s r j := by
  unfold k0_pay1
  pointwise
  simp only [h0, h1, h2, h3, h4, h5, h6, h7]
  rw [Fin.sum_univ_eight]

variable (m : (ℓ : Loc nD τ sig) → Buf (Elt Ideal) ℓ) (c : Dev nD)

theorem row_lt (t : Fin cfg0.N) (r : Fin 160) : t.val * 160 + r.val < 320 := by
  have := lt_of_lt_of_eq t.isLt (show cfg0.N = 2 from N_0)
  omega

/-- The row of the array a block's row holds. -/
def row (t : Fin cfg0.N) (r : Fin 160) : Fin 320 := ⟨t.val * 160 + r.val, row_lt t r⟩

theorem index_0 : ∀ t : Fin cfg0.N, (cfg0.win 0).index t = ![0, t.val, 0] := by decide +kernel
theorem index_1 : ∀ t : Fin cfg0.N, (cfg0.win 1).index t = ![t.val, 0] := by decide +kernel
abbrev parts : S8x320x1024.Idx → EReal := m ((c : Thread nD τ).loc main_arg0)
def block (t : Fin cfg0.N) : S8x160x1024.Idx → EReal := iblk m c 0 t
theorem block_at (t : Fin cfg0.N) (g : Fin 8) (r : Fin 160) (k : Fin 1024) : block m c t (ix3 g r k) = parts m c (ix3 g (row t r) k) := by
  unfold block
  have hk : (row t r).val = t.val * 160 + r.val := rfl
  blk_ext [iblk, index_0 t]

abbrev part (t : Fin cfg0.N) (g : ℕ) (inb : ∀ a, ![g, 0, 0] a + ![1, 160, 1024] a ≤ S8x160x1024.size a) := View.ld (Val := Elt Ideal) (e' := .bf16) (block m c t) (Rect.unit (s := S8x160x1024) ![g, 0, 0] ![1, 160, 1024] inb)
theorem part_at (t : Fin cfg0.N) (g : Fin 8) (inb) (r : Fin 160) (k : Fin 1024) : part m c t g.val inb (ix3 0 r k) = parts m c (ix3 g (row t r) k) :=
  (View.ld_unit_apply_of (Val := Elt Ideal) (e := .bf16) (block m c t) ![g.val, 0, 0] ![1, 160, 1024] inb (ix3 0 r k) (ix3 g r k) (fun a => match a with
    | ⟨0, _⟩ => rfl
    | ⟨1, _⟩ => (Nat.zero_add _).symm
    | ⟨2, _⟩ => (Nat.zero_add _).symm)).trans (block_at m c t g r k)

theorem sum_at (t : Fin cfg0.N) (i0 i1 i2 i3 i4 i5 i6 i7) (r : Fin 160) (j : Fin 1024) :
    (k0_pay1 (F := Ideal) (part m c t 0 i0) (part m c t 1 i1) (part m c t 2 i2) (part m c t 3 i3) (part m c t 4 i4) (part m c t 5 i5) (part m c t 6 i6) (part m c t 7 i7)) (ix2 r j) = ∑ s : Fin 8, parts m c (ix3 s (row t r) j) :=
  pay_at (a := fun s r j => parts m c (ix3 s (row t r) j)) (part_at m c t 0 _) (part_at m c t 1 _) (part_at m c t 2 _) (part_at m c t 3 _) (part_at m c t 4 _) (part_at m c t 5 _) (part_at m c t 6 _) (part_at m c t 7 _) r j

theorem after_1 (t : Fin cfg0.N) (r : Fin 160) (k : Fin 1024) : (dats m 0 c).after 1 t (ix2 r k) = ∑ s : Fin 8, parts m c (ix3 s (row t r) k) := by
  rw [after0_1]
  unfold out0_1
  frame_out
  exact sum_at m c t _ _ _ _ _ _ _ _ r k

theorem array_1 : (dats m 0 c).arrAt 1 cfg0.N = total (parts m c) := by
  refine Dat.arrAt_eq_of_covers (dats m 0 c) 1 _ (by decide +kernel) fun t hf y => ?_
  have e : (dats m 0 c).after 1 t y = ∑ s : Fin 8, parts m c (ix3 s (row t (y 0)) (y 1)) :=
    (congrArg ((dats m 0 c).after 1 t) (ix2_eta y).symm).trans (after_1 m c t (y 0) (y 1))
  blk_simp
  rw [e]
  unfold total
  refine congrArg₂ (fun (a : Fin 320) (b : Fin 1024) => ∑ s : Fin 8, parts m c (ix3 s a b)) (Fin.ext ?_) (Fin.ext ?_) <;> blk_simp [index_1 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = total (parts m c)
      ∧ r.2.mem ((c : Thread nD τ).loc main_arg0) = m ((c : Thread nD τ).loc main_arg0) :=
  (θ_run _ _ _).mono (fun r h c => ⟨(h c).1.trans (array_1 m c), (h c).2⟩) (Value.run_blocks (F := Ideal) m ρ)

end Cert.SumInIdeal.Total

namespace Cert.RSumInIdeal.Total
open Cert.RSumInIdeal Cert.RSumInIdeal.Gen Cert.RSumInIdeal.Read

theorem result_at (a : S8x320x1024.Idx → EReal) : val_main_v1 (F := Ideal) a = Cert.SumInIdeal.Total.total a := by
  funext i
  rw [val_main_v1_apply]
  refine (congrArg₂ (fun x y : EReal => x + y) (Ideal.ofBits_zero .f32) rfl).trans ((zero_add _).trans ?_)
  unfold Cert.SumInIdeal.Total.total
  refine Finset.sum_congr rfl fun k _ => congrArg a (funext fun d => ?_)
  match d with
  | ⟨0, _⟩ => rfl
  | ⟨1, _⟩ => rfl
  | ⟨2, _⟩ => rfl

end Cert.RSumInIdeal.Total

namespace Cert.Proof

theorem rsumin_frame : Cert.quiescent_RSumInIdeal (hRSumInIdeal := Cert.RSumInIdeal.Gen.facts) := by
  intro m ρ _
  exact (θ_run _ _ _).mono (fun r h => ⟨fun c => (h c).2, funext fun g => nomatch g.2⟩) (Cert.RSumInIdeal.Value.run (F := Ideal) m ρ)

theorem sumin_same : Cert.algebraic_SumInIdeal_RSumInIdeal (hSumInIdeal := Cert.SumInIdeal.Gen.facts) (hRSumInIdeal := Cert.RSumInIdeal.Gen.facts) := by
  intro m g m' g' _ hagree
  refine ⟨fun c => Cert.SumInIdeal.Total.total (Cert.SumInIdeal.Total.parts m c),
    Cert.SumInIdeal.Total.run m g, (θ_run _ _ _).mono (fun r h c => ?_) (Cert.RSumInIdeal.Value.run (F := Ideal) m' g')⟩
  have e0 := hagree c
  refine ⟨(h c).1.trans ?_, (h c).2⟩
  rw [Cert.RSumInIdeal.Read.val_main_v1_eq, e0]
  exact Cert.RSumInIdeal.Total.result_at _

end Cert.Proof

namespace Cert.SumOutIdeal.Total
open Cert.SumOutIdeal Cert.SumOutIdeal.Gen Cert.FfnMath Cert.NormMath

/-- The sum of the parts. -/
def total (a : S8x128x1024.Idx → EReal) : S128x1024.Idx → EReal := fun i => ∑ s : Fin 8, a (ix3 s (i 0) (i 1))

theorem pay_at {u0 u1 u2 u3 u4 u5 u6 u7 : Vec Ideal S1x64x1024 .bf16} {a : Fin 8 → Fin 64 → Fin 1024 → EReal} (h0 : ∀ r k, u0 (ix3 0 r k) = a 0 r k) (h1 : ∀ r k, u1 (ix3 0 r k) = a 1 r k) (h2 : ∀ r k, u2 (ix3 0 r k) = a 2 r k) (h3 : ∀ r k, u3 (ix3 0 r k) = a 3 r k) (h4 : ∀ r k, u4 (ix3 0 r k) = a 4 r k) (h5 : ∀ r k, u5 (ix3 0 r k) = a 5 r k) (h6 : ∀ r k, u6 (ix3 0 r k) = a 6 r k) (h7 : ∀ r k, u7 (ix3 0 r k) = a 7 r k) (r : Fin 64) (j : Fin 1024) :
    (k0_pay1 (F := Ideal) u0 u1 u2 u3 u4 u5 u6 u7) (ix2 r j) = ∑ s : Fin 8, a s r j := by
  unfold k0_pay1
  pointwise
  simp only [h0, h1, h2, h3, h4, h5, h6, h7]
  rw [Fin.sum_univ_eight]

variable (m : (ℓ : Loc nD τ sig) → Buf (Elt Ideal) ℓ) (c : Dev nD)

theorem row_lt (t : Fin cfg0.N) (r : Fin 64) : t.val * 64 + r.val < 128 := by
  have := lt_of_lt_of_eq t.isLt (show cfg0.N = 2 from N_0)
  omega

/-- The row of the array a block's row holds. -/
def row (t : Fin cfg0.N) (r : Fin 64) : Fin 128 := ⟨t.val * 64 + r.val, row_lt t r⟩

theorem index_0 : ∀ t : Fin cfg0.N, (cfg0.win 0).index t = ![0, t.val, 0] := by decide +kernel
theorem index_1 : ∀ t : Fin cfg0.N, (cfg0.win 1).index t = ![t.val, 0] := by decide +kernel
abbrev parts : S8x128x1024.Idx → EReal := m ((c : Thread nD τ).loc main_arg0)
def block (t : Fin cfg0.N) : S8x64x1024.Idx → EReal := iblk m c 0 t
theorem block_at (t : Fin cfg0.N) (g : Fin 8) (r : Fin 64) (k : Fin 1024) : block m c t (ix3 g r k) = parts m c (ix3 g (row t r) k) := by
  unfold block
  have hk : (row t r).val = t.val * 64 + r.val := rfl
  blk_ext [iblk, index_0 t]

abbrev part (t : Fin cfg0.N) (g : ℕ) (inb : ∀ a, ![g, 0, 0] a + ![1, 64, 1024] a ≤ S8x64x1024.size a) := View.ld (Val := Elt Ideal) (e' := .bf16) (block m c t) (Rect.unit (s := S8x64x1024) ![g, 0, 0] ![1, 64, 1024] inb)
theorem part_at (t : Fin cfg0.N) (g : Fin 8) (inb) (r : Fin 64) (k : Fin 1024) : part m c t g.val inb (ix3 0 r k) = parts m c (ix3 g (row t r) k) :=
  (View.ld_unit_apply_of (Val := Elt Ideal) (e := .bf16) (block m c t) ![g.val, 0, 0] ![1, 64, 1024] inb (ix3 0 r k) (ix3 g r k) (fun a => match a with
    | ⟨0, _⟩ => rfl
    | ⟨1, _⟩ => (Nat.zero_add _).symm
    | ⟨2, _⟩ => (Nat.zero_add _).symm)).trans (block_at m c t g r k)

theorem sum_at (t : Fin cfg0.N) (i0 i1 i2 i3 i4 i5 i6 i7) (r : Fin 64) (j : Fin 1024) :
    (k0_pay1 (F := Ideal) (part m c t 0 i0) (part m c t 1 i1) (part m c t 2 i2) (part m c t 3 i3) (part m c t 4 i4) (part m c t 5 i5) (part m c t 6 i6) (part m c t 7 i7)) (ix2 r j) = ∑ s : Fin 8, parts m c (ix3 s (row t r) j) :=
  pay_at (a := fun s r j => parts m c (ix3 s (row t r) j)) (part_at m c t 0 _) (part_at m c t 1 _) (part_at m c t 2 _) (part_at m c t 3 _) (part_at m c t 4 _) (part_at m c t 5 _) (part_at m c t 6 _) (part_at m c t 7 _) r j

theorem after_1 (t : Fin cfg0.N) (r : Fin 64) (k : Fin 1024) : (dats m 0 c).after 1 t (ix2 r k) = ∑ s : Fin 8, parts m c (ix3 s (row t r) k) := by
  rw [after0_1]
  unfold out0_1
  frame_out
  exact sum_at m c t _ _ _ _ _ _ _ _ r k

theorem array_1 : (dats m 0 c).arrAt 1 cfg0.N = total (parts m c) := by
  refine Dat.arrAt_eq_of_covers (dats m 0 c) 1 _ (by decide +kernel) fun t hf y => ?_
  have e : (dats m 0 c).after 1 t y = ∑ s : Fin 8, parts m c (ix3 s (row t (y 0)) (y 1)) :=
    (congrArg ((dats m 0 c).after 1 t) (ix2_eta y).symm).trans (after_1 m c t (y 0) (y 1))
  blk_simp
  rw [e]
  unfold total
  refine congrArg₂ (fun (a : Fin 128) (b : Fin 1024) => ∑ s : Fin 8, parts m c (ix3 s a b)) (Fin.ext ?_) (Fin.ext ?_) <;> blk_simp [index_1 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = total (parts m c)
      ∧ r.2.mem ((c : Thread nD τ).loc main_arg0) = m ((c : Thread nD τ).loc main_arg0) :=
  (θ_run _ _ _).mono (fun r h c => ⟨(h c).1.trans (array_1 m c), (h c).2⟩) (Value.run_blocks (F := Ideal) m ρ)

end Cert.SumOutIdeal.Total

namespace Cert.RSumOutIdeal.Total
open Cert.RSumOutIdeal Cert.RSumOutIdeal.Gen Cert.RSumOutIdeal.Read

theorem result_at (a : S8x128x1024.Idx → EReal) : val_main_v1 (F := Ideal) a = Cert.SumOutIdeal.Total.total a := by
  funext i
  rw [val_main_v1_apply]
  refine (congrArg₂ (fun x y : EReal => x + y) (Ideal.ofBits_zero .f32) rfl).trans ((zero_add _).trans ?_)
  unfold Cert.SumOutIdeal.Total.total
  refine Finset.sum_congr rfl fun k _ => congrArg a (funext fun d => ?_)
  match d with
  | ⟨0, _⟩ => rfl
  | ⟨1, _⟩ => rfl
  | ⟨2, _⟩ => rfl

end Cert.RSumOutIdeal.Total

namespace Cert.Proof

theorem rsumout_frame : Cert.quiescent_RSumOutIdeal (hRSumOutIdeal := Cert.RSumOutIdeal.Gen.facts) := by
  intro m ρ _
  exact (θ_run _ _ _).mono (fun r h => ⟨fun c => (h c).2, funext fun g => nomatch g.2⟩) (Cert.RSumOutIdeal.Value.run (F := Ideal) m ρ)

theorem sumout_same : Cert.algebraic_SumOutIdeal_RSumOutIdeal (hSumOutIdeal := Cert.SumOutIdeal.Gen.facts) (hRSumOutIdeal := Cert.RSumOutIdeal.Gen.facts) := by
  intro m g m' g' _ hagree
  refine ⟨fun c => Cert.SumOutIdeal.Total.total (Cert.SumOutIdeal.Total.parts m c),
    Cert.SumOutIdeal.Total.run m g, (θ_run _ _ _).mono (fun r h c => ?_) (Cert.RSumOutIdeal.Value.run (F := Ideal) m' g')⟩
  have e0 := hagree c
  refine ⟨(h c).1.trans ?_, (h c).2⟩
  rw [Cert.RSumOutIdeal.Read.val_main_v1_eq, e0]
  exact Cert.RSumOutIdeal.Total.result_at _

end Cert.Proof

namespace Cert.SumGateIdeal.Total
open Cert.SumGateIdeal Cert.SumGateIdeal.Gen Cert.FfnMath Cert.NormMath

/-- The sum of the parts. -/
def total (a : S8x352x1024.Idx → EReal) : S352x1024.Idx → EReal := fun i => ∑ s : Fin 8, a (ix3 s (i 0) (i 1))

theorem pay_at {u0 u1 u2 u3 u4 u5 u6 u7 : Vec Ideal S1x176x1024 .bf16} {a : Fin 8 → Fin 176 → Fin 1024 → EReal} (h0 : ∀ r k, u0 (ix3 0 r k) = a 0 r k) (h1 : ∀ r k, u1 (ix3 0 r k) = a 1 r k) (h2 : ∀ r k, u2 (ix3 0 r k) = a 2 r k) (h3 : ∀ r k, u3 (ix3 0 r k) = a 3 r k) (h4 : ∀ r k, u4 (ix3 0 r k) = a 4 r k) (h5 : ∀ r k, u5 (ix3 0 r k) = a 5 r k) (h6 : ∀ r k, u6 (ix3 0 r k) = a 6 r k) (h7 : ∀ r k, u7 (ix3 0 r k) = a 7 r k) (r : Fin 176) (j : Fin 1024) :
    (k0_pay1 (F := Ideal) u0 u1 u2 u3 u4 u5 u6 u7) (ix2 r j) = ∑ s : Fin 8, a s r j := by
  unfold k0_pay1
  pointwise
  simp only [h0, h1, h2, h3, h4, h5, h6, h7]
  rw [Fin.sum_univ_eight]

variable (m : (ℓ : Loc nD τ sig) → Buf (Elt Ideal) ℓ) (c : Dev nD)

theorem row_lt (t : Fin cfg0.N) (r : Fin 176) : t.val * 176 + r.val < 352 := by
  have := lt_of_lt_of_eq t.isLt (show cfg0.N = 2 from N_0)
  omega

/-- The row of the array a block's row holds. -/
def row (t : Fin cfg0.N) (r : Fin 176) : Fin 352 := ⟨t.val * 176 + r.val, row_lt t r⟩

theorem index_0 : ∀ t : Fin cfg0.N, (cfg0.win 0).index t = ![0, t.val, 0] := by decide +kernel
theorem index_1 : ∀ t : Fin cfg0.N, (cfg0.win 1).index t = ![t.val, 0] := by decide +kernel
abbrev parts : S8x352x1024.Idx → EReal := m ((c : Thread nD τ).loc main_arg0)
def block (t : Fin cfg0.N) : S8x176x1024.Idx → EReal := iblk m c 0 t
theorem block_at (t : Fin cfg0.N) (g : Fin 8) (r : Fin 176) (k : Fin 1024) : block m c t (ix3 g r k) = parts m c (ix3 g (row t r) k) := by
  unfold block
  have hk : (row t r).val = t.val * 176 + r.val := rfl
  blk_ext [iblk, index_0 t]

abbrev part (t : Fin cfg0.N) (g : ℕ) (inb : ∀ a, ![g, 0, 0] a + ![1, 176, 1024] a ≤ S8x176x1024.size a) := View.ld (Val := Elt Ideal) (e' := .bf16) (block m c t) (Rect.unit (s := S8x176x1024) ![g, 0, 0] ![1, 176, 1024] inb)
theorem part_at (t : Fin cfg0.N) (g : Fin 8) (inb) (r : Fin 176) (k : Fin 1024) : part m c t g.val inb (ix3 0 r k) = parts m c (ix3 g (row t r) k) :=
  (View.ld_unit_apply_of (Val := Elt Ideal) (e := .bf16) (block m c t) ![g.val, 0, 0] ![1, 176, 1024] inb (ix3 0 r k) (ix3 g r k) (fun a => match a with
    | ⟨0, _⟩ => rfl
    | ⟨1, _⟩ => (Nat.zero_add _).symm
    | ⟨2, _⟩ => (Nat.zero_add _).symm)).trans (block_at m c t g r k)

theorem sum_at (t : Fin cfg0.N) (i0 i1 i2 i3 i4 i5 i6 i7) (r : Fin 176) (j : Fin 1024) :
    (k0_pay1 (F := Ideal) (part m c t 0 i0) (part m c t 1 i1) (part m c t 2 i2) (part m c t 3 i3) (part m c t 4 i4) (part m c t 5 i5) (part m c t 6 i6) (part m c t 7 i7)) (ix2 r j) = ∑ s : Fin 8, parts m c (ix3 s (row t r) j) :=
  pay_at (a := fun s r j => parts m c (ix3 s (row t r) j)) (part_at m c t 0 _) (part_at m c t 1 _) (part_at m c t 2 _) (part_at m c t 3 _) (part_at m c t 4 _) (part_at m c t 5 _) (part_at m c t 6 _) (part_at m c t 7 _) r j

theorem after_1 (t : Fin cfg0.N) (r : Fin 176) (k : Fin 1024) : (dats m 0 c).after 1 t (ix2 r k) = ∑ s : Fin 8, parts m c (ix3 s (row t r) k) := by
  rw [after0_1]
  unfold out0_1
  frame_out
  exact sum_at m c t _ _ _ _ _ _ _ _ r k

theorem array_1 : (dats m 0 c).arrAt 1 cfg0.N = total (parts m c) := by
  refine Dat.arrAt_eq_of_covers (dats m 0 c) 1 _ (by decide +kernel) fun t hf y => ?_
  have e : (dats m 0 c).after 1 t y = ∑ s : Fin 8, parts m c (ix3 s (row t (y 0)) (y 1)) :=
    (congrArg ((dats m 0 c).after 1 t) (ix2_eta y).symm).trans (after_1 m c t (y 0) (y 1))
  blk_simp
  rw [e]
  unfold total
  refine congrArg₂ (fun (a : Fin 352) (b : Fin 1024) => ∑ s : Fin 8, parts m c (ix3 s a b)) (Fin.ext ?_) (Fin.ext ?_) <;> blk_simp [index_1 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = total (parts m c)
      ∧ r.2.mem ((c : Thread nD τ).loc main_arg0) = m ((c : Thread nD τ).loc main_arg0) :=
  (θ_run _ _ _).mono (fun r h c => ⟨(h c).1.trans (array_1 m c), (h c).2⟩) (Value.run_blocks (F := Ideal) m ρ)

end Cert.SumGateIdeal.Total

namespace Cert.RSumGateIdeal.Total
open Cert.RSumGateIdeal Cert.RSumGateIdeal.Gen Cert.RSumGateIdeal.Read

theorem result_at (a : S8x352x1024.Idx → EReal) : val_main_v1 (F := Ideal) a = Cert.SumGateIdeal.Total.total a := by
  funext i
  rw [val_main_v1_apply]
  refine (congrArg₂ (fun x y : EReal => x + y) (Ideal.ofBits_zero .f32) rfl).trans ((zero_add _).trans ?_)
  unfold Cert.SumGateIdeal.Total.total
  refine Finset.sum_congr rfl fun k _ => congrArg a (funext fun d => ?_)
  match d with
  | ⟨0, _⟩ => rfl
  | ⟨1, _⟩ => rfl
  | ⟨2, _⟩ => rfl

end Cert.RSumGateIdeal.Total

namespace Cert.Proof

theorem rsumgate_frame : Cert.quiescent_RSumGateIdeal (hRSumGateIdeal := Cert.RSumGateIdeal.Gen.facts) := by
  intro m ρ _
  exact (θ_run _ _ _).mono (fun r h => ⟨fun c => (h c).2, funext fun g => nomatch g.2⟩) (Cert.RSumGateIdeal.Value.run (F := Ideal) m ρ)

theorem sumgate_same : Cert.algebraic_SumGateIdeal_RSumGateIdeal (hSumGateIdeal := Cert.SumGateIdeal.Gen.facts) (hRSumGateIdeal := Cert.RSumGateIdeal.Gen.facts) := by
  intro m g m' g' _ hagree
  refine ⟨fun c => Cert.SumGateIdeal.Total.total (Cert.SumGateIdeal.Total.parts m c),
    Cert.SumGateIdeal.Total.run m g, (θ_run _ _ _).mono (fun r h c => ?_) (Cert.RSumGateIdeal.Value.run (F := Ideal) m' g')⟩
  have e0 := hagree c
  refine ⟨(h c).1.trans ?_, (h c).2⟩
  rw [Cert.RSumGateIdeal.Read.val_main_v1_eq, e0]
  exact Cert.RSumGateIdeal.Total.result_at _

end Cert.Proof

namespace Cert.SumUpIdeal.Total
open Cert.SumUpIdeal Cert.SumUpIdeal.Gen Cert.FfnMath Cert.NormMath

/-- The sum of the parts. -/
def total (a : S8x352x1024.Idx → EReal) : S352x1024.Idx → EReal := fun i => ∑ s : Fin 8, a (ix3 s (i 0) (i 1))

theorem pay_at {u0 u1 u2 u3 u4 u5 u6 u7 : Vec Ideal S1x176x1024 .bf16} {a : Fin 8 → Fin 176 → Fin 1024 → EReal} (h0 : ∀ r k, u0 (ix3 0 r k) = a 0 r k) (h1 : ∀ r k, u1 (ix3 0 r k) = a 1 r k) (h2 : ∀ r k, u2 (ix3 0 r k) = a 2 r k) (h3 : ∀ r k, u3 (ix3 0 r k) = a 3 r k) (h4 : ∀ r k, u4 (ix3 0 r k) = a 4 r k) (h5 : ∀ r k, u5 (ix3 0 r k) = a 5 r k) (h6 : ∀ r k, u6 (ix3 0 r k) = a 6 r k) (h7 : ∀ r k, u7 (ix3 0 r k) = a 7 r k) (r : Fin 176) (j : Fin 1024) :
    (k0_pay1 (F := Ideal) u0 u1 u2 u3 u4 u5 u6 u7) (ix2 r j) = ∑ s : Fin 8, a s r j := by
  unfold k0_pay1
  pointwise
  simp only [h0, h1, h2, h3, h4, h5, h6, h7]
  rw [Fin.sum_univ_eight]

variable (m : (ℓ : Loc nD τ sig) → Buf (Elt Ideal) ℓ) (c : Dev nD)

theorem row_lt (t : Fin cfg0.N) (r : Fin 176) : t.val * 176 + r.val < 352 := by
  have := lt_of_lt_of_eq t.isLt (show cfg0.N = 2 from N_0)
  omega

/-- The row of the array a block's row holds. -/
def row (t : Fin cfg0.N) (r : Fin 176) : Fin 352 := ⟨t.val * 176 + r.val, row_lt t r⟩

theorem index_0 : ∀ t : Fin cfg0.N, (cfg0.win 0).index t = ![0, t.val, 0] := by decide +kernel
theorem index_1 : ∀ t : Fin cfg0.N, (cfg0.win 1).index t = ![t.val, 0] := by decide +kernel
abbrev parts : S8x352x1024.Idx → EReal := m ((c : Thread nD τ).loc main_arg0)
def block (t : Fin cfg0.N) : S8x176x1024.Idx → EReal := iblk m c 0 t
theorem block_at (t : Fin cfg0.N) (g : Fin 8) (r : Fin 176) (k : Fin 1024) : block m c t (ix3 g r k) = parts m c (ix3 g (row t r) k) := by
  unfold block
  have hk : (row t r).val = t.val * 176 + r.val := rfl
  blk_ext [iblk, index_0 t]

abbrev part (t : Fin cfg0.N) (g : ℕ) (inb : ∀ a, ![g, 0, 0] a + ![1, 176, 1024] a ≤ S8x176x1024.size a) := View.ld (Val := Elt Ideal) (e' := .bf16) (block m c t) (Rect.unit (s := S8x176x1024) ![g, 0, 0] ![1, 176, 1024] inb)
theorem part_at (t : Fin cfg0.N) (g : Fin 8) (inb) (r : Fin 176) (k : Fin 1024) : part m c t g.val inb (ix3 0 r k) = parts m c (ix3 g (row t r) k) :=
  (View.ld_unit_apply_of (Val := Elt Ideal) (e := .bf16) (block m c t) ![g.val, 0, 0] ![1, 176, 1024] inb (ix3 0 r k) (ix3 g r k) (fun a => match a with
    | ⟨0, _⟩ => rfl
    | ⟨1, _⟩ => (Nat.zero_add _).symm
    | ⟨2, _⟩ => (Nat.zero_add _).symm)).trans (block_at m c t g r k)

theorem sum_at (t : Fin cfg0.N) (i0 i1 i2 i3 i4 i5 i6 i7) (r : Fin 176) (j : Fin 1024) :
    (k0_pay1 (F := Ideal) (part m c t 0 i0) (part m c t 1 i1) (part m c t 2 i2) (part m c t 3 i3) (part m c t 4 i4) (part m c t 5 i5) (part m c t 6 i6) (part m c t 7 i7)) (ix2 r j) = ∑ s : Fin 8, parts m c (ix3 s (row t r) j) :=
  pay_at (a := fun s r j => parts m c (ix3 s (row t r) j)) (part_at m c t 0 _) (part_at m c t 1 _) (part_at m c t 2 _) (part_at m c t 3 _) (part_at m c t 4 _) (part_at m c t 5 _) (part_at m c t 6 _) (part_at m c t 7 _) r j

theorem after_1 (t : Fin cfg0.N) (r : Fin 176) (k : Fin 1024) : (dats m 0 c).after 1 t (ix2 r k) = ∑ s : Fin 8, parts m c (ix3 s (row t r) k) := by
  rw [after0_1]
  unfold out0_1
  frame_out
  exact sum_at m c t _ _ _ _ _ _ _ _ r k

theorem array_1 : (dats m 0 c).arrAt 1 cfg0.N = total (parts m c) := by
  refine Dat.arrAt_eq_of_covers (dats m 0 c) 1 _ (by decide +kernel) fun t hf y => ?_
  have e : (dats m 0 c).after 1 t y = ∑ s : Fin 8, parts m c (ix3 s (row t (y 0)) (y 1)) :=
    (congrArg ((dats m 0 c).after 1 t) (ix2_eta y).symm).trans (after_1 m c t (y 0) (y 1))
  blk_simp
  rw [e]
  unfold total
  refine congrArg₂ (fun (a : Fin 352) (b : Fin 1024) => ∑ s : Fin 8, parts m c (ix3 s a b)) (Fin.ext ?_) (Fin.ext ?_) <;> blk_simp [index_1 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = total (parts m c)
      ∧ r.2.mem ((c : Thread nD τ).loc main_arg0) = m ((c : Thread nD τ).loc main_arg0) :=
  (θ_run _ _ _).mono (fun r h c => ⟨(h c).1.trans (array_1 m c), (h c).2⟩) (Value.run_blocks (F := Ideal) m ρ)

end Cert.SumUpIdeal.Total

namespace Cert.RSumUpIdeal.Total
open Cert.RSumUpIdeal Cert.RSumUpIdeal.Gen Cert.RSumUpIdeal.Read

theorem result_at (a : S8x352x1024.Idx → EReal) : val_main_v1 (F := Ideal) a = Cert.SumUpIdeal.Total.total a := by
  funext i
  rw [val_main_v1_apply]
  refine (congrArg₂ (fun x y : EReal => x + y) (Ideal.ofBits_zero .f32) rfl).trans ((zero_add _).trans ?_)
  unfold Cert.SumUpIdeal.Total.total
  refine Finset.sum_congr rfl fun k _ => congrArg a (funext fun d => ?_)
  match d with
  | ⟨0, _⟩ => rfl
  | ⟨1, _⟩ => rfl
  | ⟨2, _⟩ => rfl

end Cert.RSumUpIdeal.Total

namespace Cert.Proof

theorem rsumup_frame : Cert.quiescent_RSumUpIdeal (hRSumUpIdeal := Cert.RSumUpIdeal.Gen.facts) := by
  intro m ρ _
  exact (θ_run _ _ _).mono (fun r h => ⟨fun c => (h c).2, funext fun g => nomatch g.2⟩) (Cert.RSumUpIdeal.Value.run (F := Ideal) m ρ)

theorem sumup_same : Cert.algebraic_SumUpIdeal_RSumUpIdeal (hSumUpIdeal := Cert.SumUpIdeal.Gen.facts) (hRSumUpIdeal := Cert.RSumUpIdeal.Gen.facts) := by
  intro m g m' g' _ hagree
  refine ⟨fun c => Cert.SumUpIdeal.Total.total (Cert.SumUpIdeal.Total.parts m c),
    Cert.SumUpIdeal.Total.run m g, (θ_run _ _ _).mono (fun r h c => ?_) (Cert.RSumUpIdeal.Value.run (F := Ideal) m' g')⟩
  have e0 := hagree c
  refine ⟨(h c).1.trans ?_, (h c).2⟩
  rw [Cert.RSumUpIdeal.Read.val_main_v1_eq, e0]
  exact Cert.RSumUpIdeal.Total.result_at _

end Cert.Proof

namespace Cert.SumDownIdeal.Total
open Cert.SumDownIdeal Cert.SumDownIdeal.Gen Cert.FfnMath Cert.NormMath

/-- The sum of the parts. -/
def total (a : S8x352x1024.Idx → EReal) : S352x1024.Idx → EReal := fun i => ∑ s : Fin 8, a (ix3 s (i 0) (i 1))

theorem pay_at {u0 u1 u2 u3 u4 u5 u6 u7 : Vec Ideal S1x176x1024 .bf16} {a : Fin 8 → Fin 176 → Fin 1024 → EReal} (h0 : ∀ r k, u0 (ix3 0 r k) = a 0 r k) (h1 : ∀ r k, u1 (ix3 0 r k) = a 1 r k) (h2 : ∀ r k, u2 (ix3 0 r k) = a 2 r k) (h3 : ∀ r k, u3 (ix3 0 r k) = a 3 r k) (h4 : ∀ r k, u4 (ix3 0 r k) = a 4 r k) (h5 : ∀ r k, u5 (ix3 0 r k) = a 5 r k) (h6 : ∀ r k, u6 (ix3 0 r k) = a 6 r k) (h7 : ∀ r k, u7 (ix3 0 r k) = a 7 r k) (r : Fin 176) (j : Fin 1024) :
    (k0_pay1 (F := Ideal) u0 u1 u2 u3 u4 u5 u6 u7) (ix2 r j) = ∑ s : Fin 8, a s r j := by
  unfold k0_pay1
  pointwise
  simp only [h0, h1, h2, h3, h4, h5, h6, h7]
  rw [Fin.sum_univ_eight]

variable (m : (ℓ : Loc nD τ sig) → Buf (Elt Ideal) ℓ) (c : Dev nD)

theorem row_lt (t : Fin cfg0.N) (r : Fin 176) : t.val * 176 + r.val < 352 := by
  have := lt_of_lt_of_eq t.isLt (show cfg0.N = 2 from N_0)
  omega

/-- The row of the array a block's row holds. -/
def row (t : Fin cfg0.N) (r : Fin 176) : Fin 352 := ⟨t.val * 176 + r.val, row_lt t r⟩

theorem index_0 : ∀ t : Fin cfg0.N, (cfg0.win 0).index t = ![0, t.val, 0] := by decide +kernel
theorem index_1 : ∀ t : Fin cfg0.N, (cfg0.win 1).index t = ![t.val, 0] := by decide +kernel
abbrev parts : S8x352x1024.Idx → EReal := m ((c : Thread nD τ).loc main_arg0)
def block (t : Fin cfg0.N) : S8x176x1024.Idx → EReal := iblk m c 0 t
theorem block_at (t : Fin cfg0.N) (g : Fin 8) (r : Fin 176) (k : Fin 1024) : block m c t (ix3 g r k) = parts m c (ix3 g (row t r) k) := by
  unfold block
  have hk : (row t r).val = t.val * 176 + r.val := rfl
  blk_ext [iblk, index_0 t]

abbrev part (t : Fin cfg0.N) (g : ℕ) (inb : ∀ a, ![g, 0, 0] a + ![1, 176, 1024] a ≤ S8x176x1024.size a) := View.ld (Val := Elt Ideal) (e' := .bf16) (block m c t) (Rect.unit (s := S8x176x1024) ![g, 0, 0] ![1, 176, 1024] inb)
theorem part_at (t : Fin cfg0.N) (g : Fin 8) (inb) (r : Fin 176) (k : Fin 1024) : part m c t g.val inb (ix3 0 r k) = parts m c (ix3 g (row t r) k) :=
  (View.ld_unit_apply_of (Val := Elt Ideal) (e := .bf16) (block m c t) ![g.val, 0, 0] ![1, 176, 1024] inb (ix3 0 r k) (ix3 g r k) (fun a => match a with
    | ⟨0, _⟩ => rfl
    | ⟨1, _⟩ => (Nat.zero_add _).symm
    | ⟨2, _⟩ => (Nat.zero_add _).symm)).trans (block_at m c t g r k)

theorem sum_at (t : Fin cfg0.N) (i0 i1 i2 i3 i4 i5 i6 i7) (r : Fin 176) (j : Fin 1024) :
    (k0_pay1 (F := Ideal) (part m c t 0 i0) (part m c t 1 i1) (part m c t 2 i2) (part m c t 3 i3) (part m c t 4 i4) (part m c t 5 i5) (part m c t 6 i6) (part m c t 7 i7)) (ix2 r j) = ∑ s : Fin 8, parts m c (ix3 s (row t r) j) :=
  pay_at (a := fun s r j => parts m c (ix3 s (row t r) j)) (part_at m c t 0 _) (part_at m c t 1 _) (part_at m c t 2 _) (part_at m c t 3 _) (part_at m c t 4 _) (part_at m c t 5 _) (part_at m c t 6 _) (part_at m c t 7 _) r j

theorem after_1 (t : Fin cfg0.N) (r : Fin 176) (k : Fin 1024) : (dats m 0 c).after 1 t (ix2 r k) = ∑ s : Fin 8, parts m c (ix3 s (row t r) k) := by
  rw [after0_1]
  unfold out0_1
  frame_out
  exact sum_at m c t _ _ _ _ _ _ _ _ r k

theorem array_1 : (dats m 0 c).arrAt 1 cfg0.N = total (parts m c) := by
  refine Dat.arrAt_eq_of_covers (dats m 0 c) 1 _ (by decide +kernel) fun t hf y => ?_
  have e : (dats m 0 c).after 1 t y = ∑ s : Fin 8, parts m c (ix3 s (row t (y 0)) (y 1)) :=
    (congrArg ((dats m 0 c).after 1 t) (ix2_eta y).symm).trans (after_1 m c t (y 0) (y 1))
  blk_simp
  rw [e]
  unfold total
  refine congrArg₂ (fun (a : Fin 352) (b : Fin 1024) => ∑ s : Fin 8, parts m c (ix3 s a b)) (Fin.ext ?_) (Fin.ext ?_) <;> blk_simp [index_1 t] <;> rfl

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = total (parts m c)
      ∧ r.2.mem ((c : Thread nD τ).loc main_arg0) = m ((c : Thread nD τ).loc main_arg0) :=
  (θ_run _ _ _).mono (fun r h c => ⟨(h c).1.trans (array_1 m c), (h c).2⟩) (Value.run_blocks (F := Ideal) m ρ)

end Cert.SumDownIdeal.Total

namespace Cert.RSumDownIdeal.Total
open Cert.RSumDownIdeal Cert.RSumDownIdeal.Gen Cert.RSumDownIdeal.Read

theorem result_at (a : S8x352x1024.Idx → EReal) : val_main_v1 (F := Ideal) a = Cert.SumDownIdeal.Total.total a := by
  funext i
  rw [val_main_v1_apply]
  refine (congrArg₂ (fun x y : EReal => x + y) (Ideal.ofBits_zero .f32) rfl).trans ((zero_add _).trans ?_)
  unfold Cert.SumDownIdeal.Total.total
  refine Finset.sum_congr rfl fun k _ => congrArg a (funext fun d => ?_)
  match d with
  | ⟨0, _⟩ => rfl
  | ⟨1, _⟩ => rfl
  | ⟨2, _⟩ => rfl

end Cert.RSumDownIdeal.Total

namespace Cert.Proof

theorem rsumdown_frame : Cert.quiescent_RSumDownIdeal (hRSumDownIdeal := Cert.RSumDownIdeal.Gen.facts) := by
  intro m ρ _
  exact (θ_run _ _ _).mono (fun r h => ⟨fun c => (h c).2, funext fun g => nomatch g.2⟩) (Cert.RSumDownIdeal.Value.run (F := Ideal) m ρ)

theorem sumdown_same : Cert.algebraic_SumDownIdeal_RSumDownIdeal (hSumDownIdeal := Cert.SumDownIdeal.Gen.facts) (hRSumDownIdeal := Cert.RSumDownIdeal.Gen.facts) := by
  intro m g m' g' _ hagree
  refine ⟨fun c => Cert.SumDownIdeal.Total.total (Cert.SumDownIdeal.Total.parts m c),
    Cert.SumDownIdeal.Total.run m g, (θ_run _ _ _).mono (fun r h c => ?_) (Cert.RSumDownIdeal.Value.run (F := Ideal) m' g')⟩
  have e0 := hagree c
  refine ⟨(h c).1.trans ?_, (h c).2⟩
  rw [Cert.RSumDownIdeal.Read.val_main_v1_eq, e0]
  exact Cert.RSumDownIdeal.Total.result_at _

end Cert.Proof

namespace Cert.SumSmallIdeal.Total
open Cert.SumSmallIdeal Cert.SumSmallIdeal.Gen Cert.FfnMath Cert.NormMath

/-- The sum of the parts. -/
def total (a : S8x24x1024.Idx → EReal) : S24x1024.Idx → EReal := fun i => ∑ s : Fin 8, a (ix3 s (i 0) (i 1))

theorem pay_at {u0 u1 u2 u3 u4 u5 u6 u7 : Vec Ideal S1x24x1024 .f32} {a : Fin 8 → Fin 24 → Fin 1024 → EReal} (h0 : ∀ r k, u0 (ix3 0 r k) = a 0 r k) (h1 : ∀ r k, u1 (ix3 0 r k) = a 1 r k) (h2 : ∀ r k, u2 (ix3 0 r k) = a 2 r k) (h3 : ∀ r k, u3 (ix3 0 r k) = a 3 r k) (h4 : ∀ r k, u4 (ix3 0 r k) = a 4 r k) (h5 : ∀ r k, u5 (ix3 0 r k) = a 5 r k) (h6 : ∀ r k, u6 (ix3 0 r k) = a 6 r k) (h7 : ∀ r k, u7 (ix3 0 r k) = a 7 r k) (r : Fin 24) (j : Fin 1024) :
    (k0_pay1 (F := Ideal) u0 u1 u2 u3 u4 u5 u6 u7) (ix2 r j) = ∑ s : Fin 8, a s r j := by
  unfold k0_pay1
  pointwise
  simp only [h0, h1, h2, h3, h4, h5, h6, h7]
  rw [Fin.sum_univ_eight]

variable (m : (ℓ : Loc nD τ sig) → Buf (Elt Ideal) ℓ) (c : Dev nD)

theorem row_lt (t : Fin cfg0.N) (r : Fin 24) : t.val * 24 + r.val < 24 := by
  have := lt_of_lt_of_eq t.isLt (show cfg0.N = 1 from N_0)
  omega

/-- The row of the array a block's row holds. -/
def row (t : Fin cfg0.N) (r : Fin 24) : Fin 24 := ⟨t.val * 24 + r.val, row_lt t r⟩

theorem index_0 : ∀ t : Fin cfg0.N, (cfg0.win 0).index t = ![0, t.val, 0] := by decide +kernel
theorem index_1 : ∀ t : Fin cfg0.N, (cfg0.win 1).index t = ![t.val, 0] := by decide +kernel
abbrev parts : S8x24x1024.Idx → EReal := m ((c : Thread nD τ).loc main_arg0)
def block (t : Fin cfg0.N) : S8x24x1024.Idx → EReal := iblk m c 0 t
theorem block_at (t : Fin cfg0.N) (g : Fin 8) (r : Fin 24) (k : Fin 1024) : block m c t (ix3 g r k) = parts m c (ix3 g (row t r) k) := by
  unfold block
  have hk : (row t r).val = t.val * 24 + r.val := rfl
  blk_ext [iblk, index_0 t]

abbrev part (t : Fin cfg0.N) (g : ℕ) (inb : ∀ a, ![g, 0, 0] a + ![1, 24, 1024] a ≤ S8x24x1024.size a) := View.ld (Val := Elt Ideal) (e' := .f32) (block m c t) (Rect.unit (s := S8x24x1024) ![g, 0, 0] ![1, 24, 1024] inb)
theorem part_at (t : Fin cfg0.N) (g : Fin 8) (inb) (r : Fin 24) (k : Fin 1024) : part m c t g.val inb (ix3 0 r k) = parts m c (ix3 g (row t r) k) :=
  (View.ld_unit_apply_of (Val := Elt Ideal) (e := .f32) (block m c t) ![g.val, 0, 0] ![1, 24, 1024] inb (ix3 0 r k) (ix3 g r k) (fun a => match a with
    | ⟨0, _⟩ => rfl
    | ⟨1, _⟩ => (Nat.zero_add _).symm
    | ⟨2, _⟩ => (Nat.zero_add _).symm)).trans (block_at m c t g r k)

theorem sum_at (t : Fin cfg0.N) (i0 i1 i2 i3 i4 i5 i6 i7) (r : Fin 24) (j : Fin 1024) :
    (k0_pay1 (F := Ideal) (part m c t 0 i0) (part m c t 1 i1) (part m c t 2 i2) (part m c t 3 i3) (part m c t 4 i4) (part m c t 5 i5) (part m c t 6 i6) (part m c t 7 i7)) (ix2 r j) = ∑ s : Fin 8, parts m c (ix3 s (row t r) j) :=
  pay_at (a := fun s r j => parts m c (ix3 s (row t r) j)) (part_at m c t 0 _) (part_at m c t 1 _) (part_at m c t 2 _) (part_at m c t 3 _) (part_at m c t 4 _) (part_at m c t 5 _) (part_at m c t 6 _) (part_at m c t 7 _) r j

theorem after_1 (t : Fin cfg0.N) (r : Fin 24) (k : Fin 1024) : (dats m 0 c).after 1 t (ix2 r k) = ∑ s : Fin 8, parts m c (ix3 s (row t r) k) := by
  rw [after0_1]
  unfold out0_1
  frame_out
  exact sum_at m c t _ _ _ _ _ _ _ _ r k

theorem array_1 : (dats m 0 c).arrAt 1 cfg0.N = total (parts m c) := by
  refine Dat.arrAt_eq_of_covers (dats m 0 c) 1 _ (by decide +kernel) fun t hf y => ?_
  have e : (dats m 0 c).after 1 t y = ∑ s : Fin 8, parts m c (ix3 s (row t (y 0)) (y 1)) :=
    (congrArg ((dats m 0 c).after 1 t) (ix2_eta y).symm).trans (after_1 m c t (y 0) (y 1))
  blk_simp
  rw [e]
  unfold total
  refine congrArg₂ (fun (a : Fin 24) (b : Fin 1024) => ∑ s : Fin 8, parts m c (ix3 s a b)) (Fin.ext ?_) (Fin.ext ?_) <;> blk_simp [index_1 t]
  have h1 := lt_of_lt_of_eq t.isLt (show cfg0.N = 1 from N_0)
  show t.val * 24 + (y 0).val = (y 0).val
  omega

theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = total (parts m c)
      ∧ r.2.mem ((c : Thread nD τ).loc main_arg0) = m ((c : Thread nD τ).loc main_arg0) :=
  (θ_run _ _ _).mono (fun r h c => ⟨(h c).1.trans (array_1 m c), (h c).2⟩) (Value.run_blocks (F := Ideal) m ρ)

end Cert.SumSmallIdeal.Total

namespace Cert.RSumSmallIdeal.Total
open Cert.RSumSmallIdeal Cert.RSumSmallIdeal.Gen Cert.RSumSmallIdeal.Read

theorem result_at (a : S8x24x1024.Idx → EReal) : val_main_v0 (F := Ideal) a = Cert.SumSmallIdeal.Total.total a := by
  funext i
  rw [val_main_v0_apply]
  refine (congrArg₂ (fun x y : EReal => x + y) (Ideal.ofBits_zero .f32) rfl).trans ((zero_add _).trans ?_)
  unfold Cert.SumSmallIdeal.Total.total
  refine Finset.sum_congr rfl fun k _ => congrArg a (funext fun d => ?_)
  match d with
  | ⟨0, _⟩ => rfl
  | ⟨1, _⟩ => rfl
  | ⟨2, _⟩ => rfl

end Cert.RSumSmallIdeal.Total

namespace Cert.Proof

theorem rsumsmall_frame : Cert.quiescent_RSumSmallIdeal (hRSumSmallIdeal := Cert.RSumSmallIdeal.Gen.facts) := by
  intro m ρ _
  exact (θ_run _ _ _).mono (fun r h => ⟨fun c => (h c).2, funext fun g => nomatch g.2⟩) (Cert.RSumSmallIdeal.Value.run (F := Ideal) m ρ)

theorem sumsmall_same : Cert.algebraic_SumSmallIdeal_RSumSmallIdeal (hSumSmallIdeal := Cert.SumSmallIdeal.Gen.facts) (hRSumSmallIdeal := Cert.RSumSmallIdeal.Gen.facts) := by
  intro m g m' g' _ hagree
  refine ⟨fun c => Cert.SumSmallIdeal.Total.total (Cert.SumSmallIdeal.Total.parts m c),
    Cert.SumSmallIdeal.Total.run m g, (θ_run _ _ _).mono (fun r h c => ?_) (Cert.RSumSmallIdeal.Value.run (F := Ideal) m' g')⟩
  have e0 := hagree c
  refine ⟨(h c).1.trans ?_, (h c).2⟩
  rw [Cert.RSumSmallIdeal.Read.val_main_v0_eq, e0]
  exact Cert.RSumSmallIdeal.Total.result_at _

end Cert.Proof

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Tail
public import proofs.«01_k».proof.Proof.Heads
public import proofs.«01_k».proof.Proof.WGate
public import proofs.«01_k».proof.Proof.WUp
public import proofs.«01_k».proof.Proof.WDown
public import proofs.«01_k».proof.Proof.WIn
public import proofs.«01_k».proof.Proof.WOut
public import proofs.«01_k».proof.Proof.FfnSame
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.RLossIdeal
public import proofs.«01_k».proof.Proof.Gen.RLossIdeal.Run
public import proofs.«01_k».proof.Proof.Gen.RLossIdeal.Read
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.Gen.ProjBIdeal.Value
public import proofs.«01_k».proof.Proof.Gen.RProjBIdeal
public import proofs.«01_k».proof.Proof.Gen.RProjBIdeal.Run
public import proofs.«01_k».proof.Proof.Gen.RProjBIdeal.Read
public import proofs.«01_k».proof.Proof.Gen.MixF
public import proofs.«01_k».proof.Proof.Gen.MixF.Frame
public import proofs.«01_k».proof.Proof.Gen.MixFIdeal
public import proofs.«01_k».proof.Proof.Gen.MixFIdeal.Frame
public import proofs.«01_k».proof.Proof.Gen.MixFIdeal.Value
public import proofs.«01_k».proof.Proof.Gen.RMixFIdeal
public import proofs.«01_k».proof.Proof.Gen.RMixFIdeal.Run
public import proofs.«01_k».proof.Proof.Gen.RMixFIdeal.Read
public import proofs.«01_k».proof.Proof.Gen.MixB
public import proofs.«01_k».proof.Proof.Gen.MixB.Frame
public import proofs.«01_k».proof.Proof.Gen.MixBIdeal
public import proofs.«01_k».proof.Proof.Gen.MixBIdeal.Frame
public import proofs.«01_k».proof.Proof.Gen.MixBIdeal.Value
public import proofs.«01_k».proof.Proof.Gen.RMixBIdeal
public import proofs.«01_k».proof.Proof.Gen.RMixBIdeal.Run
public import proofs.«01_k».proof.Proof.Gen.RMixBIdeal.Read
public import proofs.«01_k».proof.Proof.Gen.ProjF
public import proofs.«01_k».proof.Proof.Gen.ProjF.Frame
public import proofs.«01_k».proof.Proof.Gen.ProjFIdeal
public import proofs.«01_k».proof.Proof.Gen.ProjFIdeal.Frame
public import proofs.«01_k».proof.Proof.Gen.ProjFIdeal.Value
public import proofs.«01_k».proof.Proof.Gen.RProjFIdeal
public import proofs.«01_k».proof.Proof.Gen.RProjFIdeal.Run
public import proofs.«01_k».proof.Proof.Gen.RProjFIdeal.Read
public import proofs.«01_k».proof.Proof.LossSame
public import proofs.«01_k».proof.Proof.ProjBackSame
public import proofs.«01_k».proof.Proof.MixFSame
public import proofs.«01_k».proof.Proof.MixBSame
public import proofs.«01_k».proof.Proof.ProjFSame
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.RAdamInIdeal
public import proofs.«01_k».proof.Proof.Gen.RAdamInIdeal.Run
public import proofs.«01_k».proof.Proof.Gen.RAdamInIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.RAdamOutIdeal
public import proofs.«01_k».proof.Proof.Gen.RAdamOutIdeal.Run
public import proofs.«01_k».proof.Proof.Gen.RAdamOutIdeal.Read
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.RAdamGateIdeal
public import proofs.«01_k».proof.Proof.Gen.RAdamGateIdeal.Run
public import proofs.«01_k».proof.Proof.Gen.RAdamGateIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.RAdamUpIdeal
public import proofs.«01_k».proof.Proof.Gen.RAdamUpIdeal.Run
public import proofs.«01_k».proof.Proof.Gen.RAdamUpIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.RAdamDownIdeal
public import proofs.«01_k».proof.Proof.Gen.RAdamDownIdeal.Run
public import proofs.«01_k».proof.Proof.Gen.RAdamDownIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.RAdamSmallIdeal
public import proofs.«01_k».proof.Proof.Gen.RAdamSmallIdeal.Run
public import proofs.«01_k».proof.Proof.Gen.RAdamSmallIdeal.Read
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInIdeal.Value
public import proofs.«01_k».proof.Proof.Gen.RSumInIdeal
public import proofs.«01_k».proof.Proof.Gen.RSumInIdeal.Run
public import proofs.«01_k».proof.Proof.Gen.RSumInIdeal.Read
public import proofs.«01_k».proof.Proof.Gen.SumOut
public import proofs.«01_k».proof.Proof.Gen.SumOut.Frame
public import proofs.«01_k».proof.Proof.Gen.SumOutIdeal
public import proofs.«01_k».proof.Proof.Gen.SumOutIdeal.Frame
public import proofs.«01_k».proof.Proof.Gen.SumOutIdeal.Value
public import proofs.«01_k».proof.Proof.Gen.RSumOutIdeal
public import proofs.«01_k».proof.Proof.Gen.RSumOutIdeal.Run
public import proofs.«01_k».proof.Proof.Gen.RSumOutIdeal.Read
public import proofs.«01_k».proof.Proof.Gen.SumGate
public import proofs.«01_k».proof.Proof.Gen.SumGate.Frame
public import proofs.«01_k».proof.Proof.Gen.SumGateIdeal
public import proofs.«01_k».proof.Proof.Gen.SumGateIdeal.Frame
public import proofs.«01_k».proof.Proof.Gen.SumGateIdeal.Value
public import proofs.«01_k».proof.Proof.Gen.RSumGateIdeal
public import proofs.«01_k».proof.Proof.Gen.RSumGateIdeal.Run
public import proofs.«01_k».proof.Proof.Gen.RSumGateIdeal.Read
public import proofs.«01_k».proof.Proof.Gen.SumUp
public import proofs.«01_k».proof.Proof.Gen.SumUp.Frame
public import proofs.«01_k».proof.Proof.Gen.SumUpIdeal
public import proofs.«01_k».proof.Proof.Gen.SumUpIdeal.Frame
public import proofs.«01_k».proof.Proof.Gen.SumUpIdeal.Value
public import proofs.«01_k».proof.Proof.Gen.RSumUpIdeal
public import proofs.«01_k».proof.Proof.Gen.RSumUpIdeal.Run
public import proofs.«01_k».proof.Proof.Gen.RSumUpIdeal.Read
public import proofs.«01_k».proof.Proof.Gen.SumDown
public import proofs.«01_k».proof.Proof.Gen.SumDown.Frame
public import proofs.«01_k».proof.Proof.Gen.SumDownIdeal
public import proofs.«01_k».proof.Proof.Gen.SumDownIdeal.Frame
public import proofs.«01_k».proof.Proof.Gen.SumDownIdeal.Value
public import proofs.«01_k».proof.Proof.Gen.RSumDownIdeal
public import proofs.«01_k».proof.Proof.Gen.RSumDownIdeal.Run
public import proofs.«01_k».proof.Proof.Gen.RSumDownIdeal.Read
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.RSumSmallIdeal
public import proofs.«01_k».proof.Proof.Gen.RSumSmallIdeal.Run
public import proofs.«01_k».proof.Proof.Gen.RSumSmallIdeal.Read
public import proofs.«01_k».proof.Proof.Gen.DProj
public import proofs.«01_k».proof.Proof.Gen.DProj.Frame
public import proofs.«01_k».proof.Proof.Gen.DProjIdeal
public import proofs.«01_k».proof.Proof.Gen.DProjIdeal.Frame
public import proofs.«01_k».proof.Proof.Gen.DProjIdeal.Value
public import proofs.«01_k».proof.Proof.Gen.RDProjIdeal
public import proofs.«01_k».proof.Proof.Gen.RDProjIdeal.Run
public import proofs.«01_k».proof.Proof.Gen.RDProjIdeal.Read
public import proofs.«01_k».proof.Proof.DProjSame
public import proofs.«01_k».proof.Proof.AdamSame
public import proofs.«01_k».proof.Proof.SumSame
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal (hReferenceIdeal := Cert.ReferenceIdeal.Gen.facts) := by
  intro m ρ _
  exact (θ_run _ _ _).mono (fun r h => ⟨fun c => (h c).2.2.2, funext fun g => nomatch g.2⟩) (Cert.ReferenceIdeal.Value.run (F := Ideal) m ρ)

theorem same_results : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Attn.arr8 m c, fun c => Cert.KernelIdeal.Attn.resK m c, fun c => Cert.KernelIdeal.Attn.resV m c,
    Cert.KernelIdeal.Attn.run m g, (θ_run _ _ _).mono (fun r h c => ?_) (Cert.ReferenceIdeal.Value.run (F := Ideal) m' g')⟩
  obtain ⟨e0, e1, e2, e3, e4, e5⟩ := hagree c
  obtain ⟨hq, hk, hv, hargs⟩ := h c
  refine ⟨hq.trans ?_, hk.trans ?_, hv.trans ?_, hargs⟩
  · rw [Cert.ReferenceIdeal.Read.val_main_v68_eq, e0, e1, e2, e3, e4, e5]
    exact funext fun i => Cert.ReferenceIdeal.Attn.resQ_at _ _ _ _ _ _ i
  · rw [Cert.ReferenceIdeal.Read.val_main_v64_eq, e0, e1, e2, e3, e4, e5]
    exact funext fun i => Cert.ReferenceIdeal.Attn.resK_at _ _ _ _ _ _ i
  · rw [Cert.ReferenceIdeal.Read.val_main_v61_eq, e0, e1, e3, e5]
    exact funext fun i => Cert.ReferenceIdeal.Attn.resV_at _ _ _ _ i

theorem claim : Cert.Claim := ⟨Cert.Kernel.Gen.facts,
  Cert.KernelIdeal.Gen.facts,
  Cert.ReferenceIdeal.Gen.facts,
  Cert.WGate.Gen.facts,
  Cert.WGateIdeal.Gen.facts,
  Cert.RGateIdeal.Gen.facts,
  Cert.WUp.Gen.facts,
  Cert.WUpIdeal.Gen.facts,
  Cert.RUpIdeal.Gen.facts,
  Cert.WDown.Gen.facts,
  Cert.WDownIdeal.Gen.facts,
  Cert.RDownIdeal.Gen.facts,
  Cert.WIn.Gen.facts,
  Cert.WInIdeal.Gen.facts,
  Cert.RInIdeal.Gen.facts,
  Cert.WOut.Gen.facts,
  Cert.WOutIdeal.Gen.facts,
  Cert.ROutIdeal.Gen.facts,
  Cert.Ffn.Gen.facts,
  Cert.FfnIdeal.Gen.facts,
  Cert.RFfnIdeal.Gen.facts,
  Cert.Loss.Gen.facts,
  Cert.LossIdeal.Gen.facts,
  Cert.RLossIdeal.Gen.facts,
  Cert.ProjB.Gen.facts,
  Cert.ProjBIdeal.Gen.facts,
  Cert.RProjBIdeal.Gen.facts,
  Cert.MixF.Gen.facts,
  Cert.MixFIdeal.Gen.facts,
  Cert.RMixFIdeal.Gen.facts,
  Cert.MixB.Gen.facts,
  Cert.MixBIdeal.Gen.facts,
  Cert.RMixBIdeal.Gen.facts,
  Cert.ProjF.Gen.facts,
  Cert.ProjFIdeal.Gen.facts,
  Cert.RProjFIdeal.Gen.facts,
  Cert.AdamIn.Gen.facts,
  Cert.AdamInIdeal.Gen.facts,
  Cert.RAdamInIdeal.Gen.facts,
  Cert.AdamOut.Gen.facts,
  Cert.AdamOutIdeal.Gen.facts,
  Cert.RAdamOutIdeal.Gen.facts,
  Cert.AdamGate.Gen.facts,
  Cert.AdamGateIdeal.Gen.facts,
  Cert.RAdamGateIdeal.Gen.facts,
  Cert.AdamUp.Gen.facts,
  Cert.AdamUpIdeal.Gen.facts,
  Cert.RAdamUpIdeal.Gen.facts,
  Cert.AdamDown.Gen.facts,
  Cert.AdamDownIdeal.Gen.facts,
  Cert.RAdamDownIdeal.Gen.facts,
  Cert.AdamSmall.Gen.facts,
  Cert.AdamSmallIdeal.Gen.facts,
  Cert.RAdamSmallIdeal.Gen.facts,
  Cert.SumIn.Gen.facts,
  Cert.SumInIdeal.Gen.facts,
  Cert.RSumInIdeal.Gen.facts,
  Cert.SumOut.Gen.facts,
  Cert.SumOutIdeal.Gen.facts,
  Cert.RSumOutIdeal.Gen.facts,
  Cert.SumGate.Gen.facts,
  Cert.SumGateIdeal.Gen.facts,
  Cert.RSumGateIdeal.Gen.facts,
  Cert.SumUp.Gen.facts,
  Cert.SumUpIdeal.Gen.facts,
  Cert.RSumUpIdeal.Gen.facts,
  Cert.SumDown.Gen.facts,
  Cert.SumDownIdeal.Gen.facts,
  Cert.RSumDownIdeal.Gen.facts,
  Cert.SumSmall.Gen.facts,
  Cert.SumSmallIdeal.Gen.facts,
  Cert.RSumSmallIdeal.Gen.facts,
  Cert.DProj.Gen.facts,
  Cert.DProjIdeal.Gen.facts,
  Cert.RDProjIdeal.Gen.facts,
  Cert.Pre_all_finite.Gen.facts,
  fun m ρ _ => Cert.Kernel.Gen.frame m ρ,
  fun m ρ _ => Cert.KernelIdeal.Gen.frame m ρ,
  reference_frame,
  fun m ρ _ => Cert.WGate.Gen.frame m ρ,
  fun m ρ _ => Cert.WGateIdeal.Gen.frame m ρ,
  rgate_frame,
  fun m ρ _ => Cert.WUp.Gen.frame m ρ,
  fun m ρ _ => Cert.WUpIdeal.Gen.frame m ρ,
  rup_frame,
  fun m ρ _ => Cert.WDown.Gen.frame m ρ,
  fun m ρ _ => Cert.WDownIdeal.Gen.frame m ρ,
  rdown_frame,
  fun m ρ _ => Cert.WIn.Gen.frame m ρ,
  fun m ρ _ => Cert.WInIdeal.Gen.frame m ρ,
  rin_frame,
  fun m ρ _ => Cert.WOut.Gen.frame m ρ,
  fun m ρ _ => Cert.WOutIdeal.Gen.frame m ρ,
  rout_frame,
  fun m ρ _ => Cert.Ffn.Gen.frame m ρ,
  fun m ρ _ => Cert.FfnIdeal.Gen.frame m ρ,
  fun m ρ _ => Cert.FfnIdeal.Gen.frame m ρ,
  rffn_frame,
  fun m ρ _ => rffn_frame m ρ trivial,
  fun m ρ _ => Cert.Loss.Gen.frame m ρ,
  fun m ρ _ => Cert.LossIdeal.Gen.frame m ρ,
  rloss_frame,
  fun m ρ _ => Cert.ProjB.Gen.frame m ρ,
  fun m ρ _ => Cert.ProjBIdeal.Gen.frame m ρ,
  rprojb_frame,
  fun m ρ _ => Cert.MixF.Gen.frame m ρ,
  fun m ρ _ => Cert.MixFIdeal.Gen.frame m ρ,
  rmixf_frame,
  fun m ρ _ => Cert.MixB.Gen.frame m ρ,
  fun m ρ _ => Cert.MixBIdeal.Gen.frame m ρ,
  rmixb_frame,
  fun m ρ _ => Cert.ProjF.Gen.frame m ρ,
  fun m ρ _ => Cert.ProjFIdeal.Gen.frame m ρ,
  rprojf_frame,
  fun m ρ _ => Cert.AdamIn.Gen.frame m ρ,
  fun m ρ _ => Cert.AdamInIdeal.Gen.frame m ρ,
  radamin_frame,
  fun m ρ _ => Cert.AdamOut.Gen.frame m ρ,
  fun m ρ _ => Cert.AdamOutIdeal.Gen.frame m ρ,
  radamout_frame,
  fun m ρ _ => Cert.AdamGate.Gen.frame m ρ,
  fun m ρ _ => Cert.AdamGateIdeal.Gen.frame m ρ,
  radamgate_frame,
  fun m ρ _ => Cert.AdamUp.Gen.frame m ρ,
  fun m ρ _ => Cert.AdamUpIdeal.Gen.frame m ρ,
  radamup_frame,
  fun m ρ _ => Cert.AdamDown.Gen.frame m ρ,
  fun m ρ _ => Cert.AdamDownIdeal.Gen.frame m ρ,
  radamdown_frame,
  fun m ρ _ => Cert.AdamSmall.Gen.frame m ρ,
  fun m ρ _ => Cert.AdamSmallIdeal.Gen.frame m ρ,
  radamsmall_frame,
  fun m ρ _ => Cert.SumIn.Gen.frame m ρ,
  fun m ρ _ => Cert.SumInIdeal.Gen.frame m ρ,
  rsumin_frame,
  fun m ρ _ => Cert.SumOut.Gen.frame m ρ,
  fun m ρ _ => Cert.SumOutIdeal.Gen.frame m ρ,
  rsumout_frame,
  fun m ρ _ => Cert.SumGate.Gen.frame m ρ,
  fun m ρ _ => Cert.SumGateIdeal.Gen.frame m ρ,
  rsumgate_frame,
  fun m ρ _ => Cert.SumUp.Gen.frame m ρ,
  fun m ρ _ => Cert.SumUpIdeal.Gen.frame m ρ,
  rsumup_frame,
  fun m ρ _ => Cert.SumDown.Gen.frame m ρ,
  fun m ρ _ => Cert.SumDownIdeal.Gen.frame m ρ,
  rsumdown_frame,
  fun m ρ _ => Cert.SumSmall.Gen.frame m ρ,
  fun m ρ _ => Cert.SumSmallIdeal.Gen.frame m ρ,
  rsumsmall_frame,
  fun m ρ _ => Cert.DProj.Gen.frame m ρ,
  fun m ρ _ => Cert.DProjIdeal.Gen.frame m ρ,
  rdproj_frame,
  IdealRules.named_const.statement _ _ _ _ _ rfl,
  same_results,
  trivial,
  wgate_same,
  trivial,
  wup_same,
  trivial,
  wdown_same,
  trivial,
  win_same,
  trivial,
  wout_same,
  trivial,
  ffn_same,
  trivial,
  loss_same,
  trivial,
  projb_same,
  trivial,
  mixf_same,
  trivial,
  mixb_same,
  trivial,
  projf_same,
  trivial,
  adamin_same,
  trivial,
  adamout_same,
  trivial,
  adamgate_same,
  trivial,
  adamup_same,
  trivial,
  adamdown_same,
  trivial,
  adamsmall_same,
  trivial,
  sumin_same,
  trivial,
  sumout_same,
  trivial,
  sumgate_same,
  trivial,
  sumup_same,
  trivial,
  sumdown_same,
  trivial,
  sumsmall_same,
  trivial,
  dproj_same⟩

end Cert.Proof

end
